-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_stick_finite [hPre_stick_finite : Cert.Pre_stick_finite.Facts] (m : (ℓ : Loc Cert.StickIdeal.nD Cert.StickIdeal.τ Cert.StickIdeal.sig) → Buf (Elt Ideal) ℓ) : Prop :=
  ∀ c : Dev Cert.StickIdeal.nD,
    (Cert.Pre_stick_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_stick_finite [hPre_stick_finite : Cert.Pre_stick_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1)) (m ((c.tc : Thread Cert.StickRefIdeal.nD Cert.StickRefIdeal.τ).loc Cert.StickRefIdeal.main_arg2)) (m ((c.tc : Thread Cert.StickRefIdeal.nD Cert.StickRefIdeal.τ).loc Cert.StickRefIdeal.main_arg3))) = (fun _ => 1#1)

def Pre_Walk (m : (ℓ : Loc Cert.Walk.nD Cert.Walk.τ Cert.Walk.sig) → Buf (Elt Bits) ℓ) : Prop :=
  True

def Pre_WalkIdeal (m : (ℓ : Loc Cert.WalkIdeal.nD Cert.WalkIdeal.τ Cert.WalkIdeal.sig) → Buf (Elt Ideal) ℓ) : Prop :=
  True

def Pre_WalkIdeal_walk_finite [hPre_walk_finite : Cert.Pre_walk_finite.Facts] (m : (ℓ : Loc Cert.WalkIdeal.nD Cert.WalkIdeal.τ Cert.WalkIdeal.sig) → Buf (Elt Ideal) ℓ) : Prop :=
  ∀ c : Dev Cert.WalkIdeal.nD,
    (Cert.Pre_walk_finite.fn (F := Ideal) (m ((c.tc : Thread Cert.WalkIdeal.nD Cert.WalkIdeal.τ).loc Cert.WalkIdeal.main_arg0)) (m ((c.tc : Thread Cert.WalkIdeal.nD Cert.WalkIdeal.τ).loc Cert.WalkIdeal.main_arg1)) (m ((c.tc : Thread Cert.WalkIdeal.nD Cert.WalkIdeal.τ).loc Cert.WalkIdeal.main_arg2))) = (fun _ => 1#1)

def Pre_WalkRefIdeal (m : (ℓ : Loc Cert.WalkRefIdeal.nD Cert.WalkRefIdeal.τ Cert.WalkRefIdeal.sig) → Buf (Elt Ideal) ℓ) : Prop :=
  True

def Pre_WalkRefIdeal_walk_finite [hPre_walk_finite : Cert.Pre_walk_finite.Facts] (m : (ℓ : Loc Cert.WalkRefIdeal.nD Cert.WalkRefIdeal.τ Cert.WalkRefIdeal.sig) → Buf (Elt Ideal) ℓ) : Prop :=
  ∀ c : Dev Cert.WalkRefIdeal.nD,
    (Cert.Pre_walk_finite.fn (F := Ideal) (m ((c.tc : Thread Cert.WalkRefIdeal.nD Cert.WalkRefIdeal.τ).loc Cert.WalkRefIdeal.main_arg0)) (m ((c.tc : Thread Cert.WalkRefIdeal.nD Cert.WalkRefIdeal.τ).loc Cert.WalkRefIdeal.main_arg1)) (m ((c.tc : Thread Cert.WalkRefIdeal.nD Cert.WalkRefIdeal.τ).loc Cert.WalkRefIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4))) = (fun _ => 1#1)

def Pre_Mixb (m : (ℓ : Loc Cert.Mixb.nD Cert.Mixb.τ Cert.Mixb.sig) → Buf (Elt Bits) ℓ) : Prop :=
  True

def Pre_MixbIdeal (m : (ℓ : Loc Cert.MixbIdeal.nD Cert.MixbIdeal.τ Cert.MixbIdeal.sig) → Buf (Elt Ideal) ℓ) : Prop :=
  True

def Pre_MixbIdeal_mixb_finite [hPre_mixb_finite : Cert.Pre_mixb_finite.Facts] (m : (ℓ : Loc Cert.MixbIdeal.nD Cert.MixbIdeal.τ Cert.MixbIdeal.sig) → Buf (Elt Ideal) ℓ) : Prop :=
  ∀ c : Dev Cert.MixbIdeal.nD,
    (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4))) = (fun _ => 1#1)

def Pre_MixbRefIdeal (m : (ℓ : Loc Cert.MixbRefIdeal.nD Cert.MixbRefIdeal.τ Cert.MixbRefIdeal.sig) → Buf (Elt Ideal) ℓ) : Prop :=
  True

def Pre_MixbRefIdeal_mixb_finite [hPre_mixb_finite : Cert.Pre_mixb_finite.Facts] (m : (ℓ : Loc Cert.MixbRefIdeal.nD Cert.MixbRefIdeal.τ Cert.MixbRefIdeal.sig) → Buf (Elt Ideal) ℓ) : Prop :=
  ∀ c : Dev Cert.MixbRefIdeal.nD,
    (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4))) = (fun _ => 1#1)

def Pre_Mnorm (m : (ℓ : Loc Cert.Mnorm.nD Cert.Mnorm.τ Cert.Mnorm.sig) → Buf (Elt Bits) ℓ) : Prop :=
  True

def Pre_MnormIdeal (m : (ℓ : Loc Cert.MnormIdeal.nD Cert.MnormIdeal.τ Cert.MnormIdeal.sig) → Buf (Elt Ideal) ℓ) : Prop :=
  True

def Pre_MnormIdeal_mnorm_finite [hPre_mnorm_finite : Cert.Pre_mnorm_finite.Facts] (m : (ℓ : Loc Cert.MnormIdeal.nD Cert.MnormIdeal.τ Cert.MnormIdeal.sig) → Buf (Elt Ideal) ℓ) : Prop :=
  ∀ c : Dev Cert.MnormIdeal.nD,
    (Cert.Pre_mnorm_finite.fn (F := Ideal) (m ((c.tc : Thread Cert.MnormIdeal.nD Cert.MnormIdeal.τ).loc Cert.MnormIdeal.main_arg0)) (m ((c.tc : Thread Cert.MnormIdeal.nD Cert.MnormIdeal.τ).loc Cert.MnormIdeal.main_arg1)) (m ((c.tc : Thread Cert.MnormIdeal.nD Cert.MnormIdeal.τ).loc Cert.MnormIdeal.main_arg2)) (m ((c.tc : Thread Cert.MnormIdeal.nD Cert.MnormIdeal.τ).loc Cert.MnormIdeal.main_arg3))) = (fun _ => 1#1)

def Pre_MnormRefIdeal (m : (ℓ : Loc Cert.MnormRefIdeal.nD Cert.MnormRefIdeal.τ Cert.MnormRefIdeal.sig) → Buf (Elt Ideal) ℓ) : Prop :=
  True

def Pre_MnormRefIdeal_mnorm_finite [hPre_mnorm_finite : Cert.Pre_mnorm_finite.Facts] (m : (ℓ : Loc Cert.MnormRefIdeal.nD Cert.MnormRefIdeal.τ Cert.MnormRefIdeal.sig) → Buf (Elt Ideal) ℓ) : Prop :=
  ∀ c : Dev Cert.MnormRefIdeal.nD,
    (Cert.Pre_mnorm_finite.fn (F := Ideal) (m ((c.tc : Thread Cert.MnormRefIdeal.nD Cert.MnormRefIdeal.τ).loc Cert.MnormRefIdeal.main_arg0)) (m ((c.tc : Thread Cert.MnormRefIdeal.nD Cert.MnormRefIdeal.τ).loc Cert.MnormRefIdeal.main_arg1)) (m ((c.tc : Thread Cert.MnormRefIdeal.nD Cert.MnormRefIdeal.τ).loc Cert.MnormRefIdeal.main_arg2)) (m ((c.tc : Thread Cert.MnormRefIdeal.nD Cert.MnormRefIdeal.τ).loc Cert.MnormRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Memo (m : (ℓ : Loc Cert.Memo.nD Cert.Memo.τ Cert.Memo.sig) → Buf (Elt Bits) ℓ) : Prop :=
  True

def Pre_MemoIdeal (m : (ℓ : Loc Cert.MemoIdeal.nD Cert.MemoIdeal.τ Cert.MemoIdeal.sig) → Buf (Elt Ideal) ℓ) : Prop :=
  True

def Pre_MemoIdeal_memo_finite [hPre_memo_finite : Cert.Pre_memo_finite.Facts] (m : (ℓ : Loc Cert.MemoIdeal.nD Cert.MemoIdeal.τ Cert.MemoIdeal.sig) → Buf (Elt Ideal) ℓ) : Prop :=
  ∀ c : Dev Cert.MemoIdeal.nD,
    (Cert.Pre_memo_finite.fn (F := Ideal) (m ((c.tc : Thread Cert.MemoIdeal.nD Cert.MemoIdeal.τ).loc Cert.MemoIdeal.main_arg0)) (m ((c.tc : Thread Cert.MemoIdeal.nD Cert.MemoIdeal.τ).loc Cert.MemoIdeal.main_arg1)) (m ((c.tc : Thread Cert.MemoIdeal.nD Cert.MemoIdeal.τ).loc Cert.MemoIdeal.main_arg2)) (m ((c.tc : Thread Cert.MemoIdeal.nD Cert.MemoIdeal.τ).loc Cert.MemoIdeal.main_arg3))) = (fun _ => 1#1)

def Pre_MemoRefIdeal (m : (ℓ : Loc Cert.MemoRefIdeal.nD Cert.MemoRefIdeal.τ Cert.MemoRefIdeal.sig) → Buf (Elt Ideal) ℓ) : Prop :=
  True

def Pre_MemoRefIdeal_memo_finite [hPre_memo_finite : Cert.Pre_memo_finite.Facts] (m : (ℓ : Loc Cert.MemoRefIdeal.nD Cert.MemoRefIdeal.τ Cert.MemoRefIdeal.sig) → Buf (Elt Ideal) ℓ) : Prop :=
  ∀ c : Dev Cert.MemoRefIdeal.nD,
    (Cert.Pre_memo_finite.fn (F := Ideal) (m ((c.tc : Thread Cert.MemoRefIdeal.nD Cert.MemoRefIdeal.τ).loc Cert.MemoRefIdeal.main_arg0)) (m ((c.tc : Thread Cert.MemoRefIdeal.nD Cert.MemoRefIdeal.τ).loc Cert.MemoRefIdeal.main_arg1)) (m ((c.tc : Thread Cert.MemoRefIdeal.nD Cert.MemoRefIdeal.τ).loc Cert.MemoRefIdeal.main_arg2)) (m ((c.tc : Thread Cert.MemoRefIdeal.nD Cert.MemoRefIdeal.τ).loc Cert.MemoRefIdeal.main_arg3))) = (fun _ => 1#1)

def Pre_Memb (m : (ℓ : Loc Cert.Memb.nD Cert.Memb.τ Cert.Memb.sig) → Buf (Elt Bits) ℓ) : Prop :=
  True

def Pre_MembIdeal (m : (ℓ : Loc Cert.MembIdeal.nD Cert.MembIdeal.τ Cert.MembIdeal.sig) → Buf (Elt Ideal) ℓ) : Prop :=
  True

def Pre_MembIdeal_memb_finite [hPre_memb_finite : Cert.Pre_memb_finite.Facts] (m : (ℓ : Loc Cert.MembIdeal.nD Cert.MembIdeal.τ Cert.MembIdeal.sig) → Buf (Elt Ideal) ℓ) : Prop :=
  ∀ c : Dev Cert.MembIdeal.nD,
    (Cert.Pre_memb_finite.fn (F := Ideal) (m ((c.tc : Thread Cert.MembIdeal.nD Cert.MembIdeal.τ).loc Cert.MembIdeal.main_arg0)) (m ((c.tc : Thread Cert.MembIdeal.nD Cert.MembIdeal.τ).loc Cert.MembIdeal.main_arg1)) (m ((c.tc : Thread Cert.MembIdeal.nD Cert.MembIdeal.τ).loc Cert.MembIdeal.main_arg2)) (m ((c.tc : Thread Cert.MembIdeal.nD Cert.MembIdeal.τ).loc Cert.MembIdeal.main_arg3))) = (fun _ => 1#1)

def Pre_MembRefIdeal (m : (ℓ : Loc Cert.MembRefIdeal.nD Cert.MembRefIdeal.τ Cert.MembRefIdeal.sig) → Buf (Elt Ideal) ℓ) : Prop :=
  True

def Pre_MembRefIdeal_memb_finite [hPre_memb_finite : Cert.Pre_memb_finite.Facts] (m : (ℓ : Loc Cert.MembRefIdeal.nD Cert.MembRefIdeal.τ Cert.MembRefIdeal.sig) → Buf (Elt Ideal) ℓ) : Prop :=
  ∀ c : Dev Cert.MembRefIdeal.nD,
    (Cert.Pre_memb_finite.fn (F := Ideal) (m ((c.tc : Thread Cert.MembRefIdeal.nD Cert.MembRefIdeal.τ).loc Cert.MembRefIdeal.main_arg0)) (m ((c.tc : Thread Cert.MembRefIdeal.nD Cert.MembRefIdeal.τ).loc Cert.MembRefIdeal.main_arg1)) (m ((c.tc : Thread Cert.MembRefIdeal.nD Cert.MembRefIdeal.τ).loc Cert.MembRefIdeal.main_arg2)) (m ((c.tc : Thread Cert.MembRefIdeal.nD Cert.MembRefIdeal.τ).loc Cert.MembRefIdeal.main_arg3))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_gmlp_finite [hPre_gmlp_finite : Cert.Pre_gmlp_finite.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_gmlp_finite [hPre_gmlp_finite : Cert.Pre_gmlp_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))) = (fun _ => 1#1)

def Pre_Nmm (m : (ℓ : Loc Cert.Nmm.nD Cert.Nmm.τ Cert.Nmm.sig) → Buf (Elt Bits) ℓ) : Prop :=
  True

def Pre_NmmIdeal (m : (ℓ : Loc Cert.NmmIdeal.nD Cert.NmmIdeal.τ Cert.NmmIdeal.sig) → Buf (Elt Ideal) ℓ) : Prop :=
  True

def Pre_NmmRefIdeal (m : (ℓ : Loc Cert.NmmRefIdeal.nD Cert.NmmRefIdeal.τ Cert.NmmRefIdeal.sig) → Buf (Elt Ideal) ℓ) : Prop :=
  True

def Pre_Kvp (m : (ℓ : Loc Cert.Kvp.nD Cert.Kvp.τ Cert.Kvp.sig) → Buf (Elt Bits) ℓ) : Prop :=
  True

def Pre_KvpIdeal (m : (ℓ : Loc Cert.KvpIdeal.nD Cert.KvpIdeal.τ Cert.KvpIdeal.sig) → Buf (Elt Ideal) ℓ) : Prop :=
  True

def Pre_KvpRefIdeal (m : (ℓ : Loc Cert.KvpRefIdeal.nD Cert.KvpRefIdeal.τ Cert.KvpRefIdeal.sig) → Buf (Elt Ideal) ℓ) : Prop :=
  True

def Pre_Smm (m : (ℓ : Loc Cert.Smm.nD Cert.Smm.τ Cert.Smm.sig) → Buf (Elt Bits) ℓ) : Prop :=
  True

def Pre_SmmIdeal (m : (ℓ : Loc Cert.SmmIdeal.nD Cert.SmmIdeal.τ Cert.SmmIdeal.sig) → Buf (Elt Ideal) ℓ) : Prop :=
  True

def Pre_SmmRefIdeal (m : (ℓ : Loc Cert.SmmRefIdeal.nD Cert.SmmRefIdeal.τ Cert.SmmRefIdeal.sig) → Buf (Elt Ideal) ℓ) : Prop :=
  True

def Pre_Memf (m : (ℓ : Loc Cert.Memf.nD Cert.Memf.τ Cert.Memf.sig) → Buf (Elt Bits) ℓ) : Prop :=
  True

def Pre_MemfIdeal (m : (ℓ : Loc Cert.MemfIdeal.nD Cert.MemfIdeal.τ Cert.MemfIdeal.sig) → Buf (Elt Ideal) ℓ) : Prop :=
  True

def Pre_MemfRefIdeal (m : (ℓ : Loc Cert.MemfRefIdeal.nD Cert.MemfRefIdeal.τ Cert.MemfRefIdeal.sig) → Buf (Elt Ideal) ℓ) : Prop :=
  True

def Pre_Gmf (m : (ℓ : Loc Cert.Gmf.nD Cert.Gmf.τ Cert.Gmf.sig) → Buf (Elt Bits) ℓ) : Prop :=
  True

def Pre_GmfIdeal (m : (ℓ : Loc Cert.GmfIdeal.nD Cert.GmfIdeal.τ Cert.GmfIdeal.sig) → Buf (Elt Ideal) ℓ) : Prop :=
  True

def Pre_GmfRefIdeal (m : (ℓ : Loc Cert.GmfRefIdeal.nD Cert.GmfRefIdeal.τ Cert.GmfRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ksum (m : (ℓ : Loc Cert.Ksum.nD Cert.Ksum.τ Cert.Ksum.sig) → Buf (Elt Bits) ℓ) : Prop :=
  True

def Pre_KsumIdeal (m : (ℓ : Loc Cert.KsumIdeal.nD Cert.KsumIdeal.τ Cert.KsumIdeal.sig) → Buf (Elt Ideal) ℓ) : Prop :=
  True

def Pre_KsumRefIdeal (m : (ℓ : Loc Cert.KsumRefIdeal.nD Cert.KsumRefIdeal.τ Cert.KsumRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2)
      ∧ r.2.mem ((c.tc : Thread Cert.Stick.nD Cert.Stick.τ).loc Cert.Stick.main_arg3) = m ((c.tc : Thread Cert.Stick.nD Cert.Stick.τ).loc Cert.Stick.main_arg3))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickIdeal_pre_stick_finite [hStickIdeal : Cert.StickIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_stick_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2)
      ∧ r.2.mem ((c.tc : Thread Cert.StickRefIdeal.nD Cert.StickRefIdeal.τ).loc Cert.StickRefIdeal.main_arg3) = m ((c.tc : Thread Cert.StickRefIdeal.nD Cert.StickRefIdeal.τ).loc Cert.StickRefIdeal.main_arg3))
      ∧ r.2.sem = fun _ => 0)

def quiescent_StickRefIdeal_pre_stick_finite [hStickRefIdeal : Cert.StickRefIdeal.Facts] [hPre_stick_finite : Cert.Pre_stick_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_stick_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2)
      ∧ r.2.mem ((c.tc : Thread Cert.StickRefIdeal.nD Cert.StickRefIdeal.τ).loc Cert.StickRefIdeal.main_arg3) = m ((c.tc : Thread Cert.StickRefIdeal.nD Cert.StickRefIdeal.τ).loc Cert.StickRefIdeal.main_arg3))
      ∧ r.2.sem = fun _ => 0)

def quiescent_Walk [hWalk : Cert.Walk.Facts] : Prop :=
  ∀ (m : (ℓ : Loc Cert.Walk.nD Cert.Walk.τ Cert.Walk.sig) → Buf (Elt Bits) ℓ) (g : Dev Cert.Walk.nD → PrngReg), Pre_Walk m →
    θ_run (Cert.Walk.defs (F := Bits)) (onTc (τ := Cert.Walk.τ) (Cert.Walk.main (F := Bits))) ⟨m, fun _ => 0, g⟩ (fun r => (∀ c : Dev Cert.Walk.nD,
      r.2.mem ((c.tc : Thread Cert.Walk.nD Cert.Walk.τ).loc Cert.Walk.main_arg0) = m ((c.tc : Thread Cert.Walk.nD Cert.Walk.τ).loc Cert.Walk.main_arg0)
      ∧ r.2.mem ((c.tc : Thread Cert.Walk.nD Cert.Walk.τ).loc Cert.Walk.main_arg1) = m ((c.tc : Thread Cert.Walk.nD Cert.Walk.τ).loc Cert.Walk.main_arg1)
      ∧ r.2.mem ((c.tc : Thread Cert.Walk.nD Cert.Walk.τ).loc Cert.Walk.main_arg2) = m ((c.tc : Thread Cert.Walk.nD Cert.Walk.τ).loc Cert.Walk.main_arg2))
      ∧ r.2.sem = fun _ => 0)

def quiescent_WalkIdeal [hWalkIdeal : Cert.WalkIdeal.Facts] : Prop :=
  ∀ (m : (ℓ : Loc Cert.WalkIdeal.nD Cert.WalkIdeal.τ Cert.WalkIdeal.sig) → Buf (Elt Ideal) ℓ) (g : Dev Cert.WalkIdeal.nD → PrngReg), Pre_WalkIdeal m →
    θ_run (Cert.WalkIdeal.defs (F := Ideal)) (onTc (τ := Cert.WalkIdeal.τ) (Cert.WalkIdeal.main (F := Ideal))) ⟨m, fun _ => 0, g⟩ (fun r => (∀ c : Dev Cert.WalkIdeal.nD,
      r.2.mem ((c.tc : Thread Cert.WalkIdeal.nD Cert.WalkIdeal.τ).loc Cert.WalkIdeal.main_arg0) = m ((c.tc : Thread Cert.WalkIdeal.nD Cert.WalkIdeal.τ).loc Cert.WalkIdeal.main_arg0)
      ∧ r.2.mem ((c.tc : Thread Cert.WalkIdeal.nD Cert.WalkIdeal.τ).loc Cert.WalkIdeal.main_arg1) = m ((c.tc : Thread Cert.WalkIdeal.nD Cert.WalkIdeal.τ).loc Cert.WalkIdeal.main_arg1)
      ∧ r.2.mem ((c.tc : Thread Cert.WalkIdeal.nD Cert.WalkIdeal.τ).loc Cert.WalkIdeal.main_arg2) = m ((c.tc : Thread Cert.WalkIdeal.nD Cert.WalkIdeal.τ).loc Cert.WalkIdeal.main_arg2))
      ∧ r.2.sem = fun _ => 0)

def quiescent_WalkIdeal_pre_walk_finite [hWalkIdeal : Cert.WalkIdeal.Facts] [hPre_walk_finite : Cert.Pre_walk_finite.Facts] : Prop :=
  ∀ (m : (ℓ : Loc Cert.WalkIdeal.nD Cert.WalkIdeal.τ Cert.WalkIdeal.sig) → Buf (Elt Ideal) ℓ) (g : Dev Cert.WalkIdeal.nD → PrngReg), Pre_WalkIdeal_walk_finite m →
    θ_run (Cert.WalkIdeal.defs (F := Ideal)) (onTc (τ := Cert.WalkIdeal.τ) (Cert.WalkIdeal.main (F := Ideal))) ⟨m, fun _ => 0, g⟩ (fun r => (∀ c : Dev Cert.WalkIdeal.nD,
      r.2.mem ((c.tc : Thread Cert.WalkIdeal.nD Cert.WalkIdeal.τ).loc Cert.WalkIdeal.main_arg0) = m ((c.tc : Thread Cert.WalkIdeal.nD Cert.WalkIdeal.τ).loc Cert.WalkIdeal.main_arg0)
      ∧ r.2.mem ((c.tc : Thread Cert.WalkIdeal.nD Cert.WalkIdeal.τ).loc Cert.WalkIdeal.main_arg1) = m ((c.tc : Thread Cert.WalkIdeal.nD Cert.WalkIdeal.τ).loc Cert.WalkIdeal.main_arg1)
      ∧ r.2.mem ((c.tc : Thread Cert.WalkIdeal.nD Cert.WalkIdeal.τ).loc Cert.WalkIdeal.main_arg2) = m ((c.tc : Thread Cert.WalkIdeal.nD Cert.WalkIdeal.τ).loc Cert.WalkIdeal.main_arg2))
      ∧ r.2.sem = fun _ => 0)

def quiescent_WalkRefIdeal [hWalkRefIdeal : Cert.WalkRefIdeal.Facts] : Prop :=
  ∀ (m : (ℓ : Loc Cert.WalkRefIdeal.nD Cert.WalkRefIdeal.τ Cert.WalkRefIdeal.sig) → Buf (Elt Ideal) ℓ) (g : Dev Cert.WalkRefIdeal.nD → PrngReg), Pre_WalkRefIdeal m →
    θ_run (Cert.WalkRefIdeal.defs (F := Ideal)) (onTc (τ := Cert.WalkRefIdeal.τ) (Cert.WalkRefIdeal.main (F := Ideal))) ⟨m, fun _ => 0, g⟩ (fun r => (∀ c : Dev Cert.WalkRefIdeal.nD,
      r.2.mem ((c.tc : Thread Cert.WalkRefIdeal.nD Cert.WalkRefIdeal.τ).loc Cert.WalkRefIdeal.main_arg0) = m ((c.tc : Thread Cert.WalkRefIdeal.nD Cert.WalkRefIdeal.τ).loc Cert.WalkRefIdeal.main_arg0)
      ∧ r.2.mem ((c.tc : Thread Cert.WalkRefIdeal.nD Cert.WalkRefIdeal.τ).loc Cert.WalkRefIdeal.main_arg1) = m ((c.tc : Thread Cert.WalkRefIdeal.nD Cert.WalkRefIdeal.τ).loc Cert.WalkRefIdeal.main_arg1)
      ∧ r.2.mem ((c.tc : Thread Cert.WalkRefIdeal.nD Cert.WalkRefIdeal.τ).loc Cert.WalkRefIdeal.main_arg2) = m ((c.tc : Thread Cert.WalkRefIdeal.nD Cert.WalkRefIdeal.τ).loc Cert.WalkRefIdeal.main_arg2))
      ∧ r.2.sem = fun _ => 0)

def quiescent_WalkRefIdeal_pre_walk_finite [hWalkRefIdeal : Cert.WalkRefIdeal.Facts] [hPre_walk_finite : Cert.Pre_walk_finite.Facts] : Prop :=
  ∀ (m : (ℓ : Loc Cert.WalkRefIdeal.nD Cert.WalkRefIdeal.τ Cert.WalkRefIdeal.sig) → Buf (Elt Ideal) ℓ) (g : Dev Cert.WalkRefIdeal.nD → PrngReg), Pre_WalkRefIdeal_walk_finite m →
    θ_run (Cert.WalkRefIdeal.defs (F := Ideal)) (onTc (τ := Cert.WalkRefIdeal.τ) (Cert.WalkRefIdeal.main (F := Ideal))) ⟨m, fun _ => 0, g⟩ (fun r => (∀ c : Dev Cert.WalkRefIdeal.nD,
      r.2.mem ((c.tc : Thread Cert.WalkRefIdeal.nD Cert.WalkRefIdeal.τ).loc Cert.WalkRefIdeal.main_arg0) = m ((c.tc : Thread Cert.WalkRefIdeal.nD Cert.WalkRefIdeal.τ).loc Cert.WalkRefIdeal.main_arg0)
      ∧ r.2.mem ((c.tc : Thread Cert.WalkRefIdeal.nD Cert.WalkRefIdeal.τ).loc Cert.WalkRefIdeal.main_arg1) = m ((c.tc : Thread Cert.WalkRefIdeal.nD Cert.WalkRefIdeal.τ).loc Cert.WalkRefIdeal.main_arg1)
      ∧ r.2.mem ((c.tc : Thread Cert.WalkRefIdeal.nD Cert.WalkRefIdeal.τ).loc Cert.WalkRefIdeal.main_arg2) = m ((c.tc : Thread Cert.WalkRefIdeal.nD Cert.WalkRefIdeal.τ).loc Cert.WalkRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Mixb [hMixb : Cert.Mixb.Facts] : Prop :=
  ∀ (m : (ℓ : Loc Cert.Mixb.nD Cert.Mixb.τ Cert.Mixb.sig) → Buf (Elt Bits) ℓ) (g : Dev Cert.Mixb.nD → PrngReg), Pre_Mixb m →
    θ_run (Cert.Mixb.defs (F := Bits)) (onTc (τ := Cert.Mixb.τ) (Cert.Mixb.main (F := Bits))) ⟨m, fun _ => 0, g⟩ (fun r => (∀ c : Dev Cert.Mixb.nD,
      r.2.mem ((c.tc : Thread Cert.Mixb.nD Cert.Mixb.τ).loc Cert.Mixb.main_arg0) = m ((c.tc : Thread Cert.Mixb.nD Cert.Mixb.τ).loc Cert.Mixb.main_arg0)
      ∧ r.2.mem ((c.tc : Thread Cert.Mixb.nD Cert.Mixb.τ).loc Cert.Mixb.main_arg1) = m ((c.tc : Thread Cert.Mixb.nD Cert.Mixb.τ).loc Cert.Mixb.main_arg1)
      ∧ r.2.mem ((c.tc : Thread Cert.Mixb.nD Cert.Mixb.τ).loc Cert.Mixb.main_arg2) = m ((c.tc : Thread Cert.Mixb.nD Cert.Mixb.τ).loc Cert.Mixb.main_arg2)
      ∧ r.2.mem ((c.tc : Thread Cert.Mixb.nD Cert.Mixb.τ).loc Cert.Mixb.main_arg3) = m ((c.tc : Thread Cert.Mixb.nD Cert.Mixb.τ).loc Cert.Mixb.main_arg3)
      ∧ r.2.mem ((c.tc : Thread Cert.Mixb.nD Cert.Mixb.τ).loc Cert.Mixb.main_arg4) = m ((c.tc : Thread Cert.Mixb.nD Cert.Mixb.τ).loc Cert.Mixb.main_arg4))
      ∧ r.2.sem = fun _ => 0)

def quiescent_MixbIdeal [hMixbIdeal : Cert.MixbIdeal.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
      ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4))
      ∧ r.2.sem = fun _ => 0)

def quiescent_MixbIdeal_pre_mixb_finite [hMixbIdeal : Cert.MixbIdeal.Facts] [hPre_mixb_finite : Cert.Pre_mixb_finite.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal_mixb_finite m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
      ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4))
      ∧ r.2.sem = fun _ => 0)

def quiescent_MixbRefIdeal [hMixbRefIdeal : Cert.MixbRefIdeal.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3)
      ∧ r.2.mem ((c.tc : Thread Cert.MixbRefIdeal.nD Cert.MixbRefIdeal.τ).loc Cert.MixbRefIdeal.main_arg4) = m ((c.tc : Thread Cert.MixbRefIdeal.nD Cert.MixbRefIdeal.τ).loc Cert.MixbRefIdeal.main_arg4))
      ∧ r.2.sem = fun _ => 0)

def quiescent_MixbRefIdeal_pre_mixb_finite [hMixbRefIdeal : Cert.MixbRefIdeal.Facts] [hPre_mixb_finite : Cert.Pre_mixb_finite.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal_mixb_finite m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3)
      ∧ r.2.mem ((c.tc : Thread Cert.MixbRefIdeal.nD Cert.MixbRefIdeal.τ).loc Cert.MixbRefIdeal.main_arg4) = m ((c.tc : Thread Cert.MixbRefIdeal.nD Cert.MixbRefIdeal.τ).loc Cert.MixbRefIdeal.main_arg4))
      ∧ r.2.sem = fun _ => 0)

def quiescent_Mnorm [hMnorm : Cert.Mnorm.Facts] : Prop :=
  ∀ (m : (ℓ : Loc Cert.Mnorm.nD Cert.Mnorm.τ Cert.Mnorm.sig) → Buf (Elt Bits) ℓ) (g : Dev Cert.Mnorm.nD → PrngReg), Pre_Mnorm m →
    θ_run (Cert.Mnorm.defs (F := Bits)) (onTc (τ := Cert.Mnorm.τ) (Cert.Mnorm.main (F := Bits))) ⟨m, fun _ => 0, g⟩ (fun r => (∀ c : Dev Cert.Mnorm.nD,
      r.2.mem ((c.tc : Thread Cert.Mnorm.nD Cert.Mnorm.τ).loc Cert.Mnorm.main_arg0) = m ((c.tc : Thread Cert.Mnorm.nD Cert.Mnorm.τ).loc Cert.Mnorm.main_arg0)
      ∧ r.2.mem ((c.tc : Thread Cert.Mnorm.nD Cert.Mnorm.τ).loc Cert.Mnorm.main_arg1) = m ((c.tc : Thread Cert.Mnorm.nD Cert.Mnorm.τ).loc Cert.Mnorm.main_arg1)
      ∧ r.2.mem ((c.tc : Thread Cert.Mnorm.nD Cert.Mnorm.τ).loc Cert.Mnorm.main_arg2) = m ((c.tc : Thread Cert.Mnorm.nD Cert.Mnorm.τ).loc Cert.Mnorm.main_arg2)
      ∧ r.2.mem ((c.tc : Thread Cert.Mnorm.nD Cert.Mnorm.τ).loc Cert.Mnorm.main_arg3) = m ((c.tc : Thread Cert.Mnorm.nD Cert.Mnorm.τ).loc Cert.Mnorm.main_arg3))
      ∧ r.2.sem = fun _ => 0)

def quiescent_MnormIdeal [hMnormIdeal : Cert.MnormIdeal.Facts] : Prop :=
  ∀ (m : (ℓ : Loc Cert.MnormIdeal.nD Cert.MnormIdeal.τ Cert.MnormIdeal.sig) → Buf (Elt Ideal) ℓ) (g : Dev Cert.MnormIdeal.nD → PrngReg), Pre_MnormIdeal m →
    θ_run (Cert.MnormIdeal.defs (F := Ideal)) (onTc (τ := Cert.MnormIdeal.τ) (Cert.MnormIdeal.main (F := Ideal))) ⟨m, fun _ => 0, g⟩ (fun r => (∀ c : Dev Cert.MnormIdeal.nD,
      r.2.mem ((c.tc : Thread Cert.MnormIdeal.nD Cert.MnormIdeal.τ).loc Cert.MnormIdeal.main_arg0) = m ((c.tc : Thread Cert.MnormIdeal.nD Cert.MnormIdeal.τ).loc Cert.MnormIdeal.main_arg0)
      ∧ r.2.mem ((c.tc : Thread Cert.MnormIdeal.nD Cert.MnormIdeal.τ).loc Cert.MnormIdeal.main_arg1) = m ((c.tc : Thread Cert.MnormIdeal.nD Cert.MnormIdeal.τ).loc Cert.MnormIdeal.main_arg1)
      ∧ r.2.mem ((c.tc : Thread Cert.MnormIdeal.nD Cert.MnormIdeal.τ).loc Cert.MnormIdeal.main_arg2) = m ((c.tc : Thread Cert.MnormIdeal.nD Cert.MnormIdeal.τ).loc Cert.MnormIdeal.main_arg2)
      ∧ r.2.mem ((c.tc : Thread Cert.MnormIdeal.nD Cert.MnormIdeal.τ).loc Cert.MnormIdeal.main_arg3) = m ((c.tc : Thread Cert.MnormIdeal.nD Cert.MnormIdeal.τ).loc Cert.MnormIdeal.main_arg3))
      ∧ r.2.sem = fun _ => 0)

def quiescent_MnormIdeal_pre_mnorm_finite [hMnormIdeal : Cert.MnormIdeal.Facts] [hPre_mnorm_finite : Cert.Pre_mnorm_finite.Facts] : Prop :=
  ∀ (m : (ℓ : Loc Cert.MnormIdeal.nD Cert.MnormIdeal.τ Cert.MnormIdeal.sig) → Buf (Elt Ideal) ℓ) (g : Dev Cert.MnormIdeal.nD → PrngReg), Pre_MnormIdeal_mnorm_finite m →
    θ_run (Cert.MnormIdeal.defs (F := Ideal)) (onTc (τ := Cert.MnormIdeal.τ) (Cert.MnormIdeal.main (F := Ideal))) ⟨m, fun _ => 0, g⟩ (fun r => (∀ c : Dev Cert.MnormIdeal.nD,
      r.2.mem ((c.tc : Thread Cert.MnormIdeal.nD Cert.MnormIdeal.τ).loc Cert.MnormIdeal.main_arg0) = m ((c.tc : Thread Cert.MnormIdeal.nD Cert.MnormIdeal.τ).loc Cert.MnormIdeal.main_arg0)
      ∧ r.2.mem ((c.tc : Thread Cert.MnormIdeal.nD Cert.MnormIdeal.τ).loc Cert.MnormIdeal.main_arg1) = m ((c.tc : Thread Cert.MnormIdeal.nD Cert.MnormIdeal.τ).loc Cert.MnormIdeal.main_arg1)
      ∧ r.2.mem ((c.tc : Thread Cert.MnormIdeal.nD Cert.MnormIdeal.τ).loc Cert.MnormIdeal.main_arg2) = m ((c.tc : Thread Cert.MnormIdeal.nD Cert.MnormIdeal.τ).loc Cert.MnormIdeal.main_arg2)
      ∧ r.2.mem ((c.tc : Thread Cert.MnormIdeal.nD Cert.MnormIdeal.τ).loc Cert.MnormIdeal.main_arg3) = m ((c.tc : Thread Cert.MnormIdeal.nD Cert.MnormIdeal.τ).loc Cert.MnormIdeal.main_arg3))
      ∧ r.2.sem = fun _ => 0)

def quiescent_MnormRefIdeal [hMnormRefIdeal : Cert.MnormRefIdeal.Facts] : Prop :=
  ∀ (m : (ℓ : Loc Cert.MnormRefIdeal.nD Cert.MnormRefIdeal.τ Cert.MnormRefIdeal.sig) → Buf (Elt Ideal) ℓ) (g : Dev Cert.MnormRefIdeal.nD → PrngReg), Pre_MnormRefIdeal m →
    θ_run (Cert.MnormRefIdeal.defs (F := Ideal)) (onTc (τ := Cert.MnormRefIdeal.τ) (Cert.MnormRefIdeal.main (F := Ideal))) ⟨m, fun _ => 0, g⟩ (fun r => (∀ c : Dev Cert.MnormRefIdeal.nD,
      r.2.mem ((c.tc : Thread Cert.MnormRefIdeal.nD Cert.MnormRefIdeal.τ).loc Cert.MnormRefIdeal.main_arg0) = m ((c.tc : Thread Cert.MnormRefIdeal.nD Cert.MnormRefIdeal.τ).loc Cert.MnormRefIdeal.main_arg0)
      ∧ r.2.mem ((c.tc : Thread Cert.MnormRefIdeal.nD Cert.MnormRefIdeal.τ).loc Cert.MnormRefIdeal.main_arg1) = m ((c.tc : Thread Cert.MnormRefIdeal.nD Cert.MnormRefIdeal.τ).loc Cert.MnormRefIdeal.main_arg1)
      ∧ r.2.mem ((c.tc : Thread Cert.MnormRefIdeal.nD Cert.MnormRefIdeal.τ).loc Cert.MnormRefIdeal.main_arg2) = m ((c.tc : Thread Cert.MnormRefIdeal.nD Cert.MnormRefIdeal.τ).loc Cert.MnormRefIdeal.main_arg2)
      ∧ r.2.mem ((c.tc : Thread Cert.MnormRefIdeal.nD Cert.MnormRefIdeal.τ).loc Cert.MnormRefIdeal.main_arg3) = m ((c.tc : Thread Cert.MnormRefIdeal.nD Cert.MnormRefIdeal.τ).loc Cert.MnormRefIdeal.main_arg3))
      ∧ r.2.sem = fun _ => 0)

def quiescent_MnormRefIdeal_pre_mnorm_finite [hMnormRefIdeal : Cert.MnormRefIdeal.Facts] [hPre_mnorm_finite : Cert.Pre_mnorm_finite.Facts] : Prop :=
  ∀ (m : (ℓ : Loc Cert.MnormRefIdeal.nD Cert.MnormRefIdeal.τ Cert.MnormRefIdeal.sig) → Buf (Elt Ideal) ℓ) (g : Dev Cert.MnormRefIdeal.nD → PrngReg), Pre_MnormRefIdeal_mnorm_finite m →
    θ_run (Cert.MnormRefIdeal.defs (F := Ideal)) (onTc (τ := Cert.MnormRefIdeal.τ) (Cert.MnormRefIdeal.main (F := Ideal))) ⟨m, fun _ => 0, g⟩ (fun r => (∀ c : Dev Cert.MnormRefIdeal.nD,
      r.2.mem ((c.tc : Thread Cert.MnormRefIdeal.nD Cert.MnormRefIdeal.τ).loc Cert.MnormRefIdeal.main_arg0) = m ((c.tc : Thread Cert.MnormRefIdeal.nD Cert.MnormRefIdeal.τ).loc Cert.MnormRefIdeal.main_arg0)
      ∧ r.2.mem ((c.tc : Thread Cert.MnormRefIdeal.nD Cert.MnormRefIdeal.τ).loc Cert.MnormRefIdeal.main_arg1) = m ((c.tc : Thread Cert.MnormRefIdeal.nD Cert.MnormRefIdeal.τ).loc Cert.MnormRefIdeal.main_arg1)
      ∧ r.2.mem ((c.tc : Thread Cert.MnormRefIdeal.nD Cert.MnormRefIdeal.τ).loc Cert.MnormRefIdeal.main_arg2) = m ((c.tc : Thread Cert.MnormRefIdeal.nD Cert.MnormRefIdeal.τ).loc Cert.MnormRefIdeal.main_arg2)
      ∧ r.2.mem ((c.tc : Thread Cert.MnormRefIdeal.nD Cert.MnormRefIdeal.τ).loc Cert.MnormRefIdeal.main_arg3) = m ((c.tc : Thread Cert.MnormRefIdeal.nD Cert.MnormRefIdeal.τ).loc Cert.MnormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Memo [hMemo : Cert.Memo.Facts] : Prop :=
  ∀ (m : (ℓ : Loc Cert.Memo.nD Cert.Memo.τ Cert.Memo.sig) → Buf (Elt Bits) ℓ) (g : Dev Cert.Memo.nD → PrngReg), Pre_Memo m →
    θ_run (Cert.Memo.defs (F := Bits)) (onTc (τ := Cert.Memo.τ) (Cert.Memo.main (F := Bits))) ⟨m, fun _ => 0, g⟩ (fun r => (∀ c : Dev Cert.Memo.nD,
      r.2.mem ((c.tc : Thread Cert.Memo.nD Cert.Memo.τ).loc Cert.Memo.main_arg0) = m ((c.tc : Thread Cert.Memo.nD Cert.Memo.τ).loc Cert.Memo.main_arg0)
      ∧ r.2.mem ((c.tc : Thread Cert.Memo.nD Cert.Memo.τ).loc Cert.Memo.main_arg1) = m ((c.tc : Thread Cert.Memo.nD Cert.Memo.τ).loc Cert.Memo.main_arg1)
      ∧ r.2.mem ((c.tc : Thread Cert.Memo.nD Cert.Memo.τ).loc Cert.Memo.main_arg2) = m ((c.tc : Thread Cert.Memo.nD Cert.Memo.τ).loc Cert.Memo.main_arg2)
      ∧ r.2.mem ((c.tc : Thread Cert.Memo.nD Cert.Memo.τ).loc Cert.Memo.main_arg3) = m ((c.tc : Thread Cert.Memo.nD Cert.Memo.τ).loc Cert.Memo.main_arg3))
      ∧ r.2.sem = fun _ => 0)

def quiescent_MemoIdeal [hMemoIdeal : Cert.MemoIdeal.Facts] : Prop :=
  ∀ (m : (ℓ : Loc Cert.MemoIdeal.nD Cert.MemoIdeal.τ Cert.MemoIdeal.sig) → Buf (Elt Ideal) ℓ) (g : Dev Cert.MemoIdeal.nD → PrngReg), Pre_MemoIdeal m →
    θ_run (Cert.MemoIdeal.defs (F := Ideal)) (onTc (τ := Cert.MemoIdeal.τ) (Cert.MemoIdeal.main (F := Ideal))) ⟨m, fun _ => 0, g⟩ (fun r => (∀ c : Dev Cert.MemoIdeal.nD,
      r.2.mem ((c.tc : Thread Cert.MemoIdeal.nD Cert.MemoIdeal.τ).loc Cert.MemoIdeal.main_arg0) = m ((c.tc : Thread Cert.MemoIdeal.nD Cert.MemoIdeal.τ).loc Cert.MemoIdeal.main_arg0)
      ∧ r.2.mem ((c.tc : Thread Cert.MemoIdeal.nD Cert.MemoIdeal.τ).loc Cert.MemoIdeal.main_arg1) = m ((c.tc : Thread Cert.MemoIdeal.nD Cert.MemoIdeal.τ).loc Cert.MemoIdeal.main_arg1)
      ∧ r.2.mem ((c.tc : Thread Cert.MemoIdeal.nD Cert.MemoIdeal.τ).loc Cert.MemoIdeal.main_arg2) = m ((c.tc : Thread Cert.MemoIdeal.nD Cert.MemoIdeal.τ).loc Cert.MemoIdeal.main_arg2)
      ∧ r.2.mem ((c.tc : Thread Cert.MemoIdeal.nD Cert.MemoIdeal.τ).loc Cert.MemoIdeal.main_arg3) = m ((c.tc : Thread Cert.MemoIdeal.nD Cert.MemoIdeal.τ).loc Cert.MemoIdeal.main_arg3))
      ∧ r.2.sem = fun _ => 0)

def quiescent_MemoIdeal_pre_memo_finite [hMemoIdeal : Cert.MemoIdeal.Facts] [hPre_memo_finite : Cert.Pre_memo_finite.Facts] : Prop :=
  ∀ (m : (ℓ : Loc Cert.MemoIdeal.nD Cert.MemoIdeal.τ Cert.MemoIdeal.sig) → Buf (Elt Ideal) ℓ) (g : Dev Cert.MemoIdeal.nD → PrngReg), Pre_MemoIdeal_memo_finite m →
    θ_run (Cert.MemoIdeal.defs (F := Ideal)) (onTc (τ := Cert.MemoIdeal.τ) (Cert.MemoIdeal.main (F := Ideal))) ⟨m, fun _ => 0, g⟩ (fun r => (∀ c : Dev Cert.MemoIdeal.nD,
      r.2.mem ((c.tc : Thread Cert.MemoIdeal.nD Cert.MemoIdeal.τ).loc Cert.MemoIdeal.main_arg0) = m ((c.tc : Thread Cert.MemoIdeal.nD Cert.MemoIdeal.τ).loc Cert.MemoIdeal.main_arg0)
      ∧ r.2.mem ((c.tc : Thread Cert.MemoIdeal.nD Cert.MemoIdeal.τ).loc Cert.MemoIdeal.main_arg1) = m ((c.tc : Thread Cert.MemoIdeal.nD Cert.MemoIdeal.τ).loc Cert.MemoIdeal.main_arg1)
      ∧ r.2.mem ((c.tc : Thread Cert.MemoIdeal.nD Cert.MemoIdeal.τ).loc Cert.MemoIdeal.main_arg2) = m ((c.tc : Thread Cert.MemoIdeal.nD Cert.MemoIdeal.τ).loc Cert.MemoIdeal.main_arg2)
      ∧ r.2.mem ((c.tc : Thread Cert.MemoIdeal.nD Cert.MemoIdeal.τ).loc Cert.MemoIdeal.main_arg3) = m ((c.tc : Thread Cert.MemoIdeal.nD Cert.MemoIdeal.τ).loc Cert.MemoIdeal.main_arg3))
      ∧ r.2.sem = fun _ => 0)

def quiescent_MemoRefIdeal [hMemoRefIdeal : Cert.MemoRefIdeal.Facts] : Prop :=
  ∀ (m : (ℓ : Loc Cert.MemoRefIdeal.nD Cert.MemoRefIdeal.τ Cert.MemoRefIdeal.sig) → Buf (Elt Ideal) ℓ) (g : Dev Cert.MemoRefIdeal.nD → PrngReg), Pre_MemoRefIdeal m →
    θ_run (Cert.MemoRefIdeal.defs (F := Ideal)) (onTc (τ := Cert.MemoRefIdeal.τ) (Cert.MemoRefIdeal.main (F := Ideal))) ⟨m, fun _ => 0, g⟩ (fun r => (∀ c : Dev Cert.MemoRefIdeal.nD,
      r.2.mem ((c.tc : Thread Cert.MemoRefIdeal.nD Cert.MemoRefIdeal.τ).loc Cert.MemoRefIdeal.main_arg0) = m ((c.tc : Thread Cert.MemoRefIdeal.nD Cert.MemoRefIdeal.τ).loc Cert.MemoRefIdeal.main_arg0)
      ∧ r.2.mem ((c.tc : Thread Cert.MemoRefIdeal.nD Cert.MemoRefIdeal.τ).loc Cert.MemoRefIdeal.main_arg1) = m ((c.tc : Thread Cert.MemoRefIdeal.nD Cert.MemoRefIdeal.τ).loc Cert.MemoRefIdeal.main_arg1)
      ∧ r.2.mem ((c.tc : Thread Cert.MemoRefIdeal.nD Cert.MemoRefIdeal.τ).loc Cert.MemoRefIdeal.main_arg2) = m ((c.tc : Thread Cert.MemoRefIdeal.nD Cert.MemoRefIdeal.τ).loc Cert.MemoRefIdeal.main_arg2)
      ∧ r.2.mem ((c.tc : Thread Cert.MemoRefIdeal.nD Cert.MemoRefIdeal.τ).loc Cert.MemoRefIdeal.main_arg3) = m ((c.tc : Thread Cert.MemoRefIdeal.nD Cert.MemoRefIdeal.τ).loc Cert.MemoRefIdeal.main_arg3))
      ∧ r.2.sem = fun _ => 0)

def quiescent_MemoRefIdeal_pre_memo_finite [hMemoRefIdeal : Cert.MemoRefIdeal.Facts] [hPre_memo_finite : Cert.Pre_memo_finite.Facts] : Prop :=
  ∀ (m : (ℓ : Loc Cert.MemoRefIdeal.nD Cert.MemoRefIdeal.τ Cert.MemoRefIdeal.sig) → Buf (Elt Ideal) ℓ) (g : Dev Cert.MemoRefIdeal.nD → PrngReg), Pre_MemoRefIdeal_memo_finite m →
    θ_run (Cert.MemoRefIdeal.defs (F := Ideal)) (onTc (τ := Cert.MemoRefIdeal.τ) (Cert.MemoRefIdeal.main (F := Ideal))) ⟨m, fun _ => 0, g⟩ (fun r => (∀ c : Dev Cert.MemoRefIdeal.nD,
      r.2.mem ((c.tc : Thread Cert.MemoRefIdeal.nD Cert.MemoRefIdeal.τ).loc Cert.MemoRefIdeal.main_arg0) = m ((c.tc : Thread Cert.MemoRefIdeal.nD Cert.MemoRefIdeal.τ).loc Cert.MemoRefIdeal.main_arg0)
      ∧ r.2.mem ((c.tc : Thread Cert.MemoRefIdeal.nD Cert.MemoRefIdeal.τ).loc Cert.MemoRefIdeal.main_arg1) = m ((c.tc : Thread Cert.MemoRefIdeal.nD Cert.MemoRefIdeal.τ).loc Cert.MemoRefIdeal.main_arg1)
      ∧ r.2.mem ((c.tc : Thread Cert.MemoRefIdeal.nD Cert.MemoRefIdeal.τ).loc Cert.MemoRefIdeal.main_arg2) = m ((c.tc : Thread Cert.MemoRefIdeal.nD Cert.MemoRefIdeal.τ).loc Cert.MemoRefIdeal.main_arg2)
      ∧ r.2.mem ((c.tc : Thread Cert.MemoRefIdeal.nD Cert.MemoRefIdeal.τ).loc Cert.MemoRefIdeal.main_arg3) = m ((c.tc : Thread Cert.MemoRefIdeal.nD Cert.MemoRefIdeal.τ).loc Cert.MemoRefIdeal.main_arg3))
      ∧ r.2.sem = fun _ => 0)

def quiescent_Memb [hMemb : Cert.Memb.Facts] : Prop :=
  ∀ (m : (ℓ : Loc Cert.Memb.nD Cert.Memb.τ Cert.Memb.sig) → Buf (Elt Bits) ℓ) (g : Dev Cert.Memb.nD → PrngReg), Pre_Memb m →
    θ_run (Cert.Memb.defs (F := Bits)) (onTc (τ := Cert.Memb.τ) (Cert.Memb.main (F := Bits))) ⟨m, fun _ => 0, g⟩ (fun r => (∀ c : Dev Cert.Memb.nD,
      r.2.mem ((c.tc : Thread Cert.Memb.nD Cert.Memb.τ).loc Cert.Memb.main_arg0) = m ((c.tc : Thread Cert.Memb.nD Cert.Memb.τ).loc Cert.Memb.main_arg0)
      ∧ r.2.mem ((c.tc : Thread Cert.Memb.nD Cert.Memb.τ).loc Cert.Memb.main_arg1) = m ((c.tc : Thread Cert.Memb.nD Cert.Memb.τ).loc Cert.Memb.main_arg1)
      ∧ r.2.mem ((c.tc : Thread Cert.Memb.nD Cert.Memb.τ).loc Cert.Memb.main_arg2) = m ((c.tc : Thread Cert.Memb.nD Cert.Memb.τ).loc Cert.Memb.main_arg2)
      ∧ r.2.mem ((c.tc : Thread Cert.Memb.nD Cert.Memb.τ).loc Cert.Memb.main_arg3) = m ((c.tc : Thread Cert.Memb.nD Cert.Memb.τ).loc Cert.Memb.main_arg3))
      ∧ r.2.sem = fun _ => 0)

def quiescent_MembIdeal [hMembIdeal : Cert.MembIdeal.Facts] : Prop :=
  ∀ (m : (ℓ : Loc Cert.MembIdeal.nD Cert.MembIdeal.τ Cert.MembIdeal.sig) → Buf (Elt Ideal) ℓ) (g : Dev Cert.MembIdeal.nD → PrngReg), Pre_MembIdeal m →
    θ_run (Cert.MembIdeal.defs (F := Ideal)) (onTc (τ := Cert.MembIdeal.τ) (Cert.MembIdeal.main (F := Ideal))) ⟨m, fun _ => 0, g⟩ (fun r => (∀ c : Dev Cert.MembIdeal.nD,
      r.2.mem ((c.tc : Thread Cert.MembIdeal.nD Cert.MembIdeal.τ).loc Cert.MembIdeal.main_arg0) = m ((c.tc : Thread Cert.MembIdeal.nD Cert.MembIdeal.τ).loc Cert.MembIdeal.main_arg0)
      ∧ r.2.mem ((c.tc : Thread Cert.MembIdeal.nD Cert.MembIdeal.τ).loc Cert.MembIdeal.main_arg1) = m ((c.tc : Thread Cert.MembIdeal.nD Cert.MembIdeal.τ).loc Cert.MembIdeal.main_arg1)
      ∧ r.2.mem ((c.tc : Thread Cert.MembIdeal.nD Cert.MembIdeal.τ).loc Cert.MembIdeal.main_arg2) = m ((c.tc : Thread Cert.MembIdeal.nD Cert.MembIdeal.τ).loc Cert.MembIdeal.main_arg2)
      ∧ r.2.mem ((c.tc : Thread Cert.MembIdeal.nD Cert.MembIdeal.τ).loc Cert.MembIdeal.main_arg3) = m ((c.tc : Thread Cert.MembIdeal.nD Cert.MembIdeal.τ).loc Cert.MembIdeal.main_arg3))
      ∧ r.2.sem = fun _ => 0)

def quiescent_MembIdeal_pre_memb_finite [hMembIdeal : Cert.MembIdeal.Facts] [hPre_memb_finite : Cert.Pre_memb_finite.Facts] : Prop :=
  ∀ (m : (ℓ : Loc Cert.MembIdeal.nD Cert.MembIdeal.τ Cert.MembIdeal.sig) → Buf (Elt Ideal) ℓ) (g : Dev Cert.MembIdeal.nD → PrngReg), Pre_MembIdeal_memb_finite m →
    θ_run (Cert.MembIdeal.defs (F := Ideal)) (onTc (τ := Cert.MembIdeal.τ) (Cert.MembIdeal.main (F := Ideal))) ⟨m, fun _ => 0, g⟩ (fun r => (∀ c : Dev Cert.MembIdeal.nD,
      r.2.mem ((c.tc : Thread Cert.MembIdeal.nD Cert.MembIdeal.τ).loc Cert.MembIdeal.main_arg0) = m ((c.tc : Thread Cert.MembIdeal.nD Cert.MembIdeal.τ).loc Cert.MembIdeal.main_arg0)
      ∧ r.2.mem ((c.tc : Thread Cert.MembIdeal.nD Cert.MembIdeal.τ).loc Cert.MembIdeal.main_arg1) = m ((c.tc : Thread Cert.MembIdeal.nD Cert.MembIdeal.τ).loc Cert.MembIdeal.main_arg1)
      ∧ r.2.mem ((c.tc : Thread Cert.MembIdeal.nD Cert.MembIdeal.τ).loc Cert.MembIdeal.main_arg2) = m ((c.tc : Thread Cert.MembIdeal.nD Cert.MembIdeal.τ).loc Cert.MembIdeal.main_arg2)
      ∧ r.2.mem ((c.tc : Thread Cert.MembIdeal.nD Cert.MembIdeal.τ).loc Cert.MembIdeal.main_arg3) = m ((c.tc : Thread Cert.MembIdeal.nD Cert.MembIdeal.τ).loc Cert.MembIdeal.main_arg3))
      ∧ r.2.sem = fun _ => 0)

def quiescent_MembRefIdeal [hMembRefIdeal : Cert.MembRefIdeal.Facts] : Prop :=
  ∀ (m : (ℓ : Loc Cert.MembRefIdeal.nD Cert.MembRefIdeal.τ Cert.MembRefIdeal.sig) → Buf (Elt Ideal) ℓ) (g : Dev Cert.MembRefIdeal.nD → PrngReg), Pre_MembRefIdeal m →
    θ_run (Cert.MembRefIdeal.defs (F := Ideal)) (onTc (τ := Cert.MembRefIdeal.τ) (Cert.MembRefIdeal.main (F := Ideal))) ⟨m, fun _ => 0, g⟩ (fun r => (∀ c : Dev Cert.MembRefIdeal.nD,
      r.2.mem ((c.tc : Thread Cert.MembRefIdeal.nD Cert.MembRefIdeal.τ).loc Cert.MembRefIdeal.main_arg0) = m ((c.tc : Thread Cert.MembRefIdeal.nD Cert.MembRefIdeal.τ).loc Cert.MembRefIdeal.main_arg0)
      ∧ r.2.mem ((c.tc : Thread Cert.MembRefIdeal.nD Cert.MembRefIdeal.τ).loc Cert.MembRefIdeal.main_arg1) = m ((c.tc : Thread Cert.MembRefIdeal.nD Cert.MembRefIdeal.τ).loc Cert.MembRefIdeal.main_arg1)
      ∧ r.2.mem ((c.tc : Thread Cert.MembRefIdeal.nD Cert.MembRefIdeal.τ).loc Cert.MembRefIdeal.main_arg2) = m ((c.tc : Thread Cert.MembRefIdeal.nD Cert.MembRefIdeal.τ).loc Cert.MembRefIdeal.main_arg2)
      ∧ r.2.mem ((c.tc : Thread Cert.MembRefIdeal.nD Cert.MembRefIdeal.τ).loc Cert.MembRefIdeal.main_arg3) = m ((c.tc : Thread Cert.MembRefIdeal.nD Cert.MembRefIdeal.τ).loc Cert.MembRefIdeal.main_arg3))
      ∧ r.2.sem = fun _ => 0)

def quiescent_MembRefIdeal_pre_memb_finite [hMembRefIdeal : Cert.MembRefIdeal.Facts] [hPre_memb_finite : Cert.Pre_memb_finite.Facts] : Prop :=
  ∀ (m : (ℓ : Loc Cert.MembRefIdeal.nD Cert.MembRefIdeal.τ Cert.MembRefIdeal.sig) → Buf (Elt Ideal) ℓ) (g : Dev Cert.MembRefIdeal.nD → PrngReg), Pre_MembRefIdeal_memb_finite m →
    θ_run (Cert.MembRefIdeal.defs (F := Ideal)) (onTc (τ := Cert.MembRefIdeal.τ) (Cert.MembRefIdeal.main (F := Ideal))) ⟨m, fun _ => 0, g⟩ (fun r => (∀ c : Dev Cert.MembRefIdeal.nD,
      r.2.mem ((c.tc : Thread Cert.MembRefIdeal.nD Cert.MembRefIdeal.τ).loc Cert.MembRefIdeal.main_arg0) = m ((c.tc : Thread Cert.MembRefIdeal.nD Cert.MembRefIdeal.τ).loc Cert.MembRefIdeal.main_arg0)
      ∧ r.2.mem ((c.tc : Thread Cert.MembRefIdeal.nD Cert.MembRefIdeal.τ).loc Cert.MembRefIdeal.main_arg1) = m ((c.tc : Thread Cert.MembRefIdeal.nD Cert.MembRefIdeal.τ).loc Cert.MembRefIdeal.main_arg1)
      ∧ r.2.mem ((c.tc : Thread Cert.MembRefIdeal.nD Cert.MembRefIdeal.τ).loc Cert.MembRefIdeal.main_arg2) = m ((c.tc : Thread Cert.MembRefIdeal.nD Cert.MembRefIdeal.τ).loc Cert.MembRefIdeal.main_arg2)
      ∧ r.2.mem ((c.tc : Thread Cert.MembRefIdeal.nD Cert.MembRefIdeal.τ).loc Cert.MembRefIdeal.main_arg3) = m ((c.tc : Thread Cert.MembRefIdeal.nD Cert.MembRefIdeal.τ).loc Cert.MembRefIdeal.main_arg3))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpIdeal_pre_gmlp_finite [hGmlpIdeal : Cert.GmlpIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_gmlp_finite m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_GmlpRefIdeal_pre_gmlp_finite [hGmlpRefIdeal : Cert.GmlpRefIdeal.Facts] [hPre_gmlp_finite : Cert.Pre_gmlp_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_gmlp_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Nmm [hNmm : Cert.Nmm.Facts] : Prop :=
  ∀ (m : (ℓ : Loc Cert.Nmm.nD Cert.Nmm.τ Cert.Nmm.sig) → Buf (Elt Bits) ℓ) (g : Dev Cert.Nmm.nD → PrngReg), Pre_Nmm m →
    θ_run (Cert.Nmm.defs (F := Bits)) (onTc (τ := Cert.Nmm.τ) (Cert.Nmm.main (F := Bits))) ⟨m, fun _ => 0, g⟩ (fun r => (∀ c : Dev Cert.Nmm.nD,
      r.2.mem ((c.tc : Thread Cert.Nmm.nD Cert.Nmm.τ).loc Cert.Nmm.main_arg0) = m ((c.tc : Thread Cert.Nmm.nD Cert.Nmm.τ).loc Cert.Nmm.main_arg0)
      ∧ r.2.mem ((c.tc : Thread Cert.Nmm.nD Cert.Nmm.τ).loc Cert.Nmm.main_arg1) = m ((c.tc : Thread Cert.Nmm.nD Cert.Nmm.τ).loc Cert.Nmm.main_arg1)
      ∧ r.2.mem ((c.tc : Thread Cert.Nmm.nD Cert.Nmm.τ).loc Cert.Nmm.main_arg2) = m ((c.tc : Thread Cert.Nmm.nD Cert.Nmm.τ).loc Cert.Nmm.main_arg2)
      ∧ r.2.mem ((c.tc : Thread Cert.Nmm.nD Cert.Nmm.τ).loc Cert.Nmm.main_arg3) = m ((c.tc : Thread Cert.Nmm.nD Cert.Nmm.τ).loc Cert.Nmm.main_arg3))
      ∧ r.2.sem = fun _ => 0)

def quiescent_NmmIdeal [hNmmIdeal : Cert.NmmIdeal.Facts] : Prop :=
  ∀ (m : (ℓ : Loc Cert.NmmIdeal.nD Cert.NmmIdeal.τ Cert.NmmIdeal.sig) → Buf (Elt Ideal) ℓ) (g : Dev Cert.NmmIdeal.nD → PrngReg), Pre_NmmIdeal m →
    θ_run (Cert.NmmIdeal.defs (F := Ideal)) (onTc (τ := Cert.NmmIdeal.τ) (Cert.NmmIdeal.main (F := Ideal))) ⟨m, fun _ => 0, g⟩ (fun r => (∀ c : Dev Cert.NmmIdeal.nD,
      r.2.mem ((c.tc : Thread Cert.NmmIdeal.nD Cert.NmmIdeal.τ).loc Cert.NmmIdeal.main_arg0) = m ((c.tc : Thread Cert.NmmIdeal.nD Cert.NmmIdeal.τ).loc Cert.NmmIdeal.main_arg0)
      ∧ r.2.mem ((c.tc : Thread Cert.NmmIdeal.nD Cert.NmmIdeal.τ).loc Cert.NmmIdeal.main_arg1) = m ((c.tc : Thread Cert.NmmIdeal.nD Cert.NmmIdeal.τ).loc Cert.NmmIdeal.main_arg1)
      ∧ r.2.mem ((c.tc : Thread Cert.NmmIdeal.nD Cert.NmmIdeal.τ).loc Cert.NmmIdeal.main_arg2) = m ((c.tc : Thread Cert.NmmIdeal.nD Cert.NmmIdeal.τ).loc Cert.NmmIdeal.main_arg2)
      ∧ r.2.mem ((c.tc : Thread Cert.NmmIdeal.nD Cert.NmmIdeal.τ).loc Cert.NmmIdeal.main_arg3) = m ((c.tc : Thread Cert.NmmIdeal.nD Cert.NmmIdeal.τ).loc Cert.NmmIdeal.main_arg3))
      ∧ r.2.sem = fun _ => 0)

def quiescent_NmmRefIdeal [hNmmRefIdeal : Cert.NmmRefIdeal.Facts] : Prop :=
  ∀ (m : (ℓ : Loc Cert.NmmRefIdeal.nD Cert.NmmRefIdeal.τ Cert.NmmRefIdeal.sig) → Buf (Elt Ideal) ℓ) (g : Dev Cert.NmmRefIdeal.nD → PrngReg), Pre_NmmRefIdeal m →
    θ_run (Cert.NmmRefIdeal.defs (F := Ideal)) (onTc (τ := Cert.NmmRefIdeal.τ) (Cert.NmmRefIdeal.main (F := Ideal))) ⟨m, fun _ => 0, g⟩ (fun r => (∀ c : Dev Cert.NmmRefIdeal.nD,
      r.2.mem ((c.tc : Thread Cert.NmmRefIdeal.nD Cert.NmmRefIdeal.τ).loc Cert.NmmRefIdeal.main_arg0) = m ((c.tc : Thread Cert.NmmRefIdeal.nD Cert.NmmRefIdeal.τ).loc Cert.NmmRefIdeal.main_arg0)
      ∧ r.2.mem ((c.tc : Thread Cert.NmmRefIdeal.nD Cert.NmmRefIdeal.τ).loc Cert.NmmRefIdeal.main_arg1) = m ((c.tc : Thread Cert.NmmRefIdeal.nD Cert.NmmRefIdeal.τ).loc Cert.NmmRefIdeal.main_arg1)
      ∧ r.2.mem ((c.tc : Thread Cert.NmmRefIdeal.nD Cert.NmmRefIdeal.τ).loc Cert.NmmRefIdeal.main_arg2) = m ((c.tc : Thread Cert.NmmRefIdeal.nD Cert.NmmRefIdeal.τ).loc Cert.NmmRefIdeal.main_arg2)
      ∧ r.2.mem ((c.tc : Thread Cert.NmmRefIdeal.nD Cert.NmmRefIdeal.τ).loc Cert.NmmRefIdeal.main_arg3) = m ((c.tc : Thread Cert.NmmRefIdeal.nD Cert.NmmRefIdeal.τ).loc Cert.NmmRefIdeal.main_arg3))
      ∧ r.2.sem = fun _ => 0)

def quiescent_Kvp [hKvp : Cert.Kvp.Facts] : Prop :=
  ∀ (m : (ℓ : Loc Cert.Kvp.nD Cert.Kvp.τ Cert.Kvp.sig) → Buf (Elt Bits) ℓ) (g : Dev Cert.Kvp.nD → PrngReg), Pre_Kvp m →
    θ_run (Cert.Kvp.defs (F := Bits)) (onTc (τ := Cert.Kvp.τ) (Cert.Kvp.main (F := Bits))) ⟨m, fun _ => 0, g⟩ (fun r => (∀ c : Dev Cert.Kvp.nD,
      r.2.mem ((c.tc : Thread Cert.Kvp.nD Cert.Kvp.τ).loc Cert.Kvp.main_arg0) = m ((c.tc : Thread Cert.Kvp.nD Cert.Kvp.τ).loc Cert.Kvp.main_arg0)
      ∧ r.2.mem ((c.tc : Thread Cert.Kvp.nD Cert.Kvp.τ).loc Cert.Kvp.main_arg1) = m ((c.tc : Thread Cert.Kvp.nD Cert.Kvp.τ).loc Cert.Kvp.main_arg1)
      ∧ r.2.mem ((c.tc : Thread Cert.Kvp.nD Cert.Kvp.τ).loc Cert.Kvp.main_arg2) = m ((c.tc : Thread Cert.Kvp.nD Cert.Kvp.τ).loc Cert.Kvp.main_arg2))
      ∧ r.2.sem = fun _ => 0)

def quiescent_KvpIdeal [hKvpIdeal : Cert.KvpIdeal.Facts] : Prop :=
  ∀ (m : (ℓ : Loc Cert.KvpIdeal.nD Cert.KvpIdeal.τ Cert.KvpIdeal.sig) → Buf (Elt Ideal) ℓ) (g : Dev Cert.KvpIdeal.nD → PrngReg), Pre_KvpIdeal m →
    θ_run (Cert.KvpIdeal.defs (F := Ideal)) (onTc (τ := Cert.KvpIdeal.τ) (Cert.KvpIdeal.main (F := Ideal))) ⟨m, fun _ => 0, g⟩ (fun r => (∀ c : Dev Cert.KvpIdeal.nD,
      r.2.mem ((c.tc : Thread Cert.KvpIdeal.nD Cert.KvpIdeal.τ).loc Cert.KvpIdeal.main_arg0) = m ((c.tc : Thread Cert.KvpIdeal.nD Cert.KvpIdeal.τ).loc Cert.KvpIdeal.main_arg0)
      ∧ r.2.mem ((c.tc : Thread Cert.KvpIdeal.nD Cert.KvpIdeal.τ).loc Cert.KvpIdeal.main_arg1) = m ((c.tc : Thread Cert.KvpIdeal.nD Cert.KvpIdeal.τ).loc Cert.KvpIdeal.main_arg1)
      ∧ r.2.mem ((c.tc : Thread Cert.KvpIdeal.nD Cert.KvpIdeal.τ).loc Cert.KvpIdeal.main_arg2) = m ((c.tc : Thread Cert.KvpIdeal.nD Cert.KvpIdeal.τ).loc Cert.KvpIdeal.main_arg2))
      ∧ r.2.sem = fun _ => 0)

def quiescent_KvpRefIdeal [hKvpRefIdeal : Cert.KvpRefIdeal.Facts] : Prop :=
  ∀ (m : (ℓ : Loc Cert.KvpRefIdeal.nD Cert.KvpRefIdeal.τ Cert.KvpRefIdeal.sig) → Buf (Elt Ideal) ℓ) (g : Dev Cert.KvpRefIdeal.nD → PrngReg), Pre_KvpRefIdeal m →
    θ_run (Cert.KvpRefIdeal.defs (F := Ideal)) (onTc (τ := Cert.KvpRefIdeal.τ) (Cert.KvpRefIdeal.main (F := Ideal))) ⟨m, fun _ => 0, g⟩ (fun r => (∀ c : Dev Cert.KvpRefIdeal.nD,
      r.2.mem ((c.tc : Thread Cert.KvpRefIdeal.nD Cert.KvpRefIdeal.τ).loc Cert.KvpRefIdeal.main_arg0) = m ((c.tc : Thread Cert.KvpRefIdeal.nD Cert.KvpRefIdeal.τ).loc Cert.KvpRefIdeal.main_arg0)
      ∧ r.2.mem ((c.tc : Thread Cert.KvpRefIdeal.nD Cert.KvpRefIdeal.τ).loc Cert.KvpRefIdeal.main_arg1) = m ((c.tc : Thread Cert.KvpRefIdeal.nD Cert.KvpRefIdeal.τ).loc Cert.KvpRefIdeal.main_arg1)
      ∧ r.2.mem ((c.tc : Thread Cert.KvpRefIdeal.nD Cert.KvpRefIdeal.τ).loc Cert.KvpRefIdeal.main_arg2) = m ((c.tc : Thread Cert.KvpRefIdeal.nD Cert.KvpRefIdeal.τ).loc Cert.KvpRefIdeal.main_arg2))
      ∧ r.2.sem = fun _ => 0)

def quiescent_Smm [hSmm : Cert.Smm.Facts] : Prop :=
  ∀ (m : (ℓ : Loc Cert.Smm.nD Cert.Smm.τ Cert.Smm.sig) → Buf (Elt Bits) ℓ) (g : Dev Cert.Smm.nD → PrngReg), Pre_Smm m →
    θ_run (Cert.Smm.defs (F := Bits)) (onTc (τ := Cert.Smm.τ) (Cert.Smm.main (F := Bits))) ⟨m, fun _ => 0, g⟩ (fun r => (∀ c : Dev Cert.Smm.nD,
      r.2.mem ((c.tc : Thread Cert.Smm.nD Cert.Smm.τ).loc Cert.Smm.main_arg0) = m ((c.tc : Thread Cert.Smm.nD Cert.Smm.τ).loc Cert.Smm.main_arg0)
      ∧ r.2.mem ((c.tc : Thread Cert.Smm.nD Cert.Smm.τ).loc Cert.Smm.main_arg1) = m ((c.tc : Thread Cert.Smm.nD Cert.Smm.τ).loc Cert.Smm.main_arg1)
      ∧ r.2.mem ((c.tc : Thread Cert.Smm.nD Cert.Smm.τ).loc Cert.Smm.main_arg2) = m ((c.tc : Thread Cert.Smm.nD Cert.Smm.τ).loc Cert.Smm.main_arg2)
      ∧ r.2.mem ((c.tc : Thread Cert.Smm.nD Cert.Smm.τ).loc Cert.Smm.main_arg3) = m ((c.tc : Thread Cert.Smm.nD Cert.Smm.τ).loc Cert.Smm.main_arg3))
      ∧ r.2.sem = fun _ => 0)

def quiescent_SmmIdeal [hSmmIdeal : Cert.SmmIdeal.Facts] : Prop :=
  ∀ (m : (ℓ : Loc Cert.SmmIdeal.nD Cert.SmmIdeal.τ Cert.SmmIdeal.sig) → Buf (Elt Ideal) ℓ) (g : Dev Cert.SmmIdeal.nD → PrngReg), Pre_SmmIdeal m →
    θ_run (Cert.SmmIdeal.defs (F := Ideal)) (onTc (τ := Cert.SmmIdeal.τ) (Cert.SmmIdeal.main (F := Ideal))) ⟨m, fun _ => 0, g⟩ (fun r => (∀ c : Dev Cert.SmmIdeal.nD,
      r.2.mem ((c.tc : Thread Cert.SmmIdeal.nD Cert.SmmIdeal.τ).loc Cert.SmmIdeal.main_arg0) = m ((c.tc : Thread Cert.SmmIdeal.nD Cert.SmmIdeal.τ).loc Cert.SmmIdeal.main_arg0)
      ∧ r.2.mem ((c.tc : Thread Cert.SmmIdeal.nD Cert.SmmIdeal.τ).loc Cert.SmmIdeal.main_arg1) = m ((c.tc : Thread Cert.SmmIdeal.nD Cert.SmmIdeal.τ).loc Cert.SmmIdeal.main_arg1)
      ∧ r.2.mem ((c.tc : Thread Cert.SmmIdeal.nD Cert.SmmIdeal.τ).loc Cert.SmmIdeal.main_arg2) = m ((c.tc : Thread Cert.SmmIdeal.nD Cert.SmmIdeal.τ).loc Cert.SmmIdeal.main_arg2)
      ∧ r.2.mem ((c.tc : Thread Cert.SmmIdeal.nD Cert.SmmIdeal.τ).loc Cert.SmmIdeal.main_arg3) = m ((c.tc : Thread Cert.SmmIdeal.nD Cert.SmmIdeal.τ).loc Cert.SmmIdeal.main_arg3))
      ∧ r.2.sem = fun _ => 0)

def quiescent_SmmRefIdeal [hSmmRefIdeal : Cert.SmmRefIdeal.Facts] : Prop :=
  ∀ (m : (ℓ : Loc Cert.SmmRefIdeal.nD Cert.SmmRefIdeal.τ Cert.SmmRefIdeal.sig) → Buf (Elt Ideal) ℓ) (g : Dev Cert.SmmRefIdeal.nD → PrngReg), Pre_SmmRefIdeal m →
    θ_run (Cert.SmmRefIdeal.defs (F := Ideal)) (onTc (τ := Cert.SmmRefIdeal.τ) (Cert.SmmRefIdeal.main (F := Ideal))) ⟨m, fun _ => 0, g⟩ (fun r => (∀ c : Dev Cert.SmmRefIdeal.nD,
      r.2.mem ((c.tc : Thread Cert.SmmRefIdeal.nD Cert.SmmRefIdeal.τ).loc Cert.SmmRefIdeal.main_arg0) = m ((c.tc : Thread Cert.SmmRefIdeal.nD Cert.SmmRefIdeal.τ).loc Cert.SmmRefIdeal.main_arg0)
      ∧ r.2.mem ((c.tc : Thread Cert.SmmRefIdeal.nD Cert.SmmRefIdeal.τ).loc Cert.SmmRefIdeal.main_arg1) = m ((c.tc : Thread Cert.SmmRefIdeal.nD Cert.SmmRefIdeal.τ).loc Cert.SmmRefIdeal.main_arg1)
      ∧ r.2.mem ((c.tc : Thread Cert.SmmRefIdeal.nD Cert.SmmRefIdeal.τ).loc Cert.SmmRefIdeal.main_arg2) = m ((c.tc : Thread Cert.SmmRefIdeal.nD Cert.SmmRefIdeal.τ).loc Cert.SmmRefIdeal.main_arg2)
      ∧ r.2.mem ((c.tc : Thread Cert.SmmRefIdeal.nD Cert.SmmRefIdeal.τ).loc Cert.SmmRefIdeal.main_arg3) = m ((c.tc : Thread Cert.SmmRefIdeal.nD Cert.SmmRefIdeal.τ).loc Cert.SmmRefIdeal.main_arg3))
      ∧ r.2.sem = fun _ => 0)

def quiescent_Memf [hMemf : Cert.Memf.Facts] : Prop :=
  ∀ (m : (ℓ : Loc Cert.Memf.nD Cert.Memf.τ Cert.Memf.sig) → Buf (Elt Bits) ℓ) (g : Dev Cert.Memf.nD → PrngReg), Pre_Memf m →
    θ_run (Cert.Memf.defs (F := Bits)) (onTc (τ := Cert.Memf.τ) (Cert.Memf.main (F := Bits))) ⟨m, fun _ => 0, g⟩ (fun r => (∀ c : Dev Cert.Memf.nD,
      r.2.mem ((c.tc : Thread Cert.Memf.nD Cert.Memf.τ).loc Cert.Memf.main_arg0) = m ((c.tc : Thread Cert.Memf.nD Cert.Memf.τ).loc Cert.Memf.main_arg0)
      ∧ r.2.mem ((c.tc : Thread Cert.Memf.nD Cert.Memf.τ).loc Cert.Memf.main_arg1) = m ((c.tc : Thread Cert.Memf.nD Cert.Memf.τ).loc Cert.Memf.main_arg1)
      ∧ r.2.mem ((c.tc : Thread Cert.Memf.nD Cert.Memf.τ).loc Cert.Memf.main_arg2) = m ((c.tc : Thread Cert.Memf.nD Cert.Memf.τ).loc Cert.Memf.main_arg2))
      ∧ r.2.sem = fun _ => 0)

def quiescent_MemfIdeal [hMemfIdeal : Cert.MemfIdeal.Facts] : Prop :=
  ∀ (m : (ℓ : Loc Cert.MemfIdeal.nD Cert.MemfIdeal.τ Cert.MemfIdeal.sig) → Buf (Elt Ideal) ℓ) (g : Dev Cert.MemfIdeal.nD → PrngReg), Pre_MemfIdeal m →
    θ_run (Cert.MemfIdeal.defs (F := Ideal)) (onTc (τ := Cert.MemfIdeal.τ) (Cert.MemfIdeal.main (F := Ideal))) ⟨m, fun _ => 0, g⟩ (fun r => (∀ c : Dev Cert.MemfIdeal.nD,
      r.2.mem ((c.tc : Thread Cert.MemfIdeal.nD Cert.MemfIdeal.τ).loc Cert.MemfIdeal.main_arg0) = m ((c.tc : Thread Cert.MemfIdeal.nD Cert.MemfIdeal.τ).loc Cert.MemfIdeal.main_arg0)
      ∧ r.2.mem ((c.tc : Thread Cert.MemfIdeal.nD Cert.MemfIdeal.τ).loc Cert.MemfIdeal.main_arg1) = m ((c.tc : Thread Cert.MemfIdeal.nD Cert.MemfIdeal.τ).loc Cert.MemfIdeal.main_arg1)
      ∧ r.2.mem ((c.tc : Thread Cert.MemfIdeal.nD Cert.MemfIdeal.τ).loc Cert.MemfIdeal.main_arg2) = m ((c.tc : Thread Cert.MemfIdeal.nD Cert.MemfIdeal.τ).loc Cert.MemfIdeal.main_arg2))
      ∧ r.2.sem = fun _ => 0)

def quiescent_MemfRefIdeal [hMemfRefIdeal : Cert.MemfRefIdeal.Facts] : Prop :=
  ∀ (m : (ℓ : Loc Cert.MemfRefIdeal.nD Cert.MemfRefIdeal.τ Cert.MemfRefIdeal.sig) → Buf (Elt Ideal) ℓ) (g : Dev Cert.MemfRefIdeal.nD → PrngReg), Pre_MemfRefIdeal m →
    θ_run (Cert.MemfRefIdeal.defs (F := Ideal)) (onTc (τ := Cert.MemfRefIdeal.τ) (Cert.MemfRefIdeal.main (F := Ideal))) ⟨m, fun _ => 0, g⟩ (fun r => (∀ c : Dev Cert.MemfRefIdeal.nD,
      r.2.mem ((c.tc : Thread Cert.MemfRefIdeal.nD Cert.MemfRefIdeal.τ).loc Cert.MemfRefIdeal.main_arg0) = m ((c.tc : Thread Cert.MemfRefIdeal.nD Cert.MemfRefIdeal.τ).loc Cert.MemfRefIdeal.main_arg0)
      ∧ r.2.mem ((c.tc : Thread Cert.MemfRefIdeal.nD Cert.MemfRefIdeal.τ).loc Cert.MemfRefIdeal.main_arg1) = m ((c.tc : Thread Cert.MemfRefIdeal.nD Cert.MemfRefIdeal.τ).loc Cert.MemfRefIdeal.main_arg1)
      ∧ r.2.mem ((c.tc : Thread Cert.MemfRefIdeal.nD Cert.MemfRefIdeal.τ).loc Cert.MemfRefIdeal.main_arg2) = m ((c.tc : Thread Cert.MemfRefIdeal.nD Cert.MemfRefIdeal.τ).loc Cert.MemfRefIdeal.main_arg2))
      ∧ r.2.sem = fun _ => 0)

def quiescent_Gmf [hGmf : Cert.Gmf.Facts] : Prop :=
  ∀ (m : (ℓ : Loc Cert.Gmf.nD Cert.Gmf.τ Cert.Gmf.sig) → Buf (Elt Bits) ℓ) (g : Dev Cert.Gmf.nD → PrngReg), Pre_Gmf m →
    θ_run (Cert.Gmf.defs (F := Bits)) (onTc (τ := Cert.Gmf.τ) (Cert.Gmf.main (F := Bits))) ⟨m, fun _ => 0, g⟩ (fun r => (∀ c : Dev Cert.Gmf.nD,
      r.2.mem ((c.tc : Thread Cert.Gmf.nD Cert.Gmf.τ).loc Cert.Gmf.main_arg0) = m ((c.tc : Thread Cert.Gmf.nD Cert.Gmf.τ).loc Cert.Gmf.main_arg0)
      ∧ r.2.mem ((c.tc : Thread Cert.Gmf.nD Cert.Gmf.τ).loc Cert.Gmf.main_arg1) = m ((c.tc : Thread Cert.Gmf.nD Cert.Gmf.τ).loc Cert.Gmf.main_arg1)
      ∧ r.2.mem ((c.tc : Thread Cert.Gmf.nD Cert.Gmf.τ).loc Cert.Gmf.main_arg2) = m ((c.tc : Thread Cert.Gmf.nD Cert.Gmf.τ).loc Cert.Gmf.main_arg2)
      ∧ r.2.mem ((c.tc : Thread Cert.Gmf.nD Cert.Gmf.τ).loc Cert.Gmf.main_arg3) = m ((c.tc : Thread Cert.Gmf.nD Cert.Gmf.τ).loc Cert.Gmf.main_arg3))
      ∧ r.2.sem = fun _ => 0)

def quiescent_GmfIdeal [hGmfIdeal : Cert.GmfIdeal.Facts] : Prop :=
  ∀ (m : (ℓ : Loc Cert.GmfIdeal.nD Cert.GmfIdeal.τ Cert.GmfIdeal.sig) → Buf (Elt Ideal) ℓ) (g : Dev Cert.GmfIdeal.nD → PrngReg), Pre_GmfIdeal m →
    θ_run (Cert.GmfIdeal.defs (F := Ideal)) (onTc (τ := Cert.GmfIdeal.τ) (Cert.GmfIdeal.main (F := Ideal))) ⟨m, fun _ => 0, g⟩ (fun r => (∀ c : Dev Cert.GmfIdeal.nD,
      r.2.mem ((c.tc : Thread Cert.GmfIdeal.nD Cert.GmfIdeal.τ).loc Cert.GmfIdeal.main_arg0) = m ((c.tc : Thread Cert.GmfIdeal.nD Cert.GmfIdeal.τ).loc Cert.GmfIdeal.main_arg0)
      ∧ r.2.mem ((c.tc : Thread Cert.GmfIdeal.nD Cert.GmfIdeal.τ).loc Cert.GmfIdeal.main_arg1) = m ((c.tc : Thread Cert.GmfIdeal.nD Cert.GmfIdeal.τ).loc Cert.GmfIdeal.main_arg1)
      ∧ r.2.mem ((c.tc : Thread Cert.GmfIdeal.nD Cert.GmfIdeal.τ).loc Cert.GmfIdeal.main_arg2) = m ((c.tc : Thread Cert.GmfIdeal.nD Cert.GmfIdeal.τ).loc Cert.GmfIdeal.main_arg2)
      ∧ r.2.mem ((c.tc : Thread Cert.GmfIdeal.nD Cert.GmfIdeal.τ).loc Cert.GmfIdeal.main_arg3) = m ((c.tc : Thread Cert.GmfIdeal.nD Cert.GmfIdeal.τ).loc Cert.GmfIdeal.main_arg3))
      ∧ r.2.sem = fun _ => 0)

def quiescent_GmfRefIdeal [hGmfRefIdeal : Cert.GmfRefIdeal.Facts] : Prop :=
  ∀ (m : (ℓ : Loc Cert.GmfRefIdeal.nD Cert.GmfRefIdeal.τ Cert.GmfRefIdeal.sig) → Buf (Elt Ideal) ℓ) (g : Dev Cert.GmfRefIdeal.nD → PrngReg), Pre_GmfRefIdeal m →
    θ_run (Cert.GmfRefIdeal.defs (F := Ideal)) (onTc (τ := Cert.GmfRefIdeal.τ) (Cert.GmfRefIdeal.main (F := Ideal))) ⟨m, fun _ => 0, g⟩ (fun r => (∀ c : Dev Cert.GmfRefIdeal.nD,
      r.2.mem ((c.tc : Thread Cert.GmfRefIdeal.nD Cert.GmfRefIdeal.τ).loc Cert.GmfRefIdeal.main_arg0) = m ((c.tc : Thread Cert.GmfRefIdeal.nD Cert.GmfRefIdeal.τ).loc Cert.GmfRefIdeal.main_arg0)
      ∧ r.2.mem ((c.tc : Thread Cert.GmfRefIdeal.nD Cert.GmfRefIdeal.τ).loc Cert.GmfRefIdeal.main_arg1) = m ((c.tc : Thread Cert.GmfRefIdeal.nD Cert.GmfRefIdeal.τ).loc Cert.GmfRefIdeal.main_arg1)
      ∧ r.2.mem ((c.tc : Thread Cert.GmfRefIdeal.nD Cert.GmfRefIdeal.τ).loc Cert.GmfRefIdeal.main_arg2) = m ((c.tc : Thread Cert.GmfRefIdeal.nD Cert.GmfRefIdeal.τ).loc Cert.GmfRefIdeal.main_arg2)
      ∧ r.2.mem ((c.tc : Thread Cert.GmfRefIdeal.nD Cert.GmfRefIdeal.τ).loc Cert.GmfRefIdeal.main_arg3) = m ((c.tc : Thread Cert.GmfRefIdeal.nD Cert.GmfRefIdeal.τ).loc Cert.GmfRefIdeal.main_arg3))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Ksum [hKsum : Cert.Ksum.Facts] : Prop :=
  ∀ (m : (ℓ : Loc Cert.Ksum.nD Cert.Ksum.τ Cert.Ksum.sig) → Buf (Elt Bits) ℓ) (g : Dev Cert.Ksum.nD → PrngReg), Pre_Ksum m →
    θ_run (Cert.Ksum.defs (F := Bits)) (onTc (τ := Cert.Ksum.τ) (Cert.Ksum.main (F := Bits))) ⟨m, fun _ => 0, g⟩ (fun r => (∀ c : Dev Cert.Ksum.nD,
      r.2.mem ((c.tc : Thread Cert.Ksum.nD Cert.Ksum.τ).loc Cert.Ksum.main_arg0) = m ((c.tc : Thread Cert.Ksum.nD Cert.Ksum.τ).loc Cert.Ksum.main_arg0)
      ∧ r.2.mem ((c.tc : Thread Cert.Ksum.nD Cert.Ksum.τ).loc Cert.Ksum.main_arg1) = m ((c.tc : Thread Cert.Ksum.nD Cert.Ksum.τ).loc Cert.Ksum.main_arg1))
      ∧ r.2.sem = fun _ => 0)

def quiescent_KsumIdeal [hKsumIdeal : Cert.KsumIdeal.Facts] : Prop :=
  ∀ (m : (ℓ : Loc Cert.KsumIdeal.nD Cert.KsumIdeal.τ Cert.KsumIdeal.sig) → Buf (Elt Ideal) ℓ) (g : Dev Cert.KsumIdeal.nD → PrngReg), Pre_KsumIdeal m →
    θ_run (Cert.KsumIdeal.defs (F := Ideal)) (onTc (τ := Cert.KsumIdeal.τ) (Cert.KsumIdeal.main (F := Ideal))) ⟨m, fun _ => 0, g⟩ (fun r => (∀ c : Dev Cert.KsumIdeal.nD,
      r.2.mem ((c.tc : Thread Cert.KsumIdeal.nD Cert.KsumIdeal.τ).loc Cert.KsumIdeal.main_arg0) = m ((c.tc : Thread Cert.KsumIdeal.nD Cert.KsumIdeal.τ).loc Cert.KsumIdeal.main_arg0)
      ∧ r.2.mem ((c.tc : Thread Cert.KsumIdeal.nD Cert.KsumIdeal.τ).loc Cert.KsumIdeal.main_arg1) = m ((c.tc : Thread Cert.KsumIdeal.nD Cert.KsumIdeal.τ).loc Cert.KsumIdeal.main_arg1))
      ∧ r.2.sem = fun _ => 0)

def quiescent_KsumRefIdeal [hKsumRefIdeal : Cert.KsumRefIdeal.Facts] : Prop :=
  ∀ (m : (ℓ : Loc Cert.KsumRefIdeal.nD Cert.KsumRefIdeal.τ Cert.KsumRefIdeal.sig) → Buf (Elt Ideal) ℓ) (g : Dev Cert.KsumRefIdeal.nD → PrngReg), Pre_KsumRefIdeal m →
    θ_run (Cert.KsumRefIdeal.defs (F := Ideal)) (onTc (τ := Cert.KsumRefIdeal.τ) (Cert.KsumRefIdeal.main (F := Ideal))) ⟨m, fun _ => 0, g⟩ (fun r => (∀ c : Dev Cert.KsumRefIdeal.nD,
      r.2.mem ((c.tc : Thread Cert.KsumRefIdeal.nD Cert.KsumRefIdeal.τ).loc Cert.KsumRefIdeal.main_arg0) = m ((c.tc : Thread Cert.KsumRefIdeal.nD Cert.KsumRefIdeal.τ).loc Cert.KsumRefIdeal.main_arg0)
      ∧ r.2.mem ((c.tc : Thread Cert.KsumRefIdeal.nD Cert.KsumRefIdeal.τ).loc Cert.KsumRefIdeal.main_arg1) = m ((c.tc : Thread Cert.KsumRefIdeal.nD Cert.KsumRefIdeal.τ).loc Cert.KsumRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v10) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Stick_StickIdeal : Prop :=
  IdealRules.named_const.Statement Cert.StickIdeal.κ "dead" .f32 0xC2DC0000#32 ⊥

def algebraic_StickIdeal_StickRefIdeal_on_stick_written_pre_stick_finite [hStickIdeal : Cert.StickIdeal.Facts] [hStickRefIdeal : Cert.StickRefIdeal.Facts] [hPre_stick_finite : Cert.Pre_stick_finite.Facts] [hOn_stick_written : Cert.On_stick_written.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_stick_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)
      ∧ m' ((c.tc : Thread Cert.StickRefIdeal.nD Cert.StickRefIdeal.τ).loc Cert.StickRefIdeal.main_arg3) = m ((c.tc : Thread Cert.StickIdeal.nD Cert.StickIdeal.τ).loc Cert.StickIdeal.main_arg3)) →
    ∃ (v0 : (c : Dev Cert.StickIdeal.nD) → Buf (Elt Ideal) ((c.tc : Thread Cert.StickIdeal.nD Cert.StickIdeal.τ).loc Cert.StickIdeal.main_v31_0)) (v1 : (c : Dev Cert.StickIdeal.nD) → Buf (Elt Ideal) ((c.tc : Thread Cert.StickIdeal.nD Cert.StickIdeal.τ).loc Cert.StickIdeal.main_v31_1)) (v2 : (c : Dev Cert.StickIdeal.nD) → Buf (Elt Ideal) ((c.tc : Thread Cert.StickIdeal.nD Cert.StickIdeal.τ).loc Cert.StickIdeal.main_v31_2)),
      θ_run (Cert.StickIdeal.defs (F := Ideal)) (onTc (τ := Cert.StickIdeal.τ) (Cert.StickIdeal.main (F := Ideal))) ⟨m, fun _ => 0, g⟩ (fun r => ∀ c : Dev Cert.StickIdeal.nD,
          (∀ i : (⟨2, ![8192, 1024]⟩ : Shape).Idx, (Cert.On_stick_written.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).1 i = 1#1 → r.2.mem ((c.tc : Thread Cert.StickIdeal.nD Cert.StickIdeal.τ).loc Cert.StickIdeal.main_v31_0) i = v0 c i)
          ∧ (∀ i : (⟨2, ![8192, 768]⟩ : Shape).Idx, (Cert.On_stick_written.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).2.1 i = 1#1 → r.2.mem ((c.tc : Thread Cert.StickIdeal.nD Cert.StickIdeal.τ).loc Cert.StickIdeal.main_v31_1) i = v1 c i)
          ∧ (∀ i : (⟨2, ![8192, 768]⟩ : Shape).Idx, (Cert.On_stick_written.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).2.2 i = 1#1 → r.2.mem ((c.tc : Thread Cert.StickIdeal.nD Cert.StickIdeal.τ).loc Cert.StickIdeal.main_v31_2) i = v2 c i)
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
          ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          (∀ i : (⟨2, ![8192, 1024]⟩ : Shape).Idx, (Cert.On_stick_written.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).1 i = 1#1 → r.2.mem ((c.tc : Thread Cert.StickRefIdeal.nD Cert.StickRefIdeal.τ).loc Cert.StickRefIdeal.main_v51) i = v0 c i)
          ∧ (∀ i : (⟨2, ![8192, 768]⟩ : Shape).Idx, (Cert.On_stick_written.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).2.1 i = 1#1 → r.2.mem ((c.tc : Thread Cert.StickRefIdeal.nD Cert.StickRefIdeal.τ).loc Cert.StickRefIdeal.main_v48) i = v1 c i)
          ∧ (∀ i : (⟨2, ![8192, 768]⟩ : Shape).Idx, (Cert.On_stick_written.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).2.2 i = 1#1 → r.2.mem ((c.tc : Thread Cert.StickRefIdeal.nD Cert.StickRefIdeal.τ).loc Cert.StickRefIdeal.main_v47) i = v2 c i)
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2)
          ∧ r.2.mem ((c.tc : Thread Cert.StickRefIdeal.nD Cert.StickRefIdeal.τ).loc Cert.StickRefIdeal.main_arg3) = m' ((c.tc : Thread Cert.StickRefIdeal.nD Cert.StickRefIdeal.τ).loc Cert.StickRefIdeal.main_arg3))

def preserves_Walk_WalkIdeal : Prop :=
  IdealRules.named_const.Statement Cert.WalkIdeal.κ "dead" .f32 0xC2DC0000#32 ⊥

def algebraic_WalkIdeal_WalkRefIdeal_on_walk_written_pre_walk_finite [hWalkIdeal : Cert.WalkIdeal.Facts] [hWalkRefIdeal : Cert.WalkRefIdeal.Facts] [hPre_walk_finite : Cert.Pre_walk_finite.Facts] [hOn_walk_written : Cert.On_walk_written.Facts] : Prop :=
  ∀ (m : (ℓ : Loc Cert.WalkIdeal.nD Cert.WalkIdeal.τ Cert.WalkIdeal.sig) → Buf (Elt Ideal) ℓ) (g : Dev Cert.WalkIdeal.nD → PrngReg)
    (m' : (ℓ : Loc Cert.WalkRefIdeal.nD Cert.WalkRefIdeal.τ Cert.WalkRefIdeal.sig) → Buf (Elt Ideal) ℓ) (g' : Dev Cert.WalkRefIdeal.nD → PrngReg), Pre_WalkIdeal_walk_finite m →
    (∀ c : Dev Cert.WalkIdeal.nD,
      m' ((c.tc : Thread Cert.WalkRefIdeal.nD Cert.WalkRefIdeal.τ).loc Cert.WalkRefIdeal.main_arg0) = m ((c.tc : Thread Cert.WalkIdeal.nD Cert.WalkIdeal.τ).loc Cert.WalkIdeal.main_arg0)
      ∧ m' ((c.tc : Thread Cert.WalkRefIdeal.nD Cert.WalkRefIdeal.τ).loc Cert.WalkRefIdeal.main_arg1) = m ((c.tc : Thread Cert.WalkIdeal.nD Cert.WalkIdeal.τ).loc Cert.WalkIdeal.main_arg1)
      ∧ m' ((c.tc : Thread Cert.WalkRefIdeal.nD Cert.WalkRefIdeal.τ).loc Cert.WalkRefIdeal.main_arg2) = m ((c.tc : Thread Cert.WalkIdeal.nD Cert.WalkIdeal.τ).loc Cert.WalkIdeal.main_arg2)) →
    ∃ (v0 : (c : Dev Cert.WalkIdeal.nD) → Buf (Elt Ideal) ((c.tc : Thread Cert.WalkIdeal.nD Cert.WalkIdeal.τ).loc Cert.WalkIdeal.main_v4_0)) (v1 : (c : Dev Cert.WalkIdeal.nD) → Buf (Elt Ideal) ((c.tc : Thread Cert.WalkIdeal.nD Cert.WalkIdeal.τ).loc Cert.WalkIdeal.main_v4_1)),
      θ_run (Cert.WalkIdeal.defs (F := Ideal)) (onTc (τ := Cert.WalkIdeal.τ) (Cert.WalkIdeal.main (F := Ideal))) ⟨m, fun _ => 0, g⟩ (fun r => ∀ c : Dev Cert.WalkIdeal.nD,
          (∀ i : (⟨2, ![8192, 768]⟩ : Shape).Idx, (Cert.On_walk_written.fn (F := Ideal) (m ((c.tc : Thread Cert.WalkIdeal.nD Cert.WalkIdeal.τ).loc Cert.WalkIdeal.main_arg0)) (m ((c.tc : Thread Cert.WalkIdeal.nD Cert.WalkIdeal.τ).loc Cert.WalkIdeal.main_arg1)) (m ((c.tc : Thread Cert.WalkIdeal.nD Cert.WalkIdeal.τ).loc Cert.WalkIdeal.main_arg2))).1 i = 1#1 → r.2.mem ((c.tc : Thread Cert.WalkIdeal.nD Cert.WalkIdeal.τ).loc Cert.WalkIdeal.main_v4_0) i = v0 c i)
          ∧ (∀ i : (⟨2, ![8192, 1024]⟩ : Shape).Idx, (Cert.On_walk_written.fn (F := Ideal) (m ((c.tc : Thread Cert.WalkIdeal.nD Cert.WalkIdeal.τ).loc Cert.WalkIdeal.main_arg0)) (m ((c.tc : Thread Cert.WalkIdeal.nD Cert.WalkIdeal.τ).loc Cert.WalkIdeal.main_arg1)) (m ((c.tc : Thread Cert.WalkIdeal.nD Cert.WalkIdeal.τ).loc Cert.WalkIdeal.main_arg2))).2 i = 1#1 → r.2.mem ((c.tc : Thread Cert.WalkIdeal.nD Cert.WalkIdeal.τ).loc Cert.WalkIdeal.main_v4_1) i = v1 c i)
          ∧ r.2.mem ((c.tc : Thread Cert.WalkIdeal.nD Cert.WalkIdeal.τ).loc Cert.WalkIdeal.main_arg0) = m ((c.tc : Thread Cert.WalkIdeal.nD Cert.WalkIdeal.τ).loc Cert.WalkIdeal.main_arg0)
          ∧ r.2.mem ((c.tc : Thread Cert.WalkIdeal.nD Cert.WalkIdeal.τ).loc Cert.WalkIdeal.main_arg1) = m ((c.tc : Thread Cert.WalkIdeal.nD Cert.WalkIdeal.τ).loc Cert.WalkIdeal.main_arg1)
          ∧ r.2.mem ((c.tc : Thread Cert.WalkIdeal.nD Cert.WalkIdeal.τ).loc Cert.WalkIdeal.main_arg2) = m ((c.tc : Thread Cert.WalkIdeal.nD Cert.WalkIdeal.τ).loc Cert.WalkIdeal.main_arg2))
      ∧ θ_run (Cert.WalkRefIdeal.defs (F := Ideal)) (onTc (τ := Cert.WalkRefIdeal.τ) (Cert.WalkRefIdeal.main (F := Ideal))) ⟨m', fun _ => 0, g'⟩ (fun r => ∀ c : Dev Cert.WalkRefIdeal.nD,
          (∀ i : (⟨2, ![8192, 768]⟩ : Shape).Idx, (Cert.On_walk_written.fn (F := Ideal) (m ((c.tc : Thread Cert.WalkIdeal.nD Cert.WalkIdeal.τ).loc Cert.WalkIdeal.main_arg0)) (m ((c.tc : Thread Cert.WalkIdeal.nD Cert.WalkIdeal.τ).loc Cert.WalkIdeal.main_arg1)) (m ((c.tc : Thread Cert.WalkIdeal.nD Cert.WalkIdeal.τ).loc Cert.WalkIdeal.main_arg2))).1 i = 1#1 → r.2.mem ((c.tc : Thread Cert.WalkRefIdeal.nD Cert.WalkRefIdeal.τ).loc Cert.WalkRefIdeal.main_v24) i = v0 c i)
          ∧ (∀ i : (⟨2, ![8192, 1024]⟩ : Shape).Idx, (Cert.On_walk_written.fn (F := Ideal) (m ((c.tc : Thread Cert.WalkIdeal.nD Cert.WalkIdeal.τ).loc Cert.WalkIdeal.main_arg0)) (m ((c.tc : Thread Cert.WalkIdeal.nD Cert.WalkIdeal.τ).loc Cert.WalkIdeal.main_arg1)) (m ((c.tc : Thread Cert.WalkIdeal.nD Cert.WalkIdeal.τ).loc Cert.WalkIdeal.main_arg2))).2 i = 1#1 → r.2.mem ((c.tc : Thread Cert.WalkRefIdeal.nD Cert.WalkRefIdeal.τ).loc Cert.WalkRefIdeal.main_v26) i = v1 c i)
          ∧ r.2.mem ((c.tc : Thread Cert.WalkRefIdeal.nD Cert.WalkRefIdeal.τ).loc Cert.WalkRefIdeal.main_arg0) = m' ((c.tc : Thread Cert.WalkRefIdeal.nD Cert.WalkRefIdeal.τ).loc Cert.WalkRefIdeal.main_arg0)
          ∧ r.2.mem ((c.tc : Thread Cert.WalkRefIdeal.nD Cert.WalkRefIdeal.τ).loc Cert.WalkRefIdeal.main_arg1) = m' ((c.tc : Thread Cert.WalkRefIdeal.nD Cert.WalkRefIdeal.τ).loc Cert.WalkRefIdeal.main_arg1)
          ∧ r.2.mem ((c.tc : Thread Cert.WalkRefIdeal.nD Cert.WalkRefIdeal.τ).loc Cert.WalkRefIdeal.main_arg2) = m' ((c.tc : Thread Cert.WalkRefIdeal.nD Cert.WalkRefIdeal.τ).loc Cert.WalkRefIdeal.main_arg2))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v7_0)) (v1 : (c : Dev Cert.NormIdeal.nD) → Buf (Elt Ideal) ((c.tc : Thread Cert.NormIdeal.nD Cert.NormIdeal.τ).loc Cert.NormIdeal.main_v7_1)) (v2 : (c : Dev Cert.NormIdeal.nD) → Buf (Elt Ideal) ((c.tc : Thread Cert.NormIdeal.nD Cert.NormIdeal.τ).loc Cert.NormIdeal.main_v7_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7_0) = v0 c
          ∧ r.2.mem ((c.tc : Thread Cert.NormIdeal.nD Cert.NormIdeal.τ).loc Cert.NormIdeal.main_v7_1) = v1 c
          ∧ r.2.mem ((c.tc : Thread Cert.NormIdeal.nD Cert.NormIdeal.τ).loc Cert.NormIdeal.main_v7_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v41) = v0 c
          ∧ r.2.mem ((c.tc : Thread Cert.NormRefIdeal.nD Cert.NormRefIdeal.τ).loc Cert.NormRefIdeal.main_v42) = v1 c
          ∧ r.2.mem ((c.tc : Thread Cert.NormRefIdeal.nD Cert.NormRefIdeal.τ).loc Cert.NormRefIdeal.main_v56) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)) (v2 : (c : Dev Cert.MixIdeal.nD) → Buf (Elt Ideal) ((c.tc : Thread Cert.MixIdeal.nD Cert.MixIdeal.τ).loc Cert.MixIdeal.main_v3_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_v3_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v38) = v0 c
          ∧ r.2.mem ((c.tc : Thread Cert.MixRefIdeal.nD Cert.MixRefIdeal.τ).loc Cert.MixRefIdeal.main_v39) = v1 c
          ∧ r.2.mem ((c.tc : Thread Cert.MixRefIdeal.nD Cert.MixRefIdeal.τ).loc Cert.MixRefIdeal.main_v53) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Mixb_MixbIdeal : Prop :=
  True

def algebraic_MixbIdeal_MixbRefIdeal_pre_mixb_finite [hMixbIdeal : Cert.MixbIdeal.Facts] [hMixbRefIdeal : Cert.MixbRefIdeal.Facts] [hPre_mixb_finite : Cert.Pre_mixb_finite.Facts] : Prop :=
  ∀ (m : (ℓ : Loc Cert.MixbIdeal.nD Cert.MixbIdeal.τ Cert.MixbIdeal.sig) → Buf (Elt Ideal) ℓ) (g : Dev Cert.MixbIdeal.nD → PrngReg)
    (m' : (ℓ : Loc Cert.MixbRefIdeal.nD Cert.MixbRefIdeal.τ Cert.MixbRefIdeal.sig) → Buf (Elt Ideal) ℓ) (g' : Dev Cert.MixbRefIdeal.nD → PrngReg), Pre_MixbIdeal_mixb_finite m →
    (∀ c : Dev Cert.MixbIdeal.nD,
      m' ((c.tc : Thread Cert.MixbRefIdeal.nD Cert.MixbRefIdeal.τ).loc Cert.MixbRefIdeal.main_arg0) = m ((c.tc : Thread Cert.MixbIdeal.nD Cert.MixbIdeal.τ).loc Cert.MixbIdeal.main_arg0)
      ∧ m' ((c.tc : Thread Cert.MixbRefIdeal.nD Cert.MixbRefIdeal.τ).loc Cert.MixbRefIdeal.main_arg1) = m ((c.tc : Thread Cert.MixbIdeal.nD Cert.MixbIdeal.τ).loc Cert.MixbIdeal.main_arg1)
      ∧ m' ((c.tc : Thread Cert.MixbRefIdeal.nD Cert.MixbRefIdeal.τ).loc Cert.MixbRefIdeal.main_arg2) = m ((c.tc : Thread Cert.MixbIdeal.nD Cert.MixbIdeal.τ).loc Cert.MixbIdeal.main_arg2)
      ∧ m' ((c.tc : Thread Cert.MixbRefIdeal.nD Cert.MixbRefIdeal.τ).loc Cert.MixbRefIdeal.main_arg3) = m ((c.tc : Thread Cert.MixbIdeal.nD Cert.MixbIdeal.τ).loc Cert.MixbIdeal.main_arg3)
      ∧ m' ((c.tc : Thread Cert.MixbRefIdeal.nD Cert.MixbRefIdeal.τ).loc Cert.MixbRefIdeal.main_arg4) = m ((c.tc : Thread Cert.MixbIdeal.nD Cert.MixbIdeal.τ).loc Cert.MixbIdeal.main_arg4)) →
    ∃ (v0 : (c : Dev Cert.MixbIdeal.nD) → Buf (Elt Ideal) ((c.tc : Thread Cert.MixbIdeal.nD Cert.MixbIdeal.τ).loc Cert.MixbIdeal.main_v3_0)) (v1 : (c : Dev Cert.MixbIdeal.nD) → Buf (Elt Ideal) ((c.tc : Thread Cert.MixbIdeal.nD Cert.MixbIdeal.τ).loc Cert.MixbIdeal.main_v3_1)) (v2 : (c : Dev Cert.MixbIdeal.nD) → Buf (Elt Ideal) ((c.tc : Thread Cert.MixbIdeal.nD Cert.MixbIdeal.τ).loc Cert.MixbIdeal.main_v3_2)),
      θ_run (Cert.MixbIdeal.defs (F := Ideal)) (onTc (τ := Cert.MixbIdeal.τ) (Cert.MixbIdeal.main (F := Ideal))) ⟨m, fun _ => 0, g⟩ (fun r => ∀ c : Dev Cert.MixbIdeal.nD,
          r.2.mem ((c.tc : Thread Cert.MixbIdeal.nD Cert.MixbIdeal.τ).loc Cert.MixbIdeal.main_v3_0) = v0 c
          ∧ r.2.mem ((c.tc : Thread Cert.MixbIdeal.nD Cert.MixbIdeal.τ).loc Cert.MixbIdeal.main_v3_1) = v1 c
          ∧ r.2.mem ((c.tc : Thread Cert.MixbIdeal.nD Cert.MixbIdeal.τ).loc Cert.MixbIdeal.main_v3_2) = v2 c
          ∧ r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
          ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
          ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
          ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
          ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4))
      ∧ θ_run (Cert.MixbRefIdeal.defs (F := Ideal)) (onTc (τ := Cert.MixbRefIdeal.τ) (Cert.MixbRefIdeal.main (F := Ideal))) ⟨m', fun _ => 0, g'⟩ (fun r => ∀ c : Dev Cert.MixbRefIdeal.nD,
          r.2.mem ((c.tc : Thread Cert.MixbRefIdeal.nD Cert.MixbRefIdeal.τ).loc Cert.MixbRefIdeal.main_v38) = v0 c
          ∧ r.2.mem ((c.tc : Thread Cert.MixbRefIdeal.nD Cert.MixbRefIdeal.τ).loc Cert.MixbRefIdeal.main_v39) = v1 c
          ∧ r.2.mem ((c.tc : Thread Cert.MixbRefIdeal.nD Cert.MixbRefIdeal.τ).loc Cert.MixbRefIdeal.main_v53) = v2 c
          ∧ r.2.mem ((c.tc : Thread Cert.MixbRefIdeal.nD Cert.MixbRefIdeal.τ).loc Cert.MixbRefIdeal.main_arg0) = m' ((c.tc : Thread Cert.MixbRefIdeal.nD Cert.MixbRefIdeal.τ).loc Cert.MixbRefIdeal.main_arg0)
          ∧ r.2.mem ((c.tc : Thread Cert.MixbRefIdeal.nD Cert.MixbRefIdeal.τ).loc Cert.MixbRefIdeal.main_arg1) = m' ((c.tc : Thread Cert.MixbRefIdeal.nD Cert.MixbRefIdeal.τ).loc Cert.MixbRefIdeal.main_arg1)
          ∧ r.2.mem ((c.tc : Thread Cert.MixbRefIdeal.nD Cert.MixbRefIdeal.τ).loc Cert.MixbRefIdeal.main_arg2) = m' ((c.tc : Thread Cert.MixbRefIdeal.nD Cert.MixbRefIdeal.τ).loc Cert.MixbRefIdeal.main_arg2)
          ∧ r.2.mem ((c.tc : Thread Cert.MixbRefIdeal.nD Cert.MixbRefIdeal.τ).loc Cert.MixbRefIdeal.main_arg3) = m' ((c.tc : Thread Cert.MixbRefIdeal.nD Cert.MixbRefIdeal.τ).loc Cert.MixbRefIdeal.main_arg3)
          ∧ r.2.mem ((c.tc : Thread Cert.MixbRefIdeal.nD Cert.MixbRefIdeal.τ).loc Cert.MixbRefIdeal.main_arg4) = m' ((c.tc : Thread Cert.MixbRefIdeal.nD Cert.MixbRefIdeal.τ).loc Cert.MixbRefIdeal.main_arg4))

def preserves_Mnorm_MnormIdeal : Prop :=
  True

def algebraic_MnormIdeal_MnormRefIdeal_pre_mnorm_finite [hMnormIdeal : Cert.MnormIdeal.Facts] [hMnormRefIdeal : Cert.MnormRefIdeal.Facts] [hPre_mnorm_finite : Cert.Pre_mnorm_finite.Facts] : Prop :=
  ∀ (m : (ℓ : Loc Cert.MnormIdeal.nD Cert.MnormIdeal.τ Cert.MnormIdeal.sig) → Buf (Elt Ideal) ℓ) (g : Dev Cert.MnormIdeal.nD → PrngReg)
    (m' : (ℓ : Loc Cert.MnormRefIdeal.nD Cert.MnormRefIdeal.τ Cert.MnormRefIdeal.sig) → Buf (Elt Ideal) ℓ) (g' : Dev Cert.MnormRefIdeal.nD → PrngReg), Pre_MnormIdeal_mnorm_finite m →
    (∀ c : Dev Cert.MnormIdeal.nD,
      m' ((c.tc : Thread Cert.MnormRefIdeal.nD Cert.MnormRefIdeal.τ).loc Cert.MnormRefIdeal.main_arg0) = m ((c.tc : Thread Cert.MnormIdeal.nD Cert.MnormIdeal.τ).loc Cert.MnormIdeal.main_arg0)
      ∧ m' ((c.tc : Thread Cert.MnormRefIdeal.nD Cert.MnormRefIdeal.τ).loc Cert.MnormRefIdeal.main_arg1) = m ((c.tc : Thread Cert.MnormIdeal.nD Cert.MnormIdeal.τ).loc Cert.MnormIdeal.main_arg1)
      ∧ m' ((c.tc : Thread Cert.MnormRefIdeal.nD Cert.MnormRefIdeal.τ).loc Cert.MnormRefIdeal.main_arg2) = m ((c.tc : Thread Cert.MnormIdeal.nD Cert.MnormIdeal.τ).loc Cert.MnormIdeal.main_arg2)
      ∧ m' ((c.tc : Thread Cert.MnormRefIdeal.nD Cert.MnormRefIdeal.τ).loc Cert.MnormRefIdeal.main_arg3) = m ((c.tc : Thread Cert.MnormIdeal.nD Cert.MnormIdeal.τ).loc Cert.MnormIdeal.main_arg3)) →
    ∃ (v0 : (c : Dev Cert.MnormIdeal.nD) → Buf (Elt Ideal) ((c.tc : Thread Cert.MnormIdeal.nD Cert.MnormIdeal.τ).loc Cert.MnormIdeal.main_v14_0)) (v1 : (c : Dev Cert.MnormIdeal.nD) → Buf (Elt Ideal) ((c.tc : Thread Cert.MnormIdeal.nD Cert.MnormIdeal.τ).loc Cert.MnormIdeal.main_v14_1)) (v2 : (c : Dev Cert.MnormIdeal.nD) → Buf (Elt Ideal) ((c.tc : Thread Cert.MnormIdeal.nD Cert.MnormIdeal.τ).loc Cert.MnormIdeal.main_v14_2)),
      θ_run (Cert.MnormIdeal.defs (F := Ideal)) (onTc (τ := Cert.MnormIdeal.τ) (Cert.MnormIdeal.main (F := Ideal))) ⟨m, fun _ => 0, g⟩ (fun r => ∀ c : Dev Cert.MnormIdeal.nD,
          r.2.mem ((c.tc : Thread Cert.MnormIdeal.nD Cert.MnormIdeal.τ).loc Cert.MnormIdeal.main_v14_0) = v0 c
          ∧ r.2.mem ((c.tc : Thread Cert.MnormIdeal.nD Cert.MnormIdeal.τ).loc Cert.MnormIdeal.main_v14_1) = v1 c
          ∧ r.2.mem ((c.tc : Thread Cert.MnormIdeal.nD Cert.MnormIdeal.τ).loc Cert.MnormIdeal.main_v14_2) = v2 c
          ∧ r.2.mem ((c.tc : Thread Cert.MnormIdeal.nD Cert.MnormIdeal.τ).loc Cert.MnormIdeal.main_arg0) = m ((c.tc : Thread Cert.MnormIdeal.nD Cert.MnormIdeal.τ).loc Cert.MnormIdeal.main_arg0)
          ∧ r.2.mem ((c.tc : Thread Cert.MnormIdeal.nD Cert.MnormIdeal.τ).loc Cert.MnormIdeal.main_arg1) = m ((c.tc : Thread Cert.MnormIdeal.nD Cert.MnormIdeal.τ).loc Cert.MnormIdeal.main_arg1)
          ∧ r.2.mem ((c.tc : Thread Cert.MnormIdeal.nD Cert.MnormIdeal.τ).loc Cert.MnormIdeal.main_arg2) = m ((c.tc : Thread Cert.MnormIdeal.nD Cert.MnormIdeal.τ).loc Cert.MnormIdeal.main_arg2)
          ∧ r.2.mem ((c.tc : Thread Cert.MnormIdeal.nD Cert.MnormIdeal.τ).loc Cert.MnormIdeal.main_arg3) = m ((c.tc : Thread Cert.MnormIdeal.nD Cert.MnormIdeal.τ).loc Cert.MnormIdeal.main_arg3))
      ∧ θ_run (Cert.MnormRefIdeal.defs (F := Ideal)) (onTc (τ := Cert.MnormRefIdeal.τ) (Cert.MnormRefIdeal.main (F := Ideal))) ⟨m', fun _ => 0, g'⟩ (fun r => ∀ c : Dev Cert.MnormRefIdeal.nD,
          r.2.mem ((c.tc : Thread Cert.MnormRefIdeal.nD Cert.MnormRefIdeal.τ).loc Cert.MnormRefIdeal.main_v62) = v0 c
          ∧ r.2.mem ((c.tc : Thread Cert.MnormRefIdeal.nD Cert.MnormRefIdeal.τ).loc Cert.MnormRefIdeal.main_v63) = v1 c
          ∧ r.2.mem ((c.tc : Thread Cert.MnormRefIdeal.nD Cert.MnormRefIdeal.τ).loc Cert.MnormRefIdeal.main_v77) = v2 c
          ∧ r.2.mem ((c.tc : Thread Cert.MnormRefIdeal.nD Cert.MnormRefIdeal.τ).loc Cert.MnormRefIdeal.main_arg0) = m' ((c.tc : Thread Cert.MnormRefIdeal.nD Cert.MnormRefIdeal.τ).loc Cert.MnormRefIdeal.main_arg0)
          ∧ r.2.mem ((c.tc : Thread Cert.MnormRefIdeal.nD Cert.MnormRefIdeal.τ).loc Cert.MnormRefIdeal.main_arg1) = m' ((c.tc : Thread Cert.MnormRefIdeal.nD Cert.MnormRefIdeal.τ).loc Cert.MnormRefIdeal.main_arg1)
          ∧ r.2.mem ((c.tc : Thread Cert.MnormRefIdeal.nD Cert.MnormRefIdeal.τ).loc Cert.MnormRefIdeal.main_arg2) = m' ((c.tc : Thread Cert.MnormRefIdeal.nD Cert.MnormRefIdeal.τ).loc Cert.MnormRefIdeal.main_arg2)
          ∧ r.2.mem ((c.tc : Thread Cert.MnormRefIdeal.nD Cert.MnormRefIdeal.τ).loc Cert.MnormRefIdeal.main_arg3) = m' ((c.tc : Thread Cert.MnormRefIdeal.nD Cert.MnormRefIdeal.τ).loc Cert.MnormRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v4)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v4) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Memo_MemoIdeal : Prop :=
  True

def algebraic_MemoIdeal_MemoRefIdeal_pre_memo_finite [hMemoIdeal : Cert.MemoIdeal.Facts] [hMemoRefIdeal : Cert.MemoRefIdeal.Facts] [hPre_memo_finite : Cert.Pre_memo_finite.Facts] : Prop :=
  ∀ (m : (ℓ : Loc Cert.MemoIdeal.nD Cert.MemoIdeal.τ Cert.MemoIdeal.sig) → Buf (Elt Ideal) ℓ) (g : Dev Cert.MemoIdeal.nD → PrngReg)
    (m' : (ℓ : Loc Cert.MemoRefIdeal.nD Cert.MemoRefIdeal.τ Cert.MemoRefIdeal.sig) → Buf (Elt Ideal) ℓ) (g' : Dev Cert.MemoRefIdeal.nD → PrngReg), Pre_MemoIdeal_memo_finite m →
    (∀ c : Dev Cert.MemoIdeal.nD,
      m' ((c.tc : Thread Cert.MemoRefIdeal.nD Cert.MemoRefIdeal.τ).loc Cert.MemoRefIdeal.main_arg0) = m ((c.tc : Thread Cert.MemoIdeal.nD Cert.MemoIdeal.τ).loc Cert.MemoIdeal.main_arg0)
      ∧ m' ((c.tc : Thread Cert.MemoRefIdeal.nD Cert.MemoRefIdeal.τ).loc Cert.MemoRefIdeal.main_arg1) = m ((c.tc : Thread Cert.MemoIdeal.nD Cert.MemoIdeal.τ).loc Cert.MemoIdeal.main_arg1)
      ∧ m' ((c.tc : Thread Cert.MemoRefIdeal.nD Cert.MemoRefIdeal.τ).loc Cert.MemoRefIdeal.main_arg2) = m ((c.tc : Thread Cert.MemoIdeal.nD Cert.MemoIdeal.τ).loc Cert.MemoIdeal.main_arg2)
      ∧ m' ((c.tc : Thread Cert.MemoRefIdeal.nD Cert.MemoRefIdeal.τ).loc Cert.MemoRefIdeal.main_arg3) = m ((c.tc : Thread Cert.MemoIdeal.nD Cert.MemoIdeal.τ).loc Cert.MemoIdeal.main_arg3)) →
    ∃ (v0 : (c : Dev Cert.MemoIdeal.nD) → Buf (Elt Ideal) ((c.tc : Thread Cert.MemoIdeal.nD Cert.MemoIdeal.τ).loc Cert.MemoIdeal.main_v2_0)) (v1 : (c : Dev Cert.MemoIdeal.nD) → Buf (Elt Ideal) ((c.tc : Thread Cert.MemoIdeal.nD Cert.MemoIdeal.τ).loc Cert.MemoIdeal.main_v2_1)) (v2 : (c : Dev Cert.MemoIdeal.nD) → Buf (Elt Ideal) ((c.tc : Thread Cert.MemoIdeal.nD Cert.MemoIdeal.τ).loc Cert.MemoIdeal.main_v2_2)),
      θ_run (Cert.MemoIdeal.defs (F := Ideal)) (onTc (τ := Cert.MemoIdeal.τ) (Cert.MemoIdeal.main (F := Ideal))) ⟨m, fun _ => 0, g⟩ (fun r => ∀ c : Dev Cert.MemoIdeal.nD,
          r.2.mem ((c.tc : Thread Cert.MemoIdeal.nD Cert.MemoIdeal.τ).loc Cert.MemoIdeal.main_v2_0) = v0 c
          ∧ r.2.mem ((c.tc : Thread Cert.MemoIdeal.nD Cert.MemoIdeal.τ).loc Cert.MemoIdeal.main_v2_1) = v1 c
          ∧ r.2.mem ((c.tc : Thread Cert.MemoIdeal.nD Cert.MemoIdeal.τ).loc Cert.MemoIdeal.main_v2_2) = v2 c
          ∧ r.2.mem ((c.tc : Thread Cert.MemoIdeal.nD Cert.MemoIdeal.τ).loc Cert.MemoIdeal.main_arg0) = m ((c.tc : Thread Cert.MemoIdeal.nD Cert.MemoIdeal.τ).loc Cert.MemoIdeal.main_arg0)
          ∧ r.2.mem ((c.tc : Thread Cert.MemoIdeal.nD Cert.MemoIdeal.τ).loc Cert.MemoIdeal.main_arg1) = m ((c.tc : Thread Cert.MemoIdeal.nD Cert.MemoIdeal.τ).loc Cert.MemoIdeal.main_arg1)
          ∧ r.2.mem ((c.tc : Thread Cert.MemoIdeal.nD Cert.MemoIdeal.τ).loc Cert.MemoIdeal.main_arg2) = m ((c.tc : Thread Cert.MemoIdeal.nD Cert.MemoIdeal.τ).loc Cert.MemoIdeal.main_arg2)
          ∧ r.2.mem ((c.tc : Thread Cert.MemoIdeal.nD Cert.MemoIdeal.τ).loc Cert.MemoIdeal.main_arg3) = m ((c.tc : Thread Cert.MemoIdeal.nD Cert.MemoIdeal.τ).loc Cert.MemoIdeal.main_arg3))
      ∧ θ_run (Cert.MemoRefIdeal.defs (F := Ideal)) (onTc (τ := Cert.MemoRefIdeal.τ) (Cert.MemoRefIdeal.main (F := Ideal))) ⟨m', fun _ => 0, g'⟩ (fun r => ∀ c : Dev Cert.MemoRefIdeal.nD,
          r.2.mem ((c.tc : Thread Cert.MemoRefIdeal.nD Cert.MemoRefIdeal.τ).loc Cert.MemoRefIdeal.main_v78) = v0 c
          ∧ r.2.mem ((c.tc : Thread Cert.MemoRefIdeal.nD Cert.MemoRefIdeal.τ).loc Cert.MemoRefIdeal.main_v79) = v1 c
          ∧ r.2.mem ((c.tc : Thread Cert.MemoRefIdeal.nD Cert.MemoRefIdeal.τ).loc Cert.MemoRefIdeal.main_v80) = v2 c
          ∧ r.2.mem ((c.tc : Thread Cert.MemoRefIdeal.nD Cert.MemoRefIdeal.τ).loc Cert.MemoRefIdeal.main_arg0) = m' ((c.tc : Thread Cert.MemoRefIdeal.nD Cert.MemoRefIdeal.τ).loc Cert.MemoRefIdeal.main_arg0)
          ∧ r.2.mem ((c.tc : Thread Cert.MemoRefIdeal.nD Cert.MemoRefIdeal.τ).loc Cert.MemoRefIdeal.main_arg1) = m' ((c.tc : Thread Cert.MemoRefIdeal.nD Cert.MemoRefIdeal.τ).loc Cert.MemoRefIdeal.main_arg1)
          ∧ r.2.mem ((c.tc : Thread Cert.MemoRefIdeal.nD Cert.MemoRefIdeal.τ).loc Cert.MemoRefIdeal.main_arg2) = m' ((c.tc : Thread Cert.MemoRefIdeal.nD Cert.MemoRefIdeal.τ).loc Cert.MemoRefIdeal.main_arg2)
          ∧ r.2.mem ((c.tc : Thread Cert.MemoRefIdeal.nD Cert.MemoRefIdeal.τ).loc Cert.MemoRefIdeal.main_arg3) = m' ((c.tc : Thread Cert.MemoRefIdeal.nD Cert.MemoRefIdeal.τ).loc Cert.MemoRefIdeal.main_arg3))

def preserves_Memb_MembIdeal : Prop :=
  True

def algebraic_MembIdeal_MembRefIdeal_pre_memb_finite [hMembIdeal : Cert.MembIdeal.Facts] [hMembRefIdeal : Cert.MembRefIdeal.Facts] [hPre_memb_finite : Cert.Pre_memb_finite.Facts] : Prop :=
  ∀ (m : (ℓ : Loc Cert.MembIdeal.nD Cert.MembIdeal.τ Cert.MembIdeal.sig) → Buf (Elt Ideal) ℓ) (g : Dev Cert.MembIdeal.nD → PrngReg)
    (m' : (ℓ : Loc Cert.MembRefIdeal.nD Cert.MembRefIdeal.τ Cert.MembRefIdeal.sig) → Buf (Elt Ideal) ℓ) (g' : Dev Cert.MembRefIdeal.nD → PrngReg), Pre_MembIdeal_memb_finite m →
    (∀ c : Dev Cert.MembIdeal.nD,
      m' ((c.tc : Thread Cert.MembRefIdeal.nD Cert.MembRefIdeal.τ).loc Cert.MembRefIdeal.main_arg0) = m ((c.tc : Thread Cert.MembIdeal.nD Cert.MembIdeal.τ).loc Cert.MembIdeal.main_arg0)
      ∧ m' ((c.tc : Thread Cert.MembRefIdeal.nD Cert.MembRefIdeal.τ).loc Cert.MembRefIdeal.main_arg1) = m ((c.tc : Thread Cert.MembIdeal.nD Cert.MembIdeal.τ).loc Cert.MembIdeal.main_arg1)
      ∧ m' ((c.tc : Thread Cert.MembRefIdeal.nD Cert.MembRefIdeal.τ).loc Cert.MembRefIdeal.main_arg2) = m ((c.tc : Thread Cert.MembIdeal.nD Cert.MembIdeal.τ).loc Cert.MembIdeal.main_arg2)
      ∧ m' ((c.tc : Thread Cert.MembRefIdeal.nD Cert.MembRefIdeal.τ).loc Cert.MembRefIdeal.main_arg3) = m ((c.tc : Thread Cert.MembIdeal.nD Cert.MembIdeal.τ).loc Cert.MembIdeal.main_arg3)) →
    ∃ (v0 : (c : Dev Cert.MembIdeal.nD) → Buf (Elt Ideal) ((c.tc : Thread Cert.MembIdeal.nD Cert.MembIdeal.τ).loc Cert.MembIdeal.main_v3_0)) (v1 : (c : Dev Cert.MembIdeal.nD) → Buf (Elt Ideal) ((c.tc : Thread Cert.MembIdeal.nD Cert.MembIdeal.τ).loc Cert.MembIdeal.main_v3_1)) (v2 : (c : Dev Cert.MembIdeal.nD) → Buf (Elt Ideal) ((c.tc : Thread Cert.MembIdeal.nD Cert.MembIdeal.τ).loc Cert.MembIdeal.main_v3_2)),
      θ_run (Cert.MembIdeal.defs (F := Ideal)) (onTc (τ := Cert.MembIdeal.τ) (Cert.MembIdeal.main (F := Ideal))) ⟨m, fun _ => 0, g⟩ (fun r => ∀ c : Dev Cert.MembIdeal.nD,
          r.2.mem ((c.tc : Thread Cert.MembIdeal.nD Cert.MembIdeal.τ).loc Cert.MembIdeal.main_v3_0) = v0 c
          ∧ r.2.mem ((c.tc : Thread Cert.MembIdeal.nD Cert.MembIdeal.τ).loc Cert.MembIdeal.main_v3_1) = v1 c
          ∧ r.2.mem ((c.tc : Thread Cert.MembIdeal.nD Cert.MembIdeal.τ).loc Cert.MembIdeal.main_v3_2) = v2 c
          ∧ r.2.mem ((c.tc : Thread Cert.MembIdeal.nD Cert.MembIdeal.τ).loc Cert.MembIdeal.main_arg0) = m ((c.tc : Thread Cert.MembIdeal.nD Cert.MembIdeal.τ).loc Cert.MembIdeal.main_arg0)
          ∧ r.2.mem ((c.tc : Thread Cert.MembIdeal.nD Cert.MembIdeal.τ).loc Cert.MembIdeal.main_arg1) = m ((c.tc : Thread Cert.MembIdeal.nD Cert.MembIdeal.τ).loc Cert.MembIdeal.main_arg1)
          ∧ r.2.mem ((c.tc : Thread Cert.MembIdeal.nD Cert.MembIdeal.τ).loc Cert.MembIdeal.main_arg2) = m ((c.tc : Thread Cert.MembIdeal.nD Cert.MembIdeal.τ).loc Cert.MembIdeal.main_arg2)
          ∧ r.2.mem ((c.tc : Thread Cert.MembIdeal.nD Cert.MembIdeal.τ).loc Cert.MembIdeal.main_arg3) = m ((c.tc : Thread Cert.MembIdeal.nD Cert.MembIdeal.τ).loc Cert.MembIdeal.main_arg3))
      ∧ θ_run (Cert.MembRefIdeal.defs (F := Ideal)) (onTc (τ := Cert.MembRefIdeal.τ) (Cert.MembRefIdeal.main (F := Ideal))) ⟨m', fun _ => 0, g'⟩ (fun r => ∀ c : Dev Cert.MembRefIdeal.nD,
          r.2.mem ((c.tc : Thread Cert.MembRefIdeal.nD Cert.MembRefIdeal.τ).loc Cert.MembRefIdeal.main_v78) = v0 c
          ∧ r.2.mem ((c.tc : Thread Cert.MembRefIdeal.nD Cert.MembRefIdeal.τ).loc Cert.MembRefIdeal.main_v79) = v1 c
          ∧ r.2.mem ((c.tc : Thread Cert.MembRefIdeal.nD Cert.MembRefIdeal.τ).loc Cert.MembRefIdeal.main_v80) = v2 c
          ∧ r.2.mem ((c.tc : Thread Cert.MembRefIdeal.nD Cert.MembRefIdeal.τ).loc Cert.MembRefIdeal.main_arg0) = m' ((c.tc : Thread Cert.MembRefIdeal.nD Cert.MembRefIdeal.τ).loc Cert.MembRefIdeal.main_arg0)
          ∧ r.2.mem ((c.tc : Thread Cert.MembRefIdeal.nD Cert.MembRefIdeal.τ).loc Cert.MembRefIdeal.main_arg1) = m' ((c.tc : Thread Cert.MembRefIdeal.nD Cert.MembRefIdeal.τ).loc Cert.MembRefIdeal.main_arg1)
          ∧ r.2.mem ((c.tc : Thread Cert.MembRefIdeal.nD Cert.MembRefIdeal.τ).loc Cert.MembRefIdeal.main_arg2) = m' ((c.tc : Thread Cert.MembRefIdeal.nD Cert.MembRefIdeal.τ).loc Cert.MembRefIdeal.main_arg2)
          ∧ r.2.mem ((c.tc : Thread Cert.MembRefIdeal.nD Cert.MembRefIdeal.τ).loc Cert.MembRefIdeal.main_arg3) = m' ((c.tc : Thread Cert.MembRefIdeal.nD Cert.MembRefIdeal.τ).loc Cert.MembRefIdeal.main_arg3))

def preserves_Gmlp_GmlpIdeal : Prop :=
  IdealRules.named_const.Statement Cert.GmlpIdeal.κ "gelu_a" .f32 0x3D372713#32 ((8943 / 200000 : ℝ) : EReal)
  ∧ IdealRules.named_const.Statement Cert.GmlpIdeal.κ "gelu_3a" .f32 0x3E095D4F#32 ((26829 / 200000 : ℝ) : EReal)

def algebraic_GmlpIdeal_GmlpRefIdeal_on_gmlp_written_pre_gmlp_finite [hGmlpIdeal : Cert.GmlpIdeal.Facts] [hGmlpRefIdeal : Cert.GmlpRefIdeal.Facts] [hPre_gmlp_finite : Cert.Pre_gmlp_finite.Facts] [hOn_gmlp_written : Cert.On_gmlp_written.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_gmlp_finite m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v5_0)) (v1 : (c : Dev Cert.GmlpIdeal.nD) → Buf (Elt Ideal) ((c.tc : Thread Cert.GmlpIdeal.nD Cert.GmlpIdeal.τ).loc Cert.GmlpIdeal.main_v5_1)) (v2 : (c : Dev Cert.GmlpIdeal.nD) → Buf (Elt Ideal) ((c.tc : Thread Cert.GmlpIdeal.nD Cert.GmlpIdeal.τ).loc Cert.GmlpIdeal.main_v5_2)) (v3 : (c : Dev Cert.GmlpIdeal.nD) → Buf (Elt Ideal) ((c.tc : Thread Cert.GmlpIdeal.nD Cert.GmlpIdeal.τ).loc Cert.GmlpIdeal.main_v5_3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          (∀ i : (⟨2, ![8192, 1792]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).1 i = 1#1 → r.2.mem ((c.tc : Thread Cert.GmlpIdeal.nD Cert.GmlpIdeal.τ).loc Cert.GmlpIdeal.main_v5_0) i = v0 c i)
          ∧ (∀ i : (⟨3, ![6, 128, 128]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.1 i = 1#1 → r.2.mem ((c.tc : Thread Cert.GmlpIdeal.nD Cert.GmlpIdeal.τ).loc Cert.GmlpIdeal.main_v5_1) i = v1 c i)
          ∧ (∀ i : (⟨3, ![6, 128, 128]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.1 i = 1#1 → r.2.mem ((c.tc : Thread Cert.GmlpIdeal.nD Cert.GmlpIdeal.τ).loc Cert.GmlpIdeal.main_v5_2) i = v2 c i)
          ∧ (∀ i : (⟨2, ![1, 768]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.2 i = 1#1 → r.2.mem ((c.tc : Thread Cert.GmlpIdeal.nD Cert.GmlpIdeal.τ).loc Cert.GmlpIdeal.main_v5_3) i = v3 c i)
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          (∀ i : (⟨2, ![8192, 1792]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).1 i = 1#1 → r.2.mem ((c.tc : Thread Cert.GmlpRefIdeal.nD Cert.GmlpRefIdeal.τ).loc Cert.GmlpRefIdeal.main_v115) i = v0 c i)
          ∧ (∀ i : (⟨3, ![6, 128, 128]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.1 i = 1#1 → r.2.mem ((c.tc : Thread Cert.GmlpRefIdeal.nD Cert.GmlpRefIdeal.τ).loc Cert.GmlpRefIdeal.main_v77) i = v1 c i)
          ∧ (∀ i : (⟨3, ![6, 128, 128]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.1 i = 1#1 → r.2.mem ((c.tc : Thread Cert.GmlpRefIdeal.nD Cert.GmlpRefIdeal.τ).loc Cert.GmlpRefIdeal.main_v117) i = v2 c i)
          ∧ (∀ i : (⟨2, ![1, 768]⟩ : Shape).Idx, (Cert.On_gmlp_written.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))).2.2.2 i = 1#1 → r.2.mem ((c.tc : Thread Cert.GmlpRefIdeal.nD Cert.GmlpRefIdeal.τ).loc Cert.GmlpRefIdeal.main_v118) i = v3 c i)
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Nmm_NmmIdeal : Prop :=
  True

def algebraic_NmmIdeal_NmmRefIdeal [hNmmIdeal : Cert.NmmIdeal.Facts] [hNmmRefIdeal : Cert.NmmRefIdeal.Facts] : Prop :=
  ∀ (m : (ℓ : Loc Cert.NmmIdeal.nD Cert.NmmIdeal.τ Cert.NmmIdeal.sig) → Buf (Elt Ideal) ℓ) (g : Dev Cert.NmmIdeal.nD → PrngReg)
    (m' : (ℓ : Loc Cert.NmmRefIdeal.nD Cert.NmmRefIdeal.τ Cert.NmmRefIdeal.sig) → Buf (Elt Ideal) ℓ) (g' : Dev Cert.NmmRefIdeal.nD → PrngReg), Pre_NmmIdeal m →
    (∀ c : Dev Cert.NmmIdeal.nD,
      m' ((c.tc : Thread Cert.NmmRefIdeal.nD Cert.NmmRefIdeal.τ).loc Cert.NmmRefIdeal.main_arg0) = m ((c.tc : Thread Cert.NmmIdeal.nD Cert.NmmIdeal.τ).loc Cert.NmmIdeal.main_arg0)
      ∧ m' ((c.tc : Thread Cert.NmmRefIdeal.nD Cert.NmmRefIdeal.τ).loc Cert.NmmRefIdeal.main_arg1) = m ((c.tc : Thread Cert.NmmIdeal.nD Cert.NmmIdeal.τ).loc Cert.NmmIdeal.main_arg1)
      ∧ m' ((c.tc : Thread Cert.NmmRefIdeal.nD Cert.NmmRefIdeal.τ).loc Cert.NmmRefIdeal.main_arg2) = m ((c.tc : Thread Cert.NmmIdeal.nD Cert.NmmIdeal.τ).loc Cert.NmmIdeal.main_arg2)
      ∧ m' ((c.tc : Thread Cert.NmmRefIdeal.nD Cert.NmmRefIdeal.τ).loc Cert.NmmRefIdeal.main_arg3) = m ((c.tc : Thread Cert.NmmIdeal.nD Cert.NmmIdeal.τ).loc Cert.NmmIdeal.main_arg3)) →
    ∃ (v0 : (c : Dev Cert.NmmIdeal.nD) → Buf (Elt Ideal) ((c.tc : Thread Cert.NmmIdeal.nD Cert.NmmIdeal.τ).loc Cert.NmmIdeal.main_v5)),
      θ_run (Cert.NmmIdeal.defs (F := Ideal)) (onTc (τ := Cert.NmmIdeal.τ) (Cert.NmmIdeal.main (F := Ideal))) ⟨m, fun _ => 0, g⟩ (fun r => ∀ c : Dev Cert.NmmIdeal.nD,
          r.2.mem ((c.tc : Thread Cert.NmmIdeal.nD Cert.NmmIdeal.τ).loc Cert.NmmIdeal.main_v5) = v0 c
          ∧ r.2.mem ((c.tc : Thread Cert.NmmIdeal.nD Cert.NmmIdeal.τ).loc Cert.NmmIdeal.main_arg0) = m ((c.tc : Thread Cert.NmmIdeal.nD Cert.NmmIdeal.τ).loc Cert.NmmIdeal.main_arg0)
          ∧ r.2.mem ((c.tc : Thread Cert.NmmIdeal.nD Cert.NmmIdeal.τ).loc Cert.NmmIdeal.main_arg1) = m ((c.tc : Thread Cert.NmmIdeal.nD Cert.NmmIdeal.τ).loc Cert.NmmIdeal.main_arg1)
          ∧ r.2.mem ((c.tc : Thread Cert.NmmIdeal.nD Cert.NmmIdeal.τ).loc Cert.NmmIdeal.main_arg2) = m ((c.tc : Thread Cert.NmmIdeal.nD Cert.NmmIdeal.τ).loc Cert.NmmIdeal.main_arg2)
          ∧ r.2.mem ((c.tc : Thread Cert.NmmIdeal.nD Cert.NmmIdeal.τ).loc Cert.NmmIdeal.main_arg3) = m ((c.tc : Thread Cert.NmmIdeal.nD Cert.NmmIdeal.τ).loc Cert.NmmIdeal.main_arg3))
      ∧ θ_run (Cert.NmmRefIdeal.defs (F := Ideal)) (onTc (τ := Cert.NmmRefIdeal.τ) (Cert.NmmRefIdeal.main (F := Ideal))) ⟨m', fun _ => 0, g'⟩ (fun r => ∀ c : Dev Cert.NmmRefIdeal.nD,
          r.2.mem ((c.tc : Thread Cert.NmmRefIdeal.nD Cert.NmmRefIdeal.τ).loc Cert.NmmRefIdeal.main_v16) = v0 c
          ∧ r.2.mem ((c.tc : Thread Cert.NmmRefIdeal.nD Cert.NmmRefIdeal.τ).loc Cert.NmmRefIdeal.main_arg0) = m' ((c.tc : Thread Cert.NmmRefIdeal.nD Cert.NmmRefIdeal.τ).loc Cert.NmmRefIdeal.main_arg0)
          ∧ r.2.mem ((c.tc : Thread Cert.NmmRefIdeal.nD Cert.NmmRefIdeal.τ).loc Cert.NmmRefIdeal.main_arg1) = m' ((c.tc : Thread Cert.NmmRefIdeal.nD Cert.NmmRefIdeal.τ).loc Cert.NmmRefIdeal.main_arg1)
          ∧ r.2.mem ((c.tc : Thread Cert.NmmRefIdeal.nD Cert.NmmRefIdeal.τ).loc Cert.NmmRefIdeal.main_arg2) = m' ((c.tc : Thread Cert.NmmRefIdeal.nD Cert.NmmRefIdeal.τ).loc Cert.NmmRefIdeal.main_arg2)
          ∧ r.2.mem ((c.tc : Thread Cert.NmmRefIdeal.nD Cert.NmmRefIdeal.τ).loc Cert.NmmRefIdeal.main_arg3) = m' ((c.tc : Thread Cert.NmmRefIdeal.nD Cert.NmmRefIdeal.τ).loc Cert.NmmRefIdeal.main_arg3))

def preserves_Kvp_KvpIdeal : Prop :=
  True

def algebraic_KvpIdeal_KvpRefIdeal [hKvpIdeal : Cert.KvpIdeal.Facts] [hKvpRefIdeal : Cert.KvpRefIdeal.Facts] : Prop :=
  ∀ (m : (ℓ : Loc Cert.KvpIdeal.nD Cert.KvpIdeal.τ Cert.KvpIdeal.sig) → Buf (Elt Ideal) ℓ) (g : Dev Cert.KvpIdeal.nD → PrngReg)
    (m' : (ℓ : Loc Cert.KvpRefIdeal.nD Cert.KvpRefIdeal.τ Cert.KvpRefIdeal.sig) → Buf (Elt Ideal) ℓ) (g' : Dev Cert.KvpRefIdeal.nD → PrngReg), Pre_KvpIdeal m →
    (∀ c : Dev Cert.KvpIdeal.nD,
      m' ((c.tc : Thread Cert.KvpRefIdeal.nD Cert.KvpRefIdeal.τ).loc Cert.KvpRefIdeal.main_arg0) = m ((c.tc : Thread Cert.KvpIdeal.nD Cert.KvpIdeal.τ).loc Cert.KvpIdeal.main_arg0)
      ∧ m' ((c.tc : Thread Cert.KvpRefIdeal.nD Cert.KvpRefIdeal.τ).loc Cert.KvpRefIdeal.main_arg1) = m ((c.tc : Thread Cert.KvpIdeal.nD Cert.KvpIdeal.τ).loc Cert.KvpIdeal.main_arg1)
      ∧ m' ((c.tc : Thread Cert.KvpRefIdeal.nD Cert.KvpRefIdeal.τ).loc Cert.KvpRefIdeal.main_arg2) = m ((c.tc : Thread Cert.KvpIdeal.nD Cert.KvpIdeal.τ).loc Cert.KvpIdeal.main_arg2)) →
    ∃ (v0 : (c : Dev Cert.KvpIdeal.nD) → Buf (Elt Ideal) ((c.tc : Thread Cert.KvpIdeal.nD Cert.KvpIdeal.τ).loc Cert.KvpIdeal.main_v2)),
      θ_run (Cert.KvpIdeal.defs (F := Ideal)) (onTc (τ := Cert.KvpIdeal.τ) (Cert.KvpIdeal.main (F := Ideal))) ⟨m, fun _ => 0, g⟩ (fun r => ∀ c : Dev Cert.KvpIdeal.nD,
          r.2.mem ((c.tc : Thread Cert.KvpIdeal.nD Cert.KvpIdeal.τ).loc Cert.KvpIdeal.main_v2) = v0 c
          ∧ r.2.mem ((c.tc : Thread Cert.KvpIdeal.nD Cert.KvpIdeal.τ).loc Cert.KvpIdeal.main_arg0) = m ((c.tc : Thread Cert.KvpIdeal.nD Cert.KvpIdeal.τ).loc Cert.KvpIdeal.main_arg0)
          ∧ r.2.mem ((c.tc : Thread Cert.KvpIdeal.nD Cert.KvpIdeal.τ).loc Cert.KvpIdeal.main_arg1) = m ((c.tc : Thread Cert.KvpIdeal.nD Cert.KvpIdeal.τ).loc Cert.KvpIdeal.main_arg1)
          ∧ r.2.mem ((c.tc : Thread Cert.KvpIdeal.nD Cert.KvpIdeal.τ).loc Cert.KvpIdeal.main_arg2) = m ((c.tc : Thread Cert.KvpIdeal.nD Cert.KvpIdeal.τ).loc Cert.KvpIdeal.main_arg2))
      ∧ θ_run (Cert.KvpRefIdeal.defs (F := Ideal)) (onTc (τ := Cert.KvpRefIdeal.τ) (Cert.KvpRefIdeal.main (F := Ideal))) ⟨m', fun _ => 0, g'⟩ (fun r => ∀ c : Dev Cert.KvpRefIdeal.nD,
          r.2.mem ((c.tc : Thread Cert.KvpRefIdeal.nD Cert.KvpRefIdeal.τ).loc Cert.KvpRefIdeal.main_v14) = v0 c
          ∧ r.2.mem ((c.tc : Thread Cert.KvpRefIdeal.nD Cert.KvpRefIdeal.τ).loc Cert.KvpRefIdeal.main_arg0) = m' ((c.tc : Thread Cert.KvpRefIdeal.nD Cert.KvpRefIdeal.τ).loc Cert.KvpRefIdeal.main_arg0)
          ∧ r.2.mem ((c.tc : Thread Cert.KvpRefIdeal.nD Cert.KvpRefIdeal.τ).loc Cert.KvpRefIdeal.main_arg1) = m' ((c.tc : Thread Cert.KvpRefIdeal.nD Cert.KvpRefIdeal.τ).loc Cert.KvpRefIdeal.main_arg1)
          ∧ r.2.mem ((c.tc : Thread Cert.KvpRefIdeal.nD Cert.KvpRefIdeal.τ).loc Cert.KvpRefIdeal.main_arg2) = m' ((c.tc : Thread Cert.KvpRefIdeal.nD Cert.KvpRefIdeal.τ).loc Cert.KvpRefIdeal.main_arg2))

def preserves_Smm_SmmIdeal : Prop :=
  True

def algebraic_SmmIdeal_SmmRefIdeal [hSmmIdeal : Cert.SmmIdeal.Facts] [hSmmRefIdeal : Cert.SmmRefIdeal.Facts] : Prop :=
  ∀ (m : (ℓ : Loc Cert.SmmIdeal.nD Cert.SmmIdeal.τ Cert.SmmIdeal.sig) → Buf (Elt Ideal) ℓ) (g : Dev Cert.SmmIdeal.nD → PrngReg)
    (m' : (ℓ : Loc Cert.SmmRefIdeal.nD Cert.SmmRefIdeal.τ Cert.SmmRefIdeal.sig) → Buf (Elt Ideal) ℓ) (g' : Dev Cert.SmmRefIdeal.nD → PrngReg), Pre_SmmIdeal m →
    (∀ c : Dev Cert.SmmIdeal.nD,
      m' ((c.tc : Thread Cert.SmmRefIdeal.nD Cert.SmmRefIdeal.τ).loc Cert.SmmRefIdeal.main_arg0) = m ((c.tc : Thread Cert.SmmIdeal.nD Cert.SmmIdeal.τ).loc Cert.SmmIdeal.main_arg0)
      ∧ m' ((c.tc : Thread Cert.SmmRefIdeal.nD Cert.SmmRefIdeal.τ).loc Cert.SmmRefIdeal.main_arg1) = m ((c.tc : Thread Cert.SmmIdeal.nD Cert.SmmIdeal.τ).loc Cert.SmmIdeal.main_arg1)
      ∧ m' ((c.tc : Thread Cert.SmmRefIdeal.nD Cert.SmmRefIdeal.τ).loc Cert.SmmRefIdeal.main_arg2) = m ((c.tc : Thread Cert.SmmIdeal.nD Cert.SmmIdeal.τ).loc Cert.SmmIdeal.main_arg2)
      ∧ m' ((c.tc : Thread Cert.SmmRefIdeal.nD Cert.SmmRefIdeal.τ).loc Cert.SmmRefIdeal.main_arg3) = m ((c.tc : Thread Cert.SmmIdeal.nD Cert.SmmIdeal.τ).loc Cert.SmmIdeal.main_arg3)) →
    ∃ (v0 : (c : Dev Cert.SmmIdeal.nD) → Buf (Elt Ideal) ((c.tc : Thread Cert.SmmIdeal.nD Cert.SmmIdeal.τ).loc Cert.SmmIdeal.main_v3)),
      θ_run (Cert.SmmIdeal.defs (F := Ideal)) (onTc (τ := Cert.SmmIdeal.τ) (Cert.SmmIdeal.main (F := Ideal))) ⟨m, fun _ => 0, g⟩ (fun r => ∀ c : Dev Cert.SmmIdeal.nD,
          r.2.mem ((c.tc : Thread Cert.SmmIdeal.nD Cert.SmmIdeal.τ).loc Cert.SmmIdeal.main_v3) = v0 c
          ∧ r.2.mem ((c.tc : Thread Cert.SmmIdeal.nD Cert.SmmIdeal.τ).loc Cert.SmmIdeal.main_arg0) = m ((c.tc : Thread Cert.SmmIdeal.nD Cert.SmmIdeal.τ).loc Cert.SmmIdeal.main_arg0)
          ∧ r.2.mem ((c.tc : Thread Cert.SmmIdeal.nD Cert.SmmIdeal.τ).loc Cert.SmmIdeal.main_arg1) = m ((c.tc : Thread Cert.SmmIdeal.nD Cert.SmmIdeal.τ).loc Cert.SmmIdeal.main_arg1)
          ∧ r.2.mem ((c.tc : Thread Cert.SmmIdeal.nD Cert.SmmIdeal.τ).loc Cert.SmmIdeal.main_arg2) = m ((c.tc : Thread Cert.SmmIdeal.nD Cert.SmmIdeal.τ).loc Cert.SmmIdeal.main_arg2)
          ∧ r.2.mem ((c.tc : Thread Cert.SmmIdeal.nD Cert.SmmIdeal.τ).loc Cert.SmmIdeal.main_arg3) = m ((c.tc : Thread Cert.SmmIdeal.nD Cert.SmmIdeal.τ).loc Cert.SmmIdeal.main_arg3))
      ∧ θ_run (Cert.SmmRefIdeal.defs (F := Ideal)) (onTc (τ := Cert.SmmRefIdeal.τ) (Cert.SmmRefIdeal.main (F := Ideal))) ⟨m', fun _ => 0, g'⟩ (fun r => ∀ c : Dev Cert.SmmRefIdeal.nD,
          r.2.mem ((c.tc : Thread Cert.SmmRefIdeal.nD Cert.SmmRefIdeal.τ).loc Cert.SmmRefIdeal.main_v5) = v0 c
          ∧ r.2.mem ((c.tc : Thread Cert.SmmRefIdeal.nD Cert.SmmRefIdeal.τ).loc Cert.SmmRefIdeal.main_arg0) = m' ((c.tc : Thread Cert.SmmRefIdeal.nD Cert.SmmRefIdeal.τ).loc Cert.SmmRefIdeal.main_arg0)
          ∧ r.2.mem ((c.tc : Thread Cert.SmmRefIdeal.nD Cert.SmmRefIdeal.τ).loc Cert.SmmRefIdeal.main_arg1) = m' ((c.tc : Thread Cert.SmmRefIdeal.nD Cert.SmmRefIdeal.τ).loc Cert.SmmRefIdeal.main_arg1)
          ∧ r.2.mem ((c.tc : Thread Cert.SmmRefIdeal.nD Cert.SmmRefIdeal.τ).loc Cert.SmmRefIdeal.main_arg2) = m' ((c.tc : Thread Cert.SmmRefIdeal.nD Cert.SmmRefIdeal.τ).loc Cert.SmmRefIdeal.main_arg2)
          ∧ r.2.mem ((c.tc : Thread Cert.SmmRefIdeal.nD Cert.SmmRefIdeal.τ).loc Cert.SmmRefIdeal.main_arg3) = m' ((c.tc : Thread Cert.SmmRefIdeal.nD Cert.SmmRefIdeal.τ).loc Cert.SmmRefIdeal.main_arg3))

def preserves_Memf_MemfIdeal : Prop :=
  True

def algebraic_MemfIdeal_MemfRefIdeal [hMemfIdeal : Cert.MemfIdeal.Facts] [hMemfRefIdeal : Cert.MemfRefIdeal.Facts] : Prop :=
  ∀ (m : (ℓ : Loc Cert.MemfIdeal.nD Cert.MemfIdeal.τ Cert.MemfIdeal.sig) → Buf (Elt Ideal) ℓ) (g : Dev Cert.MemfIdeal.nD → PrngReg)
    (m' : (ℓ : Loc Cert.MemfRefIdeal.nD Cert.MemfRefIdeal.τ Cert.MemfRefIdeal.sig) → Buf (Elt Ideal) ℓ) (g' : Dev Cert.MemfRefIdeal.nD → PrngReg), Pre_MemfIdeal m →
    (∀ c : Dev Cert.MemfIdeal.nD,
      m' ((c.tc : Thread Cert.MemfRefIdeal.nD Cert.MemfRefIdeal.τ).loc Cert.MemfRefIdeal.main_arg0) = m ((c.tc : Thread Cert.MemfIdeal.nD Cert.MemfIdeal.τ).loc Cert.MemfIdeal.main_arg0)
      ∧ m' ((c.tc : Thread Cert.MemfRefIdeal.nD Cert.MemfRefIdeal.τ).loc Cert.MemfRefIdeal.main_arg1) = m ((c.tc : Thread Cert.MemfIdeal.nD Cert.MemfIdeal.τ).loc Cert.MemfIdeal.main_arg1)
      ∧ m' ((c.tc : Thread Cert.MemfRefIdeal.nD Cert.MemfRefIdeal.τ).loc Cert.MemfRefIdeal.main_arg2) = m ((c.tc : Thread Cert.MemfIdeal.nD Cert.MemfIdeal.τ).loc Cert.MemfIdeal.main_arg2)) →
    ∃ (v0 : (c : Dev Cert.MemfIdeal.nD) → Buf (Elt Ideal) ((c.tc : Thread Cert.MemfIdeal.nD Cert.MemfIdeal.τ).loc Cert.MemfIdeal.main_v1)),
      θ_run (Cert.MemfIdeal.defs (F := Ideal)) (onTc (τ := Cert.MemfIdeal.τ) (Cert.MemfIdeal.main (F := Ideal))) ⟨m, fun _ => 0, g⟩ (fun r => ∀ c : Dev Cert.MemfIdeal.nD,
          r.2.mem ((c.tc : Thread Cert.MemfIdeal.nD Cert.MemfIdeal.τ).loc Cert.MemfIdeal.main_v1) = v0 c
          ∧ r.2.mem ((c.tc : Thread Cert.MemfIdeal.nD Cert.MemfIdeal.τ).loc Cert.MemfIdeal.main_arg0) = m ((c.tc : Thread Cert.MemfIdeal.nD Cert.MemfIdeal.τ).loc Cert.MemfIdeal.main_arg0)
          ∧ r.2.mem ((c.tc : Thread Cert.MemfIdeal.nD Cert.MemfIdeal.τ).loc Cert.MemfIdeal.main_arg1) = m ((c.tc : Thread Cert.MemfIdeal.nD Cert.MemfIdeal.τ).loc Cert.MemfIdeal.main_arg1)
          ∧ r.2.mem ((c.tc : Thread Cert.MemfIdeal.nD Cert.MemfIdeal.τ).loc Cert.MemfIdeal.main_arg2) = m ((c.tc : Thread Cert.MemfIdeal.nD Cert.MemfIdeal.τ).loc Cert.MemfIdeal.main_arg2))
      ∧ θ_run (Cert.MemfRefIdeal.defs (F := Ideal)) (onTc (τ := Cert.MemfRefIdeal.τ) (Cert.MemfRefIdeal.main (F := Ideal))) ⟨m', fun _ => 0, g'⟩ (fun r => ∀ c : Dev Cert.MemfRefIdeal.nD,
          r.2.mem ((c.tc : Thread Cert.MemfRefIdeal.nD Cert.MemfRefIdeal.τ).loc Cert.MemfRefIdeal.main_v29) = v0 c
          ∧ r.2.mem ((c.tc : Thread Cert.MemfRefIdeal.nD Cert.MemfRefIdeal.τ).loc Cert.MemfRefIdeal.main_arg0) = m' ((c.tc : Thread Cert.MemfRefIdeal.nD Cert.MemfRefIdeal.τ).loc Cert.MemfRefIdeal.main_arg0)
          ∧ r.2.mem ((c.tc : Thread Cert.MemfRefIdeal.nD Cert.MemfRefIdeal.τ).loc Cert.MemfRefIdeal.main_arg1) = m' ((c.tc : Thread Cert.MemfRefIdeal.nD Cert.MemfRefIdeal.τ).loc Cert.MemfRefIdeal.main_arg1)
          ∧ r.2.mem ((c.tc : Thread Cert.MemfRefIdeal.nD Cert.MemfRefIdeal.τ).loc Cert.MemfRefIdeal.main_arg2) = m' ((c.tc : Thread Cert.MemfRefIdeal.nD Cert.MemfRefIdeal.τ).loc Cert.MemfRefIdeal.main_arg2))

def preserves_Gmf_GmfIdeal : Prop :=
  IdealRules.named_const.Statement Cert.GmfIdeal.κ "gelu_a" .f32 0x3D372713#32 ((8943 / 200000 : ℝ) : EReal)

def algebraic_GmfIdeal_GmfRefIdeal_on_gmf_written [hGmfIdeal : Cert.GmfIdeal.Facts] [hGmfRefIdeal : Cert.GmfRefIdeal.Facts] [hOn_gmf_written : Cert.On_gmf_written.Facts] : Prop :=
  ∀ (m : (ℓ : Loc Cert.GmfIdeal.nD Cert.GmfIdeal.τ Cert.GmfIdeal.sig) → Buf (Elt Ideal) ℓ) (g : Dev Cert.GmfIdeal.nD → PrngReg)
    (m' : (ℓ : Loc Cert.GmfRefIdeal.nD Cert.GmfRefIdeal.τ Cert.GmfRefIdeal.sig) → Buf (Elt Ideal) ℓ) (g' : Dev Cert.GmfRefIdeal.nD → PrngReg), Pre_GmfIdeal m →
    (∀ c : Dev Cert.GmfIdeal.nD,
      m' ((c.tc : Thread Cert.GmfRefIdeal.nD Cert.GmfRefIdeal.τ).loc Cert.GmfRefIdeal.main_arg0) = m ((c.tc : Thread Cert.GmfIdeal.nD Cert.GmfIdeal.τ).loc Cert.GmfIdeal.main_arg0)
      ∧ m' ((c.tc : Thread Cert.GmfRefIdeal.nD Cert.GmfRefIdeal.τ).loc Cert.GmfRefIdeal.main_arg1) = m ((c.tc : Thread Cert.GmfIdeal.nD Cert.GmfIdeal.τ).loc Cert.GmfIdeal.main_arg1)
      ∧ m' ((c.tc : Thread Cert.GmfRefIdeal.nD Cert.GmfRefIdeal.τ).loc Cert.GmfRefIdeal.main_arg2) = m ((c.tc : Thread Cert.GmfIdeal.nD Cert.GmfIdeal.τ).loc Cert.GmfIdeal.main_arg2)
      ∧ m' ((c.tc : Thread Cert.GmfRefIdeal.nD Cert.GmfRefIdeal.τ).loc Cert.GmfRefIdeal.main_arg3) = m ((c.tc : Thread Cert.GmfIdeal.nD Cert.GmfIdeal.τ).loc Cert.GmfIdeal.main_arg3)) →
    ∃ (v0 : (c : Dev Cert.GmfIdeal.nD) → Buf (Elt Ideal) ((c.tc : Thread Cert.GmfIdeal.nD Cert.GmfIdeal.τ).loc Cert.GmfIdeal.main_v4)),
      θ_run (Cert.GmfIdeal.defs (F := Ideal)) (onTc (τ := Cert.GmfIdeal.τ) (Cert.GmfIdeal.main (F := Ideal))) ⟨m, fun _ => 0, g⟩ (fun r => ∀ c : Dev Cert.GmfIdeal.nD,
          (∀ i : (⟨2, ![8192, 1024]⟩ : Shape).Idx, (Cert.On_gmf_written.fn (F := Ideal) (m ((c.tc : Thread Cert.GmfIdeal.nD Cert.GmfIdeal.τ).loc Cert.GmfIdeal.main_arg0)) (m ((c.tc : Thread Cert.GmfIdeal.nD Cert.GmfIdeal.τ).loc Cert.GmfIdeal.main_arg1)) (m ((c.tc : Thread Cert.GmfIdeal.nD Cert.GmfIdeal.τ).loc Cert.GmfIdeal.main_arg2)) (m ((c.tc : Thread Cert.GmfIdeal.nD Cert.GmfIdeal.τ).loc Cert.GmfIdeal.main_arg3))) i = 1#1 → r.2.mem ((c.tc : Thread Cert.GmfIdeal.nD Cert.GmfIdeal.τ).loc Cert.GmfIdeal.main_v4) i = v0 c i)
          ∧ r.2.mem ((c.tc : Thread Cert.GmfIdeal.nD Cert.GmfIdeal.τ).loc Cert.GmfIdeal.main_arg0) = m ((c.tc : Thread Cert.GmfIdeal.nD Cert.GmfIdeal.τ).loc Cert.GmfIdeal.main_arg0)
          ∧ r.2.mem ((c.tc : Thread Cert.GmfIdeal.nD Cert.GmfIdeal.τ).loc Cert.GmfIdeal.main_arg1) = m ((c.tc : Thread Cert.GmfIdeal.nD Cert.GmfIdeal.τ).loc Cert.GmfIdeal.main_arg1)
          ∧ r.2.mem ((c.tc : Thread Cert.GmfIdeal.nD Cert.GmfIdeal.τ).loc Cert.GmfIdeal.main_arg2) = m ((c.tc : Thread Cert.GmfIdeal.nD Cert.GmfIdeal.τ).loc Cert.GmfIdeal.main_arg2)
          ∧ r.2.mem ((c.tc : Thread Cert.GmfIdeal.nD Cert.GmfIdeal.τ).loc Cert.GmfIdeal.main_arg3) = m ((c.tc : Thread Cert.GmfIdeal.nD Cert.GmfIdeal.τ).loc Cert.GmfIdeal.main_arg3))
      ∧ θ_run (Cert.GmfRefIdeal.defs (F := Ideal)) (onTc (τ := Cert.GmfRefIdeal.τ) (Cert.GmfRefIdeal.main (F := Ideal))) ⟨m', fun _ => 0, g'⟩ (fun r => ∀ c : Dev Cert.GmfRefIdeal.nD,
          (∀ i : (⟨2, ![8192, 1024]⟩ : Shape).Idx, (Cert.On_gmf_written.fn (F := Ideal) (m ((c.tc : Thread Cert.GmfIdeal.nD Cert.GmfIdeal.τ).loc Cert.GmfIdeal.main_arg0)) (m ((c.tc : Thread Cert.GmfIdeal.nD Cert.GmfIdeal.τ).loc Cert.GmfIdeal.main_arg1)) (m ((c.tc : Thread Cert.GmfIdeal.nD Cert.GmfIdeal.τ).loc Cert.GmfIdeal.main_arg2)) (m ((c.tc : Thread Cert.GmfIdeal.nD Cert.GmfIdeal.τ).loc Cert.GmfIdeal.main_arg3))) i = 1#1 → r.2.mem ((c.tc : Thread Cert.GmfRefIdeal.nD Cert.GmfRefIdeal.τ).loc Cert.GmfRefIdeal.main_v52) i = v0 c i)
          ∧ r.2.mem ((c.tc : Thread Cert.GmfRefIdeal.nD Cert.GmfRefIdeal.τ).loc Cert.GmfRefIdeal.main_arg0) = m' ((c.tc : Thread Cert.GmfRefIdeal.nD Cert.GmfRefIdeal.τ).loc Cert.GmfRefIdeal.main_arg0)
          ∧ r.2.mem ((c.tc : Thread Cert.GmfRefIdeal.nD Cert.GmfRefIdeal.τ).loc Cert.GmfRefIdeal.main_arg1) = m' ((c.tc : Thread Cert.GmfRefIdeal.nD Cert.GmfRefIdeal.τ).loc Cert.GmfRefIdeal.main_arg1)
          ∧ r.2.mem ((c.tc : Thread Cert.GmfRefIdeal.nD Cert.GmfRefIdeal.τ).loc Cert.GmfRefIdeal.main_arg2) = m' ((c.tc : Thread Cert.GmfRefIdeal.nD Cert.GmfRefIdeal.τ).loc Cert.GmfRefIdeal.main_arg2)
          ∧ r.2.mem ((c.tc : Thread Cert.GmfRefIdeal.nD Cert.GmfRefIdeal.τ).loc Cert.GmfRefIdeal.main_arg3) = m' ((c.tc : Thread Cert.GmfRefIdeal.nD Cert.GmfRefIdeal.τ).loc Cert.GmfRefIdeal.main_arg3))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v1)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v1) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v3) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v3)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v3) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v10) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Ksum_KsumIdeal : Prop :=
  True

def algebraic_KsumIdeal_KsumRefIdeal [hKsumIdeal : Cert.KsumIdeal.Facts] [hKsumRefIdeal : Cert.KsumRefIdeal.Facts] : Prop :=
  ∀ (m : (ℓ : Loc Cert.KsumIdeal.nD Cert.KsumIdeal.τ Cert.KsumIdeal.sig) → Buf (Elt Ideal) ℓ) (g : Dev Cert.KsumIdeal.nD → PrngReg)
    (m' : (ℓ : Loc Cert.KsumRefIdeal.nD Cert.KsumRefIdeal.τ Cert.KsumRefIdeal.sig) → Buf (Elt Ideal) ℓ) (g' : Dev Cert.KsumRefIdeal.nD → PrngReg), Pre_KsumIdeal m →
    (∀ c : Dev Cert.KsumIdeal.nD,
      m' ((c.tc : Thread Cert.KsumRefIdeal.nD Cert.KsumRefIdeal.τ).loc Cert.KsumRefIdeal.main_arg0) = m ((c.tc : Thread Cert.KsumIdeal.nD Cert.KsumIdeal.τ).loc Cert.KsumIdeal.main_arg0)
      ∧ m' ((c.tc : Thread Cert.KsumRefIdeal.nD Cert.KsumRefIdeal.τ).loc Cert.KsumRefIdeal.main_arg1) = m ((c.tc : Thread Cert.KsumIdeal.nD Cert.KsumIdeal.τ).loc Cert.KsumIdeal.main_arg1)) →
    ∃ (v0 : (c : Dev Cert.KsumIdeal.nD) → Buf (Elt Ideal) ((c.tc : Thread Cert.KsumIdeal.nD Cert.KsumIdeal.τ).loc Cert.KsumIdeal.main_v3)),
      θ_run (Cert.KsumIdeal.defs (F := Ideal)) (onTc (τ := Cert.KsumIdeal.τ) (Cert.KsumIdeal.main (F := Ideal))) ⟨m, fun _ => 0, g⟩ (fun r => ∀ c : Dev Cert.KsumIdeal.nD,
          r.2.mem ((c.tc : Thread Cert.KsumIdeal.nD Cert.KsumIdeal.τ).loc Cert.KsumIdeal.main_v3) = v0 c
          ∧ r.2.mem ((c.tc : Thread Cert.KsumIdeal.nD Cert.KsumIdeal.τ).loc Cert.KsumIdeal.main_arg0) = m ((c.tc : Thread Cert.KsumIdeal.nD Cert.KsumIdeal.τ).loc Cert.KsumIdeal.main_arg0)
          ∧ r.2.mem ((c.tc : Thread Cert.KsumIdeal.nD Cert.KsumIdeal.τ).loc Cert.KsumIdeal.main_arg1) = m ((c.tc : Thread Cert.KsumIdeal.nD Cert.KsumIdeal.τ).loc Cert.KsumIdeal.main_arg1))
      ∧ θ_run (Cert.KsumRefIdeal.defs (F := Ideal)) (onTc (τ := Cert.KsumRefIdeal.τ) (Cert.KsumRefIdeal.main (F := Ideal))) ⟨m', fun _ => 0, g'⟩ (fun r => ∀ c : Dev Cert.KsumRefIdeal.nD,
          r.2.mem ((c.tc : Thread Cert.KsumRefIdeal.nD Cert.KsumRefIdeal.τ).loc Cert.KsumRefIdeal.main_v1) = v0 c
          ∧ r.2.mem ((c.tc : Thread Cert.KsumRefIdeal.nD Cert.KsumRefIdeal.τ).loc Cert.KsumRefIdeal.main_arg0) = m' ((c.tc : Thread Cert.KsumRefIdeal.nD Cert.KsumRefIdeal.τ).loc Cert.KsumRefIdeal.main_arg0)
          ∧ r.2.mem ((c.tc : Thread Cert.KsumRefIdeal.nD Cert.KsumRefIdeal.τ).loc Cert.KsumRefIdeal.main_arg1) = m' ((c.tc : Thread Cert.KsumRefIdeal.nD Cert.KsumRefIdeal.τ).loc Cert.KsumRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)) (v3 : (c : Dev Cert.AdamIdeal.nD) → Buf (Elt Ideal) ((c.tc : Thread Cert.AdamIdeal.nD Cert.AdamIdeal.τ).loc Cert.AdamIdeal.main_v4_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_v4_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v26) = v0 c
          ∧ r.2.mem ((c.tc : Thread Cert.AdamRefIdeal.nD Cert.AdamRefIdeal.τ).loc Cert.AdamRefIdeal.main_v27) = v1 c
          ∧ r.2.mem ((c.tc : Thread Cert.AdamRefIdeal.nD Cert.AdamRefIdeal.τ).loc Cert.AdamRefIdeal.main_v28) = v2 c
          ∧ r.2.mem ((c.tc : Thread Cert.AdamRefIdeal.nD Cert.AdamRefIdeal.τ).loc Cert.AdamRefIdeal.main_v29) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hDown : Cert.Down.Facts) (hDownIdeal : Cert.DownIdeal.Facts) (hDownRefIdeal : Cert.DownRefIdeal.Facts) (hStick : Cert.Stick.Facts) (hStickIdeal : Cert.StickIdeal.Facts) (hStickRefIdeal : Cert.StickRefIdeal.Facts) (hWalk : Cert.Walk.Facts) (hWalkIdeal : Cert.WalkIdeal.Facts) (hWalkRefIdeal : Cert.WalkRefIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hMix : Cert.Mix.Facts) (hMixIdeal : Cert.MixIdeal.Facts) (hMixRefIdeal : Cert.MixRefIdeal.Facts) (hMixb : Cert.Mixb.Facts) (hMixbIdeal : Cert.MixbIdeal.Facts) (hMixbRefIdeal : Cert.MixbRefIdeal.Facts) (hMnorm : Cert.Mnorm.Facts) (hMnormIdeal : Cert.MnormIdeal.Facts) (hMnormRefIdeal : Cert.MnormRefIdeal.Facts) (hLoss : Cert.Loss.Facts) (hLossIdeal : Cert.LossIdeal.Facts) (hLossRefIdeal : Cert.LossRefIdeal.Facts) (hMemo : Cert.Memo.Facts) (hMemoIdeal : Cert.MemoIdeal.Facts) (hMemoRefIdeal : Cert.MemoRefIdeal.Facts) (hMemb : Cert.Memb.Facts) (hMembIdeal : Cert.MembIdeal.Facts) (hMembRefIdeal : Cert.MembRefIdeal.Facts) (hGmlp : Cert.Gmlp.Facts) (hGmlpIdeal : Cert.GmlpIdeal.Facts) (hGmlpRefIdeal : Cert.GmlpRefIdeal.Facts) (hNmm : Cert.Nmm.Facts) (hNmmIdeal : Cert.NmmIdeal.Facts) (hNmmRefIdeal : Cert.NmmRefIdeal.Facts) (hKvp : Cert.Kvp.Facts) (hKvpIdeal : Cert.KvpIdeal.Facts) (hKvpRefIdeal : Cert.KvpRefIdeal.Facts) (hSmm : Cert.Smm.Facts) (hSmmIdeal : Cert.SmmIdeal.Facts) (hSmmRefIdeal : Cert.SmmRefIdeal.Facts) (hMemf : Cert.Memf.Facts) (hMemfIdeal : Cert.MemfIdeal.Facts) (hMemfRefIdeal : Cert.MemfRefIdeal.Facts) (hGmf : Cert.Gmf.Facts) (hGmfIdeal : Cert.GmfIdeal.Facts) (hGmfRefIdeal : Cert.GmfRefIdeal.Facts) (hDy : Cert.Dy.Facts) (hDyIdeal : Cert.DyIdeal.Facts) (hDyRefIdeal : Cert.DyRefIdeal.Facts) (hDw : Cert.Dw.Facts) (hDwIdeal : Cert.DwIdeal.Facts) (hDwRefIdeal : Cert.DwRefIdeal.Facts) (hOut : Cert.Out.Facts) (hOutIdeal : Cert.OutIdeal.Facts) (hOutRefIdeal : Cert.OutRefIdeal.Facts) (hKsum : Cert.Ksum.Facts) (hKsumIdeal : Cert.KsumIdeal.Facts) (hKsumRefIdeal : Cert.KsumRefIdeal.Facts) (hAdam : Cert.Adam.Facts) (hAdamIdeal : Cert.AdamIdeal.Facts) (hAdamRefIdeal : Cert.AdamRefIdeal.Facts) (hPre_stick_finite : Cert.Pre_stick_finite.Facts) (hPre_walk_finite : Cert.Pre_walk_finite.Facts) (hPre_gate_finite : Cert.Pre_gate_finite.Facts) (hPre_norm_finite : Cert.Pre_norm_finite.Facts) (hPre_mix_finite : Cert.Pre_mix_finite.Facts) (hPre_mixb_finite : Cert.Pre_mixb_finite.Facts) (hPre_mnorm_finite : Cert.Pre_mnorm_finite.Facts) (hPre_loss_finite : Cert.Pre_loss_finite.Facts) (hPre_memo_finite : Cert.Pre_memo_finite.Facts) (hPre_memb_finite : Cert.Pre_memb_finite.Facts) (hPre_gmlp_finite : Cert.Pre_gmlp_finite.Facts) (hOn_stick_written : Cert.On_stick_written.Facts) (hOn_walk_written : Cert.On_walk_written.Facts) (hOn_gmlp_written : Cert.On_gmlp_written.Facts) (hOn_gmf_written : Cert.On_gmf_written.Facts),
    quiescent_Down (hDown := hDown)
    ∧ quiescent_DownIdeal (hDownIdeal := hDownIdeal)
    ∧ quiescent_DownRefIdeal (hDownRefIdeal := hDownRefIdeal)
    ∧ quiescent_Stick (hStick := hStick)
    ∧ quiescent_StickIdeal (hStickIdeal := hStickIdeal)
    ∧ quiescent_StickIdeal_pre_stick_finite (hStickIdeal := hStickIdeal) (hPre_stick_finite := hPre_stick_finite)
    ∧ quiescent_StickRefIdeal (hStickRefIdeal := hStickRefIdeal)
    ∧ quiescent_StickRefIdeal_pre_stick_finite (hStickRefIdeal := hStickRefIdeal) (hPre_stick_finite := hPre_stick_finite)
    ∧ quiescent_Walk (hWalk := hWalk)
    ∧ quiescent_WalkIdeal (hWalkIdeal := hWalkIdeal)
    ∧ quiescent_WalkIdeal_pre_walk_finite (hWalkIdeal := hWalkIdeal) (hPre_walk_finite := hPre_walk_finite)
    ∧ quiescent_WalkRefIdeal (hWalkRefIdeal := hWalkRefIdeal)
    ∧ quiescent_WalkRefIdeal_pre_walk_finite (hWalkRefIdeal := hWalkRefIdeal) (hPre_walk_finite := hPre_walk_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Mixb (hMixb := hMixb)
    ∧ quiescent_MixbIdeal (hMixbIdeal := hMixbIdeal)
    ∧ quiescent_MixbIdeal_pre_mixb_finite (hMixbIdeal := hMixbIdeal) (hPre_mixb_finite := hPre_mixb_finite)
    ∧ quiescent_MixbRefIdeal (hMixbRefIdeal := hMixbRefIdeal)
    ∧ quiescent_MixbRefIdeal_pre_mixb_finite (hMixbRefIdeal := hMixbRefIdeal) (hPre_mixb_finite := hPre_mixb_finite)
    ∧ quiescent_Mnorm (hMnorm := hMnorm)
    ∧ quiescent_MnormIdeal (hMnormIdeal := hMnormIdeal)
    ∧ quiescent_MnormIdeal_pre_mnorm_finite (hMnormIdeal := hMnormIdeal) (hPre_mnorm_finite := hPre_mnorm_finite)
    ∧ quiescent_MnormRefIdeal (hMnormRefIdeal := hMnormRefIdeal)
    ∧ quiescent_MnormRefIdeal_pre_mnorm_finite (hMnormRefIdeal := hMnormRefIdeal) (hPre_mnorm_finite := hPre_mnorm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Memo (hMemo := hMemo)
    ∧ quiescent_MemoIdeal (hMemoIdeal := hMemoIdeal)
    ∧ quiescent_MemoIdeal_pre_memo_finite (hMemoIdeal := hMemoIdeal) (hPre_memo_finite := hPre_memo_finite)
    ∧ quiescent_MemoRefIdeal (hMemoRefIdeal := hMemoRefIdeal)
    ∧ quiescent_MemoRefIdeal_pre_memo_finite (hMemoRefIdeal := hMemoRefIdeal) (hPre_memo_finite := hPre_memo_finite)
    ∧ quiescent_Memb (hMemb := hMemb)
    ∧ quiescent_MembIdeal (hMembIdeal := hMembIdeal)
    ∧ quiescent_MembIdeal_pre_memb_finite (hMembIdeal := hMembIdeal) (hPre_memb_finite := hPre_memb_finite)
    ∧ quiescent_MembRefIdeal (hMembRefIdeal := hMembRefIdeal)
    ∧ quiescent_MembRefIdeal_pre_memb_finite (hMembRefIdeal := hMembRefIdeal) (hPre_memb_finite := hPre_memb_finite)
    ∧ quiescent_Gmlp (hGmlp := hGmlp)
    ∧ quiescent_GmlpIdeal (hGmlpIdeal := hGmlpIdeal)
    ∧ quiescent_GmlpIdeal_pre_gmlp_finite (hGmlpIdeal := hGmlpIdeal) (hPre_gmlp_finite := hPre_gmlp_finite)
    ∧ quiescent_GmlpRefIdeal (hGmlpRefIdeal := hGmlpRefIdeal)
    ∧ quiescent_GmlpRefIdeal_pre_gmlp_finite (hGmlpRefIdeal := hGmlpRefIdeal) (hPre_gmlp_finite := hPre_gmlp_finite)
    ∧ quiescent_Nmm (hNmm := hNmm)
    ∧ quiescent_NmmIdeal (hNmmIdeal := hNmmIdeal)
    ∧ quiescent_NmmRefIdeal (hNmmRefIdeal := hNmmRefIdeal)
    ∧ quiescent_Kvp (hKvp := hKvp)
    ∧ quiescent_KvpIdeal (hKvpIdeal := hKvpIdeal)
    ∧ quiescent_KvpRefIdeal (hKvpRefIdeal := hKvpRefIdeal)
    ∧ quiescent_Smm (hSmm := hSmm)
    ∧ quiescent_SmmIdeal (hSmmIdeal := hSmmIdeal)
    ∧ quiescent_SmmRefIdeal (hSmmRefIdeal := hSmmRefIdeal)
    ∧ quiescent_Memf (hMemf := hMemf)
    ∧ quiescent_MemfIdeal (hMemfIdeal := hMemfIdeal)
    ∧ quiescent_MemfRefIdeal (hMemfRefIdeal := hMemfRefIdeal)
    ∧ quiescent_Gmf (hGmf := hGmf)
    ∧ quiescent_GmfIdeal (hGmfIdeal := hGmfIdeal)
    ∧ quiescent_GmfRefIdeal (hGmfRefIdeal := hGmfRefIdeal)
    ∧ quiescent_Dy (hDy := hDy)
    ∧ quiescent_DyIdeal (hDyIdeal := hDyIdeal)
    ∧ quiescent_DyRefIdeal (hDyRefIdeal := hDyRefIdeal)
    ∧ quiescent_Dw (hDw := hDw)
    ∧ quiescent_DwIdeal (hDwIdeal := hDwIdeal)
    ∧ quiescent_DwRefIdeal (hDwRefIdeal := hDwRefIdeal)
    ∧ quiescent_Out (hOut := hOut)
    ∧ quiescent_OutIdeal (hOutIdeal := hOutIdeal)
    ∧ quiescent_OutRefIdeal (hOutRefIdeal := hOutRefIdeal)
    ∧ quiescent_Ksum (hKsum := hKsum)
    ∧ quiescent_KsumIdeal (hKsumIdeal := hKsumIdeal)
    ∧ quiescent_KsumRefIdeal (hKsumRefIdeal := hKsumRefIdeal)
    ∧ quiescent_Adam (hAdam := hAdam)
    ∧ quiescent_AdamIdeal (hAdamIdeal := hAdamIdeal)
    ∧ quiescent_AdamRefIdeal (hAdamRefIdeal := hAdamRefIdeal)
    ∧ preserves_Down_DownIdeal
    ∧ algebraic_DownIdeal_DownRefIdeal (hDownIdeal := hDownIdeal) (hDownRefIdeal := hDownRefIdeal)
    ∧ preserves_Stick_StickIdeal
    ∧ algebraic_StickIdeal_StickRefIdeal_on_stick_written_pre_stick_finite (hStickIdeal := hStickIdeal) (hStickRefIdeal := hStickRefIdeal) (hPre_stick_finite := hPre_stick_finite) (hOn_stick_written := hOn_stick_written)
    ∧ preserves_Walk_WalkIdeal
    ∧ algebraic_WalkIdeal_WalkRefIdeal_on_walk_written_pre_walk_finite (hWalkIdeal := hWalkIdeal) (hWalkRefIdeal := hWalkRefIdeal) (hPre_walk_finite := hPre_walk_finite) (hOn_walk_written := hOn_walk_written)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Mixb_MixbIdeal
    ∧ algebraic_MixbIdeal_MixbRefIdeal_pre_mixb_finite (hMixbIdeal := hMixbIdeal) (hMixbRefIdeal := hMixbRefIdeal) (hPre_mixb_finite := hPre_mixb_finite)
    ∧ preserves_Mnorm_MnormIdeal
    ∧ algebraic_MnormIdeal_MnormRefIdeal_pre_mnorm_finite (hMnormIdeal := hMnormIdeal) (hMnormRefIdeal := hMnormRefIdeal) (hPre_mnorm_finite := hPre_mnorm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Memo_MemoIdeal
    ∧ algebraic_MemoIdeal_MemoRefIdeal_pre_memo_finite (hMemoIdeal := hMemoIdeal) (hMemoRefIdeal := hMemoRefIdeal) (hPre_memo_finite := hPre_memo_finite)
    ∧ preserves_Memb_MembIdeal
    ∧ algebraic_MembIdeal_MembRefIdeal_pre_memb_finite (hMembIdeal := hMembIdeal) (hMembRefIdeal := hMembRefIdeal) (hPre_memb_finite := hPre_memb_finite)
    ∧ preserves_Gmlp_GmlpIdeal
    ∧ algebraic_GmlpIdeal_GmlpRefIdeal_on_gmlp_written_pre_gmlp_finite (hGmlpIdeal := hGmlpIdeal) (hGmlpRefIdeal := hGmlpRefIdeal) (hPre_gmlp_finite := hPre_gmlp_finite) (hOn_gmlp_written := hOn_gmlp_written)
    ∧ preserves_Nmm_NmmIdeal
    ∧ algebraic_NmmIdeal_NmmRefIdeal (hNmmIdeal := hNmmIdeal) (hNmmRefIdeal := hNmmRefIdeal)
    ∧ preserves_Kvp_KvpIdeal
    ∧ algebraic_KvpIdeal_KvpRefIdeal (hKvpIdeal := hKvpIdeal) (hKvpRefIdeal := hKvpRefIdeal)
    ∧ preserves_Smm_SmmIdeal
    ∧ algebraic_SmmIdeal_SmmRefIdeal (hSmmIdeal := hSmmIdeal) (hSmmRefIdeal := hSmmRefIdeal)
    ∧ preserves_Memf_MemfIdeal
    ∧ algebraic_MemfIdeal_MemfRefIdeal (hMemfIdeal := hMemfIdeal) (hMemfRefIdeal := hMemfRefIdeal)
    ∧ preserves_Gmf_GmfIdeal
    ∧ algebraic_GmfIdeal_GmfRefIdeal_on_gmf_written (hGmfIdeal := hGmfIdeal) (hGmfRefIdeal := hGmfRefIdeal) (hOn_gmf_written := hOn_gmf_written)
    ∧ preserves_Dy_DyIdeal
    ∧ algebraic_DyIdeal_DyRefIdeal (hDyIdeal := hDyIdeal) (hDyRefIdeal := hDyRefIdeal)
    ∧ preserves_Dw_DwIdeal
    ∧ algebraic_DwIdeal_DwRefIdeal (hDwIdeal := hDwIdeal) (hDwRefIdeal := hDwRefIdeal)
    ∧ preserves_Out_OutIdeal
    ∧ algebraic_OutIdeal_OutRefIdeal (hOutIdeal := hOutIdeal) (hOutRefIdeal := hOutRefIdeal)
    ∧ preserves_Ksum_KsumIdeal
    ∧ algebraic_KsumIdeal_KsumRefIdeal (hKsumIdeal := hKsumIdeal) (hKsumRefIdeal := hKsumRefIdeal)
    ∧ preserves_Adam_AdamIdeal
    ∧ algebraic_AdamIdeal_AdamRefIdeal (hAdamIdeal := hAdamIdeal) (hAdamRefIdeal := hAdamRefIdeal)
-- ==== On_gmf_written.lean ====
abbrev S8192x1792 : Shape := ⟨2, ![8192, 1792]⟩
abbrev S768 : Shape := ⟨1, ![768]⟩
abbrev S6x128x128 : Shape := ⟨3, ![6, 128, 128]⟩
abbrev S6x128 : Shape := ⟨2, ![6, 128]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1792 .f32) (main_arg1 : FVec F S768 .f32) (main_arg2 : FVec F S6x128x128 .f32) (main_arg3 : FVec F S6x128 .f32) : IVec S8192x1024 1 :=
  let main_v0 : IVec S8192x1024 32 := iotaInDim S8192x1024 32 1
  let main_c : IVec S_ 32 := constantI S_ 32 768#32
  let main_v1 : IVec S8192x1024 32 := broadcastInDim S8192x1024 ![] bcast_S_S8192x1024 main_c
  let main_v2 : IVec S8192x1024 1 := cmpi .slt main_v0 main_v1
  main_v2
-- ==== On_gmlp_written.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S_ : Shape := ⟨0, ![]⟩
abbrev S1x768 : Shape := ⟨2, ![1, 768]⟩

class Facts : Prop where
  bcast_S_S6x128x128 : S_.BroadcastsInDim S6x128x128 (![] : Fin 0 → Fin S6x128x128.rank)
  bcast_S_S8192x1792 : S_.BroadcastsInDim S8192x1792 (![] : Fin 0 → Fin S8192x1792.rank)
  bcast_S_S1x768 : S_.BroadcastsInDim S1x768 (![] : Fin 0 → Fin S1x768.rank)

variable [Facts]

def fn {F : FTy → Type} [FloatOps F] (main_arg0 : FVec F S8192x1792 .f32) (main_arg1 : FVec F S8192x1024 .f32) (main_arg2 : FVec F S768 .f32) (main_arg3 : FVec F S6x128x128 .f32) (main_arg4 : FVec F S6x128 .f32) : IVec S8192x1792 1 × IVec S6x128x128 1 × IVec S6x128x128 1 × IVec S1x768 1 :=
  let main_v0 : IVec S6x128x128 32 := iotaInDim S6x128x128 32 0
  let main_c : IVec S_ 32 := constantI S_ 32 0#32
  let main_v1 : IVec S6x128x128 32 := broadcastInDim S6x128x128 ![] bcast_S_S6x128x128 main_c
  let main_v2 : IVec S6x128x128 1 := cmpi .sge main_v0 main_v1
  let main_v3 : IVec S8192x1792 32 := iotaInDim S8192x1792 32 1
  let main_c_0 : IVec S_ 32 := constantI S_ 32 1536#32
  let main_v4 : IVec S8192x1792 32 := broadcastInDim S8192x1792 ![] bcast_S_S8192x1792 main_c_0
  let main_v5 : IVec S8192x1792 1 := cmpi .slt main_v3 main_v4
  let main_v6 : IVec S1x768 32 := iotaInDim S1x768 32 0
  let main_c_1 : IVec S_ 32 := constantI S_ 32 0#32
  let main_v7 : IVec S1x768 32 := broadcastInDim S1x768 ![] bcast_S_S1x768 main_c_1
  let main_v8 : IVec S1x768 1 := cmpi .sge main_v6 main_v7
  (main_v5, main_v2, main_v2, main_v8)
-- ==== On_stick_written.lean ====
abbrev S8192x768 : Shape := ⟨2, ![8192, 768]⟩
abbrev S_ : Shape := ⟨0, ![]⟩
abbrev S8192x1024 : Shape := ⟨2, ![8192, 1024]⟩

class Facts : Prop where
  bcast_S_S8192x768 : S_.BroadcastsInDim S8192x768 (![] : Fin 0 → Fin S8192x768.rank)
  bcast_S_S8192x1024 : S_.BroadcastsInDim S8192x1024 (![] : Fin 0 → Fin S8192x1024.rank)

variable [Facts]

def fn {F : FTy → Type} [FloatOps F] (main_arg0 : FVec F S8192x768 .f32) (main_arg1 : FVec F S8192x768 .f32) (main_arg2 : FVec F S8192x768 .f32) (main_arg3 : FVec F S8192x768 .f32) : IVec S8192x1024 1 × IVec S8192x768 1 × IVec S8192x768 1 :=
  let main_v0 : IVec S8192x768 32 := iotaInDim S8192x768 32 0
  let main_c : IVec S_ 32 := constantI S_ 32 0#32
  let main_v1 : IVec S8192x768 32 := broadcastInDim S8192x768 ![] bcast_S_S8192x768 main_c
  let main_v2 : IVec S8192x768 1 := cmpi .sge main_v0 main_v1
  let main_v3 : IVec S8192x1024 32 := iotaInDim S8192x1024 32 1
  let main_c_0 : IVec S_ 32 := constantI S_ 32 768#32
  let main_v4 : IVec S8192x1024 32 := broadcastInDim S8192x1024 ![] bcast_S_S8192x1024 main_c_0
  let main_v5 : IVec S8192x1024 1 := cmpi .slt main_v3 main_v4
  (main_v5, main_v2, main_v2)
-- ==== On_walk_written.lean ====
abbrev S8192x768 : Shape := ⟨2, ![8192, 768]⟩
abbrev S_ : Shape := ⟨0, ![]⟩
abbrev S8192x1024 : Shape := ⟨2, ![8192, 1024]⟩

class Facts : Prop where
  bcast_S_S8192x768 : S_.BroadcastsInDim S8192x768 (![] : Fin 0 → Fin S8192x768.rank)
  bcast_S_S8192x1024 : S_.BroadcastsInDim S8192x1024 (![] : Fin 0 → Fin S8192x1024.rank)

variable [Facts]

def fn {F : FTy → Type} [FloatOps F] (main_arg0 : FVec F S8192x768 .f32) (main_arg1 : FVec F S8192x768 .f32) (main_arg2 : FVec F S8192x768 .f32) : IVec S8192x768 1 × IVec S8192x1024 1 :=
  let main_v0 : IVec S8192x768 32 := iotaInDim S8192x768 32 0
  let main_c : IVec S_ 32 := constantI S_ 32 0#32
  let main_v1 : IVec S8192x768 32 := broadcastInDim S8192x768 ![] bcast_S_S8192x768 main_c
  let main_v2 : IVec S8192x768 1 := cmpi .sge main_v0 main_v1
  let main_v3 : IVec S8192x1024 32 := iotaInDim S8192x1024 32 1
  let main_c_0 : IVec S_ 32 := constantI S_ 32 768#32
  let main_v4 : IVec S8192x1024 32 := broadcastInDim S8192x1024 ![] bcast_S_S8192x1024 main_c_0
  let main_v5 : IVec S8192x1024 1 := cmpi .slt main_v3 main_v4
  (main_v2, main_v5)
-- ==== Pre_gate_finite.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x2816 .f32) (main_arg1 : FVec F S8192x2816 .f32) (main_arg2 : FVec F S2816x1024 .f32) (main_arg3 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_gmlp_finite.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S_ : Shape := ⟨0, ![]⟩

class Facts : Prop where
  bcast_S_S8192x1792 : S_.BroadcastsInDim S8192x1792 (![] : Fin 0 → Fin S8192x1792.rank)
  reducesTo_S8192x1792_S_d0_1 : S8192x1792.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S768 : S_.BroadcastsInDim S768 (![] : Fin 0 → Fin S768.rank)
  reducesTo_S768_S_d0 : S768.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_

variable [Facts]

def fn_part1 {F : FTy → Type} [FloatOps F] (main_arg4 : FVec F S6x128 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg4
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  main_v23

def fn {F : FTy → Type} [FloatOps F] (main_arg0 : FVec F S8192x1792 .f32) (main_arg1 : FVec F S8192x1024 .f32) (main_arg2 : FVec F S768 .f32) (main_arg3 : FVec F S6x128x128 .f32) (main_arg4 : FVec F S6x128 .f32) : IVec S_ 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_c : IVec S_ 1 := constantI S_ 1 1#1
  let main_v3 : IVec S_ 1 := (fun x v => Host.reduce IntOp.andi x v reducesTo_S8192x1792_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S6x128x128 .f32 := Host.absf main_arg3
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg4 main_v13 main_v16
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_memb_finite.lean ====
abbrev S8192x1024 : Shape := ⟨2, ![8192, 1024]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .f32) (main_arg1 : FVec F S256x2048 .f32) (main_arg2 : FVec F S8192x1024 .f32) (main_arg3 : FVec F S8192x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_memo_finite.lean ====
abbrev S8192x1792 : Shape := ⟨2, ![8192, 1792]⟩
abbrev S256x2048 : Shape := ⟨2, ![256, 2048]⟩
abbrev S8192x1024 : Shape := ⟨2, ![8192, 1024]⟩
abbrev S_ : Shape := ⟨0, ![]⟩

class Facts : Prop where
  bcast_S_S8192x1792 : S_.BroadcastsInDim S8192x1792 (![] : Fin 0 → Fin S8192x1792.rank)
  reducesTo_S8192x1792_S_d0_1 : S8192x1792.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1792 .f32) (main_arg1 : FVec F S256x2048 .f32) (main_arg2 : FVec F S8192x1024 .f32) (main_arg3 : FVec F S8192x1792 .bf16) : IVec S_ 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_c : IVec S_ 1 := constantI S_ 1 1#1
  let main_v3 : IVec S_ 1 := (fun x v => Host.reduce IntOp.andi x v reducesTo_S8192x1792_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_mix_finite.lean ====
abbrev S8192x1024 : Shape := ⟨2, ![8192, 1024]⟩
abbrev S1024 : Shape := ⟨1, ![1024]⟩
abbrev S1024x1792 : Shape := ⟨2, ![1024, 1792]⟩
abbrev S8192x1792 : Shape := ⟨2, ![8192, 1792]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1792 : S_.BroadcastsInDim S1024x1792 (![] : Fin 0 → Fin S1024x1792.rank)
  reducesTo_S1024x1792_S_d0_1 : S1024x1792.ReducesTo [0, 1] S_
  bcast_S_S8192x1792 : S_.BroadcastsInDim S8192x1792 (![] : Fin 0 → Fin S8192x1792.rank)
  reducesTo_S8192x1792_S_d0_1 : S8192x1792.ReducesTo [0, 1] S_

variable [Facts]

def fn_part1 {F : FTy → Type} [FloatOps F] (main_v13 : IVec S_ 1) (main_v16 : IVec S8192x1792 1) : IVec S_ 1 :=
  let main_c_5 : IVec S_ 1 := constantI S_ 1 1#1
  let main_v17 : IVec S_ 1 := (fun x v => Host.reduce IntOp.andi x v reducesTo_S8192x1792_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x1792 .f32) (main_arg3 : FVec F S8192x1792 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1792 .f32 := Host.absf main_arg2
  let main_cst_2 : FVec F S_ .f32 := constant S_ .f32 0x7F800000#32
  let main_v10 : FVec F S1024x1792 .f32 := broadcastInDim S1024x1792 ![] bcast_S_S1024x1792 main_cst_2
  let main_v11 : IVec S1024x1792 1 := cmpf .olt main_v9 main_v10
  let main_c_3 : IVec S_ 1 := constantI S_ 1 1#1
  let main_v12 : IVec S_ 1 := (fun x v => Host.reduce IntOp.andi x v reducesTo_S1024x1792_S_d0_1 h_S_) main_v11 main_c_3
  let main_v13 : IVec S_ 1 := andi main_v8 main_v12
  let main_v14 : FVec F S8192x1792 .f32 := Host.absf main_arg3
  let main_cst_4 : FVec F S_ .f32 := constant S_ .f32 0x7F800000#32
  let main_v15 : FVec F S8192x1792 .f32 := broadcastInDim S8192x1792 ![] bcast_S_S8192x1792 main_cst_4
  let main_v16 : IVec S8192x1792 1 := cmpf .olt main_v14 main_v15
  fn_part1 (F := F) main_v13 main_v16
-- ==== Pre_mixb_finite.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x1024 .f32) (main_arg3 : FVec F S8192x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_mnorm_finite.lean ====
abbrev S256x1024 : Shape := ⟨2, ![256, 1024]⟩
abbrev S1024 : Shape := ⟨1, ![1024]⟩
abbrev S4x1024x512 : Shape := ⟨3, ![4, 1024, 512]⟩
abbrev S4x256x512 : Shape := ⟨3, ![4, 256, 512]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x512 : S_.BroadcastsInDim S4x1024x512 (![] : Fin 0 → Fin S4x1024x512.rank)
  reducesTo_S4x1024x512_S_d0_1_2 : S4x1024x512.ReducesTo [0, 1, 2] S_
  bcast_S_S4x256x512 : S_.BroadcastsInDim S4x256x512 (![] : Fin 0 → Fin S4x256x512.rank)
  reducesTo_S4x256x512_S_d0_1_2 : S4x256x512.ReducesTo [0, 1, 2] S_

variable [Facts]

def fn_part1 {F : FTy → Type} [FloatOps F] (main_v13 : IVec S_ 1) (main_v16 : IVec S4x256x512 1) : IVec S_ 1 :=
  let main_c_5 : IVec S_ 1 := constantI S_ 1 1#1
  let main_v17 : IVec S_ 1 := (fun x v => Host.reduce IntOp.andi x v reducesTo_S4x256x512_S_d0_1_2 h_S_) main_v16 main_c_5
  let main_v18 : IVec S_ 1 := andi main_v13 main_v17
  main_v18

def fn {F : FTy → Type} [FloatOps F] (main_arg0 : FVec F S256x1024 .f32) (main_arg1 : FVec F S1024 .f32) (main_arg2 : FVec F S4x1024x512 .f32) (main_arg3 : FVec F S4x256x512 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024x512 .f32 := Host.absf main_arg2
  let main_cst_2 : FVec F S_ .f32 := constant S_ .f32 0x7F800000#32
  let main_v10 : FVec F S4x1024x512 .f32 := broadcastInDim S4x1024x512 ![] bcast_S_S4x1024x512 main_cst_2
  let main_v11 : IVec S4x1024x512 1 := cmpf .olt main_v9 main_v10
  let main_c_3 : IVec S_ 1 := constantI S_ 1 1#1
  let main_v12 : IVec S_ 1 := (fun x v => Host.reduce IntOp.andi x v reducesTo_S4x1024x512_S_d0_1_2 h_S_) main_v11 main_c_3
  let main_v13 : IVec S_ 1 := andi main_v8 main_v12
  let main_v14 : FVec F S4x256x512 .f32 := Host.absf main_arg3
  let main_cst_4 : FVec F S_ .f32 := constant S_ .f32 0x7F800000#32
  let main_v15 : FVec F S4x256x512 .f32 := broadcastInDim S4x256x512 ![] bcast_S_S4x256x512 main_cst_4
  let main_v16 : IVec S4x256x512 1 := cmpf .olt main_v14 main_v15
  fn_part1 (F := F) main_v13 main_v16
-- ==== Pre_norm_finite.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x2816 .f32) (main_arg5 : FVec F S8192x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x2816 .f32 := Host.absf main_arg4
  let main_cst_6 : FVec F S_ .f32 := constant S_ .f32 0x7F800000#32
  let main_v20 : FVec F S8192x2816 .f32 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S8192x2816 .f32 := Host.absf main_arg5
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x2816 .f32) (main_arg5 : FVec F S8192x2816 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_stick_finite.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn_part1 {F : FTy → Type} [FloatOps F] (main_v13 : IVec S_ 1) (main_v16 : IVec S8192x768 1) : IVec S_ 1 :=
  let main_c_5 : IVec S_ 1 := constantI S_ 1 1#1
  let main_v17 : IVec S_ 1 := (fun x v => Host.reduce IntOp.andi x v reducesTo_S8192x768_S_d0_1 h_S_) main_v16 main_c_5
  let main_v18 : IVec S_ 1 := andi main_v13 main_v17
  main_v18

def fn {F : FTy → Type} [FloatOps F] (main_arg0 : FVec F S8192x768 .f32) (main_arg1 : FVec F S8192x768 .f32) (main_arg2 : FVec F S8192x768 .f32) (main_arg3 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S8192x768 .f32 := Host.absf main_arg2
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  let main_v14 : FVec F S8192x768 .f32 := Host.absf main_arg3
  let main_cst_4 : FVec F S_ .f32 := constant S_ .f32 0x7F800000#32
  let main_v15 : FVec F S8192x768 .f32 := broadcastInDim S8192x768 ![] bcast_S_S8192x768 main_cst_4
  let main_v16 : IVec S8192x768 1 := cmpf .olt main_v14 main_v15
  fn_part1 (F := F) main_v13 main_v16
-- ==== Pre_walk_finite.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) (main_arg2 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S8192x768 .f32 := Host.absf main_arg2
  let main_cst_2 : FVec F S_ .f32 := constant S_ .f32 0x7F800000#32
  let main_v10 : FVec F S8192x768 .f32 := broadcastInDim S8192x768 ![] bcast_S_S8192x768 main_cst_2
  let main_v11 : IVec S8192x768 1 := cmpf .olt main_v9 main_v10
  let main_c_3 : IVec S_ 1 := constantI S_ 1 1#1
  let main_v12 : IVec S_ 1 := (fun x v => Host.reduce IntOp.andi x v reducesTo_S8192x768_S_d0_1 h_S_) main_v11 main_c_3
  let main_v13 : IVec S_ 1 := andi main_v8 main_v12
  main_v13
-- ==== Down.lean ====
abbrev S8192x2816 : Shape := ⟨2, ![8192, 2816]⟩
abbrev S8192x1024 : Shape := ⟨2, ![8192, 1024]⟩
abbrev S8192x5632 : Shape := ⟨2, ![8192, 5632]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩
abbrev S128x1024 : Shape := ⟨2, ![128, 1024]⟩
abbrev S512x128 : Shape := ⟨2, ![512, 128]⟩

abbrev nBuf : Space → Nat
  | .hbm => 6
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x5632, .f32⟩
  | .hbm, ⟨4, _⟩ => ⟨S8192x5632, .bf16⟩
  | .hbm, ⟨5, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1024, .f32⟩
  | .local _ .vmem, ⟨5, _⟩ => ⟨S512x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v247 : BitVec 1 := Scalar.cmpi .eq arg1 c15_i32
  let v248 : BitVec 32 := Scalar.extui v247
  let c0_i32_123 : BitVec 32 := 0#32
  let v249 : BitVec 1 := Scalar.cmpi .ne v248 c0_i32_123
  v249

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Stick.lean ====
abbrev S8192x768 : Shape := ⟨2, ![8192, 768]⟩
abbrev S1x8192x12x64 : Shape := ⟨4, ![1, 8192, 12, 64]⟩
abbrev S8192 : Shape := ⟨1, ![8192]⟩
abbrev S1x12x8192x8192 : Shape := ⟨4, ![1, 12, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x12x64x8192 : Shape := ⟨4, ![1, 12, 64, 8192]⟩
abbrev S1x8192x768 : Shape := ⟨3, ![1, 8192, 768]⟩
abbrev S8192x1024 : Shape := ⟨2, ![8192, 1024]⟩
abbrev S8192x1536 : Shape := ⟨2, ![8192, 1536]⟩
abbrev S256x128 : Shape := ⟨2, ![256, 128]⟩
abbrev S8192x128 : Shape := ⟨2, ![8192, 128]⟩
abbrev S256x256 : Shape := ⟨2, ![256, 256]⟩
abbrev S128x128 : Shape := ⟨2, ![128, 128]⟩
abbrev S512x128 : Shape := ⟨2, ![512, 128]⟩
abbrev S128 : Shape := ⟨1, ![128]⟩
abbrev S128x1 : Shape := ⟨2, ![128, 1]⟩
abbrev S512x256 : Shape := ⟨2, ![512, 256]⟩
abbrev S128x256 : Shape := ⟨2, ![128, 256]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 83
  | .vmem => 16
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S1x8192x12x64, .f32⟩
  | .hbm, ⟨5, _⟩ => ⟨S1x8192x12x64, .f32⟩
  | .hbm, ⟨6, _⟩ => ⟨S1x8192x12x64, .f32⟩
  | .hbm, ⟨7, _⟩ => ⟨S8192, .i32⟩
  | .hbm, ⟨8, _⟩ => ⟨S1x12x8192x8192, .f32⟩
  | .hbm, ⟨9, _⟩ => ⟨S_, .f32⟩
  | .hbm, ⟨10, _⟩ => ⟨S1x12x8192x8192, .f32⟩
  | .hbm, ⟨11, _⟩ => ⟨S1x12x8192x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x12x8192x8192, .f32⟩
  | .hbm, ⟨18, _⟩ => ⟨S_, .f32⟩
  | .hbm, ⟨19, _⟩ => ⟨S1x12x8192x8192, .f32⟩
  | .hbm, ⟨20, _⟩ => ⟨S1x12x8192x8192, .f32⟩
  | .hbm, ⟨21, _⟩ => ⟨S1x12x8192x8192, .f32⟩
  | .hbm, ⟨22, _⟩ => ⟨S1x12x8192x8192, .f32⟩
  | .hbm, ⟨23, _⟩ => ⟨S1x12x8192x8192, .i1⟩
  | .hbm, ⟨24, _⟩ => ⟨S1x12x8192x8192, .f32⟩
  | .hbm, ⟨25, _⟩ => ⟨S1x12x8192x8192, .f32⟩
  | .hbm, ⟨26, _⟩ => ⟨S1x12x8192x8192, .f32⟩
  | .hbm, ⟨27, _⟩ => ⟨S1x12x8192x8192, .f32⟩
  | .hbm, ⟨28, _⟩ => ⟨S1x12x8192x8192, .f32⟩
  | .hbm, ⟨29, _⟩ => ⟨S1x12x8192x8192, .f32⟩
  | .hbm, ⟨30, _⟩ => ⟨S1x12x8192x8192, .f32⟩
  | .hbm, ⟨31, _⟩ => ⟨S1x12x8192x8192, .f32⟩
  | .hbm, ⟨32, _⟩ => ⟨S1x12x8192x8192, .f32⟩
  | .hbm, ⟨33, _⟩ => ⟨S1x12x8192x8192, .f32⟩
  | .hbm, ⟨34, _⟩ => ⟨S1x12x8192x8192, .f32⟩
  | .hbm, ⟨35, _⟩ => ⟨S_, .f32⟩
  | .hbm, ⟨36, _⟩ => ⟨S1x12x8192x8192, .f32⟩
  | .hbm, ⟨37, _⟩ => ⟨S1x12x8192x8192, .f32⟩
  | .hbm, ⟨38, _⟩ => ⟨S1x12x8192x8192, .f32⟩
  | .hbm, ⟨39, _⟩ => ⟨S1x12x8192x8192, .f32⟩
  | .hbm, ⟨40, _⟩ => ⟨S1x12x8192x8192, .i1⟩
  | .hbm, ⟨41, _⟩ => ⟨S1x12x8192x8192, .f32⟩
  | .hbm, ⟨42, _⟩ => ⟨S1x12x8192x8192, .f32⟩
  | .hbm, ⟨43, _⟩ => ⟨S1x12x8192x8192, .f32⟩
  | .hbm, ⟨44, _⟩ => ⟨S1x12x8192x8192, .f32⟩
  | .hbm, ⟨45, _⟩ => ⟨S1x12x8192x8192, .f32⟩
  | .hbm, ⟨46, _⟩ => ⟨S1x12x8192x8192, .f32⟩
  | .hbm, ⟨47, _⟩ => ⟨S1x12x8192x8192, .f32⟩
  | .hbm, ⟨48, _⟩ => ⟨S1x12x8192x8192, .f32⟩
  | .hbm, ⟨49, _⟩ => ⟨S1x12x8192x8192, .f32⟩
  | .hbm, ⟨50, _⟩ => ⟨S_, .f32⟩
  | .hbm, ⟨51, _⟩ => ⟨S_, .f32⟩
  | .hbm, ⟨52, _⟩ => ⟨S1x12x8192x8192, .i1⟩
  | .hbm, ⟨53, _⟩ => ⟨S1x12x8192x8192, .f32⟩
  | .hbm, ⟨54, _⟩ => ⟨S1x12x8192x8192, .f32⟩
  | .hbm, ⟨55, _⟩ => ⟨S_, .f32⟩
  | .hbm, ⟨56, _⟩ => ⟨S_, .f32⟩
  | .hbm, ⟨57, _⟩ => ⟨S1x12x8192x8192, .f32⟩
  | .hbm, ⟨58, _⟩ => ⟨S1x12x8192x8192, .f32⟩
  | .hbm, ⟨59, _⟩ => ⟨S1x12x8192x8192, .f32⟩
  | .hbm, ⟨60, _⟩ => ⟨S1x12x8192x8192, .f32⟩
  | .hbm, ⟨61, _⟩ => ⟨S_, .f32⟩
  | .hbm, ⟨62, _⟩ => ⟨S_, .f32⟩
  | .hbm, ⟨63, _⟩ => ⟨S1x12x8192x8192, .i1⟩
  | .hbm, ⟨64, _⟩ => ⟨S1x12x8192x8192, .f32⟩
  | .hbm, ⟨65, _⟩ => ⟨S1x12x8192x8192, .f32⟩
  | .hbm, ⟨66, _⟩ => ⟨S1x12x64x8192, .f32⟩
  | .hbm, ⟨67, _⟩ => ⟨S1x8192x12x64, .f32⟩
  | .hbm, ⟨68, _⟩ => ⟨S1x8192x768, .f32⟩
  | .hbm, ⟨69, _⟩ => ⟨S8192x768, .f32⟩
  | .hbm, ⟨70, _⟩ => ⟨S_, .i32⟩
  | .hbm, ⟨71, _⟩ => ⟨S_, .f32⟩
  | .hbm, ⟨72, _⟩ => ⟨S8192x1024, .f32⟩
  | .hbm, ⟨73, _⟩ => ⟨S8192x1024, .bf16⟩
  | .hbm, ⟨74, _⟩ => ⟨S8192x1536, .f32⟩
  | .hbm, ⟨75, _⟩ => ⟨S8192x1536, .bf16⟩
  | .hbm, ⟨76, _⟩ => ⟨S_, .i32⟩
  | .hbm, ⟨77, _⟩ => ⟨S_, .f32⟩
  | .hbm, ⟨78, _⟩ => ⟨S8192x1024, .f32⟩
  | .hbm, ⟨79, _⟩ => ⟨S8192x1024, .bf16⟩
  | .hbm, ⟨80, _⟩ => ⟨S8192x1024, .bf16⟩
  | .hbm, ⟨81, _⟩ => ⟨S8192x768, .f32⟩
  | .hbm, ⟨82, _⟩ => ⟨S8192x768, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v14 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c : Ref sig .tc := ⟨.hbm, 70, rfl⟩
abbrev main_call5_v0 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c_2 : Ref sig .tc := ⟨.hbm, 76, rfl⟩
abbrev main_call6_v0 : Ref sig .tc := ⟨.hbm, 77, rfl⟩
abbrev main_v29 : Ref sig .tc := ⟨.hbm, 78, rfl⟩
abbrev main_v30 : Ref sig .tc := ⟨.hbm, 79, rfl⟩
abbrev main_v31_0 : Ref sig .tc := ⟨.hbm, 80, rfl⟩
abbrev main_v31_1 : Ref sig .tc := ⟨.hbm, 81, rfl⟩
abbrev main_v31_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 32], ![false, false]⟩

def k0_mult1 (i : grid0.Coords) : BitVec 32 :=
  let arg1 : BitVec 32 := BitVec.ofNat 32 (i 1).val
  let c2_i32 : BitVec 32 := 2#32
  let v105 : BitVec 32 := Scalar.muli arg1 c2_i32
  let c1_i32 : BitVec 32 := 1#32
  let v106 : BitVec 32 := Scalar.shrui v105 c1_i32
  let c256_i32 : BitVec 32 := 256#32
  let v107 : BitVec 32 := Scalar.muli v106 c256_i32
  v107
def k0_off1 (i : grid0.Coords) : Fin 2 → Nat :=
  let arg1 : BitVec 32 := BitVec.ofNat 32 (i 1).val
  let c2_i32 : BitVec 32 := 2#32
  let v105 : BitVec 32 := Scalar.muli arg1 c2_i32
  let c1_i32 : BitVec 32 := 1#32
  let v106 : BitVec 32 := Scalar.shrui v105 c1_i32
  let c256_i32 : BitVec 32 := 256#32
  let v107 : BitVec 32 := Scalar.muli v106 c256_i32
  let v108 : BitVec 32 := v107
  let v109 : Index := Scalar.indexCast v108
  let c0_30 : Index := 0#32
  ![v109.toNat, 0]
def k0_mult2 (arg10 : BitVec 32) : BitVec 32 :=
  let c256_i32_100 : BitVec 32 := 256#32
  let v470 : BitVec 32 := Scalar.muli arg10 c256_i32_100
  v470

def k0_off2 (arg10 : BitVec 32) : Fin 2 → Nat :=
  let c256_i32_100 : BitVec 32 := 256#32
  let v470 : BitVec 32 := Scalar.muli arg10 c256_i32_100
  let v471 : BitVec 32 := v470
  let v472 : Index := Scalar.indexCast v471
  let c0_101 : Index := 0#32
  ![v472.toNat, 0]

def k0_chk1 (arg10 : BitVec 32) : Prop :=
  (256 ∣ (k0_mult2 arg10).toNat) ∧
  (∀ a, (k0_off2 arg10) a + S256x128.size a ≤ S8192x128.size a)
theorem k0_mult2_dvd : ∀ (arg10 : BitVec 32) (k0_hw1 : k0_chk1 arg10), 256 ∣ (k0_mult2 arg10).toNat := fun arg10 k0_hw1 => k0_hw1.1
theorem k0_off2_inb : ∀ (arg10 : BitVec 32) (k0_hw1 : k0_chk1 arg10), ∀ a, (k0_off2 arg10) a + S256x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StickIdeal.lean ====
variable {F : FTy → Type} [FloatOps F] [Named F]
def κ : String → Option EReal := fun
  | "dead" => some ⊥
  | _ => none
-- ==== StickRefIdeal.lean ====
abbrev S8192x768 : Shape := ⟨2, ![8192, 768]⟩
abbrev S1x8192x12x64 : Shape := ⟨4, ![1, 8192, 12, 64]⟩
abbrev S8192 : Shape := ⟨1, ![8192]⟩
abbrev S1x12x8192x8192 : Shape := ⟨4, ![1, 12, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x12x64x8192 : Shape := ⟨4, ![1, 12, 64, 8192]⟩
abbrev S1x8192x768 : Shape := ⟨3, ![1, 8192, 768]⟩
abbrev S1x12x8192x64 : Shape := ⟨4, ![1, 12, 8192, 64]⟩
abbrev S8192x1024 : Shape := ⟨2, ![8192, 1024]⟩

abbrev nBuf : Space → Nat
  | .hbm => 178
  | .vmem => 0
  | .smem => 0
  | _ => 0

abbrev hbmTy0_0 (i : Nat) : BufTy := match i % 128 with
  | 0 => ⟨S8192x768, .f32⟩
  | 1 => ⟨S8192x768, .f32⟩
  | 2 => ⟨S8192x768, .f32⟩
  | 3 => ⟨S8192x768, .f32⟩
  | 4 => ⟨S1x8192x12x64, .f32⟩
  | 5 => ⟨S1x8192x12x64, .f32⟩
  | 6 => ⟨S1x8192x12x64, .f32⟩
  | 7 => ⟨S8192, .i32⟩
  | 8 => ⟨S1x12x8192x8192, .f32⟩
  | 9 => ⟨S_, .f32⟩
  | 10 => ⟨S1x12x8192x8192, .f32⟩
  | 11 => ⟨S1x12x8192x8192, .f32⟩
  | 12 => ⟨S1x8192, .i32⟩
  | 13 => ⟨S8192x1, .i32⟩
  | 14 => ⟨S8192x8192, .i32⟩
  | 15 => ⟨S8192x8192, .i32⟩
  | 16 => ⟨S8192x8192, .i1⟩
  | 17 => ⟨S1x12x8192x8192, .f32⟩
  | 18 => ⟨S_, .f32⟩
  | 19 => ⟨S1x12x8192x8192, .f32⟩
  | 20 => ⟨S1x12x8192x8192, .f32⟩
  | 21 => ⟨S1x12x8192x8192, .f32⟩
  | 22 => ⟨S1x12x8192x8192, .f32⟩
  | 23 => ⟨S1x12x8192x8192, .i1⟩
  | 24 => ⟨S1x12x8192x8192, .f32⟩
  | 25 => ⟨S1x12x8192x8192, .f32⟩
  | 26 => ⟨S1x12x8192x8192, .f32⟩
  | 27 => ⟨S1x12x8192x8192, .f32⟩
  | 28 => ⟨S1x12x8192x8192, .f32⟩
  | 29 => ⟨S1x12x8192x8192, .f32⟩
  | 30 => ⟨S1x12x8192x8192, .f32⟩
  | 31 => ⟨S1x12x8192x8192, .f32⟩
  | 32 => ⟨S_, .f32⟩
  | 33 => ⟨S1x12x8192x8192, .f32⟩
  | 34 => ⟨S1x12x8192x8192, .i1⟩
  | 35 => ⟨S_, .f32⟩
  | 36 => ⟨S1x12x8192x8192, .f32⟩
  | 37 => ⟨S1x12x8192x8192, .f32⟩
  | 38 => ⟨S_, .f32⟩
  | 39 => ⟨S1x12x8192x8192, .f32⟩
  | 40 => ⟨S1x12x8192x8192, .i1⟩
  | 41 => ⟨S_, .f32⟩
  | 42 => ⟨S1x12x8192x8192, .f32⟩
  | 43 => ⟨S1x12x8192x8192, .f32⟩
  | 44 => ⟨S1x12x8192x8192, .f32⟩
  | 45 => ⟨S1x12x8192x8192, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S1x12x8192x8192, .f32⟩
  | 54 => ⟨S1x12x8192x8192, .i1⟩
  | 55 => ⟨S_, .f32⟩
  | 56 => ⟨S1x12x8192x8192, .f32⟩
  | 57 => ⟨S1x12x8192x8192, .f32⟩
  | 58 => ⟨S1x12x8192x8192, .f32⟩
  | 59 => ⟨S1x12x8192x8192, .f32⟩
  | 60 => ⟨S1x12x8192x8192, .f32⟩
  | 61 => ⟨S_, .f32⟩
  | 62 => ⟨S1x12x8192x8192, .f32⟩
  | 63 => ⟨S1x12x8192x8192, .f32⟩
  | 64 => ⟨S1x12x8192x8192, .f32⟩
  | 65 => ⟨S1x12x8192x8192, .f32⟩
  | 66 => ⟨S1x12x8192x8192, .f32⟩
  | 67 => ⟨S_, .f32⟩
  | 68 => ⟨S1x12x8192x8192, .f32⟩
  | 69 => ⟨S1x12x8192x8192, .f32⟩
  | 70 => ⟨S1x12x8192x8192, .f32⟩
  | 71 => ⟨S1x12x8192x8192, .f32⟩
  | 72 => ⟨S1x12x8192x8192, .i1⟩
  | 73 => ⟨S1x12x8192x8192, .f32⟩
  | 74 => ⟨S1x12x8192x8192, .f32⟩
  | 75 => ⟨S1x12x8192x8192, .f32⟩
  | 76 => ⟨S1x12x8192x8192, .f32⟩
  | 77 => ⟨S1x12x8192x8192, .f32⟩
  | 78 => ⟨S1x12x8192x8192, .f32⟩
  | 79 => ⟨S1x12x8192x8192, .f32⟩
  | 80 => ⟨S1x12x8192x8192, .f32⟩
  | 81 => ⟨S_, .f32⟩
  | 82 => ⟨S1x12x8192x8192, .f32⟩
  | 83 => ⟨S1x12x8192x8192, .i1⟩
  | 84 => ⟨S_, .f32⟩
  | 85 => ⟨S1x12x8192x8192, .f32⟩
  | 86 => ⟨S1x12x8192x8192, .f32⟩
  | 87 => ⟨S_, .f32⟩
  | 88 => ⟨S1x12x8192x8192, .f32⟩
  | 89 => ⟨S1x12x8192x8192, .i1⟩
  | 90 => ⟨S_, .f32⟩
  | 91 => ⟨S1x12x8192x8192, .f32⟩
  | 92 => ⟨S1x12x8192x8192, .f32⟩
  | 93 => ⟨S1x12x8192x8192, .f32⟩
  | 94 => ⟨S1x12x8192x8192, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S1x12x8192x8192, .f32⟩
  | 103 => ⟨S1x12x8192x8192, .i1⟩
  | 104 => ⟨S_, .f32⟩
  | 105 => ⟨S1x12x8192x8192, .f32⟩
  | 106 => ⟨S1x12x8192x8192, .f32⟩
  | 107 => ⟨S1x12x8192x8192, .f32⟩
  | 108 => ⟨S1x12x8192x8192, .f32⟩
  | 109 => ⟨S1x12x8192x8192, .f32⟩
  | 110 => ⟨S_, .f32⟩
  | 111 => ⟨S1x12x8192x8192, .f32⟩
  | 112 => ⟨S1x12x8192x8192, .f32⟩
  | 113 => ⟨S1x12x8192x8192, .f32⟩
  | 114 => ⟨S_, .f32⟩
  | 115 => ⟨S_, .f32⟩
  | 116 => ⟨S1x12x8192x8192, .i1⟩
  | 117 => ⟨S1x12x8192x8192, .f32⟩
  | 118 => ⟨S1x12x8192x8192, .f32⟩
  | 119 => ⟨S_, .f32⟩
  | 120 => ⟨S1x12x8192x8192, .f32⟩
  | 121 => ⟨S_, .f32⟩
  | 122 => ⟨S_, .f32⟩
  | 123 => ⟨S1x12x8192x8192, .f32⟩
  | 124 => ⟨S1x12x8192x8192, .f32⟩
  | 125 => ⟨S1x12x8192x8192, .f32⟩
  | 126 => ⟨S1x12x8192x8192, .f32⟩
  | 127 => ⟨S_, .f32⟩
  | _ => ⟨S8192x768, .f32⟩

abbrev hbmTy0_1 (i : Nat) : BufTy := match i % 128 with
  | 0 => ⟨S_, .f32⟩
  | 1 => ⟨S1x12x8192x8192, .i1⟩
  | 2 => ⟨S1x12x8192x8192, .f32⟩
  | 3 => ⟨S1x12x8192x8192, .f32⟩
  | 4 => ⟨S_, .f32⟩
  | 5 => ⟨S1x12x8192x8192, .f32⟩
  | 6 => ⟨S1x12x64x8192, .f32⟩
  | 7 => ⟨S1x8192x12x64, .f32⟩
  | 8 => ⟨S1x8192x768, .f32⟩
  | 9 => ⟨S8192x768, .f32⟩
  | 10 => ⟨S1x8192x768, .f32⟩
  | 11 => ⟨S1x8192x12x64, .f32⟩
  | 12 => ⟨S1x12x64x8192, .f32⟩
  | 13 => ⟨S1x12x8192x8192, .f32⟩
  | 14 => ⟨S1x12x64x8192, .f32⟩
  | 15 => ⟨S1x8192x12x64, .f32⟩
  | 16 => ⟨S_, .f32⟩
  | 17 => ⟨S1x12x8192x8192, .f32⟩
  | 18 => ⟨S1x12x8192x8192, .f32⟩
  | 19 => ⟨S1x12x8192x8192, .f32⟩
  | 20 => ⟨S1x12x8192x8192, .f32⟩
  | 21 => ⟨S_, .f32⟩
  | 22 => ⟨S_, .f32⟩
  | 23 => ⟨S1x12x8192x8192, .f32⟩
  | 24 => ⟨S1x12x8192x8192, .f32⟩
  | 25 => ⟨S_, .f32⟩
  | 26 => ⟨S1x12x8192x8192, .f32⟩
  | 27 => ⟨S1x12x8192x8192, .f32⟩
  | 28 => ⟨S1x12x8192x8192, .f32⟩
  | 29 => ⟨S1x12x8192x8192, .f32⟩
  | 30 => ⟨S1x12x8192x8192, .f32⟩
  | 31 => ⟨S1x12x8192x8192, .f32⟩
  | 32 => ⟨S1x12x8192x8192, .f32⟩
  | 33 => ⟨S1x12x8192x8192, .f32⟩
  | 34 => ⟨S1x12x8192x8192, .f32⟩
  | 35 => ⟨S1x12x8192x8192, .f32⟩
  | 36 => ⟨S_, .f32⟩
  | 37 => ⟨S1x12x8192x8192, .f32⟩
  | 38 => ⟨S1x12x8192x8192, .f32⟩
  | 39 => ⟨S1x12x8192x64, .f32⟩
  | 40 => ⟨S1x8192x12x64, .f32⟩
  | 41 => ⟨S1x12x8192x64, .f32⟩
  | 42 => ⟨S1x8192x12x64, .f32⟩
  | 43 => ⟨S8192x768, .f32⟩
  | 44 => ⟨S8192x768, .f32⟩
  | 45 => ⟨S8192x768, .f32⟩
  | 46 => ⟨S_, .i32⟩
  | 47 => ⟨S_, .f32⟩
  | 48 => ⟨S8192x1024, .f32⟩
  | 49 => ⟨S8192x1024, .bf16⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v12_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v12_2 : Ref sig .tc := ⟨.hbm, 63, rfl⟩
abbrev main_v12_0 : Ref sig .tc := ⟨.hbm, 64, rfl⟩
abbrev main_v13 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1_0 : Ref sig .tc := ⟨.hbm, 80, rfl⟩
abbrev main_call1_call0_cst_0 : Ref sig .tc := ⟨.hbm, 81, rfl⟩
abbrev main_call1_call0_v13 : Ref sig .tc := ⟨.hbm, 82, rfl⟩
abbrev main_call1_call0_v14 : Ref sig .tc := ⟨.hbm, 83, rfl⟩
abbrev main_call1_call0_cst_1 : Ref sig .tc := ⟨.hbm, 84, rfl⟩
abbrev main_call1_call0_v15 : Ref sig .tc := ⟨.hbm, 85, rfl⟩
abbrev main_call1_call0_v16 : Ref sig .tc := ⟨.hbm, 86, rfl⟩
abbrev main_call1_call0_cst_2 : Ref sig .tc := ⟨.hbm, 87, rfl⟩
abbrev main_call1_call0_v17 : Ref sig .tc := ⟨.hbm, 88, rfl⟩
abbrev main_call1_call0_v18 : Ref sig .tc := ⟨.hbm, 89, rfl⟩
abbrev main_call1_call0_cst_3 : Ref sig .tc := ⟨.hbm, 90, rfl⟩
abbrev main_call1_call0_v19 : Ref sig .tc := ⟨.hbm, 91, rfl⟩
abbrev main_call1_call0_v20 : Ref sig .tc := ⟨.hbm, 92, rfl⟩
abbrev main_call1_call0_v21 : Ref sig .tc := ⟨.hbm, 93, rfl⟩
abbrev main_v14_1 : Ref sig .tc := ⟨.hbm, 94, rfl⟩
abbrev main_call1_call0_cst_4 : Ref sig .tc := ⟨.hbm, 95, rfl⟩
abbrev main_call1_call0_cst_5 : Ref sig .tc := ⟨.hbm, 96, rfl⟩
abbrev main_call1_call0_v23 : Ref sig .tc := ⟨.hbm, 97, rfl⟩
abbrev main_call1_call0_cst_6 : Ref sig .tc := ⟨.hbm, 98, rfl⟩
abbrev main_call1_call0_cst_7 : Ref sig .tc := ⟨.hbm, 99, rfl⟩
abbrev main_call1_call0_v24 : Ref sig .tc := ⟨.hbm, 100, rfl⟩
abbrev main_call1_call0_cst_8 : Ref sig .tc := ⟨.hbm, 101, rfl⟩
abbrev main_call1_call0_v25 : Ref sig .tc := ⟨.hbm, 102, rfl⟩
abbrev main_call1_call0_v26 : Ref sig .tc := ⟨.hbm, 103, rfl⟩
abbrev main_call1_call0_cst_9 : Ref sig .tc := ⟨.hbm, 104, rfl⟩
abbrev main_call1_call0_v27 : Ref sig .tc := ⟨.hbm, 105, rfl⟩
abbrev main_call1_call0_v28 : Ref sig .tc := ⟨.hbm, 106, rfl⟩
abbrev main_call1_call0_v29 : Ref sig .tc := ⟨.hbm, 107, rfl⟩
abbrev main_call1_call0_v30 : Ref sig .tc := ⟨.hbm, 108, rfl⟩
abbrev main_call1_call0_v31 : Ref sig .tc := ⟨.hbm, 109, rfl⟩
abbrev main_call1_call0_cst_10 : Ref sig .tc := ⟨.hbm, 110, rfl⟩
abbrev main_call1_call0_v32 : Ref sig .tc := ⟨.hbm, 111, rfl⟩
abbrev main_v14_2 : Ref sig .tc := ⟨.hbm, 112, rfl⟩
abbrev main_v14_0 : Ref sig .tc := ⟨.hbm, 113, rfl⟩
abbrev main_cst_0 : Ref sig .tc := ⟨.hbm, 114, rfl⟩
abbrev main_call2_v0 : Ref sig .tc := ⟨.hbm, 115, rfl⟩
abbrev main_v15_1 : Ref sig .tc := ⟨.hbm, 116, rfl⟩
abbrev main_call2_v2 : Ref sig .tc := ⟨.hbm, 117, rfl⟩
abbrev main_v15_0 : Ref sig .tc := ⟨.hbm, 118, rfl⟩
abbrev main_call2_cst : Ref sig .tc := ⟨.hbm, 119, rfl⟩
abbrev main_v15_2 : Ref sig .tc := ⟨.hbm, 120, rfl⟩
abbrev main_call3_cst : Ref sig .tc := ⟨.hbm, 121, rfl⟩
abbrev main_call3_v0 : Ref sig .tc := ⟨.hbm, 122, rfl⟩
abbrev main_v16 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_call5_cst : Ref sig .tc := ⟨.hbm, 144, rfl⟩
abbrev main_call5_v0 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_call6_cst : Ref sig .tc := ⟨.hbm, 149, rfl⟩
abbrev main_call6_v0 : Ref sig .tc := ⟨.hbm, 150, rfl⟩
abbrev main_v34 : Ref sig .tc := ⟨.hbm, 151, rfl⟩
abbrev main_v35 : Ref sig .tc := ⟨.hbm, 152, rfl⟩
abbrev main_call7_cst : Ref sig .tc := ⟨.hbm, 153, rfl⟩
abbrev main_call7_v0 : Ref sig .tc := ⟨.hbm, 154, rfl⟩
abbrev main_v36 : Ref sig .tc := ⟨.hbm, 155, rfl⟩
abbrev main_call8_v0 : Ref sig .tc := ⟨.hbm, 156, rfl⟩
abbrev main_call8_v1 : Ref sig .tc := ⟨.hbm, 157, rfl⟩
abbrev main_v37 : Ref sig .tc := ⟨.hbm, 158, rfl⟩
abbrev main_v38 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_v40 : Ref sig .tc := ⟨.hbm, 163, rfl⟩
abbrev main_cst_2 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_c : Ref sig .tc := ⟨.hbm, 174, rfl⟩
abbrev main_call10_v0 : Ref sig .tc := ⟨.hbm, 175, rfl⟩
abbrev main_v50 : Ref sig .tc := ⟨.hbm, 176, rfl⟩
abbrev main_v51 : Ref sig .tc := ⟨.hbm, 177, rfl⟩

abbrev nD : Nat := 1
abbrev τ : Topo := Topo.v7x

variable {F : FTy → Type} [FloatOps F]
-- ==== Walk.lean ====
abbrev S8192x768 : Shape := ⟨2, ![8192, 768]⟩
abbrev S_ : Shape := ⟨0, ![]⟩
abbrev S8192x1024 : Shape := ⟨2, ![8192, 1024]⟩
abbrev S8192x1536 : Shape := ⟨2, ![8192, 1536]⟩
abbrev S256x128 : Shape := ⟨2, ![256, 128]⟩
abbrev S8192x128 : Shape := ⟨2, ![8192, 128]⟩
abbrev S256x256 : Shape := ⟨2, ![256, 256]⟩
abbrev S128x128 : Shape := ⟨2, ![128, 128]⟩
abbrev S512x128 : Shape := ⟨2, ![512, 128]⟩
abbrev S512x256 : Shape := ⟨2, ![512, 256]⟩
abbrev S128x256 : Shape := ⟨2, ![128, 256]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .i32⟩
  | .hbm, ⟨4, _⟩ => ⟨S_, .f32⟩
  | .hbm, ⟨5, _⟩ => ⟨S8192x1024, .f32⟩
  | .hbm, ⟨6, _⟩ => ⟨S8192x1024, .bf16⟩
  | .hbm, ⟨7, _⟩ => ⟨S8192x1536, .f32⟩
  | .hbm, ⟨8, _⟩ => ⟨S8192x1536, .bf16⟩
  | .hbm, ⟨9, _⟩ => ⟨S8192x768, .f32⟩
  | .hbm, ⟨10, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 32], ![false, false]⟩

def k0_mult1 (i : grid0.Coords) : BitVec 32 :=
  let arg1 : BitVec 32 := BitVec.ofNat 32 (i 1).val
  let c2_i32 : BitVec 32 := 2#32
  let v45 : BitVec 32 := Scalar.muli arg1 c2_i32
  let c1_i32 : BitVec 32 := 1#32
  let v46 : BitVec 32 := Scalar.shrui v45 c1_i32
  let c256_i32 : BitVec 32 := 256#32
  let v47 : BitVec 32 := Scalar.muli v46 c256_i32
  v47
def k0_off1 (i : grid0.Coords) : Fin 2 → Nat :=
  let arg1 : BitVec 32 := BitVec.ofNat 32 (i 1).val
  let c2_i32 : BitVec 32 := 2#32
  let v45 : BitVec 32 := Scalar.muli arg1 c2_i32
  let c1_i32 : BitVec 32 := 1#32
  let v46 : BitVec 32 := Scalar.shrui v45 c1_i32
  let c256_i32 : BitVec 32 := 256#32
  let v47 : BitVec 32 := Scalar.muli v46 c256_i32
  let v48 : BitVec 32 := v47
  let v49 : Index := Scalar.indexCast v48
  let c0_10 : Index := 0#32
  ![v49.toNat, 0]
def k0_mult2 (arg7 : BitVec 32) : BitVec 32 :=
  let c256_i32_57 : BitVec 32 := 256#32
  let v246 : BitVec 32 := Scalar.muli arg7 c256_i32_57
  v246

def k0_off2 (arg7 : BitVec 32) : Fin 2 → Nat :=
  let c256_i32_57 : BitVec 32 := 256#32
  let v246 : BitVec 32 := Scalar.muli arg7 c256_i32_57
  let v247 : BitVec 32 := v246
  let v248 : Index := Scalar.indexCast v247
  let c0_58 : Index := 0#32
  ![v248.toNat, 0]

def k0_chk1 (arg7 : BitVec 32) : Prop :=
  (256 ∣ (k0_mult2 arg7).toNat) ∧
  (∀ a, (k0_off2 arg7) a + S256x128.size a ≤ S8192x128.size a)
theorem k0_mult2_dvd : ∀ (arg7 : BitVec 32) (k0_hw1 : k0_chk1 arg7), 256 ∣ (k0_mult2 arg7).toNat := fun arg7 k0_hw1 => k0_hw1.1
theorem k0_off2_inb : ∀ (arg7 : BitVec 32) (k0_hw1 : k0_chk1 arg7), ∀ a, (k0_off2 arg7) a + S256x128.size a ≤ S8192x128.size a := fun arg7 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WalkIdeal.lean ====
variable {F : FTy → Type} [FloatOps F] [Named F]
def κ : String → Option EReal := fun
  | "dead" => some ⊥
  | _ => none
-- ==== WalkRefIdeal.lean ====
abbrev S8192x768 : Shape := ⟨2, ![8192, 768]⟩
abbrev S1x8192x12x64 : Shape := ⟨4, ![1, 8192, 12, 64]⟩
abbrev S8192 : Shape := ⟨1, ![8192]⟩
abbrev S1x12x8192x8192 : Shape := ⟨4, ![1, 12, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x12x64x8192 : Shape := ⟨4, ![1, 12, 64, 8192]⟩
abbrev S1x8192x768 : Shape := ⟨3, ![1, 8192, 768]⟩
abbrev S8192x1024 : Shape := ⟨2, ![8192, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S1x8192x12x64, .f32⟩
  | .hbm, ⟨4, _⟩ => ⟨S1x8192x12x64, .f32⟩
  | .hbm, ⟨5, _⟩ => ⟨S1x8192x12x64, .f32⟩
  | .hbm, ⟨6, _⟩ => ⟨S8192, .i32⟩
  | .hbm, ⟨7, _⟩ => ⟨S1x12x8192x8192, .f32⟩
  | .hbm, ⟨8, _⟩ => ⟨S_, .f32⟩
  | .hbm, ⟨9, _⟩ => ⟨S1x12x8192x8192, .f32⟩
  | .hbm, ⟨10, _⟩ => ⟨S1x12x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x12x8192x8192, .f32⟩
  | .hbm, ⟨17, _⟩ => ⟨S_, .f32⟩
  | .hbm, ⟨18, _⟩ => ⟨S1x12x8192x8192, .f32⟩
  | .hbm, ⟨19, _⟩ => ⟨S1x12x8192x8192, .f32⟩
  | .hbm, ⟨20, _⟩ => ⟨S1x12x8192x8192, .f32⟩
  | .hbm, ⟨21, _⟩ => ⟨S1x12x8192x8192, .f32⟩
  | .hbm, ⟨22, _⟩ => ⟨S1x12x8192x8192, .i1⟩
  | .hbm, ⟨23, _⟩ => ⟨S1x12x8192x8192, .f32⟩
  | .hbm, ⟨24, _⟩ => ⟨S1x12x8192x8192, .f32⟩
  | .hbm, ⟨25, _⟩ => ⟨S1x12x8192x8192, .f32⟩
  | .hbm, ⟨26, _⟩ => ⟨S1x12x8192x8192, .f32⟩
  | .hbm, ⟨27, _⟩ => ⟨S1x12x8192x8192, .f32⟩
  | .hbm, ⟨28, _⟩ => ⟨S1x12x8192x8192, .f32⟩
  | .hbm, ⟨29, _⟩ => ⟨S1x12x8192x8192, .f32⟩
  | .hbm, ⟨30, _⟩ => ⟨S1x12x8192x8192, .f32⟩
  | .hbm, ⟨31, _⟩ => ⟨S1x12x8192x8192, .f32⟩
  | .hbm, ⟨32, _⟩ => ⟨S1x12x8192x8192, .f32⟩
  | .hbm, ⟨33, _⟩ => ⟨S1x12x8192x8192, .f32⟩
  | .hbm, ⟨34, _⟩ => ⟨S_, .f32⟩
  | .hbm, ⟨35, _⟩ => ⟨S1x12x8192x8192, .f32⟩
  | .hbm, ⟨36, _⟩ => ⟨S1x12x8192x8192, .f32⟩
  | .hbm, ⟨37, _⟩ => ⟨S1x12x8192x8192, .f32⟩
  | .hbm, ⟨38, _⟩ => ⟨S1x12x8192x8192, .f32⟩
  | .hbm, ⟨39, _⟩ => ⟨S1x12x8192x8192, .i1⟩
  | .hbm, ⟨40, _⟩ => ⟨S1x12x8192x8192, .f32⟩
  | .hbm, ⟨41, _⟩ => ⟨S1x12x8192x8192, .f32⟩
  | .hbm, ⟨42, _⟩ => ⟨S1x12x8192x8192, .f32⟩
  | .hbm, ⟨43, _⟩ => ⟨S1x12x8192x8192, .f32⟩
  | .hbm, ⟨44, _⟩ => ⟨S1x12x8192x8192, .f32⟩
  | .hbm, ⟨45, _⟩ => ⟨S1x12x8192x8192, .f32⟩
  | .hbm, ⟨46, _⟩ => ⟨S1x12x8192x8192, .f32⟩
  | .hbm, ⟨47, _⟩ => ⟨S1x12x8192x8192, .f32⟩
  | .hbm, ⟨48, _⟩ => ⟨S1x12x8192x8192, .f32⟩
  | .hbm, ⟨49, _⟩ => ⟨S_, .f32⟩
  | .hbm, ⟨50, _⟩ => ⟨S_, .f32⟩
  | .hbm, ⟨51, _⟩ => ⟨S1x12x8192x8192, .i1⟩
  | .hbm, ⟨52, _⟩ => ⟨S1x12x8192x8192, .f32⟩
  | .hbm, ⟨53, _⟩ => ⟨S1x12x8192x8192, .f32⟩
  | .hbm, ⟨54, _⟩ => ⟨S_, .f32⟩
  | .hbm, ⟨55, _⟩ => ⟨S_, .f32⟩
  | .hbm, ⟨56, _⟩ => ⟨S1x12x8192x8192, .f32⟩
  | .hbm, ⟨57, _⟩ => ⟨S1x12x8192x8192, .f32⟩
  | .hbm, ⟨58, _⟩ => ⟨S1x12x8192x8192, .f32⟩
  | .hbm, ⟨59, _⟩ => ⟨S1x12x8192x8192, .f32⟩
  | .hbm, ⟨60, _⟩ => ⟨S_, .f32⟩
  | .hbm, ⟨61, _⟩ => ⟨S_, .f32⟩
  | .hbm, ⟨62, _⟩ => ⟨S1x12x8192x8192, .i1⟩
  | .hbm, ⟨63, _⟩ => ⟨S1x12x8192x8192, .f32⟩
  | .hbm, ⟨64, _⟩ => ⟨S1x12x8192x8192, .f32⟩
  | .hbm, ⟨65, _⟩ => ⟨S1x12x64x8192, .f32⟩
  | .hbm, ⟨66, _⟩ => ⟨S1x8192x12x64, .f32⟩
  | .hbm, ⟨67, _⟩ => ⟨S1x8192x768, .f32⟩
  | .hbm, ⟨68, _⟩ => ⟨S8192x768, .f32⟩
  | .hbm, ⟨69, _⟩ => ⟨S_, .i32⟩
  | .hbm, ⟨70, _⟩ => ⟨S_, .f32⟩
  | .hbm, ⟨71, _⟩ => ⟨S8192x1024, .f32⟩
  | .hbm, ⟨72, _⟩ => ⟨S8192x1024, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v14 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v15 : Ref sig .tc := ⟨.hbm, 53, rfl⟩
abbrev main_call3_cst : Ref sig .tc := ⟨.hbm, 54, rfl⟩
abbrev main_call3_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c : Ref sig .tc := ⟨.hbm, 69, rfl⟩
abbrev main_call5_v0 : Ref sig .tc := ⟨.hbm, 70, rfl⟩
abbrev main_v25 : Ref sig .tc := ⟨.hbm, 71, rfl⟩
abbrev main_v26 : Ref sig .tc := ⟨.hbm, 72, rfl⟩

abbrev nD : Nat := 1
abbrev τ : Topo := Topo.v7x

variable {F : FTy → Type} [FloatOps F]
-- ==== Gate.lean ====
abbrev S8192x2816 : Shape := ⟨2, ![8192, 2816]⟩
abbrev S2816x1024 : Shape := ⟨2, ![2816, 1024]⟩
abbrev S8192x1024 : Shape := ⟨2, ![8192, 1024]⟩
abbrev S8192x5632 : Shape := ⟨2, ![8192, 5632]⟩
abbrev S256x1024 : Shape := ⟨2, ![256, 1024]⟩
abbrev S256x5632 : Shape := ⟨2, ![256, 5632]⟩
abbrev S256x256 : Shape := ⟨2, ![256, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x5632, .f32⟩
  | .hbm, ⟨5, _⟩ => ⟨S8192x5632, .bf16⟩
  | .hbm, ⟨6, _⟩ => ⟨S2816x1024, .bf16⟩
  | .hbm, ⟨7, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192x5632 : Shape := ⟨2, ![8192, 5632]⟩

abbrev nBuf : Space → Nat
  | .hbm => 34
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x5632, .f32⟩
  | .hbm, ⟨33, _⟩ => ⟨S8192x5632, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S5632x1024 : Shape := ⟨2, ![5632, 1024]⟩
abbrev S8192x5632 : Shape := ⟨2, ![8192, 5632]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S2816x1024, .f32⟩
  | .hbm, ⟨8, _⟩ => ⟨S2816x1024, .f32⟩
  | .hbm, ⟨9, _⟩ => ⟨S5632x1024, .f32⟩
  | .hbm, ⟨10, _⟩ => ⟨S5632x1024, .bf16⟩
  | .hbm, ⟨11, _⟩ => ⟨S8192x5632, .f32⟩
  | .hbm, ⟨12, _⟩ => ⟨S8192x5632, .bf16⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== NormRefIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Mix.lean ====
abbrev S8192x1024 : Shape := ⟨2, ![8192, 1024]⟩
abbrev S1024 : Shape := ⟨1, ![1024]⟩
abbrev S1024x1792 : Shape := ⟨2, ![1024, 1792]⟩
abbrev S8192x1792 : Shape := ⟨2, ![8192, 1792]⟩
abbrev S1x1024 : Shape := ⟨2, ![1, 1024]⟩
abbrev S1024x896 : Shape := ⟨2, ![1024, 896]⟩
abbrev S1024x1024 : Shape := ⟨2, ![1024, 1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1792, .f32⟩
  | .hbm, ⟨4, _⟩ => ⟨S8192x1024, .f32⟩
  | .hbm, ⟨5, _⟩ => ⟨S8192x1792, .bf16⟩
  | .hbm, ⟨6, _⟩ => ⟨S1024x1792, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S8192x1024, .bf16⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixRefIdeal.lean ====
abbrev S8192x1024 : Shape := ⟨2, ![8192, 1024]⟩
abbrev S1024 : Shape := ⟨1, ![1024]⟩
abbrev S1024x1792 : Shape := ⟨2, ![1024, 1792]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1792, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Mixb.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixbRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Mnorm.lean ====
abbrev S256x1024 : Shape := ⟨2, ![256, 1024]⟩
abbrev S1024 : Shape := ⟨1, ![1024]⟩
abbrev S4x1024x512 : Shape := ⟨3, ![4, 1024, 512]⟩
abbrev S4x256x512 : Shape := ⟨3, ![4, 256, 512]⟩
abbrev S1024x4x512 : Shape := ⟨3, ![1024, 4, 512]⟩
abbrev S1024x2048 : Shape := ⟨2, ![1024, 2048]⟩
abbrev S1x256x512 : Shape := ⟨3, ![1, 256, 512]⟩
abbrev S256x512 : Shape := ⟨2, ![256, 512]⟩
abbrev S256x2048 : Shape := ⟨2, ![256, 2048]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 21
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S4x1024x512, .f32⟩
  | .hbm, ⟨3, _⟩ => ⟨S4x256x512, .f32⟩
  | .hbm, ⟨4, _⟩ => ⟨S4x1024x512, .bf16⟩
  | .hbm, ⟨5, _⟩ => ⟨S1024x4x512, .bf16⟩
  | .hbm, ⟨6, _⟩ => ⟨S1024x2048, .bf16⟩
  | .hbm, ⟨7, _⟩ => ⟨S1x256x512, .f32⟩
  | .hbm, ⟨8, _⟩ => ⟨S256x512, .f32⟩
  | .hbm, ⟨9, _⟩ => ⟨S1x256x512, .f32⟩
  | .hbm, ⟨10, _⟩ => ⟨S256x512, .f32⟩
  | .hbm, ⟨11, _⟩ => ⟨S1x256x512, .f32⟩
  | .hbm, ⟨12, _⟩ => ⟨S256x512, .f32⟩
  | .hbm, ⟨13, _⟩ => ⟨S1x256x512, .f32⟩
  | .hbm, ⟨14, _⟩ => ⟨S256x512, .f32⟩
  | .hbm, ⟨15, _⟩ => ⟨S256x2048, .f32⟩
  | .hbm, ⟨16, _⟩ => ⟨S256x2048, .bf16⟩
  | .hbm, ⟨17, _⟩ => ⟨S1x1024, .f32⟩
  | .hbm, ⟨18, _⟩ => ⟨S256x1024, .f32⟩
  | .hbm, ⟨19, _⟩ => ⟨S1x1024, .f32⟩
  | .hbm, ⟨20, _⟩ => ⟨S256x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== MnormRefIdeal.lean ====
abbrev S256x1024 : Shape := ⟨2, ![256, 1024]⟩
abbrev S1024 : Shape := ⟨1, ![1024]⟩
abbrev S4x1024x512 : Shape := ⟨3, ![4, 1024, 512]⟩
abbrev S4x256x512 : Shape := ⟨3, ![4, 256, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1x1024x512 : Shape := ⟨3, ![1, 1024, 512]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 94
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S4x1024x512, .f32⟩
  | .hbm, ⟨3, _⟩ => ⟨S4x256x512, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1x1024x512, .f32⟩
  | .hbm, ⟨25, _⟩ => ⟨S1024x512, .f32⟩
  | .hbm, ⟨26, _⟩ => ⟨S256x512, .f32⟩
  | .hbm, ⟨27, _⟩ => ⟨S1x1024x512, .f32⟩
  | .hbm, ⟨28, _⟩ => ⟨S1024x512, .f32⟩
  | .hbm, ⟨29, _⟩ => ⟨S256x512, .f32⟩
  | .hbm, ⟨30, _⟩ => ⟨S1x1024x512, .f32⟩
  | .hbm, ⟨31, _⟩ => ⟨S1024x512, .f32⟩
  | .hbm, ⟨32, _⟩ => ⟨S256x512, .f32⟩
  | .hbm, ⟨33, _⟩ => ⟨S1x1024x512, .f32⟩
  | .hbm, ⟨34, _⟩ => ⟨S1024x512, .f32⟩
  | .hbm, ⟨35, _⟩ => ⟨S256x512, .f32⟩
  | .hbm, ⟨36, _⟩ => ⟨S1x256x512, .f32⟩
  | .hbm, ⟨37, _⟩ => ⟨S256x512, .f32⟩
  | .hbm, ⟨38, _⟩ => ⟨S1x256x512, .f32⟩
  | .hbm, ⟨39, _⟩ => ⟨S256x512, .f32⟩
  | .hbm, ⟨40, _⟩ => ⟨S1x256x512, .f32⟩
  | .hbm, ⟨41, _⟩ => ⟨S256x512, .f32⟩
  | .hbm, ⟨42, _⟩ => ⟨S1x256x512, .f32⟩
  | .hbm, ⟨43, _⟩ => ⟨S256x512, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S256x1024, .f32⟩
  | .hbm, ⟨56, _⟩ => ⟨S256x1024, .f32⟩
  | .hbm, ⟨57, _⟩ => ⟨S_, .f32⟩
  | .hbm, ⟨58, _⟩ => ⟨S1024, .f32⟩
  | .hbm, ⟨59, _⟩ => ⟨S256x1024, .f32⟩
  | .hbm, ⟨60, _⟩ => ⟨S_, .f32⟩
  | .hbm, ⟨61, _⟩ => ⟨S256, .f32⟩
  | .hbm, ⟨62, _⟩ => ⟨S256x1, .f32⟩
  | .hbm, ⟨63, _⟩ => ⟨S256x1024, .f32⟩
  | .hbm, ⟨64, _⟩ => ⟨S256x1024, .f32⟩
  | .hbm, ⟨65, _⟩ => ⟨S256x1, .f32⟩
  | .hbm, ⟨66, _⟩ => ⟨S_, .f32⟩
  | .hbm, ⟨67, _⟩ => ⟨S256x1, .f32⟩
  | .hbm, ⟨68, _⟩ => ⟨S256x1, .f32⟩
  | .hbm, ⟨69, _⟩ => ⟨S_, .f32⟩
  | .hbm, ⟨70, _⟩ => ⟨S256, .f32⟩
  | .hbm, ⟨71, _⟩ => ⟨S256x1024, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S256x1024, .f32⟩
  | .hbm, ⟨76, _⟩ => ⟨S1x1024, .f32⟩
  | .hbm, ⟨77, _⟩ => ⟨S256x1024, .f32⟩
  | .hbm, ⟨78, _⟩ => ⟨S_, .f32⟩
  | .hbm, ⟨79, _⟩ => ⟨S256, .f32⟩
  | .hbm, ⟨80, _⟩ => ⟨S256x1, .f32⟩
  | .hbm, ⟨81, _⟩ => ⟨S_, .f32⟩
  | .hbm, ⟨82, _⟩ => ⟨S256x1, .f32⟩
  | .hbm, ⟨83, _⟩ => ⟨S256x1, .f32⟩
  | .hbm, ⟨84, _⟩ => ⟨S_, .f32⟩
  | .hbm, ⟨85, _⟩ => ⟨S256x1, .f32⟩
  | .hbm, ⟨86, _⟩ => ⟨S256x1, .f32⟩
  | .hbm, ⟨87, _⟩ => ⟨S256x1, .f32⟩
  | .hbm, ⟨88, _⟩ => ⟨S256x1024, .f32⟩
  | .hbm, ⟨89, _⟩ => ⟨S256x1024, .f32⟩
  | .hbm, ⟨90, _⟩ => ⟨S1x1024, .f32⟩
  | .hbm, ⟨91, _⟩ => ⟨S256x1024, .f32⟩
  | .hbm, ⟨92, _⟩ => ⟨S256x1024, .f32⟩
  | .hbm, ⟨93, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_cst_10 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Memo.lean ====
abbrev S8192x1792 : Shape := ⟨2, ![8192, 1792]⟩
abbrev S256x2048 : Shape := ⟨2, ![256, 2048]⟩
abbrev S8192x1024 : Shape := ⟨2, ![8192, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1792, .f32⟩
  | .hbm, ⟨1, _⟩ => ⟨S256x2048, .f32⟩
  | .hbm, ⟨2, _⟩ => ⟨S8192x1024, .f32⟩
  | .hbm, ⟨3, _⟩ => ⟨S8192x1792, .bf16⟩
  | .hbm, ⟨4, _⟩ => ⟨S256x2048, .bf16⟩
  | .hbm, ⟨5, _⟩ => ⟨S8192x1024, .bf16⟩
  | .hbm, ⟨6, _⟩ => ⟨S8192x1792, .bf16⟩
  | .hbm, ⟨7, _⟩ => ⟨S256x256, .f32⟩
  | .hbm, ⟨8, _⟩ => ⟨S256x256, .f32⟩
  | .local _ .vmem, ⟨0, _⟩ => ⟨S512x256, .f32⟩
  | .local _ .vmem, ⟨1, _⟩ => ⟨S512x256, .f32⟩
  | .local _ .vmem, ⟨2, _⟩ => ⟨S256x256, .bf16⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemoRefIdeal.lean ====
abbrev S8192x1792 : Shape := ⟨2, ![8192, 1792]⟩
abbrev S256x2048 : Shape := ⟨2, ![256, 2048]⟩
abbrev S8192x1024 : Shape := ⟨2, ![8192, 1024]⟩
abbrev S8192x256 : Shape := ⟨2, ![8192, 256]⟩
abbrev S256x512 : Shape := ⟨2, ![256, 512]⟩
abbrev S1x8192x256 : Shape := ⟨3, ![1, 8192, 256]⟩
abbrev S1x256x512 : Shape := ⟨3, ![1, 256, 512]⟩
abbrev S1x256x256 : Shape := ⟨3, ![1, 256, 256]⟩
abbrev S1x8192x4x64 : Shape := ⟨4, ![1, 8192, 4, 64]⟩
abbrev S1x256x4x64 : Shape := ⟨4, ![1, 256, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S1x4x64x256 : Shape := ⟨4, ![1, 4, 64, 256]⟩
abbrev S4x8192 : Shape := ⟨2, ![4, 8192]⟩
abbrev S1x4x256x64 : Shape := ⟨4, ![1, 4, 256, 64]⟩
abbrev S1x4x8192x64 : Shape := ⟨4, ![1, 4, 8192, 64]⟩
abbrev S8192x1536 : Shape := ⟨2, ![8192, 1536]⟩
abbrev S256x256 : Shape := ⟨2, ![256, 256]⟩

abbrev nBuf : Space → Nat
  | .hbm => 101
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x2048, .f32⟩
  | .hbm, ⟨2, _⟩ => ⟨S8192x1024, .f32⟩
  | .hbm, ⟨3, _⟩ => ⟨S8192x1792, .bf16⟩
  | .hbm, ⟨4, _⟩ => ⟨S8192x256, .f32⟩
  | .hbm, ⟨5, _⟩ => ⟨S256x512, .f32⟩
  | .hbm, ⟨6, _⟩ => ⟨S1x8192x256, .f32⟩
  | .hbm, ⟨7, _⟩ => ⟨S1x256x512, .f32⟩
  | .hbm, ⟨8, _⟩ => ⟨S1x256x256, .f32⟩
  | .hbm, ⟨9, _⟩ => ⟨S1x256x256, .f32⟩
  | .hbm, ⟨10, _⟩ => ⟨S1x8192x4x64, .f32⟩
  | .hbm, ⟨11, _⟩ => ⟨S1x256x4x64, .f32⟩
  | .hbm, ⟨12, _⟩ => ⟨S1x256x4x64, .f32⟩
  | .hbm, ⟨13, _⟩ => ⟨S1x4x8192x256, .f32⟩
  | .hbm, ⟨14, _⟩ => ⟨S_, .f32⟩
  | .hbm, ⟨15, _⟩ => ⟨S1x4x8192x256, .f32⟩
  | .hbm, ⟨16, _⟩ => ⟨S1x4x8192x256, .f32⟩
  | .hbm, ⟨17, _⟩ => ⟨S_, .f32⟩
  | .hbm, ⟨18, _⟩ => ⟨S1x4x8192, .f32⟩
  | .hbm, ⟨19, _⟩ => ⟨S1x4x8192x1, .f32⟩
  | .hbm, ⟨20, _⟩ => ⟨S1x4x8192x256, .f32⟩
  | .hbm, ⟨21, _⟩ => ⟨S1x4x8192x256, .i1⟩
  | .hbm, ⟨22, _⟩ => ⟨S1x4x8192x256, .f32⟩
  | .hbm, ⟨23, _⟩ => ⟨S_, .f32⟩
  | .hbm, ⟨24, _⟩ => ⟨S1x4x8192, .f32⟩
  | .hbm, ⟨25, _⟩ => ⟨S_, .f32⟩
  | .hbm, ⟨26, _⟩ => ⟨S1x4x8192, .f32⟩
  | .hbm, ⟨27, _⟩ => ⟨S1x4x8192, .f32⟩
  | .hbm, ⟨28, _⟩ => ⟨S_, .f32⟩
  | .hbm, ⟨29, _⟩ => ⟨S1x4x8192, .f32⟩
  | .hbm, ⟨30, _⟩ => ⟨S1x4x8192, .i1⟩
  | .hbm, ⟨31, _⟩ => ⟨S_, .f32⟩
  | .hbm, ⟨32, _⟩ => ⟨S1x4x8192, .f32⟩
  | .hbm, ⟨33, _⟩ => ⟨S1x4x8192, .i1⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S1x4x8192, .f32⟩
  | .hbm, ⟨41, _⟩ => ⟨S1x4x8192, .f32⟩
  | .hbm, ⟨42, _⟩ => ⟨S1x4x8192x1, .f32⟩
  | .hbm, ⟨43, _⟩ => ⟨S1x4x8192x256, .f32⟩
  | .hbm, ⟨44, _⟩ => ⟨S1x4x8192x256, .f32⟩
  | .hbm, ⟨45, _⟩ => ⟨S1x4x8192x256, .f32⟩
  | .hbm, ⟨46, _⟩ => ⟨S_, .f32⟩
  | .hbm, ⟨47, _⟩ => ⟨S1x4x8192, .f32⟩
  | .hbm, ⟨48, _⟩ => ⟨S1x4x8192x1, .f32⟩
  | .hbm, ⟨49, _⟩ => ⟨S1x4x8192x256, .f32⟩
  | .hbm, ⟨50, _⟩ => ⟨S1x4x8192x256, .f32⟩
  | .hbm, ⟨51, _⟩ => ⟨S1x4x8192x1, .f32⟩
  | .hbm, ⟨52, _⟩ => ⟨S_, .f32⟩
  | .hbm, ⟨53, _⟩ => ⟨S1x4x8192x1, .f32⟩
  | .hbm, ⟨54, _⟩ => ⟨S1x4x8192x1, .f32⟩
  | .hbm, ⟨55, _⟩ => ⟨S1x4x64x8192, .f32⟩
  | .hbm, ⟨56, _⟩ => ⟨S1x8192x4x64, .f32⟩
  | .hbm, ⟨57, _⟩ => ⟨S1x8192x256, .f32⟩
  | .hbm, ⟨58, _⟩ => ⟨S8192x256, .f32⟩
  | .hbm, ⟨59, _⟩ => ⟨S8192x256, .f32⟩
  | .hbm, ⟨60, _⟩ => ⟨S1x8192x256, .f32⟩
  | .hbm, ⟨61, _⟩ => ⟨S1x8192x4x64, .f32⟩
  | .hbm, ⟨62, _⟩ => ⟨S1x4x64x8192, .f32⟩
  | .hbm, ⟨63, _⟩ => ⟨S1x4x8192x256, .f32⟩
  | .hbm, ⟨64, _⟩ => ⟨S1x4x64x256, .f32⟩
  | .hbm, ⟨65, _⟩ => ⟨S1x256x4x64, .f32⟩
  | .hbm, ⟨66, _⟩ => ⟨S1x4x8192x256, .f32⟩
  | .hbm, ⟨67, _⟩ => ⟨S1x4x8192x256, .f32⟩
  | .hbm, ⟨68, _⟩ => ⟨S1x4x8192x256, .f32⟩
  | .hbm, ⟨69, _⟩ => ⟨S_, .f32⟩
  | .hbm, ⟨70, _⟩ => ⟨S1x4x8192, .f32⟩
  | .hbm, ⟨71, _⟩ => ⟨S1x4x8192x1, .f32⟩
  | .hbm, ⟨72, _⟩ => ⟨S1x4x8192x1, .f32⟩
  | .hbm, ⟨73, _⟩ => ⟨S1x4x8192x256, .f32⟩
  | .hbm, ⟨74, _⟩ => ⟨S1x4x8192x256, .f32⟩
  | .hbm, ⟨75, _⟩ => ⟨S_, .f32⟩
  | .hbm, ⟨76, _⟩ => ⟨S4x8192, .f32⟩
  | .hbm, ⟨77, _⟩ => ⟨S1x4x8192, .f32⟩
  | .hbm, ⟨78, _⟩ => ⟨S1x4x8192x256, .f32⟩
  | .hbm, ⟨79, _⟩ => ⟨S1x4x8192x256, .f32⟩
  | .hbm, ⟨80, _⟩ => ⟨S1x4x8192x256, .f32⟩
  | .hbm, ⟨81, _⟩ => ⟨S_, .f32⟩
  | .hbm, ⟨82, _⟩ => ⟨S1x4x8192x256, .f32⟩
  | .hbm, ⟨83, _⟩ => ⟨S1x4x8192x256, .f32⟩
  | .hbm, ⟨84, _⟩ => ⟨S1x4x256x64, .f32⟩
  | .hbm, ⟨85, _⟩ => ⟨S1x256x4x64, .f32⟩
  | .hbm, ⟨86, _⟩ => ⟨S1x4x8192x64, .f32⟩
  | .hbm, ⟨87, _⟩ => ⟨S1x8192x4x64, .f32⟩
  | .hbm, ⟨88, _⟩ => ⟨S1x256x256, .f32⟩
  | .hbm, ⟨89, _⟩ => ⟨S1x256x256, .f32⟩
  | .hbm, ⟨90, _⟩ => ⟨S1x8192x256, .f32⟩
  | .hbm, ⟨91, _⟩ => ⟨S1x256x512, .f32⟩
  | .hbm, ⟨92, _⟩ => ⟨S_, .f32⟩
  | .hbm, ⟨93, _⟩ => ⟨S256x512, .f32⟩
  | .hbm, ⟨94, _⟩ => ⟨S_, .f32⟩
  | .hbm, ⟨95, _⟩ => ⟨S8192x256, .f32⟩
  | .hbm, ⟨96, _⟩ => ⟨S8192x1536, .bf16⟩
  | .hbm, ⟨97, _⟩ => ⟨S8192x256, .bf16⟩
  | .hbm, ⟨98, _⟩ => ⟨S8192x1792, .bf16⟩
  | .hbm, ⟨99, _⟩ => ⟨S256x256, .f32⟩
  | .hbm, ⟨100, _⟩ => ⟨S256x256, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Memb.lean ====
abbrev S8192x1024 : Shape := ⟨2, ![8192, 1024]⟩
abbrev S256x2048 : Shape := ⟨2, ![256, 2048]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S256x2048, .bf16⟩
  | .hbm, ⟨6, _⟩ => ⟨S8192x1024, .bf16⟩
  | .hbm, ⟨7, _⟩ => ⟨S8192x1024, .bf16⟩
  | .hbm, ⟨8, _⟩ => ⟨S256x256, .f32⟩
  | .hbm, ⟨9, _⟩ => ⟨S256x256, .f32⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MembRefIdeal.lean ====
abbrev S8192x1024 : Shape := ⟨2, ![8192, 1024]⟩
abbrev S256x2048 : Shape := ⟨2, ![256, 2048]⟩
abbrev S8192x256 : Shape := ⟨2, ![8192, 256]⟩
abbrev S256x512 : Shape := ⟨2, ![256, 512]⟩
abbrev S1x8192x256 : Shape := ⟨3, ![1, 8192, 256]⟩
abbrev S1x256x512 : Shape := ⟨3, ![1, 256, 512]⟩
abbrev S1x256x256 : Shape := ⟨3, ![1, 256, 256]⟩
abbrev S1x8192x4x64 : Shape := ⟨4, ![1, 8192, 4, 64]⟩
abbrev S1x256x4x64 : Shape := ⟨4, ![1, 256, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S1x4x64x256 : Shape := ⟨4, ![1, 4, 64, 256]⟩
abbrev S4x8192 : Shape := ⟨2, ![4, 8192]⟩
abbrev S1x4x256x64 : Shape := ⟨4, ![1, 4, 256, 64]⟩
abbrev S1x4x8192x64 : Shape := ⟨4, ![1, 4, 8192, 64]⟩
abbrev S8192x768 : Shape := ⟨2, ![8192, 768]⟩
abbrev S256x256 : Shape := ⟨2, ![256, 256]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S8192x1024, .bf16⟩
  | .hbm, ⟨4, _⟩ => ⟨S8192x256, .f32⟩
  | .hbm, ⟨5, _⟩ => ⟨S256x512, .f32⟩
  | .hbm, ⟨6, _⟩ => ⟨S1x8192x256, .f32⟩
  | .hbm, ⟨7, _⟩ => ⟨S1x256x512, .f32⟩
  | .hbm, ⟨8, _⟩ => ⟨S1x256x256, .f32⟩
  | .hbm, ⟨9, _⟩ => ⟨S1x256x256, .f32⟩
  | .hbm, ⟨10, _⟩ => ⟨S1x8192x4x64, .f32⟩
  | .hbm, ⟨11, _⟩ => ⟨S1x256x4x64, .f32⟩
  | .hbm, ⟨12, _⟩ => ⟨S1x256x4x64, .f32⟩
  | .hbm, ⟨13, _⟩ => ⟨S1x4x8192x256, .f32⟩
  | .hbm, ⟨14, _⟩ => ⟨S_, .f32⟩
  | .hbm, ⟨15, _⟩ => ⟨S1x4x8192x256, .f32⟩
  | .hbm, ⟨16, _⟩ => ⟨S1x4x8192x256, .f32⟩
  | .hbm, ⟨17, _⟩ => ⟨S_, .f32⟩
  | .hbm, ⟨18, _⟩ => ⟨S1x4x8192, .f32⟩
  | .hbm, ⟨19, _⟩ => ⟨S1x4x8192x1, .f32⟩
  | .hbm, ⟨20, _⟩ => ⟨S1x4x8192x256, .f32⟩
  | .hbm, ⟨21, _⟩ => ⟨S1x4x8192x256, .i1⟩
  | .hbm, ⟨22, _⟩ => ⟨S1x4x8192x256, .f32⟩
  | .hbm, ⟨23, _⟩ => ⟨S_, .f32⟩
  | .hbm, ⟨24, _⟩ => ⟨S1x4x8192, .f32⟩
  | .hbm, ⟨25, _⟩ => ⟨S_, .f32⟩
  | .hbm, ⟨26, _⟩ => ⟨S1x4x8192, .f32⟩
  | .hbm, ⟨27, _⟩ => ⟨S1x4x8192, .f32⟩
  | .hbm, ⟨28, _⟩ => ⟨S_, .f32⟩
  | .hbm, ⟨29, _⟩ => ⟨S1x4x8192, .f32⟩
  | .hbm, ⟨30, _⟩ => ⟨S1x4x8192, .i1⟩
  | .hbm, ⟨31, _⟩ => ⟨S_, .f32⟩
  | .hbm, ⟨32, _⟩ => ⟨S1x4x8192, .f32⟩
  | .hbm, ⟨33, _⟩ => ⟨S1x4x8192, .i1⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S1x4x8192, .f32⟩
  | .hbm, ⟨41, _⟩ => ⟨S1x4x8192, .f32⟩
  | .hbm, ⟨42, _⟩ => ⟨S1x4x8192x1, .f32⟩
  | .hbm, ⟨43, _⟩ => ⟨S1x4x8192x256, .f32⟩
  | .hbm, ⟨44, _⟩ => ⟨S1x4x8192x256, .f32⟩
  | .hbm, ⟨45, _⟩ => ⟨S1x4x8192x256, .f32⟩
  | .hbm, ⟨46, _⟩ => ⟨S_, .f32⟩
  | .hbm, ⟨47, _⟩ => ⟨S1x4x8192, .f32⟩
  | .hbm, ⟨48, _⟩ => ⟨S1x4x8192x1, .f32⟩
  | .hbm, ⟨49, _⟩ => ⟨S1x4x8192x256, .f32⟩
  | .hbm, ⟨50, _⟩ => ⟨S1x4x8192x256, .f32⟩
  | .hbm, ⟨51, _⟩ => ⟨S1x4x8192x1, .f32⟩
  | .hbm, ⟨52, _⟩ => ⟨S_, .f32⟩
  | .hbm, ⟨53, _⟩ => ⟨S1x4x8192x1, .f32⟩
  | .hbm, ⟨54, _⟩ => ⟨S1x4x8192x1, .f32⟩
  | .hbm, ⟨55, _⟩ => ⟨S1x4x64x8192, .f32⟩
  | .hbm, ⟨56, _⟩ => ⟨S1x8192x4x64, .f32⟩
  | .hbm, ⟨57, _⟩ => ⟨S1x8192x256, .f32⟩
  | .hbm, ⟨58, _⟩ => ⟨S8192x256, .f32⟩
  | .hbm, ⟨59, _⟩ => ⟨S8192x256, .f32⟩
  | .hbm, ⟨60, _⟩ => ⟨S1x8192x256, .f32⟩
  | .hbm, ⟨61, _⟩ => ⟨S1x8192x4x64, .f32⟩
  | .hbm, ⟨62, _⟩ => ⟨S1x4x64x8192, .f32⟩
  | .hbm, ⟨63, _⟩ => ⟨S1x4x8192x256, .f32⟩
  | .hbm, ⟨64, _⟩ => ⟨S1x4x64x256, .f32⟩
  | .hbm, ⟨65, _⟩ => ⟨S1x256x4x64, .f32⟩
  | .hbm, ⟨66, _⟩ => ⟨S1x4x8192x256, .f32⟩
  | .hbm, ⟨67, _⟩ => ⟨S1x4x8192x256, .f32⟩
  | .hbm, ⟨68, _⟩ => ⟨S1x4x8192x256, .f32⟩
  | .hbm, ⟨69, _⟩ => ⟨S_, .f32⟩
  | .hbm, ⟨70, _⟩ => ⟨S1x4x8192, .f32⟩
  | .hbm, ⟨71, _⟩ => ⟨S1x4x8192x1, .f32⟩
  | .hbm, ⟨72, _⟩ => ⟨S1x4x8192x1, .f32⟩
  | .hbm, ⟨73, _⟩ => ⟨S1x4x8192x256, .f32⟩
  | .hbm, ⟨74, _⟩ => ⟨S1x4x8192x256, .f32⟩
  | .hbm, ⟨75, _⟩ => ⟨S_, .f32⟩
  | .hbm, ⟨76, _⟩ => ⟨S4x8192, .f32⟩
  | .hbm, ⟨77, _⟩ => ⟨S1x4x8192, .f32⟩
  | .hbm, ⟨78, _⟩ => ⟨S1x4x8192x256, .f32⟩
  | .hbm, ⟨79, _⟩ => ⟨S1x4x8192x256, .f32⟩
  | .hbm, ⟨80, _⟩ => ⟨S1x4x8192x256, .f32⟩
  | .hbm, ⟨81, _⟩ => ⟨S_, .f32⟩
  | .hbm, ⟨82, _⟩ => ⟨S1x4x8192x256, .f32⟩
  | .hbm, ⟨83, _⟩ => ⟨S1x4x8192x256, .f32⟩
  | .hbm, ⟨84, _⟩ => ⟨S1x4x256x64, .f32⟩
  | .hbm, ⟨85, _⟩ => ⟨S1x256x4x64, .f32⟩
  | .hbm, ⟨86, _⟩ => ⟨S1x4x8192x64, .f32⟩
  | .hbm, ⟨87, _⟩ => ⟨S1x8192x4x64, .f32⟩
  | .hbm, ⟨88, _⟩ => ⟨S1x256x256, .f32⟩
  | .hbm, ⟨89, _⟩ => ⟨S1x256x256, .f32⟩
  | .hbm, ⟨90, _⟩ => ⟨S1x8192x256, .f32⟩
  | .hbm, ⟨91, _⟩ => ⟨S1x256x512, .f32⟩
  | .hbm, ⟨92, _⟩ => ⟨S_, .f32⟩
  | .hbm, ⟨93, _⟩ => ⟨S256x512, .f32⟩
  | .hbm, ⟨94, _⟩ => ⟨S_, .f32⟩
  | .hbm, ⟨95, _⟩ => ⟨S8192x256, .f32⟩
  | .hbm, ⟨96, _⟩ => ⟨S8192x768, .bf16⟩
  | .hbm, ⟨97, _⟩ => ⟨S8192x256, .bf16⟩
  | .hbm, ⟨98, _⟩ => ⟨S8192x1024, .bf16⟩
  | .hbm, ⟨99, _⟩ => ⟨S256x256, .f32⟩
  | .hbm, ⟨100, _⟩ => ⟨S256x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Gmlp.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S128x6 : Shape := ⟨2, ![128, 6]⟩
abbrev S128x6x128 : Shape := ⟨3, ![128, 6, 128]⟩
abbrev S128x768 : Shape := ⟨2, ![128, 768]⟩
abbrev S1x768 : Shape := ⟨2, ![1, 768]⟩
abbrev S256x1792 : Shape := ⟨2, ![256, 1792]⟩
abbrev S256x1024 : Shape := ⟨2, ![256, 1024]⟩
abbrev S256x1536 : Shape := ⟨2, ![256, 1536]⟩
abbrev S256x768 : Shape := ⟨2, ![256, 768]⟩
abbrev S128x128 : Shape := ⟨2, ![128, 128]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩
abbrev S128 : Shape := ⟨1, ![128]⟩

abbrev nBuf : Space → Nat
  | .hbm => 14
  | .vmem => 13
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S768, .f32⟩
  | .hbm, ⟨3, _⟩ => ⟨S6x128x128, .f32⟩
  | .hbm, ⟨4, _⟩ => ⟨S6x128, .f32⟩
  | .hbm, ⟨5, _⟩ => ⟨S128x6, .f32⟩
  | .hbm, ⟨6, _⟩ => ⟨S128x6x128, .f32⟩
  | .hbm, ⟨7, _⟩ => ⟨S128x768, .f32⟩
  | .hbm, ⟨8, _⟩ => ⟨S8192x1024, .bf16⟩
  | .hbm, ⟨9, _⟩ => ⟨S1x768, .f32⟩
  | .hbm, ⟨10, _⟩ => ⟨S8192x1792, .bf16⟩
  | .hbm, ⟨11, _⟩ => ⟨S6x128x128, .f32⟩
  | .hbm, ⟨12, _⟩ => ⟨S6x128x128, .f32⟩
  | .hbm, ⟨13, _⟩ => ⟨S1x768, .f32⟩
  | .local _ .vmem, ⟨0, _⟩ => ⟨S256x1792, .f32⟩
  | .local _ .vmem, ⟨1, _⟩ => ⟨S256x1792, .f32⟩
  | .local _ .vmem, ⟨2, _⟩ => ⟨S256x1024, .bf16⟩
  | .local _ .vmem, ⟨3, _⟩ => ⟨S256x1024, .bf16⟩
  | .local _ .vmem, ⟨4, _⟩ => ⟨S1x768, .f32⟩
  | .local _ .vmem, ⟨5, _⟩ => ⟨S6x128x128, .f32⟩
  | .local _ .vmem, ⟨6, _⟩ => ⟨S128x768, .f32⟩
  | .local _ .vmem, ⟨7, _⟩ => ⟨S256x1536, .bf16⟩
  | .local _ .vmem, ⟨8, _⟩ => ⟨S256x1536, .bf16⟩
  | .local _ .vmem, ⟨9, _⟩ => ⟨S6x128x128, .f32⟩
  | .local _ .vmem, ⟨10, _⟩ => ⟨S6x128x128, .f32⟩
  | .local _ .vmem, ⟨11, _⟩ => ⟨S1x768, .f32⟩
  | .local _ .vmem, ⟨12, _⟩ => ⟨S256x768, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GmlpIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GmlpRefIdeal.lean ====
abbrev S8192x1792 : Shape := ⟨2, ![8192, 1792]⟩
abbrev S8192x1024 : Shape := ⟨2, ![8192, 1024]⟩
abbrev S768 : Shape := ⟨1, ![768]⟩
abbrev S6x128x128 : Shape := ⟨3, ![6, 128, 128]⟩
abbrev S6x128 : Shape := ⟨2, ![6, 128]⟩
abbrev S8192x1536 : Shape := ⟨2, ![8192, 1536]⟩
abbrev S_ : Shape := ⟨0, ![]⟩
abbrev S8192x768 : Shape := ⟨2, ![8192, 768]⟩
abbrev S8192 : Shape := ⟨1, ![8192]⟩
abbrev S8192x1 : Shape := ⟨2, ![8192, 1]⟩
abbrev S1x768 : Shape := ⟨2, ![1, 768]⟩
abbrev S64x128x6x128 : Shape := ⟨4, ![64, 128, 6, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x6 : Shape := ⟨2, ![128, 6]⟩
abbrev S128x6x1 : Shape := ⟨3, ![128, 6, 1]⟩
abbrev S128x6x128 : Shape := ⟨3, ![128, 6, 128]⟩
abbrev S6x64x128x128 : Shape := ⟨4, ![6, 64, 128, 128]⟩
abbrev S1x128x6x128 : Shape := ⟨4, ![1, 128, 6, 128]⟩
abbrev S6x128x1 : Shape := ⟨3, ![6, 128, 1]⟩

abbrev nBuf : Space → Nat
  | .hbm => 192
  | .vmem => 0
  | .smem => 0
  | _ => 0

abbrev hbmTy0_0 (i : Nat) : BufTy := match i % 128 with
  | 0 => ⟨S8192x1792, .f32⟩
  | 1 => ⟨S8192x1024, .f32⟩
  | 2 => ⟨S768, .f32⟩
  | 3 => ⟨S6x128x128, .f32⟩
  | 4 => ⟨S6x128, .f32⟩
  | 5 => ⟨S8192x1536, .f32⟩
  | 6 => ⟨S_, .f32⟩
  | 7 => ⟨S_, .f32⟩
  | 8 => ⟨S_, .f32⟩
  | 9 => ⟨S8192x1536, .f32⟩
  | 10 => ⟨S8192x1536, .f32⟩
  | 11 => ⟨S8192x1536, .f32⟩
  | 12 => ⟨S_, .f32⟩
  | 13 => ⟨S8192x1536, .f32⟩
  | 14 => ⟨S8192x1536, .f32⟩
  | 15 => ⟨S8192x1536, .f32⟩
  | 16 => ⟨S8192x1536, .f32⟩
  | 17 => ⟨S8192x1536, .f32⟩
  | 18 => ⟨S_, .f32⟩
  | 19 => ⟨S8192x1536, .f32⟩
  | 20 => ⟨S8192x1536, .f32⟩
  | 21 => ⟨S8192x1536, .f32⟩
  | 22 => ⟨S_, .f32⟩
  | 23 => ⟨S8192x1536, .f32⟩
  | 24 => ⟨S8192x1536, .f32⟩
  | 25 => ⟨S_, .f32⟩
  | 26 => ⟨S8192x1536, .f32⟩
  | 27 => ⟨S8192x1536, .f32⟩
  | 28 => ⟨S8192x1536, .f32⟩
  | 29 => ⟨S_, .f32⟩
  | 30 => ⟨S8192x1536, .f32⟩
  | 31 => ⟨S8192x1536, .f32⟩
  | 32 => ⟨S_, .f32⟩
  | 33 => ⟨S8192x1536, .f32⟩
  | 34 => ⟨S8192x1536, .f32⟩
  | 35 => ⟨S8192x1536, .f32⟩
  | 36 => ⟨S8192x768, .f32⟩
  | 37 => ⟨S8192x768, .f32⟩
  | 38 => ⟨S8192x768, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x768, .f32⟩
  | 54 => ⟨S8192x768, .f32⟩
  | 55 => ⟨S1x768, .f32⟩
  | 56 => ⟨S8192x768, .f32⟩
  | 57 => ⟨S8192x768, .f32⟩
  | 58 => ⟨S64x128x6x128, .f32⟩
  | 59 => ⟨S128, .i32⟩
  | 60 => ⟨S1x128, .i32⟩
  | 61 => ⟨S_, .i32⟩
  | 62 => ⟨S_, .i32⟩
  | 63 => ⟨S1x128, .i32⟩
  | 64 => ⟨S1x128, .i32⟩
  | 65 => ⟨S1x128, .i32⟩
  | 66 => ⟨S_, .i32⟩
  | 67 => ⟨S1x128, .i32⟩
  | 68 => ⟨S1x128, .i1⟩
  | 69 => ⟨S1x128, .i32⟩
  | 70 => ⟨S1x128, .i32⟩
  | 71 => ⟨S_, .i32⟩
  | 72 => ⟨S1x128, .i32⟩
  | 73 => ⟨S1x128, .i1⟩
  | 74 => ⟨S1x128, .i1⟩
  | 75 => ⟨S_, .i32⟩
  | 76 => ⟨S1x128, .i32⟩
  | 77 => ⟨S1x128, .i32⟩
  | 78 => ⟨S1x128, .i32⟩
  | 79 => ⟨S128x1, .i32⟩
  | 80 => ⟨S_, .i32⟩
  | 81 => ⟨S_, .i32⟩
  | 82 => ⟨S128x1, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S128x1, .i32⟩
  | 89 => ⟨S128x1, .i32⟩
  | 90 => ⟨S_, .i32⟩
  | 91 => ⟨S128x1, .i32⟩
  | 92 => ⟨S128x1, .i1⟩
  | 93 => ⟨S128x1, .i1⟩
  | 94 => ⟨S_, .i32⟩
  | 95 => ⟨S128x1, .i32⟩
  | 96 => ⟨S128x1, .i32⟩
  | 97 => ⟨S128x1, .i32⟩
  | 98 => ⟨S128x128, .i32⟩
  | 99 => ⟨S128x128, .i32⟩
  | 100 => ⟨S128x128, .i1⟩
  | 101 => ⟨S1x128x128, .i1⟩
  | 102 => ⟨S_, .f32⟩
  | 103 => ⟨S_, .f32⟩
  | 104 => ⟨S6x128x128, .i1⟩
  | 105 => ⟨S6x128x128, .f32⟩
  | 106 => ⟨S6x128x128, .f32⟩
  | 107 => ⟨S_, .f32⟩
  | 108 => ⟨S6x128x128, .f32⟩
  | 109 => ⟨S128x6, .f32⟩
  | 110 => ⟨S128x6x1, .f32⟩
  | 111 => ⟨S128x6x128, .f32⟩
  | 112 => ⟨S6x64x128x128, .f32⟩
  | 113 => ⟨S64x128x6x128, .f32⟩
  | 114 => ⟨S1x128x6x128, .f32⟩
  | 115 => ⟨S64x128x6x128, .f32⟩
  | 116 => ⟨S64x128x6x128, .f32⟩
  | 117 => ⟨S8192x768, .f32⟩
  | 118 => ⟨S8192x768, .f32⟩
  | 119 => ⟨S8192x768, .f32⟩
  | 120 => ⟨S8192x768, .f32⟩
  | 121 => ⟨S8192x768, .f32⟩
  | 122 => ⟨S64x128x6x128, .f32⟩
  | 123 => ⟨S_, .f32⟩
  | 124 => ⟨S128x6x128, .f32⟩
  | 125 => ⟨S1x128x6x128, .f32⟩
  | 126 => ⟨S_, .f32⟩
  | 127 => ⟨S128x6x128, .f32⟩
  | _ => ⟨S8192x1792, .f32⟩

abbrev hbmTy0_1 (i : Nat) : BufTy := match i % 128 with
  | 0 => ⟨S6x64x128x128, .f32⟩
  | 1 => ⟨S6x128x128, .f32⟩
  | 2 => ⟨S6x64x128x128, .f32⟩
  | 3 => ⟨S64x128x6x128, .f32⟩
  | 4 => ⟨S_, .f32⟩
  | 5 => ⟨S128x6, .f32⟩
  | 6 => ⟨S128x6x1, .f32⟩
  | 7 => ⟨S_, .f32⟩
  | 8 => ⟨S128x6, .f32⟩
  | 9 => ⟨S6x128, .f32⟩
  | 10 => ⟨S_, .f32⟩
  | 11 => ⟨S6x128x128, .f32⟩
  | 12 => ⟨S6x128x128, .f32⟩
  | 13 => ⟨S8192x768, .f32⟩
  | 14 => ⟨S8192x768, .f32⟩
  | 15 => ⟨S_, .f32⟩
  | 16 => ⟨S768, .f32⟩
  | 17 => ⟨S1x768, .f32⟩
  | 18 => ⟨S8192x768, .f32⟩
  | 19 => ⟨S8192x768, .f32⟩
  | 20 => ⟨S_, .f32⟩
  | 21 => ⟨S768, .f32⟩
  | 22 => ⟨S8192x768, .f32⟩
  | 23 => ⟨S_, .f32⟩
  | 24 => ⟨S8192, .f32⟩
  | 25 => ⟨S8192x1, .f32⟩
  | 26 => ⟨S8192x768, .f32⟩
  | 27 => ⟨S8192x768, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x768, .f32⟩
  | 35 => ⟨S8192x768, .f32⟩
  | 36 => ⟨S8192x768, .f32⟩
  | 37 => ⟨S8192x768, .f32⟩
  | 38 => ⟨S8192x768, .f32⟩
  | 39 => ⟨S_, .f32⟩
  | 40 => ⟨S8192x1536, .f32⟩
  | 41 => ⟨S_, .f32⟩
  | 42 => ⟨S8192x1536, .f32⟩
  | 43 => ⟨S8192x1536, .f32⟩
  | 44 => ⟨S8192x1536, .f32⟩
  | 45 => ⟨S8192x1536, .f32⟩
  | 46 => ⟨S_, .f32⟩
  | 47 => ⟨S8192x1536, .f32⟩
  | 48 => ⟨S8192x1536, .f32⟩
  | 49 => ⟨S8192x1536, .f32⟩
  | 50 => ⟨S_, .f32⟩
  | 51 => ⟨S8192x1536, .f32⟩
  | 52 => ⟨S8192x1536, .f32⟩
  | 53 => ⟨S8192x1536, .f32⟩
  | 54 => ⟨S8192x1536, .f32⟩
  | 55 => ⟨S8192x1536, .f32⟩
  | 56 => ⟨S8192x1536, .f32⟩
  | 57 => ⟨S8192x1536, .f32⟩
  | 58 => ⟨S_, .f32⟩
  | 59 => ⟨S8192x1792, .f32⟩
  | 60 => ⟨S8192x1792, .bf16⟩
  | 61 => ⟨S6x128x1, .f32⟩
  | 62 => ⟨S6x128x128, .f32⟩
  | 63 => ⟨S1x768, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v44 : Ref sig .tc := ⟨.hbm, 78, rfl⟩
abbrev main_v45 : Ref sig .tc := ⟨.hbm, 79, rfl⟩
abbrev main_c_11 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_12 : Ref sig .tc := ⟨.hbm, 102, rfl⟩
abbrev main_call2_v0 : Ref sig .tc := ⟨.hbm, 103, rfl⟩
abbrev main_v51_1 : Ref sig .tc := ⟨.hbm, 104, rfl⟩
abbrev main_call2_v2 : Ref sig .tc := ⟨.hbm, 105, rfl⟩
abbrev main_v51_0 : Ref sig .tc := ⟨.hbm, 106, rfl⟩
abbrev main_call2_cst : Ref sig .tc := ⟨.hbm, 107, rfl⟩
abbrev main_v51_2 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_cst_13 : Ref sig .tc := ⟨.hbm, 123, rfl⟩
abbrev main_v66 : Ref sig .tc := ⟨.hbm, 124, rfl⟩
abbrev main_v67 : Ref sig .tc := ⟨.hbm, 125, rfl⟩
abbrev main_cst_14 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_cst_15 : Ref sig .tc := ⟨.hbm, 132, rfl⟩
abbrev main_v73 : Ref sig .tc := ⟨.hbm, 133, rfl⟩
abbrev main_v74 : Ref sig .tc := ⟨.hbm, 134, rfl⟩
abbrev main_cst_16 : Ref sig .tc := ⟨.hbm, 135, rfl⟩
abbrev main_v75 : Ref sig .tc := ⟨.hbm, 136, rfl⟩
abbrev main_v76 : Ref sig .tc := ⟨.hbm, 137, rfl⟩
abbrev main_call3_cst : Ref sig .tc := ⟨.hbm, 138, rfl⟩
abbrev main_call3_v0 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_17 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_cst_18 : Ref sig .tc := ⟨.hbm, 148, rfl⟩
abbrev main_v84 : Ref sig .tc := ⟨.hbm, 149, rfl⟩
abbrev main_v85 : Ref sig .tc := ⟨.hbm, 150, rfl⟩
abbrev main_cst_19 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_20 : Ref sig .tc := ⟨.hbm, 157, rfl⟩
abbrev main_v91 : Ref sig .tc := ⟨.hbm, 158, rfl⟩
abbrev main_v92 : Ref sig .tc := ⟨.hbm, 159, rfl⟩
abbrev main_cst_21 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_cst_22 : Ref sig .tc := ⟨.hbm, 167, rfl⟩
abbrev main_v99 : Ref sig .tc := ⟨.hbm, 168, rfl⟩
abbrev main_cst_23 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_24 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_cst_25 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_26 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩

abbrev nD : Nat := 1
abbrev τ : Topo := Topo.v7x

variable {F : FTy → Type} [FloatOps F]
-- ==== Nmm.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S5632x1024 : Shape := ⟨2, ![5632, 1024]⟩
abbrev S1x1024 : Shape := ⟨2, ![1, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NmmRefIdeal.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x5632 : Shape := ⟨2, ![8192, 5632]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x5632, .f32⟩
  | .hbm, ⟨23, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kvp.lean ====
abbrev S8192x1024 : Shape := ⟨2, ![8192, 1024]⟩
abbrev S1024 : Shape := ⟨1, ![1024]⟩
abbrev S1024x1536 : Shape := ⟨2, ![1024, 1536]⟩
abbrev S1x1024 : Shape := ⟨2, ![1, 1024]⟩
abbrev S8192x1536 : Shape := ⟨2, ![8192, 1536]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S8192x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvpRefIdeal.lean ====
abbrev S8192x1024 : Shape := ⟨2, ![8192, 1024]⟩
abbrev S1024 : Shape := ⟨1, ![1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1536, .f32⟩
  | .hbm, ⟨20, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Smm.lean ====
abbrev S8192x2816 : Shape := ⟨2, ![8192, 2816]⟩
abbrev S2816x1024 : Shape := ⟨2, ![2816, 1024]⟩
abbrev S8192x1024 : Shape := ⟨2, ![8192, 1024]⟩
abbrev S8192x5632 : Shape := ⟨2, ![8192, 5632]⟩
abbrev S256x5632 : Shape := ⟨2, ![256, 5632]⟩
abbrev S256x1024 : Shape := ⟨2, ![256, 1024]⟩
abbrev S256x256 : Shape := ⟨2, ![256, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x5632, .f32⟩
  | .hbm, ⟨5, _⟩ => ⟨S8192x5632, .bf16⟩
  | .hbm, ⟨6, _⟩ => ⟨S2816x1024, .bf16⟩
  | .hbm, ⟨7, _⟩ => ⟨S8192x1024, .f32⟩
  | .local _ .vmem, ⟨0, _⟩ => ⟨S256x5632, .bf16⟩
  | .local _ .vmem, ⟨1, _⟩ => ⟨S256x5632, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SmmRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Memf.lean ====
abbrev S8192x1792 : Shape := ⟨2, ![8192, 1792]⟩
abbrev S256x2048 : Shape := ⟨2, ![256, 2048]⟩
abbrev S8192x1024 : Shape := ⟨2, ![8192, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x1792, .f32⟩
  | .hbm, ⟨1, _⟩ => ⟨S256x2048, .f32⟩
  | .hbm, ⟨2, _⟩ => ⟨S8192x1024, .bf16⟩
  | .hbm, ⟨3, _⟩ => ⟨S256x2048, .bf16⟩
  | .hbm, ⟨4, _⟩ => ⟨S8192x1024, .bf16⟩
  | .local _ .vmem, ⟨0, _⟩ => ⟨S512x256, .f32⟩
  | .local _ .vmem, ⟨1, _⟩ => ⟨S512x256, .f32⟩
  | .local _ .vmem, ⟨2, _⟩ => ⟨S256x256, .bf16⟩
  | .local _ .vmem, ⟨3, _⟩ => ⟨S256x256, .bf16⟩
  | .local _ .vmem, ⟨4, _⟩ => ⟨S512x256, .bf16⟩
  | .local _ .vmem, ⟨5, _⟩ => ⟨S512x256, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemfRefIdeal.lean ====
abbrev S8192x1792 : Shape := ⟨2, ![8192, 1792]⟩
abbrev S256x2048 : Shape := ⟨2, ![256, 2048]⟩
abbrev S8192x1024 : Shape := ⟨2, ![8192, 1024]⟩
abbrev S8192x256 : Shape := ⟨2, ![8192, 256]⟩
abbrev S1x8192x256 : Shape := ⟨3, ![1, 8192, 256]⟩
abbrev S256x512 : Shape := ⟨2, ![256, 512]⟩
abbrev S1x256x512 : Shape := ⟨3, ![1, 256, 512]⟩
abbrev S1x256x256 : Shape := ⟨3, ![1, 256, 256]⟩
abbrev S1x8192x4x64 : Shape := ⟨4, ![1, 8192, 4, 64]⟩
abbrev S1x256x4x64 : Shape := ⟨4, ![1, 256, 4, 64]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x64x8192 : Shape := ⟨4, ![1, 4, 64, 8192]⟩
abbrev S8192x768 : Shape := ⟨2, ![8192, 768]⟩

abbrev nBuf : Space → Nat
  | .hbm => 37
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S256x2048, .f32⟩
  | .hbm, ⟨2, _⟩ => ⟨S8192x1024, .bf16⟩
  | .hbm, ⟨3, _⟩ => ⟨S8192x256, .f32⟩
  | .hbm, ⟨4, _⟩ => ⟨S1x8192x256, .f32⟩
  | .hbm, ⟨5, _⟩ => ⟨S256x512, .f32⟩
  | .hbm, ⟨6, _⟩ => ⟨S1x256x512, .f32⟩
  | .hbm, ⟨7, _⟩ => ⟨S1x256x256, .f32⟩
  | .hbm, ⟨8, _⟩ => ⟨S1x256x256, .f32⟩
  | .hbm, ⟨9, _⟩ => ⟨S1x8192x4x64, .f32⟩
  | .hbm, ⟨10, _⟩ => ⟨S1x256x4x64, .f32⟩
  | .hbm, ⟨11, _⟩ => ⟨S1x256x4x64, .f32⟩
  | .hbm, ⟨12, _⟩ => ⟨S1x4x8192x256, .f32⟩
  | .hbm, ⟨13, _⟩ => ⟨S_, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S_, .f32⟩
  | .hbm, ⟨19, _⟩ => ⟨S1x4x8192, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x256, .f32⟩
  | .hbm, ⟨29, _⟩ => ⟨S1x4x8192x256, .f32⟩
  | .hbm, ⟨30, _⟩ => ⟨S1x4x64x8192, .f32⟩
  | .hbm, ⟨31, _⟩ => ⟨S1x8192x4x64, .f32⟩
  | .hbm, ⟨32, _⟩ => ⟨S1x8192x256, .f32⟩
  | .hbm, ⟨33, _⟩ => ⟨S8192x256, .f32⟩
  | .hbm, ⟨34, _⟩ => ⟨S8192x768, .bf16⟩
  | .hbm, ⟨35, _⟩ => ⟨S8192x256, .bf16⟩
  | .hbm, ⟨36, _⟩ => ⟨S8192x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Gmf.lean ====
abbrev S8192x1792 : Shape := ⟨2, ![8192, 1792]⟩
abbrev S768 : Shape := ⟨1, ![768]⟩
abbrev S6x128x128 : Shape := ⟨3, ![6, 128, 128]⟩
abbrev S6x128 : Shape := ⟨2, ![6, 128]⟩
abbrev S128x6 : Shape := ⟨2, ![128, 6]⟩
abbrev S128x6x128 : Shape := ⟨3, ![128, 6, 128]⟩
abbrev S128x768 : Shape := ⟨2, ![128, 768]⟩
abbrev S1x768 : Shape := ⟨2, ![1, 768]⟩
abbrev S8192x1024 : Shape := ⟨2, ![8192, 1024]⟩
abbrev S256x1792 : Shape := ⟨2, ![256, 1792]⟩
abbrev S256x768 : Shape := ⟨2, ![256, 768]⟩
abbrev S128x128 : Shape := ⟨2, ![128, 128]⟩
abbrev S256 : Shape := ⟨1, ![256]⟩
abbrev S256x1 : Shape := ⟨2, ![256, 1]⟩
abbrev S1x128x128 : Shape := ⟨3, ![1, 128, 128]⟩

abbrev nBuf : Space → Nat
  | .hbm => 9
  | .vmem => 7
  | .smem => 0
  | _ => 0

abbrev bufTy : (tb : Table) → Fin (tcTables nBuf tb) → BufTy
  | .hbm, ⟨0, _⟩ => ⟨S8192x1792, .f32⟩
  | .hbm, ⟨1, _⟩ => ⟨S768, .f32⟩
  | .hbm, ⟨2, _⟩ => ⟨S6x128x128, .f32⟩
  | .hbm, ⟨3, _⟩ => ⟨S6x128, .f32⟩
  | .hbm, ⟨4, _⟩ => ⟨S128x6, .f32⟩
  | .hbm, ⟨5, _⟩ => ⟨S128x6x128, .f32⟩
  | .hbm, ⟨6, _⟩ => ⟨S128x768, .f32⟩
  | .hbm, ⟨7, _⟩ => ⟨S1x768, .f32⟩
  | .hbm, ⟨8, _⟩ => ⟨S8192x1024, .bf16⟩
  | .local _ .vmem, ⟨0, _⟩ => ⟨S256x1792, .f32⟩
  | .local _ .vmem, ⟨1, _⟩ => ⟨S256x1792, .f32⟩
  | .local _ .vmem, ⟨2, _⟩ => ⟨S1x768, .f32⟩
  | .local _ .vmem, ⟨3, _⟩ => ⟨S6x128x128, .f32⟩
  | .local _ .vmem, ⟨4, _⟩ => ⟨S128x768, .f32⟩
  | .local _ .vmem, ⟨5, _⟩ => ⟨S256x768, .bf16⟩
  | .local _ .vmem, ⟨6, _⟩ => ⟨S256x768, .bf16⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmfIdeal.lean ====
variable {F : FTy → Type} [FloatOps F] [Named F]
def κ : String → Option EReal := fun
  | "gelu_a" => some ((8943 / 200000 : ℝ) : EReal)
  | _ => none
-- ==== GmfRefIdeal.lean ====
abbrev S8192x1792 : Shape := ⟨2, ![8192, 1792]⟩
abbrev S768 : Shape := ⟨1, ![768]⟩
abbrev S6x128x128 : Shape := ⟨3, ![6, 128, 128]⟩
abbrev S6x128 : Shape := ⟨2, ![6, 128]⟩
abbrev S8192x1536 : Shape := ⟨2, ![8192, 1536]⟩
abbrev S_ : Shape := ⟨0, ![]⟩
abbrev S8192x768 : Shape := ⟨2, ![8192, 768]⟩
abbrev S8192 : Shape := ⟨1, ![8192]⟩
abbrev S8192x1 : Shape := ⟨2, ![8192, 1]⟩
abbrev S1x768 : Shape := ⟨2, ![1, 768]⟩
abbrev S64x128x6x128 : Shape := ⟨4, ![64, 128, 6, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x6 : Shape := ⟨2, ![128, 6]⟩
abbrev S128x6x1 : Shape := ⟨3, ![128, 6, 1]⟩
abbrev S128x6x128 : Shape := ⟨3, ![128, 6, 128]⟩
abbrev S6x64x128x128 : Shape := ⟨4, ![6, 64, 128, 128]⟩
abbrev S1x128x6x128 : Shape := ⟨4, ![1, 128, 6, 128]⟩
abbrev S8192x1024 : Shape := ⟨2, ![8192, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S768, .f32⟩
  | .hbm, ⟨2, _⟩ => ⟨S6x128x128, .f32⟩
  | .hbm, ⟨3, _⟩ => ⟨S6x128, .f32⟩
  | .hbm, ⟨4, _⟩ => ⟨S8192x1536, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S8192x1536, .f32⟩
  | .hbm, ⟨12, _⟩ => ⟨S8192x1536, .f32⟩
  | .hbm, ⟨13, _⟩ => ⟨S_, .f32⟩
  | .hbm, ⟨14, _⟩ => ⟨S8192x1536, .f32⟩
  | .hbm, ⟨15, _⟩ => ⟨S8192x1536, .f32⟩
  | .hbm, ⟨16, _⟩ => ⟨S8192x1536, .f32⟩
  | .hbm, ⟨17, _⟩ => ⟨S_, .f32⟩
  | .hbm, ⟨18, _⟩ => ⟨S8192x1536, .f32⟩
  | .hbm, ⟨19, _⟩ => ⟨S8192x1536, .f32⟩
  | .hbm, ⟨20, _⟩ => ⟨S_, .f32⟩
  | .hbm, ⟨21, _⟩ => ⟨S8192x1536, .f32⟩
  | .hbm, ⟨22, _⟩ => ⟨S8192x1536, .f32⟩
  | .hbm, ⟨23, _⟩ => ⟨S8192x1536, .f32⟩
  | .hbm, ⟨24, _⟩ => ⟨S8192x768, .f32⟩
  | .hbm, ⟨25, _⟩ => ⟨S8192x768, .f32⟩
  | .hbm, ⟨26, _⟩ => ⟨S8192x768, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x768, .f32⟩
  | .hbm, ⟨38, _⟩ => ⟨S8192x768, .f32⟩
  | .hbm, ⟨39, _⟩ => ⟨S1x768, .f32⟩
  | .hbm, ⟨40, _⟩ => ⟨S8192x768, .f32⟩
  | .hbm, ⟨41, _⟩ => ⟨S8192x768, .f32⟩
  | .hbm, ⟨42, _⟩ => ⟨S64x128x6x128, .f32⟩
  | .hbm, ⟨43, _⟩ => ⟨S128, .i32⟩
  | .hbm, ⟨44, _⟩ => ⟨S1x128, .i32⟩
  | .hbm, ⟨45, _⟩ => ⟨S_, .i32⟩
  | .hbm, ⟨46, _⟩ => ⟨S_, .i32⟩
  | .hbm, ⟨47, _⟩ => ⟨S1x128, .i32⟩
  | .hbm, ⟨48, _⟩ => ⟨S1x128, .i32⟩
  | .hbm, ⟨49, _⟩ => ⟨S1x128, .i32⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S1x128, .i32⟩
  | .hbm, ⟨54, _⟩ => ⟨S1x128, .i32⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S1x128, .i1⟩
  | .hbm, ⟨59, _⟩ => ⟨S_, .i32⟩
  | .hbm, ⟨60, _⟩ => ⟨S1x128, .i32⟩
  | .hbm, ⟨61, _⟩ => ⟨S1x128, .i32⟩
  | .hbm, ⟨62, _⟩ => ⟨S1x128, .i32⟩
  | .hbm, ⟨63, _⟩ => ⟨S128x1, .i32⟩
  | .hbm, ⟨64, _⟩ => ⟨S_, .i32⟩
  | .hbm, ⟨65, _⟩ => ⟨S_, .i32⟩
  | .hbm, ⟨66, _⟩ => ⟨S128x1, .i32⟩
  | .hbm, ⟨67, _⟩ => ⟨S128x1, .i32⟩
  | .hbm, ⟨68, _⟩ => ⟨S128x1, .i32⟩
  | .hbm, ⟨69, _⟩ => ⟨S_, .i32⟩
  | .hbm, ⟨70, _⟩ => ⟨S128x1, .i32⟩
  | .hbm, ⟨71, _⟩ => ⟨S128x1, .i1⟩
  | .hbm, ⟨72, _⟩ => ⟨S128x1, .i32⟩
  | .hbm, ⟨73, _⟩ => ⟨S128x1, .i32⟩
  | .hbm, ⟨74, _⟩ => ⟨S_, .i32⟩
  | .hbm, ⟨75, _⟩ => ⟨S128x1, .i32⟩
  | .hbm, ⟨76, _⟩ => ⟨S128x1, .i1⟩
  | .hbm, ⟨77, _⟩ => ⟨S128x1, .i1⟩
  | .hbm, ⟨78, _⟩ => ⟨S_, .i32⟩
  | .hbm, ⟨79, _⟩ => ⟨S128x1, .i32⟩
  | .hbm, ⟨80, _⟩ => ⟨S128x1, .i32⟩
  | .hbm, ⟨81, _⟩ => ⟨S128x1, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S1x128x128, .i1⟩
  | .hbm, ⟨86, _⟩ => ⟨S_, .f32⟩
  | .hbm, ⟨87, _⟩ => ⟨S_, .f32⟩
  | .hbm, ⟨88, _⟩ => ⟨S6x128x128, .i1⟩
  | .hbm, ⟨89, _⟩ => ⟨S6x128x128, .f32⟩
  | .hbm, ⟨90, _⟩ => ⟨S6x128x128, .f32⟩
  | .hbm, ⟨91, _⟩ => ⟨S128x6, .f32⟩
  | .hbm, ⟨92, _⟩ => ⟨S128x6x1, .f32⟩
  | .hbm, ⟨93, _⟩ => ⟨S128x6x128, .f32⟩
  | .hbm, ⟨94, _⟩ => ⟨S6x64x128x128, .f32⟩
  | .hbm, ⟨95, _⟩ => ⟨S64x128x6x128, .f32⟩
  | .hbm, ⟨96, _⟩ => ⟨S1x128x6x128, .f32⟩
  | .hbm, ⟨97, _⟩ => ⟨S64x128x6x128, .f32⟩
  | .hbm, ⟨98, _⟩ => ⟨S64x128x6x128, .f32⟩
  | .hbm, ⟨99, _⟩ => ⟨S8192x768, .f32⟩
  | .hbm, ⟨100, _⟩ => ⟨S8192x768, .f32⟩
  | .hbm, ⟨101, _⟩ => ⟨S8192x768, .bf16⟩
  | .hbm, ⟨102, _⟩ => ⟨S_, .i32⟩
  | .hbm, ⟨103, _⟩ => ⟨S_, .bf16⟩
  | .hbm, ⟨104, _⟩ => ⟨S8192x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_8 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_9 : Ref sig .tc := ⟨.hbm, 102, rfl⟩
abbrev main_call3_v0 : Ref sig .tc := ⟨.hbm, 103, rfl⟩
abbrev main_v52 : Ref sig .tc := ⟨.hbm, 104, rfl⟩

abbrev nD : Nat := 1
abbrev τ : Topo := Topo.v7x

variable {F : FTy → Type} [FloatOps F]
-- ==== Dy.lean ====
abbrev S1024x1024 : Shape := ⟨2, ![1024, 1024]⟩
abbrev S8192x1024 : Shape := ⟨2, ![8192, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DyRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dw.lean ====
abbrev S8192x1024 : Shape := ⟨2, ![8192, 1024]⟩
abbrev S8192x2816 : Shape := ⟨2, ![8192, 2816]⟩
abbrev S8192x5632 : Shape := ⟨2, ![8192, 5632]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x5632, .f32⟩
  | .hbm, ⟨4, _⟩ => ⟨S8192x5632, .bf16⟩
  | .hbm, ⟨5, _⟩ => ⟨S8192x1024, .bf16⟩
  | .hbm, ⟨6, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .f32⟩
  | .hbm, ⟨13, _⟩ => ⟨S5632x1024, .f32⟩
  | .hbm, ⟨14, _⟩ => ⟨S5632x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Ksum.lean ====
abbrev S8192x1536 : Shape := ⟨2, ![8192, 1536]⟩
abbrev S1x8192x1536 : Shape := ⟨3, ![1, 8192, 1536]⟩
abbrev S2x8192x1536 : Shape := ⟨3, ![2, 8192, 1536]⟩
abbrev S2x512x1536 : Shape := ⟨3, ![2, 512, 1536]⟩
abbrev S512x1536 : Shape := ⟨2, ![512, 1536]⟩
abbrev S1x512x1536 : Shape := ⟨3, ![1, 512, 1536]⟩

abbrev nBuf : Space → Nat
  | .hbm => 6
  | .vmem => 4
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S1x8192x1536, .f32⟩
  | .hbm, ⟨3, _⟩ => ⟨S1x8192x1536, .f32⟩
  | .hbm, ⟨4, _⟩ => ⟨S2x8192x1536, .f32⟩
  | .hbm, ⟨5, _⟩ => ⟨S8192x1536, .bf16⟩
  | .local _ .vmem, ⟨0, _⟩ => ⟨S2x512x1536, .f32⟩
  | .local _ .vmem, ⟨1, _⟩ => ⟨S2x512x1536, .f32⟩
  | .local _ .vmem, ⟨2, _⟩ => ⟨S512x1536, .bf16⟩
  | .local _ .vmem, ⟨3, _⟩ => ⟨S512x1536, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KsumRefIdeal.lean ====
abbrev S8192x1536 : Shape := ⟨2, ![8192, 1536]⟩

abbrev nBuf : Space → Nat
  | .hbm => 4
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x1536, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S4x352x1024 : Shape := ⟨3, ![4, 352, 1024]⟩
abbrev S8x4x352x1024 : Shape := ⟨4, ![8, 4, 352, 1024]⟩
abbrev S1408x1024 : Shape := ⟨2, ![1408, 1024]⟩
abbrev S8x1408x1024 : Shape := ⟨3, ![8, 1408, 1024]⟩
abbrev S352x1024 : Shape := ⟨2, ![352, 1024]⟩
abbrev S8x352x1024 : Shape := ⟨3, ![8, 352, 1024]⟩
abbrev S1x352x1024 : Shape := ⟨3, ![1, 352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x352x1024, .f32⟩
  | .hbm, ⟨1, _⟩ => ⟨S8x4x352x1024, .bf16⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S8x1408x1024, .bf16⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S8x352x1024, .bf16⟩
  | .local _ .vmem, ⟨3, _⟩ => ⟨S8x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4x352x1024 : Shape := ⟨3, ![4, 352, 1024]⟩
abbrev S8x4x352x1024 : Shape := ⟨4, ![8, 4, 352, 1024]⟩
abbrev S_ : Shape := ⟨0, ![]⟩
abbrev S1408x1024 : Shape := ⟨2, ![1408, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S8x4x352x1024, .bf16⟩
  | .hbm, ⟨2, _⟩ => ⟨S4x352x1024, .f32⟩
  | .hbm, ⟨3, _⟩ => ⟨S4x352x1024, .f32⟩
  | .hbm, ⟨4, _⟩ => ⟨S8x4x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | .hbm, ⟨40, _⟩ => ⟨S1408x1024, .f32⟩
  | .hbm, ⟨41, _⟩ => ⟨S1408x1024, .f32⟩
  | .hbm, ⟨42, _⟩ => ⟨S1408x1024, .f32⟩
  | .hbm, ⟨43, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Tiles.lean ====
/- The stick-breaking attention's block of 512 × 256 scores, tile by tile: what a walk over the key
   blocks computes from a block's keys and values, in the kernel's own operations. -/
module

public import proofs.«01_k».proof.Defs
public import proofs.«01_k».proof.Proof.Gen.StickIdeal

@[expose] public section

noncomputable section

namespace Cert.Tiles

open Cert.StickIdeal Cert.StickIdeal.Gen
open Idealize.ShloMosaic

variable {F : FTy → Type} [FloatOps F]

/-- A tile of 128 queries by 128 keys. -/
abbrev T (F : FTy → Type) : Type := FVec F S128x128 .f32

/-- The tile of zeros. -/
def zero : T F := broadcast S128x128 (Scalar.ofBits .f32 0x00000000#32)

/-- The empty tile of weights. -/
def none16 : FVec F S128x128 .bf16 := broadcast S128x128 (Scalar.ofBits .bf16 0x0000#16)

/-- A matrix of 256 × 256: `x` in its right half, and in its left half where `p` holds of row (modulo 128) and column. -/
def triangle (p : CmpIPredicate) (x : BitVec 32) : FVec F S256x256 .bf16 :=
  truncf .bf16 (select (ori (cmpi .sge (iota .tc S256x256 32 [1] iota_S256x256_d1_w32) (broadcast S256x256 128#32))
    (cmpi p (andi (iota .tc S256x256 32 [0] iota_S256x256_d0_w32) (broadcast S256x256 127#32)) (iota .tc S256x256 32 [1] iota_S256x256_d1_w32)))
    (broadcast S256x256 (Scalar.ofBits .f32 x)) (broadcast S256x256 (Scalar.ofBits .f32 0x00000000#32) : FVec F S256x256 .f32)) bitsLt_bf16_f32

/-- The diagonal tile's mask: the key stands before the query. -/
def early : IVec S128x128 1 :=
  cmpi .slt (subi (iota .tc S128x128 32 [1] iota_S128x128_d1_w32) (iota .tc S128x128 32 [0] iota_S128x128_d0_w32)) (broadcast S128x128 0#32)

/-- The columns of the pair's first head, and of its second. -/
def head0 : IVec S128x128 1 := cmpi .slt (iota .tc S128x128 32 [1] iota_S128x128_d1_w32) (broadcast S128x128 64#32)
def head1 : IVec S128x128 1 := cmpi .sge (iota .tc S128x128 32 [1] iota_S128x128_d1_w32) (broadcast S128x128 64#32)

/-- A tile where the mask holds, zero elsewhere. -/
def only (m : IVec S128x128 1) (x : T F) : T F := select m x zero

/-- The softplus of a tile. -/
def softplus (z : T F) : T F :=
  addf (maximumf z zero) (log (addf (broadcast S128x128 (Scalar.ofBits .f32 0x3F800000#32)) (exp (subf zero (absf z)))))

/-- A tile split in two words, times a triangle. -/
def suffix (u : FVec F S256x256 .bf16) (x : T F) : FVec F S128x256 .f32 :=
  matmul dot_S128x256_S256x256_S128x256_1_0_0_1_n_n none
    (concatenate S128x256 1 [⟨S128x128, truncf .bf16 x bitsLt_bf16_f32⟩,
      ⟨S128x128, truncf .bf16 (subf x (extf .f32 (truncf .bf16 x bitsLt_bf16_f32) bitsLt_bf16_f32)) bitsLt_bf16_f32⟩] concatenates_S128x128_S128x128_S128x256_d1)
    u (constant S128x256 .f32 0x00000000#32)

/-- The left half of it, the sums from each key on; and the right half, the sums over the tile. -/
def lo (r : FVec F S128x256 .f32) : T F := extractStridedSlice S128x128 ![0, 0] r slices_S128x256_o0_0_S128x128
def hi (r : FVec F S128x256 .f32) : T F := extractStridedSlice S128x128 ![0, 128] r slices_S128x256_o0_128_S128x128

/-- The weights of a tile of scores `z`, `run` standing for the later tiles; `keep` is the mask. -/
def weight (u : FVec F S256x256 .bf16) (keep : T F → T F) (z run : T F) : FVec F S128x128 .bf16 :=
  truncf .bf16 (keep (exp (addf (addf (subf z (softplus z)) (lo (suffix u (keep (softplus z))))) run))) bitsLt_bf16_f32

/-- `run` with the tile added. -/
def next (u : FVec F S256x256 .bf16) (keep : T F → T F) (z run : T F) : T F := addf run (hi (suffix u (keep (softplus z))))

/-- The weights' logarithms' gradient. -/
def grad (a : FVec F S128x128 .bf16) (da : T F) : T F := mulf (extf .f32 a bitsLt_bf16_f32) da

/-- The gradient of the scores; `seen` stands for the later tiles' gradients, `tot` for the row's. -/
def dscore (w : FVec F S256x256 .bf16) (keep : T F → T F) (z tot dl seen : T F) : FVec F S128x128 .bf16 :=
  truncf .bf16 (subf (mulf dl (exp (subf zero (keep (softplus z)))))
    (mulf (keep (subf tot (addf (lo (suffix w dl)) seen))) (exp (subf z (softplus z))))) bitsLt_bf16_f32

/-- `seen` with the tile added. -/
def seenNext (w : FVec F S256x256 .bf16) (dl seen : T F) : T F := addf seen (hi (suffix w dl))

/-- Two tiles side by side, four rows of tiles on top of one another. -/
def join (l r : FVec F S128x128 .bf16) : FVec F S128x256 .bf16 :=
  concatenate S128x256 1 [⟨S128x128, l⟩, ⟨S128x128, r⟩] concatenates_S128x128_S128x128_S128x256_d1
def stack (a b c d : FVec F S128x256 .bf16) : FVec F S512x256 .bf16 :=
  concatenate S512x256 0 [⟨S128x256, a⟩, ⟨S128x256, b⟩, ⟨S128x256, c⟩, ⟨S128x256, d⟩] concatenates_S128x256_S128x256_S128x256_S128x256_S512x256_d0

/-- The eight tiles of a block of scores: chain by chain, left and right. -/
def z00 (z : FVec F S512x256 .f32) : T F := extractStridedSlice S128x128 ![0, 0] z slices_S512x256_o0_0_S128x128
def z01 (z : FVec F S512x256 .f32) : T F := extractStridedSlice S128x128 ![0, 128] z slices_S512x256_o0_128_S128x128
def z10 (z : FVec F S512x256 .f32) : T F := extractStridedSlice S128x128 ![128, 0] z slices_S512x256_o128_0_S128x128
def z11 (z : FVec F S512x256 .f32) : T F := extractStridedSlice S128x128 ![128, 128] z slices_S512x256_o128_128_S128x128
def z20 (z : FVec F S512x256 .f32) : T F := extractStridedSlice S128x128 ![256, 0] z slices_S512x256_o256_0_S128x128
def z21 (z : FVec F S512x256 .f32) : T F := extractStridedSlice S128x128 ![256, 128] z slices_S512x256_o256_128_S128x128
def z30 (z : FVec F S512x256 .f32) : T F := extractStridedSlice S128x128 ![384, 0] z slices_S512x256_o384_0_S128x128
def z31 (z : FVec F S512x256 .f32) : T F := extractStridedSlice S128x128 ![384, 128] z slices_S512x256_o384_128_S128x128

/-- The products of the walk: scores, weighted rows, and the two transposed ones. -/
def nt (x : FVec F S512x128 .bf16) (k : FVec F S256x128 .bf16) : FVec F S512x256 .f32 :=
  matmul dot_S512x128_S256x128_S512x256_1_1_0_0_n_n none x (shapeCast S256x128 k shapeCasts_S256x128_S256x128) (constant S512x256 .f32 0x00000000#32)
def nn (a : FVec F S512x256 .bf16) (v : FVec F S256x128 .bf16) : FVec F S512x128 .f32 :=
  matmul dot_S512x256_S256x128_S512x128_1_0_0_1_n_n none a (shapeCast S256x128 v shapeCasts_S256x128_S256x128) (constant S512x128 .f32 0x00000000#32)
def tn (a : FVec F S512x256 .bf16) (x : FVec F S512x128 .bf16) : FVec F S256x128 .f32 :=
  matmul dot_S512x256_S512x128_S256x128_0_0_1_1_n_n none a x (constant S256x128 .f32 0x00000000#32)

/-- A block of 256 query rows, scaled; and of output gradients. -/
def scaled (x : FVec F S256x128 .bf16) : FVec F S256x128 .f32 :=
  mulf (extf .f32 (shapeCast S256x128 x shapeCasts_S256x128_S256x128) bitsLt_bf16_f32) (broadcast S256x128 (Scalar.ofBits .f32 0x3E000000#32))
def plain (x : FVec F S256x128 .bf16) : FVec F S256x128 .f32 := extf .f32 (shapeCast S256x128 x shapeCasts_S256x128_S256x128) bitsLt_bf16_f32

/-- Its two halves of 128 rows. -/
def half0 (x : FVec F S256x128 .f32) : T F := extractStridedSlice S128x128 ![0, 0] x slices_S256x128_o0_0_S128x128
def half1 (x : FVec F S256x128 .f32) : T F := extractStridedSlice S128x128 ![128, 0] x slices_S256x128_o128_0_S128x128

/-- The four chains: each half, with the columns of either head. -/
def chains (x : FVec F S256x128 .f32) : FVec F S512x128 .bf16 :=
  concatenate S512x128 0 [⟨S128x128, truncf .bf16 (only head0 (half0 x)) bitsLt_bf16_f32⟩, ⟨S128x128, truncf .bf16 (only head1 (half0 x)) bitsLt_bf16_f32⟩,
    ⟨S128x128, truncf .bf16 (only head0 (half1 x)) bitsLt_bf16_f32⟩, ⟨S128x128, truncf .bf16 (only head1 (half1 x)) bitsLt_bf16_f32⟩]
    concatenates_S128x128_S128x128_S128x128_S128x128_S512x128_d0

/-- A tile's row sums, in every column. -/
def rowSum (x : T F) : T F :=
  broadcastTo S128x128 (shapeCast S128x1 (shapeCast S128x1 (multiReduction .add [1] S128 x 0x00000000#32 reduces_S128x128_S128 (.inl rfl) rfl)
    shapeCasts_S128_S128x1) shapeCasts_S128x1_S128x1) broadcasts_S128x1_S128x128

/-- The two halves' columns of one head each, back from the chains. -/
def apart0 (x : FVec F S512x128 .f32) : T F :=
  select head0 (extractStridedSlice S128x128 ![0, 0] x slices_S512x128_o0_0_S128x128) (extractStridedSlice S128x128 ![128, 0] x slices_S512x128_o128_0_S128x128)
def apart1 (x : FVec F S512x128 .f32) : T F :=
  select head0 (extractStridedSlice S128x128 ![256, 0] x slices_S512x128_o256_0_S128x128) (extractStridedSlice S128x128 ![384, 0] x slices_S512x128_o384_0_S128x128)

/-- The largest entry of four tiles. -/
def most (a b c d : T F) : F .f32 :=
  extractAt ![0, 0, 0] (shapeCast S1x1x1 (multiReduction .maximumf [1, 2] S1 (shapeCast S1x128x128 (maximumf (maximumf (maximumf a b) c) d)
    shapeCasts_S128x128_S1x128x128) 0xFF800000#32 reduces_S1x128x128_S1 (.inl rfl) rfl) shapeCasts_S1_S1x1x1) inpos_S1x1x1_p0_0_0

/-- A chain over two whole tiles `z0`, `z1`, the right one first: its weights, and `run` after them. -/
def pair (u : FVec F S256x256 .bf16) (z0 z1 run : T F) : FVec F S128x256 .bf16 := join (weight u id z0 (next u id z1 run)) (weight u id z1 run)
def run2 (u : FVec F S256x256 .bf16) (z0 z1 run : T F) : T F := next u id z0 (next u id z1 run)

/-- A chain on its own block: one diagonal tile, or a diagonal tile and the whole one left of it. -/
def pairA (u : FVec F S256x256 .bf16) (z0 : T F) : FVec F S128x256 .bf16 := join (weight u (only early) z0 zero) none16
def pairB (u : FVec F S256x256 .bf16) (z0 z1 : T F) : FVec F S128x256 .bf16 :=
  join (weight u id z0 (next u (only early) z1 zero)) (weight u (only early) z1 zero)
def runA (u : FVec F S256x256 .bf16) (z0 : T F) : T F := next u (only early) z0 zero
def runB (u : FVec F S256x256 .bf16) (z0 z1 : T F) : T F := next u id z0 (next u (only early) z1 zero)

/-- The weights of a block that lies before the queries, and of the queries' own block. -/
def wts (u : FVec F S256x256 .bf16) (z : FVec F S512x256 .f32) (r0 r1 r2 r3 : T F) : FVec F S512x256 .bf16 :=
  stack (pair u (z00 z) (z01 z) r0) (pair u (z10 z) (z11 z) r1) (pair u (z20 z) (z21 z) r2) (pair u (z30 z) (z31 z) r3)
def wtsOwn (u : FVec F S256x256 .bf16) (z : FVec F S512x256 .f32) : FVec F S512x256 .bf16 :=
  stack (pairA u (z00 z)) (pairA u (z10 z)) (pairB u (z20 z) (z21 z)) (pairB u (z30 z) (z31 z))

/-- A chain's gradients `dl` of its two tiles, `seen` after them, and the scores' gradients. -/
def dl1 (u : FVec F S256x256 .bf16) (z1 d1 run : T F) : T F := grad (weight u id z1 run) d1
def dl0 (u : FVec F S256x256 .bf16) (z0 z1 d0 run : T F) : T F := grad (weight u id z0 (next u id z1 run)) d0
def seen2 (u w : FVec F S256x256 .bf16) (z0 z1 d0 d1 run seen : T F) : T F :=
  seenNext w (dl0 u z0 z1 d0 run) (seenNext w (dl1 u z1 d1 run) seen)
def dpair (u w : FVec F S256x256 .bf16) (z0 z1 d0 d1 run seen tot : T F) : FVec F S128x256 .bf16 :=
  join (dscore w id z0 tot (dl0 u z0 z1 d0 run) (seenNext w (dl1 u z1 d1 run) seen)) (dscore w id z1 tot (dl1 u z1 d1 run) seen)

/-- The same on the queries' own block. -/
def dlA (u : FVec F S256x256 .bf16) (z0 d0 : T F) : T F := grad (weight u (only early) z0 zero) d0
def dlB (u : FVec F S256x256 .bf16) (z0 z1 d0 : T F) : T F := grad (weight u id z0 (next u (only early) z1 zero)) d0
def seenA (u w : FVec F S256x256 .bf16) (z0 d0 : T F) : T F := seenNext w (dlA u z0 d0) zero
def seenB (u w : FVec F S256x256 .bf16) (z0 z1 d0 d1 : T F) : T F := seenNext w (dlB u z0 z1 d0) (seenNext w (dlA u z1 d1) zero)
def dpairA (u w : FVec F S256x256 .bf16) (z0 d0 tot : T F) : FVec F S128x256 .bf16 := join (dscore w (only early) z0 tot (dlA u z0 d0) zero) none16
def dpairB (u w : FVec F S256x256 .bf16) (z0 z1 d0 d1 tot : T F) : FVec F S128x256 .bf16 :=
  join (dscore w id z0 tot (dlB u z0 z1 d0) (seenNext w (dlA u z1 d1) zero)) (dscore w (only early) z1 tot (dlA u z1 d1) zero)

/-- The scores' gradients of a block. -/
def dwts (u w : FVec F S256x256 .bf16) (z d : FVec F S512x256 .f32) (r0 r1 r2 r3 s0 s1 s2 s3 t0 t1 t2 t3 : T F) : FVec F S512x256 .bf16 :=
  stack (dpair u w (z00 z) (z01 z) (z00 d) (z01 d) r0 s0 t0) (dpair u w (z10 z) (z11 z) (z10 d) (z11 d) r1 s1 t1)
    (dpair u w (z20 z) (z21 z) (z20 d) (z21 d) r2 s2 t2) (dpair u w (z30 z) (z31 z) (z30 d) (z31 d) r3 s3 t3)
def dwtsOwn (u w : FVec F S256x256 .bf16) (z d : FVec F S512x256 .f32) (t0 t1 t2 t3 : T F) : FVec F S512x256 .bf16 :=
  stack (dpairA u w (z00 z) (z00 d) t0) (dpairA u w (z10 z) (z10 d) t1) (dpairB u w (z20 z) (z21 z) (z20 d) (z21 d) t2)
    (dpairB u w (z30 z) (z31 z) (z30 d) (z31 d) t3)

end Cert.Tiles

end
-- ==== Proof.Rows.lean ====
/- Loads and stores of a buffer that is held at known contents, and the 256 rows of a block of an
   array of 8192. -/
module

public import proofs.«01_k».proof.Proof.Tiles
public import Idealize.ShloMosaic.Lib.VecWindow
public import Idealize.ShloMosaic.Lib.Pipeline.FrameBody

@[expose] public section

noncomputable section

namespace Cert.Tiles

open Cert.StickIdeal Cert.StickIdeal.Gen
open Idealize.ShloMosaic
open Idealize.SL Idealize.SL.RA Idealize.SL.BI
open scoped Idealize.SL.BI
open Idealize.SL.BI.BIBase Idealize.SL.BI.Laws Idealize.SL.ProofMode Idealize.SL.Sem

/-! ## Blocks of 256 rows -/

/-- The 256 rows from `256 n` on (wrapping around, where they leave the array). -/
def rowsAt {α : Type} (x : S8192x128.Idx → α) (n : ℕ) : S256x128.Idx → α :=
  fun y => x fun | 0 => ⟨(256 * n + (y 0).val) % 8192, Nat.mod_lt _ (by decide)⟩ | 1 => y 1

/-- The array with the rows from `256 n` on replaced. -/
def putRows {α : Type} (x : S8192x128.Idx → α) (n : ℕ) (w : S256x128.Idx → α) : S8192x128.Idx → α :=
  fun y => if h : 256 * n ≤ (y 0).val ∧ (y 0).val < 256 * n + 256 then
    w fun | 0 => ⟨(y 0).val - 256 * n, show (y 0).val - 256 * n < 256 by omega⟩ | 1 => y 1
  else x y

theorem window_rows {α : Type} (x : S8192x128.Idx → α) (n : ℕ) (hn : n < 32) (inb : ∀ a, (![256 * n, 0] : Fin 2 → ℕ) a + S256x128.size a ≤ S8192x128.size a) :
    VecWindow.window (s := S8192x128) x ![256 * n, 0] S256x128.size inb = rowsAt x n := by
  funext y
  refine congrArg x (funext fun a => Fin.ext ?_)
  have h0 : (y 0).val < 256 := (y 0).isLt
  match a with
  | 0 => show 256 * n + 1 * (y 0).val = (256 * n + (y 0).val) % 8192; omega
  | 1 => show 0 + 1 * (y 1).val = (y 1).val; omega

theorem put_rows {α : Type} (x : S8192x128.Idx → α) (n : ℕ) (w : S256x128.Idx → α) :
    VecWindow.put (s := S8192x128) x ![256 * n, 0] S256x128.size w = putRows x n w := by
  funext y
  have h1 : (y 1).val < 128 := (y 1).isLt
  unfold VecWindow.put putRows
  by_cases h : 256 * n ≤ (y 0).val ∧ (y 0).val < 256 * n + 256
  · rw [dif_pos h, dif_pos (fun a => by
      match a with
      | 0 => exact h
      | 1 => exact ⟨Nat.zero_le _, by show (y 1).val < 0 + 128; omega⟩)]
    refine congrArg w (funext fun a => Fin.ext ?_)
    match a with
    | 0 => rw [Rect.unitLocal_val]; rfl
    | 1 => rw [Rect.unitLocal_val]; rfl
  · rw [dif_neg h, dif_neg (fun hh => h (hh 0))]

/-- A whole array read, and written. -/
theorem window_whole {α : Type} {s : Shape} (x : s.Idx → α) (off : Fin s.rank → ℕ) (inb : ∀ a, off a + s.size a ≤ s.size a) :
    VecWindow.window x off s.size inb = x := by
  funext y
  exact congrArg x (funext fun a => Fin.ext (by show off a + 1 * (y a).val = (y a).val; have := inb a; omega))
theorem put_whole {α : Type} {s : Shape} (x : s.Idx → α) (off : Fin s.rank → ℕ) (h0 : ∀ a, off a = 0) (w : s.Idx → α) :
    VecWindow.put x off s.size w = w := by
  funext y
  unfold VecWindow.put
  rw [dif_pos (fun a => ⟨by rw [h0]; omega, by rw [h0]; have := (y a).isLt; omega⟩)]
  exact congrArg w (funext fun a => Fin.ext (by rw [Rect.unitLocal_val, h0]; rfl))

/-- Two halves of 128 rows on top of one another. -/
def halves {α : Type} (a b : S128x128.Idx → α) : S256x128.Idx → α :=
  fun y => if h : (y 0).val < 128 then a fun | 0 => ⟨(y 0).val, h⟩ | 1 => y 1
  else b fun | 0 => ⟨(y 0).val - 128, show (y 0).val - 128 < 128 by have : (y 0).val < 256 := (y 0).isLt; omega⟩ | 1 => y 1

theorem put_halves {α : Type} (x : S256x128.Idx → α) (a b : S128x128.Idx → α) :
    VecWindow.put (s := S256x128) (VecWindow.put (s := S256x128) x ![0, 0] S128x128.size a) ![128, 0] S128x128.size b = halves a b := by
  funext y
  have h0 : (y 0).val < 256 := (y 0).isLt
  have h1 : (y 1).val < 128 := (y 1).isLt
  unfold VecWindow.put halves
  by_cases h : (y 0).val < 128
  · rw [dif_pos h, dif_neg (fun hh => by have : 128 ≤ (y 0).val := (hh 0).1; omega), dif_pos (fun a => by
      match a with
      | 0 => exact ⟨Nat.zero_le _, by show (y 0).val < 0 + 128; omega⟩
      | 1 => exact ⟨Nat.zero_le _, by show (y 1).val < 0 + 128; omega⟩)]
    refine congrArg a (funext fun a => Fin.ext ?_)
    match a with
    | 0 => rw [Rect.unitLocal_val]; rfl
    | 1 => rw [Rect.unitLocal_val]; rfl
  · rw [dif_neg h, dif_pos (fun a => by
      match a with
      | 0 => exact ⟨by show 128 ≤ (y 0).val; omega, by show (y 0).val < 128 + 128; omega⟩
      | 1 => exact ⟨Nat.zero_le _, by show (y 1).val < 0 + 128; omega⟩)]
    refine congrArg b (funext fun a => Fin.ext ?_)
    match a with
    | 0 => rw [Rect.unitLocal_val]; rfl
    | 1 => rw [Rect.unitLocal_val]; rfl

/-! ## The two walks -/

variable {F : FTy → Type} [FloatOps F]

/-- What a pass of the forward walk carries: the block, the chains' running sums and the weighted rows. -/
abbrev St (F : FTy → Type) : Type := BitVec 32 × T F × T F × T F × T F × FVec F S512x128 .f32

/-- The pass over a block of keys `k` and values `v`. -/
def pass (q : FVec F S512x128 .bf16) (u : FVec F S256x256 .bf16) (k v : FVec F S256x128 .bf16) : St F → St F
  | (j, r0, r1, r2, r3, acc) => (Scalar.subi j 1#32, run2 u (z00 (nt q k)) (z01 (nt q k)) r0, run2 u (z10 (nt q k)) (z11 (nt q k)) r1,
      run2 u (z20 (nt q k)) (z21 (nt q k)) r2, run2 u (z30 (nt q k)) (z31 (nt q k)) r3, addf acc (nn (wts u (nt q k) r0 r1 r2 r3) v))

/-- The pass over the queries' own block. -/
def start (j : BitVec 32) (q : FVec F S512x128 .bf16) (u : FVec F S256x256 .bf16) (k v : FVec F S256x128 .bf16) : St F :=
  (j, runA u (z00 (nt q k)), runA u (z10 (nt q k)), runB u (z20 (nt q k)) (z21 (nt q k)), runB u (z30 (nt q k)) (z31 (nt q k)),
    addf (broadcast S512x128 (Scalar.ofBits .f32 0x00000000#32)) (nn (wtsOwn u (nt q k)) v))

/-- Another pass follows: a block is left and some running sum is above the threshold. -/
def live (dead : F .f32) (j : BitVec 32) (r0 r1 r2 r3 : T F) : Prop :=
  Scalar.andi (Scalar.cmpi .sge j 0#32) (Scalar.cmpf .ogt (most r0 r1 r2 r3) dead) = 1#1

open Classical in
/-- The forward walk with `n` blocks left, the keys' and values' arrays being `x` and `y`. -/
def walk (dead : F .f32) (q : FVec F S512x128 .bf16) (u : FVec F S256x256 .bf16) (x y : FVec F S8192x128 .bf16) : ℕ → St F → St F
  | 0, s => s
  | n + 1, s => if live dead s.1 s.2.1 s.2.2.1 s.2.2.2.1 s.2.2.2.2.1 then walk dead q u x y n (pass q u (rowsAt x n) (rowsAt y n) s) else s

/-- What a pass of the backward walk carries besides the two arrays it adds to. -/
abbrev Bt (F : FTy → Type) : Type := BitVec 32 × T F × T F × T F × T F × T F × T F × T F × T F × FVec F S512x128 .f32

/-- The scores' gradients of a pass. -/
def bgrads (q g : FVec F S512x128 .bf16) (u w : FVec F S256x256 .bf16) (t0 t1 t2 t3 : T F) (k v : FVec F S256x128 .bf16) : Bt F → FVec F S512x256 .bf16
  | (_, r0, r1, r2, r3, s0, s1, s2, s3, _) => dwts u w (nt q k) (nt g v) r0 r1 r2 r3 s0 s1 s2 s3 t0 t1 t2 t3

/-- The pass. -/
def bpass (q g : FVec F S512x128 .bf16) (u w : FVec F S256x256 .bf16) (t0 t1 t2 t3 : T F) (k v : FVec F S256x128 .bf16) : Bt F → Bt F
  | (j, r0, r1, r2, r3, s0, s1, s2, s3, acc) => (Scalar.subi j 1#32,
      run2 u (z00 (nt q k)) (z01 (nt q k)) r0, run2 u (z10 (nt q k)) (z11 (nt q k)) r1,
      run2 u (z20 (nt q k)) (z21 (nt q k)) r2, run2 u (z30 (nt q k)) (z31 (nt q k)) r3,
      seen2 u w (z00 (nt q k)) (z01 (nt q k)) (z00 (nt g v)) (z01 (nt g v)) r0 s0, seen2 u w (z10 (nt q k)) (z11 (nt q k)) (z10 (nt g v)) (z11 (nt g v)) r1 s1,
      seen2 u w (z20 (nt q k)) (z21 (nt q k)) (z20 (nt g v)) (z21 (nt g v)) r2 s2, seen2 u w (z30 (nt q k)) (z31 (nt q k)) (z30 (nt g v)) (z31 (nt g v)) r3 s3,
      addf acc (nn (dwts u w (nt q k) (nt g v) r0 r1 r2 r3 s0 s1 s2 s3 t0 t1 t2 t3) k))

/-- The pass over the queries' own block. -/
def bstart (j : BitVec 32) (q g : FVec F S512x128 .bf16) (u w : FVec F S256x256 .bf16) (t0 t1 t2 t3 : T F) (k v : FVec F S256x128 .bf16) : Bt F :=
  (j, runA u (z00 (nt q k)), runA u (z10 (nt q k)), runB u (z20 (nt q k)) (z21 (nt q k)), runB u (z30 (nt q k)) (z31 (nt q k)),
    seenA u w (z00 (nt q k)) (z00 (nt g v)), seenA u w (z10 (nt q k)) (z10 (nt g v)),
    seenB u w (z20 (nt q k)) (z21 (nt q k)) (z20 (nt g v)) (z21 (nt g v)), seenB u w (z30 (nt q k)) (z31 (nt q k)) (z30 (nt g v)) (z31 (nt g v)),
    addf (broadcast S512x128 (Scalar.ofBits .f32 0x00000000#32)) (nn (dwtsOwn u w (nt q k) (nt g v) t0 t1 t2 t3) k))

/-- The array with `d` added to the rows from `256 n` on. -/
def addRows (x : FVec F S8192x128 .f32) (n : ℕ) (d : FVec F S256x128 .f32) : FVec F S8192x128 .f32 :=
  putRows x n (addf (shapeCast S256x128 (rowsAt x n) shapeCasts_S256x128_S256x128) d)

open Classical in
/-- The backward walk with `n` blocks left: the state, the keys' gradients `dk` and the values' `dv`. -/
def bwalk (dead : F .f32) (q g : FVec F S512x128 .bf16) (u w : FVec F S256x256 .bf16) (t0 t1 t2 t3 : T F) (x y : FVec F S8192x128 .bf16) :
    ℕ → Bt F → FVec F S8192x128 .f32 → FVec F S8192x128 .f32 → Bt F × FVec F S8192x128 .f32 × FVec F S8192x128 .f32
  | 0, s, dk, dv => (s, dk, dv)
  | n + 1, s, dk, dv => if live dead s.1 s.2.1 s.2.2.1 s.2.2.2.1 s.2.2.2.2.1 then
      bwalk dead q g u w t0 t1 t2 t3 x y n (bpass q g u w t0 t1 t2 t3 (rowsAt x n) (rowsAt y n) s)
        (addRows dk n (tn (bgrads q g u w t0 t1 t2 t3 (rowsAt x n) (rowsAt y n) s) q))
        (addRows dv n (tn (wts u (nt q (rowsAt x n)) s.2.1 s.2.2.1 s.2.2.2.1 s.2.2.2.2.1) g))
    else (s, dk, dv)

/-- Where a pass follows it is the next block's; where none does, the walk ends. -/
theorem bwalk_live {dead : F .f32} {q g : FVec F S512x128 .bf16} {u w : FVec F S256x256 .bf16} {t0 t1 t2 t3 : T F} {x y : FVec F S8192x128 .bf16}
    {n : ℕ} {j : BitVec 32} {r0 r1 r2 r3 s0 s1 s2 s3 : T F} {acc : FVec F S512x128 .f32} {dk dv : FVec F S8192x128 .f32} (h : live dead j r0 r1 r2 r3) :
    bwalk dead q g u w t0 t1 t2 t3 x y (n + 1) (j, r0, r1, r2, r3, s0, s1, s2, s3, acc) dk dv
      = bwalk dead q g u w t0 t1 t2 t3 x y n (bpass q g u w t0 t1 t2 t3 (rowsAt x n) (rowsAt y n) (j, r0, r1, r2, r3, s0, s1, s2, s3, acc))
          (addRows dk n (tn (bgrads q g u w t0 t1 t2 t3 (rowsAt x n) (rowsAt y n) (j, r0, r1, r2, r3, s0, s1, s2, s3, acc)) q))
          (addRows dv n (tn (wts u (nt q (rowsAt x n)) r0 r1 r2 r3) g)) := by
  rw [bwalk, if_pos h]
theorem bwalk_dead {dead : F .f32} {q g : FVec F S512x128 .bf16} {u w : FVec F S256x256 .bf16} {t0 t1 t2 t3 : T F} {x y : FVec F S8192x128 .bf16}
    {n : ℕ} {j : BitVec 32} {r0 r1 r2 r3 s0 s1 s2 s3 : T F} {acc : FVec F S512x128 .f32} {dk dv : FVec F S8192x128 .f32} (h : ¬live dead j r0 r1 r2 r3) :
    bwalk dead q g u w t0 t1 t2 t3 x y (n + 1) (j, r0, r1, r2, r3, s0, s1, s2, s3, acc) dk dv = ((j, r0, r1, r2, r3, s0, s1, s2, s3, acc), dk, dv) := by
  rw [bwalk, if_neg h]

theorem walk_live {dead : F .f32} {q : FVec F S512x128 .bf16} {u : FVec F S256x256 .bf16} {x y : FVec F S8192x128 .bf16}
    {n : ℕ} {j : BitVec 32} {r0 r1 r2 r3 : T F} {acc : FVec F S512x128 .f32} (h : live dead j r0 r1 r2 r3) :
    walk dead q u x y (n + 1) (j, r0, r1, r2, r3, acc) = walk dead q u x y n (pass q u (rowsAt x n) (rowsAt y n) (j, r0, r1, r2, r3, acc)) := by
  rw [walk, if_pos h]
theorem walk_dead {dead : F .f32} {q : FVec F S512x128 .bf16} {u : FVec F S256x256 .bf16} {x y : FVec F S8192x128 .bf16}
    {n : ℕ} {j : BitVec 32} {r0 r1 r2 r3 : T F} {acc : FVec F S512x128 .f32} (h : ¬live dead j r0 r1 r2 r3) :
    walk dead q u x y (n + 1) (j, r0, r1, r2, r3, acc) = (j, r0, r1, r2, r3, acc) := by
  rw [walk, if_neg h]

/-- The rows' totals of the weights' logarithms' gradients: `dy · out` summed over a head's columns, chain by chain. -/
def prods (y : FVec F S256x128 .bf16) (o : FVec F S256x128 .f32) : FVec F S256x128 .f32 := mulf (plain y) (shapeCast S256x128 o shapeCasts_S256x128_S256x128)
def tot0 (y : FVec F S256x128 .bf16) (o : FVec F S256x128 .f32) : T F := rowSum (only head0 (half0 (prods y o)))
def tot1 (y : FVec F S256x128 .bf16) (o : FVec F S256x128 .f32) : T F := rowSum (only head1 (half0 (prods y o)))
def tot2 (y : FVec F S256x128 .bf16) (o : FVec F S256x128 .f32) : T F := rowSum (only head0 (half1 (prods y o)))
def tot3 (y : FVec F S256x128 .bf16) (o : FVec F S256x128 .f32) : T F := rowSum (only head1 (half1 (prods y o)))

/-- The block that query block `n` starts its walk at. -/
def first (n : ℕ) : BitVec 32 := Scalar.subi (Scalar.shrui (Scalar.muli (BitVec.ofNat 32 n) 2#32) 1#32) 1#32

/-- The triangles after a key, and from a key on. -/
def after2 : FVec F S256x256 .bf16 := triangle .sgt 0xBF800000#32
def from2 : FVec F S256x256 .bf16 := triangle .sge 0x3F800000#32

/-- The array of zeros. -/
def zeros : FVec F S8192x128 .f32 := broadcast S8192x128 (Scalar.ofBits .f32 0x00000000#32)

/-- What the forward kernel computes for query block `n`, before the chains are put back. -/
def ftotal (dead : F .f32) (n : ℕ) (x0 : FVec F S256x128 .bf16) (x1 x2 : FVec F S8192x128 .bf16) : FVec F S512x128 .f32 :=
  (walk dead (chains (scaled x0)) after2 x1 x2 n (start (first n) (chains (scaled x0)) after2 (rowsAt x1 n) (rowsAt x2 n))).2.2.2.2.2

/-- What the backward kernel leaves of query block `n`: the walk's end, the keys' and the values' gradients. -/
def bbody (dead : F .f32) (n : ℕ) (x0 : FVec F S256x128 .bf16) (x1 x2 : FVec F S8192x128 .bf16) (x3 : FVec F S256x128 .f32) (x4 : FVec F S256x128 .bf16)
    (dk dv : FVec F S8192x128 .f32) : Bt F × FVec F S8192x128 .f32 × FVec F S8192x128 .f32 :=
  bwalk dead (chains (scaled x0)) (chains (plain x4)) after2 from2 (tot0 x4 x3) (tot1 x4 x3) (tot2 x4 x3) (tot3 x4 x3) x1 x2 n
    (bstart (first n) (chains (scaled x0)) (chains (plain x4)) after2 from2 (tot0 x4 x3) (tot1 x4 x3) (tot2 x4 x3) (tot3 x4 x3) (rowsAt x1 n) (rowsAt x2 n))
    (addRows (if n = 0 then zeros else dk) n (tn (dwtsOwn after2 from2 (nt (chains (scaled x0)) (rowsAt x1 n)) (nt (chains (plain x4)) (rowsAt x2 n))
      (tot0 x4 x3) (tot1 x4 x3) (tot2 x4 x3) (tot3 x4 x3)) (chains (scaled x0))))
    (addRows (if n = 0 then zeros else dv) n (tn (wtsOwn after2 (nt (chains (scaled x0)) (rowsAt x1 n))) (chains (plain x4))))

/-- The weighted rows out of the chains, in either precision. -/
def wide (acc : FVec F S512x128 .f32) : FVec F S256x128 .f32 := halves (apart0 acc) (apart1 acc)
def narrow (acc : FVec F S512x128 .f32) : FVec F S256x128 .bf16 :=
  halves (truncf .bf16 (apart0 acc) bitsLt_bf16_f32) (truncf .bf16 (apart1 acc) bitsLt_bf16_f32)

/-- The queries' gradients out of the chains, scaled. -/
def back (acc : FVec F S512x128 .f32) : FVec F S256x128 .bf16 :=
  halves (truncf .bf16 (mulf (apart0 acc) (broadcast S128x128 (Scalar.ofBits .f32 0x3E000000#32))) bitsLt_bf16_f32)
    (truncf .bf16 (mulf (apart1 acc) (broadcast S128x128 (Scalar.ofBits .f32 0x3E000000#32))) bitsLt_bf16_f32)

/-- A block below 0 is none: no pass follows. -/
theorem not_live (dead : F .f32) (j : BitVec 32) (h : j = Scalar.subi (BitVec.ofNat 32 0) 1#32) (r0 r1 r2 r3 : T F) : ¬live dead j r0 r1 r2 r3 := by
  unfold live
  rw [h, show Scalar.cmpi .sge (Scalar.subi (BitVec.ofNat 32 0) 1#32) 0#32 = 0#1 from by decide]
  intro h'
  revert h'
  generalize Scalar.cmpf .ogt (most r0 r1 r2 r3) dead = b
  revert b; decide

/-- Before block `n` there is block `n - 1`. -/
theorem step_block : ∀ n : ℕ, n < 32 → Scalar.subi (Scalar.subi (BitVec.ofNat 32 (n + 1)) 1#32) 1#32 = Scalar.subi (BitVec.ofNat 32 n) 1#32 := by
  decide

/-- With `n + 1` blocks left the next is block `n`. -/
theorem next_block : ∀ n : ℕ, n < 32 → Scalar.subi (BitVec.ofNat 32 (n + 1)) 1#32 = BitVec.ofNat 32 n := by decide

/-- The block that the loop starts at. -/
theorem first_eq : ∀ n : Fin 32, first n.val = Scalar.subi (BitVec.ofNat 32 n.val) 1#32 := by decide

/-! ## Loads and stores -/

section Step

variable {nD : Nat} {τ : Topo} {sig : RefSig} {Ix : Type} [DecidableEq Ix] {Val : EltTy → Type} {Name : Type} [DecidableEq Name]
  {U : Type} [URA U] {Lvl : Type} {Λ : Labels} [Preorder Lvl] {defs : Idealize.ShloMosaic.Defs nD τ sig Val Λ} (𝒱 : Variants) (c : Thread nD τ) (bd : Option 𝒱.V)
  {Γ : PendingWaitsCtx sig Ix} (E : Set Name) {α : Type} {Q : α → sProp (MT nD τ sig Ix Val Name U Lvl)} {e : EltTy} {cs : CoreSpace}

/-- A load of a rectangle of what the memref holds. -/
theorem wp_load_owns {s : Shape} {m : Memref sig c.2.kind cs s e} {off off' size : Fin s.rank → ℕ} {inb : ∀ a, off a + size a ≤ s.size a}
    {hl : m.view.LoadsAt (Rect.unit off size inb).toLoadRect} {k} {q : PosShare TreeShare} {X : s.Idx → Val e}
    (h : off = off') (inb' : ∀ a, off' a + size a ≤ s.size a) :
    (owns c m q X : sProp (MT nD τ sig Ix Val Name U Lvl))
      ⊢ iprop((owns c m q X -∗ wp frame (wpE' defs 𝒱 c bd Γ) E (k (VecWindow.window X off' size inb')) Q)
        -∗ wp frame (wpE' defs 𝒱 c bd Γ) E (.op (.load m (Rect.unit off size inb).toLoadRect hl) k) Q) := by
  rw [owns]
  iintro ⟨%f, %hf, H⟩ Hk
  iapply (wp_load 𝒱 c bd E (m := m) (View.setOn_subset_set _ _)) $$ H
  iintro H
  rw [View.readAt_unit m.view f inb h inb', hf]
  iapply Hk
  iexists _; isplitr
  · ipureintro; exact hf
  iexact H

/-- A store to a rectangle of what the memref holds. -/
theorem wp_store_owns {s : Shape} {m : Memref sig c.2.kind cs s e} {off off' size : Fin s.rank → ℕ} {inb : ∀ a, off a + size a ≤ s.size a}
    {w : (Rect.unit off size inb).shape.Idx → Val e} {hx hm} {k} {X : s.Idx → Val e} (h : off = off') :
    (owns c m fullShare X : sProp (MT nD τ sig Ix Val Name U Lvl))
      ⊢ iprop((owns c m fullShare (VecWindow.put X off' size w) -∗ wp frame (wpE' defs 𝒱 c bd Γ) E (k ⟨⟩) Q)
        -∗ wp frame (wpE' defs 𝒱 c bd Γ) E (.op (.store m (Rect.unit off size inb) w Finset.univ hx hm) k) Q) := by
  rw [owns]
  iintro ⟨%f, %hf, H⟩ Hk
  iapply (wp_store 𝒱 c bd E (m := m) (r := Rect.unit off size inb) (S := m.view.set) (f := f) ?_) $$ H
  · exact (View.setOn_subset_set _ _).trans (View.set_slice_subset _ _)
  iintro H
  iapply Hk
  unfold owns
  iexists _; isplitr
  swap
  · iexact H
  ipureintro
  have := View.read_writes_cons_put m.view f inb w [] h
  rw [View.writes_nil, hf] at this
  exact this

/-- A load, and a store, of the rows of block `n`; and of the whole. -/
theorem wp_load_rows {m : Memref sig c.2.kind cs S8192x128 e} {off : Fin 2 → ℕ} {inb : ∀ a, off a + S256x128.size a ≤ S8192x128.size a}
    {hl : m.view.LoadsAt (Rect.unit (s := S8192x128) off S256x128.size inb).toLoadRect} {k} {q : PosShare TreeShare} {X : S8192x128.Idx → Val e}
    (n : ℕ) (hn : n < 32) (h : off = ![256 * n, 0]) :
    (owns c m q X : sProp (MT nD τ sig Ix Val Name U Lvl))
      ⊢ iprop((owns c m q X -∗ wp frame (wpE' defs 𝒱 c bd Γ) E (k (rowsAt X n)) Q)
        -∗ wp frame (wpE' defs 𝒱 c bd Γ) E (.op (.load m (Rect.unit (s := S8192x128) off S256x128.size inb).toLoadRect hl) k) Q) := by
  have := wp_load_owns (defs := defs) 𝒱 c bd (Γ := Γ) E (Q := Q) (m := m) (hl := hl) (k := k) (q := q) (X := X) h (h ▸ inb)
  rw [window_rows X n hn] at this
  exact this

theorem wp_store_rows {m : Memref sig c.2.kind cs S8192x128 e} {off : Fin 2 → ℕ} {inb : ∀ a, off a + S256x128.size a ≤ S8192x128.size a}
    {w : S256x128.Idx → Val e} {hx hm} {k} {X : S8192x128.Idx → Val e} (n : ℕ) (h : off = ![256 * n, 0]) :
    (owns c m fullShare X : sProp (MT nD τ sig Ix Val Name U Lvl))
      ⊢ iprop((owns c m fullShare (putRows X n w) -∗ wp frame (wpE' defs 𝒱 c bd Γ) E (k ⟨⟩) Q)
        -∗ wp frame (wpE' defs 𝒱 c bd Γ) E (.op (.store m (Rect.unit (s := S8192x128) off S256x128.size inb) w Finset.univ hx hm) k) Q) := by
  have := wp_store_owns (defs := defs) 𝒱 c bd (Γ := Γ) E (Q := Q) (m := m) (w := w) (hx := hx) (hm := hm) (k := k) (X := X) h
  rw [← put_rows]
  exact this

theorem wp_load_all {s : Shape} {m : Memref sig c.2.kind cs s e} {off : Fin s.rank → ℕ} {inb : ∀ a, off a + s.size a ≤ s.size a}
    {hl : m.view.LoadsAt (Rect.unit off s.size inb).toLoadRect} {k} {q : PosShare TreeShare} {X : s.Idx → Val e} :
    (owns c m q X : sProp (MT nD τ sig Ix Val Name U Lvl))
      ⊢ iprop((owns c m q X -∗ wp frame (wpE' defs 𝒱 c bd Γ) E (k X) Q)
        -∗ wp frame (wpE' defs 𝒱 c bd Γ) E (.op (.load m (Rect.unit off s.size inb).toLoadRect hl) k) Q) := by
  have := wp_load_owns (defs := defs) 𝒱 c bd (Γ := Γ) E (Q := Q) (m := m) (hl := hl) (k := k) (q := q) (X := X) rfl inb
  rw [window_whole] at this
  exact this

theorem wp_store_all {s : Shape} {m : Memref sig c.2.kind cs s e} {off : Fin s.rank → ℕ} {inb : ∀ a, off a + s.size a ≤ s.size a}
    {w : s.Idx → Val e} {hx hm} {k} {X : s.Idx → Val e} :
    (owns c m fullShare X : sProp (MT nD τ sig Ix Val Name U Lvl))
      ⊢ iprop((owns c m fullShare w -∗ wp frame (wpE' defs 𝒱 c bd Γ) E (k ⟨⟩) Q)
        -∗ wp frame (wpE' defs 𝒱 c bd Γ) E (.op (.store m (Rect.unit off s.size inb) w Finset.univ hx hm) k) Q) := by
  have := wp_store_owns (defs := defs) 𝒱 c bd (Γ := Γ) E (Q := Q) (m := m) (w := w) (hx := hx) (hm := hm) (k := k) (X := X) (inb := inb) rfl
  rw [put_whole X off (fun a => by have := inb a; omega)] at this
  exact this

end Step

end Cert.Tiles

end
-- ==== Proof.StickFrame.lean ====
/- The run of the backward walk of the stick-breaking attention: its key blocks walked by a loop
   that runs while a block is left. -/
module

public import proofs.«01_k».proof.Defs
public import proofs.«01_k».proof.Proof.Gen.StickIdeal
public import proofs.«01_k».proof.Proof.Gen.StickIdeal.Skeleton
public import proofs.«01_k».proof.Proof.Gen.StickIdeal.Launch
public import proofs.«01_k».proof.Proof.Gen.StickIdeal.Points
public import proofs.«01_k».proof.Proof.Rows
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Adequacy
public import Idealize.ShloMosaic.Init

@[expose] public section

set_option maxRecDepth 16384

noncomputable section

namespace Cert.StickIdeal.Hand

open Cert.StickIdeal Cert.StickIdeal.Gen
open Cert.Tiles (T Bt chains scaled plain rowsAt addRows bpass bstart bwalk bbody back after2 from2 tot0 tot1 tot2 tot3 nt nn tn wts dwts bgrads live)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The loop -/

/-- The threshold under which a walk stops. -/
abbrev dead : F .f32 := Named.named κ "dead" 0xC2DC0000#32

/-- A block below 32 lies inside the arrays, and where it starts. -/
theorem chk_of_lt : ∀ n : ℕ, n < 32 → k0_chk1 (BitVec.ofNat 32 n) := by decide
theorem off2_eq : ∀ n : ℕ, n < 32 → k0_off2 (BitVec.ofNat 32 n) = ![256 * n, 0] := by decide
theorem off1_eq (i : grid0.Coords) : k0_off1 i = ![256 * (i 1).val, 0] := by
  have : ∀ i : grid0.Coords, k0_off1 i = ![256 * (i 1).val, 0] := by decide +kernel
  exact this i

section Label

variable (c : Dev nD) (i : grid0.Coords) (arg3 : Memref sig .tc .vmem S8192x128 .bf16) (harg3 : arg3.IsWhole)
  (arg4 : Memref sig .tc .vmem S8192x128 .bf16) (harg4 : arg4.IsWhole)
  (arg8 : Memref sig .tc .vmem S8192x128 .f32) (harg8 : arg8.IsWhole)
  (arg9 : Memref sig .tc .vmem S8192x128 .f32) (harg9 : arg9.IsWhole)
  (x1 x2 : FVec F S8192x128 .bf16) (q g : FVec F S512x128 .bf16) (u w : FVec F S256x256 .bf16) (t0 t1 t2 t3 : T F)

/-- The staged arrays of the loop: it reads two and adds to two. -/
def held (dk dv : FVec F S8192x128 .f32) : sProp 𝕄 :=
  iprop(owns (c : Thread nD τ) arg3 fullShare x1 ∗ owns (c : Thread nD τ) arg4 fullShare x2
    ∗ owns (c : Thread nD τ) arg8 fullShare dk ∗ owns (c : Thread nD τ) arg9 fullShare dv)

/-- The loop's specification: state and arrays end as the walk's. -/
def spec (n : ℕ) (s : Bt F) (dk dv : FVec F S8192x128 .f32) : sWPT 𝕄 (Bt F) := do
  sWPT.consume (held c arg3 arg4 arg8 arg9 x1 x2 dk dv)
  sWPT.produce (held c arg3 arg4 arg8 arg9 x1 x2 (bwalk dead q g u w t0 t1 t2 t3 x1 x2 n s dk dv).2.1 (bwalk dead q g u w t0 t1 t2 t3 x1 x2 n s dk dv).2.2)
  pure (bwalk dead q g u w t0 t1 t2 t3 x1 x2 n s dk dv).1

theorem spec_apply (n : ℕ) (s : Bt F) (dk dv : FVec F S8192x128 .f32) (K : Bt F → sProp 𝕄) :
    spec c arg3 arg4 arg8 arg9 x1 x2 q g u w t0 t1 t2 t3 n s dk dv K
      = iprop(held c arg3 arg4 arg8 arg9 x1 x2 dk dv
        ∗ (held c arg3 arg4 arg8 arg9 x1 x2 (bwalk dead q g u w t0 t1 t2 t3 x1 x2 n s dk dv).2.1 (bwalk dead q g u w t0 t1 t2 t3 x1 x2 n s dk dv).2.2
          -∗ K (bwalk dead q g u w t0 t1 t2 t3 x1 x2 n s dk dv).1)) := rfl

set_option maxHeartbeats 4000000 in
/-- The loop meets it, by induction on the blocks left. -/
theorem spec_le (E : Set ℕ) : ∀ n, n ≤ 32 → ∀ (s : Bt F) (dk dv : FVec F S8192x128 .f32), s.1 = Scalar.subi (BitVec.ofNat 32 n) 1#32 →
    ∀ K, spec c arg3 arg4 arg8 arg9 x1 x2 q g u w t0 t1 t2 t3 n s dk dv K
      ⊢ wp frame (wpE (defs₀ (F := F)) Variants.nat (c : Thread nD τ) (some n)) E
          (defs₀ (F := F) .tc 1 ⟨i, arg3, harg3, arg4, harg4, q, g, u, w, t0, t1, t2, t3, arg9, harg9, arg8, harg8,
            s.1, s.2.1, s.2.2.1, s.2.2.2.1, s.2.2.2.2.1, s.2.2.2.2.2.1, s.2.2.2.2.2.2.1, s.2.2.2.2.2.2.2.1, s.2.2.2.2.2.2.2.2.1, s.2.2.2.2.2.2.2.2.2⟩) K := by
  intro n
  induction n with
  | zero =>
    rintro _ ⟨j, r0, r1, r2, r3, s0, s1, s2, s3, acc⟩ dk dv hs K
    rw [spec_apply]
    dsimp only at hs
    show _ ⊢ wp frame (wpE (defs₀ (F := F)) Variants.nat (c : Thread nD τ) (some 0)) E
      (cc0_while1 i arg3 harg3 arg4 harg4 q g u w t0 t1 t2 t3 arg9 harg9 arg8 harg8 j r0 r1 r2 r3 s0 s1 s2 s3 acc) K
    rw [cc0_while1_eq_skeleton]; unfold cc0_while1_skel
    have hl := Tiles.not_live (dead (F := F)) j hs r0 r1 r2 r3
    change ¬Scalar.andi (Scalar.cmpi .sge j 0#32) (Scalar.cmpf .ogt (k0_pay6 r0 r1 r2 r3) (Named.named κ "dead" 0xC2DC0000#32 : F .f32)) = 1#1 at hl
    simp only [hl, ↓reduceIte, Prog.pure_eq_ret]
    simp only [bwalk]
    iintro ⟨H, Hk⟩
    rw [wp_ret]; imodintro
    iapply Hk
    iexact H
  | succ n ih =>
    rintro hn ⟨j, r0, r1, r2, r3, s0, s1, s2, s3, acc⟩ dk dv hs K
    rw [spec_apply]
    dsimp only at hs
    show _ ⊢ wp frame (wpE (defs₀ (F := F)) Variants.nat (c : Thread nD τ) (some (n + 1))) E
      (cc0_while1 i arg3 harg3 arg4 harg4 q g u w t0 t1 t2 t3 arg9 harg9 arg8 harg8 j r0 r1 r2 r3 s0 s1 s2 s3 acc) K
    rw [cc0_while1_eq_skeleton]; unfold cc0_while1_skel
    have hj : j = BitVec.ofNat 32 n := hs.trans (Tiles.next_block n (by omega))
    have hc : k0_chk1 j := by rw [hj]; exact chk_of_lt n (by omega)
    have ho : k0_off2 j = ![256 * n, 0] := by rw [hj]; exact off2_eq n (by omega)
    have hnext : Scalar.subi j 1#32 = Scalar.subi (BitVec.ofNat 32 n) 1#32 := by rw [hs]; exact Tiles.step_block n (by omega)
    by_cases hl : live (dead (F := F)) j r0 r1 r2 r3
    · rw [Tiles.bwalk_live hl]
      change Scalar.andi (Scalar.cmpi .sge j 0#32) (Scalar.cmpf .ogt (k0_pay6 r0 r1 r2 r3) (Named.named κ "dead" 0xC2DC0000#32 : F .f32)) = 1#1 at hl
      simp only [hl, ↓reduceIte]
      rw [k0_part10_eq_skeleton, k0_part11_eq_skeleton, k0_part12_eq_skeleton, k0_part13_eq_skeleton, k0_part14_eq_skeleton, k0_part15_eq_skeleton, k0_part16_eq_skeleton, k0_part17_eq_skeleton]
      unfold k0_part10_skel k0_part11_skel k0_part12_skel k0_part13_skel k0_part14_skel k0_part15_skel k0_part16_skel k0_part17_skel
      simp only [Prog.lift, Prog.bind_op, Prog.bind_ret, Prog.pure_eq_ret]
      unfold held
      iintro ⟨⟨H1, H2, H8, H9⟩, Hk⟩
      iapply (wp_assume Variants.nat (c : Thread nD τ) (some (n + 1)) E hc)
      iapply (Tiles.wp_load_rows Variants.nat (c : Thread nD τ) (some (n + 1)) E (m := arg3) n (by omega) ho) $$ H1; iintro H1
      iapply (Tiles.wp_load_rows Variants.nat (c : Thread nD τ) (some (n + 1)) E (m := arg4) n (by omega) ho) $$ H2; iintro H2
      iapply (Tiles.wp_load_rows Variants.nat (c : Thread nD τ) (some (n + 1)) E (m := arg9) n (by omega) ho) $$ H9; iintro H9
      iapply (Tiles.wp_load_rows Variants.nat (c : Thread nD τ) (some (n + 1)) E (m := arg9) n (by omega) ho) $$ H9; iintro H9
      iapply (Tiles.wp_store_rows Variants.nat (c : Thread nD τ) (some (n + 1)) E (m := arg9) n ho) $$ H9; iintro H9
      iapply (Tiles.wp_load_rows Variants.nat (c : Thread nD τ) (some (n + 1)) E (m := arg8) n (by omega) ho) $$ H8; iintro H8
      iapply (Tiles.wp_load_rows Variants.nat (c : Thread nD τ) (some (n + 1)) E (m := arg8) n (by omega) ho) $$ H8; iintro H8
      iapply (Tiles.wp_store_rows Variants.nat (c : Thread nD τ) (some (n + 1)) E (m := arg8) n ho) $$ H8; iintro H8
      iapply (wp_call_spec Variants.nat (c : Thread nD τ) (some (n + 1)) E
        (spec c arg3 arg4 arg8 arg9 x1 x2 q g u w t0 t1 t2 t3 n (bpass q g u w t0 t1 t2 t3 (rowsAt x1 n) (rowsAt x2 n) (j, r0, r1, r2, r3, s0, s1, s2, s3, acc))
          (addRows dk n (tn (bgrads q g u w t0 t1 t2 t3 (rowsAt x1 n) (rowsAt x2 n) (j, r0, r1, r2, r3, s0, s1, s2, s3, acc)) q))
          (addRows dv n (tn (wts u (nt q (rowsAt x1 n)) r0 r1 r2 r3) g))) n
        (fun u hu => by cases hu; exact Nat.lt_succ_self n) (ih (by omega) _ _ _ hnext))
      rw [spec_apply]; unfold held
      isplitl [H1 H2 H8 H9]
      · isplitl [H1]; · iexact H1
        isplitl [H2]; · iexact H2
        isplitl [H8]; · iexact H8
        iexact H9
      iintro H
      rw [wp_ret]; imodintro
      iapply Hk
      iexact H
    · rw [Tiles.bwalk_dead hl]
      change ¬Scalar.andi (Scalar.cmpi .sge j 0#32) (Scalar.cmpf .ogt (k0_pay6 r0 r1 r2 r3) (Named.named κ "dead" 0xC2DC0000#32 : F .f32)) = 1#1 at hl
      simp only [hl, ↓reduceIte, Prog.pure_eq_ret]
      iintro ⟨H, Hk⟩
      rw [wp_ret]; imodintro
      iapply Hk
      iexact H

end Label

/-! ## The body -/

/-- The arrays are reset at the first query block and only there. -/
theorem reset_iff : ∀ n : Fin 32, Scalar.cmpi .ne (Scalar.extui (Scalar.cmpi .eq (BitVec.ofNat 32 n.val) 0#32)) 0#32 = 1#1 ↔ n.val = 0 := by decide

section Body

variable (c : Dev nD) (i : grid0.Coords) (arg2 : Memref sig .tc .vmem S256x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S256x128 .f32) (harg5 : arg5.IsWhole)
  (arg6 : Memref sig .tc .vmem S256x128 .bf16) (harg6 : arg6.IsWhole)
  (arg7 : Memref sig .tc .vmem S256x128 .bf16) (harg7 : arg7.IsWhole)
  (arg8 : Memref sig .tc .vmem S8192x128 .f32) (harg8 : arg8.IsWhole)
  (arg9 : Memref sig .tc .vmem S8192x128 .f32) (harg9 : arg9.IsWhole)
  (x0 : FVec F S256x128 .bf16) (x1 x2 : FVec F S8192x128 .bf16) (x3 : FVec F S256x128 .f32) (x4 : FVec F S256x128 .bf16)
  (dk dv : FVec F S8192x128 .f32)

set_option maxHeartbeats 4000000 in
/-- Its first lines: the arrays are reset at the first query block, the queries are read. -/
theorem part1_run (E : Set ℕ) (K : _ → sProp 𝕄) :
    iprop(owns (c : Thread nD τ) arg2 fullShare x0 ∗ owns (c : Thread nD τ) arg8 fullShare dk ∗ owns (c : Thread nD τ) arg9 fullShare dv
        ∗ (iprop(owns (c : Thread nD τ) arg2 fullShare x0 ∗ owns (c : Thread nD τ) arg8 fullShare (if (i 1).val = 0 then Tiles.zeros else dk)
            ∗ owns (c : Thread nD τ) arg9 fullShare (if (i 1).val = 0 then Tiles.zeros else dv))
          -∗ K ⟨BitVec.ofNat 32 (i 1).val, k0_pay13, k0_pay14, k0_pay15, k0_pay16, k0_pay17, k0_pay18 x0, k0_pay19 x0, k0_pay20 x0, k0_pay21 x0⟩))
      ⊢ wp frame (wpE (defs₀ (F := F)) Variants.nat c none) E
          (k0_part1 i arg2 harg2 arg3 harg3 arg4 harg4 arg5 harg5 arg6 harg6 arg7 harg7 arg8 harg8 arg9 harg9) K := by
  rw [k0_part1_eq_skeleton]; unfold k0_part1_skel
  have hr := reset_iff ⟨(i 1).val, (i 1).isLt⟩
  dsimp only at hr
  by_cases hz : (i 1).val = 0
  · simp only [hr.mpr hz, ↓reduceDIte, if_pos hz, Prog.lift, Prog.bind_op, Prog.bind_ret, Prog.pure_eq_ret]
    iintro ⟨H2, H8, H9, Hk⟩
    iapply (Tiles.wp_load_all Variants.nat (c : Thread nD τ) none E (m := arg8)) $$ H8; iintro H8
    iapply (Tiles.wp_store_all Variants.nat (c : Thread nD τ) none E (m := arg8)) $$ H8; iintro H8
    iapply (Tiles.wp_load_all Variants.nat (c : Thread nD τ) none E (m := arg9)) $$ H9; iintro H9
    iapply (Tiles.wp_store_all Variants.nat (c : Thread nD τ) none E (m := arg9)) $$ H9; iintro H9
    iapply (Tiles.wp_load_all Variants.nat (c : Thread nD τ) none E (m := arg2)) $$ H2; iintro H2
    rw [wp_ret]; imodintro
    iapply Hk
    isplitl [H2]; · iexact H2
    isplitl [H8]; · iexact H8
    iexact H9
  · simp only [mt hr.mp hz, ↓reduceDIte, if_neg hz, Prog.lift, Prog.bind_op, Prog.bind_ret, Prog.pure_eq_ret]
    iintro ⟨H2, H8, H9, Hk⟩
    iapply (Tiles.wp_load_all Variants.nat (c : Thread nD τ) none E (m := arg2)) $$ H2; iintro H2
    rw [wp_ret]; imodintro
    iapply Hk
    isplitl [H2]; · iexact H2
    isplitl [H8]; · iexact H8
    iexact H9

set_option maxHeartbeats 4000000 in
/-- The body's run. -/
theorem body_run (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare dk ∗ owns (c : Thread nD τ) arg9 fullShare dv
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (back (bbody dead (i 1).val x0 x1 x2 x3 x4 dk dv).1.2.2.2.2.2.2.2.2.2)
            ∗ owns (c : Thread nD τ) arg8 fullShare (bbody dead (i 1).val x0 x1 x2 x3 x4 dk dv).2.1
            ∗ owns (c : Thread nD τ) arg9 fullShare (bbody dead (i 1).val x0 x1 x2 x3 x4 dk dv).2.2) -∗ K ⟨⟩))
      ⊢ wp frame (wpE (defs₀ (F := F)) Variants.nat c none) E
          (cc0_sb_bwd i arg2 harg2 arg3 harg3 arg4 harg4 arg5 harg5 arg6 harg6 arg7 harg7 arg8 harg8 arg9 harg9) K := by
  have ho := off1_eq i
  have hn : (i 1).val < 32 := (i 1).isLt
  rw [cc0_sb_bwd_eq_skeleton]; unfold cc0_sb_bwd_skel
  rw [wp_bind_eq]
  iintro ⟨H2, H3, H4, H5, H6, ⟨%d7, H7⟩, H8, H9, Hk⟩
  iapply (part1_run c i arg2 harg2 arg3 harg3 arg4 harg4 arg5 harg5 arg6 harg6 arg7 harg7 arg8 harg8 arg9 harg9 x0 dk dv E)
  isplitl [H2]; · iexact H2
  isplitl [H8]; · iexact H8
  isplitl [H9]; · iexact H9
  iintro ⟨H2, H8, H9⟩
  rw [k0_part2_eq_skeleton, k0_part3_eq_skeleton, k0_part4_eq_skeleton, k0_part5_eq_skeleton, k0_part6_eq_skeleton, k0_part7_eq_skeleton, k0_part8_eq_skeleton, k0_part9_eq_skeleton]
  unfold k0_part2_skel k0_part3_skel k0_part4_skel k0_part5_skel k0_part6_skel k0_part7_skel k0_part8_skel k0_part9_skel
  simp only [Prog.lift, Prog.bind_op, Prog.bind_ret, Prog.pure_eq_ret]
  iapply (Tiles.wp_load_all Variants.nat (c : Thread nD τ) none E (m := arg6)) $$ H6; iintro H6
  iapply (Tiles.wp_load_all Variants.nat (c : Thread nD τ) none E (m := arg5)) $$ H5; iintro H5
  iapply (Tiles.wp_load_rows Variants.nat (c : Thread nD τ) none E (m := arg3) _ hn ho) $$ H3; iintro H3
  iapply (Tiles.wp_load_rows Variants.nat (c : Thread nD τ) none E (m := arg4) _ hn ho) $$ H4; iintro H4
  iapply (Tiles.wp_load_rows Variants.nat (c : Thread nD τ) none E (m := arg9) _ hn ho) $$ H9; iintro H9
  iapply (Tiles.wp_load_rows Variants.nat (c : Thread nD τ) none E (m := arg9) _ hn ho) $$ H9; iintro H9
  iapply (Tiles.wp_store_rows Variants.nat (c : Thread nD τ) none E (m := arg9) _ ho) $$ H9; iintro H9
  iapply (Tiles.wp_load_rows Variants.nat (c : Thread nD τ) none E (m := arg8) _ hn ho) $$ H8; iintro H8
  iapply (Tiles.wp_load_rows Variants.nat (c : Thread nD τ) none E (m := arg8) _ hn ho) $$ H8; iintro H8
  iapply (Tiles.wp_store_rows Variants.nat (c : Thread nD τ) none E (m := arg8) _ ho) $$ H8; iintro H8
  iapply (wp_call_spec Variants.nat (c : Thread nD τ) none E
    (spec c arg3 arg4 arg8 arg9 x1 x2 (chains (scaled x0)) (chains (plain x4)) after2 from2 (tot0 x4 x3) (tot1 x4 x3) (tot2 x4 x3) (tot3 x4 x3) (i 1).val
      (bstart (Tiles.first (i 1).val) (chains (scaled x0)) (chains (plain x4)) after2 from2 (tot0 x4 x3) (tot1 x4 x3) (tot2 x4 x3) (tot3 x4 x3)
        (rowsAt x1 (i 1).val) (rowsAt x2 (i 1).val))
      (addRows (if (i 1).val = 0 then Tiles.zeros else dk) (i 1).val (tn (Tiles.dwtsOwn after2 from2 (nt (chains (scaled x0)) (rowsAt x1 (i 1).val))
        (nt (chains (plain x4)) (rowsAt x2 (i 1).val)) (tot0 x4 x3) (tot1 x4 x3) (tot2 x4 x3) (tot3 x4 x3)) (chains (scaled x0))))
      (addRows (if (i 1).val = 0 then Tiles.zeros else dv) (i 1).val (tn (Tiles.wtsOwn after2 (nt (chains (scaled x0)) (rowsAt x1 (i 1).val))) (chains (plain x4)))))
    (i 1).val (fun u hu => nomatch hu)
    (spec_le c i arg3 harg3 arg4 harg4 arg8 harg8 arg9 harg9 x1 x2 _ _ _ _ _ _ _ _ E (i 1).val hn.le _ _ _ (Tiles.first_eq ⟨(i 1).val, hn⟩)))
  rw [spec_apply]; unfold held
  isplitl [H3 H4 H8 H9]
  · isplitl [H3]; · iexact H3
    isplitl [H4]; · iexact H4
    isplitl [H8]; · iexact H8
    iexact H9
  iintro ⟨H3, H4, H8, H9⟩
  iapply (Tiles.wp_load_owns Variants.nat (c : Thread nD τ) none E (m := arg7) rfl inb_S256x128_S128x128_0_0) $$ H7; iintro H7
  iapply (Tiles.wp_store_owns Variants.nat (c : Thread nD τ) none E (m := arg7) rfl) $$ H7; iintro H7
  iapply (Tiles.wp_load_owns Variants.nat (c : Thread nD τ) none E (m := arg7) rfl inb_S256x128_S128x128_128_0) $$ H7; iintro H7
  iapply (Tiles.wp_store_owns Variants.nat (c : Thread nD τ) none E (m := arg7) rfl) $$ H7; iintro H7
  rw [wp_ret]; imodintro
  iapply Hk
  isplitl [H2]; · iexact H2
  isplitl [H3]; · iexact H3
  isplitl [H4]; · iexact H4
  isplitl [H5]; · iexact H5
  isplitl [H6]; · iexact H6
  isplitl [H7]
  · unfold back
    rw [← Tiles.put_halves d7]
    iexact H7
  isplitl [H8]; · iexact H8
  iexact H9

end Body

/-! ## The region -/

/-- The buffers as the region finds them: after the host lines before it. -/
abbrev V (c : Dev nD) (b : Ref sig .tc) : Buf (Elt F) ((c : Thread nD τ).loc b) :=
  StableHlo.after [hostOps0, hostOps0_1, hostOps0_2, hostOps0_3, hostOps0_4, hostOps0_5, hostOps0_6, hostOps0_7, hostOps0_8, hostOps0_9, hostOps0_10, hostOps0_11, hostOps0_12, hostOps0_13].flatten (fun b => m (c, b)) b

/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
    (by simp only [List.Forall]; repeat' constructor) main_chain

/-- An operation that writes another buffer leaves this one. -/
theorem not_written {b r : Ref sig .tc} {op : HloOp τ sig (Elt F)} (e : op.writes = {Proc.devRef .tc r}) (h : b ≠ r) : Proc.devRef .tc b ∉ op.writes := by
  rw [e, Finset.mem_singleton]
  exact StableHlo.devRef_ne_of_ne h

set_option maxHeartbeats 4000000 in
/-- The host lines write none of the arguments. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    rcases hb with rfl | rfl | rfl | rfl <;>
    · simp only [List.flatten_cons, List.flatten_nil, List.append_nil, List.cons_append, List.nil_append, List.Forall]
      repeat' apply And.intro
      all_goals exact not_written rfl (by decide)))

/-- A window's block at a point, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The query block of a point. -/
theorem coord1 (t : Fin (cfg0 (F := F)).N) : (grid0.coords t 1).val = t.val % 32 := by
  have : ∀ t : Fin grid0.N, (grid0.coords t 1).val = t.val % 32 := by decide +kernel
  exact this t

/-- What a point's body leaves, its arrays being `d`. -/
def bodyOut (c : Dev nD) (t : Fin (cfg0 (F := F)).N) (d : FVec F S8192x128 .f32 × FVec F S8192x128 .f32) :
    Bt F × FVec F S8192x128 .f32 × FVec F S8192x128 .f32 :=
  bbody dead (grid0.coords t 1).val (iblk m c 0 t) (iblk m c 1 t) (iblk m c 2 t) (iblk m c 3 t) (iblk m c 4 t) d.1 d.2

/-- The keys' and values' gradients after the first `n` points. -/
def sums (c : Dev nD) : ℕ → FVec F S8192x128 .f32 × FVec F S8192x128 .f32
  | 0 => (Tiles.zeros, Tiles.zeros)
  | n + 1 => if h : n < (cfg0 (F := F)).N then (bodyOut m c ⟨n, h⟩ (sums c n)).2 else sums c n

/-- The same point by point. -/
def outAt (c : Dev nD) (t : Fin (cfg0 (F := F)).N) : Bt F × FVec F S8192x128 .f32 × FVec F S8192x128 .f32 := bodyOut m c t (sums m c t.val)

theorem sums_succ (c : Dev nD) (t : Fin (cfg0 (F := F)).N) : sums m c (t.val + 1) = (outAt m c t).2 := by
  rw [sums, dif_pos t.isLt]; rfl

/-- At the first query block the arrays before it do not matter. -/
theorem bodyOut_reset (c : Dev nD) (t : Fin (cfg0 (F := F)).N) (h : t.val % 32 = 0) (d e : FVec F S8192x128 .f32 × FVec F S8192x128 .f32) :
    bodyOut m c t d = bodyOut m c t e := by
  unfold bodyOut bbody
  rw [coord1, if_pos h, if_pos h, if_pos h, if_pos h]

/-- The proof data: the inputs stay, the results' blocks are the body's. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => back (outAt m c t).1.2.2.2.2.2.2.2.2.2
    | ⟨6, _⟩ => (outAt m c t).2.1
    | ⟨7, _⟩ => (outAt m c t).2.2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by rfl
theorem after1 (c : Dev nD) (t : Fin (cfg0 (F := F)).N) : (dats m 0 c).after 1 t = iblk m c 1 t := by rfl
theorem after2 (c : Dev nD) (t : Fin (cfg0 (F := F)).N) : (dats m 0 c).after 2 t = iblk m c 2 t := by rfl
theorem after3 (c : Dev nD) (t : Fin (cfg0 (F := F)).N) : (dats m 0 c).after 3 t = iblk m c 3 t := by rfl
theorem after4 (c : Dev nD) (t : Fin (cfg0 (F := F)).N) : (dats m 0 c).after 4 t = iblk m c 4 t := by rfl
theorem after5 (c : Dev nD) (t : Fin (cfg0 (F := F)).N) : (dats m 0 c).after 5 t = back (outAt m c t).1.2.2.2.2.2.2.2.2.2 := by rfl
theorem after6 (c : Dev nD) (t : Fin (cfg0 (F := F)).N) : (dats m 0 c).after 6 t = (outAt m c t).2.1 := by rfl
theorem after7 (c : Dev nD) (t : Fin (cfg0 (F := F)).N) : (dats m 0 c).after 7 t = (outAt m c t).2.2 := by rfl

/-- An input's staging buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; rfl) t d).trans rfl
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; rfl) t d).trans rfl
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; rfl) t d).trans rfl
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; rfl) t d).trans rfl
theorem before4 (c : Dev nD) (t : Fin (cfg0 (F := F)).N) (d) : (dats m 0 c).before 4 t d = iblk m c 4 t :=
  ((dats m 0 c).before_in_eq_fetched 4 rfl (fun _ => rfl) (fun _ _ _ => rfl) (fun t => by rw [after4]; rfl) t d).trans rfl

/-- The gradients' staging buffers hold what the point before left, except at the first query block. -/
theorem kept (c : Dev nD) (t : Fin (cfg0 (F := F)).N) (h : t.val % 32 ≠ 0) (d6 d7) :
    (dats m 0 c).before 6 t d6 = (sums m c t.val).1 ∧ (dats m 0 c).before 7 t d7 = (sums m c t.val).2 := by
  have ht : t.val ≠ 0 := by omega
  have hp : t.val - 1 < (cfg0 (F := F)).N := by have := t.isLt; omega
  have e : sums m c t.val = (outAt m c ⟨t.val - 1, hp⟩).2 := by
    rw [← sums_succ]
    exact congrArg (sums m c) (by show t.val = t.val - 1 + 1; omega)
  rw [e, (dats m 0 c).before_out_kept 6 rfl t ht (Bool.eq_false_iff.mpr (mt (flush0_6 _).mp (by show ¬(t.val - 1) % 32 = 31; omega))) (fun _ => rfl) (fun _ _ => rfl),
    (dats m 0 c).before_out_kept 7 rfl t ht (Bool.eq_false_iff.mpr (mt (flush0_7 _).mp (by show ¬(t.val - 1) % 32 = 31; omega))) (fun _ => rfl) (fun _ _ => rfl),
    after6, after7]
  exact ⟨rfl, rfl⟩

/-- Whatever the staging buffers hold before, a point leaves the sums so far. -/
theorem outAt_before (c : Dev nD) (t : Fin (cfg0 (F := F)).N) (d6 d7) :
    bodyOut m c t ((dats m 0 c).before 6 t d6, (dats m 0 c).before 7 t d7) = outAt m c t := by
  by_cases h : t.val % 32 = 0
  · exact bodyOut_reset m c t h _ _
  · unfold outAt bodyOut
    exact congrArg₂ (bbody dead _ _ _ _ _ _) (kept m c t h d6 d7).1 (kept m c t h d6 d7).2

/-- What the body is called with, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2, before3, before4, after0, after1, after2, after3, after4, after5, after6, after7]
  rw [show (dats m 0 c).owesAt () t.succ = (dats m 0 c).owesAt () t.castSucc from rfl]
  rw [show (dats m 0 c).Φ t.succ = (dats m 0 c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← outAt_before m c t d6 d7]
  iapply (body_run c (grid0.coords t) _ _ _ _ _ _ _ _ _ _ _ _ _ _ _ _ (iblk m c 0 t) (iblk m c 1 t) (iblk m c 2 t) (iblk m c 3 t) (iblk m c 4 t)
    ((dats m 0 c).before 6 t d6) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro H
  isplitl [HΦ]; · iexact HΦ
  isplitl [Ho]; · iexact Ho
  iexact H

theorem body_obligation (c : Dev nD) : BodyObligation (dats (F := F) m 0 c) (defs₀ (F := F)) Variants.nat () Set.univ := fun t => by
  rw [bigSep_W0, bigSep_W0]
  exact sound_body m c t

set_option backward.isDefEq.respectTransparency.types false in
/-- The run: it terminates, the arrays end at what the proof data give, the counters at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of (win := spec0) main_arg0 (by decide) (by decide))).trans (V_arg m c _ (by simp)),
     ((h.1 c).2 main_arg1 (Pipeline.mem_restRefs_of (win := spec0) main_arg1 (by decide) (by decide))).trans (V_arg m c _ (by simp)),
     ((h.1 c).2 main_arg2 (Pipeline.mem_restRefs_of (win := spec0) main_arg2 (by decide) (by decide))).trans (V_arg m c _ (by simp)),
     ((h.1 c).2 main_arg3 (Pipeline.mem_restRefs_of (win := spec0) main_arg3 (by decide) (by decide))).trans (V_arg m c _ (by simp))⟩, h.2⟩) (run_main m ρ)

end Cert.StickIdeal.Hand

end
-- ==== Proof.Lift.lean ====
/- The tiles of the stick-breaking attention over the reals: what the kernel's operations on a tile
   of real entries come to. -/
module

public import proofs.«01_k».proof.Proof.Rows
public import Idealize.ShloMosaic.Lib.Pointwise
public import Idealize.ShloMosaic.Lib.WordCmp

@[expose] public section

set_option maxRecDepth 16384

noncomputable section

namespace Cert.Tiles

open Cert.StickIdeal Cert.StickIdeal.Gen
open Idealize.ShloMosaic Idealize.ShloMosaic.WordCmp

/-! ## Sums of reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over the first `n` indices whose terms are known is the real sum. -/
theorem sum_fin {n : ℕ} (x : Fin n → EReal) (f : ℕ → ℝ) (h : ∀ k : Fin n, x k = ((f k.val : ℝ) : EReal)) :
    ∑ k, x k = ((∑ k ∈ Finset.range n, f k : ℝ) : EReal) := by
  rw [← Fin.sum_univ_eq_sum_range, ← coe_sum]
  exact Finset.sum_congr rfl fun k _ => h k

/-- An array of reals. -/
def Is {a b : ℕ} (x : (⟨2, ![a, b]⟩ : Shape).Idx → EReal) (f : ℕ → ℕ → ℝ) : Prop :=
  ∀ (i : Fin a) (j : Fin b), x (ix2 i j) = ((f i.val j.val : ℝ) : EReal)

theorem Is.congr {a b : ℕ} {x : (⟨2, ![a, b]⟩ : Shape).Idx → EReal} {f g : ℕ → ℕ → ℝ} (h : Is x f)
    (e : ∀ i < a, ∀ j < b, f i j = g i j) : Is x g :=
  fun i j => (h i j).trans (by rw [e _ i.isLt _ j.isLt])

theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-! ## The functions of a row of scores -/

/-- The softplus. -/
def sp (x : ℝ) : ℝ := max x 0 + Real.log (1 + Real.exp (-|x|))

/-- Minus the softplus summed over the keys from `K` up to the query `i`. -/
def R (z : ℕ → ℝ) (i K : ℕ) : ℝ := -∑ k ∈ Finset.Ico K i, sp (z k)

/-- The weight of key `k`. -/
def A (z : ℕ → ℝ) (i k : ℕ) : ℝ := if k < i then Real.exp (z k - sp (z k) + R z i (k + 1)) else 0

/-- What the keys from `K` on carry of `a · d`. -/
def Sn (z d : ℕ → ℝ) (i K : ℕ) : ℝ := ∑ k ∈ Finset.Ico K i, A z i k * d k

/-- The gradient of the score of key `k`, the row's total being `t`. -/
def C (z d : ℕ → ℝ) (t : ℝ) (i k : ℕ) : ℝ :=
  if k < i then A z i k * d k * Real.exp (-sp (z k)) - (t - Sn z d i k) * Real.exp (z k - sp (z k)) else 0

theorem A_late (z : ℕ → ℝ) {i k : ℕ} (h : i ≤ k) : A z i k = 0 := if_neg (by omega)
theorem C_late (z d : ℕ → ℝ) (t : ℝ) {i k : ℕ} (h : i ≤ k) : C z d t i k = 0 := if_neg (by omega)
theorem R_late (z : ℕ → ℝ) {i K : ℕ} (h : i ≤ K) : R z i K = 0 := by rw [R, Finset.Ico_eq_empty (by omega), Finset.sum_empty, neg_zero]
theorem Sn_late (z d : ℕ → ℝ) {i K : ℕ} (h : i ≤ K) : Sn z d i K = 0 := by rw [Sn, Finset.Ico_eq_empty (by omega), Finset.sum_empty]

/-- A sum up to `i` taken apart at the end of a tile. -/
theorem sum_tile (g : ℕ → ℝ) (i K j n : ℕ) (h : j ≤ n) :
    ∑ k ∈ Finset.Ico (K + j) i, g k = (∑ k ∈ Finset.range n, if j ≤ k then (if K + k < i then g (K + k) else 0) else 0) + ∑ k ∈ Finset.Ico (K + n) i, g k := by
  induction n, h using Nat.le_induction with
  | base =>
    rw [Finset.sum_eq_zero (fun k hk => if_neg (by rw [Finset.mem_range] at hk; omega)), zero_add]
  | succ n hn ih =>
    rw [ih, Finset.sum_range_succ, if_pos hn, add_assoc]
    congr 1
    by_cases h : K + n < i
    · rw [if_pos h, Finset.sum_eq_sum_Ico_succ_bot h]; rfl
    · rw [if_neg h, Finset.Ico_eq_empty (by omega), Finset.Ico_eq_empty (by omega), zero_add]

/-! ## The operations -/

theorem exp_is (r : ℝ) : Ideal.exp (r : EReal) = ((Real.exp r : ℝ) : EReal) := rfl

theorem softplus_real (r : ℝ) : max (r : EReal) 0 + Ideal.log (1 + Ideal.exp (0 - max (r : EReal) (-(r : EReal)))) = ((sp r : ℝ) : EReal) := by
  have hp : (0 : ℝ) < 1 + Real.exp (-|r|) := by positivity
  rw [← EReal.coe_neg, coe_max', ← EReal.coe_zero, coe_max', ← EReal.coe_sub, exp_is, zero_sub, ← EReal.coe_one, ← EReal.coe_add,
    show max r (-r) = |r| from rfl, Ideal.log_coe, if_neg (not_le.mpr hp), ← EReal.coe_add]
  rfl

theorem softplus_is {z : T Ideal} {f : ℕ → ℕ → ℝ} (h : Is (a := 128) (b := 128) z f) : Is (a := 128) (b := 128) (softplus z) (fun i j => sp (f i j)) := fun i j => by
  pointwise [softplus, zero]
  rw [h i j]
  exact softplus_real _

/-- A tile times a triangle: the split in two words leaves nothing in the second. -/
theorem suffix_is {u : FVec Ideal S256x256 .bf16} {t : ℕ → ℕ → ℝ} {x : T Ideal} {f : ℕ → ℕ → ℝ} (hu : Is (a := 256) (b := 256) u t)
    (h : Is (a := 128) (b := 128) x f) : Is (a := 128) (b := 256) (suffix u x) (fun i c => ∑ k ∈ Finset.range 128, f i k * t k c) := fun i c => by
  pointwise [suffix]
  rw [Finset.sum_eq_zero (s := Finset.univ) (f := fun k : Fin 128 => (x (ix2 i k) - x (ix2 i k)) * _) (fun k _ => by
    rw [h i k, ← EReal.coe_sub, sub_self, EReal.coe_zero, zero_mul]), add_zero]
  refine sum_fin _ (fun k => f i.val k * t k c.val) fun k => ?_
  rw [h i k, hu, ← EReal.coe_mul]

theorem lo_is {x : FVec Ideal S128x256 .f32} {f : ℕ → ℕ → ℝ} (h : Is (a := 128) (b := 256) x f) : Is (a := 128) (b := 128) (lo x) f := fun i j => by
  pointwise [lo]
  exact h _ _
theorem hi_is {x : FVec Ideal S128x256 .f32} {f : ℕ → ℕ → ℝ} (h : Is (a := 128) (b := 256) x f) : Is (a := 128) (b := 128) (hi x) (fun i j => f i (128 + j)) := fun i j => by
  pointwise [hi]
  exact h _ _

theorem bit_ite (p : Prop) [Decidable p] : BitVec.ofBool (decide p) = if p then 1#1 else 0#1 := by
  by_cases h : p <;> simp [h]
theorem and127 : ∀ r : Fin 256, IntOp.andi (BitVec.ofNat 32 r.val) 127#32 = BitVec.ofNat 32 (r.val % 128) := by decide +kernel

/-- The comparisons of a triangle's row and column, and of a diagonal tile's. -/
theorem after_word (r c : Fin 256) : IntOp.ori (IntOp.cmpi CmpIPredicate.sge (BitVec.ofNat 32 c.val) 128#32)
    (IntOp.cmpi CmpIPredicate.sgt (IntOp.andi (BitVec.ofNat 32 r.val) 127#32) (BitVec.ofNat 32 c.val)) = if 128 ≤ c.val ∨ c.val < r.val % 128 then 1#1 else 0#1 := by
  have hr := r.isLt
  have hc := c.isLt
  rw [and127, cmpi_sge_ofNat (by omega) (by omega), cmpi_sgt_ofNat (by omega) (by omega), ori_ofBool, ← Bool.decide_or, bit_ite]
theorem from_word (r c : Fin 256) : IntOp.ori (IntOp.cmpi CmpIPredicate.sge (BitVec.ofNat 32 c.val) 128#32)
    (IntOp.cmpi CmpIPredicate.sge (IntOp.andi (BitVec.ofNat 32 r.val) 127#32) (BitVec.ofNat 32 c.val)) = if 128 ≤ c.val ∨ c.val ≤ r.val % 128 then 1#1 else 0#1 := by
  have hr := r.isLt
  have hc := c.isLt
  rw [and127, cmpi_sge_ofNat (by omega) (by omega), cmpi_sge_ofNat (by omega) (by omega), ori_ofBool, ← Bool.decide_or, bit_ite]
theorem early_word (r c : Fin 128) : IntOp.cmpi CmpIPredicate.slt (IntOp.subi (BitVec.ofNat 32 c.val) (BitVec.ofNat 32 r.val)) 0#32 = if c.val < r.val then 1#1 else 0#1 := by
  have hr := r.isLt
  have hc := c.isLt
  rw [cmpi_slt_eq, bit_ite]
  congr 1
  rw [IntOp.subi, BitVec.toInt_sub, toInt_ofNat_of_lt (by omega), toInt_ofNat_of_lt (by omega), Int.bmod_eq_of_le (by omega) (by omega), show (0#32).toInt = 0 from rfl]
  exact propext ⟨fun h => by omega, fun h => by omega⟩
theorem head0_word : ∀ (c : Fin 128), IntOp.cmpi CmpIPredicate.slt (BitVec.ofNat 32 c.val) 64#32 = if c.val < 64 then 1#1 else 0#1 := by decide +kernel
theorem head1_word : ∀ (c : Fin 128), IntOp.cmpi CmpIPredicate.sge (BitVec.ofNat 32 c.val) 64#32 = if 64 ≤ c.val then 1#1 else 0#1 := by decide +kernel

theorem minus_one : Ideal.ofBits .f32 3212836864#32 = ((-1 : ℝ) : EReal) := by
  simp [Ideal.ofBits, Ideal.ieee, -EReal.coe_mul]; norm_num
theorem eighth : Ideal.ofBits .f32 1040187392#32 = ((1 / 8 : ℝ) : EReal) := by
  simp [Ideal.ofBits, Ideal.ieee, -EReal.coe_mul]; norm_num

/-- A choice between a real and zero. -/
theorem select_real {p : Prop} [Decidable p] (x : EReal) (r : ℝ) (h : p → x = ((r : ℝ) : EReal)) :
    Scalar.select (if p then 1#1 else 0#1) x (0 : EReal) = (((if p then r else 0 : ℝ)) : EReal) := by
  by_cases hp : p
  · simp only [if_pos hp]; exact h hp
  · simp only [if_neg hp]; rfl

theorem after2_is : Is (a := 256) (b := 256) (after2 (F := Ideal)) (fun k c => if 128 ≤ c ∨ c < k % 128 then -1 else 0) := fun i j => by
  pointwise [after2, triangle]
  rw [after_word]
  exact select_real _ _ fun _ => minus_one
theorem from2_is : Is (a := 256) (b := 256) (from2 (F := Ideal)) (fun k c => if 128 ≤ c ∨ c ≤ k % 128 then 1 else 0) := fun i j => by
  pointwise [from2, triangle]
  rw [from_word]
  exact select_real _ _ fun _ => rfl

/-- What a mask keeps of a tile of keys from `K` on, `q` its queries: the keys before the query. -/
def Keeps (keep : T Ideal → T Ideal) (K : ℕ) (q : ℕ → ℕ) : Prop := ∀ (x : T Ideal) (f : ℕ → ℕ → ℝ), Is (a := 128) (b := 128) x f →
  Is (a := 128) (b := 128) (keep x) (fun i j => if K + j < q i then f i j else 0)

theorem keeps_id {K : ℕ} {q : ℕ → ℕ} (h : ∀ p < 128, K + 128 ≤ q p) : Keeps id K q := fun _ _ hx => hx.congr fun i hi j hj => by rw [if_pos (by have := h i hi; omega)]
theorem keeps_early {K : ℕ} {q : ℕ → ℕ} (h : ∀ p < 128, q p = K + p) : Keeps (only early) K q := fun x f hx i j => by
  pointwise [only, early, zero]
  rw [early_word, select_real _ _ fun _ => hx i j]
  simp only [h _ i.isLt, Nat.add_lt_add_iff_left]

theorem zero_is : Is (a := 128) (b := 128) (zero (F := Ideal)) (fun _ _ => 0) := fun i j => by
  pointwise [zero]; rfl

section Tile

variable {keep : T Ideal → T Ideal} {K : ℕ} {q : ℕ → ℕ} {z d : ℕ → ℕ → ℝ} {zt run : T Ideal}

/-- A sum over a tile's keys after key `j`, the mask applied, with the later ones. -/
theorem run_step (hk : Keeps keep K q) (hz : Is (a := 128) (b := 128) zt (fun p j => z p (K + j)))
    (hr : Is (a := 128) (b := 128) run (fun p _ => R (z p) (q p) (K + 128))) :
    Is (a := 128) (b := 128) (next after2 keep zt run) (fun p _ => R (z p) (q p) K) := fun p j => by
  have hs := hi_is (suffix_is after2_is (hk _ _ (softplus_is hz)))
  unfold next
  pointwise
  rw [hr, hs, ← EReal.coe_add]
  congr 1
  unfold R
  have e := sum_tile (fun k => sp (z p k)) (q p) K 0 128 (by omega)
  rw [add_zero] at e
  rw [e, neg_add, add_comm, ← Finset.sum_neg_distrib]
  congr 1
  refine Finset.sum_congr rfl fun k _ => ?_
  rw [if_pos (Or.inl (by omega)), if_pos (Nat.zero_le k), mul_neg_one]

theorem weight_is (hk : Keeps keep K q) (hz : Is (a := 128) (b := 128) zt (fun p j => z p (K + j)))
    (hr : Is (a := 128) (b := 128) run (fun p _ => R (z p) (q p) (K + 128))) :
    Is (a := 128) (b := 128) (weight after2 keep zt run) (fun p j => A (z p) (q p) (K + j)) := by
  have hl := lo_is (suffix_is after2_is (hk _ _ (softplus_is hz)))
  have hs := softplus_is hz
  have : Is (a := 128) (b := 128) (exp (addf (addf (subf zt (softplus zt)) (lo (suffix after2 (keep (softplus zt))))) run))
      (fun p j => Real.exp (z p (K + j) - sp (z p (K + j)) + R (z p) (q p) (K + j + 1))) := fun p j => by
    pointwise
    rw [hr, hl, hs, hz, ← EReal.coe_sub, ← EReal.coe_add, ← EReal.coe_add, exp_is]
    congr 2
    rw [add_assoc]
    congr 1
    unfold R
    have hj := j.isLt
    rw [add_assoc K j.val 1, sum_tile (fun k => sp (z p k)) (q p) K (j.val + 1) 128 (by omega), neg_add, ← Finset.sum_neg_distrib]
    congr 1
    refine Finset.sum_congr rfl fun k hk => ?_
    rw [Finset.mem_range] at hk
    by_cases h : j.val + 1 ≤ k
    · rw [if_pos (Or.inr (by omega)), if_pos h, mul_neg_one]
    · rw [if_neg (c := 128 ≤ j.val ∨ j.val < k % 128) (by omega), if_neg h, mul_zero, neg_zero]
  have := hk _ _ this
  unfold weight
  intro p j
  pointwise
  rw [this p j]
  rfl

/-- The weights' logarithms' gradient of a tile, and its sums. -/
theorem grad_is {a : FVec Ideal S128x128 .bf16} {dt : T Ideal} (ha : Is (a := 128) (b := 128) a (fun p j => A (z p) (q p) (K + j)))
    (hd : Is (a := 128) (b := 128) dt (fun p j => d p (K + j))) :
    Is (a := 128) (b := 128) (grad a dt) (fun p j => A (z p) (q p) (K + j) * d p (K + j)) := fun p j => by
  pointwise [grad]
  rw [ha p j, hd p j, ← EReal.coe_mul]

theorem seen_step {dl seen : T Ideal} (hd : Is (a := 128) (b := 128) dl (fun p j => A (z p) (q p) (K + j) * d p (K + j)))
    (hs : Is (a := 128) (b := 128) seen (fun p _ => Sn (z p) (d p) (q p) (K + 128))) :
    Is (a := 128) (b := 128) (seenNext from2 dl seen) (fun p _ => Sn (z p) (d p) (q p) K) := fun p j => by
  have hh := hi_is (suffix_is from2_is hd)
  unfold seenNext
  pointwise
  rw [hs, hh, ← EReal.coe_add]
  congr 1
  unfold Sn
  have e := sum_tile (fun k => A (z p) (q p) k * d p k) (q p) K 0 128 (by omega)
  rw [add_zero] at e
  rw [e, add_comm]
  congr 1
  refine Finset.sum_congr rfl fun k _ => ?_
  rw [if_pos (Or.inl (by omega)), if_pos (Nat.zero_le k), mul_one]
  by_cases h : K + k < q p
  · rw [if_pos h]
  · rw [if_neg h, A_late _ (by omega), zero_mul]

theorem dscore_is {dl seen tot : T Ideal} {t : ℕ → ℝ} (hk : Keeps keep K q) (hz : Is (a := 128) (b := 128) zt (fun p j => z p (K + j)))
    (hd : Is (a := 128) (b := 128) dl (fun p j => A (z p) (q p) (K + j) * d p (K + j)))
    (hs : Is (a := 128) (b := 128) seen (fun p _ => Sn (z p) (d p) (q p) (K + 128))) (ht : Is (a := 128) (b := 128) tot (fun p _ => t p)) :
    Is (a := 128) (b := 128) (dscore from2 keep zt tot dl seen) (fun p j => C (z p) (d p) (t p) (q p) (K + j)) := by
  have hl := lo_is (suffix_is from2_is hd)
  have hsp := softplus_is hz
  have hks := hk _ _ hsp
  have h1 : Is (a := 128) (b := 128) (subf tot (addf (lo (suffix from2 dl)) seen)) (fun p j => t p - Sn (z p) (d p) (q p) (K + j)) := fun p j => by
    pointwise
    rw [ht, hl, hs, ← EReal.coe_add, ← EReal.coe_sub]
    congr 2
    unfold Sn
    have hj := j.isLt
    rw [sum_tile (fun k => A (z p) (q p) k * d p k) (q p) K j.val 128 (by omega)]
    congr 1
    refine Finset.sum_congr rfl fun k hk => ?_
    rw [Finset.mem_range] at hk
    by_cases h : j.val ≤ k
    · rw [if_pos (Or.inr (by omega)), if_pos h, mul_one]
      by_cases h : K + k < q p
      · rw [if_pos h]
      · rw [if_neg h, A_late _ (by omega), zero_mul]
    · rw [if_neg (c := 128 ≤ j.val ∨ j.val ≤ k % 128) (by omega), if_neg h, mul_zero]
  have h2 := hk _ _ h1
  intro p j
  unfold dscore
  pointwise [zero]
  rw [hd, hks, h2, hsp, hz, ← EReal.coe_zero, ← EReal.coe_sub, ← EReal.coe_sub, exp_is, exp_is, ← EReal.coe_mul, ← EReal.coe_mul, ← EReal.coe_sub]
  congr 1
  unfold C
  by_cases h : K + j.val < q p.val
  · simp only [if_pos h, zero_sub]
  · simp only [if_neg h, A_late _ (not_lt.mp h), zero_mul, sub_zero]

end Tile

end Cert.Tiles

end
-- ==== Proof.Passes.lean ====
/- The passes of the two walks over the reals: what a walk over the key blocks comes to. -/
module

public import proofs.«01_k».proof.Proof.Lift

@[expose] public section

set_option maxRecDepth 16384

noncomputable section

namespace Cert.Tiles

open Cert.StickIdeal Cert.StickIdeal.Gen
open Idealize.ShloMosaic Idealize.ShloMosaic.WordCmp

abbrev IsT (x : FVec Ideal S128x128 .f32) (f : ℕ → ℕ → ℝ) : Prop := Is (a := 128) (b := 128) x f
abbrev IsP (x : FVec Ideal S128x256 .bf16) (f : ℕ → ℕ → ℝ) : Prop := Is (a := 128) (b := 256) x f
abbrev IsB {φ : FTy} (x : FVec Ideal S512x256 φ) (f : ℕ → ℕ → ℝ) : Prop := Is (a := 512) (b := 256) x f
abbrev IsC {φ : FTy} (x : FVec Ideal S512x128 φ) (f : ℕ → ℕ → ℝ) : Prop := Is (a := 512) (b := 128) x f
abbrev IsR {φ : FTy} (x : FVec Ideal S256x128 φ) (f : ℕ → ℕ → ℝ) : Prop := Is (a := 256) (b := 128) x f
abbrev IsK {φ : FTy} (x : FVec Ideal S8192x128 φ) (f : ℕ → ℕ → ℝ) : Prop := Is (a := 8192) (b := 128) x f

/-! ## Tiles and blocks -/

theorem join_is {l r : FVec Ideal S128x128 .bf16} {g : ℕ → ℕ → ℝ} (hl : Is (a := 128) (b := 128) l g)
    (hr : Is (a := 128) (b := 128) r (fun p j => g p (128 + j))) : IsP (join l r) g := fun i j => by
  pointwise [join]
  split
  · exact hl _ _
  · rename_i h
    refine (hr _ _).trans (congrArg (fun n => ((g i.val n : ℝ) : EReal)) ?_)
    show 128 + (j.val - 128) = j.val
    have := j.isLt
    omega

theorem stack_is {a b c d : FVec Ideal S128x256 .bf16} {g : ℕ → ℕ → ℝ} (ha : IsP a g) (hb : IsP b (fun p j => g (128 + p) j))
    (hc : IsP c (fun p j => g (256 + p) j)) (hd : IsP d (fun p j => g (384 + p) j)) : IsB (stack a b c d) g := fun i j => by
  have hi := i.isLt
  pointwise [stack]
  split
  · exact ha _ _
  split
  · refine (hb _ _).trans (congrArg (fun n => ((g n j.val : ℝ) : EReal)) ?_)
    show 128 + (i.val - 128) = i.val
    omega
  split
  · refine (hc _ _).trans (congrArg (fun n => ((g n j.val : ℝ) : EReal)) ?_)
    show 256 + (i.val - 128 - 128) = i.val
    omega
  · refine (hd _ _).trans (congrArg (fun n => ((g n j.val : ℝ) : EReal)) ?_)
    show 384 + (i.val - 128 - 128 - 128) = i.val
    omega

theorem none16_is : Is (a := 128) (b := 128) (none16 (F := Ideal)) (fun _ _ => 0) := fun i j => by
  pointwise [none16]; rfl

section Slices

variable {z : FVec Ideal S512x256 .f32} {s : ℕ → ℕ → ℝ} (h : IsB z s)
include h

theorem z00_is : IsT (z00 z) s := fun i j => by pointwise [z00]; exact h _ _
theorem z01_is : IsT (z01 z) (fun p j => s p (128 + j)) := fun i j => by pointwise [z01]; exact h _ _
theorem z10_is : IsT (z10 z) (fun p j => s (128 + p) j) := fun i j => by pointwise [z10]; exact h _ _
theorem z11_is : IsT (z11 z) (fun p j => s (128 + p) (128 + j)) := fun i j => by pointwise [z11]; exact h _ _
theorem z20_is : IsT (z20 z) (fun p j => s (256 + p) j) := fun i j => by pointwise [z20]; exact h _ _
theorem z21_is : IsT (z21 z) (fun p j => s (256 + p) (128 + j)) := fun i j => by pointwise [z21]; exact h _ _
theorem z30_is : IsT (z30 z) (fun p j => s (384 + p) j) := fun i j => by pointwise [z30]; exact h _ _
theorem z31_is : IsT (z31 z) (fun p j => s (384 + p) (128 + j)) := fun i j => by pointwise [z31]; exact h _ _

end Slices

/-- The products. -/
theorem nt_is {q : FVec Ideal S512x128 .bf16} {k : FVec Ideal S256x128 .bf16} {f g : ℕ → ℕ → ℝ} (hq : IsC q f) (hk : IsR k g) :
    IsB (nt q k) (fun r c => ∑ d ∈ Finset.range 128, f r d * g c d) := fun i j => by
  pointwise [nt]
  refine sum_fin _ (fun d => f i.val d * g j.val d) fun d => ?_
  rw [hq, hk, ← EReal.coe_mul]

theorem nn_is {a : FVec Ideal S512x256 .bf16} {v : FVec Ideal S256x128 .bf16} {f g : ℕ → ℕ → ℝ} (ha : IsB a f) (hv : IsR v g) :
    IsC (nn a v) (fun r d => ∑ c ∈ Finset.range 256, f r c * g c d) := fun i j => by
  pointwise [nn]
  refine sum_fin _ (fun c => f i.val c * g c j.val) fun d => ?_
  rw [ha, hv, ← EReal.coe_mul]

theorem tn_is {a : FVec Ideal S512x256 .bf16} {x : FVec Ideal S512x128 .bf16} {f g : ℕ → ℕ → ℝ} (ha : IsB a f) (hx : IsC x g) :
    IsR (tn a x) (fun c d => ∑ r ∈ Finset.range 512, f r c * g r d) := fun i j => by
  pointwise [tn]
  refine sum_fin _ (fun r => f r i.val * g r j.val) fun d => ?_
  rw [ha, hx, ← EReal.coe_mul]

theorem rowsAt_is {φ : FTy} {x : FVec Ideal S8192x128 φ} {f : ℕ → ℕ → ℝ} (h : IsK x f) {n : ℕ} (hn : n < 32) :
    IsR (rowsAt x n) (fun c d => f (256 * n + c) d) := fun i j => by
  have hi := i.isLt
  unfold rowsAt
  refine (congrArg x (?_ : _ = ix2 (⟨256 * n + i.val, by omega⟩ : Fin 8192) j)).trans (h _ _)
  funext a
  match a with
  | 0 => exact Fin.ext (Nat.mod_eq_of_lt (show 256 * n + i.val < 8192 by omega))
  | 1 => rfl

theorem addRows_is {x : FVec Ideal S8192x128 .f32} {d : FVec Ideal S256x128 .f32} {f g : ℕ → ℕ → ℝ} (h : IsK x f) {n : ℕ} (hn : n < 32)
    (hd : IsR d (fun c e => g (256 * n + c) e)) :
    IsK (addRows x n d) (fun k e => if 256 * n ≤ k ∧ k < 256 * n + 256 then f k e + g k e else f k e) := fun i j => by
  unfold addRows putRows
  by_cases hc : 256 * n ≤ i.val ∧ i.val < 256 * n + 256
  · refine (dif_pos hc).trans (Eq.trans ?_ (congrArg (fun r : ℝ => (r : EReal)) (if_pos hc)).symm)
    have hi : i.val - 256 * n < 256 := by omega
    refine (congrArg (addf (shapeCast S256x128 (rowsAt x n) shapeCasts_S256x128_S256x128) d) (?_ : _ = ix2 (⟨i.val - 256 * n, hi⟩ : Fin 256) j)).trans ?_
    · funext a
      match a with
      | 0 => rfl
      | 1 => rfl
    pointwise
    rw [rowsAt_is h hn, hd, ← EReal.coe_add]
    simp only [show 256 * n + (i.val - 256 * n) = i.val by omega]
  · exact (dif_neg hc).trans ((h i j).trans (congrArg (fun r : ℝ => (r : EReal)) (if_neg hc)).symm)

/-! ## The chains over a block -/

section Pair

variable {K : ℕ} {q : ℕ → ℕ} {z d : ℕ → ℕ → ℝ} {t : ℕ → ℝ} {za zb da db run seen tot : T Ideal}

/-- Two whole tiles of keys before every query. -/
theorem pair_is (hq : ∀ p < 128, K + 256 ≤ q p) (ha : IsT za (fun p j => z p (K + j))) (hb : IsT zb (fun p j => z p (K + 128 + j)))
    (hr : IsT run (fun p _ => R (z p) (q p) (K + 256))) :
    IsP (pair after2 za zb run) (fun p c => A (z p) (q p) (K + c)) ∧ IsT (run2 after2 za zb run) (fun p _ => R (z p) (q p) K) := by
  have kb : Keeps id (K + 128) q := keeps_id fun p hp => by have := hq p hp; omega
  have ka : Keeps id K q := keeps_id fun p hp => by have := hq p hp; omega
  have h1 := run_step kb hb hr
  exact ⟨join_is (weight_is ka ha h1) ((weight_is kb hb hr).congr fun p _ j _ => by rw [add_assoc]), run_step ka ha h1⟩

/-- A diagonal tile, and one more tile of later keys that is left empty. -/
theorem pairA_is (hq : ∀ p < 128, q p = K + p) (ha : IsT za (fun p j => z p (K + j))) :
    IsP (pairA after2 za) (fun p c => A (z p) (q p) (K + c)) ∧ IsT (runA after2 za) (fun p _ => R (z p) (q p) K) := by
  have ka : Keeps (only early) K q := keeps_early hq
  have h0 : IsT zero (fun p _ => R (z p) (q p) (K + 128)) := zero_is.congr fun p hp _ _ => by rw [R_late _ (by have := hq p hp; omega)]
  refine ⟨join_is (weight_is ka ha h0) (none16_is.congr fun p hp j _ => ?_), run_step ka ha h0⟩
  rw [A_late _ (by have := hq p hp; omega)]

/-- A tile of keys before every query, and a diagonal one. -/
theorem pairB_is (hq : ∀ p < 128, q p = K + 128 + p) (ha : IsT za (fun p j => z p (K + j))) (hb : IsT zb (fun p j => z p (K + 128 + j))) :
    IsP (pairB after2 za zb) (fun p c => A (z p) (q p) (K + c)) ∧ IsT (runB after2 za zb) (fun p _ => R (z p) (q p) K) := by
  have kb : Keeps (only early) (K + 128) q := keeps_early hq
  have ka : Keeps id K q := keeps_id fun p hp => by have := hq p hp; omega
  have h0 : IsT zero (fun p _ => R (z p) (q p) (K + 128 + 128)) := zero_is.congr fun p hp _ _ => by rw [R_late _ (by have := hq p hp; omega)]
  have h1 := run_step kb hb h0
  exact ⟨join_is (weight_is ka ha h1) ((weight_is kb hb h0).congr fun p _ j _ => by rw [add_assoc]), run_step ka ha h1⟩

/-- The scores' gradients of the same. -/
theorem dpair_is (hq : ∀ p < 128, K + 256 ≤ q p) (ha : IsT za (fun p j => z p (K + j))) (hb : IsT zb (fun p j => z p (K + 128 + j)))
    (hda : IsT da (fun p j => d p (K + j))) (hdb : IsT db (fun p j => d p (K + 128 + j)))
    (hr : IsT run (fun p _ => R (z p) (q p) (K + 256))) (hs : IsT seen (fun p _ => Sn (z p) (d p) (q p) (K + 256))) (ht : IsT tot (fun p _ => t p)) :
    IsP (dpair after2 from2 za zb da db run seen tot) (fun p c => C (z p) (d p) (t p) (q p) (K + c))
      ∧ IsT (seen2 after2 from2 za zb da db run seen) (fun p _ => Sn (z p) (d p) (q p) K) := by
  have kb : Keeps id (K + 128) q := keeps_id fun p hp => by have := hq p hp; omega
  have ka : Keeps id K q := keeps_id fun p hp => by have := hq p hp; omega
  have h1 := run_step kb hb hr
  have gb := grad_is (weight_is kb hb hr) hdb
  have ga := grad_is (weight_is ka ha h1) hda
  have s1 := seen_step gb hs
  exact ⟨join_is (dscore_is ka ha ga s1 ht) ((dscore_is kb hb gb hs ht).congr fun p _ j _ => by rw [add_assoc]), seen_step ga s1⟩

theorem dpairA_is (hq : ∀ p < 128, q p = K + p) (ha : IsT za (fun p j => z p (K + j))) (hda : IsT da (fun p j => d p (K + j))) (ht : IsT tot (fun p _ => t p)) :
    IsP (dpairA after2 from2 za da tot) (fun p c => C (z p) (d p) (t p) (q p) (K + c))
      ∧ IsT (seenA after2 from2 za da) (fun p _ => Sn (z p) (d p) (q p) K) := by
  have ka : Keeps (only early) K q := keeps_early hq
  have h0 : IsT zero (fun p _ => R (z p) (q p) (K + 128)) := zero_is.congr fun p hp _ _ => by rw [R_late _ (by have := hq p hp; omega)]
  have s0 : IsT zero (fun p _ => Sn (z p) (d p) (q p) (K + 128)) := zero_is.congr fun p hp _ _ => by rw [Sn_late _ _ (by have := hq p hp; omega)]
  have ga := grad_is (weight_is ka ha h0) hda
  refine ⟨join_is (dscore_is ka ha ga s0 ht) (none16_is.congr fun p hp j _ => ?_), seen_step ga s0⟩
  rw [C_late _ _ _ (by have := hq p hp; omega)]

theorem dpairB_is (hq : ∀ p < 128, q p = K + 128 + p) (ha : IsT za (fun p j => z p (K + j))) (hb : IsT zb (fun p j => z p (K + 128 + j)))
    (hda : IsT da (fun p j => d p (K + j))) (hdb : IsT db (fun p j => d p (K + 128 + j))) (ht : IsT tot (fun p _ => t p)) :
    IsP (dpairB after2 from2 za zb da db tot) (fun p c => C (z p) (d p) (t p) (q p) (K + c))
      ∧ IsT (seenB after2 from2 za zb da db) (fun p _ => Sn (z p) (d p) (q p) K) := by
  have kb : Keeps (only early) (K + 128) q := keeps_early hq
  have ka : Keeps id K q := keeps_id fun p hp => by have := hq p hp; omega
  have h0 : IsT zero (fun p _ => R (z p) (q p) (K + 128 + 128)) := zero_is.congr fun p hp _ _ => by rw [R_late _ (by have := hq p hp; omega)]
  have s0 : IsT zero (fun p _ => Sn (z p) (d p) (q p) (K + 128 + 128)) := zero_is.congr fun p hp _ _ => by rw [Sn_late _ _ (by have := hq p hp; omega)]
  have h1 := run_step kb hb h0
  have gb := grad_is (weight_is kb hb h0) hdb
  have ga := grad_is (weight_is ka ha h1) hda
  have s1 := seen_step gb s0
  exact ⟨join_is (dscore_is ka ha ga s1 ht) ((dscore_is kb hb gb s0 ht).congr fun p _ j _ => by rw [add_assoc]), seen_step ga s1⟩

end Pair

/-! ## The passes -/

/-- The query of row `r` of the four chains of query block `N`. -/
def qi (N r : ℕ) : ℕ := 256 * N + 128 * (r / 256) + r % 128

/-- Four tiles holding a value of each row of the chains. -/
def Four (x0 x1 x2 x3 : T Ideal) (g : ℕ → ℝ) : Prop :=
  IsT x0 (fun p _ => g p) ∧ IsT x1 (fun p _ => g (128 + p)) ∧ IsT x2 (fun p _ => g (256 + p)) ∧ IsT x3 (fun p _ => g (384 + p))

section Block

variable {N n : ℕ} {s dd : ℕ → ℕ → ℝ} {tt : ℕ → ℝ} {z d : FVec Ideal S512x256 .f32} {r0 r1 r2 r3 s0 s1 s2 s3 t0 t1 t2 t3 : T Ideal}

/-- A block of keys before every query of the chains: the weights, the running sums. -/
theorem wts_is (hn : n < N) (hz : IsB z (fun r c => s r (256 * n + c))) (hr : Four r0 r1 r2 r3 (fun r => R (s r) (qi N r) (256 * n + 256))) :
    IsB (wts after2 z r0 r1 r2 r3) (fun r c => A (s r) (qi N r) (256 * n + c))
      ∧ Four (run2 after2 (z00 z) (z01 z) r0) (run2 after2 (z10 z) (z11 z) r1) (run2 after2 (z20 z) (z21 z) r2) (run2 after2 (z30 z) (z31 z) r3)
          (fun r => R (s r) (qi N r) (256 * n)) := by
  have h0 := pair_is (z := s) (q := qi N) (fun p hp => by unfold qi; omega) (z00_is hz) ((z01_is hz).congr fun _ _ _ _ => by rw [add_assoc]) hr.1
  have h1 := pair_is (z := fun p => s (128 + p)) (q := fun p => qi N (128 + p)) (fun p hp => by unfold qi; omega) (z10_is hz)
    ((z11_is hz).congr fun _ _ _ _ => by rw [add_assoc]) hr.2.1
  have h2 := pair_is (z := fun p => s (256 + p)) (q := fun p => qi N (256 + p)) (fun p hp => by unfold qi; omega) (z20_is hz)
    ((z21_is hz).congr fun _ _ _ _ => by rw [add_assoc]) hr.2.2.1
  have h3 := pair_is (z := fun p => s (384 + p)) (q := fun p => qi N (384 + p)) (fun p hp => by unfold qi; omega) (z30_is hz)
    ((z31_is hz).congr fun _ _ _ _ => by rw [add_assoc]) hr.2.2.2
  exact ⟨stack_is h0.1 h1.1 h2.1 h3.1, h0.2, h1.2, h2.2, h3.2⟩

/-- The queries' own block. -/
theorem wtsOwn_is (hz : IsB z (fun r c => s r (256 * N + c))) :
    IsB (wtsOwn after2 z) (fun r c => A (s r) (qi N r) (256 * N + c))
      ∧ Four (runA after2 (z00 z)) (runA after2 (z10 z)) (runB after2 (z20 z) (z21 z)) (runB after2 (z30 z) (z31 z))
          (fun r => R (s r) (qi N r) (256 * N)) := by
  have h0 := pairA_is (z := s) (q := qi N) (fun p hp => by unfold qi; omega) (z00_is hz)
  have h1 := pairA_is (z := fun p => s (128 + p)) (q := fun p => qi N (128 + p)) (fun p hp => by unfold qi; omega) (z10_is hz)
  have h2 := pairB_is (z := fun p => s (256 + p)) (q := fun p => qi N (256 + p)) (fun p hp => by unfold qi; omega) (z20_is hz)
    ((z21_is hz).congr fun _ _ _ _ => by rw [add_assoc])
  have h3 := pairB_is (z := fun p => s (384 + p)) (q := fun p => qi N (384 + p)) (fun p hp => by unfold qi; omega) (z30_is hz)
    ((z31_is hz).congr fun _ _ _ _ => by rw [add_assoc])
  exact ⟨stack_is h0.1 h1.1 h2.1 h3.1, h0.2, h1.2, h2.2, h3.2⟩

/-- The scores' gradients of a block of keys before every query. -/
theorem dwts_is (hn : n < N) (hz : IsB z (fun r c => s r (256 * n + c))) (hd : IsB d (fun r c => dd r (256 * n + c)))
    (hr : Four r0 r1 r2 r3 (fun r => R (s r) (qi N r) (256 * n + 256))) (hs : Four s0 s1 s2 s3 (fun r => Sn (s r) (dd r) (qi N r) (256 * n + 256)))
    (ht : Four t0 t1 t2 t3 tt) :
    IsB (dwts after2 from2 z d r0 r1 r2 r3 s0 s1 s2 s3 t0 t1 t2 t3) (fun r c => C (s r) (dd r) (tt r) (qi N r) (256 * n + c))
      ∧ Four (seen2 after2 from2 (z00 z) (z01 z) (z00 d) (z01 d) r0 s0) (seen2 after2 from2 (z10 z) (z11 z) (z10 d) (z11 d) r1 s1)
          (seen2 after2 from2 (z20 z) (z21 z) (z20 d) (z21 d) r2 s2) (seen2 after2 from2 (z30 z) (z31 z) (z30 d) (z31 d) r3 s3)
          (fun r => Sn (s r) (dd r) (qi N r) (256 * n)) := by
  have h0 := dpair_is (z := s) (d := dd) (t := tt) (q := qi N) (fun p hp => by unfold qi; omega) (z00_is hz) ((z01_is hz).congr fun _ _ _ _ => by rw [add_assoc])
    (z00_is hd) ((z01_is hd).congr fun _ _ _ _ => by rw [add_assoc]) hr.1 hs.1 ht.1
  have h1 := dpair_is (z := fun p => s (128 + p)) (d := fun p => dd (128 + p)) (t := fun p => tt (128 + p)) (q := fun p => qi N (128 + p))
    (fun p hp => by unfold qi; omega) (z10_is hz) ((z11_is hz).congr fun _ _ _ _ => by rw [add_assoc])
    (z10_is hd) ((z11_is hd).congr fun _ _ _ _ => by rw [add_assoc]) hr.2.1 hs.2.1 ht.2.1
  have h2 := dpair_is (z := fun p => s (256 + p)) (d := fun p => dd (256 + p)) (t := fun p => tt (256 + p)) (q := fun p => qi N (256 + p))
    (fun p hp => by unfold qi; omega) (z20_is hz) ((z21_is hz).congr fun _ _ _ _ => by rw [add_assoc])
    (z20_is hd) ((z21_is hd).congr fun _ _ _ _ => by rw [add_assoc]) hr.2.2.1 hs.2.2.1 ht.2.2.1
  have h3 := dpair_is (z := fun p => s (384 + p)) (d := fun p => dd (384 + p)) (t := fun p => tt (384 + p)) (q := fun p => qi N (384 + p))
    (fun p hp => by unfold qi; omega) (z30_is hz) ((z31_is hz).congr fun _ _ _ _ => by rw [add_assoc])
    (z30_is hd) ((z31_is hd).congr fun _ _ _ _ => by rw [add_assoc]) hr.2.2.2 hs.2.2.2 ht.2.2.2
  exact ⟨stack_is h0.1 h1.1 h2.1 h3.1, h0.2, h1.2, h2.2, h3.2⟩

/-- The scores' gradients of the queries' own block. -/
theorem dwtsOwn_is (hz : IsB z (fun r c => s r (256 * N + c))) (hd : IsB d (fun r c => dd r (256 * N + c))) (ht : Four t0 t1 t2 t3 tt) :
    IsB (dwtsOwn after2 from2 z d t0 t1 t2 t3) (fun r c => C (s r) (dd r) (tt r) (qi N r) (256 * N + c))
      ∧ Four (seenA after2 from2 (z00 z) (z00 d)) (seenA after2 from2 (z10 z) (z10 d)) (seenB after2 from2 (z20 z) (z21 z) (z20 d) (z21 d))
          (seenB after2 from2 (z30 z) (z31 z) (z30 d) (z31 d)) (fun r => Sn (s r) (dd r) (qi N r) (256 * N)) := by
  have h0 := dpairA_is (z := s) (d := dd) (t := tt) (q := qi N) (fun p hp => by unfold qi; omega) (z00_is hz) (z00_is hd) ht.1
  have h1 := dpairA_is (z := fun p => s (128 + p)) (d := fun p => dd (128 + p)) (t := fun p => tt (128 + p)) (q := fun p => qi N (128 + p))
    (fun p hp => by unfold qi; omega) (z10_is hz) (z10_is hd) ht.2.1
  have h2 := dpairB_is (z := fun p => s (256 + p)) (d := fun p => dd (256 + p)) (t := fun p => tt (256 + p)) (q := fun p => qi N (256 + p))
    (fun p hp => by unfold qi; omega) (z20_is hz) ((z21_is hz).congr fun _ _ _ _ => by rw [add_assoc])
    (z20_is hd) ((z21_is hd).congr fun _ _ _ _ => by rw [add_assoc]) ht.2.2.1
  have h3 := dpairB_is (z := fun p => s (384 + p)) (d := fun p => dd (384 + p)) (t := fun p => tt (384 + p)) (q := fun p => qi N (384 + p))
    (fun p hp => by unfold qi; omega) (z30_is hz) ((z31_is hz).congr fun _ _ _ _ => by rw [add_assoc])
    (z30_is hd) ((z31_is hd).congr fun _ _ _ _ => by rw [add_assoc]) ht.2.2.2
  exact ⟨stack_is h0.1 h1.1 h2.1 h3.1, h0.2, h1.2, h2.2, h3.2⟩

end Block

/-! ## The early exit, its threshold −∞ -/

/-- The largest of real entries is above −∞. -/
theorem most_real {a b c d : T Ideal} {g : ℕ → ℝ} (h : Four a b c d g) : (⊥ : EReal) < most a b c d := by
  pointwise [most]
  refine lt_of_lt_of_le ?_ (Finset.le_fold_max _ |>.mpr (Or.inr ⟨((0 : Fin 128), (0 : Fin 128)), Finset.mem_univ _, le_rfl⟩))
  refine lt_of_lt_of_le (b := a (ix2 0 0)) ?_ ?_
  · rw [h.1]; exact EReal.bot_lt_coe _
  · exact le_max_of_le_left (le_max_of_le_left (le_max_left _ _))

theorem ogt_word {x y : EReal} (h : y < x) : Scalar.cmpf (F := Ideal) (φ := .f32) .ogt x y = 1#1 := by
  show BitVec.ofBool (decide (y < x)) = 1#1
  rw [decide_eq_true h]; rfl

/-- With a block left the walk goes on. -/
theorem live_real {n : ℕ} (hn : n < 32) {a b c d : T Ideal} {g : ℕ → ℝ} (h : Four a b c d g) :
    live (F := Ideal) (⊥ : EReal) (Scalar.subi (BitVec.ofNat 32 (n + 1)) 1#32) a b c d := by
  unfold live
  rw [next_block n hn]
  have e : Scalar.cmpf (F := Ideal) (φ := .f32) .ogt (most a b c d) (⊥ : EReal) = 1#1 := ogt_word (most_real h)
  rw [e]
  have : ∀ n : Fin 32, Scalar.andi (Scalar.cmpi .sge (BitVec.ofNat 32 n.val) 0#32) 1#1 = 1#1 := by decide +kernel
  exact this ⟨n, hn⟩

/-! ## The forward walk -/

section Forward

variable {N : ℕ} {q : FVec Ideal S512x128 .bf16} {x y : FVec Ideal S8192x128 .bf16} {Q X V : ℕ → ℕ → ℝ}

/-- The score of row `r` of the chains and key `k`. -/
def score (Q X : ℕ → ℕ → ℝ) (r k : ℕ) : ℝ := ∑ d ∈ Finset.range 128, Q r d * X k d

/-- The weighted rows of the keys from `K` on, up to the queries' own block. -/
def rowsFrom (Q X V : ℕ → ℕ → ℝ) (N K r d : ℕ) : ℝ := ∑ k ∈ Finset.Ico K (256 * N + 256), A (score Q X r) (qi N r) k * V k d

/-- A block's rows added. -/
theorem block_sum (f : ℕ → ℝ) (N n : ℕ) (h : n < N) :
    (∑ k ∈ Finset.Ico (256 * n + 256) (256 * N + 256), f k) + ∑ c ∈ Finset.range 256, f (256 * n + c) = ∑ k ∈ Finset.Ico (256 * n) (256 * N + 256), f k := by
  rw [← Finset.sum_Ico_consecutive f (show 256 * n ≤ 256 * n + 256 by omega) (show 256 * n + 256 ≤ 256 * N + 256 by omega), add_comm]
  congr 1
  rw [Finset.sum_Ico_eq_sum_range, show 256 * n + 256 - 256 * n = 256 by omega]
theorem own_sum (f : ℕ → ℝ) (N : ℕ) : ∑ c ∈ Finset.range 256, f (256 * N + c) = ∑ k ∈ Finset.Ico (256 * N) (256 * N + 256), f k := by
  rw [Finset.sum_Ico_eq_sum_range, show 256 * N + 256 - 256 * N = 256 by omega]

theorem walk_is (hN : N < 32) (hq : IsC q Q) (hx : IsK x X) (hy : IsK y V) : ∀ n ≤ N, ∀ (r0 r1 r2 r3 : T Ideal) (acc : FVec Ideal S512x128 .f32),
    Four r0 r1 r2 r3 (fun r => R (score Q X r) (qi N r) (256 * n)) → IsC acc (rowsFrom Q X V N (256 * n)) →
    IsC (walk (F := Ideal) (⊥ : EReal) q after2 x y n (Scalar.subi (BitVec.ofNat 32 n) 1#32, r0, r1, r2, r3, acc)).2.2.2.2.2 (rowsFrom Q X V N 0) := by
  intro n
  induction n with
  | zero => intro _ r0 r1 r2 r3 acc _ ha; exact ha
  | succ n ih =>
    intro hn r0 r1 r2 r3 acc hr ha
    rw [walk_live (live_real (by omega) hr)]
    unfold pass
    dsimp only
    rw [step_block n (by omega)]
    have hz := nt_is hq (rowsAt_is hx (show n < 32 by omega))
    have hw := wts_is (s := score Q X) (show n < N by omega) hz (by rw [mul_add] at hr; exact hr)
    refine ih (by omega) _ _ _ _ _ hw.2 fun i j => ?_
    pointwise
    rw [ha, nn_is hw.1 (rowsAt_is hy (show n < 32 by omega)), ← EReal.coe_add]
    congr 1
    exact block_sum (fun k => A (score Q X i) (qi N i) k * V k j) N n (by omega)

theorem ftotal_is {x0 : FVec Ideal S256x128 .bf16} (hN : N < 32) (hq : IsC (chains (scaled x0)) Q) (hx : IsK x X) (hy : IsK y V) :
    IsC (ftotal (F := Ideal) (⊥ : EReal) N x0 x y) (rowsFrom Q X V N 0) := by
  unfold ftotal start
  rw [show first N = Scalar.subi (BitVec.ofNat 32 N) 1#32 from first_eq ⟨N, hN⟩]
  have hz := nt_is hq (rowsAt_is hx hN)
  have hw := wtsOwn_is (s := score Q X) hz
  refine walk_is hN hq hx hy N le_rfl _ _ _ _ _ hw.2 fun i j => ?_
  pointwise
  rw [nn_is hw.1 (rowsAt_is hy hN)]
  congr 1
  exact own_sum (fun k => A (score Q X i) (qi N i) k * V k j) N

end Forward

/-! ## The backward walk -/

section Backward

variable {N : ℕ} {q g : FVec Ideal S512x128 .bf16} {x y : FVec Ideal S8192x128 .bf16} {Q G X V : ℕ → ℕ → ℝ} {tt : ℕ → ℝ} {t0 t1 t2 t3 : T Ideal}

/-- The gradient of the score of row `r` of the chains and key `k`. -/
def sgrad (Q G X V : ℕ → ℕ → ℝ) (tt : ℕ → ℝ) (N r k : ℕ) : ℝ := C (score Q X r) (score G V r) (tt r) (qi N r) k

/-- The queries' gradients, of the keys from `K` on. -/
def gradFrom (Q G X V : ℕ → ℕ → ℝ) (tt : ℕ → ℝ) (N K r d : ℕ) : ℝ := ∑ k ∈ Finset.Ico K (256 * N + 256), sgrad Q G X V tt N r k * X k d

/-- What query block `N` adds to the keys' gradients, and to the values'. -/
def addK (Q G X V : ℕ → ℕ → ℝ) (tt : ℕ → ℝ) (N k d : ℕ) : ℝ := ∑ r ∈ Finset.range 512, sgrad Q G X V tt N r k * Q r d
def addV (Q G X : ℕ → ℕ → ℝ) (N k d : ℕ) : ℝ := ∑ r ∈ Finset.range 512, A (score Q X r) (qi N r) k * G r d

/-- The additions from key `K` on. -/
def addedFrom (f u : ℕ → ℕ → ℝ) (K k d : ℕ) : ℝ := if K ≤ k then f k d + u k d else f k d

theorem qi_lt (N r : ℕ) (h : r < 512) : qi N r < 256 * N + 256 := by unfold qi; omega

/-- Block `n`'s rows added to what has the later ones. -/
theorem added_step (f u : ℕ → ℕ → ℝ) (n k d : ℕ) :
    (if 256 * n ≤ k ∧ k < 256 * n + 256 then addedFrom f u (256 * n + 256) k d + u k d else addedFrom f u (256 * n + 256) k d) = addedFrom f u (256 * n) k d := by
  unfold addedFrom
  by_cases h : 256 * n + 256 ≤ k
  · rw [if_neg (by omega), if_pos h, if_pos (by omega)]
  · rw [if_neg h]
    by_cases h' : 256 * n ≤ k
    · rw [if_pos (by omega), if_pos h']
    · rw [if_neg (by omega), if_neg h']

theorem bwalk_is (hN : N < 32) (hq : IsC q Q) (hg : IsC g G) (hx : IsK x X) (hy : IsK y V) (ht : Four t0 t1 t2 t3 tt) (fk fv : ℕ → ℕ → ℝ) :
    ∀ n ≤ N, ∀ (r0 r1 r2 r3 s0 s1 s2 s3 : T Ideal) (acc : FVec Ideal S512x128 .f32) (dk dv : FVec Ideal S8192x128 .f32),
    Four r0 r1 r2 r3 (fun r => R (score Q X r) (qi N r) (256 * n)) → Four s0 s1 s2 s3 (fun r => Sn (score Q X r) (score G V r) (qi N r) (256 * n)) →
    IsC acc (gradFrom Q G X V tt N (256 * n)) → IsK dk (addedFrom fk (addK Q G X V tt N) (256 * n)) → IsK dv (addedFrom fv (addV Q G X N) (256 * n)) →
    IsC (bwalk (F := Ideal) (⊥ : EReal) q g after2 from2 t0 t1 t2 t3 x y n (Scalar.subi (BitVec.ofNat 32 n) 1#32, r0, r1, r2, r3, s0, s1, s2, s3, acc) dk dv).1.2.2.2.2.2.2.2.2.2
        (gradFrom Q G X V tt N 0)
      ∧ IsK (bwalk (F := Ideal) (⊥ : EReal) q g after2 from2 t0 t1 t2 t3 x y n (Scalar.subi (BitVec.ofNat 32 n) 1#32, r0, r1, r2, r3, s0, s1, s2, s3, acc) dk dv).2.1
        (addedFrom fk (addK Q G X V tt N) 0)
      ∧ IsK (bwalk (F := Ideal) (⊥ : EReal) q g after2 from2 t0 t1 t2 t3 x y n (Scalar.subi (BitVec.ofNat 32 n) 1#32, r0, r1, r2, r3, s0, s1, s2, s3, acc) dk dv).2.2
        (addedFrom fv (addV Q G X N) 0) := by
  intro n
  induction n with
  | zero => intro _ _ _ _ _ _ _ _ _ _ _ _ _ _ ha hk hv; exact ⟨ha, hk, hv⟩
  | succ n ih =>
    intro hn r0 r1 r2 r3 s0 s1 s2 s3 acc dk dv hr hs ha hk hv
    have hn' : n < 32 := by omega
    rw [bwalk_live (live_real hn' hr)]
    unfold bpass bgrads
    dsimp only
    rw [step_block n hn']
    rw [mul_add] at hr hs ha hk hv
    have hz := nt_is hq (rowsAt_is hx hn')
    have hd := nt_is hg (rowsAt_is hy hn')
    have hw := wts_is (s := score Q X) (show n < N by omega) hz hr
    have hdw := dwts_is (s := score Q X) (dd := score G V) (show n < N by omega) hz hd hr hs ht
    refine ih (by omega) _ _ _ _ _ _ _ _ _ _ _ hw.2 hdw.2 (fun i j => ?_) ?_ ?_
    · pointwise
      rw [ha, nn_is hdw.1 (rowsAt_is hx hn'), ← EReal.coe_add]
      congr 1
      exact block_sum (fun k => sgrad Q G X V tt N i k * X k j) N n (by omega)
    · exact (addRows_is hk hn' (tn_is hdw.1 hq)).congr fun k _ d _ => added_step fk (addK Q G X V tt N) n k d
    · exact (addRows_is hv hn' (tn_is hw.1 hg)).congr fun k _ d _ => added_step fv (addV Q G X N) n k d

/-- The queries' own block is the last that has keys before a query. -/
theorem added_own (f u : ℕ → ℕ → ℝ) (N k d : ℕ) (hu : 256 * N + 256 ≤ k → u k d = 0) :
    (if 256 * N ≤ k ∧ k < 256 * N + 256 then f k d + u k d else f k d) = addedFrom f u (256 * N) k d := by
  unfold addedFrom
  by_cases h : 256 * N ≤ k
  · rw [if_pos h]
    by_cases h' : k < 256 * N + 256
    · rw [if_pos ⟨h, h'⟩]
    · rw [if_neg (by omega), hu (by omega), add_zero]
  · rw [if_neg (by omega), if_neg h]

theorem zeros_is : IsK (zeros (F := Ideal)) (fun _ _ => 0) := fun i j => by
  pointwise [zeros]; rfl

/-- The body of a query block. -/
theorem bbody_is {x0 x4 : FVec Ideal S256x128 .bf16} {x3 : FVec Ideal S256x128 .f32} {dk dv : FVec Ideal S8192x128 .f32} {fk fv : ℕ → ℕ → ℝ}
    (hN : N < 32) (hq : IsC (chains (scaled x0)) Q) (hg : IsC (chains (plain x4)) G) (hx : IsK x X) (hy : IsK y V)
    (ht : Four (tot0 x4 x3) (tot1 x4 x3) (tot2 x4 x3) (tot3 x4 x3) tt)
    (hk : IsK (if N = 0 then zeros else dk) fk) (hv : IsK (if N = 0 then zeros else dv) fv) :
    IsC (bbody (F := Ideal) (⊥ : EReal) N x0 x y x3 x4 dk dv).1.2.2.2.2.2.2.2.2.2 (gradFrom Q G X V tt N 0)
      ∧ IsK (bbody (F := Ideal) (⊥ : EReal) N x0 x y x3 x4 dk dv).2.1 (fun k d => fk k d + addK Q G X V tt N k d)
      ∧ IsK (bbody (F := Ideal) (⊥ : EReal) N x0 x y x3 x4 dk dv).2.2 (fun k d => fv k d + addV Q G X N k d) := by
  unfold bbody bstart
  rw [show first N = Scalar.subi (BitVec.ofNat 32 N) 1#32 from first_eq ⟨N, hN⟩]
  have hz := nt_is hq (rowsAt_is hx hN)
  have hd := nt_is hg (rowsAt_is hy hN)
  have hw := wtsOwn_is (s := score Q X) hz
  have hdw := dwtsOwn_is (s := score Q X) (dd := score G V) hz hd ht
  have h := bwalk_is hN hq hg hx hy ht fk fv N le_rfl _ _ _ _ _ _ _ _
    (addf (broadcast S512x128 (Scalar.ofBits .f32 0x00000000#32)) (nn (dwtsOwn after2 from2 (nt (chains (scaled x0)) (rowsAt x N)) (nt (chains (plain x4)) (rowsAt y N)) (tot0 x4 x3) (tot1 x4 x3) (tot2 x4 x3) (tot3 x4 x3)) (rowsAt x N)))
    _ _ hw.2 hdw.2 (fun i j => ?_)
    ((addRows_is hk hN (tn_is hdw.1 hq)).congr fun k _ d _ => added_own fk (addK Q G X V tt N) N k d fun hk => Finset.sum_eq_zero fun r hr => ?_)
    ((addRows_is hv hN (tn_is hw.1 hg)).congr fun k _ d _ => added_own fv (addV Q G X N) N k d fun hk => Finset.sum_eq_zero fun r hr => ?_)
  · exact ⟨h.1, h.2.1.congr fun k _ d _ => if_pos (Nat.zero_le k), h.2.2.congr fun k _ d _ => if_pos (Nat.zero_le k)⟩
  · pointwise
    rw [nn_is hdw.1 (rowsAt_is hx hN)]
    congr 1
    exact own_sum (fun k => sgrad Q G X V tt N i k * X k j) N
  · rw [Finset.mem_range] at hr
    rw [sgrad, C_late _ _ _ ((qi_lt N r hr).le.trans hk), zero_mul]
  · rw [Finset.mem_range] at hr
    rw [A_late _ ((qi_lt N r hr).le.trans hk), zero_mul]

end Backward

end Cert.Tiles

end
-- ==== Proof.Ends.lean ====
/- The two ends of a query block's walk over the reals: the chains made of the block's rows, the
   rows made of the chains, and the sums of a head as the reference writes them. -/
module

public import proofs.«01_k».proof.Proof.Passes

@[expose] public section

set_option maxRecDepth 16384

noncomputable section

namespace Cert.Tiles

open Cert.StickIdeal Cert.StickIdeal.Gen
open Idealize.ShloMosaic Idealize.ShloMosaic.WordCmp

/-- Row `r` of the chains: a row of the block, with the columns of one head. -/
def pick (x : ℕ → ℕ → ℝ) (r d : ℕ) : ℝ := if r / 128 % 2 = d / 64 then x (128 * (r / 256) + r % 128) d else 0

/-- A row of the block out of the chains. -/
def unite (f : ℕ → ℕ → ℝ) (i d : ℕ) : ℝ := f (256 * (i / 128) + 128 * (d / 64) + i % 128) d

theorem scaled_is {x : FVec Ideal S256x128 .bf16} {f : ℕ → ℕ → ℝ} (h : IsR x f) : IsR (scaled x) (fun i d => f i d * (1 / 8)) := fun i j => by
  pointwise [scaled]
  rw [h, eighth, ← EReal.coe_mul]
theorem plain_is {x : FVec Ideal S256x128 .bf16} {f : ℕ → ℕ → ℝ} (h : IsR x f) : IsR (plain x) f := fun i j => by
  pointwise [plain]
  exact h i j

theorem only0_is {x : T Ideal} {f : ℕ → ℕ → ℝ} (h : IsT x f) : IsT (only head0 x) (fun p d => if d < 64 then f p d else 0) := fun i j => by
  pointwise [only, head0, zero]
  rw [head0_word]
  exact select_real (p := j.val < 64) _ (f i.val j.val) fun _ => h i j
theorem only1_is {x : T Ideal} {f : ℕ → ℕ → ℝ} (h : IsT x f) : IsT (only head1 x) (fun p d => if 64 ≤ d then f p d else 0) := fun i j => by
  pointwise [only, head1, zero]
  rw [head1_word]
  exact select_real (p := 64 ≤ j.val) _ (f i.val j.val) fun _ => h i j
theorem half0_is {x : FVec Ideal S256x128 .f32} {f : ℕ → ℕ → ℝ} (h : IsR x f) : IsT (half0 x) f := fun i j => by
  pointwise [half0]
  exact h _ _
theorem half1_is {x : FVec Ideal S256x128 .f32} {f : ℕ → ℕ → ℝ} (h : IsR x f) : IsT (half1 x) (fun p d => f (128 + p) d) := fun i j => by
  pointwise [half1]
  exact h _ _

/-- Four tiles stacked. -/
theorem four_is {a b c d : FVec Ideal S128x128 .bf16} {g : ℕ → ℕ → ℝ} (ha : Is (a := 128) (b := 128) a g)
    (hb : Is (a := 128) (b := 128) b (fun p j => g (128 + p) j)) (hc : Is (a := 128) (b := 128) c (fun p j => g (256 + p) j))
    (hd : Is (a := 128) (b := 128) d (fun p j => g (384 + p) j)) :
    IsC (concatenate S512x128 0 [⟨S128x128, a⟩, ⟨S128x128, b⟩, ⟨S128x128, c⟩, ⟨S128x128, d⟩]
      concatenates_S128x128_S128x128_S128x128_S128x128_S512x128_d0 : FVec Ideal S512x128 .bf16) g := fun i j => by
  have hi := i.isLt
  pointwise
  split
  · exact ha _ _
  split
  · refine (hb _ _).trans (congrArg (fun n => ((g n j.val : ℝ) : EReal)) ?_)
    show 128 + (i.val - 128) = i.val
    omega
  split
  · refine (hc _ _).trans (congrArg (fun n => ((g n j.val : ℝ) : EReal)) ?_)
    show 256 + (i.val - 128 - 128) = i.val
    omega
  · refine (hd _ _).trans (congrArg (fun n => ((g n j.val : ℝ) : EReal)) ?_)
    show 384 + (i.val - 128 - 128 - 128) = i.val
    omega

section Pick

variable (f : ℕ → ℕ → ℝ) (p d : ℕ) (hp : p < 128) (hd : d < 128)
include hp hd

theorem pick0 : (if d < 64 then f p d else 0) = pick f p d := by
  unfold pick
  rw [show 128 * (p / 256) + p % 128 = p by omega]
  by_cases h : d < 64
  · rw [if_pos h, if_pos (by omega)]
  · rw [if_neg h, if_neg (by omega)]
theorem pick1 : (if 64 ≤ d then f p d else 0) = pick f (128 + p) d := by
  unfold pick
  rw [show 128 * ((128 + p) / 256) + (128 + p) % 128 = p by omega]
  by_cases h : 64 ≤ d
  · rw [if_pos h, if_pos (by omega)]
  · rw [if_neg h, if_neg (by omega)]
theorem pick2 : (if d < 64 then f (128 + p) d else 0) = pick f (256 + p) d := by
  unfold pick
  rw [show 128 * ((256 + p) / 256) + (256 + p) % 128 = 128 + p by omega]
  by_cases h : d < 64
  · rw [if_pos h, if_pos (by omega)]
  · rw [if_neg h, if_neg (by omega)]
theorem pick3 : (if 64 ≤ d then f (128 + p) d else 0) = pick f (384 + p) d := by
  unfold pick
  rw [show 128 * ((384 + p) / 256) + (384 + p) % 128 = 128 + p by omega]
  by_cases h : 64 ≤ d
  · rw [if_pos h, if_pos (by omega)]
  · rw [if_neg h, if_neg (by omega)]

end Pick

theorem trunc_is {x : T Ideal} {f : ℕ → ℕ → ℝ} (h : IsT x f) : Is (a := 128) (b := 128) (truncf .bf16 x bitsLt_bf16_f32 : FVec Ideal S128x128 .bf16) f := fun i j => by
  pointwise
  exact h i j

theorem chains_is {x : FVec Ideal S256x128 .f32} {f : ℕ → ℕ → ℝ} (h : IsR x f) : IsC (chains x) (pick f) := by
  unfold chains
  exact four_is (trunc_is ((only0_is (half0_is h)).congr fun p hp d hd => pick0 f p d hp hd))
    (trunc_is ((only1_is (half0_is h)).congr fun p hp d hd => pick1 f p d hp hd))
    (trunc_is ((only0_is (half1_is h)).congr fun p hp d hd => pick2 f p d hp hd))
    (trunc_is ((only1_is (half1_is h)).congr fun p hp d hd => pick3 f p d hp hd))

/-- The sums over a row's columns of each head. -/
theorem rowSum_is {x : T Ideal} {f : ℕ → ℕ → ℝ} (h : IsT x f) : IsT (rowSum x) (fun p _ => ∑ d ∈ Finset.range 128, f p d) := fun i j => by
  pointwise [rowSum]
  exact sum_fin _ (f i.val) fun k => h i k

theorem prods_is {y : FVec Ideal S256x128 .bf16} {o : FVec Ideal S256x128 .f32} {g f : ℕ → ℕ → ℝ} (hg : IsR y g) (ho : IsR o f) :
    IsR (prods y o) (fun i d => g i d * f i d) := fun i j => by
  pointwise [prods, plain]
  rw [hg, ho, ← EReal.coe_mul]

theorem tots_are {y : FVec Ideal S256x128 .bf16} {o : FVec Ideal S256x128 .f32} {g f : ℕ → ℕ → ℝ} (hg : IsR y g) (ho : IsR o f) :
    Four (tot0 y o) (tot1 y o) (tot2 y o) (tot3 y o) (fun r => ∑ d ∈ Finset.range 128, pick (fun i d => g i d * f i d) r d) := by
  have h := prods_is hg ho
  refine ⟨?_, ?_, ?_, ?_⟩
  · exact rowSum_is ((only0_is (half0_is h)).congr fun p hp d hd => pick0 (fun i d => g i d * f i d) p d hp hd)
  · exact rowSum_is ((only1_is (half0_is h)).congr fun p hp d hd => pick1 (fun i d => g i d * f i d) p d hp hd)
  · exact rowSum_is ((only0_is (half1_is h)).congr fun p hp d hd => pick2 (fun i d => g i d * f i d) p d hp hd)
  · exact rowSum_is ((only1_is (half1_is h)).congr fun p hp d hd => pick3 (fun i d => g i d * f i d) p d hp hd)

/-! ## Out of the chains -/

theorem apart0_is {x : FVec Ideal S512x128 .f32} {f : ℕ → ℕ → ℝ} (h : IsC x f) : IsT (apart0 x) (unite f) := fun i j => by
  have hi := i.isLt
  have hj := j.isLt
  pointwise [apart0, head0]
  rw [head0_word]
  unfold unite
  by_cases hc : j.val < 64
  · rw [if_pos hc]
    refine (h _ _).trans (congrArg (fun n => ((f n j.val : ℝ) : EReal)) ?_)
    show i.val = _
    omega
  · rw [if_neg hc]
    refine (h _ _).trans (congrArg (fun n => ((f n j.val : ℝ) : EReal)) ?_)
    show 128 + i.val = _
    omega
theorem apart1_is {x : FVec Ideal S512x128 .f32} {f : ℕ → ℕ → ℝ} (h : IsC x f) : IsT (apart1 x) (fun p d => unite f (128 + p) d) := fun i j => by
  have hi := i.isLt
  have hj := j.isLt
  pointwise [apart1, head0]
  rw [head0_word]
  unfold unite
  by_cases hc : j.val < 64
  · rw [if_pos hc]
    refine (h _ _).trans (congrArg (fun n => ((f n j.val : ℝ) : EReal)) ?_)
    show 256 + i.val = _
    omega
  · rw [if_neg hc]
    refine (h _ _).trans (congrArg (fun n => ((f n j.val : ℝ) : EReal)) ?_)
    show 384 + i.val = _
    omega

theorem halves_is {φ : FTy} {a b : FVec Ideal S128x128 φ} {f : ℕ → ℕ → ℝ} (ha : Is (a := 128) (b := 128) a f)
    (hb : Is (a := 128) (b := 128) b (fun p d => f (128 + p) d)) : IsR (halves a b : FVec Ideal S256x128 φ) f := fun i j => by
  have hi := i.isLt
  by_cases hc : i.val < 128
  · refine (dif_pos hc).trans ((congrArg a (?_ : _ = ix2 (⟨i.val, hc⟩ : Fin 128) j)).trans (ha _ _))
    funext a
    match a with
    | 0 => rfl
    | 1 => rfl
  · refine (dif_neg hc).trans ((congrArg b (?_ : _ = ix2 (⟨i.val - 128, by omega⟩ : Fin 128) j)).trans ((hb _ _).trans (congrArg (fun n => ((f n j.val : ℝ) : EReal)) ?_)))
    · funext a
      match a with
      | 0 => rfl
      | 1 => rfl
    · show 128 + (i.val - 128) = i.val
      omega

theorem wide_is {x : FVec Ideal S512x128 .f32} {f : ℕ → ℕ → ℝ} (h : IsC x f) : IsR (wide x) (unite f) := halves_is (apart0_is h) (apart1_is h)
theorem narrow_is {x : FVec Ideal S512x128 .f32} {f : ℕ → ℕ → ℝ} (h : IsC x f) : IsR (narrow x) (unite f) := halves_is (trunc_is (apart0_is h)) (trunc_is (apart1_is h))

theorem eighth_is {x : T Ideal} {f : ℕ → ℕ → ℝ} (h : IsT x f) :
    Is (a := 128) (b := 128) (truncf .bf16 (mulf x (broadcast S128x128 (Scalar.ofBits .f32 0x3E000000#32))) bitsLt_bf16_f32 : FVec Ideal S128x128 .bf16) (fun p d => f p d * (1 / 8)) := fun i j => by
  pointwise
  rw [h, eighth, ← EReal.coe_mul]
theorem back_is {x : FVec Ideal S512x128 .f32} {f : ℕ → ℕ → ℝ} (h : IsC x f) : IsR (back x) (fun i d => unite f i d * (1 / 8)) :=
  halves_is (eighth_is (apart0_is h)) (eighth_is (apart1_is h))

/-! ## The sums of a head -/

/-- The score of query `i` and key `k` in head `h`. -/
def hscore (q x : ℕ → ℕ → ℝ) (h i k : ℕ) : ℝ := (∑ e ∈ Finset.range 64, q i (64 * h + e) * x k (64 * h + e)) * (1 / 8)

/-- The sum over a head's columns: the other head's entries are zero. -/
theorem sum_pick (f g : ℕ → ℕ → ℝ) (r k : ℕ) (hr : r < 512) :
    ∑ d ∈ Finset.range 128, pick f r d * g k d
      = ∑ e ∈ Finset.range 64, f (128 * (r / 256) + r % 128) (64 * (r / 128 % 2) + e) * g k (64 * (r / 128 % 2) + e) := by
  have hsum := Finset.sum_range_add (fun d => pick f r d * g k d) 64 64
  rw [show 64 + 64 = 128 from rfl] at hsum
  rw [hsum]
  rcases Nat.mod_two_eq_zero_or_one (r / 128) with h | h
  · rw [Finset.sum_eq_zero (s := Finset.range 64) (f := fun e => pick f r (64 + e) * g k (64 + e)) fun e he => ?_, add_zero]
    · refine Finset.sum_congr rfl fun e he => ?_
      rw [Finset.mem_range] at he
      rw [pick, if_pos (by omega), h, mul_zero, zero_add]
    · rw [Finset.mem_range] at he
      rw [pick, if_neg (by omega), zero_mul]
  · rw [Finset.sum_eq_zero (s := Finset.range 64) (f := fun e => pick f r e * g k e) fun e he => ?_, zero_add]
    · refine Finset.sum_congr rfl fun e he => ?_
      rw [Finset.mem_range] at he
      rw [pick, if_pos (by omega), h, mul_one]
    · rw [Finset.mem_range] at he
      rw [pick, if_neg (by omega), zero_mul]

/-- A chain's scores are its head's. -/
theorem score_eq (q x : ℕ → ℕ → ℝ) (N P r k : ℕ) (hr : r < 512) :
    score (pick fun i d => q (256 * N + i) (128 * P + d) * (1 / 8)) (fun k d => x k (128 * P + d)) r k = hscore q x (2 * P + r / 128 % 2) (qi N r) k := by
  unfold score hscore qi
  rw [sum_pick (fun i d => q (256 * N + i) (128 * P + d) * (1 / 8)) (fun k d => x k (128 * P + d)) r k hr, Finset.sum_mul]
  refine Finset.sum_congr rfl fun e _ => ?_
  rw [show 128 * P + (64 * (r / 128 % 2) + e) = 64 * (2 * P + r / 128 % 2) + e by omega, ← add_assoc (256 * N)]
  ring

/-- The same of the values and the cotangent, unscaled. -/
def hdot (g v : ℕ → ℕ → ℝ) (h i k : ℕ) : ℝ := ∑ e ∈ Finset.range 64, g i (64 * h + e) * v k (64 * h + e)
theorem dot_eq (g v : ℕ → ℕ → ℝ) (N P r k : ℕ) (hr : r < 512) :
    score (pick fun i d => g (256 * N + i) (128 * P + d)) (fun k d => v k (128 * P + d)) r k = hdot g v (2 * P + r / 128 % 2) (qi N r) k := by
  unfold score hdot qi
  rw [sum_pick (fun i d => g (256 * N + i) (128 * P + d)) (fun k d => v k (128 * P + d)) r k hr]
  refine Finset.sum_congr rfl fun e _ => ?_
  rw [show 128 * P + (64 * (r / 128 % 2) + e) = 64 * (2 * P + r / 128 % 2) + e by omega, ← add_assoc (256 * N)]

/-- The attention's output: query `i`, column `j`. -/
def hout (q x v : ℕ → ℕ → ℝ) (i j : ℕ) : ℝ := ∑ k ∈ Finset.range 8192, A (hscore q x (j / 64) i) i k * v k j

/-- A sum over the keys ends at the queries' own block. -/
theorem sum_keys (f : ℕ → ℝ) (N : ℕ) (hN : N < 32) (h : ∀ k, 256 * N + 256 ≤ k → f k = 0) :
    ∑ k ∈ Finset.Ico 0 (256 * N + 256), f k = ∑ k ∈ Finset.range 8192, f k := by
  rw [Finset.range_eq_Ico]
  refine Finset.sum_subset (Finset.Ico_subset_Ico_right (by omega)) fun k _ hk => h k ?_
  rw [Finset.mem_Ico] at hk
  omega

/-- The forward walk's rows are the output's. -/
theorem rows_out (q x v : ℕ → ℕ → ℝ) (N P i d : ℕ) (hN : N < 32) (hi : i < 256) (hd : d < 128) :
    unite (rowsFrom (pick fun i d => q (256 * N + i) (128 * P + d) * (1 / 8)) (fun k d => x k (128 * P + d)) (fun k d => v k (128 * P + d)) N 0) i d
      = hout q x v (256 * N + i) (128 * P + d) := by
  unfold unite rowsFrom hout
  have hr : 256 * (i / 128) + 128 * (d / 64) + i % 128 < 512 := by omega
  rw [sum_keys _ N hN fun k hk => by rw [A_late _ ((qi_lt N _ hr).le.trans hk), zero_mul]]
  refine Finset.sum_congr rfl fun k _ => ?_
  rw [show (score (pick fun i d => q (256 * N + i) (128 * P + d) * (1 / 8)) (fun k d => x k (128 * P + d)) (256 * (i / 128) + 128 * (d / 64) + i % 128))
      = hscore q x ((128 * P + d) / 64) (256 * N + i) from funext fun k => ?_, show qi N (256 * (i / 128) + 128 * (d / 64) + i % 128) = 256 * N + i by unfold qi; omega]
  rw [score_eq _ _ _ _ _ _ hr]
  congr 1
  · omega
  · unfold qi; omega

end Cert.Tiles

end
-- ==== Proof.Folds.lean ====
/- What the host's operations of the two references are over the reals: running sums along the keys,
   the logarithm of the sigmoid, a choice by a mask. -/
module

public import proofs.«01_k».proof.Proof.Ends
public import Idealize.ShloMosaic.Lib.ShapeFacts

@[expose] public section

set_option maxRecDepth 16384

noncomputable section

namespace Cert.Tiles

open Idealize.ShloMosaic Idealize.ShloMosaic.WordCmp

/-- The entries of an array of rank four are the reals `f`, by its last three coordinates. -/
def Is4 {a b c d : ℕ} (x : (⟨4, ![a, b, c, d]⟩ : Shape).Idx → EReal) (f : ℕ → ℕ → ℕ → ℝ) : Prop :=
  ∀ i, x i = ((f (i 1).val (i 2).val (i 3).val : ℝ) : EReal)

/-- The entries of a matrix, at any index. -/
theorem Is.at {a b : ℕ} {x : (⟨2, ![a, b]⟩ : Shape).Idx → EReal} {f : ℕ → ℕ → ℝ} (h : Is x f) (i : (⟨2, ![a, b]⟩ : Shape).Idx) :
    x i = ((f (i 0).val (i 1).val : ℝ) : EReal) := by
  have e : i = ix2 (i 0) (i 1) := by
    funext a
    match a with
    | 0 => rfl
    | 1 => rfl
  exact (congrArg x e).trans (h (i 0) (i 1))

theorem fold_real {ι : Type} (l : List ι) (g : ι → EReal) (f : ι → ℝ) (hg : ∀ a, g a = ((f a : ℝ) : EReal)) (v : ℝ) :
    l.foldl (fun r a => r + g a) ((v : ℝ) : EReal) = ((v + (l.map f).sum : ℝ) : EReal) := by
  induction l generalizing v with
  | nil => simp
  | cons a l ih => rw [List.foldl_cons, hg, ← EReal.coe_add, ih, List.map_cons, List.sum_cons, add_assoc]

section Window

variable {N : ℕ}

/-- A window along the last axis alone: its positions are the axis's. -/
theorem window_numel : (⟨4, ![1, 1, 1, N]⟩ : Shape).numel = N := by
  refine (Fin.prod_univ_four _).trans ?_
  show 1 * 1 * 1 * N = N
  omega
theorem window_pos (n : Fin (⟨4, ![1, 1, 1, N]⟩ : Shape).numel) : ∀ a : Fin 4, ((⟨4, ![1, 1, 1, N]⟩ : Shape).rowMajor.symm n a).val = if a = 3 then n.val else 0 := by
  have h := Shape.rowMajor_val_four ((⟨4, ![1, 1, 1, N]⟩ : Shape).rowMajor.symm n)
  rw [Equiv.apply_symm_apply] at h
  have h0 : ((⟨4, ![1, 1, 1, N]⟩ : Shape).rowMajor.symm n 0).val < 1 := ((⟨4, ![1, 1, 1, N]⟩ : Shape).rowMajor.symm n 0).isLt
  have h1 : ((⟨4, ![1, 1, 1, N]⟩ : Shape).rowMajor.symm n 1).val < 1 := ((⟨4, ![1, 1, 1, N]⟩ : Shape).rowMajor.symm n 1).isLt
  have h2 : ((⟨4, ![1, 1, 1, N]⟩ : Shape).rowMajor.symm n 2).val < 1 := ((⟨4, ![1, 1, 1, N]⟩ : Shape).rowMajor.symm n 2).isLt
  have h' : n.val = ((((⟨4, ![1, 1, 1, N]⟩ : Shape).rowMajor.symm n 0).val * 1 + ((⟨4, ![1, 1, 1, N]⟩ : Shape).rowMajor.symm n 1).val) * 1
    + ((⟨4, ![1, 1, 1, N]⟩ : Shape).rowMajor.symm n 2).val) * N + ((⟨4, ![1, 1, 1, N]⟩ : Shape).rowMajor.symm n 3).val := h
  have e0 : ((⟨4, ![1, 1, 1, N]⟩ : Shape).rowMajor.symm n 0).val = 0 := by omega
  have e1 : ((⟨4, ![1, 1, 1, N]⟩ : Shape).rowMajor.symm n 1).val = 0 := by omega
  have e2 : ((⟨4, ![1, 1, 1, N]⟩ : Shape).rowMajor.symm n 2).val = 0 := by omega
  rw [e0, e1, e2] at h'
  intro a
  match a with
  | 0 => exact e0
  | 1 => exact e1
  | 2 => exact e2
  | 3 => exact (show _ = n.val by omega)

/-- A window of the whole last axis, padded low by `lo`: the running sum of what it meets. -/
theorem window_sum {A B C lo hi : ℕ} {x : (⟨4, ![A, B, C, N]⟩ : Shape).Idx → EReal} {f : ℕ → ℕ → ℕ → ℝ} (hx : Is4 x f) {init : (⟨0, ![]⟩ : Shape).Idx → EReal}
    (h0 : ∀ i, init i = 0) (h : (⟨4, ![A, B, C, N]⟩ : Shape).ReduceWindows (![1, 1, 1, N] : Fin 4 → ℕ) ![1, 1, 1, 1] ![0, 0, 0, lo] ![0, 0, 0, hi] ⟨4, ![A, B, C, N]⟩)
    (hu : 0 < (⟨0, ![]⟩ : Shape).numel) (i : (⟨4, ![A, B, C, N]⟩ : Shape).Idx) :
    (Host.reduceWindowAdd (F := Ideal) (φ := .f32) ![1, 1, 1, N] ![1, 1, 1, 1] ![0, 0, 0, lo] ![0, 0, 0, hi] x init h hu) i
      = ((∑ n ∈ Finset.range N, if lo ≤ (i 3).val + n ∧ (i 3).val + n - lo < N then f (i 1).val (i 2).val ((i 3).val + n - lo) else 0 : ℝ) : EReal) := by
  have hi0 : (i 0).val < A := (i 0).isLt
  have hi1 : (i 1).val < B := (i 1).isLt
  have hi2 : (i 2).val < C := (i 2).isLt
  show (List.finRange (⟨4, ![1, 1, 1, N]⟩ : Shape).numel).foldl _ (init (Shape.Idx.first hu)) = _
  rw [h0, ← EReal.coe_zero]
  refine (fold_real _ _ (fun n => if lo ≤ (i 3).val + n.val ∧ (i 3).val + n.val - lo < N then f (i 1).val (i 2).val ((i 3).val + n.val - lo) else 0) (fun n => ?_) 0).trans ?_
  · have hw := window_pos n
    dsimp only
    split
    · next hin =>
      have h3 := hin 3
      change lo ≤ (i 3).val * 1 + ((⟨4, ![1, 1, 1, N]⟩ : Shape).rowMajor.symm n 3).val
        ∧ (i 3).val * 1 + ((⟨4, ![1, 1, 1, N]⟩ : Shape).rowMajor.symm n 3).val - lo < N at h3
      rw [hw 3, if_pos rfl, mul_one] at h3
      rw [if_pos h3]
      refine (hx _).trans (congrArg (fun r : ℝ => (r : EReal)) ?_)
      show f ((i 1).val * 1 + ((⟨4, ![1, 1, 1, N]⟩ : Shape).rowMajor.symm n 1).val - 0) ((i 2).val * 1 + ((⟨4, ![1, 1, 1, N]⟩ : Shape).rowMajor.symm n 2).val - 0)
        ((i 3).val * 1 + ((⟨4, ![1, 1, 1, N]⟩ : Shape).rowMajor.symm n 3).val - lo) = _
      rw [hw 1, hw 2, hw 3, if_pos rfl, if_neg (by decide), if_neg (by decide)]
      simp only [mul_one, add_zero, Nat.sub_zero]
    · next hin =>
      rw [if_neg fun hle => hin fun a => by
        match a with
        | ⟨0, _⟩ =>
          show 0 ≤ (i 0).val * 1 + ((⟨4, ![1, 1, 1, N]⟩ : Shape).rowMajor.symm n 0).val ∧ (i 0).val * 1 + ((⟨4, ![1, 1, 1, N]⟩ : Shape).rowMajor.symm n 0).val - 0 < A
          rw [hw 0, if_neg (by decide)]; omega
        | ⟨1, _⟩ =>
          show 0 ≤ (i 1).val * 1 + ((⟨4, ![1, 1, 1, N]⟩ : Shape).rowMajor.symm n 1).val ∧ (i 1).val * 1 + ((⟨4, ![1, 1, 1, N]⟩ : Shape).rowMajor.symm n 1).val - 0 < B
          rw [hw 1, if_neg (by decide)]; omega
        | ⟨2, _⟩ =>
          show 0 ≤ (i 2).val * 1 + ((⟨4, ![1, 1, 1, N]⟩ : Shape).rowMajor.symm n 2).val ∧ (i 2).val * 1 + ((⟨4, ![1, 1, 1, N]⟩ : Shape).rowMajor.symm n 2).val - 0 < C
          rw [hw 2, if_neg (by decide)]; omega
        | ⟨3, _⟩ =>
          show lo ≤ (i 3).val * 1 + ((⟨4, ![1, 1, 1, N]⟩ : Shape).rowMajor.symm n 3).val ∧ (i 3).val * 1 + ((⟨4, ![1, 1, 1, N]⟩ : Shape).rowMajor.symm n 3).val - lo < N
          rw [hw 3, if_pos rfl]; omega]
  · rw [zero_add, ← Fin.sum_univ_def,
      Fin.sum_univ_eq_sum_range (fun n => if lo ≤ (i 3).val + n ∧ (i 3).val + n - lo < N then f (i 1).val (i 2).val ((i 3).val + n - lo) else 0), window_numel]

/-- The sum from a key to the last. -/
theorem window_after {A B C hi : ℕ} {x : (⟨4, ![A, B, C, N]⟩ : Shape).Idx → EReal} {f : ℕ → ℕ → ℕ → ℝ} (hx : Is4 x f) {init : (⟨0, ![]⟩ : Shape).Idx → EReal}
    (h0 : ∀ i, init i = 0) (h : (⟨4, ![A, B, C, N]⟩ : Shape).ReduceWindows (![1, 1, 1, N] : Fin 4 → ℕ) ![1, 1, 1, 1] ![0, 0, 0, 0] ![0, 0, 0, hi] ⟨4, ![A, B, C, N]⟩)
    (hu : 0 < (⟨0, ![]⟩ : Shape).numel) :
    Is4 (Host.reduceWindowAdd (F := Ideal) (φ := .f32) ![1, 1, 1, N] ![1, 1, 1, 1] ![0, 0, 0, 0] ![0, 0, 0, hi] x init h hu) (fun b c k => ∑ n ∈ Finset.Ico k N, f b c n) := fun i => by
  have hk : (i 3).val < N := (i 3).isLt
  rw [window_sum hx h0]
  congr 1
  dsimp only
  rw [Finset.sum_Ico_eq_sum_range, ← Finset.sum_subset (Finset.range_subset_range.mpr (Nat.sub_le N (i 3).val))]
  · refine Finset.sum_congr rfl fun n hn => ?_
    rw [Finset.mem_range] at hn
    rw [if_pos (by omega), Nat.sub_zero]
  · intro n _ hn
    rw [Finset.mem_range] at hn
    rw [if_neg (by omega)]

/-- The sum from the first key to a key. -/
theorem window_upto {A B C M : ℕ} (hM : M + 1 = N) {x : (⟨4, ![A, B, C, N]⟩ : Shape).Idx → EReal} {f : ℕ → ℕ → ℕ → ℝ} (hx : Is4 x f) {init : (⟨0, ![]⟩ : Shape).Idx → EReal}
    (h0 : ∀ i, init i = 0) (h : (⟨4, ![A, B, C, N]⟩ : Shape).ReduceWindows (![1, 1, 1, N] : Fin 4 → ℕ) ![1, 1, 1, 1] ![0, 0, 0, M] ![0, 0, 0, 0] ⟨4, ![A, B, C, N]⟩)
    (hu : 0 < (⟨0, ![]⟩ : Shape).numel) :
    Is4 (Host.reduceWindowAdd (F := Ideal) (φ := .f32) ![1, 1, 1, N] ![1, 1, 1, 1] ![0, 0, 0, M] ![0, 0, 0, 0] x init h hu) (fun b c k => ∑ n ∈ Finset.range (k + 1), f b c n) := fun i => by
  have hk : (i 3).val < N := (i 3).isLt
  rw [window_sum hx h0]
  congr 1
  have hs := Finset.sum_range_add (fun n => if M ≤ (i 3).val + n ∧ (i 3).val + n - M < N then f (i 1).val (i 2).val ((i 3).val + n - M) else 0) (M - (i 3).val) ((i 3).val + 1)
  rw [show M - (i 3).val + ((i 3).val + 1) = N by omega] at hs
  rw [hs, Finset.sum_eq_zero fun n hn => ?_, zero_add]
  · refine Finset.sum_congr rfl fun n hn => ?_
    rw [Finset.mem_range] at hn
    rw [if_pos (by omega), show (i 3).val + (M - (i 3).val + n) - M = n by omega]
  · rw [Finset.mem_range] at hn
    rw [if_neg (by omega)]

end Window

theorem une_self (x : EReal) : FloatOps.cmpf (F := Ideal) (φ := .f32) .une x x = 0#1 := by
  show Ideal.cmp .une x x = 0#1
  simp [Ideal.cmp]

/-- The host's softplus of a real. -/
theorem softplus_host {n o t : Ideal .f32} {r : ℝ} (hn : n = ((r : ℝ) : EReal)) (ho : o = (0 : EReal)) :
    Scalar.select (FloatOps.cmpf (F := Ideal) (φ := .f32) .une (FloatOps.subf n o) (FloatOps.subf n o)) t
      (FloatOps.addf (FloatOps.maximumf n o) (FloatOps.hostUnary .log1p (FloatOps.hostUnary .exp (FloatOps.hostNegf (FloatOps.hostAbsf (FloatOps.subf n o))))))
    = ((sp r : ℝ) : EReal) := by
  rw [une_self]
  show FloatOps.addf (F := Ideal) (φ := .f32) _ _ = _
  rw [hn, ho]
  show max ((r : ℝ) : EReal) 0 + Ideal.log (1 + Ideal.exp (-max (((r : ℝ) : EReal) - 0) (-(((r : ℝ) : EReal) - 0)))) = _
  rw [sub_zero, ← zero_sub (max ((r : ℝ) : EReal) (-((r : ℝ) : EReal)))]
  exact softplus_real r

/-- The softplus at the other sign. -/
theorem sp_neg (z : ℝ) : sp (-z) = sp z - z := by
  unfold sp
  rw [abs_neg]
  have : max (-z) 0 = max z 0 - z := by
    rcases le_total z 0 with h | h
    · rw [max_eq_left (by linarith), max_eq_right h]; ring
    · rw [max_eq_right (by linarith), max_eq_left h]; ring
  rw [this]
  ring

/-- The later keys' sum, by the sum from a key on. -/
theorem later_sum (z : ℕ → ℝ) {i k N : ℕ} (hk : k < i) (hi : i ≤ N) : (∑ n ∈ Finset.Ico k N, if n < i then -sp (z n) else 0) - -sp (z k) = R z i (k + 1) := by
  rw [← Finset.sum_Ico_consecutive _ hk.le hi, Finset.sum_eq_sum_Ico_succ_bot hk, if_pos hk, R]
  rw [Finset.sum_eq_zero (s := Finset.Ico i N) fun n hn => if_neg (by rw [Finset.mem_Ico] at hn; omega),
    Finset.sum_congr rfl (s₁ := Finset.Ico (k + 1) i) (g := fun n => -sp (z n)) fun n hn => if_pos (by rw [Finset.mem_Ico] at hn; omega), Finset.sum_neg_distrib]
  ring

/-- A choice by a bit that says `p`, between two reals. -/
theorem select_reals {p : Prop} [Decidable p] {w : BitVec 1} (hw : w = if p then 1#1 else 0#1) {x y : EReal} {r s : ℝ} (hx : p → x = ((r : ℝ) : EReal)) (hy : ¬p → y = ((s : ℝ) : EReal)) :
    Scalar.select w x y = (((if p then r else s : ℝ)) : EReal) := by
  subst hw
  by_cases hp : p
  · rw [if_pos hp, if_pos hp]; exact hx hp
  · rw [if_neg hp, if_neg hp]; exact hy hp

/-- Position words below 8192 compare as their positions. -/
theorem slt_word {k i : ℕ} (hk : k < 8192) (hi : i < 8192) : IntOp.cmpi CmpIPredicate.slt (BitVec.ofNat 32 k) (BitVec.ofNat 32 i) = if k < i then 1#1 else 0#1 := by
  rw [cmpi_slt_eq, toInt_ofNat_of_lt (by omega), toInt_ofNat_of_lt (by omega)]
  have : ((k : ℤ) < i) ↔ k < i := Int.ofNat_lt
  rw [← bit_ite]
  congr 1
  exact decide_eq_decide.mpr this

end Cert.Tiles

end
-- ==== Proof.WalkRead.lean ====
/- The forward reference over the reals: stick-breaking attention as sums over the keys. -/
module

public import proofs.«01_k».proof.Defs
public import proofs.«01_k».proof.Proof.Gen.WalkRefIdeal.Read
public import proofs.«01_k».proof.Proof.Folds

@[expose] public section

set_option maxRecDepth 16384

noncomputable section

namespace Cert.WalkRefIdeal.Hand

open Cert.WalkRefIdeal Cert.WalkRefIdeal.Gen Cert.WalkRefIdeal.Read
open Cert.Tiles (Is Is4 sp A R hscore hout)
open Idealize.ShloMosaic Idealize.ShloMosaic.WordCmp

variable {x0 x1 x2 : (⟨S8192x768, .f32⟩ : BufTy).Contents (Elt Ideal)} {q k v : ℕ → ℕ → ℝ}
  (hq : Is (a := 8192) (b := 768) x0 q) (hk : Is (a := 8192) (b := 768) x1 k) (hv : Is (a := 8192) (b := 768) x2 v)

/-- The heads taken apart. -/
theorem apart_at {x : S8192x768.Idx → EReal} {f : ℕ → ℕ → ℝ} (h : Is (a := 8192) (b := 768) x f) (i : S1x8192x12x64.Idx) :
    x (idx_main_v0 i) = ((f (i 1).val (64 * (i 2).val + (i 3).val) : ℝ) : EReal) := by
  have h0 : (i 0).val < 1 := (i 0).isLt
  have h1 : (i 1).val < 8192 := (i 1).isLt
  have h2 : (i 2).val < 12 := (i 2).isLt
  have h3 : (i 3).val < 64 := (i 3).isLt
  refine (h.at _).trans (congrArg₂ (fun a b => ((f a b : ℝ) : EReal)) ?_ ?_)
  · show ((((i 0).val * 8192 + (i 1).val) * 12 + (i 2).val) * 64 + (i 3).val) / 768 = (i 1).val
    omega
  · show ((((i 0).val * 8192 + (i 1).val) * 12 + (i 2).val) * 64 + (i 3).val) % 768 = 64 * (i 2).val + (i 3).val
    omega

include hq hk

theorem v6_is : Is4 (a := 1) (b := 12) (c := 8192) (d := 8192) (val_main_v6 (F := Ideal) x0 x1) (hscore q k) := fun i => by
  rw [val_main_v6_apply, val_main_v4_apply, val_main_v5_apply, val_main_cst_apply,
    Cert.Tiles.sum_fin _ (fun e => q (i 2).val (64 * (i 1).val + e) * k (i 3).val (64 * (i 1).val + e)) fun e => ?_]
  · show (_ : EReal) * Ideal.ofBits .f32 1040187392#32 = _
    rw [Cert.Tiles.eighth, ← EReal.coe_mul]
    rfl
  · rw [val_main_v0_apply, val_main_v1_apply, EReal.coe_mul]
    exact congrArg₂ (· * ·) (apart_at hq _) (apart_at hk _)

/-- The softplus of a score's negative, and of the score. -/
theorem soft0_is : Is4 (a := 1) (b := 12) (c := 8192) (d := 8192) (val_main_call0_v1 (F := Ideal) x0 x1) (fun h i j => sp (-hscore q k h i j)) := fun i => by
  have hz := v6_is hq hk i
  simp only [val_main_call0_v1_apply, val_main_call0_call0_v4_apply, val_main_call0_call0_v3_apply, val_main_call0_call0_v11_apply, val_main_call0_call0_v1_apply,
    val_main_call0_call0_v10_apply, val_main_call0_call0_v9_apply, val_main_call0_call0_v8_apply, val_main_call0_call0_v7_apply, val_main_call0_call0_v2_apply, val_main_call0_call0_v0_apply,
    val_main_call0_call0_cst_apply, val_main_call0_v0_apply, hz]
  exact Cert.Tiles.softplus_host (r := -hscore q k (i 1).val (i 2).val (i 3).val) (n := FloatOps.hostNegf _) (o := FloatOps.ofBits .f32 0#32) (EReal.coe_neg _).symm Ideal.ofBits_zero_f32

theorem soft1_is : Is4 (a := 1) (b := 12) (c := 8192) (d := 8192) (val_main_call1_v1 (F := Ideal) x0 x1) (fun h i j => sp (hscore q k h i j)) := fun i => by
  have hz := v6_is hq hk i
  simp only [val_main_call1_v1_apply, val_main_call1_call0_v4_apply, val_main_call1_call0_v3_apply, val_main_call1_call0_v11_apply, val_main_call1_call0_v1_apply,
    val_main_call1_call0_v10_apply, val_main_call1_call0_v9_apply, val_main_call1_call0_v8_apply, val_main_call1_call0_v7_apply, val_main_call1_call0_v2_apply, val_main_call1_call0_v0_apply,
    val_main_call1_call0_cst_apply, val_main_call1_v0_apply, val_main_v13_apply, hz]
  exact Cert.Tiles.softplus_host (r := hscore q k (i 1).val (i 2).val (i 3).val) (n := FloatOps.hostNegf (FloatOps.hostNegf _)) (o := FloatOps.ofBits .f32 0#32) (neg_neg _) Ideal.ofBits_zero_f32

/-- The logarithm of the sigmoid of a score, and of its negative. -/
theorem v12_is : Is4 (a := 1) (b := 12) (c := 8192) (d := 8192) (val_main_v12 (F := Ideal) x0 x1) (fun h i j => hscore q k h i j - sp (hscore q k h i j)) := fun i => by
  rw [val_main_v12_apply, soft0_is hq hk i]
  show -(_ : EReal) = _
  rw [← EReal.coe_neg]
  refine congrArg (fun r : ℝ => (r : EReal)) ?_
  dsimp only
  rw [Cert.Tiles.sp_neg]
  ring

theorem v14_is : Is4 (a := 1) (b := 12) (c := 8192) (d := 8192) (val_main_v14 (F := Ideal) x0 x1) (fun h i j => -sp (hscore q k h i j)) := fun i => by
  rw [val_main_v14_apply, soft1_is hq hk i]
  exact (EReal.coe_neg _).symm

omit hq hk in
/-- The mask: keys before the query. -/
theorem mask_at (i : S8192x8192.Idx) : val_main_v11 (F := Ideal) i = if (i 1).val < (i 0).val then 1#1 else 0#1 := by
  simp only [val_main_v11_apply, val_main_v9_apply, val_main_v10_apply, val_main_v7_apply, val_main_v8_apply, val_main_v3_apply]
  exact Cert.Tiles.slt_word (i 1).isLt (i 0).isLt

theorem v15_is : Is4 (a := 1) (b := 12) (c := 8192) (d := 8192) (val_main_v15 (F := Ideal) x0 x1) (fun h i j => if j < i then -sp (hscore q k h i j) else 0) := fun i => by
  rw [val_main_v15_apply, val_main_call2_v1_apply, val_main_call2_v2_apply]
  exact Cert.Tiles.select_reals (mask_at _) (fun _ => v14_is hq hk i) (fun _ => Ideal.ofBits_zero_f32)

/-- The sum over the later keys before the query. -/
theorem v17_is : Is4 (a := 1) (b := 12) (c := 8192) (d := 8192) (val_main_v17 (F := Ideal) x0 x1)
    (fun h i j => (∑ n ∈ Finset.Ico j 8192, if n < i then -sp (hscore q k h i n) else 0) - if j < i then -sp (hscore q k h i j) else 0) := fun i => by
  rw [val_main_v17_apply, v15_is hq hk i]
  unfold val_main_v16
  show (_ : EReal) - _ = _
  rw [Cert.Tiles.window_after (v15_is hq hk) (fun i => (val_main_call3_v0_apply i).trans ((val_main_call3_cst_apply _).trans Ideal.ofBits_zero_f32)) _ _ i, ← EReal.coe_sub]

/-- The weight before the mask. -/
theorem v19_is : Is4 (a := 1) (b := 12) (c := 8192) (d := 8192) (val_main_v19 (F := Ideal) x0 x1) (fun h i j => Real.exp (hscore q k h i j - sp (hscore q k h i j)
    + ((∑ n ∈ Finset.Ico j 8192, if n < i then -sp (hscore q k h i n) else 0) - if j < i then -sp (hscore q k h i j) else 0))) := fun i => by
  rw [val_main_v19_apply, val_main_v18_apply, v12_is hq hk i, v17_is hq hk i, Ideal.hostUnary_exp_def, Ideal.addf_def, ← EReal.coe_add, Cert.Tiles.exp_is]

omit hq hk in
/-- Before the query it is the attention's. -/
theorem weight_eq {z : ℕ → ℝ} {i j : ℕ} (hlt : j < i) (hi : i ≤ 8192) :
    Real.exp (z j - sp (z j) + ((∑ n ∈ Finset.Ico j 8192, if n < i then -sp (z n) else 0) - if j < i then -sp (z j) else 0)) = A z i j := by
  rw [A, if_pos hlt, if_pos hlt, Cert.Tiles.later_sum _ hlt hi]

theorem v20_is : Is4 (a := 1) (b := 12) (c := 8192) (d := 8192) (val_main_v20 (F := Ideal) x0 x1) (fun h i j => A (hscore q k h i) i j) := fun i => by
  rw [val_main_v20_apply, val_main_call4_v1_apply, val_main_call4_v2_apply, v19_is hq hk i]
  have hi : (i 2).val < 8192 := (i 2).isLt
  refine (Cert.Tiles.select_reals (mask_at _) (fun _ => rfl) (fun _ => Ideal.ofBits_zero_f32)).trans (congrArg _ ?_)
  show (if (i 3).val < (i 2).val then _ else _) = _
  split
  · rename_i hlt
    exact weight_eq (z := hscore q k (i 1).val (i 2).val) hlt hi.le
  · rename_i hn
    exact (Cert.Tiles.A_late _ (not_lt.mp hn)).symm

include hv

theorem v21_is : Is4 (a := 1) (b := 12) (c := 64) (d := 8192) (val_main_v21 (F := Ideal) x0 x1 x2)
    (fun h e i => ∑ j ∈ Finset.range 8192, v j (64 * h + e) * A (hscore q k h i) i j) := fun i => by
  rw [val_main_v21_apply]
  refine Cert.Tiles.sum_fin _ (fun j => v j (64 * (i 1).val + (i 2).val) * A (hscore q k (i 1).val (i 3).val) (i 3).val j) fun j => ?_
  rw [val_main_v2_apply, v20_is hq hk, EReal.coe_mul]
  exact congrArg₂ (· * ·) (apart_at hv _) rfl

/-- The reference's output. -/
theorem v24_is : Is (a := 8192) (b := 768) (val_main_v24 (F := Ideal) x0 x1 x2) (hout q k v) := fun i j => by
  have hi := i.isLt
  have hj := j.isLt
  rw [val_main_v24_apply, val_main_v23_apply, val_main_v22_apply, v21_is hq hk hv]
  congr 1
  show (∑ n ∈ Finset.range 8192, v n (64 * (((0 * 8192 + (i.val * 768 + j.val) / 768 % 8192) * 768 + (i.val * 768 + j.val) % 768) / 64 % 12)
      + ((0 * 8192 + (i.val * 768 + j.val) / 768 % 8192) * 768 + (i.val * 768 + j.val) % 768) % 64)
    * A (hscore q k (((0 * 8192 + (i.val * 768 + j.val) / 768 % 8192) * 768 + (i.val * 768 + j.val) % 768) / 64 % 12)
        (((0 * 8192 + (i.val * 768 + j.val) / 768 % 8192) * 768 + (i.val * 768 + j.val) % 768) / 768 % 8192))
      (((0 * 8192 + (i.val * 768 + j.val) / 768 % 8192) * 768 + (i.val * 768 + j.val) % 768) / 768 % 8192) n) = _
  rw [show ((0 * 8192 + (i.val * 768 + j.val) / 768 % 8192) * 768 + (i.val * 768 + j.val) % 768) / 64 % 12 = j.val / 64 by omega,
    show ((0 * 8192 + (i.val * 768 + j.val) / 768 % 8192) * 768 + (i.val * 768 + j.val) % 768) / 768 % 8192 = i.val by omega,
    show 64 * (j.val / 64) + ((0 * 8192 + (i.val * 768 + j.val) / 768 % 8192) * 768 + (i.val * 768 + j.val) % 768) % 64 = j.val by omega]
  exact Finset.sum_congr rfl fun n _ => mul_comm _ _

end Cert.WalkRefIdeal.Hand

end
-- ==== Proof.Grads.lean ====
/- The backward walk's sums over the reals: the gradients of the attention, query block by query
   block. -/
module

public import proofs.«01_k».proof.Proof.Ends

@[expose] public section

set_option maxRecDepth 16384

noncomputable section

namespace Cert.Tiles

/-- What a query's row carries in all. -/
def htotal (q x v g : ℕ → ℕ → ℝ) (h i : ℕ) : ℝ := ∑ n ∈ Finset.range 8192, A (hscore q x h i) i n * hdot g v h i n

/-- The gradient of a score: query `i` and key `k` of head `h`. -/
def hgrad (q x v g : ℕ → ℕ → ℝ) (h i k : ℕ) : ℝ := C (hscore q x h i) (hdot g v h i) (htotal q x v g h i) i k

/-- The three gradients; those of the keys and values up to a query. -/
def gradQ (q x v g : ℕ → ℕ → ℝ) (i j : ℕ) : ℝ := ∑ k ∈ Finset.range 8192, hgrad q x v g (j / 64) i k * (1 / 8) * x k j
def partK (q x v g : ℕ → ℕ → ℝ) (n k j : ℕ) : ℝ := ∑ i ∈ Finset.range n, hgrad q x v g (j / 64) i k * (1 / 8) * q i j
def partV (q x g : ℕ → ℕ → ℝ) (n k j : ℕ) : ℝ := ∑ i ∈ Finset.range n, g i j * A (hscore q x (j / 64) i) i k

/-- The rows of one head among the chains are the block's rows. -/
theorem sum_chains (f : ℕ → ℝ) (b : ℕ) (hb : b < 2) :
    (∑ r ∈ Finset.range 512, if r / 128 % 2 = b then f (128 * (r / 256) + r % 128) else 0) = ∑ i ∈ Finset.range 256, f i := by
  have split4 : ∀ F : ℕ → ℝ, ∑ r ∈ Finset.range 512, F r = ∑ s ∈ Finset.range 128, (F s + F (128 + s) + F (256 + s) + F (384 + s)) := fun F => by
    rw [show 512 = 128 + 128 + 128 + 128 from rfl, Finset.sum_range_add, Finset.sum_range_add, Finset.sum_range_add]
    simp only [Finset.sum_add_distrib]
  rw [split4, show 256 = 128 + 128 from rfl, Finset.sum_range_add, ← Finset.sum_add_distrib]
  refine Finset.sum_congr rfl fun s hs => ?_
  rw [Finset.mem_range] at hs
  rw [show s / 128 % 2 = 0 by omega, show (128 + s) / 128 % 2 = 1 by omega, show (256 + s) / 128 % 2 = 0 by omega, show (384 + s) / 128 % 2 = 1 by omega,
    show 128 * (s / (128 + 128)) + s % 128 = s by omega, show 128 * ((128 + s) / (128 + 128)) + (128 + s) % 128 = s by omega,
    show 128 * ((256 + s) / (128 + 128)) + (256 + s) % 128 = 128 + s by omega, show 128 * ((384 + s) / (128 + 128)) + (384 + s) % 128 = 128 + s by omega]
  interval_cases b <;> simp

variable (q x v g : ℕ → ℕ → ℝ) (N P : ℕ)

/-- A chain's total is its row's. -/
theorem total_eq (r : ℕ) (hr : r < 512) :
    (∑ d ∈ Finset.range 128, pick (fun i d => g (256 * N + i) (128 * P + d) * hout q x v (256 * N + i) (128 * P + d)) r d)
      = htotal q x v g (2 * P + r / 128 % 2) (qi N r) := by
  have h := sum_pick (fun i d => g (256 * N + i) (128 * P + d) * hout q x v (256 * N + i) (128 * P + d)) (fun _ _ => 1) r 0 hr
  simp only [mul_one] at h
  rw [h]
  unfold htotal hout
  have hi : 256 * N + (128 * (r / 256) + r % 128) = qi N r := by unfold qi; omega
  rw [hi]
  have : ∀ e ∈ Finset.range 64, g (qi N r) (128 * P + (64 * (r / 128 % 2) + e))
        * ∑ k ∈ Finset.range 8192, A (hscore q x ((128 * P + (64 * (r / 128 % 2) + e)) / 64) (qi N r)) (qi N r) k * v k (128 * P + (64 * (r / 128 % 2) + e))
      = ∑ k ∈ Finset.range 8192, A (hscore q x (2 * P + r / 128 % 2) (qi N r)) (qi N r) k
          * (g (qi N r) (64 * (2 * P + r / 128 % 2) + e) * v k (64 * (2 * P + r / 128 % 2) + e)) := fun e he => by
    rw [Finset.mem_range] at he
    rw [show (128 * P + (64 * (r / 128 % 2) + e)) / 64 = 2 * P + r / 128 % 2 by omega, show 128 * P + (64 * (r / 128 % 2) + e) = 64 * (2 * P + r / 128 % 2) + e by omega, Finset.mul_sum]
    exact Finset.sum_congr rfl fun k _ => by ring
  rw [Finset.sum_congr rfl this, Finset.sum_comm]
  refine Finset.sum_congr rfl fun k _ => ?_
  rw [← Finset.mul_sum]
  rfl

/-- The chains of a block: its queries, scaled, and its cotangent. -/
abbrev chainQ : ℕ → ℕ → ℝ := pick fun i d => q (256 * N + i) (128 * P + d) * (1 / 8)
abbrev chainG : ℕ → ℕ → ℝ := pick fun i d => g (256 * N + i) (128 * P + d)
abbrev cols : ℕ → ℕ → ℝ := fun k d => x k (128 * P + d)
abbrev chainT : ℕ → ℝ := fun r => ∑ d ∈ Finset.range 128, pick (fun i d => g (256 * N + i) (128 * P + d) * hout q x v (256 * N + i) (128 * P + d)) r d

theorem sgrad_eq (r k : ℕ) (hr : r < 512) :
    sgrad (chainQ q N P) (chainG g N P) (cols x P) (cols v P) (chainT q x v g N P) N r k = hgrad q x v g (2 * P + r / 128 % 2) (qi N r) k := by
  unfold sgrad hgrad
  rw [show score (chainQ q N P) (cols x P) r = hscore q x (2 * P + r / 128 % 2) (qi N r) from funext fun k => score_eq q x N P r k hr,
    show score (chainG g N P) (cols v P) r = hdot g v (2 * P + r / 128 % 2) (qi N r) from funext fun k => dot_eq g v N P r k hr,
    show chainT q x v g N P r = _ from total_eq q x v g N P r hr]

/-- The rows of the queries' gradient. -/
theorem rows_grad (i d : ℕ) (hN : N < 32) (hi : i < 256) (hd : d < 128) :
    unite (gradFrom (chainQ q N P) (chainG g N P) (cols x P) (cols v P) (chainT q x v g N P) N 0) i d * (1 / 8)
      = gradQ q x v g (256 * N + i) (128 * P + d) := by
  unfold unite gradFrom gradQ
  have hr : 256 * (i / 128) + 128 * (d / 64) + i % 128 < 512 := by omega
  rw [sum_keys _ N hN fun k hk => by rw [sgrad, C_late _ _ _ ((qi_lt N _ hr).le.trans hk), zero_mul], Finset.sum_mul]
  refine Finset.sum_congr rfl fun k _ => ?_
  rw [sgrad_eq q x v g N P _ _ hr, show 2 * P + (256 * (i / 128) + 128 * (d / 64) + i % 128) / 128 % 2 = (128 * P + d) / 64 by omega,
    show qi N (256 * (i / 128) + 128 * (d / 64) + i % 128) = 256 * N + i by unfold qi; omega]
  ring

theorem rows_K (k d : ℕ) (hd : d < 128) :
    partK q x v g (256 * N) k (128 * P + d) + addK (chainQ q N P) (chainG g N P) (cols x P) (cols v P) (chainT q x v g N P) N k d
      = partK q x v g (256 * (N + 1)) k (128 * P + d) := by
  unfold partK addK
  rw [Nat.mul_succ, Finset.sum_range_add, ← sum_chains (fun i => hgrad q x v g ((128 * P + d) / 64) (256 * N + i) k * (1 / 8) * q (256 * N + i) (128 * P + d)) (d / 64) (by omega)]
  refine congrArg _ (Finset.sum_congr rfl fun r hr => ?_)
  rw [Finset.mem_range] at hr
  rw [sgrad_eq q x v g N P _ _ hr]
  show _ * pick _ r d = _
  unfold pick
  split
  · rw [show 2 * P + r / 128 % 2 = (128 * P + d) / 64 by omega, show qi N r = 256 * N + (128 * (r / 256) + r % 128) by unfold qi; omega]
    ring
  · rw [mul_zero]

theorem rows_V (k d : ℕ) (hd : d < 128) :
    partV q x g (256 * N) k (128 * P + d) + addV (chainQ q N P) (chainG g N P) (cols x P) N k d = partV q x g (256 * (N + 1)) k (128 * P + d) := by
  unfold partV addV
  rw [Nat.mul_succ, Finset.sum_range_add, ← sum_chains (fun i => g (256 * N + i) (128 * P + d) * A (hscore q x ((128 * P + d) / 64) (256 * N + i)) (256 * N + i) k) (d / 64) (by omega)]
  refine congrArg _ (Finset.sum_congr rfl fun r hr => ?_)
  rw [Finset.mem_range] at hr
  rw [show score (chainQ q N P) (cols x P) r = hscore q x (2 * P + r / 128 % 2) (qi N r) from funext fun k => score_eq q x N P r k hr]
  show _ * pick _ r d = _
  unfold pick
  split
  · rw [show 2 * P + r / 128 % 2 = (128 * P + d) / 64 by omega, show qi N r = 256 * N + (128 * (r / 256) + r % 128) by unfold qi; omega]
    ring
  · rw [mul_zero]

end Cert.Tiles

end
-- ==== Proof.StickRead.lean ====
/- The backward reference over the reals: the derivative of the attention, as sums over the keys and
   the queries. -/
module

public import proofs.«01_k».proof.Defs
public import proofs.«01_k».proof.Proof.Gen.StickRefIdeal.Read
public import proofs.«01_k».proof.Proof.WalkRead
public import proofs.«01_k».proof.Proof.Grads

@[expose] public section

set_option maxRecDepth 16384

noncomputable section

namespace Cert.StickRefIdeal.Hand

open Cert.StickRefIdeal Cert.StickRefIdeal.Gen Cert.StickRefIdeal.Read
open Cert.Tiles (Is Is4 sp A R C Sn hscore hdot hout hgrad gradQ partK partV)
open Idealize.ShloMosaic Idealize.ShloMosaic.WordCmp

variable {x0 x1 x2 x3 : (⟨S8192x768, .f32⟩ : BufTy).Contents (Elt Ideal)} {q k v g : ℕ → ℕ → ℝ}
  (hq : Is (a := 8192) (b := 768) x0 q) (hk : Is (a := 8192) (b := 768) x1 k) (hv : Is (a := 8192) (b := 768) x2 v)
  (hg : Is (a := 8192) (b := 768) x3 g)

/-! ## The lines of the forward pass are the forward reference's -/

theorem same19 : val_main_v19 (F := Ideal) x0 x1 = Cert.WalkRefIdeal.Read.val_main_v19 (F := Ideal) x0 x1 := rfl
theorem same20 : val_main_v20_0 (F := Ideal) x0 x1 = Cert.WalkRefIdeal.Read.val_main_v20 (F := Ideal) x0 x1 := rfl

/-- The host's comparison of a real with the infinite one. -/
theorem not_top {n : Ideal .f32} {r : ℝ} (hn : n = ((r : ℝ) : EReal)) : FloatOps.cmpf (F := Ideal) .oeq n (FloatOps.ofBits .f32 0x7F800000#32) = 0#1 := by
  have ht : (FloatOps.ofBits .f32 0x7F800000#32 : Ideal .f32) = (⊤ : EReal) := by
    show Ideal.ofBits .f32 0x7F800000#32 = _
    simp [Ideal.ofBits, Ideal.ieee]
  rw [ht, hn]
  show Ideal.cmp .oeq ((r : ℝ) : EReal) ⊤ = 0#1
  simp [Ideal.cmp]

/-- What the softplus keeps for its derivative. -/
theorem kept_exp {n s a b : Ideal .f32} {r u : ℝ} (hn : n = ((r : ℝ) : EReal)) (hs : s = ((u : ℝ) : EReal)) :
    FloatOps.hostUnary .exp (FloatOps.subf (Scalar.select (FloatOps.cmpf (F := Ideal) .oeq n (FloatOps.ofBits .f32 0x7F800000#32)) a n)
      (Scalar.select (FloatOps.cmpf (F := Ideal) .oeq s (FloatOps.ofBits .f32 0x7F800000#32)) b s)) = ((Real.exp (r - u) : ℝ) : EReal) := by
  rw [not_top hn, not_top hs]
  show FloatOps.hostUnary .exp (FloatOps.subf n s) = _
  rw [Ideal.hostUnary_exp_def, hn, hs]
  show Ideal.exp (((r : ℝ) : EReal) - ((u : ℝ) : EReal)) = _
  rw [← EReal.coe_sub, Cert.Tiles.exp_is]

/-- What is not carried by the keys from `k` on is carried by those before. -/
theorem before_eq (z d : ℕ → ℝ) {i k N : ℕ} (hk : k ≤ i) (hi : i ≤ N) :
    (∑ n ∈ Finset.range N, A z i n * d n) - Sn z d i k = ∑ n ∈ Finset.range k, A z i n * d n := by
  have h1 := Finset.sum_range_add_sum_Ico (fun n => A z i n * d n) hk
  have h2 := Finset.sum_range_add_sum_Ico (fun n => A z i n * d n) hi
  rw [Finset.sum_eq_zero (s := Finset.Ico i N) fun n hn => by rw [Cert.Tiles.A_late _ (by rw [Finset.mem_Ico] at hn; exact hn.1), zero_mul]] at h2
  unfold Sn
  linarith

include hq hk

theorem v12_1_is : Is4 (a := 1) (b := 12) (c := 8192) (d := 8192) (val_main_v12_1 (F := Ideal) x0 x1) (fun h i j => Real.exp (-sp (hscore q k h i j))) := fun i => by
  have hz : val_main_v6 (F := Ideal) x0 x1 i = _ := Cert.WalkRefIdeal.Hand.v6_is hq hk i
  have hs : val_main_call0_v1_0 (F := Ideal) x0 x1 i = _ := Cert.WalkRefIdeal.Hand.soft0_is hq hk i
  simp only [val_main_v12_1_apply, val_main_call0_call0_v21_apply, val_main_call0_call0_v20_apply, val_main_call0_call0_v18_apply, val_main_call0_call0_v17_apply, val_main_call0_call0_v16_apply,
    val_main_call0_call0_v14_apply, val_main_call0_call0_v13_apply, val_main_call0_call0_cst_0_apply, val_main_call0_call0_cst_2_apply, val_main_call0_v0_apply]
  rw [kept_exp (r := -hscore q k (i 1).val (i 2).val (i 3).val) (by rw [hz]; exact (EReal.coe_neg _).symm) hs]
  dsimp only
  rw [Cert.Tiles.sp_neg]
  refine congrArg (fun r : ℝ => ((Real.exp r : ℝ) : EReal)) ?_
  ring

theorem v14_1_is : Is4 (a := 1) (b := 12) (c := 8192) (d := 8192) (val_main_v14_1 (F := Ideal) x0 x1) (fun h i j => Real.exp (hscore q k h i j - sp (hscore q k h i j))) := fun i => by
  have hz : val_main_v6 (F := Ideal) x0 x1 i = _ := Cert.WalkRefIdeal.Hand.v6_is hq hk i
  have hs : val_main_call1_v1_0 (F := Ideal) x0 x1 i = _ := Cert.WalkRefIdeal.Hand.soft1_is hq hk i
  simp only [val_main_v14_1_apply, val_main_call1_call0_v21_apply, val_main_call1_call0_v20_apply, val_main_call1_call0_v18_apply, val_main_call1_call0_v17_apply, val_main_call1_call0_v16_apply,
    val_main_call1_call0_v14_apply, val_main_call1_call0_v13_apply, val_main_call1_call0_cst_0_apply, val_main_call1_call0_cst_2_apply, val_main_call1_v0_apply, val_main_v13_apply]
  exact kept_exp (r := hscore q k (i 1).val (i 2).val (i 3).val) (by rw [hz]; exact neg_neg _) hs

omit hq hk
include hg

theorem v26_at (i : S1x8192x12x64.Idx) : val_main_v26 (F := Ideal) x3 i = ((g (i 1).val (64 * (i 2).val + (i 3).val) : ℝ) : EReal) := by
  rw [val_main_v26_apply, val_main_v25_apply]
  have h0 : (i 0).val < 1 := (i 0).isLt
  have h1 : (i 1).val < 8192 := (i 1).isLt
  have h2 : (i 2).val < 12 := (i 2).isLt
  have h3 : (i 3).val < 64 := (i 3).isLt
  refine (hg.at _).trans (congrArg₂ (fun a b => ((g a b : ℝ) : EReal)) ?_ ?_)
  · show ((((i 0).val * 8192 + (i 1).val) * 12 + (i 2).val) * 64 + (i 3).val) / 768 % 8192 = (i 1).val
    omega
  · show ((((i 0).val * 8192 + (i 1).val) * 12 + (i 2).val) * 64 + (i 3).val) % 768 = 64 * (i 2).val + (i 3).val
    omega

include hv

/-- The gradient of a weight. -/
theorem v28_is : Is4 (a := 1) (b := 12) (c := 8192) (d := 8192) (val_main_v28 (F := Ideal) x2 x3) (hdot g v) := fun i => by
  rw [val_main_v28_apply]
  refine Cert.Tiles.sum_fin _ (fun e => g (i 2).val (64 * (i 1).val + e) * v (i 3).val (64 * (i 1).val + e)) fun e => ?_
  rw [val_main_v27_apply, val_main_v2_apply, v26_at hg, EReal.coe_mul]
  exact congrArg₂ (· * ·) rfl (Cert.WalkRefIdeal.Hand.apart_at hv _)

include hq hk

theorem v32_is : Is4 (a := 1) (b := 12) (c := 8192) (d := 8192) (val_main_v32 (F := Ideal) x0 x1 x2 x3) (fun h i j => A (hscore q k h i) i j * hdot g v h i j) := fun i => by
  rw [val_main_v32_apply, val_main_v31_apply, val_main_v20_1_apply, v28_is hv hg i, same19, Cert.WalkRefIdeal.Hand.v19_is hq hk i, val_main_call5_v0_apply]
  have hi : (i 2).val < 8192 := (i 2).isLt
  rw [Cert.Tiles.select_reals (p := (i 3).val < (i 2).val) (r := hdot g v (i 1).val (i 2).val (i 3).val) (s := 0) (w := val_main_v11 (F := Ideal) (idx_main_v20_1 i))
    (y := val_main_call5_cst (F := Ideal) (idx_main_call5_v0 i)) (Cert.WalkRefIdeal.Hand.mask_at _) (fun _ => rfl) (fun _ => (val_main_call5_cst_apply _).trans Ideal.ofBits_zero_f32)]
  refine (EReal.coe_mul _ _).symm.trans (congrArg _ ?_)
  dsimp only
  by_cases hlt : (i 3).val < (i 2).val
  · rw [if_pos hlt, Cert.WalkRefIdeal.Hand.weight_eq (z := hscore q k (i 1).val (i 2).val) hlt hi.le, mul_comm]
  · rw [if_neg hlt, Cert.Tiles.A_late _ (not_lt.mp hlt), zero_mul, zero_mul]

theorem v35_is : Is4 (a := 1) (b := 12) (c := 8192) (d := 8192) (val_main_v35 (F := Ideal) x0 x1 x2 x3) (fun h i j => ∑ n ∈ Finset.range j, A (hscore q k h i) i n * hdot g v h i n) := fun i => by
  rw [val_main_v35_apply, val_main_v33_apply, v32_is hq hk hv hg i]
  unfold val_main_v34
  show -(_ : EReal) + _ = _
  rw [Cert.Tiles.window_upto (M := 8191) rfl (v32_is hq hk hv hg) (fun i => (val_main_call6_v0_apply i).trans ((val_main_call6_cst_apply _).trans Ideal.ofBits_zero_f32)) _ _ i, ← EReal.coe_neg, ← EReal.coe_add]
  congr 1
  dsimp only
  rw [Finset.sum_range_succ]
  ring

/-- The gradient of a score, with the scale. -/
theorem v42_is : Is4 (a := 1) (b := 12) (c := 8192) (d := 8192) (val_main_v42 (F := Ideal) x0 x1 x2 x3) (fun h i j => hgrad q k v g h i j * (1 / 8)) := fun i => by
  simp only [val_main_v42_apply, val_main_v41_apply, val_main_cst_2_apply, val_main_v40_apply, val_main_v39_apply, val_main_v38_apply, val_main_v37_apply, val_main_v36_apply,
    val_main_call9_v1_apply, val_main_call9_v0_apply, val_main_call8_v1_apply, val_main_call8_v0_apply, val_main_call7_v0_apply, val_main_v15_1_apply, v12_1_is hq hk i, v14_1_is hq hk i, v32_is hq hk hv hg i, v35_is hq hk hv hg i]
  have hi : (i 2).val < 8192 := (i 2).isLt
  rw [Cert.Tiles.select_reals (p := (i 3).val < (i 2).val) (s := 0) (w := val_main_v11 (F := Ideal) (idx_main_v15_1 i))
    (y := val_main_call7_cst (F := Ideal) (idx_main_call7_v0 i)) (Cert.WalkRefIdeal.Hand.mask_at _) (fun _ => rfl) (fun _ => (val_main_call7_cst_apply _).trans Ideal.ofBits_zero_f32)]
  show (-(-((-(_ : EReal)) * _)) + -((-(_ : EReal)) * _)) * Ideal.ofBits .f32 1040187392#32 = _
  rw [Cert.Tiles.eighth]
  simp only [← EReal.coe_neg, ← EReal.coe_mul, ← EReal.coe_add]
  congr 2
  unfold hgrad Cert.Tiles.htotal C
  by_cases hlt : (i 3).val < (i 2).val
  · rw [if_pos hlt, if_pos hlt]
    rw [before_eq _ _ hlt.le hi.le]
    ring
  · rw [if_neg hlt, if_neg hlt, Cert.Tiles.A_late _ (not_lt.mp hlt)]
    ring

omit hq hk hv hg in
/-- Where an entry of the gathered heads is. -/
theorem gathered (i : Fin 8192) (j : Fin 768) : (i.val * 768 + j.val) / 768 % 8192 = i.val ∧ (i.val * 768 + j.val) / 64 % 12 = j.val / 64
    ∧ 64 * (j.val / 64) + (i.val * 768 + j.val) % 64 = j.val := by
  have hi := i.isLt
  have hj := j.isLt
  omega

omit hv in
/-- The weights against the cotangent. -/
theorem v47_is : Is (a := 8192) (b := 768) (val_main_v47 (F := Ideal) x0 x1 x3) (partV q k g 8192) := fun i j => by
  obtain ⟨e1, e2, e3⟩ := gathered i j
  rw [val_main_v47_apply, val_main_v30_apply, val_main_v29_apply]
  refine Cert.Tiles.sum_fin _ (fun n => g n j.val * A (hscore q k (j.val / 64) n) n i.val) fun n => ?_
  rw [val_main_v27_apply, v26_at hg, same20, Cert.WalkRefIdeal.Hand.v20_is hq hk, EReal.coe_mul]
  show ((g n.val (64 * ((i.val * 768 + j.val) / 64 % 12) + (i.val * 768 + j.val) % 64) : ℝ) : EReal)
    * ((A (hscore q k ((i.val * 768 + j.val) / 64 % 12) n.val) n.val ((i.val * 768 + j.val) / 768 % 8192) : ℝ) : EReal) = _
  rw [e1, e2, e3]

/-- The scores' gradients against the queries and against the keys. -/
theorem v48_is : Is (a := 8192) (b := 768) (val_main_v48 (F := Ideal) x0 x1 x2 x3) (partK q k v g 8192) := fun i j => by
  obtain ⟨e1, e2, e3⟩ := gathered i j
  rw [val_main_v48_apply, val_main_v44_apply, val_main_v43_apply]
  refine Cert.Tiles.sum_fin _ (fun n => hgrad q k v g (j.val / 64) n i.val * (1 / 8) * q n j.val) fun n => ?_
  rw [v42_is hq hk hv hg, val_main_v0_apply]
  refine (congrArg₂ (· * ·) ?_ ((Cert.WalkRefIdeal.Hand.apart_at hq _).trans ?_)).trans (EReal.coe_mul _ _).symm
  · show ((hgrad q k v g ((i.val * 768 + j.val) / 64 % 12) n.val ((i.val * 768 + j.val) / 768 % 8192) * (1 / 8) : ℝ) : EReal) = _
    rw [e1, e2]
  · show ((q n.val (64 * ((i.val * 768 + j.val) / 64 % 12) + (i.val * 768 + j.val) % 64) : ℝ) : EReal) = _
    rw [e2, e3]
theorem v49_is : Is (a := 8192) (b := 768) (val_main_v49 (F := Ideal) x0 x1 x2 x3) (gradQ q k v g) := fun i j => by
  obtain ⟨e1, e2, e3⟩ := gathered i j
  rw [val_main_v49_apply, val_main_v46_apply, val_main_v45_apply]
  refine Cert.Tiles.sum_fin _ (fun n => hgrad q k v g (j.val / 64) i.val n * (1 / 8) * k n j.val) fun n => ?_
  rw [v42_is hq hk hv hg, val_main_v1_apply]
  refine (congrArg₂ (· * ·) ?_ ((Cert.WalkRefIdeal.Hand.apart_at hk _).trans ?_)).trans (EReal.coe_mul _ _).symm
  · show ((hgrad q k v g ((i.val * 768 + j.val) / 64 % 12) ((i.val * 768 + j.val) / 768 % 8192) n.val * (1 / 8) : ℝ) : EReal) = _
    rw [e1, e2]
  · show ((k n.val (64 * ((i.val * 768 + j.val) / 64 % 12) + (i.val * 768 + j.val) % 64) : ℝ) : EReal) = _
    rw [e2, e3]

/-- The queries' gradient as returned, at the columns written. -/
theorem v51_is (i : S8192x1024.Idx) (hi : (i 1).val < 768) :
    (val_main_v51 (F := Ideal) x0 x1 x2 x3 : S8192x1024.Idx → EReal) i = ((gradQ q k v g (i 0) (i 1) : ℝ) : EReal) := by
  rw [val_main_v51_apply]
  pointwise [val_main_v50]
  rw [dif_pos hi]
  exact v49_is hq hk hv hg _ _

end Cert.StickRefIdeal.Hand

end
-- ==== Proof.Finite.lean ====
/- Arrays all of whose elements are real numbers, as the preconditions say it, and the numbers. -/
module

public import proofs.«01_k».proof.Proof.Lift
public import Idealize.ShloMosaic.Lib.ReduceAll

@[expose] public section

set_option maxRecDepth 16384

noncomputable section

namespace Cert.Tiles

open Idealize.ShloMosaic Idealize.ShloMosaic.TcCoe Idealize.SL Idealize.SL.Sem

/-- Every element is a real number. -/
def Real2 {a b : ℕ} (x : (⟨2, ![a, b]⟩ : Shape).Idx → EReal) : Prop := ∀ i, ((x i).toReal : EReal) = x i

/-- The numbers of an array, zero outside it. -/
def reals {a b : ℕ} (x : (⟨2, ![a, b]⟩ : Shape).Idx → EReal) (i j : ℕ) : ℝ :=
  if h : i < a ∧ j < b then (x (ix2 ⟨i, h.1⟩ ⟨j, h.2⟩)).toReal else 0

theorem reals_is {a b : ℕ} {x : (⟨2, ![a, b]⟩ : Shape).Idx → EReal} (h : Real2 x) : Is x (reals x) := fun i j => by
  unfold reals
  rw [dif_pos ⟨i.isLt, j.isLt⟩]
  exact (h _).symm

/-- The numbers of a row of numbers, zero outside it. -/
def row {a : ℕ} (x : (⟨1, ![a]⟩ : Shape).Idx → EReal) (j : ℕ) : ℝ := if h : j < a then (x (ix1 ⟨j, h⟩)).toReal else 0

theorem row_is {a : ℕ} {x : (⟨1, ![a]⟩ : Shape).Idx → EReal} (h : ∀ i, ((x i).toReal : EReal) = x i) (j : Fin a) : x (ix1 j) = ((row x j : ℝ) : EReal) := by
  unfold row
  rw [dif_pos j.isLt]
  exact (h _).symm

/-- A magnitude under the infinite one belongs to a real number. -/
theorem real_of_lt (x : Ideal .f32) (h : FloatOps.cmpf .olt (FloatOps.hostAbsf x) (FloatOps.ofBits .f32 0x7F800000#32 : Ideal .f32) = 1#1) :
    (((x : EReal).toReal : ℝ) : EReal) = x := by
  have ht : (FloatOps.ofBits .f32 0x7F800000#32 : Ideal .f32) = (⊤ : EReal) := by
    show Ideal.ofBits .f32 0x7F800000#32 = _
    simp [Ideal.ofBits, Ideal.ieee]
  rw [ht] at h
  have hlt : max (x : EReal) (-x) < ⊤ := by
    by_contra hn
    revert h
    show ¬BitVec.ofBool (decide (max (x : EReal) (-x) < ⊤)) = 1#1
    rw [decide_eq_false hn]
    decide
  refine EReal.coe_toReal ?_ ?_
  · rintro rfl; simp at hlt
  · rintro rfl; simp at hlt

/-- An array whose magnitudes are all under the infinite one is one of real numbers. -/
theorem real_of_all {S u : Shape} {axes} (x : FVec Ideal S .f32) (y : FVec Ideal S .f32)
    (hy : ∀ i, y i = FloatOps.ofBits .f32 0x7F800000#32) (init : IVec u 1) (h : S.ReducesTo axes ⟨0, ![]⟩)
    (hu : 0 < u.numel) (j) (e : Host.reduce IntOp.andi (cmpf .olt (Host.absf x) y) init h hu j = 1#1) (i : S.Idx) :
    (((x i : EReal).toReal : ℝ) : EReal) = x i := by
  have := Host.reduce_andi_all _ _ _ _ j e i
  refine real_of_lt (x i) ?_
  rw [← hy i]
  exact this

end Cert.Tiles

end
-- ==== Proof.StickValue.lean ====
/- The backward walk of the stick-breaking attention over the reals: its results are the derivative. -/
module

public import proofs.«01_k».proof.Proof.StickFrame
public import proofs.«01_k».proof.Proof.StickRead
public import proofs.«01_k».proof.Proof.Finite
public import Idealize.ShloMosaic.Lib.Pipeline.ValueKit

@[expose] public section

set_option maxRecDepth 16384

noncomputable section

namespace Cert.StickIdeal.Hand

open Cert.StickIdeal Cert.StickIdeal.Gen
open Cert.Tiles (Is IsR IsK IsC pick unite hout Real2 reals chainQ chainG cols chainT gradQ partK partV gradFrom)
open Idealize.ShloMosaic Idealize.ShloMosaic.TcCoe Idealize.SL Idealize.SL.Sem
open Idealize.ShloMosaic.Pipeline (Dat)

variable (m : (ℓ : Loc nD τ sig) → Buf (Elt Ideal) ℓ) (ρ : Dev nD → PrngReg)

/-- Where the windows' blocks are at a point. -/
theorem idx (t : Fin grid0.N) : (win0_0.index t 0 = t.val % 32 ∧ win0_0.index t 1 = t.val / 32)
    ∧ (win0_1.index t 0 = 0 ∧ win0_1.index t 1 = t.val / 32) ∧ (win0_2.index t 0 = 0 ∧ win0_2.index t 1 = 6 + t.val / 32)
    ∧ (win0_3.index t 0 = t.val % 32 ∧ win0_3.index t 1 = t.val / 32) ∧ (win0_4.index t 0 = t.val % 32 ∧ win0_4.index t 1 = t.val / 32)
    ∧ (win0_5.index t 0 = t.val % 32 ∧ win0_5.index t 1 = t.val / 32)
    ∧ (win0_6.index t 0 = 0 ∧ win0_6.index t 1 = t.val / 32) ∧ (win0_7.index t 0 = 0 ∧ win0_7.index t 1 = t.val / 32) := by
  have : ∀ t : Fin grid0.N, (win0_0.index t 0 = t.val % 32 ∧ win0_0.index t 1 = t.val / 32)
    ∧ (win0_1.index t 0 = 0 ∧ win0_1.index t 1 = t.val / 32) ∧ (win0_2.index t 0 = 0 ∧ win0_2.index t 1 = 6 + t.val / 32)
    ∧ (win0_3.index t 0 = t.val % 32 ∧ win0_3.index t 1 = t.val / 32) ∧ (win0_4.index t 0 = t.val % 32 ∧ win0_4.index t 1 = t.val / 32)
    ∧ (win0_5.index t 0 = t.val % 32 ∧ win0_5.index t 1 = t.val / 32)
    ∧ (win0_6.index t 0 = 0 ∧ win0_6.index t 1 = t.val / 32) ∧ (win0_7.index t 0 = 0 ∧ win0_7.index t 1 = t.val / 32) := by decide +kernel
  exact this t

theorem dead_bot : dead (F := Ideal) = (⊥ : EReal) := IdealRules.named_const.ideal_named_scalar _ _ _ _ rfl

/-- The arguments of a device. -/
abbrev a0 (c : Dev nD) : S8192x768.Idx → EReal := m ((c : Thread nD τ).loc main_arg0)
abbrev a1 (c : Dev nD) : S8192x768.Idx → EReal := m ((c : Thread nD τ).loc main_arg1)
abbrev a2 (c : Dev nD) : S8192x768.Idx → EReal := m ((c : Thread nD τ).loc main_arg2)
abbrev a3 (c : Dev nD) : S8192x768.Idx → EReal := m ((c : Thread nD τ).loc main_arg3)

variable (c : Dev nD) {q k v g : ℕ → ℕ → ℝ}

/-- An array with columns put behind. -/
def padded (x : S8192x768.Idx → EReal) : FVec Ideal S8192x1024 .bf16 := truncf .bf16 (pad S8192x1024 ![0, 0] ![0, 256] ![0, 0] (x : FVec Ideal S8192x768 .f32)
    (sitofp .f32 (constantI S_ 32 0#32) : FVec Ideal S_ .f32) pads_S8192x768_S8192x1024_000_02560 h_S_) bitsLt_bf16_f32

/-- The keys beside the values. -/
def beside : FVec Ideal S8192x1536 .bf16 := truncf .bf16 (concatenate S8192x1536 1 [⟨S8192x768, (a1 m c : FVec Ideal S8192x768 .f32)⟩, ⟨S8192x768, (a2 m c : FVec Ideal S8192x768 .f32)⟩] concatenates_S8192x768_S8192x768_S8192x1536_d1 : FVec Ideal S8192x1536 .f32) bitsLt_bf16_f32

/-- The forward pass's output. -/
def forward : FVec Ideal S8192x768 .f32 := Cert.WalkRefIdeal.Read.val_main_v24 (F := Ideal) (a0 m c) (a1 m c) (a2 m c)

theorem V_main_v26 : V m c main_v26 = padded (a0 m c) := by
  unfold V
  simp only [List.flatten_cons, List.flatten_nil, List.append_nil, StableHlo.after_append]
  after_results
  try rfl

theorem V_main_v28 : V m c main_v28 = beside m c := by
  unfold V
  simp only [List.flatten_cons, List.flatten_nil, List.append_nil, StableHlo.after_append]
  after_results
  try rfl

theorem V_main_v30 : V m c main_v30 = padded (a3 m c) := by
  unfold V
  simp only [List.flatten_cons, List.flatten_nil, List.append_nil, StableHlo.after_append]
  after_results
  try rfl

theorem V_main_v24 : V m c main_v24 = forward m c := by
  unfold V
  simp only [List.flatten_cons, List.flatten_nil, List.append_nil, StableHlo.after_append]
  after_results
  try rfl

theorem padded_is {x : S8192x768.Idx → EReal} {q : ℕ → ℕ → ℝ} (hq : Is (a := 8192) (b := 768) x q) (i : S8192x1024.Idx) (hj : (i 1).val < 768) :
    padded x i = ((q (i 0) (i 1) : ℝ) : EReal) := by
  have h0 : (i 0).val < 8192 := (i 0).isLt
  pointwise [padded]
  rw [dif_pos (by omega)]
  exact hq _ _

section Values

variable (hq : Is (a := 8192) (b := 768) (a0 m c) q) (hk : Is (a := 8192) (b := 768) (a1 m c) k) (hv : Is (a := 8192) (b := 768) (a2 m c) v)
  (hg : Is (a := 8192) (b := 768) (a3 m c) g) (t : Fin grid0.N)

include hk hv in
theorem beside_is (i : S8192x1536.Idx) :
    beside m c i = ((if (i 1).val < 768 then k (i 0) (i 1) else v (i 0) ((i 1).val - 768) : ℝ) : EReal) := by
  have h0 : (i 0).val < 8192 := (i 0).isLt
  pointwise [beside]
  split
  · exact hk _ _
  · exact hv _ _

include hq in
theorem q_block : IsR (φ := .bf16) (iblk m c 0 t) (fun i d => q (256 * (t.val % 32) + i) (128 * (t.val / 32) + d)) := fun i j => by
  have ht : t.val < 192 := t.isLt
  have hj := j.isLt
  have e0 : (((win0_0.blk t).view.emb (ix2 i j)) 0).val = 256 * (t.val % 32) + i.val := by blk_simp [idx t]; omega
  have e1 : (((win0_0.blk t).view.emb (ix2 i j)) 1).val = 128 * (t.val / 32) + j.val := by blk_simp [idx t]; omega
  blk_simp [iblk]
  rw [V_main_v26]
  refine (padded_is hq _ (by rw [e1]; omega)).trans ?_
  rw [e0, e1]

include hg in
theorem g_block : IsR (φ := .bf16) (iblk m c 4 t) (fun i d => g (256 * (t.val % 32) + i) (128 * (t.val / 32) + d)) := fun i j => by
  have ht : t.val < 192 := t.isLt
  have hj := j.isLt
  have e0 : (((win0_4.blk t).view.emb (ix2 i j)) 0).val = 256 * (t.val % 32) + i.val := by blk_simp [idx t]; omega
  have e1 : (((win0_4.blk t).view.emb (ix2 i j)) 1).val = 128 * (t.val / 32) + j.val := by blk_simp [idx t]; omega
  blk_simp [iblk]
  rw [V_main_v30]
  refine (padded_is hg _ (by rw [e1]; omega)).trans ?_
  rw [e0, e1]

include hk hv in
theorem k_block : IsK (φ := .bf16) (iblk m c 1 t) (cols k (t.val / 32)) := fun i j => by
  have ht : t.val < 192 := t.isLt
  have hj := j.isLt
  have e0 : (((win0_1.blk t).view.emb (ix2 i j)) 0).val = i.val := by blk_simp [idx t]
  have e1 : (((win0_1.blk t).view.emb (ix2 i j)) 1).val = 128 * (t.val / 32) + j.val := by blk_simp [idx t]; omega
  blk_simp [iblk]
  rw [V_main_v28]
  refine (beside_is m c hk hv _).trans ?_
  rw [e0, e1, if_pos (by omega)]

include hk hv in
theorem v_block : IsK (φ := .bf16) (iblk m c 2 t) (cols v (t.val / 32)) := fun i j => by
  have ht : t.val < 192 := t.isLt
  have hj := j.isLt
  have e0 : (((win0_2.blk t).view.emb (ix2 i j)) 0).val = i.val := by blk_simp [idx t]
  have e1 : (((win0_2.blk t).view.emb (ix2 i j)) 1).val = 128 * (t.val / 32) + 768 + j.val := by blk_simp [idx t]; omega
  blk_simp [iblk]
  rw [V_main_v28]
  refine (beside_is m c hk hv _).trans ?_
  rw [e0, e1, if_neg (by omega), show 128 * (t.val / 32) + 768 + j.val - 768 = 128 * (t.val / 32) + j.val by omega]

include hq hk hv in
theorem out_block : IsR (φ := .f32) (iblk m c 3 t) (fun i d => hout q k v (256 * (t.val % 32) + i) (128 * (t.val / 32) + d)) := fun i j => by
  have ht : t.val < 192 := t.isLt
  have hj := j.isLt
  have e0 : (((win0_3.blk t).view.emb (ix2 i j)) 0).val = 256 * (t.val % 32) + i.val := by blk_simp [idx t]; omega
  have e1 : (((win0_3.blk t).view.emb (ix2 i j)) 1).val = 128 * (t.val / 32) + j.val := by blk_simp [idx t]; omega
  blk_simp [iblk]
  rw [V_main_v24]
  refine ((Cert.WalkRefIdeal.Hand.v24_is hq hk hv).at _).trans ?_
  rw [e0, e1]

include hq hk hv hg in
/-- What a point leaves: the rows of the queries' gradients, and the sums of the keys' and the values'. -/
theorem out_is : IsC (outAt m c t).1.2.2.2.2.2.2.2.2.2
      (gradFrom (chainQ q (t.val % 32) (t.val / 32)) (chainG g (t.val % 32) (t.val / 32)) (cols k (t.val / 32)) (cols v (t.val / 32))
        (chainT q k v g (t.val % 32) (t.val / 32)) (t.val % 32) 0)
    ∧ IsK (outAt m c t).2.1 (fun n d => partK q k v g (256 * (t.val % 32 + 1)) n (128 * (t.val / 32) + d))
    ∧ IsK (outAt m c t).2.2 (fun n d => partV q k g (256 * (t.val % 32 + 1)) n (128 * (t.val / 32) + d)) := by
  obtain ⟨n, hn⟩ := t
  induction n using Nat.strong_induction_on with
  | _ n ih =>
    have before : IsK (if n % 32 = 0 then Cert.Tiles.zeros else (sums m c n).1) (fun i d => partK q k v g (256 * (n % 32)) i (128 * (n / 32) + d))
        ∧ IsK (if n % 32 = 0 then Cert.Tiles.zeros else (sums m c n).2) (fun i d => partV q k g (256 * (n % 32)) i (128 * (n / 32) + d)) := by
      by_cases h : n % 32 = 0
      · rw [if_pos h, if_pos h, h]
        simp only [partK, partV, Nat.mul_zero, Finset.range_zero, Finset.sum_empty]
        exact ⟨Cert.Tiles.zeros_is, Cert.Tiles.zeros_is⟩
      · rw [if_neg h, if_neg h]
        have hp : n - 1 < grid0.N := by omega
        have e : sums m c n = (outAt m c ⟨n - 1, hp⟩).2 := by
          rw [← sums_succ]
          exact congrArg (sums m c) (by show n = n - 1 + 1; omega)
        have := ih (n - 1) (by omega) hp
        dsimp only at this
        rw [show (n - 1) % 32 + 1 = n % 32 by omega, show (n - 1) / 32 = n / 32 by omega] at this
        rw [e]
        exact this.2
    have := Cert.Tiles.bbody_is (N := n % 32) (by omega)
      (Cert.Tiles.chains_is (Cert.Tiles.scaled_is (q_block m c hq ⟨n, hn⟩))) (Cert.Tiles.chains_is (Cert.Tiles.plain_is (g_block m c hg ⟨n, hn⟩)))
      (k_block m c hk hv ⟨n, hn⟩) (v_block m c hk hv ⟨n, hn⟩)
      (Cert.Tiles.tots_are (g_block m c hg ⟨n, hn⟩) (out_block m c hq hk hv ⟨n, hn⟩)) before.1 before.2
    unfold outAt bodyOut
    rw [dead_bot, coord1 (F := Ideal)]
    refine ⟨this.1, this.2.1.congr fun i hi d hd => ?_, this.2.2.congr fun i hi d hd => ?_⟩
    · exact Cert.Tiles.rows_K q k v g (n % 32) (n / 32) i d hd
    · exact Cert.Tiles.rows_V q k g (n % 32) (n / 32) i d hd

include hq hk hv hg in
/-- The queries' gradient is the reference's at the columns written. -/
theorem final5 (i : S8192x1024.Idx) (hi : (i 1).val < 768) :
    ((dats m 0 c).arrAt 5 (cfgs (F := Ideal) 0).N : S8192x1024.Idx → EReal) i = ((gradQ q k v g (i 0) (i 1) : ℝ) : EReal) := by
  refine ((dats m 0 c).arrAt_apply_of_coversWhere 5 (fun i : S8192x1024.Idx => ((gradQ q k v g (i 0) (i 1) : ℝ) : EReal))
    (P := fun i : S8192x1024.Idx => (i 1).val / 128 < 6) (fun β => β (1 : Fin 2) < 6) (by decide +kernel) (fun t hf y => ?_) (fun j => Iff.rfl) i).trans (if_pos ?_)
  · have h0 : (y 0).val < 256 := (y 0).isLt
    have h1 : (y 1).val < 128 := (y 1).isLt
    blk_simp [idx t]
    rw [after5]
    refine ((Cert.Tiles.back_is (out_is m c hq hk hv hg t).1).at y).trans ?_
    rw [Cert.Tiles.rows_grad q k v g _ _ _ _ (by omega) h0 h1, Nat.mul_comm 256, Nat.mul_comm 128]
  · dsimp only
    omega

include hq hk hv hg in
/-- The keys' gradient is the reference's. -/
theorem final6 : (dats m 0 c).arrAt 6 (cfgs (F := Ideal) 0).N = fun i : S8192x768.Idx => ((partK q k v g 8192 (i 0) (i 1) : ℝ) : EReal) := by
  refine (dats m 0 c).arrAt_eq_of_covers 6 _ (by decide +kernel) fun t hf y => ?_
  have hf := (flush0_6 t).mp hf
  blk_simp [idx t]
  rw [after6]
  refine ((out_is m c hq hk hv hg t).2.1.at y).trans ?_
  rw [hf, Nat.mul_comm 128]

include hq hk hv hg in
/-- The values' gradient is the reference's. -/
theorem final7 : (dats m 0 c).arrAt 7 (cfgs (F := Ideal) 0).N = fun i : S8192x768.Idx => ((partV q k g 8192 (i 0) (i 1) : ℝ) : EReal) := by
  refine (dats m 0 c).arrAt_eq_of_covers 7 _ (by decide +kernel) fun t hf y => ?_
  have hf := (flush0_7 t).mp hf
  blk_simp [idx t]
  rw [after7]
  refine ((out_is m c hq hk hv hg t).2.2.at y).trans ?_
  rw [hf, Nat.mul_comm 128]

end Values

/-- The run, with its results read. -/
theorem run_read : θ_run defs (onTc (τ := τ) (main (F := Ideal))) ⟨m, fun _ => 0, ρ⟩ (fun r => ∀ c : Dev nD,
    r.2.mem ((c : Thread nD τ).loc main_v31_0) = (dats m 0 c).arrAt 5 (cfgs (F := Ideal) 0).N
    ∧ r.2.mem ((c : Thread nD τ).loc main_v31_1) = (dats m 0 c).arrAt 6 (cfgs (F := Ideal) 0).N
    ∧ r.2.mem ((c : Thread nD τ).loc main_v31_2) = (dats m 0 c).arrAt 7 (cfgs (F := Ideal) 0).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => ⟨(h.1 c).1 5, (h.1 c).1 6, (h.1 c).1 7,
    ((h.1 c).2 main_arg0 (Pipeline.mem_restRefs_of (win := spec0) main_arg0 (by decide) (by decide))).trans (V_arg m c _ (by simp)),
    ((h.1 c).2 main_arg1 (Pipeline.mem_restRefs_of (win := spec0) main_arg1 (by decide) (by decide))).trans (V_arg m c _ (by simp)),
    ((h.1 c).2 main_arg2 (Pipeline.mem_restRefs_of (win := spec0) main_arg2 (by decide) (by decide))).trans (V_arg m c _ (by simp)),
    ((h.1 c).2 main_arg3 (Pipeline.mem_restRefs_of (win := spec0) main_arg3 (by decide) (by decide))).trans (V_arg m c _ (by simp))⟩) (run_main m ρ)

/-- The arguments are real numbers. -/
theorem reals_of [Cert.Pre_stick_finite.Facts] {x0 x1 x2 x3 : FVec Ideal S8192x768 .f32} (h : Cert.Pre_stick_finite.fn (F := Ideal) x0 x1 x2 x3 = fun _ => 1#1) :
    Real2 (a := 8192) (b := 768) x0 ∧ Real2 (a := 8192) (b := 768) x1 ∧ Real2 (a := 8192) (b := 768) x2 ∧ Real2 (a := 8192) (b := 768) x3 := by
  have e := congrFun h (fun a => a.elim0)
  obtain ⟨e, e3⟩ := IntOp.andi_eq_one.mp e
  obtain ⟨e, e2⟩ := IntOp.andi_eq_one.mp e
  obtain ⟨e0, e1⟩ := IntOp.andi_eq_one.mp e
  exact ⟨Cert.Tiles.real_of_all _ _ (fun _ => rfl) _ _ _ _ e0, Cert.Tiles.real_of_all _ _ (fun _ => rfl) _ _ _ _ e1, Cert.Tiles.real_of_all _ _ (fun _ => rfl) _ _ _ _ e2,
    Cert.Tiles.real_of_all _ _ (fun _ => rfl) _ _ _ _ e3⟩

/-- A column the mask keeps is one of the attention's. -/
theorem kept_col [Cert.On_stick_written.Facts] {x0 x1 x2 x3 : FVec Ideal S8192x768 .f32} (i : S8192x1024.Idx)
    (h : (Cert.On_stick_written.fn (F := Ideal) x0 x1 x2 x3).1 i = 1#1) : (i 1).val < 768 := by
  have h1 : (i 1).val < 1024 := (i 1).isLt
  replace h : IntOp.cmpi .slt (BitVec.ofNat 32 (i 1).val) (BitVec.ofNat 32 768) = 1#1 := h
  rw [Cert.Tiles.slt_word (by omega) (by omega)] at h
  by_contra hn
  rw [if_neg hn] at h
  exact absurd h (by decide)

end Cert.StickIdeal.Hand

end
-- ==== Proof.StickClaims.lean ====
/- The claims of the backward call of the stick-breaking attention. -/
module

public import proofs.«01_k».proof.Proof.StickGiven
public import proofs.«01_k».proof.Proof.StickValue
public import proofs.«01_k».proof.Proof.Gen.StickRefIdeal.Run
public import proofs.«01_k».proof.Proof.Gen.Stick
public import proofs.«01_k».proof.Proof.Gen.Pre_stick_finite
public import proofs.«01_k».proof.Proof.Gen.On_stick_written

@[expose] public section

set_option maxRecDepth 16384

noncomputable section

namespace Cert.Proof

open Idealize.ShloMosaic Idealize.SL.Sem
open Cert.Tiles (gradQ partK partV reals reals_is)

theorem frame_Stick : quiescent_Stick := fun m ρ _ => Cert.Stick.Hand.frame_run (F := Bits) m ρ
theorem frame_StickIdeal : quiescent_StickIdeal := fun m ρ _ => Cert.StickIdeal.Hand.frame_run (F := Ideal) m ρ
theorem frame_StickIdeal_finite : quiescent_StickIdeal_pre_stick_finite := fun m ρ _ => frame_StickIdeal m ρ trivial
theorem frame_StickRefIdeal : quiescent_StickRefIdeal := fun m ρ _ =>
  (θ_run Cert.StickRefIdeal.defs _ _).mono (fun r h => ⟨fun c => (h c).2.2.2, sem_eq_zero_of_no_sems (by decide) r.2⟩)
    (Cert.StickRefIdeal.Value.run (F := Ideal) m ρ)
theorem frame_StickRefIdeal_finite : quiescent_StickRefIdeal_pre_stick_finite := fun m ρ _ => frame_StickRefIdeal m ρ trivial

/-- The idealised program differs in the threshold, named minus infinity. -/
theorem preserves_Stick : preserves_Stick_StickIdeal := IdealRules.named_const.statement Cert.StickIdeal.κ "dead" .f32 0xC2DC0000#32 ⊥ rfl

/-- The backward call computes the attention's derivative. -/
theorem algebraic_Stick : algebraic_StickIdeal_StickRefIdeal_on_stick_written_pre_stick_finite := by
  intro m ρ m' ρ' hpre hagree
  have hr := fun c => Cert.StickIdeal.Hand.reals_of (hpre c)
  refine ⟨fun c i => ((gradQ (reals (Cert.StickIdeal.Hand.a0 m c)) (reals (Cert.StickIdeal.Hand.a1 m c)) (reals (Cert.StickIdeal.Hand.a2 m c)) (reals (Cert.StickIdeal.Hand.a3 m c)) (i 0) (i 1) : ℝ) : EReal),
    fun c i => ((partK (reals (Cert.StickIdeal.Hand.a0 m c)) (reals (Cert.StickIdeal.Hand.a1 m c)) (reals (Cert.StickIdeal.Hand.a2 m c)) (reals (Cert.StickIdeal.Hand.a3 m c)) 8192 (i 0) (i 1) : ℝ) : EReal),
    fun c i => ((partV (reals (Cert.StickIdeal.Hand.a0 m c)) (reals (Cert.StickIdeal.Hand.a1 m c)) (reals (Cert.StickIdeal.Hand.a3 m c)) 8192 (i 0) (i 1) : ℝ) : EReal), ?_, ?_⟩
  · refine (θ_run Cert.StickIdeal.defs _ _).mono (fun r h c => ⟨fun i hi => ?_, fun i _ => ?_, fun i _ => ?_, (h c).2.2.2⟩) (Cert.StickIdeal.Hand.run_read m ρ)
    · rw [(h c).1]
      exact Cert.StickIdeal.Hand.final5 m c (reals_is (hr c).1) (reals_is (hr c).2.1) (reals_is (hr c).2.2.1) (reals_is (hr c).2.2.2) i (Cert.StickIdeal.Hand.kept_col i hi)
    · rw [(h c).2.1, Cert.StickIdeal.Hand.final6 m c (reals_is (hr c).1) (reals_is (hr c).2.1) (reals_is (hr c).2.2.1) (reals_is (hr c).2.2.2)]
    · rw [(h c).2.2.1, Cert.StickIdeal.Hand.final7 m c (reals_is (hr c).1) (reals_is (hr c).2.1) (reals_is (hr c).2.2.1) (reals_is (hr c).2.2.2)]
  · refine (θ_run Cert.StickRefIdeal.defs _ _).mono (fun r h c => ⟨fun i hi => ?_, fun i _ => ?_, fun i _ => ?_, (h c).2.2.2⟩) (Cert.StickRefIdeal.Value.run (F := Ideal) m' ρ')
    · rw [(h c).1, Cert.StickRefIdeal.Read.val_main_v51_eq, (hagree c).1, (hagree c).2.1, (hagree c).2.2.1, (hagree c).2.2.2]
      exact Cert.StickRefIdeal.Hand.v51_is (reals_is (hr c).1) (reals_is (hr c).2.1) (reals_is (hr c).2.2.1) (reals_is (hr c).2.2.2) i (Cert.StickIdeal.Hand.kept_col i hi)
    · rw [(h c).2.1, Cert.StickRefIdeal.Read.val_main_v48_eq, (hagree c).1, (hagree c).2.1, (hagree c).2.2.1, (hagree c).2.2.2]
      exact (Cert.StickRefIdeal.Hand.v48_is (reals_is (hr c).1) (reals_is (hr c).2.1) (reals_is (hr c).2.2.1) (reals_is (hr c).2.2.2)).at i
    · rw [(h c).2.2.1, Cert.StickRefIdeal.Read.val_main_v47_eq, (hagree c).1, (hagree c).2.1, (hagree c).2.2.2]
      exact (Cert.StickRefIdeal.Hand.v47_is (reals_is (hr c).1) (reals_is (hr c).2.1) (reals_is (hr c).2.2.2)).at i

end Cert.Proof

end
-- ==== Proof.WalkFrame.lean ====
/- The run of the forward walk of the stick-breaking attention: its key blocks walked by a loop
   that runs while a block is left. -/
module

public import proofs.«01_k».proof.Defs
public import proofs.«01_k».proof.Proof.Gen.WalkIdeal
public import proofs.«01_k».proof.Proof.Gen.WalkIdeal.Skeleton
public import proofs.«01_k».proof.Proof.Gen.WalkIdeal.Launch
public import proofs.«01_k».proof.Proof.Gen.WalkIdeal.Points
public import proofs.«01_k».proof.Proof.Rows
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Adequacy
public import Idealize.ShloMosaic.Init

@[expose] public section

set_option maxRecDepth 16384

noncomputable section

namespace Cert.WalkIdeal.Hand

open Cert.WalkIdeal Cert.WalkIdeal.Gen
open Cert.Tiles (T St chains scaled rowsAt walk ftotal wide narrow after2 live)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The loop -/

/-- The threshold under which a walk stops. -/
abbrev dead : F .f32 := Named.named κ "dead" 0xC2DC0000#32

/-- A block below 32 lies inside the arrays, and where it starts. -/
theorem chk_of_lt : ∀ n : ℕ, n < 32 → k0_chk1 (BitVec.ofNat 32 n) := by decide
theorem off2_eq : ∀ n : ℕ, n < 32 → k0_off2 (BitVec.ofNat 32 n) = ![256 * n, 0] := by decide
theorem off1_eq (i : grid0.Coords) : k0_off1 i = ![256 * (i 1).val, 0] := by
  have : ∀ i : grid0.Coords, k0_off1 i = ![256 * (i 1).val, 0] := by decide +kernel
  exact this i

section Label

variable (c : Dev nD) (i : grid0.Coords) (arg3 : Memref sig .tc .vmem S8192x128 .bf16) (harg3 : arg3.IsWhole)
  (arg4 : Memref sig .tc .vmem S8192x128 .bf16) (harg4 : arg4.IsWhole)
  (x1 x2 : FVec F S8192x128 .bf16) (q : FVec F S512x128 .bf16) (u : FVec F S256x256 .bf16)

/-- The two staged arrays the loop reads. -/
def held : sProp 𝕄 := iprop(owns (c : Thread nD τ) arg3 fullShare x1 ∗ owns (c : Thread nD τ) arg4 fullShare x2)

/-- The loop's specification: the arrays as they were, the state the walk's. -/
def spec (n : ℕ) (s : St F) : sWPT 𝕄 (St F) := do
  sWPT.consume (held c arg3 arg4 x1 x2)
  sWPT.produce (held c arg3 arg4 x1 x2)
  pure (walk dead q u x1 x2 n s)

theorem spec_apply (n : ℕ) (s : St F) (K : St F → sProp 𝕄) :
    spec c arg3 arg4 x1 x2 q u n s K
      = iprop(held c arg3 arg4 x1 x2 ∗ (held c arg3 arg4 x1 x2 -∗ K (walk dead q u x1 x2 n s))) := rfl

/-- The loop meets it, by induction on the blocks left. -/
theorem spec_le (E : Set ℕ) : ∀ n, n ≤ 32 → ∀ s : St F, s.1 = Scalar.subi (BitVec.ofNat 32 n) 1#32 →
    ∀ K, spec c arg3 arg4 x1 x2 q u n s K
      ⊢ wp frame (wpE (defs₀ (F := F)) Variants.nat (c : Thread nD τ) (some n)) E
          (defs₀ (F := F) .tc 1 ⟨i, arg3, harg3, arg4, harg4, q, u, s.1, s.2.1, s.2.2.1, s.2.2.2.1, s.2.2.2.2.1, s.2.2.2.2.2⟩) K := by
  intro n
  induction n with
  | zero =>
    rintro _ ⟨j, r0, r1, r2, r3, acc⟩ hs K
    rw [spec_apply]
    dsimp only at hs
    show _ ⊢ wp frame (wpE (defs₀ (F := F)) Variants.nat (c : Thread nD τ) (some 0)) E
      (cc0_while1 i arg3 harg3 arg4 harg4 q u j r0 r1 r2 r3 acc) K
    rw [cc0_while1_eq_skeleton]; unfold cc0_while1_skel
    have hl := Tiles.not_live (dead (F := F)) j hs r0 r1 r2 r3
    change ¬Scalar.andi (Scalar.cmpi .sge j 0#32) (Scalar.cmpf .ogt (k0_pay4 r0 r1 r2 r3) (Named.named κ "dead" 0xC2DC0000#32 : F .f32)) = 1#1 at hl
    simp only [hl, ↓reduceIte, Prog.pure_eq_ret]
    simp only [walk]
    iintro ⟨H, Hk⟩
    rw [wp_ret]; imodintro
    iapply Hk
    iexact H
  | succ n ih =>
    rintro hn ⟨j, r0, r1, r2, r3, acc⟩ hs K
    rw [spec_apply]
    dsimp only at hs
    show _ ⊢ wp frame (wpE (defs₀ (F := F)) Variants.nat (c : Thread nD τ) (some (n + 1))) E
      (cc0_while1 i arg3 harg3 arg4 harg4 q u j r0 r1 r2 r3 acc) K
    rw [cc0_while1_eq_skeleton]; unfold cc0_while1_skel
    have hj : j = BitVec.ofNat 32 n := hs.trans (Tiles.next_block n (by omega))
    have hc : k0_chk1 j := by rw [hj]; exact chk_of_lt n (by omega)
    have ho : k0_off2 j = ![256 * n, 0] := by rw [hj]; exact off2_eq n (by omega)
    have hnext : Scalar.subi j 1#32 = Scalar.subi (BitVec.ofNat 32 n) 1#32 := by rw [hs]; exact Tiles.step_block n (by omega)
    by_cases hl : live (dead (F := F)) j r0 r1 r2 r3
    · rw [Tiles.walk_live hl]
      change Scalar.andi (Scalar.cmpi .sge j 0#32) (Scalar.cmpf .ogt (k0_pay4 r0 r1 r2 r3) (Named.named κ "dead" 0xC2DC0000#32 : F .f32)) = 1#1 at hl
      simp only [hl, ↓reduceIte]
      rw [k0_part6_eq_skeleton, k0_part7_eq_skeleton, k0_part8_eq_skeleton, k0_part9_eq_skeleton]
      unfold k0_part6_skel k0_part7_skel k0_part8_skel k0_part9_skel
      simp only [Prog.lift, Prog.bind_op, Prog.bind_ret, Prog.pure_eq_ret]
      unfold held
      iintro ⟨⟨H1, H2⟩, Hk⟩
      iapply (wp_assume Variants.nat (c : Thread nD τ) (some (n + 1)) E hc)
      iapply (Tiles.wp_load_rows Variants.nat (c : Thread nD τ) (some (n + 1)) E (m := arg3) n (by omega) ho) $$ H1; iintro H1
      iapply (Tiles.wp_load_rows Variants.nat (c : Thread nD τ) (some (n + 1)) E (m := arg4) n (by omega) ho) $$ H2; iintro H2
      iapply (wp_call_spec Variants.nat (c : Thread nD τ) (some (n + 1)) E
        (spec c arg3 arg4 x1 x2 q u n (Tiles.pass q u (rowsAt x1 n) (rowsAt x2 n) (j, r0, r1, r2, r3, acc))) n
        (fun u hu => by cases hu; exact Nat.lt_succ_self n) (ih (by omega) _ hnext))
      rw [spec_apply]; unfold held
      isplitl [H1 H2]
      · isplitl [H1]; · iexact H1
        iexact H2
      iintro H
      rw [wp_ret]; imodintro
      iapply Hk
      iexact H
    · rw [Tiles.walk_dead hl]
      change ¬Scalar.andi (Scalar.cmpi .sge j 0#32) (Scalar.cmpf .ogt (k0_pay4 r0 r1 r2 r3) (Named.named κ "dead" 0xC2DC0000#32 : F .f32)) = 1#1 at hl
      simp only [hl, ↓reduceIte, Prog.pure_eq_ret]
      iintro ⟨H, Hk⟩
      rw [wp_ret]; imodintro
      iapply Hk
      iexact H

end Label

/-! ## The body -/

section Body

variable (c : Dev nD) (i : grid0.Coords) (arg2 : Memref sig .tc .vmem S256x128 .bf16) (harg2 : arg2.IsWhole)
  (arg3 : Memref sig .tc .vmem S8192x128 .bf16) (harg3 : arg3.IsWhole)
  (arg4 : Memref sig .tc .vmem S8192x128 .bf16) (harg4 : arg4.IsWhole)
  (arg5 : Memref sig .tc .vmem S256x128 .f32) (harg5 : arg5.IsWhole)
  (arg6 : Memref sig .tc .vmem S256x128 .bf16) (harg6 : arg6.IsWhole)
  (x0 : FVec F S256x128 .bf16) (x1 x2 : FVec F S8192x128 .bf16)

set_option maxHeartbeats 4000000 in
/-- The body's run. -/
theorem body_run (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (wide (ftotal dead (i 1).val x0 x1 x2))
            ∗ owns (c : Thread nD τ) arg6 fullShare (narrow (ftotal dead (i 1).val x0 x1 x2))) -∗ K ⟨⟩))
      ⊢ wp frame (wpE (defs₀ (F := F)) Variants.nat c none) E (cc0_sb_fwd i arg2 harg2 arg3 harg3 arg4 harg4 arg5 harg5 arg6 harg6) K := by
  have ho := off1_eq i
  have hn : (i 1).val < 32 := (i 1).isLt
  rw [cc0_sb_fwd_eq_skeleton]; unfold cc0_sb_fwd_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨H0, H1, H2, ⟨%d3, H3⟩, ⟨%d4, H4⟩, Hk⟩
  iapply (Tiles.wp_load_all Variants.nat (c : Thread nD τ) none E (m := arg2)) $$ H0; iintro H0
  iapply (Tiles.wp_load_rows Variants.nat (c : Thread nD τ) none E (m := arg3) _ hn ho) $$ H1; iintro H1
  iapply (Tiles.wp_load_rows Variants.nat (c : Thread nD τ) none E (m := arg4) _ hn ho) $$ H2; iintro H2
  iapply (wp_call_spec Variants.nat (c : Thread nD τ) none E
    (spec c arg3 arg4 x1 x2 (chains (scaled x0)) after2 (i 1).val
      (Tiles.start (Tiles.first (i 1).val) (chains (scaled x0)) after2 (rowsAt x1 (i 1).val) (rowsAt x2 (i 1).val))) (i 1).val
    (fun u hu => nomatch hu)
    (spec_le c i arg3 harg3 arg4 harg4 x1 x2 _ _ E (i 1).val hn.le _ (Tiles.first_eq ⟨(i 1).val, hn⟩)))
  rw [spec_apply]; unfold held
  isplitl [H1 H2]
  · isplitl [H1]; · iexact H1
    iexact H2
  iintro ⟨H1, H2⟩
  iapply (Tiles.wp_load_owns Variants.nat (c : Thread nD τ) none E (m := arg5) rfl inb_S256x128_S128x128_0_0) $$ H3; iintro H3
  iapply (Tiles.wp_store_owns Variants.nat (c : Thread nD τ) none E (m := arg5) rfl) $$ H3; iintro H3
  iapply (Tiles.wp_load_owns Variants.nat (c : Thread nD τ) none E (m := arg6) rfl inb_S256x128_S128x128_0_0) $$ H4; iintro H4
  iapply (Tiles.wp_store_owns Variants.nat (c : Thread nD τ) none E (m := arg6) rfl) $$ H4; iintro H4
  iapply (Tiles.wp_load_owns Variants.nat (c : Thread nD τ) none E (m := arg5) rfl inb_S256x128_S128x128_128_0) $$ H3; iintro H3
  iapply (Tiles.wp_store_owns Variants.nat (c : Thread nD τ) none E (m := arg5) rfl) $$ H3; iintro H3
  iapply (Tiles.wp_load_owns Variants.nat (c : Thread nD τ) none E (m := arg6) rfl inb_S256x128_S128x128_128_0) $$ H4; iintro H4
  iapply (Tiles.wp_store_owns Variants.nat (c : Thread nD τ) none E (m := arg6) rfl) $$ H4; iintro H4
  rw [wp_ret]; imodintro
  iapply Hk
  isplitl [H0]; · iexact H0
  isplitl [H1]; · iexact H1
  isplitl [H2]; · iexact H2
  isplitl [H3]
  · unfold wide
    rw [← Tiles.put_halves d3]
    iexact H3
  unfold narrow
  rw [← Tiles.put_halves d4]
  iexact H4

end Body

/-! ## The region -/

/-- The buffers as the region finds them: after the host lines before it. -/
abbrev V (c : Dev nD) (b : Ref sig .tc) : Buf (Elt F) ((c : Thread nD τ).loc b) :=
  StableHlo.after [hostOps0, hostOps0_1, hostOps0_2].flatten (fun b => m (c, b)) b

/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] ⟨hostOps0_sub, hostOps0_1_sub, hostOps0_2_sub⟩
    (by simp only [List.Forall]; repeat' constructor) main_chain

/-- An operation that writes another buffer leaves this one. -/
theorem not_written {b r : Ref sig .tc} {op : HloOp τ sig (Elt F)} (e : op.writes = {Proc.devRef .tc r}) (h : b ≠ r) : Proc.devRef .tc b ∉ op.writes := by
  rw [e, Finset.mem_singleton]
  exact StableHlo.devRef_ne_of_ne h

set_option maxHeartbeats 4000000 in
/-- The host lines write none of the arguments. -/
theorem V_arg (c : Dev nD) (b : Ref sig .tc) (hb : b = main_arg0 ∨ b = main_arg1 ∨ b = main_arg2) :
    V m c b = m ((c : Thread nD τ).loc b) :=
  StableHlo.after_of_forall_not_mem (b := Proc.devRef .tc b) _ _ (List.forall_iff_forall_mem.mp (by
    rcases hb with rfl | rfl | rfl <;>
    · simp only [List.flatten_cons, List.flatten_nil, List.append_nil, List.cons_append, List.nil_append, List.Forall]
      repeat' apply And.intro
      all_goals exact not_written rfl (by decide)))

/-- A window's block at a point, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The chains' weighted rows that a point's body ends with. -/
def totalAt (c : Dev nD) (t : Fin (cfg0 (F := F)).N) : FVec F S512x128 .f32 :=
  ftotal dead (grid0.coords t 1).val (iblk m c 0 t) (iblk m c 1 t) (iblk m c 2 t)

/-- The proof data: the inputs stay, the results' blocks are the body's. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => wide (totalAt m c t)
    | ⟨4, _⟩ => narrow (totalAt m c t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by rfl
theorem after1 (c : Dev nD) (t : Fin (cfg0 (F := F)).N) : (dats m 0 c).after 1 t = iblk m c 1 t := by rfl
theorem after2 (c : Dev nD) (t : Fin (cfg0 (F := F)).N) : (dats m 0 c).after 2 t = iblk m c 2 t := by rfl
theorem after3 (c : Dev nD) (t : Fin (cfg0 (F := F)).N) : (dats m 0 c).after 3 t = wide (totalAt m c t) := by rfl
theorem after4 (c : Dev nD) (t : Fin (cfg0 (F := F)).N) : (dats m 0 c).after 4 t = narrow (totalAt m c t) := by rfl

/-- An input's staging buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; rfl) t d).trans rfl
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; rfl) t d).trans rfl
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; rfl) t d).trans rfl

/-- What the body is called with, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2, after0, after1, after2, after3, after4]
  rw [show (dats m 0 c).owesAt () t.succ = (dats m 0 c).owesAt () t.castSucc from rfl]
  rw [show (dats m 0 c).Φ t.succ = (dats m 0 c).Φ t.castSucc from rfl]
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  iintro H
  isplitl [HΦ]; · iexact HΦ
  isplitl [Ho]; · iexact Ho
  iexact H

theorem body_obligation (c : Dev nD) : BodyObligation (dats (F := F) m 0 c) (defs₀ (F := F)) Variants.nat () Set.univ := fun t => by
  rw [bigSep_W0, bigSep_W0]
  exact sound_body m c t

set_option backward.isDefEq.respectTransparency.types false in
/-- The run: it terminates, the arrays end at what the proof data give, the counters at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The arguments end unchanged and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of (win := spec0) main_arg0 (by decide) (by decide))).trans (V_arg m c _ (by simp)),
     ((h.1 c).2 main_arg1 (Pipeline.mem_restRefs_of (win := spec0) main_arg1 (by decide) (by decide))).trans (V_arg m c _ (by simp)),
     ((h.1 c).2 main_arg2 (Pipeline.mem_restRefs_of (win := spec0) main_arg2 (by decide) (by decide))).trans (V_arg m c _ (by simp))⟩, h.2⟩) (run_main m ρ)

end Cert.WalkIdeal.Hand

end
-- ==== Proof.WalkValue.lean ====
/- The forward walk of the stick-breaking attention over the reals: its results are the
   reference's. -/
module

public import proofs.«01_k».proof.Proof.WalkFrame
public import proofs.«01_k».proof.Proof.WalkRead
public import proofs.«01_k».proof.Proof.Finite
public import Idealize.ShloMosaic.Lib.Pipeline.ValueKit

@[expose] public section

set_option maxRecDepth 16384

noncomputable section

namespace Cert.WalkIdeal.Hand

open Cert.WalkIdeal Cert.WalkIdeal.Gen
open Cert.Tiles (Is IsR IsK IsC pick unite rowsFrom hout Real2 reals)
open Idealize.ShloMosaic Idealize.ShloMosaic.TcCoe Idealize.SL Idealize.SL.Sem
open Idealize.ShloMosaic.Pipeline (Dat)

variable (m : (ℓ : Loc nD τ sig) → Buf (Elt Ideal) ℓ) (ρ : Dev nD → PrngReg)

/-- Where the windows' blocks are at a point. -/
theorem idx (t : Fin grid0.N) : (win0_0.index t 0 = t.val % 32 ∧ win0_0.index t 1 = t.val / 32)
    ∧ (win0_1.index t 0 = 0 ∧ win0_1.index t 1 = t.val / 32) ∧ (win0_2.index t 0 = 0 ∧ win0_2.index t 1 = 6 + t.val / 32)
    ∧ (win0_3.index t 0 = t.val % 32 ∧ win0_3.index t 1 = t.val / 32)
    ∧ (win0_4.index t 0 = t.val % 32 ∧ win0_4.index t 1 = t.val / 32) ∧ (grid0.coords t 1).val = t.val % 32 := by
  have : ∀ t : Fin grid0.N, (win0_0.index t 0 = t.val % 32 ∧ win0_0.index t 1 = t.val / 32)
    ∧ (win0_1.index t 0 = 0 ∧ win0_1.index t 1 = t.val / 32) ∧ (win0_2.index t 0 = 0 ∧ win0_2.index t 1 = 6 + t.val / 32)
    ∧ (win0_3.index t 0 = t.val % 32 ∧ win0_3.index t 1 = t.val / 32)
    ∧ (win0_4.index t 0 = t.val % 32 ∧ win0_4.index t 1 = t.val / 32) ∧ (grid0.coords t 1).val = t.val % 32 := by decide +kernel
  exact this t

theorem dead_bot : dead (F := Ideal) = (⊥ : EReal) := IdealRules.named_const.ideal_named_scalar _ _ _ _ rfl

/-- The arguments of a device. -/
abbrev a0 (c : Dev nD) : S8192x768.Idx → EReal := m ((c : Thread nD τ).loc main_arg0)
abbrev a1 (c : Dev nD) : S8192x768.Idx → EReal := m ((c : Thread nD τ).loc main_arg1)
abbrev a2 (c : Dev nD) : S8192x768.Idx → EReal := m ((c : Thread nD τ).loc main_arg2)

variable (c : Dev nD) {q k v : ℕ → ℕ → ℝ}

/-- The padded queries. -/
def padded : FVec Ideal S8192x1024 .bf16 := truncf .bf16 (pad S8192x1024 ![0, 0] ![0, 256] ![0, 0] (a0 m c : FVec Ideal S8192x768 .f32)
    (sitofp .f32 (constantI S_ 32 0#32) : FVec Ideal S_ .f32) pads_S8192x768_S8192x1024_000_02560 h_S_) bitsLt_bf16_f32

/-- The keys beside the values. -/
def beside : FVec Ideal S8192x1536 .bf16 := truncf .bf16 (concatenate S8192x1536 1 [⟨S8192x768, (a1 m c : FVec Ideal S8192x768 .f32)⟩, ⟨S8192x768, (a2 m c : FVec Ideal S8192x768 .f32)⟩] concatenates_S8192x768_S8192x768_S8192x1536_d1 : FVec Ideal S8192x1536 .f32) bitsLt_bf16_f32

theorem V_main_v1 : V m c main_v1 = padded m c := by
  unfold V
  simp only [List.flatten_cons, List.flatten_nil, List.append_nil, StableHlo.after_append]
  after_results
  try rfl

theorem V_main_v3 : V m c main_v3 = beside m c := by
  unfold V
  simp only [List.flatten_cons, List.flatten_nil, List.append_nil, StableHlo.after_append]
  after_results
  try rfl

theorem padded_is {q : ℕ → ℕ → ℝ} (hq : Is (a := 8192) (b := 768) (a0 m c) q) (i : S8192x1024.Idx) (hj : (i 1).val < 768) :
    padded m c i = ((q (i 0) (i 1) : ℝ) : EReal) := by
  have h0 : (i 0).val < 8192 := (i 0).isLt
  pointwise [padded]
  rw [dif_pos (by omega)]
  exact hq _ _

theorem beside_is {k v : ℕ → ℕ → ℝ} (hk : Is (a := 8192) (b := 768) (a1 m c) k) (hv : Is (a := 8192) (b := 768) (a2 m c) v) (i : S8192x1536.Idx) :
    beside m c i = ((if (i 1).val < 768 then k (i 0) (i 1) else v (i 0) ((i 1).val - 768) : ℝ) : EReal) := by
  have h0 : (i 0).val < 8192 := (i 0).isLt
  pointwise [beside]
  split
  · exact hk _ _
  · exact hv _ _

theorem q_block {q : ℕ → ℕ → ℝ} (hq : Is (a := 8192) (b := 768) (a0 m c) q) (t : Fin grid0.N) :
    IsR (φ := .bf16) (iblk m c 0 t) (fun i d => q (256 * (t.val % 32) + i) (128 * (t.val / 32) + d)) := fun i j => by
  have ht : t.val < 192 := t.isLt
  have hj := j.isLt
  have e0 : (((win0_0.blk t).view.emb (ix2 i j)) 0).val = 256 * (t.val % 32) + i.val := by blk_simp [idx t]; omega
  have e1 : (((win0_0.blk t).view.emb (ix2 i j)) 1).val = 128 * (t.val / 32) + j.val := by blk_simp [idx t]; omega
  blk_simp [iblk]
  rw [V_main_v1]
  refine (padded_is m c hq _ (by rw [e1]; omega)).trans ?_
  rw [e0, e1]

theorem k_block {k v : ℕ → ℕ → ℝ} (hk : Is (a := 8192) (b := 768) (a1 m c) k) (hv : Is (a := 8192) (b := 768) (a2 m c) v) (t : Fin grid0.N) :
    IsK (φ := .bf16) (iblk m c 1 t) (fun i d => k i (128 * (t.val / 32) + d)) := fun i j => by
  have ht : t.val < 192 := t.isLt
  have hj := j.isLt
  have e0 : (((win0_1.blk t).view.emb (ix2 i j)) 0).val = i.val := by blk_simp [idx t]
  have e1 : (((win0_1.blk t).view.emb (ix2 i j)) 1).val = 128 * (t.val / 32) + j.val := by blk_simp [idx t]; omega
  blk_simp [iblk]
  rw [V_main_v3]
  refine (beside_is m c hk hv _).trans ?_
  rw [e0, e1, if_pos (by omega)]

theorem v_block {k v : ℕ → ℕ → ℝ} (hk : Is (a := 8192) (b := 768) (a1 m c) k) (hv : Is (a := 8192) (b := 768) (a2 m c) v) (t : Fin grid0.N) :
    IsK (φ := .bf16) (iblk m c 2 t) (fun i d => v i (128 * (t.val / 32) + d)) := fun i j => by
  have ht : t.val < 192 := t.isLt
  have hj := j.isLt
  have e0 : (((win0_2.blk t).view.emb (ix2 i j)) 0).val = i.val := by blk_simp [idx t]
  have e1 : (((win0_2.blk t).view.emb (ix2 i j)) 1).val = 128 * (t.val / 32) + 768 + j.val := by blk_simp [idx t]; omega
  blk_simp [iblk]
  rw [V_main_v3]
  refine (beside_is m c hk hv _).trans ?_
  rw [e0, e1, if_neg (by omega), show 128 * (t.val / 32) + 768 + j.val - 768 = 128 * (t.val / 32) + j.val by omega]

/-- What a point leaves, as the chains of its rows. -/
theorem total_is {q k v : ℕ → ℕ → ℝ} (hq : Is (a := 8192) (b := 768) (a0 m c) q) (hk : Is (a := 8192) (b := 768) (a1 m c) k)
    (hv : Is (a := 8192) (b := 768) (a2 m c) v) (t : Fin grid0.N) :
    IsC (totalAt m c t) (rowsFrom (pick fun i d => q (256 * (t.val % 32) + i) (128 * (t.val / 32) + d) * (1 / 8))
      (fun i d => k i (128 * (t.val / 32) + d)) (fun i d => v i (128 * (t.val / 32) + d)) (t.val % 32) 0) := by
  unfold totalAt
  rw [dead_bot, (idx t).2.2.2.2.2]
  exact Cert.Tiles.ftotal_is (by omega) (Cert.Tiles.chains_is (Cert.Tiles.scaled_is (q_block m c hq t))) (k_block m c hk hv t) (v_block m c hk hv t)

/-- What a point leaves, as rows of the block. -/
theorem left_is {q k v : ℕ → ℕ → ℝ} (hq : Is (a := 8192) (b := 768) (a0 m c) q) (hk : Is (a := 8192) (b := 768) (a1 m c) k)
    (hv : Is (a := 8192) (b := 768) (a2 m c) v) (t : Fin grid0.N) {φ : FTy} {x : FVec Ideal S256x128 φ}
    (hx : ∀ f, IsC (totalAt m c t) f → IsR x (unite f)) (y : S256x128.Idx) :
    x y = ((hout q k v (t.val % 32 * 256 + (y 0).val) (t.val / 32 * 128 + (y 1).val) : ℝ) : EReal) := by
  have h0 : (y 0).val < 256 := (y 0).isLt
  have h1 : (y 1).val < 128 := (y 1).isLt
  refine ((hx _ (total_is m c hq hk hv t)).at y).trans ?_
  rw [Cert.Tiles.rows_out q k v _ _ _ _ (by omega) h0 h1, Nat.mul_comm 256, Nat.mul_comm 128]

/-- The first result is the reference's. -/
theorem final3 {q k v : ℕ → ℕ → ℝ} (hq : Is (a := 8192) (b := 768) (a0 m c) q) (hk : Is (a := 8192) (b := 768) (a1 m c) k)
    (hv : Is (a := 8192) (b := 768) (a2 m c) v) :
    (dats m 0 c).arrAt 3 (cfgs (F := Ideal) 0).N = fun i : S8192x768.Idx => ((hout q k v (i 0) (i 1) : ℝ) : EReal) := by
  refine (dats m 0 c).arrAt_eq_of_covers 3 _ (by decide +kernel) fun t hf y => ?_
  blk_simp [idx t]
  rw [after3]
  exact left_is m c hq hk hv t (fun f h => Cert.Tiles.wide_is h) y

/-- The second result is the reference's at the columns written. -/
theorem final4 {q k v : ℕ → ℕ → ℝ} (hq : Is (a := 8192) (b := 768) (a0 m c) q) (hk : Is (a := 8192) (b := 768) (a1 m c) k)
    (hv : Is (a := 8192) (b := 768) (a2 m c) v) (i : S8192x1024.Idx) (hi : (i 1).val < 768) :
    ((dats m 0 c).arrAt 4 (cfgs (F := Ideal) 0).N : S8192x1024.Idx → EReal) i = ((hout q k v (i 0) (i 1) : ℝ) : EReal) := by
  refine ((dats m 0 c).arrAt_apply_of_coversWhere 4 (fun i : S8192x1024.Idx => ((hout q k v (i 0) (i 1) : ℝ) : EReal))
    (P := fun i : S8192x1024.Idx => (i 1).val / 128 < 6) (fun β => β (1 : Fin 2) < 6) (by decide +kernel) (fun t hf y => ?_) (fun j => Iff.rfl) i).trans (if_pos ?_)
  · blk_simp [idx t]
    rw [after4]
    exact left_is m c hq hk hv t (fun f h => Cert.Tiles.narrow_is h) y
  · dsimp only
    omega

/-- The run, with its results read. -/
theorem run_read : θ_run defs (onTc (τ := τ) (main (F := Ideal))) ⟨m, fun _ => 0, ρ⟩ (fun r => ∀ c : Dev nD,
    r.2.mem ((c : Thread nD τ).loc main_v4_0) = (dats m 0 c).arrAt 3 (cfgs (F := Ideal) 0).N
    ∧ r.2.mem ((c : Thread nD τ).loc main_v4_1) = (dats m 0 c).arrAt 4 (cfgs (F := Ideal) 0).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun r h c => ⟨(h.1 c).1 3, (h.1 c).1 4,
    ((h.1 c).2 main_arg0 (Pipeline.mem_restRefs_of (win := spec0) main_arg0 (by decide) (by decide))).trans (V_arg m c main_arg0 (Or.inl rfl)),
    ((h.1 c).2 main_arg1 (Pipeline.mem_restRefs_of (win := spec0) main_arg1 (by decide) (by decide))).trans (V_arg m c main_arg1 (Or.inr (Or.inl rfl))),
    ((h.1 c).2 main_arg2 (Pipeline.mem_restRefs_of (win := spec0) main_arg2 (by decide) (by decide))).trans (V_arg m c main_arg2 (Or.inr (Or.inr rfl)))⟩) (run_main m ρ)

/-- The padded results of the reference, at the columns written. -/
theorem v26_is {x0 x1 x2 : S8192x768.Idx → EReal} {q k v : ℕ → ℕ → ℝ} (hq : Is (a := 8192) (b := 768) x0 q) (hk : Is (a := 8192) (b := 768) x1 k)
    (hv : Is (a := 8192) (b := 768) x2 v) (i : S8192x1024.Idx) (hi : (i 1).val < 768) :
    (Cert.WalkRefIdeal.Read.val_main_v26 (F := Ideal) x0 x1 x2 : S8192x1024.Idx → EReal) i = ((hout q k v (i 0) (i 1) : ℝ) : EReal) := by
  rw [Cert.WalkRefIdeal.Read.val_main_v26_apply]
  pointwise [Cert.WalkRefIdeal.Read.val_main_v25]
  rw [dif_pos hi]
  exact Cert.WalkRefIdeal.Hand.v24_is hq hk hv _ _

/-- The arguments are real numbers. -/
theorem reals_of [Cert.Pre_walk_finite.Facts] {x0 x1 x2 : FVec Ideal S8192x768 .f32} (h : Cert.Pre_walk_finite.fn (F := Ideal) x0 x1 x2 = fun _ => 1#1) :
    Real2 (a := 8192) (b := 768) x0 ∧ Real2 (a := 8192) (b := 768) x1 ∧ Real2 (a := 8192) (b := 768) x2 := by
  have e := congrFun h (fun a => a.elim0)
  obtain ⟨e, e2⟩ := IntOp.andi_eq_one.mp e
  obtain ⟨e0, e1⟩ := IntOp.andi_eq_one.mp e
  exact ⟨Cert.Tiles.real_of_all _ _ (fun _ => rfl) _ _ _ _ e0, Cert.Tiles.real_of_all _ _ (fun _ => rfl) _ _ _ _ e1, Cert.Tiles.real_of_all _ _ (fun _ => rfl) _ _ _ _ e2⟩

/-- A column the mask keeps is one of the attention's. -/
theorem kept [Cert.On_walk_written.Facts] {x0 x1 x2 : FVec Ideal S8192x768 .f32} (i : S8192x1024.Idx) (h : (Cert.On_walk_written.fn (F := Ideal) x0 x1 x2).2 i = 1#1) : (i 1).val < 768 := by
  have h1 : (i 1).val < 1024 := (i 1).isLt
  replace h : IntOp.cmpi .slt (BitVec.ofNat 32 (i 1).val) (BitVec.ofNat 32 768) = 1#1 := h
  rw [Cert.Tiles.slt_word (by omega) (by omega)] at h
  by_contra hn
  rw [if_neg hn] at h
  exact absurd h (by decide)

end Cert.WalkIdeal.Hand

end
-- ==== Proof.WalkClaims.lean ====
/- The claims of the forward call of the stick-breaking attention. -/
module

public import proofs.«01_k».proof.Proof.WalkGiven
public import proofs.«01_k».proof.Proof.WalkValue
public import proofs.«01_k».proof.Proof.Gen.WalkRefIdeal.Run
public import proofs.«01_k».proof.Proof.Gen.Walk
public import proofs.«01_k».proof.Proof.Gen.Pre_walk_finite
public import proofs.«01_k».proof.Proof.Gen.On_walk_written

@[expose] public section

noncomputable section

namespace Cert.Proof

open Idealize.ShloMosaic Idealize.SL.Sem
open Cert.Tiles (hout reals reals_is)

theorem frame_Walk : quiescent_Walk := fun m ρ _ => Cert.Walk.Hand.frame_run (F := Bits) m ρ
theorem frame_WalkIdeal : quiescent_WalkIdeal := fun m ρ _ => Cert.WalkIdeal.Hand.frame_run (F := Ideal) m ρ
theorem frame_WalkIdeal_finite : quiescent_WalkIdeal_pre_walk_finite := fun m ρ _ => frame_WalkIdeal m ρ trivial
theorem frame_WalkRefIdeal : quiescent_WalkRefIdeal := fun m ρ _ =>
  (θ_run Cert.WalkRefIdeal.defs _ _).mono (fun r h => ⟨fun c => (h c).2.2, sem_eq_zero_of_no_sems (by decide) r.2⟩)
    (Cert.WalkRefIdeal.Value.run (F := Ideal) m ρ)
theorem frame_WalkRefIdeal_finite : quiescent_WalkRefIdeal_pre_walk_finite := fun m ρ _ => frame_WalkRefIdeal m ρ trivial

/-- The idealised program differs in the threshold, named minus infinity. -/
theorem preserves_Walk : preserves_Walk_WalkIdeal := IdealRules.named_const.statement Cert.WalkIdeal.κ "dead" .f32 0xC2DC0000#32 ⊥ rfl

/-- The forward call computes the attention. -/
theorem algebraic_Walk : algebraic_WalkIdeal_WalkRefIdeal_on_walk_written_pre_walk_finite := by
  intro m ρ m' ρ' hpre hagree
  have hr := fun c => Cert.WalkIdeal.Hand.reals_of (hpre c)
  refine ⟨fun c i => ((hout (reals (Cert.WalkIdeal.Hand.a0 m c)) (reals (Cert.WalkIdeal.Hand.a1 m c)) (reals (Cert.WalkIdeal.Hand.a2 m c)) (i 0) (i 1) : ℝ) : EReal),
    fun c i => ((hout (reals (Cert.WalkIdeal.Hand.a0 m c)) (reals (Cert.WalkIdeal.Hand.a1 m c)) (reals (Cert.WalkIdeal.Hand.a2 m c)) (i 0) (i 1) : ℝ) : EReal), ?_, ?_⟩
  · refine (θ_run Cert.WalkIdeal.defs _ _).mono (fun r h c => ⟨fun i _ => ?_, fun i hi => ?_, (h c).2.2⟩) (Cert.WalkIdeal.Hand.run_read m ρ)
    · rw [(h c).1, Cert.WalkIdeal.Hand.final3 m c (reals_is (hr c).1) (reals_is (hr c).2.1) (reals_is (hr c).2.2)]
    · rw [(h c).2.1]
      exact Cert.WalkIdeal.Hand.final4 m c (reals_is (hr c).1) (reals_is (hr c).2.1) (reals_is (hr c).2.2) i (Cert.WalkIdeal.Hand.kept i hi)
  · refine (θ_run Cert.WalkRefIdeal.defs _ _).mono (fun r h c => ⟨fun i _ => ?_, fun i hi => ?_, (h c).2.2⟩) (Cert.WalkRefIdeal.Value.run (F := Ideal) m' ρ')
    · rw [(h c).1, Cert.WalkRefIdeal.Read.val_main_v24_eq, (hagree c).1, (hagree c).2.1, (hagree c).2.2]
      exact (Cert.WalkRefIdeal.Hand.v24_is (reals_is (hr c).1) (reals_is (hr c).2.1) (reals_is (hr c).2.2)).at i
    · rw [(h c).2.1, Cert.WalkRefIdeal.Read.val_main_v26_eq, (hagree c).1, (hagree c).2.1, (hagree c).2.2]
      exact Cert.WalkIdeal.Hand.v26_is (reals_is (hr c).1) (reals_is (hr c).2.1) (reals_is (hr c).2.2) i (Cert.WalkIdeal.Hand.kept i hi)

end Cert.Proof

end
-- ==== Proof.Norms.lean ====
/- A root-mean-square norm of a row of 1024 numbers and its gradient, over the reals. -/
module

public import proofs.«01_k».proof.Proof.Lift

@[expose] public section

noncomputable section

namespace Cert.Tiles

open Idealize.ShloMosaic
open Finset (range)

/-- The number the small constant of the norm stands for. -/
def tiny : ℝ := 8796093 / 2 ^ 43

theorem tiny_word : Ideal.ofBits .f32 897988541#32 = ((tiny : ℝ) : EReal) := by
  simp [Ideal.ofBits, Ideal.ieee, tiny, -EReal.coe_mul]; norm_num
theorem width_word : Ideal.ofBits .f32 1149239296#32 = ((1024 : ℝ) : EReal) := by
  simp [Ideal.ofBits, Ideal.ieee, -EReal.coe_mul]; norm_num
theorem minus_half_word : Ideal.ofBits .f32 3204448256#32 = ((-(1 / 2) : ℝ) : EReal) := by
  simp [Ideal.ofBits, Ideal.ieee, -EReal.coe_mul]; norm_num

theorem div_width (a : ℝ) : Ideal.div (a : EReal) (Ideal.ofBits .f32 1149239296#32) = ((a / 1024 : ℝ) : EReal) := by
  rw [width_word, Ideal.div_coe (by norm_num), ← EReal.coe_mul, mul_one_div]

/-- The mean square of a row and the small constant. -/
def square (f : ℕ → ℝ) : ℝ := (∑ k ∈ range 1024, f k * f k) / 1024 + tiny

theorem square_pos (f : ℕ → ℝ) : 0 < square f :=
  add_pos_of_nonneg_of_pos (div_nonneg (Finset.sum_nonneg fun k _ => mul_self_nonneg _) (by norm_num)) (by unfold tiny; positivity)

/-- What a row is scaled by. -/
def rms (f : ℕ → ℝ) : ℝ := (Real.sqrt (square f))⁻¹

theorem rms_sq (f : ℕ → ℝ) : rms f * rms f = (square f)⁻¹ := by
  rw [rms, ← mul_inv, Real.mul_self_sqrt (square_pos f).le]

/-- The gradient with respect to a row, of cotangent `D` of the normed row and gain `g`. -/
def rowGrad (f g D : ℕ → ℝ) (j : ℕ) : ℝ := rms f * (D j * g j - f j * rms f * ((∑ k ∈ range 1024, D k * g k * (f k * rms f)) / 1024))

section Row

variable {X G D : Fin 1024 → EReal} {f g d : ℕ → ℝ} (hx : ∀ k, X k = ((f k : ℝ) : EReal)) (hg : ∀ k, G k = ((g k : ℝ) : EReal)) (hd : ∀ k, D k = ((d k : ℝ) : EReal))

include hx in
theorem square_is : Ideal.div (∑ k : Fin 1024, X k * X k) (Ideal.ofBits .f32 1149239296#32) + Ideal.ofBits .f32 897988541#32 = ((square f : ℝ) : EReal) := by
  rw [sum_fin _ (fun k => f k * f k) fun k => by rw [hx, ← EReal.coe_mul], div_width, tiny_word, ← EReal.coe_add, square]

include hx in
theorem rms_is : Ideal.rsqrt (Ideal.div (∑ k : Fin 1024, X k * X k) (Ideal.ofBits .f32 1149239296#32) + Ideal.ofBits .f32 897988541#32) = ((rms f : ℝ) : EReal) := by
  rw [square_is hx, Ideal.rsqrt_coe, if_neg (square_pos f).not_gt, if_neg (square_pos f).ne', rms]

include hx in
/-- A normed entry before its gain. -/
theorem unit_is (j : Fin 1024) : X j * Ideal.rsqrt (Ideal.div (∑ k : Fin 1024, X k * X k) (Ideal.ofBits .f32 1149239296#32) + Ideal.ofBits .f32 897988541#32)
    = ((f j * rms f : ℝ) : EReal) := by
  rw [rms_is hx, hx, EReal.coe_mul]

include hx hg in
/-- A normed entry. -/
theorem norm_is (j : Fin 1024) : X j * Ideal.rsqrt (Ideal.div (∑ k : Fin 1024, X k * X k) (Ideal.ofBits .f32 1149239296#32) + Ideal.ofBits .f32 897988541#32) * G j
    = ((f j * rms f * g j : ℝ) : EReal) := by
  rw [unit_is hx, hg, ← EReal.coe_mul]

include hx hg hd in
/-- The gradient as the kernels write it. -/
theorem rowGrad_is (j : Fin 1024) :
    Ideal.rsqrt (Ideal.div (∑ k : Fin 1024, X k * X k) (Ideal.ofBits .f32 1149239296#32) + Ideal.ofBits .f32 897988541#32)
      * (D j * G j - X j * Ideal.rsqrt (Ideal.div (∑ k : Fin 1024, X k * X k) (Ideal.ofBits .f32 1149239296#32) + Ideal.ofBits .f32 897988541#32)
        * Ideal.div (∑ l : Fin 1024, D l * G l * (X l * Ideal.rsqrt (Ideal.div (∑ k : Fin 1024, X k * X k) (Ideal.ofBits .f32 1149239296#32) + Ideal.ofBits .f32 897988541#32)))
            (Ideal.ofBits .f32 1149239296#32))
      = ((rowGrad f g d j : ℝ) : EReal) := by
  rw [rms_is hx, sum_fin _ (fun l => d l * g l * (f l * rms f)) fun l => by rw [hx, hd, hg, ← EReal.coe_mul, ← EReal.coe_mul, ← EReal.coe_mul], div_width, hx, hd, hg]
  simp only [← EReal.coe_mul, ← EReal.coe_sub]
  rfl

include hx hg hd in
/-- The gradient as reverse differentiation of the norm's lines writes it. -/
theorem rowGrad_ref (j : Fin 1024) :
    D j * G j * Ideal.rsqrt (Ideal.div (∑ k : Fin 1024, X k * X k) (Ideal.ofBits .f32 1149239296#32) + Ideal.ofBits .f32 897988541#32)
      + X j * ∑ e : Fin 1, Ideal.div ((∑ l : Fin 1024, X l * (D l * G l)) * (Ideal.ofBits .f32 3204448256#32
          * Ideal.div (Ideal.rsqrt (Ideal.div (∑ k : Fin 1024, X k * X k) (Ideal.ofBits .f32 1149239296#32) + Ideal.ofBits .f32 897988541#32))
              (Ideal.div (∑ k : Fin 1024, X k * X k) (Ideal.ofBits .f32 1149239296#32) + Ideal.ofBits .f32 897988541#32))) (Ideal.ofBits .f32 1149239296#32)
      + (∑ e : Fin 1, Ideal.div ((∑ l : Fin 1024, X l * (D l * G l)) * (Ideal.ofBits .f32 3204448256#32
          * Ideal.div (Ideal.rsqrt (Ideal.div (∑ k : Fin 1024, X k * X k) (Ideal.ofBits .f32 1149239296#32) + Ideal.ofBits .f32 897988541#32))
              (Ideal.div (∑ k : Fin 1024, X k * X k) (Ideal.ofBits .f32 1149239296#32) + Ideal.ofBits .f32 897988541#32))) (Ideal.ofBits .f32 1149239296#32)) * X j
      = ((rowGrad f g d j : ℝ) : EReal) := by
  rw [Fin.sum_univ_one, rms_is hx, square_is hx, sum_fin _ (fun l => f l * (d l * g l)) fun l => by rw [hx, hd, hg, ← EReal.coe_mul, ← EReal.coe_mul],
    Ideal.div_coe (square_pos f).ne', minus_half_word, ← EReal.coe_mul, ← EReal.coe_mul, ← EReal.coe_mul, div_width, hx, hd, hg]
  simp only [← EReal.coe_mul, ← EReal.coe_add]
  congr 1
  have e : ∑ l ∈ range 1024, d l * g l * (f l * rms f) = rms f * ∑ l ∈ range 1024, f l * (d l * g l) := by
    rw [Finset.mul_sum]
    exact Finset.sum_congr rfl fun l _ => by ring
  rw [rowGrad, e, one_div (square f), ← rms_sq]
  ring

end Row

end Cert.Tiles

end
-- ==== Proof.NormValue.lean ====
/- The gradient through a norm and the two products after it, over the reals. -/
module

public import proofs.«01_k».proof.Defs
public import proofs.«01_k».proof.Proof.Gen.NormIdeal.Frame
public import proofs.«01_k».proof.Proof.Gen.NormRefIdeal.Read
public import proofs.«01_k».proof.Proof.Finite
public import proofs.«01_k».proof.Proof.Norms
public import Idealize.ShloMosaic.Lib.Pipeline.ValueKit
public import Idealize.ShloMosaic.Lib.Pipeline.ReadBack
public import Idealize.ShloMosaic.Lib.Ring

@[expose] public section

set_option maxRecDepth 16384

noncomputable section

namespace Cert.NormIdeal.Hand

open Cert.NormIdeal Cert.NormIdeal.Gen
open Cert.Tiles (Is sum_fin rms rowGrad rowGrad_is rowGrad_ref norm_is unit_is)
open Finset (range)
open Idealize.ShloMosaic Idealize.ShloMosaic.TcCoe Idealize.SL Idealize.SL.Sem
open Idealize.ShloMosaic.Pipeline (Dat)

variable (m : (ℓ : Loc nD τ sig) → Buf (Elt Ideal) ℓ)

/-- One block's contribution to an entry of the cotangent of the normed rows. -/
def part (d : FVec Ideal S1024x1408 .bf16) (w : FVec Ideal S1408x1024 .bf16) (j : S1024x1024.Idx) : EReal := ∑ k : Fin 1408, d (ix2 (j 0) k) * w (ix2 k (j 1))

theorem product_at (acc : FVec Ideal S1024x1024 .f32) (d : FVec Ideal S1024x1408 .bf16) (w : FVec Ideal S1408x1024 .bf16) (j : S1024x1024.Idx) :
    k0_pay3 acc d w j = acc j + part d w j := by
  open_payloads
  pointwise [part]

section Payload

variable {x D r : FVec Ideal S1024x1024 .f32} {g : FVec Ideal S1x1024 .f32} {f d : ℕ → ℕ → ℝ} {gain : ℕ → ℝ}
  (hx : Is (a := 1024) (b := 1024) x f) (hg : ∀ k : Fin 1024, g (ix2 0 k) = ((gain k : ℝ) : EReal)) (hd : Is (a := 1024) (b := 1024) D d)

include hx hg hd in
/-- The gradient with respect to the rows, added to what came from the other branch. -/
theorem grad_at (a b : Fin 1024) : k0_pay9 (F := Ideal) x D g r (ix2 a b) = r (ix2 a b) + ((rowGrad (f a) gain (d a) b : ℝ) : EReal) := by
  open_payloads
  pointwise
  exact congrArg _ (rowGrad_is (X := fun k => x (ix2 a k)) (G := fun k => g (ix2 0 k)) (D := fun k => D (ix2 a k)) (hx a) hg (hd a) b)

include hx hd in
/-- The rows' contribution to the gain's gradient. -/
theorem gain_at (dg : FVec Ideal S1x1024 .f32) (j : S1x1024.Idx) :
    k0_pay8 (F := Ideal) x D dg j = dg j + ((∑ a ∈ range 1024, d a (j 1).val * (f a (j 1).val * rms (f a)) : ℝ) : EReal) := by
  open_payloads
  pointwise
  refine congrArg _ (sum_fin _ (fun a => d a (j 1).val * (f a (j 1).val * rms (f a))) fun a => ?_)
  exact (congrArg₂ (· * ·) (hd a (j 1)) (unit_is (X := fun k => x (ix2 a k)) (hx a) (j 1))).trans (EReal.coe_mul _ _).symm

include hx hg in
/-- The normed rows. -/
theorem norm_at (a b : Fin 1024) : k0_pay4 (k0_pay10 (F := Ideal) x g) (ix2 a b) = ((f a b * rms (f a) * gain b : ℝ) : EReal) := by
  open_payloads
  pointwise
  exact norm_is (X := fun k => x (ix2 a k)) (G := fun k => g (ix2 0 k)) (hx a) hg b

end Payload

/-- The block indices of the eight windows at every grid point. -/
theorem idx : ∀ t : Fin cfg0.N, win0_0.index t = ![t.val / 4, t.val % 4] ∧ win0_1.index t = ![t.val % 4, 0] ∧ win0_2.index t = ![t.val / 4, 0] ∧ win0_3.index t = ![0, 0]
    ∧ win0_4.index t = ![t.val / 4, 0] ∧ win0_5.index t = ![t.val / 4, 0] ∧ win0_6.index t = ![0, 0] ∧ win0_7.index t = ![t.val / 4, 0] ∧ t.val < 32 :=
  (by decide +kernel : ∀ t : Fin grid0.N, _)

/-- The numbers of two arrays joined side by side. -/
def side (a b : ℕ → ℕ → ℝ) (i l : ℕ) : ℝ := if l < 2816 then a i l else b i (l - 2816)

section Blocks

variable {c : Dev nD} {x wg wu dg du : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hwg : Is (a := 1024) (b := 2816) (m ((c : Thread nD τ).loc main_arg2)) wg) (hwu : Is (a := 1024) (b := 2816) (m ((c : Thread nD τ).loc main_arg3)) wu)
  (hdg : Is (a := 8192) (b := 2816) (m ((c : Thread nD τ).loc main_arg4)) dg) (hdu : Is (a := 8192) (b := 2816) (m ((c : Thread nD τ).loc main_arg5)) du)

include hdg hdu in
theorem blk0 (t : Fin cfg0.N) : Is (a := 1024) (b := 1408) (iblk m c 0 t) (fun i l => side dg du (1024 * (t.val / 4) + i) (1408 * (t.val % 4) + l)) := fun i j => by
  have ht := (idx t).2.2.2.2.2.2.2.2
  unfold side
  blk_simp [iblk, idx t]
  entry_read
  pointwise
  split
  · rename_i h
    have h : 1408 * (t.val % 4) + j.val < 2816 := by revert h; blk_simp [idx t]; omega
    rw [if_pos h, ← hdg ⟨1024 * (t.val / 4) + i.val, by omega⟩ ⟨1408 * (t.val % 4) + j.val, h⟩]
    blk_ext [idx t]
  · rename_i h
    have h : ¬ 1408 * (t.val % 4) + j.val < 2816 := by revert h; blk_simp [idx t]; omega
    rw [if_neg h, ← hdu ⟨1024 * (t.val / 4) + i.val, by omega⟩ ⟨1408 * (t.val % 4) + j.val - 2816, by omega⟩]
    blk_ext [idx t]

include hwg hwu in
theorem blk1 (t : Fin cfg0.N) : Is (a := 1408) (b := 1024) (iblk m c 1 t) (fun l k => side wg wu k (1408 * (t.val % 4) + l)) := fun i j => by
  have ht := (idx t).2.2.2.2.2.2.2.2
  unfold side
  blk_simp [iblk, idx t]
  entry_read
  pointwise
  split
  · rename_i h
    have h : 1408 * (t.val % 4) + i.val < 2816 := by revert h; blk_simp [idx t]; omega
    rw [if_pos h, ← hwg j ⟨1408 * (t.val % 4) + i.val, h⟩]
    blk_ext [idx t]
  · rename_i h
    have h : ¬ 1408 * (t.val % 4) + i.val < 2816 := by revert h; blk_simp [idx t]; omega
    rw [if_neg h, ← hwu j ⟨1408 * (t.val % 4) + i.val - 2816, by omega⟩]
    blk_ext [idx t]

include hx in
theorem blk2 (t : Fin cfg0.N) : Is (a := 1024) (b := 1024) (iblk m c 2 t) (fun i k => x (1024 * (t.val / 4) + i) k) := fun i j => by
  refine Eq.trans ?_ (hx ⟨1024 * (t.val / 4) + i.val, by have := (idx t).2.2.2.2.2.2.2.2; omega⟩ j)
  blk_point [iblk, V, idx t]

include hg in
theorem blk3 (t : Fin cfg0.N) (k : Fin 1024) : (iblk m c 3 t : S1x1024.Idx → EReal) (ix2 0 k) = ((gain k : ℝ) : EReal) := by
  refine Eq.trans ?_ (hg k)
  blk_simp [iblk, idx t]
  entry_read
  pointwise
  blk_ext [idx t]

theorem blk4 (t : Fin cfg0.N) (y : S1024x1024.Idx) : iblk m c 4 t y = m ((c : Thread nD τ).loc main_arg6) ((win0_5.blk t).view.emb y) := by
  blk_point [iblk, V, idx t]

/-- The cotangent of the normed rows. -/
def cot (wg wu dg du : ℕ → ℕ → ℝ) (i k : ℕ) : ℝ := ∑ l ∈ range 5632, side dg du i l * side wg wu k l

include hwg hwu hdg hdu in
theorem part_is (t : Fin cfg0.N) : Is (a := 1024) (b := 1024) (part (iblk m c 0 t) (iblk m c 1 t))
    (fun i k => ∑ l ∈ range 1408, side dg du (1024 * (t.val / 4) + i) (1408 * (t.val % 4) + l) * side wg wu k (1408 * (t.val % 4) + l)) := fun i j =>
  sum_fin _ (fun l => side dg du (1024 * (t.val / 4) + i) (1408 * (t.val % 4) + l) * side wg wu j (1408 * (t.val % 4) + l)) fun l =>
    (congrArg₂ (· * ·) (blk0 m hdg hdu t i l) (blk1 m hwg hwu t l j)).trans (EReal.coe_mul _ _).symm

/-- At the first point of a run of four the accumulator holds this block's contribution. -/
theorem acc_first (t : Fin cfg0.N) (h : t.val % 4 = 0) (j : S1024x1024.Idx) : (outsAt0 m c t.val t.isLt).2.2.2 j = part (iblk m c 0 t) (iblk m c 1 t) j := by
  by_cases h1 : t.val % 32 = 0
  on_goal 1 => rw [outsAt0_A m c t h h1 (by omega)]
  on_goal 2 => rw [outsAt0_D m c t h h1 (by omega)]
  all_goals
    frame_out
    rw [product_at]
    refine (congrArg (· + _) ?_).trans (zero_add _)
    open_payloads
    pointwise

/-- At the later points of a run it gains this block's contribution. -/
theorem acc_later (t : Fin cfg0.N) (h : ¬ t.val % 4 = 0) (j : S1024x1024.Idx) : (outsAt0 m c t.val t.isLt).2.2.2 j
    = (outsAt0 m c (t.val - 1) (Nat.lt_of_le_of_lt (Nat.sub_le _ _) t.isLt)).2.2.2 j + part (iblk m c 0 t) (iblk m c 1 t) j := by
  by_cases h2 : t.val % 4 = 3
  on_goal 1 => rw [outsAt0_C m c t h (by omega) h2]
  on_goal 2 => rw [outsAt0_B m c t h (by omega) h2]
  all_goals
    frame_out
    generalize (outsAt0 m c (t.val - 1) _).2 = acc
    simp only [read_unread_whole]
    rw [product_at]

include hwg hwu hdg hdu in
/-- What the accumulator holds after each point. -/
theorem acc_is (n : ℕ) (hn : n < cfg0.N) : Is (a := 1024) (b := 1024) (outsAt0 m c n hn).2.2.2
    (fun i k => ∑ l ∈ range (1408 * (n % 4 + 1)), side dg du (1024 * (n / 4) + i) l * side wg wu k l) := by
  induction n with
  | zero =>
    intro i j
    rw [acc_first m ⟨0, hn⟩ rfl, part_is m hwg hwu hdg hdu]
    simp
  | succ n ih =>
    intro i j
    by_cases h : (n + 1) % 4 = 0
    · rw [acc_first m ⟨n + 1, hn⟩ h, part_is m hwg hwu hdg hdu]
      simp [h]
    · rw [acc_later m ⟨n + 1, hn⟩ h, part_is m hwg hwu hdg hdu]
      refine (congrArg (· + _) (ih (by omega) i j)).trans ?_
      have e1 : (n + 1) % 4 = n % 4 + 1 := by omega
      have e2 : (n + 1) / 4 = n / 4 := by omega
      simp only [e1, e2]
      rw [mul_add 1408 (n % 4 + 1) 1, mul_one, Finset.sum_range_add, ← EReal.coe_add]

include hwg hwu hdg hdu in
/-- At the last point of a run the accumulator holds the cotangent's rows. -/
theorem acc_last (t : Fin cfg0.N) (h : t.val % 4 = 3) : Is (a := 1024) (b := 1024) (outsAt0 m c t.val t.isLt).2.2.2 (fun i => cot wg wu dg du (1024 * (t.val / 4) + i)) := by
  have := acc_is m hwg hwu hdg hdu t.val t.isLt
  rw [h] at this
  exact this

/-- What the last point of a run leaves, from the accumulator it then holds. -/
theorem last_outs (t : Fin cfg0.N) (h : t.val % 4 = 3) : outsAt0 m c t.val t.isLt
    = (k0_pay9 (iblk m c 2 t) (outsAt0 m c t.val t.isLt).2.2.2 (iblk m c 3 t) (iblk m c 4 t),
       k0_pay8 (iblk m c 2 t) (outsAt0 m c t.val t.isLt).2.2.2 (outsAt0 m c (t.val - 1) (Nat.lt_of_le_of_lt (Nat.sub_le _ _) t.isLt)).2.1,
       k0_pay4 (k0_pay10 (iblk m c 2 t) (iblk m c 3 t)), (outsAt0 m c t.val t.isLt).2.2.2) := by
  rw [outsAt0_C m c t (by omega) (by omega) h]
  frame_out

/-- At the points that are not last in a run the gain's gradient keeps its contents, from zero. -/
theorem gain_keep (t : Fin cfg0.N) (h : ¬ t.val % 4 = 3) (j : S1x1024.Idx) : (outsAt0 m c t.val t.isLt).2.1 j
    = if t.val = 0 then 0 else (outsAt0 m c (t.val - 1) (Nat.lt_of_le_of_lt (Nat.sub_le _ _) t.isLt)).2.1 j := by
  have ht := (idx t).2.2.2.2.2.2.2.2
  split
  · rename_i h0
    rw [outsAt0_A m c t (by omega) (by omega) h]
    frame_out
    open_payloads
    pointwise
  · rename_i h0
    by_cases h1 : t.val % 4 = 0
    · rw [outsAt0_D m c t h1 (by omega) h]
      rfl
    · rw [outsAt0_B m c t h1 (by omega) h]
      rfl

include hx hwg hwu hdg hdu in
/-- What the gain's gradient holds after each point. -/
theorem gain_is (n : ℕ) (hn : n < cfg0.N) (j : S1x1024.Idx) : (outsAt0 m c n hn).2.1 j
    = ((∑ a ∈ range (1024 * ((n + 1) / 4)), cot wg wu dg du a (j 1).val * (x a (j 1).val * rms (x a)) : ℝ) : EReal) := by
  induction n with
  | zero =>
    rw [gain_keep m ⟨0, hn⟩ (by simp)]
    simp
  | succ n ih =>
    by_cases h : (n + 1) % 4 = 3
    · rw [last_outs m ⟨n + 1, hn⟩ h]
      refine (gain_at (blk2 m hx _) (acc_last m hwg hwu hdg hdu ⟨n + 1, hn⟩ h) _ j).trans ?_
      refine (congrArg (· + _) (ih (by omega))).trans ?_
      rw [← EReal.coe_add, show (n + 1 + 1) / 4 = (n + 1) / 4 + 1 by omega, mul_add 1024 ((n + 1) / 4) 1, mul_one, Finset.sum_range_add]
    · rw [gain_keep m ⟨n + 1, hn⟩ h, if_neg (by simp)]
      refine (ih (by omega)).trans ?_
      rw [show (n + 1 + 1) / 4 = (n + 1) / 4 by omega]

end Blocks

section Reference

open Cert.NormRefIdeal.Read

variable {x0 x6 : FVec Ideal Cert.NormRefIdeal.S8192x1024 .f32} {x1 : FVec Ideal Cert.NormRefIdeal.S1024 .f32} {x2 x3 : FVec Ideal Cert.NormRefIdeal.S1024x2816 .f32}
  {x4 x5 : FVec Ideal Cert.NormRefIdeal.S8192x2816 .f32} {x wg wu dg du : ℕ → ℕ → ℝ} {gain : ℕ → ℝ}
  (hx : Is (a := 8192) (b := 1024) x0 x) (hg : ∀ k : Fin 1024, x1 (ix1 k) = ((gain k : ℝ) : EReal)) (hwg : Is (a := 1024) (b := 2816) x2 wg)
  (hwu : Is (a := 1024) (b := 2816) x3 wu) (hdg : Is (a := 8192) (b := 2816) x4 dg) (hdu : Is (a := 8192) (b := 2816) x5 du)

include hwg hwu hdg hdu in
theorem cot_is (i : Fin 8192) (k : Fin 1024) : ∑ l : Fin 2816, x5 (ix2 i l) * x3 (ix2 k l) + ∑ l : Fin 2816, x4 (ix2 i l) * x2 (ix2 k l) = ((cot wg wu dg du i k : ℝ) : EReal) := by
  rw [sum_fin _ (fun l => du i l * wu k l) fun l => by rw [hdu, hwu, ← EReal.coe_mul], sum_fin _ (fun l => dg i l * wg k l) fun l => by rw [hdg, hwg, ← EReal.coe_mul],
    ← EReal.coe_add, cot, show 5632 = 2816 + 2816 from rfl, Finset.sum_range_add, add_comm]
  refine congrArg _ (congrArg₂ (· + ·) ?_ ?_)
  · exact Finset.sum_congr rfl fun l hl => by rw [side, side, if_pos (Finset.mem_range.mp hl), if_pos (Finset.mem_range.mp hl)]
  · exact Finset.sum_congr rfl fun l hl => by simp [side]

include hx hg hwg hwu hdg hdu in
theorem ref_rows (a : Fin 8192) (b : Fin 1024) :
    val_main_v41 (F := Ideal) x0 x1 x2 x3 x4 x5 x6 (ix2 a b) = x6 (ix2 a b) + ((rowGrad (x a) gain (cot wg wu dg du a) b : ℝ) : EReal) := by
  pointwise [val_main_v41, val_main_v40, val_main_v39, val_main_v38, val_main_v37, val_main_v36, val_main_v35, val_main_cst_7, val_main_v34, val_main_v33, val_main_cst_6, val_main_v32, val_main_v31, val_main_v30, val_main_v29, val_main_v28, val_main_cst_5, val_main_v27, val_main_v25, val_main_v24, val_main_v20, val_main_v19, val_main_v18, val_main_v13, val_main_v10, val_main_v9, val_main_cst_2, val_main_v8, val_main_v7, val_main_v6, val_main_v5, val_main_cst_1, val_main_v4, val_main_v3, val_main_cst_0, val_main_v2, val_main_v1, val_main_cst, val_main_v0]
  exact congrArg _ (rowGrad_ref (X := fun k => x0 (ix2 a k)) (G := fun k => x1 (ix1 k)) (D := fun k => _) (hx a) hg (cot_is hwg hwu hdg hdu a) b)

include hx hwg hwu hdg hdu in
theorem ref_gain (b : Fin 1024) : val_main_v42 (F := Ideal) x0 x2 x3 x4 x5 (ix2 0 b)
    = ((∑ a ∈ range 8192, cot wg wu dg du a b * (x a b * rms (x a)) : ℝ) : EReal) := by
  rw [← val_main_v42_eq]
  pointwise
  rw [Fin.sum_univ_one]
  refine sum_fin _ (fun a => cot wg wu dg du a b * (x a b * rms (x a))) fun a => ?_
  rw [cot_is hwg hwu hdg hdu, unit_is (X := fun k => x0 (ix2 a k)) (hx a), ← EReal.coe_mul, mul_comm]

include hx hg in
theorem ref_norm (a : Fin 8192) (b : Fin 1024) : val_main_v56 (F := Ideal) x0 x1 (ix2 a b) = ((x a b * rms (x a) * gain b : ℝ) : EReal) := by
  rw [← val_main_v56_eq]
  pointwise
  exact norm_is (X := fun k => x0 (ix2 a k)) (G := fun k => x1 (ix1 k)) (hx a) hg b

end Reference

section Final

variable {c : Dev nD} {x wg wu dg du : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hwg : Is (a := 1024) (b := 2816) (m ((c : Thread nD τ).loc main_arg2)) wg) (hwu : Is (a := 1024) (b := 2816) (m ((c : Thread nD τ).loc main_arg3)) wu)
  (hdg : Is (a := 8192) (b := 2816) (m ((c : Thread nD τ).loc main_arg4)) dg) (hdu : Is (a := 8192) (b := 2816) (m ((c : Thread nD τ).loc main_arg5)) du)

/-- Where an entry of a block of rows lies. -/
theorem emb_rows (t : Fin cfg0.N) (y : S1024x1024.Idx) (h : 1024 * (t.val / 4) + (y 0).val < 8192) :
    (win0_5.blk t).view.emb y = ix2 ⟨1024 * (t.val / 4) + (y 0).val, h⟩ (y 1) := by
  blk_ext [idx t]

include hx hg hwg hwu hdg hdu in
/-- The gradient of the rows. -/
theorem final_rows : (dats m 0 c).arrAt 5 (cfgs 0).N = Cert.NormRefIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 5 _ (by decide +kernel) fun t hf y => ?_
  have h3 := (flush0_5 t).mp hf
  have h : 1024 * (t.val / 4) + (y 0).val < 8192 := by have := (idx t).2.2.2.2.2.2.2.2; have : (y 0).val < 1024 := (y 0).isLt; omega
  have e := emb_rows t y h
  blk_simp
  rw [after0_5, last_outs m t h3, eq_ix2 y]
  refine (grad_at (blk2 m hx t) (blk3 m hg t) (acc_last m hwg hwu hdg hdu t h3) (y 0) (y 1)).trans ?_
  rw [blk4, ← eq_ix2 y]
  refine Eq.trans ?_ (congrArg _ e).symm
  refine Eq.trans ?_ (ref_rows hx hg hwg hwu hdg hdu ⟨_, h⟩ (y 1)).symm
  exact congrArg (fun z : EReal => z + _) (congrArg (m ((c : Thread nD τ).loc main_arg6)) e)

include hx hwg hwu hdg hdu in
/-- The gradient of the gain. -/
theorem final_gain : (dats m 0 c).arrAt 6 (cfgs 0).N = Cert.NormRefIdeal.Read.val_main_v42 (F := Ideal) (m ((c : Thread nD τ).loc main_arg0))
      (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h3 := (flush0_6 t).mp hf
  have ht : (t.val + 1) / 4 = 8 := by have := (idx t).2.2.2.2.2.2.2.2; omega
  have h0 : (y 0).val < 1 := (y 0).isLt
  have e : (win0_6.blk t).view.emb y = ix2 0 (y 1) := by blk_ext [idx t]
  blk_simp
  rw [after0_6]
  refine (gain_is m hx hwg hwu hdg hdu t.val t.isLt y).trans ?_
  refine Eq.trans ?_ (congrArg _ e).symm
  refine Eq.trans ?_ (ref_gain hx hwg hwu hdg hdu (y 1)).symm
  rw [ht]

include hx hg in
/-- The normed rows. -/
theorem final_norm : (dats m 0 c).arrAt 7 (cfgs 0).N = Cert.NormRefIdeal.Read.val_main_v56 (F := Ideal) (m ((c : Thread nD τ).loc main_arg0)) (m ((c : Thread nD τ).loc main_arg1)) := by
  refine (dats m 0 c).arrAt_eq_of_covers 7 _ (by decide +kernel) fun t hf y => ?_
  have h3 := (flush0_7 t).mp hf
  have h : 1024 * (t.val / 4) + (y 0).val < 8192 := by have := (idx t).2.2.2.2.2.2.2.2; have : (y 0).val < 1024 := (y 0).isLt; omega
  have e : (win0_7.blk t).view.emb y = ix2 ⟨1024 * (t.val / 4) + (y 0).val, h⟩ (y 1) := by blk_ext [idx t]
  blk_simp
  rw [after0_7, last_outs m t h3, eq_ix2 y]
  refine (norm_at (blk2 m hx t) (blk3 m hg t) (y 0) (y 1)).trans ?_
  rw [← eq_ix2 y]
  refine Eq.trans ?_ (congrArg _ e).symm
  exact (ref_norm hx hg ⟨_, h⟩ (y 1)).symm

end Final

end Cert.NormIdeal.Hand

end
-- ==== Proof.Backs.lean ====
/- The cotangent of normed rows, and a gain's gradient from it. -/
module

public import proofs.«01_k».proof.Proof.Norms

@[expose] public section

noncomputable section

namespace Cert.Tiles

open Idealize.ShloMosaic
open Finset (range)

/-- Rows times rows, over the extended reals. -/
def times {n a b : ℕ} (D : (⟨2, ![a, n]⟩ : Shape).Idx → EReal) (W : (⟨2, ![b, n]⟩ : Shape).Idx → EReal) (i : Fin a) (k : Fin b) : EReal :=
  ∑ l : Fin n, D (ix2 i l) * W (ix2 k l)

/-- The cotangent of the normed rows: the product's own cotangent times the weights' rows. -/
def backRow (n : ℕ) (d w : ℕ → ℕ → ℝ) (i k : ℕ) : ℝ := ∑ l ∈ range n, d i l * w k l

theorem times_is {n a b : ℕ} {D : (⟨2, ![a, n]⟩ : Shape).Idx → EReal} {W : (⟨2, ![b, n]⟩ : Shape).Idx → EReal} {d w : ℕ → ℕ → ℝ} (hd : Is D d) (hw : Is W w) (i : Fin a) (k : Fin b) :
    times D W i k = ((backRow n d w i k : ℝ) : EReal) :=
  sum_fin _ (fun l => d i l * w k l) fun l => (congrArg₂ (· * ·) (hd i l) (hw k l)).trans (EReal.coe_mul _ _).symm

/-- A gain's gradient, over the first `n` rows. -/
def gainGrad (n : ℕ) (x c : ℕ → ℕ → ℝ) (b : ℕ) : ℝ := ∑ a ∈ range n, c a b * (x a b * rms (x a))

end Cert.Tiles

end
-- ==== Proof.MixValue.lean ====
/- The gradient through a norm and the one product after it, over the reals. -/
module

public import proofs.«01_k».proof.Defs
public import proofs.«01_k».proof.Proof.Gen.MixIdeal.Frame
public import proofs.«01_k».proof.Proof.Gen.MixRefIdeal.Read
public import proofs.«01_k».proof.Proof.NormValue
public import proofs.«01_k».proof.Proof.Backs

@[expose] public section

set_option maxRecDepth 16384

noncomputable section

namespace Cert.MixIdeal.Hand

open Cert.MixIdeal Cert.MixIdeal.Gen
open Cert.Tiles (Is sum_fin rms rowGrad rowGrad_ref norm_is unit_is times times_is backRow gainGrad)
open Finset (range)
open Idealize.ShloMosaic Idealize.ShloMosaic.TcCoe Idealize.SL Idealize.SL.Sem
open Idealize.ShloMosaic.Pipeline (Dat)

variable (m : (ℓ : Loc nD τ sig) → Buf (Elt Ideal) ℓ)

theorem product_at (acc : FVec Ideal S1024x1024 .f32) (d w : FVec Ideal S1024x896 .bf16) (i j : Fin 1024) :
    k0_pay3 acc d w (ix2 i j) = acc (ix2 i j) + times d w i j := by
  open_payloads
  pointwise [times]

/-- The block indices of the eight windows at every grid point. -/
theorem idx : ∀ t : Fin cfg0.N, win0_0.index t = ![t.val / 2, t.val % 2] ∧ win0_1.index t = ![0, t.val % 2] ∧ win0_2.index t = ![t.val / 2, 0] ∧ win0_3.index t = ![0, 0]
    ∧ win0_4.index t = ![t.val / 2, 0] ∧ win0_5.index t = ![t.val / 2, 0] ∧ win0_6.index t = ![0, 0] ∧ win0_7.index t = ![t.val / 2, 0] ∧ t.val < 16 :=
  (by decide +kernel : ∀ t : Fin grid0.N, _)

section Blocks

variable {c : Dev nD} {x w d : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hw : Is (a := 1024) (b := 1792) (m ((c : Thread nD τ).loc main_arg2)) w) (hd : Is (a := 8192) (b := 1792) (m ((c : Thread nD τ).loc main_arg3)) d)

include hd in
theorem blk0 (t : Fin cfg0.N) : Is (a := 1024) (b := 896) (iblk m c 0 t) (fun i l => d (1024 * (t.val / 2) + i) (896 * (t.val % 2) + l)) := fun i j => by
  have ht := (idx t).2.2.2.2.2.2.2.2
  refine Eq.trans ?_ (hd ⟨1024 * (t.val / 2) + i.val, by omega⟩ ⟨896 * (t.val % 2) + j.val, by omega⟩)
  blk_simp [iblk, idx t]
  entry_read
  pointwise
  blk_ext [idx t]

include hw in
theorem blk1 (t : Fin cfg0.N) : Is (a := 1024) (b := 896) (iblk m c 1 t) (fun k l => w k (896 * (t.val % 2) + l)) := fun i j => by
  refine Eq.trans ?_ (hw i ⟨896 * (t.val % 2) + j.val, by omega⟩)
  blk_simp [iblk, idx t]
  entry_read
  pointwise
  blk_ext [idx t]

include hx in
theorem blk2 (t : Fin cfg0.N) : Is (a := 1024) (b := 1024) (iblk m c 2 t) (fun i k => x (1024 * (t.val / 2) + i) k) := fun i j => by
  refine Eq.trans ?_ (hx ⟨1024 * (t.val / 2) + i.val, by have := (idx t).2.2.2.2.2.2.2.2; omega⟩ j)
  blk_point [iblk, V, idx t]

include hg in
theorem blk3 (t : Fin cfg0.N) (k : Fin 1024) : (iblk m c 3 t : S1x1024.Idx → EReal) (ix2 0 k) = ((gain k : ℝ) : EReal) := by
  refine Eq.trans ?_ (hg k)
  blk_simp [iblk, idx t]
  entry_read
  pointwise
  blk_ext [idx t]

theorem blk4 (t : Fin cfg0.N) (y : S1024x1024.Idx) : iblk m c 4 t y = m ((c : Thread nD τ).loc main_arg4) ((win0_5.blk t).view.emb y) := by
  blk_point [iblk, V, idx t]

/-- What a point adds to an entry of the accumulator, and what the accumulator then holds: after the first point of a
    pair the first half of the products, after the second all of them. -/
theorem acc_first (t : Fin cfg0.N) (h : t.val % 2 = 0) (i j : Fin 1024) : (outsAt0 m c t.val t.isLt).2.2.2 (ix2 i j)
    = times (a := 1024) (b := 1024) (n := 896) (iblk m c 0 t) (iblk m c 1 t) i j := by
  by_cases h1 : t.val % 16 = 0
  on_goal 1 => rw [outsAt0_A m c t h h1 (by omega)]
  on_goal 2 => rw [outsAt0_C m c t h h1 (by omega)]
  all_goals
    frame_out
    rw [product_at]
    refine (congrArg (· + _) ?_).trans (zero_add _)
    open_payloads
    pointwise

/-- What the second point of a pair leaves. -/
theorem last_outs (t : Fin cfg0.N) (h : t.val % 2 = 1) : outsAt0 m c t.val t.isLt
    = (k0_pay9 (iblk m c 2 t) (outsAt0 m c t.val t.isLt).2.2.2 (iblk m c 3 t) (iblk m c 4 t),
       k0_pay8 (iblk m c 2 t) (outsAt0 m c t.val t.isLt).2.2.2 (outsAt0 m c (t.val - 1) (Nat.lt_of_le_of_lt (Nat.sub_le _ _) t.isLt)).2.1,
       k0_pay4 (k0_pay10 (iblk m c 2 t) (iblk m c 3 t)),
       k0_pay3 (outsAt0 m c (t.val - 1) (Nat.lt_of_le_of_lt (Nat.sub_le _ _) t.isLt)).2.2.2 (iblk m c 0 t) (iblk m c 1 t)) := by
  rw [outsAt0_B m c t (by omega) (by omega) h]
  frame_out
  generalize (outsAt0 m c (t.val - 1) _).2 = acc
  simp only [read_unread_whole]

include hw hd in
theorem acc_last (t : Fin cfg0.N) (h : t.val % 2 = 1) : Is (a := 1024) (b := 1024) (outsAt0 m c t.val t.isLt).2.2.2 (fun i => backRow 1792 d w (1024 * (t.val / 2) + i)) := fun i j => by
  have hp : t.val - 1 < cfg0.N := Nat.lt_of_le_of_lt (Nat.sub_le _ _) t.isLt
  rw [last_outs m t h]
  refine (product_at _ _ _ i j).trans ?_
  rw [times_is (blk0 m hd t) (blk1 m hw t)]
  refine (congrArg (· + _) ((acc_first m ⟨t.val - 1, hp⟩ (by show (t.val - 1) % 2 = 0; omega) i j).trans (times_is (blk0 m hd ⟨t.val - 1, hp⟩) (blk1 m hw ⟨t.val - 1, hp⟩) i j))).trans ?_
  have e1 : (t.val - 1) / 2 = t.val / 2 := by omega
  have e2 : (t.val - 1) % 2 = 0 := by omega
  rw [← EReal.coe_add]
  simp only [backRow, e1, e2, h]
  rw [show (1792 : ℕ) = 896 + 896 from rfl, Finset.sum_range_add]
  simp

/-- At the first point of a pair the gain's gradient keeps its contents, from zero. -/
theorem gain_keep (t : Fin cfg0.N) (h : t.val % 2 = 0) (j : S1x1024.Idx) : (outsAt0 m c t.val t.isLt).2.1 j
    = if t.val = 0 then 0 else (outsAt0 m c (t.val - 1) (Nat.lt_of_le_of_lt (Nat.sub_le _ _) t.isLt)).2.1 j := by
  have ht := (idx t).2.2.2.2.2.2.2.2
  split
  · rw [outsAt0_A m c t h (by omega) (by omega)]
    frame_out
    open_payloads
    pointwise
  · rw [outsAt0_C m c t h (by omega) (by omega)]
    rfl

include hx hw hd in
theorem gain_is (n : ℕ) (hn : n < cfg0.N) (j : S1x1024.Idx) : (outsAt0 m c n hn).2.1 j = ((gainGrad (1024 * ((n + 1) / 2)) x (backRow 1792 d w) (j 1).val : ℝ) : EReal) := by
  induction n with
  | zero =>
    rw [gain_keep m ⟨0, hn⟩ rfl]
    simp [gainGrad]
  | succ n ih =>
    by_cases h : (n + 1) % 2 = 1
    · rw [last_outs m ⟨n + 1, hn⟩ h]
      refine (Cert.NormIdeal.Hand.gain_at (blk2 m hx _) (acc_last m hw hd ⟨n + 1, hn⟩ h) _ j).trans ?_
      refine (congrArg (· + _) (ih (by omega))).trans ?_
      rw [← EReal.coe_add, gainGrad, gainGrad, show (n + 1 + 1) / 2 = (n + 1) / 2 + 1 by omega, mul_add 1024 ((n + 1) / 2) 1, mul_one, Finset.sum_range_add]
    · rw [gain_keep m ⟨n + 1, hn⟩ (by show (n + 1) % 2 = 0; omega), if_neg (by simp)]
      refine (ih (by omega)).trans ?_
      rw [show (n + 1 + 1) / 2 = (n + 1) / 2 by omega]

end Blocks

section Reference

open Cert.MixRefIdeal.Read

variable {x0 x4 : FVec Ideal Cert.MixRefIdeal.S8192x1024 .f32} {x1 : FVec Ideal Cert.MixRefIdeal.S1024 .f32} {x2 : FVec Ideal Cert.MixRefIdeal.S1024x1792 .f32}
  {x3 : FVec Ideal Cert.MixRefIdeal.S8192x1792 .f32} {x w d : ℕ → ℕ → ℝ} {gain : ℕ → ℝ}
  (hx : Is (a := 8192) (b := 1024) x0 x) (hg : ∀ k : Fin 1024, x1 (ix1 k) = ((gain k : ℝ) : EReal)) (hw : Is (a := 1024) (b := 1792) x2 w) (hd : Is (a := 8192) (b := 1792) x3 d)

include hx hg hw hd in
theorem ref_rows (a : Fin 8192) (b : Fin 1024) :
    val_main_v38 (F := Ideal) x0 x1 x2 x3 x4 (ix2 a b) = x4 (ix2 a b) + ((rowGrad (x a) gain (backRow 1792 d w a) b : ℝ) : EReal) := by
  pointwise [val_main_cst_10, val_main_cst_9, val_main_cst_8, val_main_v38, val_main_v37, val_main_v36, val_main_v35, val_main_v34, val_main_v33, val_main_v32, val_main_cst_7, val_main_v31, val_main_v30, val_main_cst_6, val_main_v29, val_main_v28, val_main_v27, val_main_v26, val_main_v25, val_main_cst_5, val_main_v24, val_main_v23, val_main_cst_4, val_main_v22, val_main_v21, val_main_v20, val_main_v19, val_main_cst_3, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  exact congrArg _ (rowGrad_ref (X := fun k => x0 (ix2 a k)) (G := fun k => x1 (ix1 k)) (D := fun k => _) (hx a) hg (times_is hd hw a) b)

include hx hw hd in
theorem ref_gain (b : Fin 1024) : val_main_v39 (F := Ideal) x0 x2 x3 (ix2 0 b) = ((gainGrad 8192 x (backRow 1792 d w) b : ℝ) : EReal) := by
  rw [← val_main_v39_eq]
  pointwise
  rw [Fin.sum_univ_one]
  refine sum_fin _ (fun a => backRow 1792 d w a b * (x a b * rms (x a))) fun a => ?_
  refine (congrArg _ (times_is hd hw a b)).trans ?_
  rw [unit_is (X := fun k => x0 (ix2 a k)) (hx a), ← EReal.coe_mul, mul_comm]

include hx hg in
theorem ref_norm (a : Fin 8192) (b : Fin 1024) : val_main_v53 (F := Ideal) x0 x1 (ix2 a b) = ((x a b * rms (x a) * gain b : ℝ) : EReal) := by
  rw [← val_main_v53_eq]
  pointwise
  exact norm_is (X := fun k => x0 (ix2 a k)) (G := fun k => x1 (ix1 k)) (hx a) hg b

end Reference

section Final

variable {c : Dev nD} {x w d : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hw : Is (a := 1024) (b := 1792) (m ((c : Thread nD τ).loc main_arg2)) w) (hd : Is (a := 8192) (b := 1792) (m ((c : Thread nD τ).loc main_arg3)) d)

/-- Where an entry of a block of rows lies. -/
theorem emb_rows (t : Fin cfg0.N) (y : S1024x1024.Idx) : ∃ h : 1024 * (t.val / 2) + (y 0).val < 8192,
    (win0_5.blk t).view.emb y = ix2 ⟨1024 * (t.val / 2) + (y 0).val, h⟩ (y 1) := by
  have h : 1024 * (t.val / 2) + (y 0).val < 8192 := by have := (idx t).2.2.2.2.2.2.2.2; have : (y 0).val < 1024 := (y 0).isLt; omega
  refine ⟨h, ?_⟩
  blk_ext [idx t]

include hx hg hw hd in
/-- The gradient of the rows. -/
theorem final_rows : (dats m 0 c).arrAt 5 (cfgs 0).N = Cert.MixRefIdeal.Read.val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 := (flush0_5 t).mp hf
  obtain ⟨h, e⟩ := emb_rows t y
  blk_simp
  rw [after0_5, last_outs m t h3, eq_ix2 y]
  refine (Cert.NormIdeal.Hand.grad_at (blk2 m hx t) (blk3 m hg t) (acc_last m hw hd t h3) (y 0) (y 1)).trans ?_
  rw [blk4, ← eq_ix2 y]
  refine Eq.trans ?_ (congrArg _ e).symm
  refine Eq.trans ?_ (ref_rows hx hg hw hd ⟨_, h⟩ (y 1)).symm
  exact congrArg (fun z : EReal => z + _) (congrArg (m ((c : Thread nD τ).loc main_arg4)) e)

include hx hw hd in
/-- The gradient of the gain. -/
theorem final_gain : (dats m 0 c).arrAt 6 (cfgs 0).N = Cert.MixRefIdeal.Read.val_main_v39 (F := Ideal) (m ((c : Thread nD τ).loc main_arg0))
      (m ((c : Thread nD τ).loc main_arg2)) (m ((c : Thread nD τ).loc main_arg3)) := by
  refine (dats m 0 c).arrAt_eq_of_covers 6 _ (by decide +kernel) fun t hf y => ?_
  have h3 := (flush0_6 t).mp hf
  have ht : (t.val + 1) / 2 = 8 := by have := (idx t).2.2.2.2.2.2.2.2; omega
  have h0 : (y 0).val < 1 := (y 0).isLt
  have e : (win0_6.blk t).view.emb y = ix2 0 (y 1) := by blk_ext [idx t]
  blk_simp
  rw [after0_6]
  refine (gain_is m hx hw hd t.val t.isLt y).trans (Eq.trans ?_ (congrArg _ e).symm)
  refine Eq.trans ?_ (ref_gain hx hw hd (y 1)).symm
  rw [ht]

include hx hg in
/-- The normed rows. -/
theorem final_norm : (dats m 0 c).arrAt 7 (cfgs 0).N = Cert.MixRefIdeal.Read.val_main_v53 (F := Ideal) (m ((c : Thread nD τ).loc main_arg0)) (m ((c : Thread nD τ).loc main_arg1)) := by
  refine (dats m 0 c).arrAt_eq_of_covers 7 _ (by decide +kernel) fun t hf y => ?_
  have h3 := (flush0_7 t).mp hf
  obtain ⟨h, e⟩ := emb_rows t y
  blk_simp
  rw [after0_7, last_outs m t h3, eq_ix2 y]
  refine (Cert.NormIdeal.Hand.norm_at (blk2 m hx t) (blk3 m hg t) (y 0) (y 1)).trans ?_
  rw [← eq_ix2 y]
  exact ((congrArg _ e).trans (ref_norm hx hg ⟨_, h⟩ (y 1))).symm

end Final

end Cert.MixIdeal.Hand

end
-- ==== Proof.MixbValue.lean ====
/- The gradient through a norm and the one product after it, where one block holds all columns of that product, over the reals. -/
module

public import proofs.«01_k».proof.Defs
public import proofs.«01_k».proof.Proof.Gen.MixbIdeal.Frame
public import proofs.«01_k».proof.Proof.Gen.MixbRefIdeal.Read
public import proofs.«01_k».proof.Proof.NormValue
public import proofs.«01_k».proof.Proof.Backs

@[expose] public section

set_option maxRecDepth 16384

noncomputable section

namespace Cert.MixbIdeal.Hand

open Cert.MixbIdeal Cert.MixbIdeal.Gen
open Cert.Tiles (Is sum_fin rms rowGrad rowGrad_ref norm_is unit_is times times_is backRow gainGrad)
open Finset (range)
open Idealize.ShloMosaic Idealize.ShloMosaic.TcCoe Idealize.SL Idealize.SL.Sem
open Idealize.ShloMosaic.Pipeline (Dat)

variable (m : (ℓ : Loc nD τ sig) → Buf (Elt Ideal) ℓ)

theorem product_at (acc : FVec Ideal S1024x1024 .f32) (d w : FVec Ideal S1024x1024 .bf16) (i j : Fin 1024) :
    k0_pay3 acc d w (ix2 i j) = acc (ix2 i j) + times d w i j := by
  open_payloads
  pointwise [times]

/-- The block indices of the eight windows at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] ∧ t.val < 8 :=
  (by decide +kernel : ∀ t : Fin grid0.N, _)

section Blocks

variable {c : Dev nD} {x w d : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hw : Is (a := 1024) (b := 1024) (m ((c : Thread nD τ).loc main_arg2)) w) (hd : Is (a := 8192) (b := 1024) (m ((c : Thread nD τ).loc main_arg3)) d)

include hd in
theorem blk0 (t : Fin cfg0.N) : Is (a := 1024) (b := 1024) (iblk m c 0 t) (fun i l => d (1024 * t.val + i) l) := fun i j => by
  refine Eq.trans ?_ (hd ⟨1024 * t.val + i.val, by have := (idx t).2.2.2.2.2.2.2.2; omega⟩ j)
  blk_simp [iblk, idx t]
  entry_read
  pointwise
  blk_ext [idx t]

include hw in
theorem blk1 (t : Fin cfg0.N) : Is (a := 1024) (b := 1024) (iblk m c 1 t) w := fun i j => by
  refine Eq.trans ?_ (hw i j)
  blk_simp [iblk, idx t]
  entry_read
  pointwise
  blk_ext [idx t]

include hx in
theorem blk2 (t : Fin cfg0.N) : Is (a := 1024) (b := 1024) (iblk m c 2 t) (fun i k => x (1024 * t.val + i) k) := fun i j => by
  refine Eq.trans ?_ (hx ⟨1024 * t.val + i.val, by have := (idx t).2.2.2.2.2.2.2.2; omega⟩ j)
  blk_point [iblk, V, idx t]

include hg in
theorem blk3 (t : Fin cfg0.N) (k : Fin 1024) : (iblk m c 3 t : S1x1024.Idx → EReal) (ix2 0 k) = ((gain k : ℝ) : EReal) := by
  refine Eq.trans ?_ (hg k)
  blk_simp [iblk, idx t]
  entry_read
  pointwise
  blk_ext [idx t]

theorem blk4 (t : Fin cfg0.N) (y : S1024x1024.Idx) : iblk m c 4 t y = m ((c : Thread nD τ).loc main_arg4) ((win0_5.blk t).view.emb y) := by
  blk_point [iblk, V, idx t]

/-- The products of a point's rows, from zero. -/
def acc (c : Dev nD) (t : Fin cfg0.N) : FVec Ideal S1024x1024 .f32 := k0_pay3 (F := Ideal) (k0_pay1 (F := Ideal)) (iblk m c 0 t) (iblk m c 1 t)

/-- The gain's gradient before a point: nothing before the first, else what the point before left. -/
def gained (c : Dev nD) (t : Fin cfg0.N) : FVec Ideal S1x1024 .f32 :=
  if t.val % 8 = 0 then k0_pay2 (F := Ideal) else (outsAt0 m c (t.val - 1) (Nat.lt_of_le_of_lt (Nat.sub_le _ _) t.isLt)).2.1

/-- What a point leaves. -/
theorem point_outs (t : Fin cfg0.N) : outsAt0 m c t.val t.isLt
    = (k0_pay9 (iblk m c 2 t) (acc m c t) (iblk m c 3 t) (iblk m c 4 t), k0_pay8 (iblk m c 2 t) (acc m c t) (gained m c t), k0_pay4 (k0_pay10 (iblk m c 2 t) (iblk m c 3 t))) := by
  unfold gained
  split
  · rw [outsAt0_A m c t ‹_›]
    frame_out
    rfl
  · rw [outsAt0_B m c t ‹_›]
    frame_out
    rfl

include hw hd in
theorem acc_is (t : Fin cfg0.N) : Is (a := 1024) (b := 1024) (acc m c t) (fun i => backRow 1024 d w (1024 * t.val + i)) := fun i j => by
  rw [acc, product_at, times_is (blk0 m hd t) (blk1 m hw t)]
  refine (congrArg (· + _) ?_).trans (zero_add _)
  open_payloads
  pointwise

include hx hw hd in
/-- A point adds its rows to the gain's gradient. -/
theorem gain_step (n : ℕ) (hn : n < cfg0.N) (j : S1x1024.Idx) (e : gained m c ⟨n, hn⟩ j = ((gainGrad (1024 * n) x (backRow 1024 d w) (j 1).val : ℝ) : EReal)) :
    (outsAt0 m c n hn).2.1 j = ((gainGrad (1024 * (n + 1)) x (backRow 1024 d w) (j 1).val : ℝ) : EReal) := by
  rw [point_outs m ⟨n, hn⟩]
  refine (Cert.NormIdeal.Hand.gain_at (blk2 m hx _) (acc_is m hw hd ⟨n, hn⟩) _ j).trans ((congrArg (· + _) e).trans ?_)
  rw [← EReal.coe_add, gainGrad, gainGrad, mul_add 1024 n 1, mul_one, Finset.sum_range_add]

include hx hw hd in
theorem gain_is (n : ℕ) (hn : n < cfg0.N) (j : S1x1024.Idx) : (outsAt0 m c n hn).2.1 j = ((gainGrad (1024 * (n + 1)) x (backRow 1024 d w) (j 1).val : ℝ) : EReal) := by
  induction n with
  | zero =>
    refine gain_step m hx hw hd 0 hn j ((show _ = (0 : EReal) from ?_).trans (by simp [gainGrad]))
    unfold gained
    open_payloads
    pointwise
  | succ n ih =>
    have h8 : n + 1 < 8 := (idx ⟨n + 1, hn⟩).2.2.2.2.2.2.2.2
    refine gain_step m hx hw hd (n + 1) hn j ?_
    rw [gained, if_neg (by show ¬ (n + 1) % 8 = 0; omega)]
    exact ih (by omega)

end Blocks

section Reference

open Cert.MixbRefIdeal.Read

variable {x0 x4 : FVec Ideal Cert.MixbRefIdeal.S8192x1024 .f32} {x1 : FVec Ideal Cert.MixbRefIdeal.S1024 .f32} {x2 : FVec Ideal Cert.MixbRefIdeal.S1024x1024 .f32}
  {x3 : FVec Ideal Cert.MixbRefIdeal.S8192x1024 .f32} {x w d : ℕ → ℕ → ℝ} {gain : ℕ → ℝ}
  (hx : Is (a := 8192) (b := 1024) x0 x) (hg : ∀ k : Fin 1024, x1 (ix1 k) = ((gain k : ℝ) : EReal)) (hw : Is (a := 1024) (b := 1024) x2 w) (hd : Is (a := 8192) (b := 1024) x3 d)

include hx hg hw hd in
theorem ref_rows (a : Fin 8192) (b : Fin 1024) :
    val_main_v38 (F := Ideal) x0 x1 x2 x3 x4 (ix2 a b) = x4 (ix2 a b) + ((rowGrad (x a) gain (backRow 1024 d w a) b : ℝ) : EReal) := by
  pointwise [val_main_cst_10, val_main_cst_9, val_main_cst_8, val_main_v38, val_main_v37, val_main_v36, val_main_v35, val_main_v34, val_main_v33, val_main_v32, val_main_cst_7, val_main_v31, val_main_v30, val_main_cst_6, val_main_v29, val_main_v28, val_main_v27, val_main_v26, val_main_v25, val_main_cst_5, val_main_v24, val_main_v23, val_main_cst_4, val_main_v22, val_main_v21, val_main_v20, val_main_v19, val_main_cst_3, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  exact congrArg _ (rowGrad_ref (X := fun k => x0 (ix2 a k)) (G := fun k => x1 (ix1 k)) (D := fun k => _) (hx a) hg (times_is hd hw a) b)

include hx hw hd in
theorem ref_gain (b : Fin 1024) : val_main_v39 (F := Ideal) x0 x2 x3 (ix2 0 b) = ((gainGrad 8192 x (backRow 1024 d w) b : ℝ) : EReal) := by
  rw [← val_main_v39_eq]
  pointwise
  rw [Fin.sum_univ_one]
  refine sum_fin _ (fun a => backRow 1024 d w a b * (x a b * rms (x a))) fun a => ?_
  refine (congrArg _ (times_is hd hw a b)).trans ?_
  rw [unit_is (X := fun k => x0 (ix2 a k)) (hx a), ← EReal.coe_mul, mul_comm]

include hx hg in
theorem ref_norm (a : Fin 8192) (b : Fin 1024) : val_main_v53 (F := Ideal) x0 x1 (ix2 a b) = ((x a b * rms (x a) * gain b : ℝ) : EReal) := by
  rw [← val_main_v53_eq]
  pointwise
  exact norm_is (X := fun k => x0 (ix2 a k)) (G := fun k => x1 (ix1 k)) (hx a) hg b

end Reference

section Final

variable {c : Dev nD} {x w d : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hw : Is (a := 1024) (b := 1024) (m ((c : Thread nD τ).loc main_arg2)) w) (hd : Is (a := 8192) (b := 1024) (m ((c : Thread nD τ).loc main_arg3)) d)

/-- Where an entry of a block of rows lies. -/
theorem emb_rows (t : Fin cfg0.N) (y : S1024x1024.Idx) : ∃ h : 1024 * t.val + (y 0).val < 8192,
    (win0_5.blk t).view.emb y = ix2 ⟨1024 * t.val + (y 0).val, h⟩ (y 1) := by
  have h : 1024 * t.val + (y 0).val < 8192 := by have := (idx t).2.2.2.2.2.2.2.2; have : (y 0).val < 1024 := (y 0).isLt; omega
  refine ⟨h, ?_⟩
  blk_ext [idx t]

include hx hg hw hd in
/-- The gradient of the rows. -/
theorem final_rows : (dats m 0 c).arrAt 5 (cfgs 0).N = Cert.MixbRefIdeal.Read.val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨h, e⟩ := emb_rows t y
  blk_simp
  rw [after0_5, point_outs m t, eq_ix2 y]
  refine (Cert.NormIdeal.Hand.grad_at (blk2 m hx t) (blk3 m hg t) (acc_is m hw hd t) (y 0) (y 1)).trans ?_
  rw [blk4, ← eq_ix2 y]
  refine Eq.trans ?_ (congrArg _ e).symm
  refine Eq.trans ?_ (ref_rows hx hg hw hd ⟨_, h⟩ (y 1)).symm
  exact congrArg (fun z : EReal => z + _) (congrArg (m ((c : Thread nD τ).loc main_arg4)) e)

include hx hw hd in
/-- The gradient of the gain. -/
theorem final_gain : (dats m 0 c).arrAt 6 (cfgs 0).N = Cert.MixbRefIdeal.Read.val_main_v39 (F := Ideal) (m ((c : Thread nD τ).loc main_arg0))
      (m ((c : Thread nD τ).loc main_arg2)) (m ((c : Thread nD τ).loc main_arg3)) := by
  refine (dats m 0 c).arrAt_eq_of_covers 6 _ (by decide +kernel) fun t hf y => ?_
  have h3 := (flush0_6 t).mp hf
  have ht : t.val + 1 = 8 := by have := (idx t).2.2.2.2.2.2.2.2; omega
  have h0 : (y 0).val < 1 := (y 0).isLt
  have e : (win0_6.blk t).view.emb y = ix2 0 (y 1) := by blk_ext [idx t]
  blk_simp
  rw [after0_6]
  refine (gain_is m hx hw hd t.val t.isLt y).trans (Eq.trans ?_ (congrArg _ e).symm)
  refine Eq.trans ?_ (ref_gain hx hw hd (y 1)).symm
  rw [ht]

include hx hg in
/-- The normed rows. -/
theorem final_norm : (dats m 0 c).arrAt 7 (cfgs 0).N = Cert.MixbRefIdeal.Read.val_main_v53 (F := Ideal) (m ((c : Thread nD τ).loc main_arg0)) (m ((c : Thread nD τ).loc main_arg1)) := by
  refine (dats m 0 c).arrAt_eq_of_covers 7 _ (by decide +kernel) fun t hf y => ?_
  obtain ⟨h, e⟩ := emb_rows t y
  blk_simp
  rw [after0_7, point_outs m t, eq_ix2 y]
  refine (Cert.NormIdeal.Hand.norm_at (blk2 m hx t) (blk3 m hg t) (y 0) (y 1)).trans ?_
  rw [← eq_ix2 y]
  exact ((congrArg _ e).trans (ref_norm hx hg ⟨_, h⟩ (y 1))).symm

end Final

end Cert.MixbIdeal.Hand

end
-- ==== Proof.MnormValue.lean ====
/- The gradient through the norm of the memory's tokens, whose four layers' products are taken at once, over the reals. -/
module

public import proofs.«01_k».proof.Defs
public import proofs.«01_k».proof.Proof.Gen.MnormIdeal.Frame
public import proofs.«01_k».proof.Proof.Gen.MnormRefIdeal.Read
public import proofs.«01_k».proof.Proof.Finite
public import proofs.«01_k».proof.Proof.Backs
public import Idealize.ShloMosaic.Lib.Pipeline.ValueKit
public import Idealize.ShloMosaic.Lib.Pipeline.ReadBack
public import Idealize.ShloMosaic.Lib.Ring

@[expose] public section

set_option maxRecDepth 16384

noncomputable section

namespace Cert.Tiles

open Idealize.ShloMosaic
open Finset (range)

/-- Real numbers in an array of matrices. -/
def Is3 {a b c : ℕ} (x : (⟨3, ![a, b, c]⟩ : Shape).Idx → EReal) (f : ℕ → ℕ → ℕ → ℝ) : Prop :=
  ∀ (i : Fin a) (j : Fin b) (k : Fin c), x (ix3 i j k) = ((f i j k : ℝ) : EReal)

/-- An array of finite numbers is one of reals. -/
theorem is3_of_real {a b c : ℕ} {x : (⟨3, ![a, b, c]⟩ : Shape).Idx → EReal} (h : ∀ i, ((x i).toReal : EReal) = x i) : ∃ f, Is3 x f :=
  ⟨fun i j k => if h : i < a ∧ j < b ∧ k < c then (x (ix3 ⟨i, h.1⟩ ⟨j, h.2.1⟩ ⟨k, h.2.2⟩)).toReal else 0, fun i j k => by
    beta_reduce
    rw [dif_pos ⟨i.isLt, j.isLt, k.isLt⟩]
    exact (h _).symm⟩

/-- Matrices side by side, 512 columns of each. -/
def beside (f : ℕ → ℕ → ℕ → ℝ) (i l : ℕ) : ℝ := f (l / 512) i (l % 512)

/-- The products of matrices side by side, matrix by matrix. -/
theorem back_beside {a b : ℕ} {D : (⟨3, ![4, a, 512]⟩ : Shape).Idx → EReal} {W : (⟨3, ![4, b, 512]⟩ : Shape).Idx → EReal} {d w : ℕ → ℕ → ℕ → ℝ} (hd : Is3 D d) (hw : Is3 W w) (i : Fin a) (k : Fin b) :
    ∑ l : Fin 512, D (ix3 3 i l) * W (ix3 3 k l) + ∑ l : Fin 512, D (ix3 2 i l) * W (ix3 2 k l) + ∑ l : Fin 512, D (ix3 1 i l) * W (ix3 1 k l) + ∑ l : Fin 512, D (ix3 0 i l) * W (ix3 0 k l)
      = ((backRow 2048 (beside d) (beside w) i k : ℝ) : EReal) := by
  have e (p : Fin 4) : ∑ l : Fin 512, D (ix3 p i l) * W (ix3 p k l) = ((∑ l ∈ range 512, beside d i (512 * p + l) * beside w k (512 * p + l) : ℝ) : EReal) :=
    sum_fin _ (fun l => beside d i (512 * p + l) * beside w k (512 * p + l)) fun l => by
      have h1 : (512 * p.val + l.val) / 512 = p := by omega
      have h2 : (512 * p.val + l.val) % 512 = l := by omega
      rw [hd, hw, ← EReal.coe_mul, beside, beside, h1, h2]
  rw [e, e, e, e, ← EReal.coe_add, ← EReal.coe_add, ← EReal.coe_add, backRow, show (2048 : ℕ) = 512 + 512 + 512 + 512 from rfl, Finset.sum_range_add, Finset.sum_range_add, Finset.sum_range_add]
  congr 1
  simp only [Fin.val_zero, Fin.val_one, Fin.val_two, show ((3 : Fin 4) : ℕ) = 3 from rfl, Nat.mul_zero, Nat.zero_add, Nat.mul_one, show 512 * 2 = 1024 from rfl, show 512 * 3 = 1536 from rfl]
  ring

end Cert.Tiles

namespace Cert.MnormIdeal.Hand

open Cert.MnormIdeal Cert.MnormIdeal.Gen
open Cert.Tiles (Is Is3 sum_fin rms rowGrad rowGrad_is rowGrad_ref norm_is unit_is times times_is backRow gainGrad beside back_beside)
open Finset (range)
open Idealize.ShloMosaic Idealize.ShloMosaic.TcCoe Idealize.SL Idealize.SL.Sem
open Idealize.ShloMosaic.Pipeline (Dat)

variable (m : (ℓ : Loc nD τ sig) → Buf (Elt Ideal) ℓ)

theorem product_at (acc : FVec Ideal S256x1024 .f32) (d : FVec Ideal S256x1024 .bf16) (w : FVec Ideal S1024x1024 .bf16) (i : Fin 256) (j : Fin 1024) :
    k0_pay3 acc d w (ix2 i j) = acc (ix2 i j) + times d w i j := by
  open_payloads
  pointwise [times]

section Payload

variable {x D : FVec Ideal S256x1024 .f32} {g : FVec Ideal S1x1024 .f32} {f d : ℕ → ℕ → ℝ} {gain : ℕ → ℝ}
  (hx : Is (a := 256) (b := 1024) x f) (hg : ∀ k : Fin 1024, g (ix2 0 k) = ((gain k : ℝ) : EReal)) (hd : Is (a := 256) (b := 1024) D d)

include hx hg hd in
/-- The gradient with respect to the rows. -/
theorem grad_at (a : Fin 256) (b : Fin 1024) : k0_pay8 (F := Ideal) x D g (ix2 a b) = ((rowGrad (f a) gain (d a) b : ℝ) : EReal) := by
  open_payloads
  pointwise
  exact rowGrad_is (X := fun k => x (ix2 a k)) (G := fun k => g (ix2 0 k)) (D := fun k => D (ix2 a k)) (hx a) hg (hd a) b

include hx hd in
/-- The rows' contribution to the gain's gradient. -/
theorem gain_at (dg : FVec Ideal S1x1024 .f32) (j : S1x1024.Idx) : k0_pay7 (F := Ideal) x D dg j = dg j + ((gainGrad 256 f d (j 1).val : ℝ) : EReal) := by
  open_payloads
  pointwise
  refine congrArg _ (sum_fin _ (fun a => d a (j 1).val * (f a (j 1).val * rms (f a))) fun a => ?_)
  exact (congrArg₂ (· * ·) (hd a (j 1)) (unit_is (X := fun k => x (ix2 a k)) (hx a) (j 1))).trans (EReal.coe_mul _ _).symm

include hx hg in
/-- The normed rows. -/
theorem norm_at (a : Fin 256) (b : Fin 1024) : k0_pay9 (F := Ideal) x g (ix2 a b) = ((f a b * rms (f a) * gain b : ℝ) : EReal) := by
  open_payloads
  pointwise
  exact norm_is (X := fun k => x (ix2 a k)) (G := fun k => g (ix2 0 k)) (hx a) hg b

end Payload

/-- The block indices of the seven windows at the two grid points. -/
theorem idx : ∀ t : Fin cfg0.N, win0_0.index t = ![0, t.val] ∧ win0_1.index t = ![0, t.val] ∧ win0_2.index t = ![0, 0] ∧ win0_3.index t = ![0, 0]
    ∧ win0_4.index t = ![0, 0] ∧ win0_5.index t = ![0, 0] ∧ win0_6.index t = ![0, 0] ∧ t.val < 2 :=
  (by decide +kernel : ∀ t : Fin grid0.N, _)

section Blocks

variable {c : Dev nD}

/-- One layer's cotangents. -/
def layer (c : Dev nD) (o : Fin 3 → ℕ) (h : S4x256x512.Slices o S1x256x512) : FVec Ideal S256x512 .f32 :=
  shapeCast S256x512 (extractStridedSlice S1x256x512 o (m ((c : Thread nD τ).loc main_arg3)) h) shapeCasts_S1x256x512_S256x512

/-- What the call is given as the product's cotangent: the layers' side by side. -/
theorem d_eq : (V m c main_v12 : FVec Ideal S256x2048 .bf16) = truncf (F := Ideal) .bf16 (concatenate S256x2048 1 [⟨S256x512, layer m c ![0, 0, 0] slices_S4x256x512_S1x256x512_0_0_0⟩,
    ⟨S256x512, layer m c ![1, 0, 0] slices_S4x256x512_S1x256x512_1_0_0⟩, ⟨S256x512, layer m c ![2, 0, 0] slices_S4x256x512_S1x256x512_2_0_0⟩,
    ⟨S256x512, layer m c ![3, 0, 0] slices_S4x256x512_S1x256x512_3_0_0⟩] concatenates_S256x512_S256x512_S256x512_S256x512_S256x2048_d1) bitsLt_bf16_f32 := by
  unfold V
  after_results
  rfl

/-- Its entries. -/
theorem d_at (i : Fin 256) (l : Fin 2048) : (V m c main_v12 : S256x2048.Idx → EReal) (ix2 i l) = m ((c : Thread nD τ).loc main_arg3) (ix3 ⟨l.val / 512, by omega⟩ i ⟨l.val % 512, by omega⟩) := by
  rw [d_eq]
  pointwise [layer]
  have hl := l.isLt
  split_ifs
  all_goals
    refine congrArg _ (congrArg₂ (fun a b => ix3 a i b) (Fin.ext ?_) (Fin.ext ?_))
    all_goals
      show _ = _
      simp only [Fin.val_zero, Fin.val_one, Fin.val_two]
      first | omega | (show 3 = l.val / 512; omega)

variable {x : ℕ → ℕ → ℝ} {w d : ℕ → ℕ → ℕ → ℝ} {gain : ℕ → ℝ}
  (hx : Is (a := 256) (b := 1024) (m ((c : Thread nD τ).loc main_arg0)) x) (hg : ∀ k : Fin 1024, m ((c : Thread nD τ).loc main_arg1) (ix1 k) = ((gain k : ℝ) : EReal))
  (hw : Is3 (a := 4) (b := 1024) (c := 512) (m ((c : Thread nD τ).loc main_arg2)) w) (hd : Is3 (a := 4) (b := 256) (c := 512) (m ((c : Thread nD τ).loc main_arg3)) d)

include hd in
theorem blk0 (t : Fin cfg0.N) : Is (a := 256) (b := 1024) (iblk m c 0 t) (fun i l => beside d i (1024 * t.val + l)) := fun i j => by
  have ht := (idx t).2.2.2.2.2.2.2
  refine Eq.trans ?_ ((d_at m i ⟨1024 * t.val + j.val, by omega⟩).trans (hd _ i _))
  blk_simp [iblk, idx t]
  refine congrArg (V m c main_v12) ?_
  blk_ext [idx t]

include hw in
theorem blk1 (t : Fin cfg0.N) : Is (a := 1024) (b := 1024) (iblk m c 1 t) (fun k l => beside w k (1024 * t.val + l)) := fun i j => by
  have ht := (idx t).2.2.2.2.2.2.2
  refine Eq.trans ?_ (hw ⟨(1024 * t.val + j.val) / 512, by omega⟩ i ⟨(1024 * t.val + j.val) % 512, by omega⟩)
  blk_simp [iblk, idx t]
  entry_read
  pointwise
  blk_ext [idx t]

include hx in
theorem blk2 (t : Fin cfg0.N) : Is (a := 256) (b := 1024) (iblk m c 2 t) x := fun i j => by
  refine Eq.trans ?_ (hx i j)
  blk_point [iblk, V, idx t]

include hg in
theorem blk3 (t : Fin cfg0.N) (k : Fin 1024) : (iblk m c 3 t : S1x1024.Idx → EReal) (ix2 0 k) = ((gain k : ℝ) : EReal) := by
  refine Eq.trans ?_ (hg k)
  blk_simp [iblk, idx t]
  entry_read
  pointwise
  blk_ext [idx t]

/-- After the first point: half of the products, and nothing of the gain's gradient. -/
theorem acc_first (t : Fin cfg0.N) (h : t.val % 2 = 0) (i : Fin 256) (j : Fin 1024) : (outsAt0 m c t.val t.isLt).2.2.2 (ix2 i j)
    = times (a := 256) (b := 1024) (n := 1024) (iblk m c 0 t) (iblk m c 1 t) i j := by
  rw [outsAt0_A m c t h h (by omega)]
  frame_out
  rw [product_at]
  refine (congrArg (· + _) ?_).trans (zero_add _)
  open_payloads
  pointwise

theorem gain_first (t : Fin cfg0.N) (h : t.val % 2 = 0) (j : S1x1024.Idx) : (outsAt0 m c t.val t.isLt).2.1 j = 0 := by
  rw [outsAt0_A m c t h h (by omega)]
  frame_out
  open_payloads
  pointwise

/-- What the second point leaves. -/
theorem last_outs (t : Fin cfg0.N) (h : t.val % 2 = 1) : outsAt0 m c t.val t.isLt
    = (k0_pay8 (iblk m c 2 t) (outsAt0 m c t.val t.isLt).2.2.2 (iblk m c 3 t),
       k0_pay7 (iblk m c 2 t) (outsAt0 m c t.val t.isLt).2.2.2 (outsAt0 m c (t.val - 1) (Nat.lt_of_le_of_lt (Nat.sub_le _ _) t.isLt)).2.1,
       k0_pay9 (iblk m c 2 t) (iblk m c 3 t),
       k0_pay3 (outsAt0 m c (t.val - 1) (Nat.lt_of_le_of_lt (Nat.sub_le _ _) t.isLt)).2.2.2 (iblk m c 0 t) (iblk m c 1 t)) := by
  rw [outsAt0_B m c t (by omega) (by omega) h]
  frame_out
  generalize (outsAt0 m c (t.val - 1) _).2 = acc
  simp only [read_unread_whole]

include hw hd in
theorem acc_last (t : Fin cfg0.N) (h : t.val % 2 = 1) : Is (a := 256) (b := 1024) (outsAt0 m c t.val t.isLt).2.2.2 (backRow 2048 (beside d) (beside w)) := fun i j => by
  have hp : t.val - 1 < cfg0.N := Nat.lt_of_le_of_lt (Nat.sub_le _ _) t.isLt
  have ht := (idx t).2.2.2.2.2.2.2
  rw [last_outs m t h]
  refine (product_at _ _ _ i j).trans ?_
  rw [times_is (blk0 m hd t) (blk1 m hw t)]
  refine (congrArg (· + _) ((acc_first m ⟨t.val - 1, hp⟩ (by show (t.val - 1) % 2 = 0; omega) i j).trans (times_is (blk0 m hd ⟨t.val - 1, hp⟩) (blk1 m hw ⟨t.val - 1, hp⟩) i j))).trans ?_
  have e1 : t.val = 1 := by omega
  rw [← EReal.coe_add]
  simp only [backRow, e1]
  rw [show (2048 : ℕ) = 1024 + 1024 from rfl, Finset.sum_range_add]
  simp

end Blocks

section Reference

open Cert.MnormRefIdeal.Read

variable {x0 : FVec Ideal Cert.MnormRefIdeal.S256x1024 .f32} {x1 : FVec Ideal Cert.MnormRefIdeal.S1024 .f32} {x2 : FVec Ideal Cert.MnormRefIdeal.S4x1024x512 .f32}
  {x3 : FVec Ideal Cert.MnormRefIdeal.S4x256x512 .f32} {x : ℕ → ℕ → ℝ} {w d : ℕ → ℕ → ℕ → ℝ} {gain : ℕ → ℝ}
  (hx : Is (a := 256) (b := 1024) x0 x) (hg : ∀ k : Fin 1024, x1 (ix1 k) = ((gain k : ℝ) : EReal)) (hw : Is3 (a := 4) (b := 1024) (c := 512) x2 w) (hd : Is3 (a := 4) (b := 256) (c := 512) x3 d)

include hx hg hw hd in
theorem ref_rows (a : Fin 256) (b : Fin 1024) :
    val_main_v62 (F := Ideal) x0 x1 x2 x3 (ix2 a b) = ((rowGrad (x a) gain (backRow 2048 (beside d) (beside w) a) b : ℝ) : EReal) := by
  pointwise [val_main_cst_10, val_main_cst_9, val_main_cst_8, val_main_v62, val_main_v61, val_main_v60, val_main_v59, val_main_v58, val_main_v57, val_main_cst_7, val_main_v56, val_main_v55, val_main_cst_6, val_main_v54, val_main_v53, val_main_v52, val_main_v51, val_main_v50, val_main_cst_5, val_main_v49, val_main_v48, val_main_cst_4, val_main_v47, val_main_v46, val_main_v45, val_main_v44, val_main_cst_3, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  exact rowGrad_ref (X := fun k => x0 (ix2 a k)) (G := fun k => x1 (ix1 k)) (D := fun k => _) (hx a) hg (back_beside hd hw a) b

include hx hw hd in
theorem ref_gain (b : Fin 1024) : val_main_v63 (F := Ideal) x0 x2 x3 (ix2 0 b) = ((gainGrad 256 x (backRow 2048 (beside d) (beside w)) b : ℝ) : EReal) := by
  rw [← val_main_v63_eq]
  pointwise
  rw [Fin.sum_univ_one]
  refine sum_fin _ (fun a => backRow 2048 (beside d) (beside w) a b * (x a b * rms (x a))) fun a => ?_
  rw [back_beside hd hw, unit_is (X := fun k => x0 (ix2 a k)) (hx a), ← EReal.coe_mul, mul_comm]

include hx hg in
theorem ref_norm (a : Fin 256) (b : Fin 1024) : val_main_v77 (F := Ideal) x0 x1 (ix2 a b) = ((x a b * rms (x a) * gain b : ℝ) : EReal) := by
  rw [← val_main_v77_eq]
  pointwise
  exact norm_is (X := fun k => x0 (ix2 a k)) (G := fun k => x1 (ix1 k)) (hx a) hg b

end Reference

section Final

variable {c : Dev nD} {x : ℕ → ℕ → ℝ} {w d : ℕ → ℕ → ℕ → ℝ} {gain : ℕ → ℝ}
  (hx : Is (a := 256) (b := 1024) (m ((c : Thread nD τ).loc main_arg0)) x) (hg : ∀ k : Fin 1024, m ((c : Thread nD τ).loc main_arg1) (ix1 k) = ((gain k : ℝ) : EReal))
  (hw : Is3 (a := 4) (b := 1024) (c := 512) (m ((c : Thread nD τ).loc main_arg2)) w) (hd : Is3 (a := 4) (b := 256) (c := 512) (m ((c : Thread nD τ).loc main_arg3)) d)

include hx hg hw hd in
/-- The gradient of the rows. -/
theorem final_rows : (dats m 0 c).arrAt 4 (cfgs 0).N = Cert.MnormRefIdeal.Read.val_main_v62 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have h3 := (flush0_4 t).mp hf
  have e : (win0_4.blk t).view.emb y = ix2 (y 0) (y 1) := by blk_ext [idx t]
  blk_simp
  rw [after0_4, last_outs m t h3, eq_ix2 y]
  refine (grad_at (blk2 m hx t) (blk3 m hg t) (acc_last m hw hd t h3) (y 0) (y 1)).trans ?_
  rw [← eq_ix2 y]
  exact ((congrArg _ e).trans (ref_rows hx hg hw hd (y 0) (y 1))).symm

include hx hw hd in
/-- The gradient of the gain. -/
theorem final_gain : (dats m 0 c).arrAt 5 (cfgs 0).N = Cert.MnormRefIdeal.Read.val_main_v63 (F := Ideal) (m ((c : Thread nD τ).loc main_arg0))
      (m ((c : Thread nD τ).loc main_arg2)) (m ((c : Thread nD τ).loc main_arg3)) := by
  refine (dats m 0 c).arrAt_eq_of_covers 5 _ (by decide +kernel) fun t hf y => ?_
  have h3 := (flush0_5 t).mp hf
  have h0 : (y 0).val < 1 := (y 0).isLt
  have e : (win0_5.blk t).view.emb y = ix2 0 (y 1) := by blk_ext [idx t]
  blk_simp
  rw [after0_5, last_outs m t h3]
  refine (gain_at (blk2 m hx t) (acc_last m hw hd t h3) _ y).trans ?_
  refine (congrArg (· + _) (gain_first m ⟨t.val - 1, Nat.lt_of_le_of_lt (Nat.sub_le _ _) t.isLt⟩ (by show (t.val - 1) % 2 = 0; omega) y)).trans ((zero_add _).trans ?_)
  exact ((congrArg _ e).trans (ref_gain hx hw hd (y 1))).symm

include hx hg in
/-- The normed rows. -/
theorem final_norm : (dats m 0 c).arrAt 6 (cfgs 0).N = Cert.MnormRefIdeal.Read.val_main_v77 (F := Ideal) (m ((c : Thread nD τ).loc main_arg0)) (m ((c : Thread nD τ).loc main_arg1)) := by
  refine (dats m 0 c).arrAt_eq_of_covers 6 _ (by decide +kernel) fun t hf y => ?_
  have h3 := (flush0_6 t).mp hf
  have e : (win0_6.blk t).view.emb y = ix2 (y 0) (y 1) := by blk_ext [idx t]
  blk_simp
  rw [after0_6, last_outs m t h3, eq_ix2 y]
  refine (norm_at (blk2 m hx t) (blk3 m hg t) (y 0) (y 1)).trans ?_
  rw [← eq_ix2 y]
  exact ((congrArg _ e).trans (ref_norm hx hg (y 0) (y 1))).symm

end Final

end Cert.MnormIdeal.Hand

end
-- ==== Proof.GateValue.lean ====
/- The gradient through the gated hidden layer over the reals. -/
module

public import proofs.«01_k».proof.Defs
public import proofs.«01_k».proof.Proof.Gen.GateIdeal.Frame
public import proofs.«01_k».proof.Proof.Gen.GateRefIdeal.Read
public import proofs.«01_k».proof.Proof.Finite
public import Idealize.ShloMosaic.Lib.Pipeline.ValueKit

@[expose] public section

set_option maxRecDepth 16384

noncomputable section

namespace Cert.GateIdeal.Hand

open Cert.GateIdeal Cert.GateIdeal.Gen
open Cert.Tiles (Is sum_fin)
open Idealize.ShloMosaic Idealize.ShloMosaic.TcCoe Idealize.SL Idealize.SL.Sem
open Idealize.ShloMosaic.Pipeline (Dat)

/-- The logistic function. -/
def sg (x : ℝ) : ℝ := 1 / (1 + Real.exp (-x))

/-- The gradient of a hidden value before the gate, half the product. -/
def hid (dx w : ℕ → ℕ → ℝ) (i j : ℕ) : ℝ := 1 / 2 * ∑ k ∈ Finset.range 1024, dx i k * w j k

/-- The gradient of the gate's column `j`, or of the other factor's. -/
def dgate (dx w g u : ℕ → ℕ → ℝ) (i j : ℕ) : ℝ := hid dx w i j * u i j * (sg (g i j) * (1 + g i j * (1 - sg (g i j))))
def dup (dx w g : ℕ → ℕ → ℝ) (i j : ℕ) : ℝ := hid dx w i j * (g i j * sg (g i j))

theorem half : Ideal.ofBits .f32 0x3F000000#32 = (((1 : ℝ) / 2 : ℝ) : EReal) := by
  simp [Ideal.ofBits, Ideal.ieee, -EReal.coe_mul]; norm_num

/-- The logistic function of a real, as the programs write it. -/
theorem sg_coe (z : ℝ) : Ideal.div 1 (1 + Ideal.exp (-(z : EReal))) = ((sg z : ℝ) : EReal) := by
  have h : (0 : ℝ) < 1 + Real.exp (-z) := by positivity
  rw [← EReal.coe_neg, Ideal.exp_coe, show (1 : EReal) = ((1 : ℝ) : EReal) from rfl, ← EReal.coe_add, Ideal.div_coe h.ne', ← EReal.coe_mul, one_mul, sg]

section Block

variable {x0 : FVec Ideal S256x1024 .f32} {x1 : FVec Ideal S2816x1024 .bf16} {x2 : FVec Ideal S256x5632 .bf16} {dx w gu : ℕ → ℕ → ℝ}
  (hd : Is (a := 256) (b := 1024) x0 dx) (hw : Is (a := 2816) (b := 1024) x1 w) (hg : Is (a := 256) (b := 5632) x2 gu)

include hd hw in
theorem hid_is (i : Fin 256) (j : Fin 2816) :
    Ideal.ofBits .f32 1056964608#32 * ∑ k : Fin 1024, x0 (ix2 i k) * x1 (ix2 j k) = ((hid dx w i j : ℝ) : EReal) := by
  rw [sum_fin _ (fun k => dx i k * w j k) fun k => by rw [hd, hw, ← EReal.coe_mul], half, ← EReal.coe_mul]
  rfl

include hd hw hg in
theorem up_is (i : Fin 256) (j : Fin 2816) (l : Fin 5632) (e : l.val = j.val) :
    (Ideal.ofBits .f32 1056964608#32 * ∑ k : Fin 1024, x0 (ix2 i k) * x1 (ix2 j k)) * (x2 (ix2 i l) * Ideal.div 1 (1 + Ideal.exp (0 - x2 (ix2 i l))))
      = ((dup dx w gu i j : ℝ) : EReal) := by
  rw [hid_is hd hw, hg, zero_sub, sg_coe, e, ← EReal.coe_mul, ← EReal.coe_mul]
  rfl

include hd hw hg in
theorem gate_is (i : Fin 256) (j : Fin 2816) (l r : Fin 5632) (e : l.val = j.val) (f : r.val = 2816 + j.val) :
    (Ideal.ofBits .f32 1056964608#32 * ∑ k : Fin 1024, x0 (ix2 i k) * x1 (ix2 j k)) * x2 (ix2 i r)
        * (Ideal.div 1 (1 + Ideal.exp (0 - x2 (ix2 i l))) * (1 + x2 (ix2 i l) * (1 - Ideal.div 1 (1 + Ideal.exp (0 - x2 (ix2 i l))))))
      = ((dgate dx w gu (fun i j => gu i (2816 + j)) i j : ℝ) : EReal) := by
  rw [hid_is hd hw, hg, hg, zero_sub, sg_coe, e, f]
  simp only [show (1 : EReal) = ((1 : ℝ) : EReal) from rfl, ← EReal.coe_mul, ← EReal.coe_add, ← EReal.coe_sub]
  rfl

include hd hw hg in
/-- What a point leaves. -/
theorem out_is (y : S256x5632.Idx) : (out0_3 (F := Ideal) x0 x1 x2 : S256x5632.Idx → EReal) y
    = (((if (y 1).val < 2816 then dgate dx w gu (fun i j => gu i (2816 + j)) (y 0) (y 1) else dup dx w gu (y 0) ((y 1).val - 2816) : ℝ)) : EReal) := by
  unfold out0_3
  canon_tiles y h
  all_goals (open_payloads; pointwise; rw [h0, h1])
  all_goals split
  all_goals first
    | (exfalso; omega)
    | (refine (up_is hd hw hg _ _ _ rfl).trans (congrArg _ (congrArg (dup dx w gu _) ?_)); dsimp only; omega)
    | (refine (gate_is hd hw hg _ _ _ _ ?_ ?_).trans ?_ <;> first | rfl | (dsimp only; omega))

end Block

variable (m : (ℓ : Loc nD τ sig) → Buf (Elt Ideal) ℓ)

/-- The block indices of the four windows at every grid point. -/
theorem idx : ∀ t : Fin cfg0.N, win0_0.index t = ![t.val, 0] ∧ win0_1.index t = ![0, 0] ∧ win0_2.index t = ![t.val, 0] ∧ win0_3.index t = ![t.val, 0] ∧ t.val < 32 :=
  (by decide +kernel : ∀ t : Fin grid0.N, _)

/-- The numbers of the joined gate and up projections. -/
def both (g u : ℕ → ℕ → ℝ) (i l : ℕ) : ℝ := if l < 2816 then g i l else u i (l - 2816)

section Blocks

variable {c : Dev nD} {g u w dx : ℕ → ℕ → ℝ}
  (hg : Is (a := 8192) (b := 2816) (m ((c : Thread nD τ).loc main_arg0)) g) (hu : Is (a := 8192) (b := 2816) (m ((c : Thread nD τ).loc main_arg1)) u)
  (hw : Is (a := 2816) (b := 1024) (m ((c : Thread nD τ).loc main_arg2)) w) (hd : Is (a := 8192) (b := 1024) (m ((c : Thread nD τ).loc main_arg3)) dx)

include hd in
/-- The block of the cotangent. -/
theorem blk0 (t : Fin cfg0.N) : Is (a := 256) (b := 1024) (iblk m c 0 t) (fun i k => dx (256 * t.val + i) k) := fun i j => by
  refine Eq.trans ?_ (hd ⟨256 * t.val + i.val, by have := (idx t).2.2.2.2; omega⟩ j)
  blk_point [iblk, V, idx t]

include hw in
/-- The block of the weight. -/
theorem blk1 (t : Fin cfg0.N) : Is (a := 2816) (b := 1024) (iblk m c 1 t) w := fun i j => by
  refine Eq.trans ?_ (hw i j)
  blk_simp [iblk, idx t]
  entry_read
  pointwise
  blk_ext [idx t]

include hg hu in
/-- The block of the gate and up projections. -/
theorem blk2 (t : Fin cfg0.N) : Is (a := 256) (b := 5632) (iblk m c 2 t) (fun i l => both g u (256 * t.val + i) l) := fun i j => by
  have ht := (idx t).2.2.2.2
  unfold both
  blk_simp [iblk, idx t]
  entry_read
  pointwise
  split
  · rename_i h
    have h : j.val < 2816 := by revert h; blk_simp [idx t]; exact id
    rw [if_pos h, ← hg ⟨256 * t.val + i.val, by omega⟩ ⟨j.val, h⟩]
    blk_ext [idx t]
  · rename_i h
    have h : ¬ j.val < 2816 := by revert h; blk_simp [idx t]; exact id
    rw [if_neg h, ← hu ⟨256 * t.val + i.val, by omega⟩ ⟨j.val - 2816, by omega⟩]
    blk_ext [idx t]

end Blocks

open Cert.GateRefIdeal.Read in
/-- The reference's result at an entry. -/
theorem ref_is {x0 x1 : FVec Ideal Cert.GateRefIdeal.S8192x2816 .f32} {x2 : FVec Ideal Cert.GateRefIdeal.S2816x1024 .f32}
    {x3 : FVec Ideal Cert.GateRefIdeal.S8192x1024 .f32} {g u w dx : ℕ → ℕ → ℝ} (hg : Is (a := 8192) (b := 2816) x0 g) (hu : Is (a := 8192) (b := 2816) x1 u)
    (hw : Is (a := 2816) (b := 1024) x2 w) (hd : Is (a := 8192) (b := 1024) x3 dx) (i : Cert.GateRefIdeal.S8192x5632.Idx) :
    (val_main_v12 (F := Ideal) x0 x1 x2 x3 : Cert.GateRefIdeal.S8192x5632.Idx → EReal) i
      = (((if (i 1).val < 2816 then dgate dx w g u (i 0) (i 1) else dup dx w g (i 0) ((i 1).val - 2816) : ℝ)) : EReal) := by
  have hid (a : Fin 8192) (b : Fin 2816) : ∑ k : Fin 1024, Ideal.ofBits .f32 0x3F000000#32 * x3 (ix2 a k) * x2 (ix2 b k) = ((hid dx w a b : ℝ) : EReal) := by
    rw [sum_fin _ (fun k => 1 / 2 * dx a k * w b k) fun k => by rw [hd, hw, half, ← EReal.coe_mul, ← EReal.coe_mul]]
    simp only [hid, Finset.mul_sum, mul_assoc]
  have dg (a : Fin 8192) (b : Fin 2816) : (∑ k : Fin 1024, Ideal.ofBits .f32 0x3F000000#32 * x3 (ix2 a k) * x2 (ix2 b k)) * x1 (ix2 a b) * Ideal.div 1 (1 + Ideal.exp (-x0 (ix2 a b)))
      + x0 (ix2 a b) * ((∑ k : Fin 1024, Ideal.ofBits .f32 0x3F000000#32 * x3 (ix2 a k) * x2 (ix2 b k)) * x1 (ix2 a b))
        * (Ideal.div 1 (1 + Ideal.exp (-x0 (ix2 a b))) * (1 - Ideal.div 1 (1 + Ideal.exp (-x0 (ix2 a b))))) = ((dgate dx w g u a b : ℝ) : EReal) := by
    rw [hid, hg, hu, sg_coe]
    simp only [show (1 : EReal) = ((1 : ℝ) : EReal) from rfl, ← EReal.coe_mul, ← EReal.coe_add, ← EReal.coe_sub]
    congr 1
    unfold dgate
    ring
  have du (a : Fin 8192) (b : Fin 2816) : x0 (ix2 a b) * Ideal.div 1 (1 + Ideal.exp (-x0 (ix2 a b))) * ∑ k : Fin 1024, Ideal.ofBits .f32 0x3F000000#32 * x3 (ix2 a k) * x2 (ix2 b k)
      = ((dup dx w g a b : ℝ) : EReal) := by
    rw [hid, hg, sg_coe, ← EReal.coe_mul, ← EReal.coe_mul]
    exact congrArg _ (mul_comm _ _)
  rw [← val_main_v12_eq]
  pointwise
  split
  · exact dg (i 0) ⟨(i 1).val, ‹_›⟩
  · exact du (i 0) ⟨(i 1).val - 2816, by have : (i 1).val < 5632 := (i 1).isLt; omega⟩

/-- The array the call writes is the reference's gradient. -/
theorem final {c : Dev nD} {g u w dx : ℕ → ℕ → ℝ}
    (hg : Is (a := 8192) (b := 2816) (m ((c : Thread nD τ).loc main_arg0)) g) (hu : Is (a := 8192) (b := 2816) (m ((c : Thread nD τ).loc main_arg1)) u)
    (hw : Is (a := 2816) (b := 1024) (m ((c : Thread nD τ).loc main_arg2)) w) (hd : Is (a := 8192) (b := 1024) (m ((c : Thread nD τ).loc main_arg3)) dx) :
    (dats m 0 c).arrAt 3 (cfgs 0).N = Cert.GateRefIdeal.Read.val_main_v12 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t hf y => ?_
  blk_simp
  rw [after0_3]
  refine (out_is (blk0 m hd t) (blk1 m hw t) (blk2 m hg hu t) y).trans ((ref_is hg hu hw hd _).trans ?_).symm
  blk_simp [idx t]
  rw [mul_comm t.val]
  split
  · rename_i h
    simp only [dgate, hid, both, if_pos h, if_neg (show ¬ 2816 + (y 1).val < 2816 by omega), Nat.add_sub_cancel_left]
  · have h : (y 1).val < 5632 := (y 1).isLt
    simp only [dup, hid, both, if_pos (show (y 1).val - 2816 < 2816 by omega)]

end Cert.GateIdeal.Hand

end
-- ==== Proof.NormsClaims.lean ====
/- The claims of the gradients of the normed products and of the gating. -/
module

public import proofs.«01_k».proof.Defs
public import proofs.«01_k».proof.Proof.Gen.Norm.Frame
public import proofs.«01_k».proof.Proof.Gen.NormIdeal.Value
public import proofs.«01_k».proof.Proof.Gen.NormRefIdeal.Run
public import proofs.«01_k».proof.Proof.NormValue
public import proofs.«01_k».proof.Proof.Gen.Pre_norm_finite
public import proofs.«01_k».proof.Proof.Gen.Mix.Frame
public import proofs.«01_k».proof.Proof.Gen.MixIdeal.Value
public import proofs.«01_k».proof.Proof.Gen.MixRefIdeal.Run
public import proofs.«01_k».proof.Proof.MixValue
public import proofs.«01_k».proof.Proof.Gen.Pre_mix_finite
public import proofs.«01_k».proof.Proof.Gen.Mixb.Frame
public import proofs.«01_k».proof.Proof.Gen.MixbIdeal.Value
public import proofs.«01_k».proof.Proof.Gen.MixbRefIdeal.Run
public import proofs.«01_k».proof.Proof.MixbValue
public import proofs.«01_k».proof.Proof.Gen.Pre_mixb_finite
public import proofs.«01_k».proof.Proof.Gen.Mnorm.Frame
public import proofs.«01_k».proof.Proof.Gen.MnormIdeal.Value
public import proofs.«01_k».proof.Proof.Gen.MnormRefIdeal.Run
public import proofs.«01_k».proof.Proof.MnormValue
public import proofs.«01_k».proof.Proof.Gen.Pre_mnorm_finite
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.GateValue
public import proofs.«01_k».proof.Proof.Gen.Pre_gate_finite
public import Idealize.ShloMosaic.Adequacy
public import Idealize.ShloMosaic.Lib.Quiescent
public import Idealize.ShloMosaic.Lib.Tactic.ValueTie

@[expose] public section

set_option maxRecDepth 16384

noncomputable section

namespace Cert.Proof

open Idealize.ShloMosaic Idealize.SL.Sem

theorem frame_Norm : quiescent_Norm := fun m ρ _ => Cert.Norm.Gen.frame m ρ
theorem frame_NormIdeal : quiescent_NormIdeal := fun m ρ _ => Cert.NormIdeal.Gen.frame m ρ
theorem frame_NormRefIdeal : quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

open Cert.Pre_norm_finite Cert.Pre_norm_finite.Gen Cert.Tiles in
/-- The call computes the gradients of the rows and of the gain, and the normed rows. -/
theorem algebraic_Norm : algebraic_NormIdeal_NormRefIdeal_pre_norm_finite := by
  intro m ρ m' ρ' hpre hagree
  refine ⟨_, _, _, Cert.NormIdeal.Value.run_blocks (F := Ideal) m ρ, ?_⟩
  refine (θ_run Cert.NormRefIdeal.defs _ _).mono (fun _ h c => ?_) (Cert.NormRefIdeal.Value.run (F := Ideal) m' ρ')
  obtain ⟨a0, a1, a2, a3, a4, a5, a6⟩ := hagree c
  have e := congrFun (hpre c) (fun a => a.elim0)
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  have r0 := reals_is (real_of_all _ _ (fun _ => rfl) _ _ _ _ e0)
  have r1 := row_is (real_of_all _ _ (fun _ => rfl) _ _ _ _ e1)
  have r2 := reals_is (real_of_all _ _ (fun _ => rfl) _ _ _ _ e2)
  have r3 := reals_is (real_of_all _ _ (fun _ => rfl) _ _ _ _ e3)
  have r4 := reals_is (real_of_all _ _ (fun _ => rfl) _ _ _ _ e4)
  have r5 := reals_is (real_of_all _ _ (fun _ => rfl) _ _ _ _ e5)
  refine ⟨((h c).1.trans ((Cert.NormRefIdeal.Read.val_main_v41_eq m' c).trans ?_)).trans (Cert.NormIdeal.Hand.final_rows m r0 r1 r2 r3 r4 r5).symm,
    ((h c).2.1.trans ((Cert.NormRefIdeal.Read.val_main_v42_eq _ _ _ _ _).trans ?_)).trans (Cert.NormIdeal.Hand.final_gain m r0 r2 r3 r4 r5).symm,
    ((h c).2.2.1.trans ((Cert.NormRefIdeal.Read.val_main_v56_eq _ _).trans ?_)).trans (Cert.NormIdeal.Hand.final_norm m r0 r1).symm, (h c).2.2.2⟩
  · rw [a0, a1, a2, a3, a4, a5, a6]
  · rw [a0, a2, a3, a4, a5]
  · rw [a0, a1]

theorem frame_Mix : quiescent_Mix := fun m ρ _ => Cert.Mix.Gen.frame m ρ
theorem frame_MixIdeal : quiescent_MixIdeal := fun m ρ _ => Cert.MixIdeal.Gen.frame m ρ
theorem frame_MixRefIdeal : quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

open Cert.Pre_mix_finite Cert.Pre_mix_finite.Gen Cert.Tiles in
/-- The call computes the gradients of the rows and of the gain, and the normed rows. -/
theorem algebraic_Mix : algebraic_MixIdeal_MixRefIdeal_pre_mix_finite := by
  intro m ρ m' ρ' hpre hagree
  refine ⟨_, _, _, Cert.MixIdeal.Value.run_blocks (F := Ideal) m ρ, ?_⟩
  refine (θ_run Cert.MixRefIdeal.defs _ _).mono (fun _ h c => ?_) (Cert.MixRefIdeal.Value.run (F := Ideal) m' ρ')
  obtain ⟨a0, a1, a2, a3, a4⟩ := hagree c
  have e := congrFun (hpre c) (fun a => a.elim0)
  obtain ⟨e, e3⟩ := IntOp.andi_eq_one.mp e
  obtain ⟨e, e2⟩ := IntOp.andi_eq_one.mp e
  obtain ⟨e0, e1⟩ := IntOp.andi_eq_one.mp e
  have r0 := reals_is (real_of_all _ _ (fun _ => rfl) _ _ _ _ e0)
  have r1 := row_is (real_of_all _ _ (fun _ => rfl) _ _ _ _ e1)
  have r2 := reals_is (real_of_all _ _ (fun _ => rfl) _ _ _ _ e2)
  have r3 := reals_is (real_of_all _ _ (fun _ => rfl) _ _ _ _ e3)
  refine ⟨((h c).1.trans ((Cert.MixRefIdeal.Read.val_main_v38_eq m' c).trans ?_)).trans (Cert.MixIdeal.Hand.final_rows m r0 r1 r2 r3).symm,
    ((h c).2.1.trans ((Cert.MixRefIdeal.Read.val_main_v39_eq _ _ _).trans ?_)).trans (Cert.MixIdeal.Hand.final_gain m r0 r2 r3).symm,
    ((h c).2.2.1.trans ((Cert.MixRefIdeal.Read.val_main_v53_eq _ _).trans ?_)).trans (Cert.MixIdeal.Hand.final_norm m r0 r1).symm, (h c).2.2.2⟩
  · rw [a0, a1, a2, a3, a4]
  · rw [a0, a2, a3]
  · rw [a0, a1]

theorem frame_Mixb : quiescent_Mixb := fun m ρ _ => Cert.Mixb.Gen.frame m ρ
theorem frame_MixbIdeal : quiescent_MixbIdeal := fun m ρ _ => Cert.MixbIdeal.Gen.frame m ρ
theorem frame_MixbRefIdeal : quiescent_MixbRefIdeal := fun m ρ _ =>
  (θ_run Cert.MixbRefIdeal.defs _ _).mono (fun r h => ⟨fun c => (h c).2.2.2, sem_eq_zero_of_no_sems (by decide) r.2⟩)
    (Cert.MixbRefIdeal.Value.run (F := Ideal) m ρ)

open Cert.Pre_mixb_finite Cert.Pre_mixb_finite.Gen Cert.Tiles in
/-- The call computes the gradients of the rows and of the gain, and the normed rows. -/
theorem algebraic_Mixb : algebraic_MixbIdeal_MixbRefIdeal_pre_mixb_finite := by
  intro m ρ m' ρ' hpre hagree
  refine ⟨_, _, _, Cert.MixbIdeal.Value.run_blocks (F := Ideal) m ρ, ?_⟩
  refine (θ_run Cert.MixbRefIdeal.defs _ _).mono (fun _ h c => ?_) (Cert.MixbRefIdeal.Value.run (F := Ideal) m' ρ')
  obtain ⟨a0, a1, a2, a3, a4⟩ := hagree c
  have e := congrFun (hpre c) (fun a => a.elim0)
  obtain ⟨e, e3⟩ := IntOp.andi_eq_one.mp e
  obtain ⟨e, e2⟩ := IntOp.andi_eq_one.mp e
  obtain ⟨e0, e1⟩ := IntOp.andi_eq_one.mp e
  have r0 := reals_is (real_of_all _ _ (fun _ => rfl) _ _ _ _ e0)
  have r1 := row_is (real_of_all _ _ (fun _ => rfl) _ _ _ _ e1)
  have r2 := reals_is (real_of_all _ _ (fun _ => rfl) _ _ _ _ e2)
  have r3 := reals_is (real_of_all _ _ (fun _ => rfl) _ _ _ _ e3)
  refine ⟨((h c).1.trans ((Cert.MixbRefIdeal.Read.val_main_v38_eq m' c).trans ?_)).trans (Cert.MixbIdeal.Hand.final_rows m r0 r1 r2 r3).symm,
    ((h c).2.1.trans ((Cert.MixbRefIdeal.Read.val_main_v39_eq _ _ _).trans ?_)).trans (Cert.MixbIdeal.Hand.final_gain m r0 r2 r3).symm,
    ((h c).2.2.1.trans ((Cert.MixbRefIdeal.Read.val_main_v53_eq _ _).trans ?_)).trans (Cert.MixbIdeal.Hand.final_norm m r0 r1).symm, (h c).2.2.2⟩
  · rw [a0, a1, a2, a3, a4]
  · rw [a0, a2, a3]
  · rw [a0, a1]

theorem frame_Mnorm : quiescent_Mnorm := fun m ρ _ => Cert.Mnorm.Gen.frame m ρ
theorem frame_MnormIdeal : quiescent_MnormIdeal := fun m ρ _ => Cert.MnormIdeal.Gen.frame m ρ
theorem frame_MnormRefIdeal : quiescent_MnormRefIdeal := fun m ρ _ =>
  (θ_run Cert.MnormRefIdeal.defs _ _).mono (fun r h => ⟨fun c => (h c).2.2.2, sem_eq_zero_of_no_sems (by decide) r.2⟩)
    (Cert.MnormRefIdeal.Value.run (F := Ideal) m ρ)

open Cert.Pre_mnorm_finite Cert.Pre_mnorm_finite.Gen Cert.Tiles in
/-- The call computes the gradients of the rows and of the gain, and the normed rows. -/
theorem algebraic_Mnorm : algebraic_MnormIdeal_MnormRefIdeal_pre_mnorm_finite := by
  intro m ρ m' ρ' hpre hagree
  refine ⟨_, _, _, Cert.MnormIdeal.Value.run_blocks (F := Ideal) m ρ, ?_⟩
  refine (θ_run Cert.MnormRefIdeal.defs _ _).mono (fun _ h c => ?_) (Cert.MnormRefIdeal.Value.run (F := Ideal) m' ρ')
  obtain ⟨a0, a1, a2, a3⟩ := hagree c
  have e := congrFun (hpre c) (fun a => a.elim0)
  obtain ⟨e, e3⟩ := IntOp.andi_eq_one.mp e
  obtain ⟨e, e2⟩ := IntOp.andi_eq_one.mp e
  obtain ⟨e0, e1⟩ := IntOp.andi_eq_one.mp e
  have r0 := reals_is (real_of_all _ _ (fun _ => rfl) _ _ _ _ e0)
  have r1 := row_is (real_of_all _ _ (fun _ => rfl) _ _ _ _ e1)
  obtain ⟨_, r2⟩ := is3_of_real (real_of_all _ _ (fun _ => rfl) _ _ _ _ e2)
  obtain ⟨_, r3⟩ := is3_of_real (real_of_all _ _ (fun _ => rfl) _ _ _ _ e3)
  refine ⟨((h c).1.trans ((Cert.MnormRefIdeal.Read.val_main_v62_eq m' c).trans ?_)).trans (Cert.MnormIdeal.Hand.final_rows m r0 r1 r2 r3).symm,
    ((h c).2.1.trans ((Cert.MnormRefIdeal.Read.val_main_v63_eq _ _ _).trans ?_)).trans (Cert.MnormIdeal.Hand.final_gain m r0 r2 r3).symm,
    ((h c).2.2.1.trans ((Cert.MnormRefIdeal.Read.val_main_v77_eq _ _).trans ?_)).trans (Cert.MnormIdeal.Hand.final_norm m r0 r1).symm, (h c).2.2.2⟩
  · rw [a0, a1, a2, a3]
  · rw [a0, a2, a3]
  · rw [a0, a1]

theorem frame_Gate : quiescent_Gate := fun m ρ _ => Cert.Gate.Gen.frame m ρ
theorem frame_GateIdeal : quiescent_GateIdeal := fun m ρ _ => Cert.GateIdeal.Gen.frame m ρ
theorem frame_GateRefIdeal : quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

open Cert.Pre_gate_finite Cert.Pre_gate_finite.Gen in
/-- The call computes the gradient of the gate and up projections. -/
theorem algebraic_Gate : algebraic_GateIdeal_GateRefIdeal_pre_gate_finite := by
  intro m ρ m' ρ' hpre hagree
  refine ⟨_, Cert.GateIdeal.Value.run_blocks (F := Ideal) m ρ, ?_⟩
  refine (θ_run Cert.GateRefIdeal.defs _ _).mono (fun _ h c => ⟨?_, (h c).2⟩) (Cert.GateRefIdeal.Value.run (F := Ideal) m' ρ')
  obtain ⟨a0, a1, a2, a3⟩ := hagree c
  refine ((h c).1.trans (Cert.GateRefIdeal.Read.val_main_v12_eq _ _ _ _)).trans ?_
  rw [a0, a1, a2, a3]
  have e := congrFun (hpre c) (fun a => a.elim0)
  obtain ⟨e, e3⟩ := IntOp.andi_eq_one.mp e
  obtain ⟨e, e2⟩ := IntOp.andi_eq_one.mp e
  obtain ⟨e0, e1⟩ := IntOp.andi_eq_one.mp e
  exact (Cert.GateIdeal.Hand.final m (Cert.Tiles.reals_is (Cert.Tiles.real_of_all _ _ (fun _ => rfl) _ _ _ _ e0)) (Cert.Tiles.reals_is (Cert.Tiles.real_of_all _ _ (fun _ => rfl) _ _ _ _ e1))
    (Cert.Tiles.reals_is (Cert.Tiles.real_of_all _ _ (fun _ => rfl) _ _ _ _ e2)) (Cert.Tiles.reals_is (Cert.Tiles.real_of_all _ _ (fun _ => rfl) _ _ _ _ e3))).symm

end Cert.Proof

end
-- ==== Proof.Memory.lean ====
/- The attention over the memory and its gradient, over the reals: one row of scores at a time. -/
module

public import proofs.«01_k».proof.Defs
public import proofs.«01_k».proof.Proof.Lift

@[expose] public section

noncomputable section

namespace Cert.Tiles

open Idealize.ShloMosaic

/-- A head's 64 columns of a matrix, zero elsewhere. -/
def mhead (f : ℕ → ℕ → ℝ) (h : ℕ) (i d : ℕ) : ℝ := if d / 64 = h then f i d else 0

/-- The product of two rows over a head's columns. -/
def minner (f g : ℕ → ℕ → ℝ) (h i j : ℕ) : ℝ := ∑ e ∈ Finset.range 64, f i (h * 64 + e) * g j (h * 64 + e)

/-- A head's scores of query `i`. -/
def mscore (q k : ℕ → ℕ → ℝ) (h i j : ℕ) : ℝ := minner q k h i j * (1 / 8)

/-- The softmax of a row of 256 scores. -/
def soft (z : ℕ → ℝ) (j : ℕ) : ℝ := Real.exp (z j) / ∑ k ∈ Finset.range 256, Real.exp (z k)

/-- The gradient of the row's scores, before their scaling by an eighth, from the gradient `g` of its softmax; times an eighth. -/
def softGrad (z g : ℕ → ℝ) (j : ℕ) : ℝ := soft z j * (g j - ∑ k ∈ Finset.range 256, g k * soft z k) * (1 / 8)

/-- A product over all 256 columns of a head's part is the product over the head's columns. -/
theorem minner_head (f g : ℕ → ℕ → ℝ) {h : ℕ} (hh : h < 4) (i j : ℕ) :
    ∑ d ∈ Finset.range 256, mhead f h i d * g j d = minner f g h i j := by
  have e : (Finset.range 256).filter (fun d => d / 64 = h) = (Finset.range 64).image (fun e => h * 64 + e) := by
    ext d
    simp only [Finset.mem_filter, Finset.mem_range, Finset.mem_image]
    constructor
    · intro hd
      exact ⟨d - h * 64, by omega, by omega⟩
    · rintro ⟨e, he, rfl⟩
      omega
  simp only [mhead, ite_mul, zero_mul]
  rw [← Finset.sum_filter, e, Finset.sum_image (fun a _ b _ hab => by simpa using hab)]
  rfl

theorem bottom : Ideal.ofBits .f32 4286578688#32 = ⊥ := by
  simp [Ideal.ofBits, Ideal.ieee]

/-- The maximum of a row of numbers is a number. -/
theorem top_is {Z : Fin 256 → EReal} {z : ℕ → ℝ} (h : ∀ k : Fin 256, Z k = ((z k : ℝ) : EReal)) :
    ∃ r : ℝ, Finset.univ.fold max (Ideal.ofBits .f32 4286578688#32) Z = (r : EReal) := by
  rw [bottom]
  obtain ⟨i, _, e⟩ := Finset.exists_mem_eq_sup (Finset.univ : Finset (Fin 256)) ⟨0, Finset.mem_univ _⟩ Z
  exact ⟨z i, e.trans (h i)⟩

theorem weight_pos (z : ℕ → ℝ) (r : ℝ) : 0 < ∑ k ∈ Finset.range 256, Real.exp (z k - r) :=
  Finset.sum_pos (fun _ _ => Real.exp_pos _) ⟨0, by simp⟩

/-- The softmax does not depend on what is subtracted from the row. -/
theorem soft_shift (z : ℕ → ℝ) (r : ℝ) (j : ℕ) : Real.exp (z j - r) / ∑ k ∈ Finset.range 256, Real.exp (z k - r) = soft z j := by
  unfold soft
  simp only [Real.exp_sub]
  rw [← Finset.sum_div]
  have := Real.exp_pos r
  have := Finset.sum_pos (fun (k : ℕ) (_ : k ∈ Finset.range 256) => Real.exp_pos (z k)) ⟨0, by simp⟩
  field_simp

theorem exps_is {Z : Fin 256 → EReal} {z : ℕ → ℝ} (h : ∀ k : Fin 256, Z k = ((z k : ℝ) : EReal)) (r : ℝ) :
    ∑ k, Ideal.exp (Z k - (r : EReal)) = ((∑ k ∈ Finset.range 256, Real.exp (z k - r) : ℝ) : EReal) :=
  sum_fin _ (fun k => Real.exp (z k - r)) fun k => by rw [h k, ← EReal.coe_sub, exp_is]

/-- The softmax as both programs compute it: exponentials of the differences to any number, over their sum. -/
theorem soft_is {Z : Fin 256 → EReal} {z : ℕ → ℝ} (h : ∀ k : Fin 256, Z k = ((z k : ℝ) : EReal)) (r : ℝ) (j : Fin 256) :
    Ideal.div (Ideal.exp (Z j - (r : EReal))) (∑ k, Ideal.exp (Z k - (r : EReal))) = ((soft z j : ℝ) : EReal) := by
  rw [exps_is h r, Ideal.div_coe (weight_pos z r).ne', h j, ← EReal.coe_sub, exp_is, ← EReal.coe_mul, mul_one_div, soft_shift]

/-- The gradient as the kernel computes it, from the softmax. -/
theorem softGrad_is {P G : Fin 256 → EReal} {z g : ℕ → ℝ} (hp : ∀ k : Fin 256, P k = ((soft z k : ℝ) : EReal)) (hg : ∀ k : Fin 256, G k = ((g k : ℝ) : EReal))
    (j : Fin 256) : P j * (G j - ∑ k, G k * P k) * Ideal.ofBits .f32 1040187392#32 = ((softGrad z g j : ℝ) : EReal) := by
  rw [sum_fin _ (fun k => g k * soft z k) fun k => by rw [hp k, hg k, ← EReal.coe_mul]]
  rw [hp j, hg j, eighth, ← EReal.coe_sub, ← EReal.coe_mul, ← EReal.coe_mul]
  rfl

/-- The gradient as the derivative of the quotient has it. -/
theorem softGrad_ref {E G : Fin 256 → EReal} {z g : ℕ → ℝ} (r : ℝ) (he : ∀ k : Fin 256, E k = ((Real.exp (z k - r) : ℝ) : EReal))
    (hg : ∀ k : Fin 256, G k = ((g k : ℝ) : EReal)) (j : Fin 256) :
    (Ideal.div (G j) (∑ k, E k) + -(∑ k, G k * Ideal.div (Ideal.ofBits .f32 1065353216#32) ((∑ k, E k) * ∑ k, E k) * E k)) * E j * Ideal.ofBits .f32 1040187392#32
      = ((softGrad z g j : ℝ) : EReal) := by
  have one : Ideal.ofBits .f32 1065353216#32 = ((1 : ℝ) : EReal) := by
    simp [Ideal.ofBits, Ideal.ieee, -EReal.coe_mul]; norm_num
  have hS := weight_pos z r
  have hs : ∑ k, E k = ((∑ k ∈ Finset.range 256, Real.exp (z k - r) : ℝ) : EReal) := sum_fin _ (fun k => Real.exp (z k - r)) he
  unfold softGrad
  simp only [← soft_shift z r]
  rw [hs]
  generalize ∑ k ∈ Finset.range 256, Real.exp (z k - r) = S at hS
  rw [← EReal.coe_mul, Ideal.div_coe hS.ne', Ideal.div_coe (mul_pos hS hS).ne', one, ← EReal.coe_mul]
  rw [sum_fin _ (fun k => g k * (1 * (1 / (S * S))) * Real.exp (z k - r)) fun k => by rw [hg k, he k, ← EReal.coe_mul, ← EReal.coe_mul]]
  rw [hg j, he j, eighth, ← EReal.coe_mul, ← EReal.coe_neg, ← EReal.coe_add, ← EReal.coe_mul, ← EReal.coe_mul]
  congr 1
  have e : ∑ k ∈ Finset.range 256, g k * (1 * (1 / (S * S))) * Real.exp (z k - r) = (∑ k ∈ Finset.range 256, g k * (Real.exp (z k - r) / S)) / S := by
    rw [Finset.sum_div]
    refine Finset.sum_congr rfl fun k _ => ?_
    field_simp
  rw [e]
  field_simp
  ring

/-- The gradient of the memory's values. -/
def dvals (q k g : ℕ → ℕ → ℝ) (n j d : ℕ) : ℝ := ∑ i ∈ Finset.range n, soft (mscore q k (d / 64) i) j * g i d

/-- The gradient of the memory's keys. -/
def dkeys (q k v g : ℕ → ℕ → ℝ) (n j d : ℕ) : ℝ := ∑ i ∈ Finset.range n, softGrad (mscore q k (d / 64) i) (minner g v (d / 64) i) j * q i d

/-- The gradient of the queries. -/
def dqs (q k v g : ℕ → ℕ → ℝ) (i d : ℕ) : ℝ := ∑ j ∈ Finset.range 256, softGrad (mscore q k (d / 64) i) (minner g v (d / 64) i) j * k j d

end Cert.Tiles

end
-- ==== Proof.MemoBody.lean ====
/- The memory attention's gradient of one tile of 512 queries: the body's operations, head by head, and the
   numbers they compute. -/
module

public import proofs.«01_k».proof.Defs
public import proofs.«01_k».proof.Proof.Gen.MemoIdeal
public import proofs.«01_k».proof.Proof.Memory
public import Idealize.ShloMosaic.Lib.Pipeline.ValueKit
public import Idealize.ShloMosaic.Lib.Ring

@[expose] public section

set_option maxRecDepth 16384

noncomputable section

namespace Cert.Tiles.Mem

open Cert.MemoIdeal Cert.MemoIdeal.Gen
open Cert.Tiles
open Idealize.ShloMosaic

variable {F : FTy → Type} [FloatOps F]

/-- The columns from `a` up to `b`. -/
def lanes (a b : BitVec 32) : IVec S512x256 1 :=
  andi (cmpi .sge (iota .tc S512x256 32 [1] iota_S512x256_d1_w32) (broadcast S512x256 a))
    (cmpi .slt (iota .tc S512x256 32 [1] iota_S512x256_d1_w32) (broadcast S512x256 b))

/-- A matrix in the mask's columns, zero elsewhere. -/
def only (m : IVec S512x256 1) (x : FVec F S512x256 .f32) : FVec F S512x256 .f32 :=
  select m x (broadcast S512x256 (Scalar.ofBits .f32 0x00000000#32))

/-- The same of a matrix in 16 bits. -/
def keep (m : IVec S512x256 1) (x : FVec F S512x256 .bf16) : FVec F S512x256 .bf16 := truncf .bf16 (only m (extf .f32 x bitsLt_bf16_f32)) bitsLt_bf16_f32

/-- The products of the rows of two matrices. -/
def rows (a : FVec F S512x256 .bf16) (b : FVec F S256x256 .bf16) : FVec F S512x256 .f32 :=
  matmul dot_S512x256_S256x256_S512x256_1_1_0_0_n_n none a b (constant S512x256 .f32 0x00000000#32)

/-- The product of two matrices. -/
def times (a : FVec F S512x256 .bf16) (b : FVec F S256x256 .bf16) : FVec F S512x256 .f32 :=
  matmul dot_S512x256_S256x256_S512x256_1_0_0_1_n_n none a b (constant S512x256 .f32 0x00000000#32)

/-- The products of the columns of two matrices. -/
def cols (a b : FVec F S512x256 .bf16) : FVec F S256x256 .f32 :=
  matmul dot_S512x256_S512x256_S256x256_0_0_1_1_n_n none a b (constant S256x256 .f32 0x00000000#32)

/-- Every entry times an eighth. -/
def eighths (x : FVec F S512x256 .f32) : FVec F S512x256 .f32 := mulf x (broadcast S512x256 (Scalar.ofBits .f32 0x3E000000#32))

/-- The row sums, in every column. -/
def total (x : FVec F S512x256 .f32) : FVec F S512x256 .f32 :=
  broadcastTo S512x256 (shapeCast S512x1 (multiReduction .add [1] S512 x 0x00000000#32 reduces_S512x256_S512 (.inl rfl) rfl) shapeCasts_S512_S512x1) broadcasts_S512x1_S512x256

/-- The row maxima, in every column. -/
def top (x : FVec F S512x256 .f32) : FVec F S512x256 .f32 :=
  broadcastTo S512x256 (shapeCast S512x1 (multiReduction .maximumf [1] S512 x 0xFF800000#32 reduces_S512x256_S512 (.inl rfl) rfl) shapeCasts_S512_S512x1) broadcasts_S512x1_S512x256

/-- The softmax of every row. -/
def probs (x : FVec F S512x256 .f32) : FVec F S512x256 .f32 := divf (exp (subf x (top x))) (total (exp (subf x (top x))))

/-- A head's weights. -/
def weights (m : IVec S512x256 1) (q : FVec F S512x256 .bf16) (k : FVec F S256x256 .bf16) : FVec F S512x256 .f32 := probs (eighths (rows (keep m q) k))

/-- The scores' gradient from the weights and the weights' gradient. -/
def dscores (p d : FVec F S512x256 .f32) : FVec F S512x256 .bf16 := truncf .bf16 (eighths (mulf p (subf d (total (mulf d p))))) bitsLt_bf16_f32

/-- A head's gradient of its scores. -/
def ds (m : IVec S512x256 1) (q g : FVec F S512x256 .bf16) (k v : FVec F S256x256 .bf16) : FVec F S512x256 .bf16 :=
  dscores (weights m q k) (rows (keep m g) v)

/-- A head's share of the gradients of the queries, the keys and the values. -/
def dqOf (m : IVec S512x256 1) (q g : FVec F S512x256 .bf16) (k v : FVec F S256x256 .bf16) : FVec F S512x256 .f32 := only m (times (ds m q g k v) k)
def dkOf (m : IVec S512x256 1) (q g : FVec F S512x256 .bf16) (k v : FVec F S256x256 .bf16) : FVec F S256x256 .f32 := cols (ds m q g k v) (keep m q)
def dvOf (m : IVec S512x256 1) (q g : FVec F S512x256 .bf16) (k : FVec F S256x256 .bf16) : FVec F S256x256 .f32 :=
  cols (truncf .bf16 (weights m q k) bitsLt_bf16_f32) (keep m g)

/-- The sum over the four heads, from zero on. -/
def four {s : Shape} (f : IVec S512x256 1 → FVec F s .f32) : FVec F s .f32 :=
  addf (addf (addf (addf (broadcast s (Scalar.ofBits .f32 0x00000000#32)) (f (lanes 0#32 64#32))) (f (lanes 64#32 128#32))) (f (lanes 128#32 192#32))) (f (lanes 192#32 256#32))

/-- What the body writes of one tile; the gradients of the keys and the values are added to those of the tiles before it. -/
def dqTile (q g : FVec F S512x256 .bf16) (k v : FVec F S256x256 .bf16) : FVec F S512x256 .bf16 := truncf .bf16 (four fun m => dqOf m q g k v) bitsLt_bf16_f32
def dkTile (q g : FVec F S512x256 .bf16) (k v : FVec F S256x256 .bf16) : FVec F S256x256 .f32 := four fun m => dkOf m q g k v
def dvTile (q g : FVec F S512x256 .bf16) (k : FVec F S256x256 .bf16) : FVec F S256x256 .f32 := four fun m => dvOf m q g k

/-! ### Over the reals -/

/-- The mask holds in the columns of head `h`. -/
def Masks (m : IVec S512x256 1) (h : ℕ) : Prop := ∀ (i : Fin 512) (j : Fin 256), m (ix2 i j) = if j.val / 64 = h then 1#1 else 0#1

theorem lanes_word : ∀ (h : Fin 4) (c : Fin 256), IntOp.andi (IntOp.cmpi .sge (BitVec.ofNat 32 c.val) (BitVec.ofNat 32 (64 * h.val)))
    (IntOp.cmpi .slt (BitVec.ofNat 32 c.val) (BitVec.ofNat 32 (64 * h.val + 64))) = if c.val / 64 = h.val then 1#1 else 0#1 := by decide +kernel

theorem lanes_is (h : Fin 4) (a b : BitVec 32) (ha : a = BitVec.ofNat 32 (64 * h.val)) (hb : b = BitVec.ofNat 32 (64 * h.val + 64)) : Masks (lanes a b) h.val := fun i j => by
  subst ha hb
  refine Eq.trans ?_ (lanes_word h j)
  pointwise [lanes]

variable {m : IVec S512x256 1} {h : ℕ} {q g k v z p d : ℕ → ℕ → ℝ}

theorem only_is (hm : Masks m h) {x : FVec Ideal S512x256 .f32} (hx : Is (a := 512) (b := 256) x z) : Is (a := 512) (b := 256) (only m x) (mhead z h) := fun i j => by
  pointwise [only]
  rw [hm i j]
  exact select_real _ _ fun _ => hx i j

theorem keep_is (hm : Masks m h) {x : FVec Ideal S512x256 .bf16} (hx : Is (a := 512) (b := 256) x z) : Is (a := 512) (b := 256) (keep m x) (mhead z h) :=
  only_is hm (x := extf .f32 x bitsLt_bf16_f32) hx

theorem rows_is {a : FVec Ideal S512x256 .bf16} {b : FVec Ideal S256x256 .bf16} (ha : Is (a := 512) (b := 256) a p) (hb : Is (a := 256) (b := 256) b k) :
    Is (a := 512) (b := 256) (rows a b) (fun i j => ∑ d ∈ Finset.range 256, p i d * k j d) := fun i j => by
  pointwise [rows]
  exact sum_fin _ (fun d => p i d * k j d) fun d => by rw [ha i d, hb j d, ← EReal.coe_mul]

theorem times_is {a : FVec Ideal S512x256 .bf16} {b : FVec Ideal S256x256 .bf16} (ha : Is (a := 512) (b := 256) a p) (hb : Is (a := 256) (b := 256) b k) :
    Is (a := 512) (b := 256) (times a b) (fun i d => ∑ j ∈ Finset.range 256, p i j * k j d) := fun i d => by
  pointwise [times]
  exact sum_fin _ (fun j => p i j * k j d) fun j => by rw [ha i j, hb j d, ← EReal.coe_mul]

theorem cols_is {a b : FVec Ideal S512x256 .bf16} (ha : Is (a := 512) (b := 256) a p) (hb : Is (a := 512) (b := 256) b d) :
    Is (a := 256) (b := 256) (cols a b) (fun j e => ∑ i ∈ Finset.range 512, p i j * d i e) := fun j e => by
  pointwise [cols]
  exact sum_fin _ (fun i => p i j * d i e) fun i => by rw [ha i j, hb i e, ← EReal.coe_mul]

theorem probs_is {x : FVec Ideal S512x256 .f32} (hx : Is (a := 512) (b := 256) x z) : Is (a := 512) (b := 256) (probs x) (fun i => soft (z i)) := fun i j => by
  pointwise [probs, total, top]
  obtain ⟨r, hr⟩ := top_is (Z := fun j => x (ix2 i j)) (z := z i) (hx i)
  rw [hr]
  exact soft_is (hx i) r j

theorem weights_is (hh : h < 4) (hm : Masks m h) {x : FVec Ideal S512x256 .bf16} {y : FVec Ideal S256x256 .bf16} (hx : Is (a := 512) (b := 256) x q)
    (hy : Is (a := 256) (b := 256) y k) : Is (a := 512) (b := 256) (weights m x y) (fun i => soft (mscore q k h i)) := by
  refine probs_is fun i j => ?_
  pointwise [eighths]
  rw [rows_is (keep_is hm hx) hy i j, eighth, ← EReal.coe_mul]
  exact congrArg (fun r : ℝ => ((r * (1 / 8) : ℝ) : EReal)) (minner_head q k hh i j)

theorem dscores_is {P D : FVec Ideal S512x256 .f32} (hP : Is (a := 512) (b := 256) P (fun i => soft (z i))) (hD : Is (a := 512) (b := 256) D d) :
    Is (a := 512) (b := 256) (dscores P D) (fun i => softGrad (z i) (d i)) := fun i j => by
  pointwise [dscores, eighths, total]
  exact softGrad_is (P := fun j => P (ix2 i j)) (G := fun j => D (ix2 i j)) (hP i) (hD i) j

theorem ds_is (hh : h < 4) (hm : Masks m h) {x y : FVec Ideal S512x256 .bf16} {w u : FVec Ideal S256x256 .bf16} (hx : Is (a := 512) (b := 256) x q)
    (hy : Is (a := 512) (b := 256) y g) (hw : Is (a := 256) (b := 256) w k) (hu : Is (a := 256) (b := 256) u v) :
    Is (a := 512) (b := 256) (ds m x y w u) (fun i => softGrad (mscore q k h i) (minner g v h i)) := by
  refine dscores_is (weights_is hh hm hx hw) fun i j => ?_
  exact (rows_is (keep_is hm hy) hu i j).trans (congrArg _ (minner_head g v hh i j))

/-- The sum over the heads, where head `h` contributes nothing outside its columns. -/
theorem four_is {n : ℕ} {f : IVec S512x256 1 → FVec Ideal ⟨2, ![n, 256]⟩ .f32} {r : ℕ → ℕ → ℕ → ℝ} (hf : ∀ h < 4, ∀ m, Masks m h → Is (a := n) (b := 256) (f m) (mhead (r h) h)) :
    Is (a := n) (b := 256) (four f) (fun i d => r (d / 64) i d) := fun i d => by
  pointwise [four]
  rw [hf 0 (by decide) _ (lanes_is 0 0#32 64#32 rfl rfl) i d, hf 1 (by decide) _ (lanes_is 1 64#32 128#32 rfl rfl) i d, hf 2 (by decide) _ (lanes_is 2 128#32 192#32 rfl rfl) i d,
    hf 3 (by decide) _ (lanes_is 3 192#32 256#32 rfl rfl) i d]
  rw [← EReal.coe_add, ← EReal.coe_add, ← EReal.coe_add]
  congr 1
  unfold mhead
  have hd := d.isLt
  have : d.val / 64 = 0 ∨ d.val / 64 = 1 ∨ d.val / 64 = 2 ∨ d.val / 64 = 3 := by omega
  rcases this with e | e | e | e <;> simp [e]

variable {x y : FVec Ideal S512x256 .bf16} {w u : FVec Ideal S256x256 .bf16} (hx : Is (a := 512) (b := 256) x q)
    (hy : Is (a := 512) (b := 256) y g) (hw : Is (a := 256) (b := 256) w k) (hu : Is (a := 256) (b := 256) u v)

include hx hy hw hu in
theorem dqTile_is : Is (a := 512) (b := 256) (dqTile x y w u)
    (fun i d => ∑ j ∈ Finset.range 256, softGrad (mscore q k (d / 64) i) (minner g v (d / 64) i) j * k j d) :=
  four_is (f := fun m => dqOf m x y w u) (r := fun h i d => ∑ j ∈ Finset.range 256, softGrad (mscore q k h i) (minner g v h i) j * k j d)
    fun h hh m hm => only_is hm (times_is (ds_is hh hm hx hy hw hu) hw)

include hx hy hw hu in
theorem dkTile_is : Is (a := 256) (b := 256) (dkTile x y w u)
    (fun j d => ∑ i ∈ Finset.range 512, softGrad (mscore q k (d / 64) i) (minner g v (d / 64) i) j * q i d) :=
  four_is (f := fun m => dkOf m x y w u) (r := fun h j d => ∑ i ∈ Finset.range 512, softGrad (mscore q k h i) (minner g v h i) j * q i d)
    fun h hh m hm => (cols_is (ds_is hh hm hx hy hw hu) (keep_is hm hx)).congr fun j _ d _ => by simp only [mhead, mul_ite, mul_zero]; split <;> simp

include hx hy hw in
theorem dvTile_is : Is (a := 256) (b := 256) (dvTile x y w) (fun j d => ∑ i ∈ Finset.range 512, soft (mscore q k (d / 64) i) j * g i d) :=
  four_is (f := fun m => dvOf m x y w) (r := fun h j d => ∑ i ∈ Finset.range 512, soft (mscore q k h i) j * g i d)
    fun h hh m hm => (cols_is (a := truncf .bf16 (weights m x w) bitsLt_bf16_f32) (weights_is hh hm hx hw) (keep_is hm hy)).congr
      fun j _ d _ => by simp only [mhead, mul_ite, mul_zero]; split <;> simp

end Cert.Tiles.Mem

end
-- ==== Proof.MemoValue.lean ====
/- The gradient through the attention over the memory: what the kernel's three results hold. -/
module

public import proofs.«01_k».proof.Defs
public import proofs.«01_k».proof.Proof.Gen.MemoIdeal.Frame
public import proofs.«01_k».proof.Proof.Finite
public import proofs.«01_k».proof.Proof.MemoBody
public import proofs.«01_k».proof.Proof.Folds
public import Idealize.ShloMosaic.Adequacy

public import Idealize.ShloMosaic.Lib.Pipeline.ReadBack

@[expose] public section

set_option maxRecDepth 16384

noncomputable section

namespace Cert.MemoIdeal.Hand

open Cert.MemoIdeal Cert.MemoIdeal.Gen
open Cert.Tiles Cert.Tiles.Mem
open Idealize.ShloMosaic Idealize.ShloMosaic.TcCoe Idealize.SL Idealize.SL.Sem
open Idealize.ShloMosaic.Pipeline (Dat)

variable (m : (ℓ : Loc nD τ sig) → Buf (Elt Ideal) ℓ)

/-- The tile's queries, in 16 bits. -/
def qs (c : Dev nD) (t : Fin cfg0.N) : FVec Ideal S512x256 .bf16 := truncf .bf16 (iblk m c 0 t : FVec Ideal S512x256 .f32) bitsLt_bf16_f32

/-- The first tile. -/
theorem first_tile (c : Dev nD) (t : Fin cfg0.N) (h0 : t.val % 16 = 0) : outsAt0 m c t.val t.isLt =
    (dqTile (qs m c t) (iblk m c 3 t) (iblk m c 1 t) (iblk m c 2 t),
      addf (broadcast S256x256 (Scalar.ofBits .f32 0x00000000#32)) (dkTile (qs m c t) (iblk m c 3 t) (iblk m c 1 t) (iblk m c 2 t)),
      addf (broadcast S256x256 (Scalar.ofBits .f32 0x00000000#32)) (dvTile (qs m c t) (iblk m c 3 t) (iblk m c 1 t))) := by
  rw [outsAt0_A m c t h0]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, shapeCast_self]
  simp only [qs, dqTile, dkTile, dvTile, four, dqOf, dkOf, dvOf, ds, dscores, weights, probs, top, total, eighths, cols, times, rows, keep, Mem.only, lanes]

/-- The later tiles. -/
theorem next_tile (c : Dev nD) (t : Fin cfg0.N) (h0 : ¬t.val % 16 = 0) : outsAt0 m c t.val t.isLt =
    (dqTile (qs m c t) (iblk m c 3 t) (iblk m c 1 t) (iblk m c 2 t),
      addf (outsAt0 m c (t.val - 1) (by omega)).2.1 (dkTile (qs m c t) (iblk m c 3 t) (iblk m c 1 t) (iblk m c 2 t)),
      addf (outsAt0 m c (t.val - 1) (by omega)).2.2 (dvTile (qs m c t) (iblk m c 3 t) (iblk m c 1 t))) := by
  rw [outsAt0_B m c t h0]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, shapeCast_self]
  simp only [qs, dqTile, dkTile, dvTile, four, dqOf, dkOf, dvOf, ds, dscores, weights, probs, top, total, eighths, cols, times, rows, keep, Mem.only, lanes]

theorem idx : ∀ t : Fin cfg0.N, win0_0.index t = ![t.val, 6] ∧ win0_1.index t = ![0, 0] ∧ win0_2.index t = ![0, 1] ∧ win0_3.index t = ![t.val, 3]
    ∧ win0_4.index t = ![t.val, 6] ∧ win0_5.index t = ![0, 0] ∧ win0_6.index t = ![0, 0] ∧ t.val < 16 :=
  (by decide +kernel : ∀ t : Fin grid0.N, _)

/-- The first result's array holds, before the call, what it is to be written into. -/
theorem into_eq (c : Dev nD) : V m c main_v2_0 = m ((c : Thread nD τ).loc main_arg3) := by
  unfold V
  after_results
  try rfl

theorem add_is {x y : FVec Ideal S256x256 .f32} {f g : ℕ → ℕ → ℝ} (hx : Is (a := 256) (b := 256) x f) (hy : Is (a := 256) (b := 256) y g) :
    Is (a := 256) (b := 256) (addf x y) (fun i j => f i j + g i j) := fun i j => (congrArg₂ (· + ·) (hx i j) (hy i j)).trans (EReal.coe_add _ _).symm

theorem zeros_is : Is (a := 256) (b := 256) (broadcast S256x256 (Scalar.ofBits .f32 0x00000000#32) : FVec Ideal S256x256 .f32) (fun _ _ => 0) := fun i j => by
  pointwise
  rfl

section Blocks

variable {c : Dev nD} {q k v g : ℕ → ℕ → ℝ}
  (hq : ∀ (i : Fin 8192) (d : Fin 256), m ((c : Thread nD τ).loc main_arg0) (ix2 i ⟨1536 + d.val, Nat.add_lt_add_left d.isLt 1536⟩) = ((q i d : ℝ) : EReal))
  (hk : ∀ (j : Fin 256) (d : Fin 256), m ((c : Thread nD τ).loc main_arg1) (ix2 j ⟨d.val, Nat.lt_of_lt_of_le d.isLt (Nat.le_of_ble_eq_true rfl)⟩) = ((k j d : ℝ) : EReal))
  (hv : ∀ (j : Fin 256) (d : Fin 256), m ((c : Thread nD τ).loc main_arg1) (ix2 j ⟨256 + d.val, Nat.lt_of_lt_of_le (Nat.add_lt_add_left d.isLt 256) (Nat.le_of_ble_eq_true rfl)⟩) = ((v j d : ℝ) : EReal))
  (hg : ∀ (i : Fin 8192) (d : Fin 256), m ((c : Thread nD τ).loc main_arg2) (ix2 i ⟨768 + d.val, Nat.add_lt_add_left d.isLt 768⟩) = ((g i d : ℝ) : EReal))

include hq in
theorem q_block (t : Fin cfg0.N) : Is (a := 512) (b := 256) (qs m c t) (fun i d => q (512 * t.val + i) d) := fun i j => by
  have ht := (idx t).2.2.2.2.2.2.2
  refine Eq.trans ?_ (hq ⟨512 * t.val + i.val, by omega⟩ j)
  blk_point [qs, iblk, V, idx t]

include hk in
theorem k_block (t : Fin cfg0.N) : Is (a := 256) (b := 256) (iblk m c 1 t) k := fun i j => by
  refine Eq.trans ?_ (hk i j)
  blk_simp [iblk, idx t]
  entry_read
  pointwise
  blk_ext [idx t]

include hv in
theorem v_block (t : Fin cfg0.N) : Is (a := 256) (b := 256) (iblk m c 2 t) v := fun i j => by
  refine Eq.trans ?_ (hv i j)
  blk_simp [iblk, idx t]
  entry_read
  pointwise
  blk_ext [idx t]

include hg in
theorem g_block (t : Fin cfg0.N) : Is (a := 512) (b := 256) (iblk m c 3 t) (fun i d => g (512 * t.val + i) d) := fun i j => by
  have ht := (idx t).2.2.2.2.2.2.2
  refine Eq.trans ?_ (hg ⟨512 * t.val + i.val, by omega⟩ j)
  blk_simp [iblk, idx t]
  entry_read
  pointwise
  blk_ext [idx t]

include hq hk hv hg in
/-- What the results hold after each tile: the tile's rows of the queries' gradient, and the sums so far of the other two. -/
theorem outs_are (n : ℕ) (hn : n < cfg0.N) : Is (a := 512) (b := 256) (outsAt0 m c n hn).1 (fun i d => dqs q k v g (512 * n + i) d)
    ∧ Is (a := 256) (b := 256) (outsAt0 m c n hn).2.1 (dkeys q k v g (512 * (n + 1))) ∧ Is (a := 256) (b := 256) (outsAt0 m c n hn).2.2 (dvals q k g (512 * (n + 1))) := by
  have hN : n < 16 := hn
  have hdq := dqTile_is (q_block m hq ⟨n, hn⟩) (g_block m hg ⟨n, hn⟩) (k_block m hk ⟨n, hn⟩) (v_block m hv ⟨n, hn⟩)
  have hdk := dkTile_is (q_block m hq ⟨n, hn⟩) (g_block m hg ⟨n, hn⟩) (k_block m hk ⟨n, hn⟩) (v_block m hv ⟨n, hn⟩)
  have hdv := dvTile_is (q_block m hq ⟨n, hn⟩) (g_block m hg ⟨n, hn⟩) (k_block m hk ⟨n, hn⟩)
  cases n with
  | zero =>
    have e := first_tile m c ⟨0, hn⟩ rfl
    dsimp only at e
    rw [e]
    simp only [mul_zero, zero_add] at hdq hdk hdv ⊢
    exact ⟨hdq, (add_is zeros_is hdk).congr fun i _ d _ => zero_add _, (add_is zeros_is hdv).congr fun i _ d _ => zero_add _⟩
  | succ n =>
    have e := next_tile m c ⟨n + 1, hn⟩ (by show ¬(n + 1) % 16 = 0; omega)
    dsimp only at e
    rw [e]
    have ih := outs_are n (by omega)
    refine ⟨hdq, (add_is ih.2.1 hdk).congr fun i _ d _ => ?_, (add_is ih.2.2 hdv).congr fun i _ d _ => ?_⟩
    · exact ((congrArg (fun n => dkeys q k v g n i d) (mul_add 512 (n + 1) 1)).trans (Finset.sum_range_add _ _ _)).symm
    · exact ((congrArg (fun n => dvals q k g n i d) (mul_add 512 (n + 1) 1)).trans (Finset.sum_range_add _ _ _)).symm

include hq hk hv hg in
/-- The first result: the queries' gradient in the last 256 columns, what the array held before in the others. -/
theorem final_rows : (dats m 0 c).arrAt 4 cfg0.N = fun i : S8192x1792.Idx =>
    if (i 1).val < 1536 then m ((c : Thread nD τ).loc main_arg3) i else ((dqs q k v g (i 0) ((i 1).val - 1536) : ℝ) : EReal) := by
  funext i
  have h1 : (i 1).val < 1792 := (i 1).isLt
  refine ((dats m 0 c).arrAt_apply_of_coversWhere 4 (fun i : S8192x1792.Idx => ((dqs q k v g (i 0) ((i 1).val - 1536) : ℝ) : EReal))
    (P := fun i : S8192x1792.Idx => (i 1).val / 256 = 6) (fun β => β (1 : Fin 2) = 6) (by decide +kernel) (fun t hf y => ?_) (fun j => Iff.rfl) i).trans ?_
  · have h0 : (y 0).val < 512 := (y 0).isLt
    have h1 : (y 1).val < 256 := (y 1).isLt
    blk_simp [idx t]
    rw [after0_4]
    have e0 : t.val * 512 + (y 0).val = 512 * t.val + (y 0).val := by omega
    have e1 : 6 * 256 + (y 1).val - 1536 = (y 1).val := by omega
    rw [e0, e1]
    exact (outs_are m hq hk hv hg t.val t.isLt).1.at y
  · dsimp only
    by_cases h : (i 1).val < 1536
    · rw [if_pos h, if_neg (by omega), A_eq]
      exact congrFun (into_eq m c) i
    · rw [if_neg h, if_pos (by omega)]

include hq hk hv hg in
/-- The second result: the keys' gradient. -/
theorem final_keys : (dats m 0 c).arrAt 5 cfg0.N = fun i : S256x256.Idx => ((dkeys q k v g 8192 (i 0) (i 1) : ℝ) : EReal) := by
  refine (dats m 0 c).arrAt_eq_of_covers 5 _ (by decide +kernel) fun t hf y => ?_
  have hf := (flush0_5 t).mp hf
  have ht := (idx t).2.2.2.2.2.2.2
  blk_simp [idx t]
  rw [after0_5]
  refine ((outs_are m hq hk hv hg t.val t.isLt).2.1.at y).trans ?_
  rw [show t.val + 1 = 16 by omega]

include hq hk hg in
/-- The third result: the values' gradient. -/
theorem final_values (hv : ∀ (j : Fin 256) (d : Fin 256), m ((c : Thread nD τ).loc main_arg1) (ix2 j ⟨256 + d.val, Nat.lt_of_lt_of_le (Nat.add_lt_add_left d.isLt 256) (Nat.le_of_ble_eq_true rfl)⟩) = ((v j d : ℝ) : EReal)) :
    (dats m 0 c).arrAt 6 cfg0.N = fun i : S256x256.Idx => ((dvals q k g 8192 (i 0) (i 1) : ℝ) : EReal) := by
  refine (dats m 0 c).arrAt_eq_of_covers 6 _ (by decide +kernel) fun t hf y => ?_
  have hf := (flush0_6 t).mp hf
  have ht := (idx t).2.2.2.2.2.2.2
  blk_simp [idx t]
  rw [after0_6]
  refine ((outs_are m hq hk hv hg t.val t.isLt).2.2.at y).trans ?_
  rw [show t.val + 1 = 16 by omega]

end Blocks

/-- The run, with its results read. -/
theorem run_read (ρ : Dev nD → PrngReg) : θ_run defs (onTc (τ := τ) (main (F := Ideal))) ⟨m, fun _ => 0, ρ⟩ (fun r => ∀ c : Dev nD,
    r.2.mem ((c : Thread nD τ).loc main_v2_0) = (dats m 0 c).arrAt 4 cfg0.N
    ∧ r.2.mem ((c : Thread nD τ).loc main_v2_1) = (dats m 0 c).arrAt 5 cfg0.N
    ∧ r.2.mem ((c : Thread nD τ).loc main_v2_2) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => ⟨(h.1 c).1 4, (h.1 c).1 5, (h.1 c).1 6, h.2 c⟩) (θ_run_and (run_main m ρ) (unchanged m ρ))

end Cert.MemoIdeal.Hand

end
-- ==== Proof.MemoRead.lean ====
/- The reference's gradients of the attention over the memory, read as numbers. -/
module

public import proofs.«01_k».proof.Defs
public import proofs.«01_k».proof.Proof.Gen.MemoRefIdeal.Read
public import proofs.«01_k».proof.Proof.Finite
public import proofs.«01_k».proof.Proof.Memory

@[expose] public section

set_option maxRecDepth 16384

noncomputable section

namespace Cert.MemoRefIdeal.Hand

open Cert.MemoRefIdeal Cert.MemoRefIdeal.Gen Cert.MemoRefIdeal.Read
open Cert.Tiles
open Idealize.ShloMosaic Idealize.ShloMosaic.TcCoe Idealize.SL Idealize.SL.Sem

variable {x0 : (⟨S8192x1792, .f32⟩ : BufTy).Contents (Elt Ideal)} {x1 : (⟨S256x2048, .f32⟩ : BufTy).Contents (Elt Ideal)} {x2 : (⟨S8192x1024, .f32⟩ : BufTy).Contents (Elt Ideal)}
  {q k v g : ℕ → ℕ → ℝ}
  (hq : ∀ (i : Fin 8192) (d : Fin 256), x0 (ix2 i ⟨1536 + d.val, Nat.add_lt_add_left d.isLt 1536⟩) = ((q i d : ℝ) : EReal))
  (hk : ∀ (j : Fin 256) (d : Fin 256), x1 (ix2 j ⟨d.val, Nat.lt_of_lt_of_le d.isLt (Nat.le_of_ble_eq_true rfl)⟩) = ((k j d : ℝ) : EReal))
  (hv : ∀ (j : Fin 256) (d : Fin 256), x1 (ix2 j ⟨256 + d.val, Nat.lt_of_lt_of_le (Nat.add_lt_add_left d.isLt 256) (Nat.le_of_ble_eq_true rfl)⟩) = ((v j d : ℝ) : EReal))
  (hg : ∀ (i : Fin 8192) (d : Fin 256), x2 (ix2 i ⟨768 + d.val, Nat.add_lt_add_left d.isLt 768⟩) = ((g i d : ℝ) : EReal))

include hq hk in
/-- The scores. -/
theorem scores_is (h : Fin 4) (i : Fin 8192) (j : Fin 256) : val_main_v11 (F := Ideal) x0 x1 (ix4 0 h i j) = ((mscore q k h i j : ℝ) : EReal) := by
  pointwise [val_main_v11, val_main_v10, val_main_cst, val_main_v9, val_main_v7, val_main_v6, val_main_v5, val_main_v4, val_main_v3, val_main_v2, val_main_v1, val_main_v0]
  rw [eighth]
  refine (congrArg (· * _) (sum_fin _ (fun e => q i (h * 64 + e) * k j (h * 64 + e)) fun e => ?_)).trans (EReal.coe_mul _ _).symm
  rw [EReal.coe_mul]
  exact congrArg₂ (· * ·) (hq i ⟨h.val * 64 + e.val, by omega⟩) (hk j ⟨h.val * 64 + e.val, by omega⟩)

include hg hv in
/-- The gradient of the weights. -/
theorem dweights_is (h : Fin 4) (i : Fin 8192) (j : Fin 256) : val_main_v48 (F := Ideal) x1 x2 (ix4 0 h i j) = ((minner g v h i j : ℝ) : EReal) := by
  pointwise [val_main_v48, val_main_v47, val_main_v46, val_main_v45, val_main_v44, val_main_v8, val_main_v5, val_main_v3, val_main_v1]
  refine sum_fin _ (fun e => g i (h * 64 + e) * v j (h * 64 + e)) fun e => ?_
  rw [EReal.coe_mul]
  exact congrArg₂ (· * ·) (hg i ⟨h.val * 64 + e.val, by omega⟩) (hv j ⟨h.val * 64 + e.val, by omega⟩)

include hq hk in
/-- The exponentials, of the differences to some number. -/
theorem exps_ref (h : Fin 4) (i : Fin 8192) : ∃ r : ℝ, ∀ j : Fin 256,
    val_main_v32 (F := Ideal) x0 x1 (ix4 0 h i j) = ((Real.exp (mscore q k h i j - r) : ℝ) : EReal) := by
  obtain ⟨r, hr⟩ := top_is (Z := fun j => val_main_v11 (F := Ideal) x0 x1 (ix4 0 h i j)) (z := mscore q k h i) (scores_is hq hk h i)
  refine ⟨r, fun j => ?_⟩
  have e19 : val_main_v19 (F := Ideal) x0 x1 (ix3 0 h i) = (r : EReal) := by
    rw [val_main_v19_apply]
    have e12 : val_main_v12 (F := Ideal) x0 x1 (ix3 0 h i) = (r : EReal) := by
      refine Eq.trans ?_ hr
      unfold val_main_v12
      generalize val_main_v11 (F := Ideal) x0 x1 = y0
      pointwise [val_main_cst_0]
    rw [e12]
    pointwise [val_main_v18, val_main_cst_2]
    rw [bottom]
    exact max_eq_right bot_le
  rw [val_main_v32_apply, val_main_v31_apply]
  have e30 : val_main_v30 (F := Ideal) x0 x1 (ix4 0 h i j) = (r : EReal) := by
    refine Eq.trans ?_ e19
    pointwise [val_main_v30, val_main_v29]
  rw [e30, scores_is hq hk]
  exact exp_is (mscore q k h i j - r)

include hq hk in
/-- The weights. -/
theorem weights_ref (h : Fin 4) (i : Fin 8192) (j : Fin 256) : val_main_v36 (F := Ideal) x0 x1 (ix4 0 h i j) = ((soft (mscore q k h i) j : ℝ) : EReal) := by
  obtain ⟨r, he⟩ := exps_ref hq hk h i
  rw [val_main_v36_apply]
  have e : val_main_v35 (F := Ideal) x0 x1 (ix4 0 h i j) = ∑ j, val_main_v32 (F := Ideal) x0 x1 (ix4 0 h i j) := by
    pointwise [val_main_v35, val_main_v34, val_main_v33, val_main_cst_8]
  rw [e, he j, sum_fin _ (fun j => Real.exp (mscore q k h i j - r)) he]
  exact (Ideal.div_coe (weight_pos _ r).ne' _).trans (by rw [← EReal.coe_mul, mul_one_div, soft_shift])

/-- A sum over two axes of one entry each. -/
theorem sum_ones (hr : S1x4x8192x1.ReducesTo [0, 3] S4x8192) (x : S1x4x8192x1.Idx → EReal) (init : EReal) (h : Fin 4) (i : Fin 8192) :
    Ideal.hostReduceAdd hr x init (ix2 h i) = init + x (ix4 0 h i 0) := by
  unfold Ideal.hostReduceAdd
  refine congrArg (init + ·) (Finset.sum_eq_single (ix4 0 h i 0) (fun y hy hn => absurd ?_ hn) fun hn => absurd ?_ hn)
  · have e := (Finset.mem_filter.mp hy).2
    have e0 : (y 1).val = h.val := congrArg Fin.val (congrFun e 0)
    have e1 : (y 2).val = i.val := congrArg Fin.val (congrFun e 1)
    funext a
    match a with
    | ⟨0, _⟩ => exact Fin.ext (by have : (y 0).val < 1 := (y 0).isLt; show (y 0).val = 0; omega)
    | ⟨1, _⟩ => exact Fin.ext e0
    | ⟨2, _⟩ => exact Fin.ext e1
    | ⟨3, _⟩ => exact Fin.ext (by have : (y 3).val < 1 := (y 3).isLt; show (y 3).val = 0; omega)
  · refine Finset.mem_filter.mpr ⟨Finset.mem_univ _, funext fun b => ?_⟩
    match b with
    | ⟨0, _⟩ => rfl
    | ⟨1, _⟩ => rfl

include hq hk hg hv in
/-- The gradient of the scores. -/
theorem dscores_ref (h : Fin 4) (i : Fin 8192) (j : Fin 256) : val_main_v65 (F := Ideal) x0 x1 x2 (ix4 0 h i j) = ((softGrad (mscore q k h i) (minner g v h i) j : ℝ) : EReal) := by
  obtain ⟨r, he⟩ := exps_ref hq hk h i
  refine Eq.trans ?_ (softGrad_ref (E := fun j => val_main_v32 (F := Ideal) x0 x1 (ix4 0 h i j)) (G := fun j => val_main_v48 (F := Ideal) x1 x2 (ix4 0 h i j)) r he (dweights_is hv hg h i) j)
  have e61 : val_main_v61 (F := Ideal) x0 x1 x2 (ix4 0 h i j) = 0 + val_main_v56 (F := Ideal) x0 x1 x2 (ix4 0 h i 0) := by
    refine Eq.trans ?_ (sum_ones reducesTo_S1x4x8192x1_S4x8192_d0_3 _ 0 h i)
    pointwise [val_main_v61, val_main_v60, val_main_v59, val_main_cst_11]
  have e56 : val_main_v56 (F := Ideal) x0 x1 x2 (ix4 0 h i 0) = -∑ j, val_main_v53 (F := Ideal) x0 x1 x2 (ix4 0 h i j) := by
    pointwise [val_main_v56, val_main_v55, val_main_v54, val_main_cst_10]
  have e33 : val_main_v33 (F := Ideal) x0 x1 (ix3 0 h i) = ∑ j, val_main_v32 (F := Ideal) x0 x1 (ix4 0 h i j) := by
    pointwise [val_main_v33, val_main_cst_8]
  have e53 (j : Fin 256) : val_main_v53 (F := Ideal) x0 x1 x2 (ix4 0 h i j) = val_main_v48 (F := Ideal) x1 x2 (ix4 0 h i j)
      * Ideal.div (Ideal.ofBits .f32 1065353216#32) (val_main_v33 (F := Ideal) x0 x1 (ix3 0 h i) * val_main_v33 (F := Ideal) x0 x1 (ix3 0 h i)) * val_main_v32 (F := Ideal) x0 x1 (ix4 0 h i j) := by
    pointwise [val_main_v53, val_main_v52, val_main_v51, val_main_v39, val_main_v38, val_main_cst_9, val_main_v37, val_main_v34]
  have e58 : val_main_v58 (F := Ideal) x0 x1 x2 (ix4 0 h i j) = Ideal.div (val_main_v48 (F := Ideal) x1 x2 (ix4 0 h i j)) (val_main_v33 (F := Ideal) x0 x1 (ix3 0 h i)) := by
    pointwise [val_main_v58, val_main_v57, val_main_v34]
  have e : val_main_v65 (F := Ideal) x0 x1 x2 (ix4 0 h i j) = (val_main_v58 (F := Ideal) x0 x1 x2 (ix4 0 h i j) + val_main_v61 (F := Ideal) x0 x1 x2 (ix4 0 h i j))
      * val_main_v32 (F := Ideal) x0 x1 (ix4 0 h i j) * Ideal.ofBits .f32 1040187392#32 := by
    pointwise [val_main_v65, val_main_v64, val_main_cst_12, val_main_v63, val_main_v62]
  rw [e, e58, e61, e56, zero_add]
  simp only [e53, e33]

include hq hk hg in
theorem ref_values (j : Fin 256) (d : Fin 256) : val_main_v80 (F := Ideal) x0 x1 x2 (ix2 j d) = ((dvals q k g 8192 j d : ℝ) : EReal) := by
  pointwise [val_main_v80, val_main_v74, val_main_cst_13, val_main_v73, val_main_v70, val_main_v50, val_main_v49, val_main_v47, val_main_v46, val_main_v45, val_main_v44]
  rw [Fin.sum_univ_one]
  refine sum_fin _ (fun i => soft (mscore q k (d / 64) i) j * g i d) fun i => ?_
  rw [mul_comm, EReal.coe_mul]
  exact congrArg₂ (· * ·) (weights_ref hq hk ⟨d.val / 64, by omega⟩ i j) (hg i d)

include hq hk hg hv in
theorem ref_keys (j : Fin 256) (d : Fin 256) : val_main_v79 (F := Ideal) x0 x1 x2 (ix2 j d) = ((dkeys q k v g 8192 j d : ℝ) : EReal) := by
  pointwise [val_main_v79, val_main_v74, val_main_cst_13, val_main_v73, val_main_v71, val_main_v67, val_main_v66, val_main_v6, val_main_v2, val_main_v0]
  rw [Fin.sum_univ_one]
  refine sum_fin _ (fun i => softGrad (mscore q k (d / 64) i) (minner g v (d / 64) i) j * q i d) fun i => ?_
  rw [EReal.coe_mul]
  exact congrArg₂ (· * ·) (dscores_ref hq hk hv hg ⟨d.val / 64, by omega⟩ i j) (hq i d)

include hq hk hg hv in
theorem ref_queries (i : Fin 8192) (d : Fin 256) : val_main_v77 (F := Ideal) x0 x1 x2 (ix2 i d) = ((dqs q k v g i d : ℝ) : EReal) := by
  pointwise [val_main_v77, val_main_v75, val_main_cst_14, val_main_v72, val_main_v69, val_main_v68, val_main_v7, val_main_v4, val_main_v3, val_main_v1]
  rw [Fin.sum_univ_one]
  refine sum_fin _ (fun j => softGrad (mscore q k (d / 64) i) (minner g v (d / 64) i) j * k j d) fun j => ?_
  rw [EReal.coe_mul]
  exact congrArg₂ (· * ·) (dscores_ref hq hk hv hg ⟨d.val / 64, by omega⟩ i j) (hk j d)

include hq hk hg hv in
/-- The first result's array: the given columns, then the queries' gradient. -/
theorem ref_rows (x3 : (⟨S8192x1792, .bf16⟩ : BufTy).Contents (Elt Ideal)) : val_main_v78 (F := Ideal) x0 x1 x2 x3 = fun i : S8192x1792.Idx =>
    if (i 1).val < 1536 then x3 i else ((dqs q k v g (i 0) ((i 1).val - 1536) : ℝ) : EReal) := by
  have hz := ref_queries hq hk hv hg
  unfold val_main_v78
  generalize val_main_v77 (F := Ideal) x0 x1 x2 = z at hz
  funext i
  obtain ⟨a, b, rfl⟩ : ∃ a b, i = ix2 a b := ⟨_, _, eq_ix2 i⟩
  pointwise [val_main_v76]
  split
  · rfl
  · exact hz a ⟨b.val - 1536, by omega⟩

end Cert.MemoRefIdeal.Hand

end
-- ==== Proof.MembValue.lean ====
/- The gradient through the attention over the memory in the layers that also attend over the sequence: what the kernel's three results hold. -/
module

public import proofs.«01_k».proof.Defs
public import proofs.«01_k».proof.Proof.Gen.MembIdeal.Frame
public import proofs.«01_k».proof.Proof.Finite
public import proofs.«01_k».proof.Proof.MemoValue
public import proofs.«01_k».proof.Proof.Folds
public import Idealize.ShloMosaic.Adequacy

public import Idealize.ShloMosaic.Lib.Pipeline.ReadBack

@[expose] public section

set_option maxRecDepth 16384

noncomputable section

namespace Cert.MembIdeal.Hand

open Cert.MembIdeal Cert.MembIdeal.Gen
open Cert.Tiles Cert.Tiles.Mem
open Cert.MemoIdeal.Hand (add_is zeros_is)
open Idealize.ShloMosaic Idealize.ShloMosaic.TcCoe Idealize.SL Idealize.SL.Sem
open Idealize.ShloMosaic.Pipeline (Dat)

variable (m : (ℓ : Loc nD τ sig) → Buf (Elt Ideal) ℓ)

/-- The tile's queries. -/
def qs (c : Dev nD) (t : Fin cfg0.N) : FVec Ideal S512x256 .bf16 := iblk m c 0 t

/-- The first tile. -/
theorem first_tile (c : Dev nD) (t : Fin cfg0.N) (h0 : t.val % 16 = 0) : outsAt0 m c t.val t.isLt =
    (dqTile (qs m c t) (iblk m c 3 t) (iblk m c 1 t) (iblk m c 2 t),
      addf (broadcast S256x256 (Scalar.ofBits .f32 0x00000000#32)) (dkTile (qs m c t) (iblk m c 3 t) (iblk m c 1 t) (iblk m c 2 t)),
      addf (broadcast S256x256 (Scalar.ofBits .f32 0x00000000#32)) (dvTile (qs m c t) (iblk m c 3 t) (iblk m c 1 t))) := by
  rw [outsAt0_A m c t h0]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, shapeCast_self]
  simp only [qs, dqTile, dkTile, dvTile, four, dqOf, dkOf, dvOf, ds, dscores, weights, probs, top, total, eighths, cols, times, rows, keep, Mem.only, lanes]
  rfl

/-- The later tiles. -/
theorem next_tile (c : Dev nD) (t : Fin cfg0.N) (h0 : ¬t.val % 16 = 0) : outsAt0 m c t.val t.isLt =
    (dqTile (qs m c t) (iblk m c 3 t) (iblk m c 1 t) (iblk m c 2 t),
      addf (outsAt0 m c (t.val - 1) (by omega)).2.1 (dkTile (qs m c t) (iblk m c 3 t) (iblk m c 1 t) (iblk m c 2 t)),
      addf (outsAt0 m c (t.val - 1) (by omega)).2.2 (dvTile (qs m c t) (iblk m c 3 t) (iblk m c 1 t))) := by
  rw [outsAt0_B m c t h0]
  frame_out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, shapeCast_self]
  simp only [qs, dqTile, dkTile, dvTile, four, dqOf, dkOf, dvOf, ds, dscores, weights, probs, top, total, eighths, cols, times, rows, keep, Mem.only, lanes]
  rfl

theorem idx : ∀ t : Fin cfg0.N, win0_0.index t = ![t.val, 3] ∧ win0_1.index t = ![0, 4] ∧ win0_2.index t = ![0, 5] ∧ win0_3.index t = ![t.val, 3]
    ∧ win0_4.index t = ![t.val, 3] ∧ win0_5.index t = ![0, 0] ∧ win0_6.index t = ![0, 0] ∧ t.val < 16 :=
  (by decide +kernel : ∀ t : Fin grid0.N, _)

/-- The first result's array holds, before the call, what it is to be written into. -/
theorem into_eq (c : Dev nD) : V m c main_v3_0 = m ((c : Thread nD τ).loc main_arg3) := by
  unfold V
  after_results
  try rfl

section Blocks

variable {c : Dev nD} {q k v g : ℕ → ℕ → ℝ}
  (hq : ∀ (i : Fin 8192) (d : Fin 256), m ((c : Thread nD τ).loc main_arg0) (ix2 i ⟨768 + d.val, Nat.add_lt_add_left d.isLt 768⟩) = ((q i d : ℝ) : EReal))
  (hk : ∀ (j : Fin 256) (d : Fin 256), m ((c : Thread nD τ).loc main_arg1) (ix2 j ⟨1024 + d.val, Nat.lt_of_lt_of_le (Nat.add_lt_add_left d.isLt 1024) (Nat.le_of_ble_eq_true rfl)⟩) = ((k j d : ℝ) : EReal))
  (hv : ∀ (j : Fin 256) (d : Fin 256), m ((c : Thread nD τ).loc main_arg1) (ix2 j ⟨1280 + d.val, Nat.lt_of_lt_of_le (Nat.add_lt_add_left d.isLt 1280) (Nat.le_of_ble_eq_true rfl)⟩) = ((v j d : ℝ) : EReal))
  (hg : ∀ (i : Fin 8192) (d : Fin 256), m ((c : Thread nD τ).loc main_arg2) (ix2 i ⟨768 + d.val, Nat.add_lt_add_left d.isLt 768⟩) = ((g i d : ℝ) : EReal))

include hq in
theorem q_block (t : Fin cfg0.N) : Is (a := 512) (b := 256) (qs m c t) (fun i d => q (512 * t.val + i) d) := fun i j => by
  have ht := (idx t).2.2.2.2.2.2.2
  refine Eq.trans ?_ (hq ⟨512 * t.val + i.val, by omega⟩ j)
  blk_simp [qs, iblk, idx t]
  entry_read
  pointwise
  blk_ext [idx t]

include hk in
theorem k_block (t : Fin cfg0.N) : Is (a := 256) (b := 256) (iblk m c 1 t) k := fun i j => by
  refine Eq.trans ?_ (hk i j)
  blk_simp [iblk, idx t]
  entry_read
  pointwise
  blk_ext [idx t]

include hv in
theorem v_block (t : Fin cfg0.N) : Is (a := 256) (b := 256) (iblk m c 2 t) v := fun i j => by
  refine Eq.trans ?_ (hv i j)
  blk_simp [iblk, idx t]
  entry_read
  pointwise
  blk_ext [idx t]

include hg in
theorem g_block (t : Fin cfg0.N) : Is (a := 512) (b := 256) (iblk m c 3 t) (fun i d => g (512 * t.val + i) d) := fun i j => by
  have ht := (idx t).2.2.2.2.2.2.2
  refine Eq.trans ?_ (hg ⟨512 * t.val + i.val, by omega⟩ j)
  blk_simp [iblk, idx t]
  entry_read
  pointwise
  blk_ext [idx t]

include hq hk hv hg in
/-- What the results hold after each tile: the tile's rows of the queries' gradient, and the sums so far of the other two. -/
theorem outs_are (n : ℕ) (hn : n < cfg0.N) : Is (a := 512) (b := 256) (outsAt0 m c n hn).1 (fun i d => dqs q k v g (512 * n + i) d)
    ∧ Is (a := 256) (b := 256) (outsAt0 m c n hn).2.1 (dkeys q k v g (512 * (n + 1))) ∧ Is (a := 256) (b := 256) (outsAt0 m c n hn).2.2 (dvals q k g (512 * (n + 1))) := by
  have hN : n < 16 := hn
  have hdq := dqTile_is (q_block m hq ⟨n, hn⟩) (g_block m hg ⟨n, hn⟩) (k_block m hk ⟨n, hn⟩) (v_block m hv ⟨n, hn⟩)
  have hdk := dkTile_is (q_block m hq ⟨n, hn⟩) (g_block m hg ⟨n, hn⟩) (k_block m hk ⟨n, hn⟩) (v_block m hv ⟨n, hn⟩)
  have hdv := dvTile_is (q_block m hq ⟨n, hn⟩) (g_block m hg ⟨n, hn⟩) (k_block m hk ⟨n, hn⟩)
  cases n with
  | zero =>
    have e := first_tile m c ⟨0, hn⟩ rfl
    dsimp only at e
    rw [e]
    simp only [mul_zero, zero_add] at hdq hdk hdv ⊢
    exact ⟨hdq, (add_is zeros_is hdk).congr fun i _ d _ => zero_add _, (add_is zeros_is hdv).congr fun i _ d _ => zero_add _⟩
  | succ n =>
    have e := next_tile m c ⟨n + 1, hn⟩ (by show ¬(n + 1) % 16 = 0; omega)
    dsimp only at e
    rw [e]
    have ih := outs_are n (by omega)
    refine ⟨hdq, (add_is ih.2.1 hdk).congr fun i _ d _ => ?_, (add_is ih.2.2 hdv).congr fun i _ d _ => ?_⟩
    · exact ((congrArg (fun n => dkeys q k v g n i d) (mul_add 512 (n + 1) 1)).trans (Finset.sum_range_add _ _ _)).symm
    · exact ((congrArg (fun n => dvals q k g n i d) (mul_add 512 (n + 1) 1)).trans (Finset.sum_range_add _ _ _)).symm

include hq hk hv hg in
/-- The first result: the queries' gradient in the last 256 columns, what the array held before in the others. -/
theorem final_rows : (dats m 0 c).arrAt 4 cfg0.N = fun i : S8192x1024.Idx =>
    if (i 1).val < 768 then m ((c : Thread nD τ).loc main_arg3) i else ((dqs q k v g (i 0) ((i 1).val - 768) : ℝ) : EReal) := by
  funext i
  have h1 : (i 1).val < 1024 := (i 1).isLt
  refine ((dats m 0 c).arrAt_apply_of_coversWhere 4 (fun i : S8192x1024.Idx => ((dqs q k v g (i 0) ((i 1).val - 768) : ℝ) : EReal))
    (P := fun i : S8192x1024.Idx => (i 1).val / 256 = 3) (fun β => β (1 : Fin 2) = 3) (by decide +kernel) (fun t hf y => ?_) (fun j => Iff.rfl) i).trans ?_
  · have h0 : (y 0).val < 512 := (y 0).isLt
    have h1 : (y 1).val < 256 := (y 1).isLt
    blk_simp [idx t]
    rw [after0_4]
    have e0 : t.val * 512 + (y 0).val = 512 * t.val + (y 0).val := by omega
    have e1 : 3 * 256 + (y 1).val - 768 = (y 1).val := by omega
    rw [e0, e1]
    exact (outs_are m hq hk hv hg t.val t.isLt).1.at y
  · dsimp only
    by_cases h : (i 1).val < 768
    · rw [if_pos h, if_neg (by omega), A_eq]
      exact congrFun (into_eq m c) i
    · rw [if_neg h, if_pos (by omega)]

include hq hk hv hg in
/-- The second result: the keys' gradient. -/
theorem final_keys : (dats m 0 c).arrAt 5 cfg0.N = fun i : S256x256.Idx => ((dkeys q k v g 8192 (i 0) (i 1) : ℝ) : EReal) := by
  refine (dats m 0 c).arrAt_eq_of_covers 5 _ (by decide +kernel) fun t hf y => ?_
  have hf := (flush0_5 t).mp hf
  have ht := (idx t).2.2.2.2.2.2.2
  blk_simp [idx t]
  rw [after0_5]
  refine ((outs_are m hq hk hv hg t.val t.isLt).2.1.at y).trans ?_
  rw [show t.val + 1 = 16 by omega]

include hq hk hg in
/-- The third result: the values' gradient. -/
theorem final_values (hv : ∀ (j : Fin 256) (d : Fin 256), m ((c : Thread nD τ).loc main_arg1) (ix2 j ⟨1280 + d.val, Nat.lt_of_lt_of_le (Nat.add_lt_add_left d.isLt 1280) (Nat.le_of_ble_eq_true rfl)⟩) = ((v j d : ℝ) : EReal)) :
    (dats m 0 c).arrAt 6 cfg0.N = fun i : S256x256.Idx => ((dvals q k g 8192 (i 0) (i 1) : ℝ) : EReal) := by
  refine (dats m 0 c).arrAt_eq_of_covers 6 _ (by decide +kernel) fun t hf y => ?_
  have hf := (flush0_6 t).mp hf
  have ht := (idx t).2.2.2.2.2.2.2
  blk_simp [idx t]
  rw [after0_6]
  refine ((outs_are m hq hk hv hg t.val t.isLt).2.2.at y).trans ?_
  rw [show t.val + 1 = 16 by omega]

end Blocks

/-- The run, with its results read. -/
theorem run_read (ρ : Dev nD → PrngReg) : θ_run defs (onTc (τ := τ) (main (F := Ideal))) ⟨m, fun _ => 0, ρ⟩ (fun r => ∀ c : Dev nD,
    r.2.mem ((c : Thread nD τ).loc main_v3_0) = (dats m 0 c).arrAt 4 cfg0.N
    ∧ r.2.mem ((c : Thread nD τ).loc main_v3_1) = (dats m 0 c).arrAt 5 cfg0.N
    ∧ r.2.mem ((c : Thread nD τ).loc main_v3_2) = (dats m 0 c).arrAt 6 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => ⟨(h.1 c).1 4, (h.1 c).1 5, (h.1 c).1 6, h.2 c⟩) (θ_run_and (run_main m ρ) (unchanged m ρ))

end Cert.MembIdeal.Hand

end
-- ==== Proof.MembRead.lean ====
/- The reference's gradients of the attention over the memory in the other kind of layer: the same numbers, of other columns. -/
module

public import proofs.«01_k».proof.Defs
public import proofs.«01_k».proof.Proof.Gen.MembRefIdeal.Read
public import proofs.«01_k».proof.Proof.MemoRead

@[expose] public section

set_option maxRecDepth 16384

noncomputable section

namespace Cert.MembRefIdeal.Hand

open Cert.MembRefIdeal Cert.MembRefIdeal.Gen
open Cert.Tiles
open Idealize.ShloMosaic Idealize.ShloMosaic.TcCoe Idealize.SL Idealize.SL.Sem

variable {x0 : (⟨S8192x1024, .f32⟩ : BufTy).Contents (Elt Ideal)} {x1 : (⟨S256x2048, .f32⟩ : BufTy).Contents (Elt Ideal)} {x2 : (⟨S8192x1024, .f32⟩ : BufTy).Contents (Elt Ideal)}
  {y0 : (⟨Cert.MemoRefIdeal.S8192x1792, .f32⟩ : BufTy).Contents (Elt Ideal)} {y1 : (⟨S256x2048, .f32⟩ : BufTy).Contents (Elt Ideal)}
  (h0 : Read.val_main_v0 (F := Ideal) x0 = Cert.MemoRefIdeal.Read.val_main_v0 (F := Ideal) y0)
  (h1 : Read.val_main_v1 (F := Ideal) x1 = Cert.MemoRefIdeal.Read.val_main_v1 (F := Ideal) y1)
  (h2 : Read.val_main_v44 (F := Ideal) x2 = Cert.MemoRefIdeal.Read.val_main_v44 (F := Ideal) x2)

include h0 h1 in
theorem scores_eq : Read.val_main_v11 (F := Ideal) x0 x1 = Cert.MemoRefIdeal.Read.val_main_v11 (F := Ideal) y0 y1 := by
  unfold Read.val_main_v11 Read.val_main_v9 Read.val_main_v6 Read.val_main_v7 Read.val_main_v2 Read.val_main_v4 Read.val_main_v3
  rw [h0, h1]
  rfl

include h0 h1 in
theorem exps_eq : Read.val_main_v32 (F := Ideal) x0 x1 = Cert.MemoRefIdeal.Read.val_main_v32 (F := Ideal) y0 y1 := by
  unfold Read.val_main_v32 Read.val_main_v31 Read.val_main_v30 Read.val_main_v29 Read.val_main_v19 Read.val_main_v12
  rw [scores_eq h0 h1]
  rfl

include h0 h1 in
theorem weights_eq : Read.val_main_v36 (F := Ideal) x0 x1 = Cert.MemoRefIdeal.Read.val_main_v36 (F := Ideal) y0 y1 := by
  unfold Read.val_main_v36 Read.val_main_v35 Read.val_main_v34 Read.val_main_v33
  rw [exps_eq h0 h1]
  rfl

include h1 h2 in
theorem dweights_eq : Read.val_main_v48 (F := Ideal) x1 x2 = Cert.MemoRefIdeal.Read.val_main_v48 (F := Ideal) y1 x2 := by
  unfold Read.val_main_v48 Read.val_main_v47 Read.val_main_v8 Read.val_main_v46 Read.val_main_v5 Read.val_main_v45 Read.val_main_v3
  rw [h1, h2]
  rfl

include h0 h1 in
theorem sums_eq : Read.val_main_v33 (F := Ideal) x0 x1 = Cert.MemoRefIdeal.Read.val_main_v33 (F := Ideal) y0 y1 := by
  unfold Read.val_main_v33
  rw [exps_eq h0 h1]
  rfl

include h0 h1 h2 in
theorem terms_eq : Read.val_main_v53 (F := Ideal) x0 x1 x2 = Cert.MemoRefIdeal.Read.val_main_v53 (F := Ideal) y0 y1 x2 := by
  unfold Read.val_main_v53 Read.val_main_v52 Read.val_main_v51 Read.val_main_v39 Read.val_main_v37 Read.val_main_v34
  rw [exps_eq h0 h1, dweights_eq h1 h2, sums_eq h0 h1]
  rfl

include h0 h1 h2 in
theorem means_eq : Read.val_main_v61 (F := Ideal) x0 x1 x2 = Cert.MemoRefIdeal.Read.val_main_v61 (F := Ideal) y0 y1 x2 := by
  unfold Read.val_main_v61 Read.val_main_v60 Read.val_main_v59 Read.val_main_v56 Read.val_main_v55 Read.val_main_v54
  rw [terms_eq h0 h1 h2]
  rfl

include h0 h1 h2 in
theorem dscores_eq : Read.val_main_v65 (F := Ideal) x0 x1 x2 = Cert.MemoRefIdeal.Read.val_main_v65 (F := Ideal) y0 y1 x2 := by
  unfold Read.val_main_v65 Read.val_main_v63 Read.val_main_v62 Read.val_main_v58 Read.val_main_v57 Read.val_main_v34
  rw [exps_eq h0 h1, dweights_eq h1 h2, sums_eq h0 h1, means_eq h0 h1 h2]
  rfl

include h0 h1 h2 in
theorem queries_eq : Read.val_main_v77 (F := Ideal) x0 x1 x2 = Cert.MemoRefIdeal.Read.val_main_v77 (F := Ideal) y0 y1 x2 := by
  unfold Read.val_main_v77 Read.val_main_v75 Read.val_main_v72 Read.val_main_v69 Read.val_main_v68 Read.val_main_v7 Read.val_main_v4 Read.val_main_v3
  rw [dscores_eq h0 h1 h2, h1]
  rfl

include h0 h1 h2 in
theorem both_eq : Read.val_main_v74 (F := Ideal) x0 x1 x2 = Cert.MemoRefIdeal.Read.val_main_v74 (F := Ideal) y0 y1 x2 := by
  unfold Read.val_main_v74 Read.val_main_v73 Read.val_main_v70 Read.val_main_v71 Read.val_main_v50 Read.val_main_v67 Read.val_main_v49 Read.val_main_v66 Read.val_main_v47 Read.val_main_v6 Read.val_main_v46 Read.val_main_v2 Read.val_main_v45
  rw [dscores_eq h0 h1 h2, weights_eq h0 h1, h2, h0]
  rfl

section Results

/-- The other call's arguments with this call's columns where that call reads. -/
def rows (x : S8192x1024.Idx → EReal) : Cert.MemoRefIdeal.S8192x1792.Idx → EReal := fun i => x (ix2 (i 0) ⟨(i 1).val - 768, by have : (i 1).val < 1792 := (i 1).isLt; omega⟩)
def slots (x : S256x2048.Idx → EReal) : S256x2048.Idx → EReal := fun i => x (ix2 (i 0) ⟨((i 1).val + 1024) % 2048, Nat.mod_lt _ (by norm_num)⟩)

theorem rows_eq (x : (⟨S8192x1024, .f32⟩ : BufTy).Contents (Elt Ideal)) : Read.val_main_v0 (F := Ideal) x = Cert.MemoRefIdeal.Read.val_main_v0 (F := Ideal) (rows x) := by
  funext i
  obtain ⟨a, b, rfl⟩ : ∃ a b, i = ix2 a b := ⟨_, _, eq_ix2 i⟩
  pointwise [Read.val_main_v0, Cert.MemoRefIdeal.Read.val_main_v0, rows]
  exact congrArg x (congrArg (ix2 a) (Fin.ext (by show 768 + b.val = 1536 + b.val - 768; omega)))

theorem slots_eq (x : (⟨S256x2048, .f32⟩ : BufTy).Contents (Elt Ideal)) : Read.val_main_v1 (F := Ideal) x = Cert.MemoRefIdeal.Read.val_main_v1 (F := Ideal) (slots x) := by
  funext i
  obtain ⟨a, b, rfl⟩ : ∃ a b, i = ix2 a b := ⟨_, _, eq_ix2 i⟩
  pointwise [Read.val_main_v1, Cert.MemoRefIdeal.Read.val_main_v1, slots]
  exact congrArg x (congrArg (ix2 a) (Fin.ext (by have hb : b.val < 512 := b.isLt; show 1024 + b.val = (b.val + 1024) % 2048; omega)))

variable {q k v g : ℕ → ℕ → ℝ}
  (hq : ∀ (i : Fin 8192) (d : Fin 256), x0 (ix2 i ⟨768 + d.val, Nat.add_lt_add_left d.isLt 768⟩) = ((q i d : ℝ) : EReal))
  (hk : ∀ (j : Fin 256) (d : Fin 256), x1 (ix2 j ⟨1024 + d.val, Nat.lt_of_lt_of_le (Nat.add_lt_add_left d.isLt 1024) (Nat.le_of_ble_eq_true rfl)⟩) = ((k j d : ℝ) : EReal))
  (hv : ∀ (j : Fin 256) (d : Fin 256), x1 (ix2 j ⟨1280 + d.val, Nat.lt_of_lt_of_le (Nat.add_lt_add_left d.isLt 1280) (Nat.le_of_ble_eq_true rfl)⟩) = ((v j d : ℝ) : EReal))
  (hg : ∀ (i : Fin 8192) (d : Fin 256), x2 (ix2 i ⟨768 + d.val, Nat.add_lt_add_left d.isLt 768⟩) = ((g i d : ℝ) : EReal))

include hq in
theorem q_rows (i : Fin 8192) (d : Fin 256) : rows x0 (ix2 i ⟨1536 + d.val, Nat.add_lt_add_left d.isLt 1536⟩) = ((q i d : ℝ) : EReal) :=
  Eq.trans (congrArg x0 (congrArg (ix2 i) (Fin.ext (by show 1536 + d.val - 768 = 768 + d.val; omega)))) (hq i d)

include hk in
theorem k_slots (j : Fin 256) (d : Fin 256) : slots x1 (ix2 j ⟨d.val, Nat.lt_of_lt_of_le d.isLt (Nat.le_of_ble_eq_true rfl)⟩) = ((k j d : ℝ) : EReal) :=
  Eq.trans (congrArg x1 (congrArg (ix2 j) (Fin.ext (by show (d.val + 1024) % 2048 = 1024 + d.val; omega)))) (hk j d)

include hv in
theorem v_slots (j : Fin 256) (d : Fin 256) : slots x1 (ix2 j ⟨256 + d.val, Nat.lt_of_lt_of_le (Nat.add_lt_add_left d.isLt 256) (Nat.le_of_ble_eq_true rfl)⟩) = ((v j d : ℝ) : EReal) :=
  Eq.trans (congrArg x1 (congrArg (ix2 j) (Fin.ext (by show (256 + d.val + 1024) % 2048 = 1280 + d.val; omega)))) (hv j d)

include hq hk hg in
theorem ref_values (j : Fin 256) (d : Fin 256) : Read.val_main_v80 (F := Ideal) x0 x1 x2 (ix2 j d) = ((dvals q k g 8192 j d : ℝ) : EReal) := by
  unfold Read.val_main_v80
  rw [both_eq (rows_eq x0) (slots_eq x1) rfl]
  exact Cert.MemoRefIdeal.Hand.ref_values (q_rows hq) (k_slots hk) hg j d

include hq hk hg hv in
theorem ref_keys (j : Fin 256) (d : Fin 256) : Read.val_main_v79 (F := Ideal) x0 x1 x2 (ix2 j d) = ((dkeys q k v g 8192 j d : ℝ) : EReal) := by
  unfold Read.val_main_v79
  rw [both_eq (rows_eq x0) (slots_eq x1) rfl]
  exact Cert.MemoRefIdeal.Hand.ref_keys (q_rows hq) (k_slots hk) (v_slots hv) hg j d

include hq hk hg hv in
/-- The first result's array: the given columns, then the queries' gradient. -/
theorem ref_rows (x3 : (⟨S8192x1024, .bf16⟩ : BufTy).Contents (Elt Ideal)) : Read.val_main_v78 (F := Ideal) x0 x1 x2 x3 = fun i : S8192x1024.Idx =>
    if (i 1).val < 768 then x3 i else ((dqs q k v g (i 0) ((i 1).val - 768) : ℝ) : EReal) := by
  have hz := Cert.MemoRefIdeal.Hand.ref_queries (q_rows hq) (k_slots hk) (v_slots hv) hg
  unfold Read.val_main_v78
  rw [queries_eq (rows_eq x0) (slots_eq x1) rfl]
  generalize Cert.MemoRefIdeal.Read.val_main_v77 (F := Ideal) (rows x0) (slots x1) x2 = z at hz
  funext i
  obtain ⟨a, b, rfl⟩ : ∃ a b, i = ix2 a b := ⟨_, _, eq_ix2 i⟩
  pointwise [Read.val_main_v76]
  split
  · rfl
  · exact hz a ⟨b.val - 768, by omega⟩

end Results

end Cert.MembRefIdeal.Hand

end
-- ==== Proof.LossValue.lean ====
/- The loss of the normed rows and its gradients, over the reals. -/
module

public import proofs.«01_k».proof.Defs
public import proofs.«01_k».proof.Proof.Gen.LossIdeal.Frame
public import proofs.«01_k».proof.Proof.Gen.LossRefIdeal.Read
public import proofs.«01_k».proof.Proof.Backs
public import proofs.«01_k».proof.Proof.Finite
public import Idealize.ShloMosaic.Adequacy
public import Idealize.ShloMosaic.Lib.Pipeline.ValueKit
public import Idealize.ShloMosaic.Lib.Pipeline.ReadBack
public import Idealize.ShloMosaic.Lib.Ring

@[expose] public section

set_option maxRecDepth 16384

noncomputable section

namespace Cert.LossIdeal.Hand

open Cert.LossIdeal Cert.LossIdeal.Gen
open Cert.Tiles (Is sum_fin rms rms_is rowGrad rowGrad_is rowGrad_ref norm_is unit_is gainGrad div_width)
open Finset (range)
open Idealize.ShloMosaic Idealize.ShloMosaic.TcCoe Idealize.SL Idealize.SL.Sem
open Idealize.ShloMosaic.Pipeline (Dat)

variable (m : (ℓ : Loc nD τ sig) → Buf (Elt Ideal) ℓ)

/-- How far a normed entry is from its target. -/
def err (x y : ℕ → ℕ → ℝ) (gain : ℕ → ℝ) (i j : ℕ) : ℝ := x i j * rms (x i) * gain j - y i j

/-- The cotangent of a normed entry. -/
def cot (x y : ℕ → ℕ → ℝ) (gain : ℕ → ℝ) (i j : ℕ) : ℝ := err x y gain i j * (1 / 1024)

/-- The squares of the first `n` rows. -/
def squares (n : ℕ) (x y : ℕ → ℕ → ℝ) (gain : ℕ → ℝ) : ℝ := ∑ a ∈ range n, ∑ b ∈ range 1024, err x y gain a b * err x y gain a b

theorem share_word : Ideal.ofBits .f32 981467136#32 = ((1 / 1024 : ℝ) : EReal) := by
  simp [Ideal.ofBits, Ideal.ieee, -EReal.coe_mul]; norm_num

theorem half_word : Ideal.ofBits .f32 1056964608#32 = ((1 / 2 : ℝ) : EReal) := by
  simp [Ideal.ofBits, Ideal.ieee, -EReal.coe_mul]; norm_num
theorem two_word : Ideal.ofBits .f32 1073741824#32 = ((2 : ℝ) : EReal) := by
  simp [Ideal.ofBits, Ideal.ieee, -EReal.coe_mul]; norm_num
theorem mean_word : Ideal.ofBits .f32 0x3A000000#32 = ((1 / 2048 : ℝ) : EReal) := by
  simp [Ideal.ofBits, Ideal.ieee, -EReal.coe_mul]; norm_num

section Payload

variable {x t : FVec Ideal S256x1024 .f32} {g : FVec Ideal S1x1024 .f32} {f y : ℕ → ℕ → ℝ} {gain : ℕ → ℝ}
  (hx : Is (a := 256) (b := 1024) x f) (hg : ∀ k : Fin 1024, g (ix2 0 k) = ((gain k : ℝ) : EReal)) (ht : Is (a := 256) (b := 1024) t y)

include hx hg ht in
theorem err_at : Is (a := 256) (b := 1024) (k0_pay8 (F := Ideal) x g t) (err f y gain) := fun a b => by
  unfold k0_pay8 k0_pay7 k0_pay6 k0_pay5
  pointwise
  rw [norm_is (X := fun k => x (ix2 a k)) (G := fun k => g (ix2 0 k)) (hx a) hg b, ht, ← EReal.coe_sub, err]

include hx hg ht in
theorem cot_at : Is (a := 256) (b := 1024) (k0_pay10 (F := Ideal) x g t) (cot f y gain) := fun a b => by
  refine Eq.trans (b := k0_pay8 (F := Ideal) x g t (ix2 a b) * Ideal.ofBits .f32 981467136#32) (by unfold k0_pay10; pointwise) ?_
  rw [err_at hx hg ht, share_word, ← EReal.coe_mul, cot]

include hx hg in
theorem rows_at {D : FVec Ideal S256x1024 .f32} {d : ℕ → ℕ → ℝ} (hd : Is (a := 256) (b := 1024) D d) (a : Fin 256) (b : Fin 1024) :
    k0_pay2 (F := Ideal) (k0_pay5 x) (k0_pay6 x) (k0_pay7 g) D (ix2 a b) = ((rowGrad (f a) gain (d a) b : ℝ) : EReal) := by
  unfold k0_pay2 k0_pay7 k0_pay6 k0_pay5
  pointwise
  exact rowGrad_is (X := fun k => x (ix2 a k)) (G := fun k => g (ix2 0 k)) (D := fun k => D (ix2 a k)) (hx a) hg (hd a) b

include hx in
theorem unit_at (a : Fin 256) (b : Fin 1024) : k0_pay6 (F := Ideal) x (ix2 a b) = ((f a b * rms (f a) : ℝ) : EReal) := by
  unfold k0_pay6 k0_pay5
  pointwise
  exact unit_is (X := fun k => x (ix2 a k)) (hx a) b

include hx hg ht in
theorem gain_at (dg : FVec Ideal S1x1024 .f32) (b : Fin 1024) :
    k0_pay1 (F := Ideal) (k0_pay11 dg) (k0_pay12 x g t) (ix2 0 b) = dg (ix2 0 b) + ((∑ a ∈ range 256, cot f y gain a b * (f a b * rms (f a)) : ℝ) : EReal) := by
  unfold k0_pay1 k0_pay11 k0_pay12
  pointwise
  exact congrArg _ (sum_fin _ (fun a => cot f y gain a b * (f a b * rms (f a))) fun a =>
    (congrArg₂ (· * ·) (cot_at hx hg ht a b) (unit_at hx a b)).trans (EReal.coe_mul _ _).symm)

include hx hg ht in
theorem loss_at (l : FVec Ideal S8x128 .f32) (j : S8x128.Idx) : k0_pay9 (F := Ideal) x g t l j = l j + ((squares 256 f y gain : ℝ) : EReal) := by
  unfold k0_pay9
  pointwise
  exact congrArg _ (sum_fin _ (fun a => ∑ b ∈ range 1024, err f y gain a b * err f y gain a b) fun a =>
    sum_fin _ (fun b => err f y gain a b * err f y gain a b) fun b => (congrArg₂ (· * ·) (err_at hx hg ht a b) (err_at hx hg ht a b)).trans (EReal.coe_mul _ _).symm)

end Payload

/-- The block indices of the six windows at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ t.val < 32 :=
  (by decide +kernel : ∀ t : Fin grid0.N, _)

theorem bound (t : Fin cfg0.N) : t.val < 32 := (idx t).2.2.2.2.2.2

section Blocks

variable {c : Dev nD} {x y : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hy : Is (a := 8192) (b := 1024) (m ((c : Thread nD τ).loc main_arg2)) y)

include hx in
theorem blk0 (t : Fin cfg0.N) : Is (a := 256) (b := 1024) (iblk m c 0 t) (fun i k => x (256 * t.val + i) k) := fun i j => by
  refine Eq.trans ?_ (hx ⟨256 * t.val + i.val, by have := bound t; omega⟩ j)
  blk_point [iblk, V, idx t]

include hg in
theorem blk1 (t : Fin cfg0.N) (k : Fin 1024) : (iblk m c 1 t : S1x1024.Idx → EReal) (ix2 0 k) = ((gain k : ℝ) : EReal) := by
  have e : (V m c main_v0 : FVec Ideal S1x1024 .f32) = shapeCast S1x1024 (m ((c : Thread nD τ).loc main_arg1) : FVec Ideal S1024 .f32) shapeCasts_S1024_S1x1024 := by
    unfold V V0
    simp only [List.flatten_cons, List.flatten_nil, List.append_nil]
    after_results
    rfl
  have e' : (V m c main_v0 : FVec Ideal S1x1024 .f32) (ix2 0 k) = m ((c : Thread nD τ).loc main_arg1) (ix1 k) := by
    rw [e]
    pointwise
  refine Eq.trans ?_ (e'.trans (hg k))
  blk_simp [iblk, idx t]
  refine congrArg (V m c main_v0) ?_
  blk_ext [idx t]

include hy in
theorem blk2 (t : Fin cfg0.N) : Is (a := 256) (b := 1024) (iblk m c 2 t) (fun i k => y (256 * t.val + i) k) := fun i j => by
  refine Eq.trans ?_ (hy ⟨256 * t.val + i.val, by have := bound t; omega⟩ j)
  blk_point [iblk, V, idx t]

/-- What the point before left: nothing before the first. -/
def kept (c : Dev nD) (t : Fin cfg0.N) : FVec Ideal S8x128 .f32 × FVec Ideal S1x1024 .f32 :=
  if t.val % 32 = 0 then (k0_pay3 (F := Ideal), k0_pay4 (F := Ideal))
  else ((outsAt0 m c (t.val - 1) (Nat.lt_of_le_of_lt (Nat.sub_le _ _) t.isLt)).1, (outsAt0 m c (t.val - 1) (Nat.lt_of_le_of_lt (Nat.sub_le _ _) t.isLt)).2.2)

/-- What a point leaves. -/
theorem point_outs (t : Fin cfg0.N) : outsAt0 m c t.val t.isLt
    = (k0_pay9 (iblk m c 0 t) (iblk m c 1 t) (iblk m c 2 t) (kept m c t).1,
       k0_pay2 (k0_pay5 (iblk m c 0 t)) (k0_pay6 (iblk m c 0 t)) (k0_pay7 (iblk m c 1 t)) (k0_pay10 (iblk m c 0 t) (iblk m c 1 t) (iblk m c 2 t)),
       k0_pay1 (k0_pay11 (kept m c t).2) (k0_pay12 (iblk m c 0 t) (iblk m c 1 t) (iblk m c 2 t))) := by
  unfold kept
  split
  · rw [outsAt0_A m c t ‹_›]
    frame_out
  · rw [outsAt0_B m c t ‹_›]
    frame_out

include hx hg hy in
/-- A point adds its rows to the squares and to the gain's gradient. -/
theorem point_step (n : ℕ) (hn : n < cfg0.N)
    (e : ∀ j, (kept m c ⟨n, hn⟩).1 j = ((squares (256 * n) x y gain : ℝ) : EReal))
    (e' : ∀ b : Fin 1024, (kept m c ⟨n, hn⟩).2 (ix2 0 b) = ((gainGrad (256 * n) x (cot x y gain) b : ℝ) : EReal)) :
    (∀ j, (outsAt0 m c n hn).1 j = ((squares (256 * (n + 1)) x y gain : ℝ) : EReal))
    ∧ ∀ b : Fin 1024, (outsAt0 m c n hn).2.2 (ix2 0 b) = ((gainGrad (256 * (n + 1)) x (cot x y gain) b : ℝ) : EReal) := by
  rw [point_outs m ⟨n, hn⟩]
  refine ⟨fun j => (loss_at (blk0 m hx _) (blk1 m hg _) (blk2 m hy _) _ j).trans ((congrArg (· + _) (e j)).trans ?_),
    fun b => (gain_at (blk0 m hx _) (blk1 m hg _) (blk2 m hy _) _ b).trans ((congrArg (· + _) (e' b)).trans ?_)⟩
  · rw [← EReal.coe_add, squares, squares, squares, mul_add 256 n 1, mul_one, Finset.sum_range_add]
    rfl
  · rw [← EReal.coe_add, gainGrad, gainGrad, mul_add 256 n 1, mul_one, Finset.sum_range_add]
    rfl

include hx hg hy in
theorem point_is (n : ℕ) (hn : n < cfg0.N) : (∀ j, (outsAt0 m c n hn).1 j = ((squares (256 * (n + 1)) x y gain : ℝ) : EReal))
    ∧ ∀ b : Fin 1024, (outsAt0 m c n hn).2.2 (ix2 0 b) = ((gainGrad (256 * (n + 1)) x (cot x y gain) b : ℝ) : EReal) := by
  induction n with
  | zero =>
    refine point_step m hx hg hy 0 hn (fun j => (show _ = (0 : EReal) from ?_).trans (by simp [squares])) fun b => (show _ = (0 : EReal) from ?_).trans (by simp [gainGrad])
    · show k0_pay3 (F := Ideal) j = 0
      unfold k0_pay3
      pointwise
    · show k0_pay4 (F := Ideal) (ix2 0 b) = 0
      unfold k0_pay4
      pointwise
  | succ n ih =>
    have h32 : n + 1 < 32 := bound ⟨n + 1, hn⟩
    have e : kept m c ⟨n + 1, hn⟩ = ((outsAt0 m c n (by omega)).1, (outsAt0 m c n (by omega)).2.2) := if_neg (by show ¬ (n + 1) % 32 = 0; omega)
    refine point_step m hx hg hy (n + 1) hn ?_ ?_
    · rw [e]
      exact (ih (by omega)).1
    · rw [e]
      exact (ih (by omega)).2

end Blocks

section Reference

open Cert.LossRefIdeal.Read

variable {x0 x2 : FVec Ideal Cert.LossRefIdeal.S8192x1024 .f32} {x1 : FVec Ideal Cert.LossRefIdeal.S1024 .f32} {x y : ℕ → ℕ → ℝ} {gain : ℕ → ℝ}
  (hx : Is (a := 8192) (b := 1024) x0 x) (hg : ∀ k : Fin 1024, x1 (ix1 k) = ((gain k : ℝ) : EReal)) (hy : Is (a := 8192) (b := 1024) x2 y)

include hx hg hy in
theorem ref_err : Is (a := 8192) (b := 1024) (val_main_v16 (F := Ideal) x0 x1 x2) (err x y gain) := fun a b => by
  pointwise [val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  rw [norm_is (X := fun k => x0 (ix2 a k)) (G := fun k => x1 (ix1 k)) (hx a) hg b, hy, ← EReal.coe_sub, err]

include hx hg hy in
theorem ref_cot : Is (a := 8192) (b := 1024) (val_main_v30 (F := Ideal) x0 x1 x2) (cot x y gain) := fun a b => by
  pointwise [val_main_v30, val_main_v29, val_main_v28, val_main_v27, val_main_cst_10, val_main_v26, val_main_v25, val_main_cst_9, val_main_cst_8, val_main_v19, val_main_v18, val_main_cst_3]
  rw [half_word, div_width, two_word, ref_err hx hg hy, ← EReal.coe_mul, ← EReal.coe_mul, cot]
  congr 1
  ring

include hx hg hy in
theorem ref_rows (a : Fin 8192) (b : Fin 1024) :
    val_main_v50 (F := Ideal) x0 x1 x2 (ix2 a b) = ((rowGrad (x a) gain (cot x y gain a) b : ℝ) : EReal) := by
  pointwise [val_main_v50, val_main_v49, val_main_v48, val_main_v47, val_main_v46, val_main_v45, val_main_cst_15, val_main_v44, val_main_v43, val_main_cst_14, val_main_v42, val_main_v41, val_main_v40, val_main_v39, val_main_v38, val_main_cst_13, val_main_v37, val_main_v36, val_main_cst_12, val_main_v35, val_main_v34, val_main_v33, val_main_v32, val_main_cst_11, val_main_v31, val_main_v29, val_main_v28, val_main_v27, val_main_cst_10, val_main_v26, val_main_v25, val_main_cst_9, val_main_cst_8, val_main_v24, val_main_cst_7, val_main_v23, val_main_cst_6, val_main_v22, val_main_v21, val_main_cst_5, val_main_v20, val_main_cst_4, val_main_v19, val_main_v18, val_main_cst_3, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  exact rowGrad_ref (X := fun k => x0 (ix2 a k)) (G := fun k => x1 (ix1 k)) (D := fun k => val_main_v30 (F := Ideal) x0 x1 x2 (ix2 a k)) (hx a) hg (ref_cot hx hg hy a) b

include hx hg hy in
theorem ref_loss (i : Cert.LossRefIdeal.S_.Idx) : val_main_v24 (F := Ideal) x0 x1 x2 i = ((squares 8192 x y gain * (1 / 2048) : ℝ) : EReal) := by
  pointwise [val_main_v24, val_main_cst_7, val_main_v23, val_main_cst_6, val_main_v22, val_main_v21, val_main_cst_5, val_main_v20, val_main_cst_4, val_main_v17]
  rw [half_word, sum_fin _ (fun a => (∑ b ∈ range 1024, err x y gain a b * err x y gain a b) / 1024) fun a => ?_, ← EReal.coe_mul, squares, ← Finset.sum_div]
  · congr 1
    ring
  · rw [sum_fin _ (fun b => err x y gain a b * err x y gain a b) fun b => (congrArg₂ (· * ·) (ref_err hx hg hy a b) (ref_err hx hg hy a b)).trans (EReal.coe_mul _ _).symm, div_width]

include hx hg hy in
theorem ref_gain (b : Fin 1024) : val_main_v51 (F := Ideal) x0 x1 x2 (ix2 0 b) = ((gainGrad 8192 x (cot x y gain) b : ℝ) : EReal) := by
  pointwise [val_main_v51, val_main_v36, val_main_cst_12, val_main_v33, val_main_v32, val_main_cst_11, val_main_v31]
  rw [Fin.sum_univ_one]
  refine sum_fin _ (fun a => cot x y gain a b * (x a b * rms (x a))) fun a => ?_
  refine (congrArg₂ (· * ·) ?_ (ref_cot hx hg hy a b)).trans ((EReal.coe_mul _ _).symm.trans (congrArg _ (mul_comm (x a b * rms (x a)) _)))
  pointwise [val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  exact unit_is (X := fun k => x0 (ix2 a k)) (hx a) b

end Reference

section Final

variable {c : Dev nD} {x y : ℕ → ℕ → ℝ} {gain : ℕ → ℝ}
  (hx : Is (a := 8192) (b := 1024) (m ((c : Thread nD τ).loc main_arg0)) x) (hg : ∀ k : Fin 1024, m ((c : Thread nD τ).loc main_arg1) (ix1 k) = ((gain k : ℝ) : EReal))
  (hy : Is (a := 8192) (b := 1024) (m ((c : Thread nD τ).loc main_arg2)) y)

include hx hg hy in
/-- The gradient of the rows. -/
theorem final_rows : (dats m 0 c).arrAt 4 (cfgs 0).N = Cert.LossRefIdeal.Read.val_main_v50 (F := Ideal) (m ((c : Thread nD τ).loc main_arg0)) (m ((c : Thread nD τ).loc main_arg1))
      (m ((c : Thread nD τ).loc main_arg2)) := by
  refine (dats m 0 c).arrAt_eq_of_covers 4 _ (by decide +kernel) fun t hf y => ?_
  have h : 256 * t.val + (y 0).val < 8192 := by have := bound t; have : (y 0).val < 256 := (y 0).isLt; omega
  have e : (win0_4.blk t).view.emb y = ix2 ⟨256 * t.val + (y 0).val, h⟩ (y 1) := by blk_ext [idx t]
  blk_simp
  rw [after0_4, point_outs m t, eq_ix2 y]
  refine (rows_at (blk0 m hx t) (blk1 m hg t) (cot_at (blk0 m hx t) (blk1 m hg t) (blk2 m hy t)) (y 0) (y 1)).trans ?_
  rw [← eq_ix2 y]
  exact ((congrArg _ e).trans (ref_rows hx hg hy ⟨_, h⟩ (y 1))).symm

include hx hg hy in
/-- The gradient of the gain. -/
theorem final_gain : (dats m 0 c).arrAt 5 (cfgs 0).N = Cert.LossRefIdeal.Read.val_main_v51 (F := Ideal) (m ((c : Thread nD τ).loc main_arg0)) (m ((c : Thread nD τ).loc main_arg1))
      (m ((c : Thread nD τ).loc main_arg2)) := by
  refine (dats m 0 c).arrAt_eq_of_covers 5 _ (by decide +kernel) fun t hf y => ?_
  have h3 := (flush0_5 t).mp hf
  have ht : t.val + 1 = 32 := by have := bound t; omega
  have h0 : (y 0).val < 1 := (y 0).isLt
  have ey : y = ix2 0 (y 1) := by
    refine (eq_ix2 y).trans (congrArg (fun z => ix2 z (y 1)) ?_)
    exact Fin.ext (by show (y 0).val = 0; omega)
  have e : (win0_5.blk t).view.emb y = ix2 0 (y 1) := by blk_ext [idx t]
  blk_simp
  rw [after0_5]
  refine (congrArg _ ey).trans (((point_is m hx hg hy t.val t.isLt).2 (y 1)).trans (Eq.trans ?_ (congrArg _ e).symm))
  refine Eq.trans ?_ (ref_gain hx hg hy (y 1)).symm
  rw [ht]

include hx hg hy in
/-- The block the squares are added up in. -/
theorem final_block : (dats m 0 c).arrAt 3 (cfgs 0).N = fun _ => ((squares 8192 x y gain : ℝ) : EReal) := by
  refine (dats m 0 c).arrAt_eq_of_covers 3 _ (by decide +kernel) fun t hf y => ?_
  have h3 := (flush0_3 t).mp hf
  have ht : t.val + 1 = 32 := by have := bound t; omega
  blk_simp
  rw [after0_3]
  refine ((point_is m hx hg hy t.val t.isLt).1 y).trans ?_
  rw [ht]

/-- What the lines after the call write of the block. -/
def lossOf (l : FVec Ideal S8x128 .f32) : FVec Ideal S_ .f32 :=
  mulf (shapeCast S_ (extractStridedSlice S1x1 ![0, 0] l slices_S8x128_S1x1_0_0) shapeCasts_S1x1_S_) (constant S_ .f32 0x3A000000#32)

theorem after_lines (W : Valuation τ sig (Elt Ideal)) :
    StableHlo.after [hostOps1 (F := Ideal)].flatten W (Proc.devRef .tc main_v4) = lossOf (W (Proc.devRef .tc main_v1_0)) := by
  unfold lossOf
  simp only [List.flatten_cons, List.flatten_nil, List.append_nil]
  after_results
  rfl

include hx hg hy in
/-- The loss, as the lines after the call read it. -/
theorem final_loss : Pipeline.afterTail₀ cfgs (dats m) 0 (V0 m) [hostOps1] c main_v4 = Cert.LossRefIdeal.Read.val_main_v24 (F := Ideal) (m ((c : Thread nD τ).loc main_arg0)) (m ((c : Thread nD τ).loc main_arg1))
      (m ((c : Thread nD τ).loc main_arg2)) := by
  unfold Pipeline.afterTail₀
  rw [after_lines]
  have e : Pipeline.withArrays (cfgs 0).spec c (V0 m c) (fun w => (dats m 0 c).arrAt w (cfgs 0).N) (Proc.devRef .tc main_v1_0) = fun _ => ((squares 8192 x y gain : ℝ) : EReal) :=
    (Pipeline.withArrays_arr (cfgs 0).spec winFacts0.arr_inj c (V0 m c) (fun w => (dats m 0 c).arrAt w (cfgs 0).N) 3).trans (final_block m hx hg hy)
  rw [e]
  funext i
  refine Eq.trans ?_ (ref_loss hx hg hy i).symm
  unfold lossOf
  pointwise
  rw [mean_word, ← EReal.coe_mul]

/-- What a run leaves. -/
theorem run (ρ : Dev nD → PrngReg) : θ_run defs (onTc (τ := τ) (main (F := Ideal))) ⟨m, fun _ => 0, ρ⟩ (fun r => ∀ c : Dev nD,
      r.2.mem ((c : Thread nD τ).loc main_v4) = Pipeline.afterTail₀ cfgs (dats m) 0 (V0 m) [hostOps1] c main_v4
      ∧ r.2.mem ((c : Thread nD τ).loc main_v1_1) = (dats m 0 c).arrAt 4 (cfgs 0).N
      ∧ r.2.mem ((c : Thread nD τ).loc main_v1_2) = (dats m 0 c).arrAt 5 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).2 main_v4 (by decide +kernel), (h.1 c).1 4, (h.1 c).1 5, h.2 c⟩) (θ_run_and (run_main m ρ) (unchanged m ρ))

end Final

end Cert.LossIdeal.Hand

end
-- ==== Proof.Gelu.lean ====
/- The gelu of the gated branch, its derivative and a norm of rows of 768 numbers, over the reals. -/
module

public import proofs.«01_k».proof.Proof.Norms

@[expose] public section

noncomputable section

namespace Cert.Tiles

open Idealize.ShloMosaic
open Finset (range)

/-- The factor inside the gelu's tangent. -/
def bendC : ℝ := 13386282 / 2 ^ 24
/-- The cubic's factor. -/
def cubeA : ℝ := 8943 / 200000

theorem bendC_word : Ideal.ofBits .f32 1061962282#32 = ((bendC : ℝ) : EReal) := by
  simp [Ideal.ofBits, Ideal.ieee, bendC, -EReal.coe_mul]; norm_num
theorem half_word : Ideal.ofBits .f32 1056964608#32 = ((1 / 2 : ℝ) : EReal) := by
  simp [Ideal.ofBits, Ideal.ieee, -EReal.coe_mul]; norm_num
theorem width768_word : Ideal.ofBits .f32 1145044992#32 = ((768 : ℝ) : EReal) := by
  simp [Ideal.ofBits, Ideal.ieee, -EReal.coe_mul]; norm_num
theorem three_word : Ideal.ofBits .f32 1077936128#32 = ((3 : ℝ) : EReal) := by
  simp [Ideal.ofBits, Ideal.ieee, -EReal.coe_mul]; norm_num
theorem cube_words : Ideal.div (Ideal.ofBits .f32 1194240768#32) (Ideal.ofBits .f32 1232348160#32) = ((cubeA : ℝ) : EReal) := by
  have e : Ideal.ofBits .f32 1194240768#32 = ((44715 : ℝ) : EReal) := by simp [Ideal.ofBits, Ideal.ieee, -EReal.coe_mul]; norm_num
  have f : Ideal.ofBits .f32 1232348160#32 = ((1000000 : ℝ) : EReal) := by simp [Ideal.ofBits, Ideal.ieee, -EReal.coe_mul]; norm_num
  rw [e, f, Ideal.div_coe (by norm_num), ← EReal.coe_mul, cubeA]
  norm_num

theorem div_width768 (a : ℝ) : Ideal.div (a : EReal) (Ideal.ofBits .f32 1145044992#32) = ((a / 768 : ℝ) : EReal) := by
  rw [width768_word, Ideal.div_coe (by norm_num), ← EReal.coe_mul, mul_one_div]

/-- The gelu's tangent. -/
def bend (x : ℝ) : ℝ := Real.tanh (bendC * (x + cubeA * x * x * x))
/-- The gelu. -/
def gelu (x : ℝ) : ℝ := 1 / 2 * x * (1 + bend x)
/-- Its derivative. -/
def geluGrad (x : ℝ) : ℝ := 1 / 2 * (1 + bend x) + 1 / 2 * x * (1 - bend x * bend x) * (bendC * (1 + 3 * cubeA * x * x))

/-- The mean square of a row and the small constant. -/
def vsquare (f : ℕ → ℝ) : ℝ := (∑ k ∈ range 768, f k * f k) / 768 + tiny

theorem vsquare_pos (f : ℕ → ℝ) : 0 < vsquare f :=
  add_pos_of_nonneg_of_pos (div_nonneg (Finset.sum_nonneg fun k _ => mul_self_nonneg _) (by norm_num)) (by unfold tiny; positivity)

/-- What a row is scaled by. -/
def vrms (f : ℕ → ℝ) : ℝ := (Real.sqrt (vsquare f))⁻¹

theorem vrms_sq (f : ℕ → ℝ) : vrms f * vrms f = (vsquare f)⁻¹ := by
  rw [vrms, ← mul_inv, Real.mul_self_sqrt (vsquare_pos f).le]

/-- The gradient with respect to a row, of cotangent `D` of the row times its gain `g`. -/
def vrowGrad (f g D : ℕ → ℝ) (j : ℕ) : ℝ := vrms f * (D j * g j - f j * vrms f * ((∑ k ∈ range 768, D k * g k * (f k * vrms f)) / 768))

/-- The same scale of a row given by its 768 entries. -/
def vscale (f : Fin 768 → ℝ) : ℝ := (Real.sqrt ((∑ k, f k * f k) / 768 + tiny))⁻¹

theorem vscale_eq (f : ℕ → ℝ) : vscale (fun k => f k.val) = vrms f := by
  rw [vscale, vrms, vsquare, Finset.sum_range]

theorem rsqrt_pos {x : ℝ} (h : 0 < x) : Ideal.rsqrt ((x : ℝ) : EReal) = (((Real.sqrt x)⁻¹ : ℝ) : EReal) := by
  rw [Ideal.rsqrt_coe, if_neg h.not_gt, if_neg h.ne']

theorem rsqrt_rows (f : Fin 768 → ℝ) : Ideal.rsqrt (((∑ k, f k * f k) / 768 + tiny : ℝ) : EReal) = ((vscale f : ℝ) : EReal) :=
  rsqrt_pos (add_pos_of_nonneg_of_pos (div_nonneg (Finset.sum_nonneg fun k _ => mul_self_nonneg _) (by norm_num)) (by unfold tiny; positivity))

theorem coe_sum_fin {n : ℕ} (f : Fin n → ℝ) : ∑ k, ((f k : ℝ) : EReal) = ((∑ k, f k : ℝ) : EReal) := coe_sum _ _

theorem bend_fold (x : ℝ) : Real.tanh (bendC * (x + cubeA * x * x * x)) = bend x := rfl
theorem gelu_fold (x : ℝ) : 1 / 2 * x * (1 + bend x) = gelu x := rfl
theorem grad_fold (x : ℝ) : 1 / 2 * (1 + bend x) + 1 / 2 * x * (1 - bend x * bend x) * (bendC * (1 + 3 * cubeA * x * x)) = geluGrad x := rfl

section Row

variable {X : Fin 768 → EReal} {f : ℕ → ℝ} (hx : ∀ k, X k = ((f k.val : ℝ) : EReal))

include hx in
theorem vsquare_is : Ideal.div (∑ k, X k * X k) (Ideal.ofBits .f32 1145044992#32) + Ideal.ofBits .f32 897988541#32 = ((vsquare f : ℝ) : EReal) := by
  rw [sum_fin _ (fun k => f k * f k) fun k => by rw [hx, ← EReal.coe_mul], div_width768, tiny_word, ← EReal.coe_add, vsquare]

include hx in
theorem vrms_is : Ideal.rsqrt (Ideal.div (∑ k, X k * X k) (Ideal.ofBits .f32 1145044992#32) + Ideal.ofBits .f32 897988541#32) = ((vrms f : ℝ) : EReal) := by
  rw [vsquare_is hx, rsqrt_pos (vsquare_pos f), vrms]

variable {D G : Fin 768 → EReal} {g d : ℕ → ℝ} (hd : ∀ k, D k = ((d k.val : ℝ) : EReal)) (hg : ∀ k, G k = ((g k.val : ℝ) : EReal))

include hx hd hg in
/-- The gradient of a row as the derivative of the norm's lines writes it. -/
theorem vrow_ref (j : Fin 768) :
    D j * G j * Ideal.rsqrt (Ideal.div (∑ k, X k * X k) (Ideal.ofBits .f32 1145044992#32) + Ideal.ofBits .f32 897988541#32)
      + X j * ∑ e : Fin 1, Ideal.div ((∑ l, X l * (D l * G l)) * (Ideal.ofBits .f32 3204448256#32
          * Ideal.div (Ideal.rsqrt (Ideal.div (∑ k, X k * X k) (Ideal.ofBits .f32 1145044992#32) + Ideal.ofBits .f32 897988541#32))
              (Ideal.div (∑ k, X k * X k) (Ideal.ofBits .f32 1145044992#32) + Ideal.ofBits .f32 897988541#32))) (Ideal.ofBits .f32 1145044992#32)
      + (∑ e : Fin 1, Ideal.div ((∑ l, X l * (D l * G l)) * (Ideal.ofBits .f32 3204448256#32
          * Ideal.div (Ideal.rsqrt (Ideal.div (∑ k, X k * X k) (Ideal.ofBits .f32 1145044992#32) + Ideal.ofBits .f32 897988541#32))
              (Ideal.div (∑ k, X k * X k) (Ideal.ofBits .f32 1145044992#32) + Ideal.ofBits .f32 897988541#32))) (Ideal.ofBits .f32 1145044992#32)) * X j
      = ((vrowGrad f g d j : ℝ) : EReal) := by
  rw [Fin.sum_univ_one, vrms_is hx, vsquare_is hx, sum_fin _ (fun l => f l * (d l * g l)) fun l => by rw [hx, hd, hg, ← EReal.coe_mul, ← EReal.coe_mul],
    Ideal.div_coe (vsquare_pos f).ne', minus_half_word, ← EReal.coe_mul, ← EReal.coe_mul, ← EReal.coe_mul, div_width768, hx, hd, hg]
  simp only [← EReal.coe_mul, ← EReal.coe_add]
  congr 1
  have e : ∑ l ∈ range 768, d l * g l * (f l * vrms f) = vrms f * ∑ l ∈ range 768, f l * (d l * g l) := by
    rw [Finset.mul_sum]
    exact Finset.sum_congr rfl fun l _ => by ring
  rw [vrowGrad, e, one_div (vsquare f), ← vrms_sq]
  ring

end Row

/-- The gelu's gradient of cotangent `y` as its derivative writes it. -/
theorem grad_ref (x y : ℝ) : y * (1 / 2 * (1 + bend x)) + bendC * (1 / 2 * (x * y) * ((1 + bend x) * (1 - bend x)))
    + cubeA * (bendC * (1 / 2 * (x * y) * ((1 + bend x) * (1 - bend x)))) * (3 * (x * x)) = y * geluGrad x := by
  rw [geluGrad]
  ring

/-! ## The branch on a run of rows -/

section Branch

variable (x d : ℕ → ℕ → ℝ) (g : ℕ → ℝ) (w : ℕ → ℕ → ℕ → ℝ) (bb : ℕ → ℕ → ℝ)

/-- The gated half after its gelu. -/
def half (i j : ℕ) : ℝ := gelu (x i (768 + j))
/-- Normed, with the gain. -/
def vn (i j : ℕ) : ℝ := half x i j * vrms (half x i) * g j
/-- The masked weight. -/
def mw (γ a k : ℕ) : ℝ := if k < 64 ∨ 64 ≤ a then w γ a k else 0
/-- The mixed positions of a chunk. -/
def mixed (i j : ℕ) : ℝ := ∑ k ∈ range 128, mw w (j / 128) (i % 128) k * vn x g (i / 128 * 128 + k) j + bb (i % 128) j
/-- Their cotangent. -/
def dmix (i j : ℕ) : ℝ := d i j * gelu (x i j)
/-- The first half's gradient. -/
def dpu (i j : ℕ) : ℝ := d i j * mixed x g w bb i j * geluGrad (x i j)
/-- The cotangent of the normed half. -/
def dvn (i j : ℕ) : ℝ := ∑ a ∈ range 128, mw w (j / 128) a (i % 128) * dmix x d (i / 128 * 128 + a) j
/-- The second half's gradient. -/
def dpv (i j : ℕ) : ℝ := vrowGrad (half x i) g (dvn x d w i) j * geluGrad (x i (768 + j))
/-- The weight's gradient from the `n`-th chunk. -/
def dwc (γ a b n : ℕ) : ℝ := ∑ l ∈ range 128, dmix x d (128 * n + a) (128 * γ + l) * vn x g (128 * n + b) (128 * γ + l)
/-- The bias's. -/
def dbc (γ a n : ℕ) : ℝ := ∑ l ∈ range 128, dmix x d (128 * n + a) (128 * γ + l)
/-- The gain's, from row `i`. -/
def dgc (j i : ℕ) : ℝ := dvn x d w i j * (half x i j * vrms (half x i))

theorem vn_eq (i j : ℕ) : gelu (x i (768 + j)) * vscale (fun k => gelu (x i (768 + k.val))) * g j = vn x g i j := by
  rw [vn, ← vscale_eq]
  rfl

theorem mask_mul (p : Prop) [Decidable p] (a b : ℝ) : (if p then a * b else 0) = (if p then a else 0) * b := by
  split <;> simp

theorem dpu_tile (i j a γ : ℕ) (R : Fin 128 → ℕ) (hR : ∀ k, R k = i / 128 * 128 + k.val) (hγ : γ = j / 128) (ha : a = i % 128) :
    d i j * ((∑ k : Fin 128, if k.val < 64 ∨ 64 ≤ a then w γ a k.val * vn x g (R k) j else 0) + bb a j) * geluGrad (x i j) = dpu x d g w bb i j := by
  subst hγ ha
  rw [dpu, mixed, Finset.sum_range]
  congr 4
  funext k
  rw [mask_mul, hR k, mw]

theorem dvn_tile (i j b γ : ℕ) (R : Fin 128 → ℕ) (hR : ∀ k, R k = i / 128 * 128 + k.val) (hγ : γ = j / 128) (hb : b = i % 128) :
    (∑ a : Fin 128, if b < 64 ∨ 64 ≤ a.val then w γ a.val b * (d (R a) j * gelu (x (R a) j)) else 0) = dvn x d w i j := by
  subst hγ hb
  rw [dvn, Finset.sum_range]
  congr 1
  funext k
  rw [mask_mul, hR k, mw, dmix]

theorem dpv_row (i j : ℕ) :
    vscale (fun k => gelu (x i (768 + k.val))) * (dvn x d w i j * g j - gelu (x i (768 + j)) * vscale (fun k => gelu (x i (768 + k.val)))
      * ((∑ k : Fin 768, dvn x d w i k.val * g k.val * (gelu (x i (768 + k.val)) * vscale (fun k => gelu (x i (768 + k.val))))) / 768)) * geluGrad (x i (768 + j)) = dpv x d g w i j := by
  rw [dpv, vrowGrad, ← vscale_eq, Finset.sum_range]
  rfl

theorem dgain_rows (j : ℕ) : (∑ i : Fin 256, dvn x d w i.val j * (gelu (x i.val (768 + j)) * vscale (fun k => gelu (x i.val (768 + k.val))))) = ∑ i ∈ range 256, dgc x d w j i := by
  rw [Finset.sum_range]
  congr 1

theorem dw_sum (γ a b : ℕ) (C : Fin 128 → ℕ) (h : ∀ k, C k = 128 * γ + k.val) :
    (if b < 64 ∨ 64 ≤ a then (∑ k : Fin 128, d a (C k) * gelu (x a (C k)) * vn x g b (C k)) + ∑ k : Fin 128, d (128 + a) (C k) * gelu (x (128 + a) (C k)) * vn x g (128 + b) (C k) else 0)
      = if b < 64 ∨ 64 ≤ a then dwc x d g γ a b 0 + dwc x d g γ a b 1 else 0 := by
  simp only [h, dwc, Finset.sum_range, dmix, Nat.mul_zero, Nat.zero_add, Nat.mul_one]

theorem db_sum (γ a : ℕ) (C : Fin 128 → ℕ) (h : ∀ k, C k = 128 * γ + k.val) :
    (∑ k : Fin 128, d a (C k) * gelu (x a (C k))) + (∑ k : Fin 128, d (128 + a) (C k) * gelu (x (128 + a) (C k))) = dbc x d γ a 0 + dbc x d γ a 1 := by
  simp only [h, dbc, Finset.sum_range, dmix, Nat.mul_zero, Nat.zero_add, Nat.mul_one]

/-! ## Rows counted from the `256 t`-th -/

variable (t : ℕ)

theorem mixed_from (i j : ℕ) : mixed (fun a b => x (256 * t + a) b) g w bb i j = mixed x g w bb (256 * t + i) j := by
  rw [mixed, mixed, show (256 * t + i) % 128 = i % 128 by omega]
  refine congrArg (· + _) (Finset.sum_congr rfl fun k _ => ?_)
  rw [show (256 * t + i) / 128 * 128 + k = 256 * t + (i / 128 * 128 + k) by omega]
  rfl

theorem dvn_from (i j : ℕ) : dvn (fun a b => x (256 * t + a) b) (fun a b => d (256 * t + a) b) w i j = dvn x d w (256 * t + i) j := by
  rw [dvn, dvn, show (256 * t + i) % 128 = i % 128 by omega]
  refine Finset.sum_congr rfl fun k _ => ?_
  rw [show (256 * t + i) / 128 * 128 + k = 256 * t + (i / 128 * 128 + k) by omega]
  rfl

theorem dpu_from (i j : ℕ) : dpu (fun a b => x (256 * t + a) b) (fun a b => d (256 * t + a) b) g w bb i j = dpu x d g w bb (256 * t + i) j := by
  rw [dpu, dpu, mixed_from]

theorem dpv_from (i j : ℕ) : dpv (fun a b => x (256 * t + a) b) (fun a b => d (256 * t + a) b) g w i j = dpv x d g w (256 * t + i) j := by
  rw [dpv, dpv, show dvn (fun a b => x (256 * t + a) b) (fun a b => d (256 * t + a) b) w i = dvn x d w (256 * t + i) from funext fun k => dvn_from x d w t i k]
  rfl

theorem dgc_from (j i : ℕ) : dgc (fun a b => x (256 * t + a) b) (fun a b => d (256 * t + a) b) w j i = dgc x d w j (256 * t + i) := by
  rw [dgc, dgc, dvn_from]
  rfl

theorem dwc_from (γ a b n : ℕ) : dwc (fun a b => x (256 * t + a) b) (fun a b => d (256 * t + a) b) g γ a b n = dwc x d g γ a b (2 * t + n) := by
  rw [dwc, dwc]
  refine Finset.sum_congr rfl fun l _ => ?_
  rw [show 128 * (2 * t + n) + a = 256 * t + (128 * n + a) by omega, show 128 * (2 * t + n) + b = 256 * t + (128 * n + b) by omega]
  rfl

theorem dbc_from (γ a n : ℕ) : dbc (fun a b => x (256 * t + a) b) (fun a b => d (256 * t + a) b) γ a n = dbc x d γ a (2 * t + n) := by
  rw [dbc, dbc]
  refine Finset.sum_congr rfl fun l _ => ?_
  rw [show 128 * (2 * t + n) + a = 256 * t + (128 * n + a) by omega]
  rfl

/-- The gain's gradient over the rows up to the next block's. -/
theorem dgain_next (j : ℕ) : (∑ i ∈ range (256 * t), dgc x d w j i) + (∑ i ∈ range 256, dgc (fun a b => x (256 * t + a) b) (fun a b => d (256 * t + a) b) w j i)
    = ∑ i ∈ range (256 * (t + 1)), dgc x d w j i := by
  rw [mul_add 256 t 1, mul_one, Finset.sum_range_add]
  simp only [dgc_from]

/-- A sum over the chunks up to the next block's. -/
theorem chunks_next (f : ℕ → ℝ) : (∑ n ∈ range (2 * t), f n) + (f (2 * t + 0) + f (2 * t + 1)) = ∑ n ∈ range (2 * (t + 1)), f n := by
  rw [mul_add 2 t 1, mul_one, Finset.sum_range_succ, Finset.sum_range_succ, add_zero, add_assoc]

end Branch

end Cert.Tiles

end
-- ==== Proof.GmlpValue.lean ====
/- The gated branch's gradient, point by point. -/
module

public import proofs.«01_k».proof.Defs
public import proofs.«01_k».proof.Proof.Gen.GmlpIdeal.Frame
public import proofs.«01_k».proof.Proof.Gelu
public import proofs.«01_k».proof.Proof.Finite
public import Idealize.ShloMosaic.Lib.Pipeline.ValueKit
public import Idealize.ShloMosaic.Lib.Pipeline.ReadBack
public import Idealize.ShloMosaic.Lib.Ring

@[expose] public section

set_option maxRecDepth 16384

noncomputable section
namespace Cert.GmlpIdeal.Hand

open Cert.GmlpIdeal Cert.GmlpIdeal.Gen Cert.Tiles
open Idealize.ShloMosaic Idealize.ShloMosaic.TcCoe Idealize.SL Idealize.SL.Sem
open Idealize.ShloMosaic.Pipeline (Dat)
open Idealize.ShloMosaic.WordCmp

/-- The two named constants. -/
theorem cube_named : (Named.named κ "gelu_a" 1027024659#32 : Ideal .f32) = ((cubeA : ℝ) : EReal) := by
  rw [show cubeA = 8943 / 200000 from rfl]
  exact IdealRules.named_const.ideal_named_scalar _ _ _ _ rfl
theorem cube3_named : (Named.named κ "gelu_3a" 1040801103#32 : Ideal .f32) = ((3 * cubeA : ℝ) : EReal) := by
  rw [show 3 * cubeA = 26829 / 200000 by unfold cubeA; norm_num]
  exact IdealRules.named_const.ideal_named_scalar _ _ _ _ rfl

/-- The chunk mask. -/
theorem mask_word {a b : ℕ} (ha : a < 128) (hb : b < 128) (r : ℝ) :
    Scalar.select (IntOp.ori (IntOp.cmpi CmpIPredicate.slt (BitVec.ofNat 32 b) 64#32) (IntOp.cmpi CmpIPredicate.sge (BitVec.ofNat 32 a) 64#32)) ((r : ℝ) : EReal) (0 : EReal)
      = ((if b < 64 ∨ 64 ≤ a then r else 0 : ℝ) : EReal) := by
  rw [cmpi_slt_ofNat (a := b) (b := 64) (by omega) (by norm_num), cmpi_sge_ofNat (a := a) (b := 64) (by omega) (by norm_num), ori_ofBool]
  by_cases h : b < 64 ∨ 64 ≤ a
  · rw [if_pos h, show (decide (b < 64) || decide (64 ≤ a)) = true by simpa using h]
    rfl
  · rw [if_neg h, show (decide (b < 64) || decide (64 ≤ a)) = false by simpa using h]
    rfl

variable (m : (ℓ : Loc nD τ sig) → Buf (Elt Ideal) ℓ)

/-- Stores that cover an index hide every store made before them. -/
theorem canon_under {Val : EltTy → Type} [∀ e, Nonempty (Val e)] {s : Shape} {e : EltTy} (L L' : List (View.Piece Val s e)) (y : s.Idx) (hc : ∃ p ∈ L, y ∈ p.1.set) :
    View.canon (L ++ L') y = View.canon L y := by
  induction L with
  | nil =>
    obtain ⟨p, hp, _⟩ := hc
    simp at hp
  | cons p L ih =>
    by_cases hm : y ∈ p.1.set
    · obtain ⟨k, rfl⟩ := p.1.exists_idx_of_mem hm
      exact (View.canon_cons_emb p.1 p.2 (L ++ L') k).trans (View.canon_cons_emb p.1 p.2 L k).symm
    · rw [List.cons_append, View.canon_cons_of_not_mem _ _ hm, View.canon_cons_of_not_mem _ _ hm]
      obtain ⟨q, hq, hy⟩ := hc
      rcases List.mem_cons.mp hq with rfl | hq
      · exact absurd hy hm
      · exact ih ⟨q, hq, hy⟩

/-- What the last three results hold when a point begins: nothing yet at the first, else what the point before left. -/
def kept (c : Dev nD) (t : Fin cfg0.N) : FVec Ideal S6x128x128 .f32 × FVec Ideal S6x128x128 .f32 × FVec Ideal S1x768 .f32 :=
  if t.val % 32 = 0 then (fun _ => 0, fun _ => 0, fun _ => 0) else (outsAt0 m c (t.val - 1) (Nat.lt_of_le_of_lt (Nat.sub_le _ _) t.isLt)).2

section Point

variable {x d bb : ℕ → ℕ → ℝ} {g : ℕ → ℝ} {w : ℕ → ℕ → ℕ → ℝ} {c : Dev nD} {t : Fin cfg0.N}
  (hx : ∀ a b, iblk m c 0 t (ix2 a b) = ((x a.val b.val : ℝ) : EReal)) (hd : ∀ a b, iblk m c 1 t (ix2 a b) = ((d a.val b.val : ℝ) : EReal))
  (hg : ∀ b, iblk m c 2 t (ix2 0 b) = ((g b.val : ℝ) : EReal)) (hw : ∀ a b e, iblk m c 3 t (ix3 a b e) = ((w a.val b.val e.val : ℝ) : EReal))
  (hb : ∀ a b, iblk m c 4 t (ix2 a b) = ((bb a.val b.val : ℝ) : EReal))

set_option maxHeartbeats 4000000 in
include hx hd hg hw hb in
/-- The first result's block, and what the point adds to the gain's gradient. -/
theorem point_rows : (∀ y : S256x1536.Idx, (outsAt0 m c t.val t.isLt).1 y
      = ((if (y 1).val < 768 then dpu x d g w bb (y 0).val (y 1).val else dpv x d g w (y 0).val ((y 1).val - 768) : ℝ) : EReal))
    ∧ ∀ j : Fin 768, (outsAt0 m c t.val t.isLt).2.2.2 (ix2 0 j) = (kept m c t).2.2 (ix2 0 j) + ((∑ i ∈ Finset.range 256, dgc x d w j.val i : ℝ) : EReal) := by
  unfold kept
  by_cases h : t.val % 32 = 0
  on_goal 1 => rw [if_pos h, outsAt0_A m c t h]
  on_goal 2 => rw [if_neg h, outsAt0_B m c t h]
  all_goals
    frame_out
    generalize hdv : View.readCov (Val := Elt Ideal) (View.whole cc0_scratch0) _ _ = dv
    have hv : ∀ (i : Fin 256) (j : Fin 768), dv (ix2 i j) = ((dvn x d w i.val j.val : ℝ) : EReal) := by
      intro i j
      rw [← hdv, View.readCov_eq_canon_ld _ _ _ (View.cover_of_tiledBy _ ![128,128] (by sl_kernel_rfl))]
      refine (congrArg (View.canon _) (?_ : _ = ix2 i j)).trans ?_
      · funext k
        refine Fin.ext ?_
        fin_cases k
        · exact (Nat.zero_add _).trans (Nat.one_mul _)
        · exact (Nat.zero_add _).trans (Nat.one_mul _)
      canon_tiles e q
      all_goals
        obtain ⟨e0, he0⟩ : ∃ a : Fin 128, a = e 0 := ⟨e 0, rfl⟩
        obtain ⟨e1, he1⟩ : ∃ a : Fin 128, a = e 1 := ⟨e 1, rfl⟩
        replace q0 : i.val = _ := q0
        replace q1 : j.val = _ := q1
        open_payloads
        pointwise
        simp only [← he0, ← he1] at q0 q1 e0_lt e1_lt ⊢
        simp only [hx, hd, hg, hw, hb, half_word, bendC_word, cube_named, cube3_named, tiny_word, ← EReal.coe_one, ← EReal.coe_mul, ← EReal.coe_add, ← EReal.coe_sub, Ideal.tanh_coe,
        coe_sum_fin, div_width768, rsqrt_rows, mask_word (Fin.isLt _) e0_lt]
        simp only [bend_fold, gelu_fold, grad_fold, vn_eq]
        rw [q0, q1]
        exact congrArg _ (dvn_tile _ _ _ _ _ _ _ _ (fun k => by omega) (by first | omega | (simp; omega)) (by omega))
    clear hdv
    refine ⟨fun y => ?_, fun j => ?_⟩
    · canon_tiles z q using View.cover_of_tiledBy _ ![128,128] (by sl_kernel_rfl) y
      case piece0 =>
        obtain ⟨z0, hz0⟩ : ∃ a : Fin 256, a = z 0 := ⟨z 0, rfl⟩
        obtain ⟨z1, hz1⟩ : ∃ a : Fin 768, a = z 1 := ⟨z 1, rfl⟩
        have hz : z = ix2 z0 z1 := by rw [hz0, hz1]; exact eq_ix2 z
        open_payloads
        pointwise
        simp only [← hz0, ← hz1] at q0 q1 z0_lt z1_lt ⊢
        simp only [hx, hd, hg, hw, hb, hz, hv, half_word, bendC_word, cube_named, cube3_named, tiny_word, ← EReal.coe_one, ← EReal.coe_mul, ← EReal.coe_add, ← EReal.coe_sub, Ideal.tanh_coe,
        coe_sum_fin, div_width768, rsqrt_rows]
        simp only [bend_fold, gelu_fold, grad_fold]
        rw [if_neg (by omega), q0, q1, Nat.add_sub_cancel_left]
        exact congrArg _ (dpv_row _ _ _ _ _ _)
      all_goals
        obtain ⟨z0, hz0⟩ : ∃ a : Fin 128, a = z 0 := ⟨z 0, rfl⟩
        obtain ⟨z1, hz1⟩ : ∃ a : Fin 128, a = z 1 := ⟨z 1, rfl⟩
        open_payloads
        pointwise
        simp only [← hz0, ← hz1] at q0 q1 z0_lt z1_lt ⊢
        simp only [hx, hd, hg, hw, hb, half_word, bendC_word, cube_named, cube3_named, tiny_word, ← EReal.coe_one, ← EReal.coe_mul, ← EReal.coe_add, ← EReal.coe_sub, Ideal.tanh_coe,
        coe_sum_fin, div_width768, rsqrt_rows, mask_word z0_lt (Fin.isLt _)]
        simp only [bend_fold, gelu_fold, grad_fold, vn_eq]
        rw [if_pos (by omega), q0, q1]
        exact congrArg _ (dpu_tile _ _ _ _ _ _ _ _ _ _ (fun k => by omega) (by first | omega | (simp; omega)) (by omega))
    · open_payloads
      pointwise
      simp only [hx, hd, hg, hw, hb, hv, half_word, bendC_word, cube_named, cube3_named, tiny_word, ← EReal.coe_one, ← EReal.coe_mul, ← EReal.coe_add, ← EReal.coe_sub, Ideal.tanh_coe,
        coe_sum_fin, div_width768, rsqrt_rows]
      simp only [bend_fold, gelu_fold, grad_fold]
      first
        | rw [zero_add]; exact congrArg _ (dgain_rows _ _ _ _)
        | exact congrArg _ (congrArg _ (dgain_rows _ _ _ _))
        | exact congrArg _ (dgain_rows _ _ _ _)

set_option maxHeartbeats 4000000 in
include hx hd hg hw hb in
/-- What the point adds to the weight's gradient and to the bias's. -/
theorem point_groups (γ : Fin 6) (a b : Fin 128) :
    (outsAt0 m c t.val t.isLt).2.1 (ix3 γ a b) = (kept m c t).1 (ix3 γ a b)
        + ((if b.val < 64 ∨ 64 ≤ a.val then dwc x d g γ.val a.val b.val 0 + dwc x d g γ.val a.val b.val 1 else 0 : ℝ) : EReal)
    ∧ (outsAt0 m c t.val t.isLt).2.2.1 (ix3 γ a b) = (kept m c t).2.1 (ix3 γ a b) + ((dbc x d γ.val a.val 0 + dbc x d γ.val a.val 1 : ℝ) : EReal) := by
  unfold kept
  by_cases h : t.val % 32 = 0
  on_goal 1 =>
    rw [if_pos h, outsAt0_A m c t h]
    frame_out
    simp (disch := decide) only [↓View.readCov_skip, ↓View.readCov_cons_toLoadRect, ↓View.readCov_fill]
    refine ⟨(canon_under [_, _, _, _, _, _] [_] _ ?_).trans ?_, (canon_under [_, _, _, _, _, _] [_] _ ?_).trans ?_⟩
    on_goal 1 => exact View.cover_of_tiledBy _ ![1,128,128] (by sl_kernel_rfl) _
    on_goal 2 => exact View.cover_of_tiledBy _ ![1,128,128] (by sl_kernel_rfl) _
  on_goal 3 =>
    rw [if_neg h, outsAt0_B m c t h]
    frame_out
    refine ⟨?_, ?_⟩
  all_goals
      canon_tiles z q
      all_goals
        obtain ⟨z1, hz1⟩ : ∃ a : Fin 128, a = z 1 := ⟨z 1, rfl⟩
        obtain ⟨z2, hz2⟩ : ∃ a : Fin 128, a = z 2 := ⟨z 2, rfl⟩
        open_payloads
        pointwise
        simp only [← hz1, ← hz2] at q0 q1 q2 ⊢
        obtain rfl : a = z1 := Fin.ext q1
        obtain rfl : b = z2 := Fin.ext q2
        replace q0 : γ.val = _ := q0
        simp only [hx, hd, hg, half_word, bendC_word, cube_named, tiny_word, ← EReal.coe_one, ← EReal.coe_mul, ← EReal.coe_add, Ideal.tanh_coe, coe_sum_fin, div_width768, rsqrt_rows,
          mask_word a.isLt b.isLt]
        simp only [bend_fold, gelu_fold, vn_eq]
        first
          | exact congrArg _ (dw_sum _ _ _ _ _ _ _ fun k => by omega)
          | exact congrArg _ (db_sum _ _ _ _ _ fun k => by omega)
          | refine congrArg₂ (· + ·) (congrArg _ (congrArg (fun e => ix3 e a b) (Fin.ext ?_))) (congrArg _ (dw_sum _ _ _ _ _ _ _ fun k => by omega))
            first | omega | (simp; omega)
          | refine congrArg₂ (· + ·) (congrArg _ (congrArg (fun e => ix3 e a b) (Fin.ext ?_))) (congrArg _ (db_sum _ _ _ _ _ fun k => by omega))
            first | omega | (simp; omega)

end Point

end Cert.GmlpIdeal.Hand
end
-- ==== Proof.GmlpRef.lean ====
/- The gated branch's reference, stage by stage. -/
module

public import proofs.«01_k».proof.Defs
public import proofs.«01_k».proof.Proof.Gen.GmlpRefIdeal.Read
public import proofs.«01_k».proof.Proof.Gelu
public import proofs.«01_k».proof.Proof.Finite

@[expose] public section

set_option maxRecDepth 16384

noncomputable section
namespace Cert.GmlpRefIdeal.Hand

open Cert.GmlpRefIdeal Cert.GmlpRefIdeal.Read Cert.Tiles
open Idealize.ShloMosaic Idealize.ShloMosaic.TcCoe Idealize.SL Idealize.SL.Sem
open Finset (range)

variable {x0 : FVec Ideal S8192x1792 .f32} {x1 : FVec Ideal S8192x1024 .f32} {x2 : FVec Ideal S768 .f32} {x3 : FVec Ideal S6x128x128 .f32} {x4 : FVec Ideal S6x128 .f32}
  {x d : ℕ → ℕ → ℝ} {g : ℕ → ℝ} {w : ℕ → ℕ → ℕ → ℝ} {β : ℕ → ℕ → ℝ}
  (hx : ∀ a b, x0 (ix2 a b) = ((x a.val b.val : ℝ) : EReal)) (hd : ∀ a b, x1 (ix2 a b) = ((d a.val b.val : ℝ) : EReal)) (hg : ∀ b, x2 (ix1 b) = ((g b.val : ℝ) : EReal))
  (hw : ∀ a b e, x3 (ix3 a b e) = ((w a.val b.val e.val : ℝ) : EReal)) (hb : ∀ a b, x4 (ix2 a b) = ((β a.val b.val : ℝ) : EReal))

include hx in
/-- The gelu's tangent. -/
theorem ref_bend (i : Fin 8192) (j : Fin 1536) : val_main_v12 (F := Ideal) x0 (ix2 i j) = ((bend (x i.val j.val) : ℝ) : EReal) := by
  pointwise [val_main_v12, val_main_v11, val_main_v10, val_main_v9, val_main_cst_2, val_main_v0, val_main_v8, val_main_v7, val_main_v3, val_main_v1, val_main_v2, val_main_cst, val_main_cst_0]
  simp only [hx, cube_words, bendC_word, ← EReal.coe_mul, ← EReal.coe_add, Ideal.tanh_coe, bend]
  congr 4
  ring

include hx in
/-- The gelu. -/
theorem ref_gelu (i : Fin 8192) (j : Fin 1536) : val_main_v22 (F := Ideal) x0 (ix2 i j) = ((gelu (x i.val j.val) : ℝ) : EReal) := by
  pointwise [val_main_v22, val_main_v0, val_main_v21, val_main_v20, val_main_v19, val_main_cst_6, val_main_v18, val_main_cst_5]
  rw [ref_bend hx, half_word, show (1 : EReal) = ((1 : ℝ) : EReal) from rfl, ← EReal.coe_add, ← EReal.coe_mul, hx, ← EReal.coe_mul, gelu]
  congr 1
  ring

include hx in
/-- The gelu of the gated half. -/
theorem ref_side (i : Fin 8192) (j : Fin 768) (h : 768 + j.val < 1536) : val_main_v22 (F := Ideal) x0 (ix2 i ⟨768 + j.val, h⟩) = ((half x i.val j.val : ℝ) : EReal) :=
  ref_gelu hx i _

include hx in
/-- The gated half normed, without the gain. -/
theorem ref_norm (i : Fin 8192) (j : Fin 768) : val_main_v37 (F := Ideal) x0 (ix2 i j) = ((half x i.val j.val * vrms (half x i.val) : ℝ) : EReal) := by
  pointwise [val_main_v37, val_main_v24, val_main_v36, val_main_v32, val_main_v31, val_main_v29, val_main_v30, val_main_v27, val_main_v28, val_main_cst_9, val_main_v26, val_main_cst_8, val_main_v25, val_main_cst_7]
  rw [vrms_is (fun k => ref_side hx i k _), ref_side hx, EReal.coe_mul]

/-- A position's chunk as the reference's floor division writes it. -/
theorem chunk_word : ∀ n : Fin 128, Scalar.select
      (IntOp.andi (IntOp.cmpi CmpIPredicate.ne (if BitVec.ofNat 32 n.val = 0 then (0 : BitVec 32) else if (BitVec.ofNat 32 n.val).msb = true then -1 else 1)
          (if (64#32 : BitVec 32) = 0 then (0 : BitVec 32) else if BitVec.msb 64#32 = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32) (IntOp.divsi ArithUnit.host (BitVec.ofNat 32 n.val) 64#32)
    = BitVec.ofNat 32 (n.val / 64) := by
  decide +kernel

/-- The chunked causal mask. -/
theorem ref_cut (γ : Fin 6) (a b : Fin 128) : val_main_v51_1 (F := Ideal) (ix3 γ a b) = BitVec.ofBool (decide (b.val < 64 ∨ 64 ≤ a.val)) := by
  pointwise [val_main_v51_1, val_main_v50, val_main_v49, val_main_v47, val_main_v48, val_main_v44, val_main_v46, val_main_call0_v11, val_main_call0_v13, val_main_call0_v2, val_main_call1_v11, val_main_call1_v13, val_main_call1_v2, val_main_call0_v6, val_main_call0_v10, val_main_call0_v12, val_main_v43, val_main_call0_v1, val_main_call1_v6, val_main_call1_v10, val_main_call1_v12, val_main_v45, val_main_call1_v1, val_main_call0_v3, val_main_call0_v5, val_main_call0_v8, val_main_call0_v9, val_main_call0_c_0, val_main_v42, val_main_call0_v0, val_main_call1_v3, val_main_call1_v5, val_main_call1_v8, val_main_call1_v9, val_main_call1_c_0, val_main_call1_v0, val_main_call0_v4, val_main_call0_v7, val_main_call0_c, val_main_c, val_main_call1_v4, val_main_call1_v7, val_main_call1_c, val_main_c_11]
  refine (congrArg₂ (IntOp.cmpi CmpIPredicate.sle) (chunk_word b) (chunk_word a)).trans ?_
  rw [WordCmp.cmpi_sle_ofNat (by omega) (by omega)]
  congr 2
  exact propext (by omega)

theorem ref_mask_of (γ : Fin 6) (a b : Fin 128) (u : EReal) : Scalar.select (val_main_v51_1 (F := Ideal) (ix3 γ a b)) u 0 = if b.val < 64 ∨ 64 ≤ a.val then u else 0 := by
  rw [ref_cut]
  by_cases h : b.val < 64 ∨ 64 ≤ a.val <;> simp [h, Scalar.select]

include hw in
/-- The masked weight. -/
theorem ref_mask (γ : Fin 6) (a b : Fin 128) : val_main_v51_0 (F := Ideal) x3 (ix3 γ a b) = ((mw w γ.val a.val b.val : ℝ) : EReal) := by
  pointwise [val_main_v51_0, val_main_call2_v2, val_main_call2_v0, val_main_cst_12]
  refine (congrArg (Scalar.select _ _) (?_ : _ = (0 : EReal))).trans ((ref_mask_of γ a b _).trans ?_)
  · change Ideal.ofBits .f32 0#32 = 0
    simp [Ideal.ofBits, Ideal.ieee]
  · rw [hw, mw]
    split <;> rfl

include hx hg hw hb in
/-- The mixed positions. -/
theorem ref_mixed (i : Fin 8192) (j : Fin 768) : val_main_v60 (F := Ideal) x0 x2 x3 x4 (ix2 i j) = ((mixed x g w (fun a j => β (j / 128) a) i.val j.val : ℝ) : EReal) := by
  pointwise [val_main_v60, val_main_v59, val_main_v56, val_main_v58, val_main_v55, val_main_v57, val_main_v41, val_main_v54, val_main_v40, val_main_v53, val_main_v39, val_main_v52, val_main_v38]
  refine (congrArg₂ (· + ·) (sum_fin _ (fun k => mw w (j.val / 128) (i.val % 128) k * vn x g (i.val / 128 * 128 + k) j.val) fun k => ?_) (hb _ _)).trans (EReal.coe_add _ _).symm
  rw [ref_norm hx, ref_mask hw, hg, ← EReal.coe_mul, ← EReal.coe_mul, mul_comm]
  rfl

include hx hd hw in
/-- The cotangent of the normed half. -/
theorem ref_dvn (i : Fin 8192) (j : Fin 768) : val_main_v78 (F := Ideal) x0 x1 x3 (ix2 i j) = ((dvn x d w i.val j.val : ℝ) : EReal) := by
  pointwise [val_main_v78, val_main_v72, val_main_v71, val_main_v69, val_main_v65, val_main_v63, val_main_v23, val_main_v62]
  refine sum_fin _ (fun k => mw w (j.val / 128) k (i.val % 128) * dmix x d (i.val / 128 * 128 + k) j.val) fun k => ?_
  rw [ref_gelu hx, ref_mask hw, hd, ← EReal.coe_mul, ← EReal.coe_mul, mul_comm, mul_comm (gelu _)]
  rfl

include hx hd hg in
/-- The weight's gradient. -/
theorem ref_dw (γ : Fin 6) (a b : Fin 128) : val_main_v77 (F := Ideal) x0 x1 x2 (ix3 γ a b)
    = ((if b.val < 64 ∨ 64 ≤ a.val then ∑ n ∈ range 64, dwc x d g γ.val a.val b.val n else 0 : ℝ) : EReal) := by
  pointwise [val_main_v77, val_main_v70, val_main_call3_v0, val_main_v69, val_main_v41, val_main_call3_cst, val_main_v65, val_main_v40, val_main_v63, val_main_v39, val_main_v23, val_main_v62, val_main_v38]
  rw [ref_mask_of, sum_fin _ (fun n => dwc x d g γ.val a.val b.val n) fun n => ?_]
  · split <;> rfl
  · refine sum_fin _ (fun l => dmix x d (128 * n.val + a.val) (128 * γ.val + l) * vn x g (128 * n.val + b.val) (128 * γ.val + l)) fun l => ?_
    rw [ref_gelu hx, ref_norm hx, hd, hg, ← EReal.coe_mul, ← EReal.coe_mul, ← EReal.coe_mul, mul_comm (gelu _), Nat.mul_comm 128 n.val, Nat.mul_comm 128 γ.val]
    rfl

include hx hd in
/-- The bias's gradient, the same in every column. -/
theorem ref_db (γ : Fin 6) (a b : Fin 128) : val_main_v117 (F := Ideal) x0 x1 (ix3 γ a b) = ((∑ n ∈ range 64, dbc x d γ.val a.val n : ℝ) : EReal) := by
  pointwise [val_main_v117, val_main_v116, val_main_v76, val_main_v75, val_main_v74, val_main_cst_16, val_main_v73, val_main_v68, val_main_cst_15, val_main_v67, val_main_cst_14, val_main_v66, val_main_v65, val_main_cst_13, val_main_v63, val_main_v23, val_main_v62]
  rw [Fin.sum_univ_one, sum_fin _ (fun l => ∑ n ∈ range 64, dmix x d (128 * n + a.val) (128 * γ.val + l)) fun l => ?_]
  · refine congrArg _ (Finset.sum_comm.trans ?_)
    rfl
  · rw [Fin.sum_univ_one]
    refine sum_fin _ (fun n => dmix x d (128 * n + a.val) (128 * γ.val + l.val)) fun n => ?_
    rw [ref_gelu hx, hd, ← EReal.coe_mul, mul_comm (gelu _), Nat.mul_comm 128 n.val, Nat.mul_comm 128 γ.val]
    rfl

include hx hd hw in
/-- The gain's gradient. -/
theorem ref_dgain (j : Fin 768) : val_main_v118 (F := Ideal) x0 x1 x3 (ix2 0 j) = ((∑ i ∈ range 8192, dgc x d w j.val i : ℝ) : EReal) := by
  pointwise [val_main_v118, val_main_v84, val_main_v81, val_main_cst_18, val_main_v80, val_main_v79, val_main_cst_17]
  rw [Fin.sum_univ_one]
  refine sum_fin _ (fun i => dgc x d w j.val i) fun i => ?_
  rw [ref_norm hx, ref_dvn hx hd hw, ← EReal.coe_mul, mul_comm]
  rfl

include hx hd hg hw in
/-- The cotangent of the gated half's gelu. -/
theorem ref_half (i : Fin 8192) (j : Fin 768) : val_main_v98 (F := Ideal) x0 x1 x2 x3 (ix2 i j) = ((vrowGrad (half x i.val) g (dvn x d w i.val) j.val : ℝ) : EReal) := by
  pointwise [val_main_v98, val_main_v96, val_main_v97, val_main_v89, val_main_v95, val_main_v94, val_main_v24, val_main_v83, val_main_v88, val_main_v93, val_main_v82, val_main_v32, val_main_v92, val_main_cst_21, val_main_v38, val_main_v31, val_main_v90, val_main_v91, val_main_v29, val_main_v30, val_main_v87, val_main_v35, val_main_cst_20, val_main_v27, val_main_v28, val_main_cst_9, val_main_v86, val_main_v34, val_main_v33, val_main_v26, val_main_cst_8, val_main_v85, val_main_cst_19, val_main_cst_10, val_main_v25, val_main_cst_7]
  exact vrow_ref (X := fun k => val_main_v22 (F := Ideal) x0 (ix2 i ⟨768 + k.val, by omega⟩)) (D := fun k => val_main_v78 (F := Ideal) x0 x1 x3 (ix2 i k))
    (G := fun k => x2 (ix1 k)) (fun k => ref_side hx i k _) (ref_dvn hx hd hw i) hg j

include hx hd hg hw hb in
/-- The gradient with respect to the rows, on the columns both programs write. -/
theorem ref_rows (i : Fin 8192) (j : Fin 1792) (h : j.val < 1536) : val_main_v115 (F := Ideal) x0 x1 x2 x3 x4 (ix2 i j)
    = ((if j.val < 768 then dpu x d g w (fun a j => β (j / 128) a) i.val j.val else dpv x d g w i.val (j.val - 768) : ℝ) : EReal) := by
  pointwise [val_main_v115, val_main_v114, val_main_v113, val_main_cst_26, val_main_v109, val_main_v112, val_main_v103, val_main_v108, val_main_v111, val_main_v6, val_main_v101, val_main_v21, val_main_v107, val_main_v106, val_main_v110, val_main_v5, val_main_v4, val_main_v99, val_main_v100, val_main_v20, val_main_v19, val_main_cst_25, val_main_v105, val_main_v17, val_main_v1, val_main_cst_1, val_main_v0, val_main_cst_22, val_main_v64, val_main_cst_23, val_main_cst_6, val_main_v18, val_main_v104, val_main_v102, val_main_v14, val_main_v16, val_main_cst, val_main_cst_0, val_main_v62, val_main_cst_5, val_main_cst_24, val_main_v13, val_main_v15, val_main_cst_3, val_main_cst_4]
  have cot : ((if h_1 : 768 ≤ j.val ∧ j.val - 768 < 768 then val_main_v98 (F := Ideal) x0 x1 x2 x3 (ix2 i ⟨j.val - 768, h_1.2⟩) else 0) +
      if h_1 : j.val < 768 then x1 (ix2 i ⟨j.val, h_1.trans (by decide)⟩) * val_main_v60 (F := Ideal) x0 x2 x3 x4 (ix2 i ⟨j.val, h_1⟩) else 0)
      = ((if j.val < 768 then d i.val j.val * mixed x g w (fun a j => β (j / 128) a) i.val j.val else vrowGrad (half x i.val) g (dvn x d w i.val) (j.val - 768) : ℝ) : EReal) := by
    by_cases hj : j.val < 768
    · rw [dif_neg (by omega), dif_pos hj, if_pos hj, zero_add, ref_mixed hx hg hw hb, hd, ← EReal.coe_mul]
    · rw [dif_pos ⟨by omega, by omega⟩, dif_neg hj, if_neg hj, add_zero, ref_half hx hd hg hw]
  rw [dif_pos h, cot, ref_bend hx, hx, cube_words, half_word, bendC_word, three_word, show (1 : EReal) = ((1 : ℝ) : EReal) from rfl]
  simp only [← EReal.coe_mul, ← EReal.coe_add, ← EReal.coe_sub]
  refine congrArg _ ((grad_ref _ _).trans ?_)
  by_cases hj : j.val < 768
  · rw [if_pos hj, if_pos hj, dpu]
  · rw [if_neg hj, if_neg hj, dpv, show 768 + (j.val - 768) = j.val by omega]

end Cert.GmlpRefIdeal.Hand
end
-- ==== Proof.GmlpFinal.lean ====
/- The gated branch's gradient: the results after every point. -/
module

public import proofs.«01_k».proof.Proof.GmlpValue
public import proofs.«01_k».proof.Proof.GmlpRef
public import proofs.«01_k».proof.On_gmlp_written

@[expose] public section

set_option maxRecDepth 16384

noncomputable section
namespace Cert.GmlpIdeal.Hand

open Cert.GmlpIdeal Cert.GmlpIdeal.Gen Cert.Tiles
open Idealize.ShloMosaic Idealize.ShloMosaic.TcCoe Idealize.SL Idealize.SL.Sem
open Idealize.ShloMosaic.Pipeline (Dat)
open Finset (range)

variable (m : (ℓ : Loc nD τ sig) → Buf (Elt Ideal) ℓ)

/-- The block indices of the windows at every grid point. -/
theorem idx : ∀ t : Fin cfg0.N, win0_0.index t = ![t.val, 0] ∧ win0_1.index t = ![t.val, 0] ∧ win0_2.index t = ![0, 0] ∧ win0_3.index t = ![0, 0, 0]
    ∧ win0_4.index t = ![0, 0] ∧ win0_5.index t = ![t.val, 0] ∧ win0_6.index t = ![0, 0, 0] ∧ win0_7.index t = ![0, 0, 0] ∧ win0_8.index t = ![0, 0] ∧ t.val < 32 :=
  (by decide +kernel : ∀ t : Fin grid0.N, _)

theorem bound (t : Fin cfg0.N) : t.val < 32 := (idx t).2.2.2.2.2.2.2.2.2

variable {c : Dev nD} {x d : ℕ → ℕ → ℝ} {g : ℕ → ℝ} {w : ℕ → ℕ → ℕ → ℝ} {β : ℕ → ℕ → ℝ}
  (hx : ∀ (a : Fin 8192) (b : Fin 1792), m ((c : Thread nD τ).loc main_arg0) (ix2 a b) = ((x a.val b.val : ℝ) : EReal))
  (hd : ∀ (a : Fin 8192) (b : Fin 1024), m ((c : Thread nD τ).loc main_arg1) (ix2 a b) = ((d a.val b.val : ℝ) : EReal))
  (hg : ∀ b : Fin 768, m ((c : Thread nD τ).loc main_arg2) (ix1 b) = ((g b.val : ℝ) : EReal))
  (hw : ∀ (a : Fin 6) (b e : Fin 128), m ((c : Thread nD τ).loc main_arg3) (ix3 a b e) = ((w a.val b.val e.val : ℝ) : EReal))
  (hb : ∀ (a : Fin 6) (b : Fin 128), m ((c : Thread nD τ).loc main_arg4) (ix2 a b) = ((β a.val b.val : ℝ) : EReal))

include hx in
theorem blk0 (t : Fin cfg0.N) (a : Fin 256) (b : Fin 1792) : iblk m c 0 t (ix2 a b) = ((x (256 * t.val + a.val) b.val : ℝ) : EReal) := by
  refine Eq.trans ?_ (hx ⟨256 * t.val + a.val, by have := bound t; omega⟩ b)
  blk_point [iblk, V, idx t]

include hd in
theorem blk1 (t : Fin cfg0.N) (a : Fin 256) (b : Fin 1024) : iblk m c 1 t (ix2 a b) = ((d (256 * t.val + a.val) b.val : ℝ) : EReal) := by
  have e : (V m c main_v3 : FVec Ideal S8192x1024 .bf16) = (truncf .bf16 (m ((c : Thread nD τ).loc main_arg1) : FVec Ideal S8192x1024 .f32) bitsLt_bf16_f32 : FVec Ideal S8192x1024 .bf16) := by
    unfold V
    after_results
  have e' (i : Fin 8192) : (V m c main_v3 : FVec Ideal S8192x1024 .bf16) (ix2 i b) = m ((c : Thread nD τ).loc main_arg1) (ix2 i b) := by
    rw [e]
    pointwise
  refine Eq.trans ?_ ((e' ⟨256 * t.val + a.val, by have := bound t; omega⟩).trans (hd _ b))
  blk_simp [iblk, idx t]
  refine congrArg (V m c main_v3) ?_
  blk_ext [idx t]

include hg in
theorem blk2 (t : Fin cfg0.N) (b : Fin 768) : iblk m c 2 t (ix2 0 b) = ((g b.val : ℝ) : EReal) := by
  have e : (V m c main_v4 : FVec Ideal S1x768 .f32) = shapeCast S1x768 (m ((c : Thread nD τ).loc main_arg2) : FVec Ideal S768 .f32) shapeCasts_S768_S1x768 := by
    unfold V
    after_results
    rfl
  have e' : (V m c main_v4 : FVec Ideal S1x768 .f32) (ix2 0 b) = m ((c : Thread nD τ).loc main_arg2) (ix1 b) := by
    rw [e]
    pointwise
  refine Eq.trans ?_ (e'.trans (hg b))
  blk_simp [iblk, idx t]
  refine congrArg (V m c main_v4) ?_
  blk_ext [idx t]

include hw in
theorem blk3 (t : Fin cfg0.N) (a : Fin 6) (b e : Fin 128) : iblk m c 3 t (ix3 a b e) = ((w a.val b.val e.val : ℝ) : EReal) := by
  refine Eq.trans ?_ (hw a b e)
  blk_point [iblk, V, idx t]

include hb in
theorem blk4 (t : Fin cfg0.N) (a : Fin 128) (b : Fin 768) : iblk m c 4 t (ix2 a b) = ((β (b.val / 128) a.val : ℝ) : EReal) := by
  have e : (V m c main_v2 : FVec Ideal S128x768 .f32) = shapeCast S128x768 (broadcastInDim S128x6x128 ![0, 1] bcast_S128x6_S128x6x128_0_1
      (transpose S128x6 [1, 0] (m ((c : Thread nD τ).loc main_arg4) : FVec Ideal S6x128 .f32) transposes_S6x128_S128x6_1_0)) shapeCasts_S128x6x128_S128x768 := by
    unfold V
    after_results
    rfl
  have e' : (V m c main_v2 : FVec Ideal S128x768 .f32) (ix2 a b) = m ((c : Thread nD τ).loc main_arg4) (ix2 ⟨b.val / 128, by omega⟩ a) := by
    rw [e]
    pointwise
  refine Eq.trans ?_ (e'.trans (hb _ a))
  blk_simp [iblk, idx t]
  refine congrArg (V m c main_v2) ?_
  blk_ext [idx t]

/-- What the last three results hold when point `n` begins. -/
def Holds (c : Dev nD) (x d : ℕ → ℕ → ℝ) (g : ℕ → ℝ) (w : ℕ → ℕ → ℕ → ℝ) (n : ℕ) (o : FVec Ideal S6x128x128 .f32 × FVec Ideal S6x128x128 .f32 × FVec Ideal S1x768 .f32) : Prop :=
  (∀ (γ : Fin 6) (a b : Fin 128), o.1 (ix3 γ a b) = ((if b.val < 64 ∨ 64 ≤ a.val then ∑ n ∈ range (2 * n), dwc x d g γ.val a.val b.val n else 0 : ℝ) : EReal)
    ∧ o.2.1 (ix3 γ a b) = ((∑ n ∈ range (2 * n), dbc x d γ.val a.val n : ℝ) : EReal))
  ∧ ∀ j : Fin 768, o.2.2 (ix2 0 j) = ((∑ i ∈ range (256 * n), dgc x d w j.val i : ℝ) : EReal)

include hx hd hg hw hb in
/-- A point adds its two chunks. -/
theorem point_adds (n : ℕ) (hn : n < cfg0.N) (h : Holds c x d g w n (kept m c ⟨n, hn⟩)) : Holds c x d g w (n + 1) (outsAt0 m c n hn).2 := by
  have hr := point_rows m (t := ⟨n, hn⟩) (x := fun a b => x (256 * n + a) b) (d := fun a b => d (256 * n + a) b) (bb := fun a j => β (j / 128) a) (blk0 m hx _) (blk1 m hd _) (blk2 m hg _) (blk3 m hw _) (blk4 m hb _)
  refine ⟨fun γ a b => ?_, fun j => (hr.2 j).trans ?_⟩
  · have hp := point_groups m (t := ⟨n, hn⟩) (x := fun a b => x (256 * n + a) b) (d := fun a b => d (256 * n + a) b) (bb := fun a j => β (j / 128) a) (blk0 m hx _) (blk1 m hd _) (blk2 m hg _) (blk3 m hw _) (blk4 m hb _) γ a b
    refine ⟨hp.1.trans ?_, hp.2.trans ?_⟩
    · rw [(h.1 γ a b).1, ← EReal.coe_add, dwc_from, dwc_from]
      split
      · rw [chunks_next n (dwc x d g γ.val a.val b.val)]
      · rw [add_zero]
    · rw [(h.1 γ a b).2, ← EReal.coe_add, dbc_from, dbc_from, chunks_next n (dbc x d γ.val a.val)]
  · rw [h.2 j, ← EReal.coe_add]
    exact congrArg _ (dgain_next x d w n j.val)

include hx hd hg hw hb in
theorem kept_is (n : ℕ) (hn : n < cfg0.N) : Holds c x d g w n (kept m c ⟨n, hn⟩) := by
  induction n with
  | zero =>
    rw [kept, if_pos (Nat.zero_mod _)]
    exact ⟨fun γ a b => ⟨by simp, by simp⟩, fun j => by simp⟩
  | succ n ih =>
    have := bound ⟨n + 1, hn⟩
    rw [kept, if_neg (by dsimp only at this ⊢; omega)]
    exact point_adds m hx hd hg hw hb n _ (ih _)

include hx hd hg hw hb in
/-- What the last point leaves. -/
theorem last_is (t : Fin cfg0.N) (h : t.val % 32 = 31) : Holds c x d g w 32 (outsAt0 m c t.val t.isLt).2 := by
  have := bound t
  have e : t.val + 1 = 32 := by omega
  exact e ▸ point_adds m hx hd hg hw hb t.val t.isLt (kept_is m hx hd hg hw hb _ _)

include hx hd hg hw hb in
/-- The gradient with respect to the rows, on the columns written. -/
theorem final_rows (i : Fin 8192) (j : Fin 1792) (hj : j.val < 1536) : ((dats m 0 c).arrAt 5 (cfgs 0).N : S8192x1792.Idx → EReal) (ix2 i j)
    = ((if j.val < 768 then dpu x d g w (fun a j => β (j / 128) a) i.val j.val else dpv x d g w i.val (j.val - 768) : ℝ) : EReal) := by
  refine ((dats m 0 c).arrAt_apply_of_coversWhere 5 (fun i : S8192x1792.Idx => ((if (i 1).val < 768 then dpu x d g w (fun a j => β (j / 128) a) (i 0).val (i 1).val
      else dpv x d g w (i 0).val ((i 1).val - 768) : ℝ) : EReal))
    (P := fun i : S8192x1792.Idx => (i 1).val / 1536 < 1) (fun β => β (1 : Fin 2) < 1) (by decide +kernel) (fun t hf y => ?_) (fun j => Iff.rfl) (ix2 i j)).trans (if_pos ?_)
  · blk_simp [idx t]
    rw [after0_5]
    refine ((point_rows m (t := t) (x := fun a b => x (256 * t.val + a) b) (d := fun a b => d (256 * t.val + a) b) (bb := fun a j => β (j / 128) a)
      (blk0 m hx _) (blk1 m hd _) (blk2 m hg _) (blk3 m hw _) (blk4 m hb _)).1 _).trans ?_
    rw [dpu_from, dpv_from, Nat.mul_comm 256 t.val]
  · show j.val / 1536 < 1
    omega

include hx hd hg hw hb in
/-- The weight's gradient. -/
theorem final_weight : (dats m 0 c).arrAt 6 (cfgs 0).N = Cert.GmlpRefIdeal.Read.val_main_v77 (F := Ideal) (m ((c : Thread nD τ).loc main_arg0)) (m ((c : Thread nD τ).loc main_arg1))
      (m ((c : Thread nD τ).loc main_arg2)) := by
  refine (dats m 0 c).arrAt_eq_of_covers 6 _ (by decide +kernel) fun t hf y => ?_
  have h := last_is m hx hd hg hw hb t ((flush0_6 t).mp hf)
  have e : (win0_6.blk t).view.emb y = ix3 (y 0) (y 1) (y 2) := by blk_ext [idx t]
  blk_simp
  rw [after0_6]
  exact (congrArg _ (eq_ix3 y)).trans ((h.1 (y 0) (y 1) (y 2)).1.trans ((congrArg _ e).trans (Cert.GmlpRefIdeal.Hand.ref_dw hx hd hg (y 0) (y 1) (y 2))).symm)

include hx hd hg hw hb in
/-- The bias's gradient. -/
theorem final_bias : (dats m 0 c).arrAt 7 (cfgs 0).N = Cert.GmlpRefIdeal.Read.val_main_v117 (F := Ideal) (m ((c : Thread nD τ).loc main_arg0)) (m ((c : Thread nD τ).loc main_arg1)) := by
  refine (dats m 0 c).arrAt_eq_of_covers 7 _ (by decide +kernel) fun t hf y => ?_
  have h := last_is m hx hd hg hw hb t ((flush0_7 t).mp hf)
  have e : (win0_7.blk t).view.emb y = ix3 (y 0) (y 1) (y 2) := by blk_ext [idx t]
  blk_simp
  rw [after0_7]
  exact (congrArg _ (eq_ix3 y)).trans ((h.1 (y 0) (y 1) (y 2)).2.trans ((congrArg _ e).trans (Cert.GmlpRefIdeal.Hand.ref_db hx hd (y 0) (y 1) (y 2))).symm)

include hx hd hg hw hb in
/-- The gain's gradient. -/
theorem final_gain : (dats m 0 c).arrAt 8 (cfgs 0).N = Cert.GmlpRefIdeal.Read.val_main_v118 (F := Ideal) (m ((c : Thread nD τ).loc main_arg0)) (m ((c : Thread nD τ).loc main_arg1))
      (m ((c : Thread nD τ).loc main_arg3)) := by
  refine (dats m 0 c).arrAt_eq_of_covers 8 _ (by decide +kernel) fun t hf y => ?_
  have h := last_is m hx hd hg hw hb t ((flush0_8 t).mp hf)
  have h0 : (y 0).val < 1 := (y 0).isLt
  have ey : y = ix2 0 (y 1) := by
    refine (eq_ix2 y).trans (congrArg (fun z => ix2 z (y 1)) ?_)
    exact Fin.ext (by show (y 0).val = 0; omega)
  have e : (win0_8.blk t).view.emb y = ix2 0 (y 1) := by blk_ext [idx t]
  blk_simp
  rw [after0_8]
  exact (congrArg _ ey).trans ((h.2 (y 1)).trans ((congrArg _ e).trans (Cert.GmlpRefIdeal.Hand.ref_dgain hx hd hw (y 1))).symm)

/-- The first column the mask drops. -/
theorem col_word {n : ℕ} (hn : n < 1792) (h : IntOp.cmpi .slt (BitVec.ofNat 32 n) 1536#32 = 1#1) : n < 1536 := by
  rw [WordCmp.cmpi_slt_ofNat (a := n) (b := 1536) (by omega) (by norm_num)] at h
  by_contra hc
  rw [decide_eq_false hc] at h
  exact absurd h (by decide)

/-- A column the mask keeps is one of the two halves'. -/
theorem shown [Cert.On_gmlp_written.Facts] {x0 : FVec Ideal S8192x1792 .f32} {x1 : FVec Ideal S8192x1024 .f32} {x2 : FVec Ideal S768 .f32} {x3 : FVec Ideal S6x128x128 .f32} {x4 : FVec Ideal S6x128 .f32}
    (i : S8192x1792.Idx) (h : (Cert.On_gmlp_written.fn (F := Ideal) x0 x1 x2 x3 x4).1 i = 1#1) : (i 1).val < 1536 :=
  col_word (i 1).isLt h

/-- Three-index arrays of real numbers. -/
theorem triple {x : FVec Ideal S6x128x128 .f32} (h : ∀ i, (((x i : EReal).toReal : ℝ) : EReal) = x i) :
    ∃ w : ℕ → ℕ → ℕ → ℝ, ∀ (a : Fin 6) (b e : Fin 128), x (ix3 a b e) = ((w a.val b.val e.val : ℝ) : EReal) :=
  ⟨fun a b e => if h : a < 6 ∧ b < 128 ∧ e < 128 then (x (ix3 ⟨a, h.1⟩ ⟨b, h.2.1⟩ ⟨e, h.2.2⟩) : EReal).toReal else 0, fun a b e => by
    dsimp only
    rw [dif_pos ⟨a.isLt, b.isLt, e.isLt⟩]
    exact (h _).symm⟩

end Cert.GmlpIdeal.Hand

end
-- ==== Proof.DownValue.lean ====
module

public import proofs.«01_k».proof.Proof.Gen.DownIdeal.Frame
public import proofs.«01_k».proof.Proof.Gen.DownRefIdeal.Run
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.DownIdeal.Hand

open Cert.DownIdeal Cert.DownIdeal.Gen

variable (m : (ℓ : Loc nD τ sig) → Buf (Elt Ideal) ℓ)

/-- Where the first `n` of a list of stores cover an index, the later ones of the list do not matter there. -/
theorem canon_take {S : Shape} {e : EltTy} {Val : EltTy → Type} [∀ e, Nonempty (Val e)] (y : S.Idx) (n : ℕ) (L : List (View.Piece Val S e))
    (h : ∃ p ∈ L.take n, y ∈ p.1.set) : View.canon L y = View.canon (L.take n) y := by
  induction L generalizing n with
  | nil => simp at h
  | cons p L ih =>
    cases n with
    | zero => simp at h
    | succ n =>
      rw [List.take_succ_cons] at h ⊢
      by_cases hy : y ∈ p.1.set
      · obtain ⟨r, w⟩ := p
        obtain ⟨x, rfl⟩ : ∃ x, r.emb x = y := r.exists_idx_of_mem hy
        rw [View.canon_cons_emb, View.canon_cons_emb]
      · rw [View.canon_cons_of_not_mem p L hy, View.canon_cons_of_not_mem p _ hy]
        obtain ⟨q, hq, hyq⟩ := h
        rcases List.mem_cons.mp hq with rfl | hq
        · exact absurd hyq hy
        · exact ih n ⟨q, hq, hyq⟩

/-- The gated hidden value at one entry: `silu g · u`. -/
def gated (g u : EReal) : EReal := g * Ideal.div 1 (1 + Ideal.exp (-g)) * u

/-- One block's contribution to entry `(a, n)` of the weight gradient. -/
def part (g u : FVec Ideal S512x1408 .bf16) (b : FVec Ideal S512x1024 .f32) (j : S1408x1024.Idx) : EReal :=
  ∑ k : Fin 512, gated (g (ix2 k (j 0))) (u (ix2 k (j 0))) * b (ix2 k (j 1))

set_option maxHeartbeats 1600000 in
/-- At the first point of a run the accumulator holds this block's contribution. -/
theorem acc_A (c : Dev nD) (t : Fin cfg0.N) (h0 : t.val % 16 = 0) (h1 : ¬ t.val % 16 = 15) (j : S1408x1024.Idx) :
    (outsAt0 m c t.val t.isLt).2 j = 0 + part (iblk m c 0 t) (iblk m c 1 t) (iblk m c 2 t) j := by
  rw [outsAt0_A m c t h0 h1]
  frame_out
  refine (canon_take j 11 _ ?_).trans ?_
  · exact View.cover_of_tiledL (s := S1408x1024) _ ![128, 1024] (by sl_kernel_rfl) j
  simp only [List.take_succ_cons, List.take_zero]
  canon_tiles x h
  all_goals try simp (discharger := decide) only [↓View.readCov_skip, ↓View.readCov_fill]
  all_goals (open_payloads; pointwise [part, gated, zero_sub])
  all_goals blk_point

set_option maxHeartbeats 1600000 in
/-- At every later point of a run the accumulator gains this block's contribution. -/
theorem acc_step (c : Dev nD) (t : Fin cfg0.N) (h0 : ¬ t.val % 16 = 0) (j : S1408x1024.Idx) :
    (outsAt0 m c t.val t.isLt).2 j = (outsAt0 m c (t.val - 1) (Nat.lt_of_le_of_lt (Nat.sub_le _ _) t.isLt)).2 j + part (iblk m c 0 t) (iblk m c 1 t) (iblk m c 2 t) j := by
  by_cases h1 : t.val % 16 = 15
  on_goal 1 => rw [outsAt0_C m c t h0 h1]
  on_goal 2 => rw [outsAt0_B m c t h0 h1]
  all_goals
    frame_out
    generalize (outsAt0 m c (t.val - 1) _).2 = acc
    canon_tiles x h
    all_goals simp only [read_unread_whole]
    all_goals (open_payloads; pointwise [part, gated, zero_sub])
    all_goals blk_point

/-- At the last point of a run the block written back is half of what the accumulator then holds. -/
theorem out_last (c : Dev nD) (t : Fin cfg0.N) (h0 : ¬ t.val % 16 = 0) (h1 : t.val % 16 = 15) (j : S1408x1024.Idx) :
    (outsAt0 m c t.val t.isLt).1 j = Ideal.ofBits .f32 0x3F000000#32 * (outsAt0 m c t.val t.isLt).2 j := by
  rw [outsAt0_C m c t h0 h1]
  frame_out
  rw [View.readCov_eq_canon_ld _ _ _ (View.cover_of_tiledL (s := S1408x1024) _ ![128, 1024] (by sl_kernel_rfl)), View.ld_unit_lit' _ _ (by decide)]
  pointwise [k0_pay3]

/-- The block indices of the four windows at every grid point. -/
theorem idx : ∀ t : Fin cfg0.N, win0_0.index t = ![t.val % 16, t.val / 16] ∧ win0_1.index t = ![t.val % 16, 2 + t.val / 16]
    ∧ win0_2.index t = ![t.val % 16, 0] ∧ win0_3.index t = ![t.val / 16, 0] ∧ t.val / 16 < 2 :=
  (by decide +kernel : ∀ t : Fin grid0.N, _)

/-- A finite nonnegative factor moves into a finite sum over the extended reals. -/
theorem half_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The weight gradient as the reference's host operations compute it from the three arrays. -/
def REF (G U : FVec Ideal Cert.DownRefIdeal.S8192x2816 .f32) (B : FVec Ideal Cert.DownRefIdeal.S8192x1024 .f32) : FVec Ideal Cert.DownRefIdeal.S2816x1024 .bf16 :=
  truncf .bf16 (transpose Cert.DownRefIdeal.S2816x1024 [1, 0] (Host.dotGeneral Cert.DownRefIdeal.dot_S8192x1024_S8192x2816_S1024x2816_0_0_1_1_n_n none (mulf (broadcastInDim Cert.DownRefIdeal.S8192x1024 ![] Cert.DownRefIdeal.Gen.bcast_S_S8192x1024 (constant Cert.DownRefIdeal.S_ .f32 0x3F000000#32)) B) (mulf (mulf G (Host.divf (broadcastInDim Cert.DownRefIdeal.S8192x2816 ![] Cert.DownRefIdeal.Gen.bcast_S_S8192x2816 (constant Cert.DownRefIdeal.S_ .f32 0x3F800000#32)) (addf (broadcastInDim Cert.DownRefIdeal.S8192x2816 ![] Cert.DownRefIdeal.Gen.bcast_S_S8192x2816 (constant Cert.DownRefIdeal.S_ .f32 0x3F800000#32)) (Host.exp (Host.negf G))))) U)) Cert.DownRefIdeal.Gen.transposes_S1024x2816_S2816x1024_1_0) Cert.DownRefIdeal.Gen.bitsLt_bf16_f32

/-- The reference's term at an entry. -/
theorem ref_at (G U : FVec Ideal Cert.DownRefIdeal.S8192x2816 .f32) (B : FVec Ideal Cert.DownRefIdeal.S8192x1024 .f32) (i : Cert.DownRefIdeal.S2816x1024.Idx) :
    REF G U B i = ∑ k : Fin 8192, Ideal.ofBits .f32 0x3F000000#32 * (gated (G (ix2 k (i 0))) (U (ix2 k (i 0))) * B (ix2 k (i 1))) := by
  pointwise [REF, gated]
  refine Finset.sum_congr rfl fun k _ => ?_
  rw [mul_assoc, mul_comm (B _)]

/-- The word of one half is the real number one half. -/
theorem half : Ideal.ofBits .f32 0x3F000000#32 = (((1 : ℝ) / 2 : ℝ) : EReal) := by
  simp [Ideal.ofBits, Ideal.ieee, -EReal.coe_mul]; norm_num

set_option maxHeartbeats 1600000 in
/-- The array the kernel's calls write is the reference's weight gradient. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_last m c t (by have := (flush0_3 t).mp hf; omega) ((flush0_3 t).mp hf), Pipeline.eq_sum_fin_of_reset_step_apply_of_flush (fun n h => (outsAt0 m c n h).2) 16 (fun _ => 0) _
    (fun t h j => by rw [acc_A m c t h (by omega)]) (fun t h j => by rw [acc_step m c t h])
    t ((flush0_3 t).mp hf) _, zero_add, ref_at, half, half_mul_sum _ _ (by norm_num)]
  simp only [part, half_mul_sum _ _ (show (0 : ℝ) ≤ 1 / 2 by norm_num)]
  refine Fin.sum_mul_add_congr fun s k hl => ?_
  have hs := idx ⟨_, Pipeline.run_point_lt_of_flush t ((flush0_3 t).mp hf) s⟩
  have ht := idx t
  have hm : (16 * (t.val / 16) + s.val) % 16 = s.val := by omega
  have hd : (16 * (t.val / 16) + s.val) / 16 = t.val / 16 := by omega
  have hy : (y 0).val < 1408 := (y 0).isLt
  congr 3
  · blk_simp [iblk, idx t, hs]
    entry_read
    pointwise
    split
    · blk_ext [idx t, hs, hm, hd]
    · rename_i hn
      exfalso; apply hn; blk_simp [idx t, hs, hm, hd]; omega
  · blk_simp [iblk, idx t, hs]
    entry_read
    pointwise
    split
    · rename_i hn
      exfalso; revert hn; blk_simp [idx t, hs, hm, hd]; omega
    · blk_ext [idx t, hs, hm, hd]
  · blk_point [iblk, V, idx t, hs, hm, hd]

end Cert.DownIdeal.Hand

end
-- ==== Proof.OtherClaims.lean ====
/- The claims of the gradients of the memory attention, of the loss and of the spatial gating, and of the down weight. -/
module

public import proofs.«01_k».proof.Defs
public import proofs.«01_k».proof.Proof.Gen.Memo.Frame
public import proofs.«01_k».proof.Proof.Gen.MemoIdeal.Frame
public import proofs.«01_k».proof.Proof.Gen.MemoRefIdeal.Run
public import proofs.«01_k».proof.Proof.MemoValue
public import proofs.«01_k».proof.Proof.MemoRead
public import proofs.«01_k».proof.Proof.Gen.Pre_memo_finite
public import proofs.«01_k».proof.Proof.Gen.Memb.Frame
public import proofs.«01_k».proof.Proof.Gen.MembIdeal.Frame
public import proofs.«01_k».proof.Proof.Gen.MembRefIdeal.Run
public import proofs.«01_k».proof.Proof.MembValue
public import proofs.«01_k».proof.Proof.MembRead
public import proofs.«01_k».proof.Proof.Gen.Pre_memb_finite
public import proofs.«01_k».proof.Proof.Gen.Loss.Frame
public import proofs.«01_k».proof.Proof.Gen.LossIdeal.Frame
public import proofs.«01_k».proof.Proof.Gen.LossRefIdeal.Run
public import proofs.«01_k».proof.Proof.LossValue
public import proofs.«01_k».proof.Proof.Gen.Pre_loss_finite
public import proofs.«01_k».proof.Proof.Gen.Gmlp.Frame
public import proofs.«01_k».proof.Proof.Gen.GmlpIdeal.Frame
public import proofs.«01_k».proof.Proof.Gen.GmlpIdeal.Value
public import proofs.«01_k».proof.Proof.Gen.GmlpRefIdeal.Run
public import proofs.«01_k».proof.Proof.GmlpFinal
public import proofs.«01_k».proof.Proof.Gen.Pre_gmlp_finite
public import proofs.«01_k».proof.Proof.Gen.On_gmlp_written
public import proofs.«01_k».proof.Proof.Gen.Down.Frame
public import proofs.«01_k».proof.Proof.Gen.DownIdeal.Value
public import proofs.«01_k».proof.Proof.Gen.DownRefIdeal.Run
public import proofs.«01_k».proof.Proof.DownValue
public import Idealize.ShloMosaic.Adequacy
public import Idealize.ShloMosaic.Lib.Quiescent
public import Idealize.ShloMosaic.Lib.Tactic.ValueTie
public import Idealize.ShloMosaic.Init

@[expose] public section

set_option maxRecDepth 16384

noncomputable section

namespace Cert.Proof

open Idealize.ShloMosaic Idealize.SL.Sem

theorem frame_Memo : quiescent_Memo := fun m ρ _ => Cert.Memo.Gen.frame m ρ
theorem frame_MemoIdeal : quiescent_MemoIdeal := fun m ρ _ => Cert.MemoIdeal.Gen.frame m ρ
theorem frame_MemoRefIdeal : quiescent_MemoRefIdeal := fun m ρ _ =>
  (θ_run Cert.MemoRefIdeal.defs _ _).mono (fun r h => ⟨fun c => (h c).2.2.2, sem_eq_zero_of_no_sems (by decide) r.2⟩)
    (Cert.MemoRefIdeal.Value.run (F := Ideal) m ρ)

open Cert.Pre_memo_finite Cert.Pre_memo_finite.Gen Cert.Tiles in
/-- The call computes the gradients of the queries, the keys and the values. -/
theorem algebraic_Memo : algebraic_MemoIdeal_MemoRefIdeal_pre_memo_finite := by
  intro m ρ m' ρ' hpre hagree
  refine ⟨_, _, _, Cert.MemoIdeal.Hand.run_read m ρ, ?_⟩
  refine (θ_run Cert.MemoRefIdeal.defs _ _).mono (fun _ h c => ?_) (Cert.MemoRefIdeal.Value.run (F := Ideal) m' ρ')
  obtain ⟨a0, a1, a2, a3⟩ := hagree c
  have e := congrFun (hpre c) (fun a => a.elim0)
  obtain ⟨e, e2⟩ := IntOp.andi_eq_one.mp e
  obtain ⟨e0, e1⟩ := IntOp.andi_eq_one.mp e
  have r0 := reals_is (real_of_all _ _ (fun _ => rfl) _ _ _ _ e0)
  have r1 := reals_is (real_of_all _ _ (fun _ => rfl) _ _ _ _ e1)
  have r2 := reals_is (real_of_all _ _ (fun _ => rfl) _ _ _ _ e2)
  obtain ⟨q, hq⟩ : ∃ q : ℕ → ℕ → ℝ, ∀ (i : Fin 8192) (d : Fin 256), m (c.tc.loc Cert.MemoIdeal.main_arg0) (ix2 i ⟨1536 + d.val, Nat.add_lt_add_left d.isLt 1536⟩) = ((q i d : ℝ) : EReal) :=
    ⟨fun i d => reals (m (c.tc.loc Cert.MemoIdeal.main_arg0)) i (1536 + d), fun i d => r0 i ⟨1536 + d.val, Nat.add_lt_add_left d.isLt 1536⟩⟩
  obtain ⟨k, hk⟩ : ∃ k : ℕ → ℕ → ℝ, ∀ (i : Fin 256) (d : Fin 256), m (c.tc.loc Cert.MemoIdeal.main_arg1) (ix2 i ⟨d.val, Nat.lt_of_lt_of_le d.isLt (Nat.le_of_ble_eq_true rfl)⟩) = ((k i d : ℝ) : EReal) :=
    ⟨fun i d => reals (m (c.tc.loc Cert.MemoIdeal.main_arg1)) i (d), fun i d => r1 i ⟨d.val, Nat.lt_of_lt_of_le d.isLt (Nat.le_of_ble_eq_true rfl)⟩⟩
  obtain ⟨v, hv⟩ : ∃ v : ℕ → ℕ → ℝ, ∀ (i : Fin 256) (d : Fin 256), m (c.tc.loc Cert.MemoIdeal.main_arg1) (ix2 i ⟨256 + d.val, Nat.lt_of_lt_of_le (Nat.add_lt_add_left d.isLt 256) (Nat.le_of_ble_eq_true rfl)⟩) = ((v i d : ℝ) : EReal) :=
    ⟨fun i d => reals (m (c.tc.loc Cert.MemoIdeal.main_arg1)) i (256 + d), fun i d => r1 i ⟨256 + d.val, Nat.lt_of_lt_of_le (Nat.add_lt_add_left d.isLt 256) (Nat.le_of_ble_eq_true rfl)⟩⟩
  obtain ⟨g, hg⟩ : ∃ g : ℕ → ℕ → ℝ, ∀ (i : Fin 8192) (d : Fin 256), m (c.tc.loc Cert.MemoIdeal.main_arg2) (ix2 i ⟨768 + d.val, Nat.add_lt_add_left d.isLt 768⟩) = ((g i d : ℝ) : EReal) :=
    ⟨fun i d => reals (m (c.tc.loc Cert.MemoIdeal.main_arg2)) i (768 + d), fun i d => r2 i ⟨768 + d.val, Nat.add_lt_add_left d.isLt 768⟩⟩
  refine ⟨((h c).1.trans ((Cert.MemoRefIdeal.Read.val_main_v78_eq m' c).trans ?_)).trans (Cert.MemoIdeal.Hand.final_rows m hq hk hv hg).symm,
    ((h c).2.1.trans ((Cert.MemoRefIdeal.Read.val_main_v79_eq m' c).trans ?_)).trans (Cert.MemoIdeal.Hand.final_keys m hq hk hv hg).symm,
    ((h c).2.2.1.trans ((Cert.MemoRefIdeal.Read.val_main_v80_eq m' c).trans ?_)).trans (Cert.MemoIdeal.Hand.final_values m hq hk hg hv).symm, (h c).2.2.2⟩
  · rw [a0, a1, a2, a3]
    exact Cert.MemoRefIdeal.Hand.ref_rows hq hk hv hg _
  · rw [a0, a1, a2]
    exact funext fun i => (congrArg _ (eq_ix2 i)).trans (Cert.MemoRefIdeal.Hand.ref_keys hq hk hv hg (i 0) (i 1))
  · rw [a0, a1, a2]
    exact funext fun i => (congrArg _ (eq_ix2 i)).trans (Cert.MemoRefIdeal.Hand.ref_values hq hk hg (i 0) (i 1))

theorem frame_Memb : quiescent_Memb := fun m ρ _ => Cert.Memb.Gen.frame m ρ
theorem frame_MembIdeal : quiescent_MembIdeal := fun m ρ _ => Cert.MembIdeal.Gen.frame m ρ
theorem frame_MembRefIdeal : quiescent_MembRefIdeal := fun m ρ _ =>
  (θ_run Cert.MembRefIdeal.defs _ _).mono (fun r h => ⟨fun c => (h c).2.2.2, sem_eq_zero_of_no_sems (by decide) r.2⟩)
    (Cert.MembRefIdeal.Value.run (F := Ideal) m ρ)

open Cert.Pre_memb_finite Cert.Pre_memb_finite.Gen Cert.Tiles in
/-- The call computes the gradients of the queries, the keys and the values, in the other kind of layer. -/
theorem algebraic_Memb : algebraic_MembIdeal_MembRefIdeal_pre_memb_finite := by
  intro m ρ m' ρ' hpre hagree
  refine ⟨_, _, _, Cert.MembIdeal.Hand.run_read m ρ, ?_⟩
  refine (θ_run Cert.MembRefIdeal.defs _ _).mono (fun _ h c => ?_) (Cert.MembRefIdeal.Value.run (F := Ideal) m' ρ')
  obtain ⟨a0, a1, a2, a3⟩ := hagree c
  have e := congrFun (hpre c) (fun a => a.elim0)
  obtain ⟨e, e2⟩ := IntOp.andi_eq_one.mp e
  obtain ⟨e0, e1⟩ := IntOp.andi_eq_one.mp e
  have r0 := reals_is (real_of_all _ _ (fun _ => rfl) _ _ _ _ e0)
  have r1 := reals_is (real_of_all _ _ (fun _ => rfl) _ _ _ _ e1)
  have r2 := reals_is (real_of_all _ _ (fun _ => rfl) _ _ _ _ e2)
  obtain ⟨q, hq⟩ : ∃ q : ℕ → ℕ → ℝ, ∀ (i : Fin 8192) (d : Fin 256), m (c.tc.loc Cert.MembIdeal.main_arg0) (ix2 i ⟨768 + d.val, Nat.add_lt_add_left d.isLt 768⟩) = ((q i d : ℝ) : EReal) :=
    ⟨fun i d => reals (m (c.tc.loc Cert.MembIdeal.main_arg0)) i (768 + d), fun i d => r0 i ⟨768 + d.val, Nat.add_lt_add_left d.isLt 768⟩⟩
  obtain ⟨k, hk⟩ : ∃ k : ℕ → ℕ → ℝ, ∀ (i : Fin 256) (d : Fin 256), m (c.tc.loc Cert.MembIdeal.main_arg1) (ix2 i ⟨1024 + d.val, Nat.lt_of_lt_of_le (Nat.add_lt_add_left d.isLt 1024) (Nat.le_of_ble_eq_true rfl)⟩) = ((k i d : ℝ) : EReal) :=
    ⟨fun i d => reals (m (c.tc.loc Cert.MembIdeal.main_arg1)) i (1024 + d), fun i d => r1 i ⟨1024 + d.val, Nat.lt_of_lt_of_le (Nat.add_lt_add_left d.isLt 1024) (Nat.le_of_ble_eq_true rfl)⟩⟩
  obtain ⟨v, hv⟩ : ∃ v : ℕ → ℕ → ℝ, ∀ (i : Fin 256) (d : Fin 256), m (c.tc.loc Cert.MembIdeal.main_arg1) (ix2 i ⟨1280 + d.val, Nat.lt_of_lt_of_le (Nat.add_lt_add_left d.isLt 1280) (Nat.le_of_ble_eq_true rfl)⟩) = ((v i d : ℝ) : EReal) :=
    ⟨fun i d => reals (m (c.tc.loc Cert.MembIdeal.main_arg1)) i (1280 + d), fun i d => r1 i ⟨1280 + d.val, Nat.lt_of_lt_of_le (Nat.add_lt_add_left d.isLt 1280) (Nat.le_of_ble_eq_true rfl)⟩⟩
  obtain ⟨g, hg⟩ : ∃ g : ℕ → ℕ → ℝ, ∀ (i : Fin 8192) (d : Fin 256), m (c.tc.loc Cert.MembIdeal.main_arg2) (ix2 i ⟨768 + d.val, Nat.add_lt_add_left d.isLt 768⟩) = ((g i d : ℝ) : EReal) :=
    ⟨fun i d => reals (m (c.tc.loc Cert.MembIdeal.main_arg2)) i (768 + d), fun i d => r2 i ⟨768 + d.val, Nat.add_lt_add_left d.isLt 768⟩⟩
  refine ⟨((h c).1.trans ((Cert.MembRefIdeal.Read.val_main_v78_eq m' c).trans ?_)).trans (Cert.MembIdeal.Hand.final_rows m hq hk hv hg).symm,
    ((h c).2.1.trans ((Cert.MembRefIdeal.Read.val_main_v79_eq m' c).trans ?_)).trans (Cert.MembIdeal.Hand.final_keys m hq hk hv hg).symm,
    ((h c).2.2.1.trans ((Cert.MembRefIdeal.Read.val_main_v80_eq m' c).trans ?_)).trans (Cert.MembIdeal.Hand.final_values m hq hk hg hv).symm, (h c).2.2.2⟩
  · rw [a0, a1, a2, a3]
    exact Cert.MembRefIdeal.Hand.ref_rows hq hk hv hg _
  · rw [a0, a1, a2]
    exact funext fun i => (congrArg _ (eq_ix2 i)).trans (Cert.MembRefIdeal.Hand.ref_keys hq hk hv hg (i 0) (i 1))
  · rw [a0, a1, a2]
    exact funext fun i => (congrArg _ (eq_ix2 i)).trans (Cert.MembRefIdeal.Hand.ref_values hq hk hg (i 0) (i 1))

theorem frame_Loss : quiescent_Loss := fun m ρ _ => Cert.Loss.Gen.frame m ρ
theorem frame_LossIdeal : quiescent_LossIdeal := fun m ρ _ => Cert.LossIdeal.Gen.frame m ρ
theorem frame_LossRefIdeal : quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

open Cert.Pre_loss_finite Cert.Pre_loss_finite.Gen Cert.Tiles in
/-- The call computes the loss and the gradients of the rows and of the gain. -/
theorem algebraic_Loss : algebraic_LossIdeal_LossRefIdeal_pre_loss_finite := by
  intro m ρ m' ρ' hpre hagree
  refine ⟨_, _, _, Cert.LossIdeal.Hand.run m ρ, ?_⟩
  refine (θ_run Cert.LossRefIdeal.defs _ _).mono (fun _ h c => ?_) (Cert.LossRefIdeal.Value.run (F := Ideal) m' ρ')
  obtain ⟨a0, a1, a2⟩ := hagree c
  have e := congrFun (hpre c) (fun a => a.elim0)
  obtain ⟨e, e2⟩ := IntOp.andi_eq_one.mp e
  obtain ⟨e0, e1⟩ := IntOp.andi_eq_one.mp e
  have r0 := reals_is (real_of_all _ _ (fun _ => rfl) _ _ _ _ e0)
  have r1 := row_is (real_of_all _ _ (fun _ => rfl) _ _ _ _ e1)
  have r2 := reals_is (real_of_all _ _ (fun _ => rfl) _ _ _ _ e2)
  refine ⟨((h c).1.trans ((Cert.LossRefIdeal.Read.val_main_v24_eq _ _ _).trans ?_)).trans (Cert.LossIdeal.Hand.final_loss m r0 r1 r2).symm,
    ((h c).2.1.trans ((Cert.LossRefIdeal.Read.val_main_v50_eq m' c).trans ?_)).trans (Cert.LossIdeal.Hand.final_rows m r0 r1 r2).symm,
    ((h c).2.2.1.trans ((Cert.LossRefIdeal.Read.val_main_v51_eq _ _ _).trans ?_)).trans (Cert.LossIdeal.Hand.final_gain m r0 r1 r2).symm, (h c).2.2.2⟩ <;> rw [a0, a1, a2]

theorem frame_Gmlp : quiescent_Gmlp := fun m ρ _ => Cert.Gmlp.Gen.frame m ρ
theorem frame_GmlpIdeal : quiescent_GmlpIdeal := fun m ρ _ => Cert.GmlpIdeal.Gen.frame m ρ
theorem frame_GmlpRefIdeal : quiescent_GmlpRefIdeal := fun m ρ _ =>
  (θ_run Cert.GmlpRefIdeal.defs _ _).mono (fun r h => ⟨fun c => (h c).2.2.2.2, sem_eq_zero_of_no_sems (by decide) r.2⟩)
    (Cert.GmlpRefIdeal.Value.run (F := Ideal) m ρ)

/-- The idealised program differs in two constants of the gelu, named with their exact values. -/
theorem preserves_Gmlp : preserves_Gmlp_GmlpIdeal :=
  ⟨IdealRules.named_const.statement Cert.GmlpIdeal.κ "gelu_a" .f32 0x3D372713#32 ((8943 / 200000 : ℝ) : EReal) rfl,
    IdealRules.named_const.statement Cert.GmlpIdeal.κ "gelu_3a" .f32 0x3E095D4F#32 ((26829 / 200000 : ℝ) : EReal) rfl⟩

set_option maxHeartbeats 4000000 in
open Cert.Pre_gmlp_finite Cert.Pre_gmlp_finite.Gen Cert.Tiles in
/-- The call computes the gradients of the projected rows, of the gain, of the weights and of the bias. -/
theorem algebraic_Gmlp : algebraic_GmlpIdeal_GmlpRefIdeal_on_gmlp_written_pre_gmlp_finite := by
  intro m ρ m' ρ' hpre hagree
  refine ⟨fun c => (Cert.GmlpIdeal.Gen.dats m 0 c).arrAt 5 Cert.GmlpIdeal.cfg0.N, fun c => (Cert.GmlpIdeal.Gen.dats m 0 c).arrAt 6 Cert.GmlpIdeal.cfg0.N,
    fun c => (Cert.GmlpIdeal.Gen.dats m 0 c).arrAt 7 Cert.GmlpIdeal.cfg0.N, fun c => (Cert.GmlpIdeal.Gen.dats m 0 c).arrAt 8 Cert.GmlpIdeal.cfg0.N,
    (θ_run Cert.GmlpIdeal.defs _ _).mono (fun _ h c => ⟨fun i _ => congrFun (h c).1 i, fun i _ => congrFun (h c).2.1 i, fun i _ => congrFun (h c).2.2.1 i,
      fun i _ => congrFun (h c).2.2.2.1 i, (h c).2.2.2.2⟩) (Cert.GmlpIdeal.Value.run_blocks m ρ), ?_⟩
  refine (θ_run Cert.GmlpRefIdeal.defs _ _).mono (fun _ h c => ?_) (Cert.GmlpRefIdeal.Value.run (F := Ideal) m' ρ')
  obtain ⟨a0, a1, a2, a3, a4⟩ := hagree c
  have e := congrFun (hpre c) (fun a => a.elim0)
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  have hx := reals_is (real_of_all _ _ (fun _ => rfl) _ _ _ _ e0)
  have hd := reals_is (real_of_all _ _ (fun _ => rfl) _ _ _ _ e1)
  have hg := row_is (real_of_all _ _ (fun _ => rfl) _ _ _ _ e2)
  obtain ⟨w, hw⟩ := Cert.GmlpIdeal.Hand.triple (real_of_all _ _ (fun _ => rfl) _ _ _ _ e3)
  have hb := reals_is (real_of_all _ _ (fun _ => rfl) _ _ _ _ e4)
  refine ⟨fun i hi => (congrFun ((h c).1.trans (Cert.GmlpRefIdeal.Read.val_main_v115_eq _)) i).trans ?_,
    fun i _ => congrFun (((h c).2.1.trans ((Cert.GmlpRefIdeal.Read.val_main_v77_eq _).trans ?_)).trans (Cert.GmlpIdeal.Hand.final_weight m hx hd hg hw hb).symm) i,
    fun i _ => congrFun (((h c).2.2.1.trans ((Cert.GmlpRefIdeal.Read.val_main_v117_eq _).trans ?_)).trans (Cert.GmlpIdeal.Hand.final_bias m hx hd hg hw hb).symm) i,
    fun i _ => congrFun (((h c).2.2.2.1.trans ((Cert.GmlpRefIdeal.Read.val_main_v118_eq _).trans ?_)).trans (Cert.GmlpIdeal.Hand.final_gain m hx hd hg hw hb).symm) i, (h c).2.2.2.2⟩
  · have hi := Cert.GmlpIdeal.Hand.shown i hi
    refine Eq.trans ?_ (((congrArg _ (eq_ix2 i)).trans (Cert.GmlpIdeal.Hand.final_rows m hx hd hg hw hb (i 0) (i 1) hi)).symm)
    refine (congrArg _ (eq_ix2 i)).trans (Eq.trans ?_ (Cert.GmlpRefIdeal.Hand.ref_rows hx hd hg hw hb (i 0) (i 1) hi))
    rw [← a0, ← a1, ← a2, ← a3, ← a4]
  · rw [← a0, ← a1, ← a2]
  · rw [← a0, ← a1]
  · rw [← a0, ← a1, ← a3]

theorem frame_Down : quiescent_Down := fun m ρ _ => Cert.Down.Gen.frame m ρ
theorem frame_DownIdeal : quiescent_DownIdeal := fun m ρ _ => Cert.DownIdeal.Gen.frame m ρ
theorem frame_DownRefIdeal : quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The call computes the weight's gradient. -/
theorem algebraic_Down : algebraic_DownIdeal_DownRefIdeal := by
  intro m ρ m' ρ' _ hagree
  refine ⟨_, Cert.DownIdeal.Value.run_blocks (F := Ideal) m ρ, ?_⟩
  refine (θ_run Cert.DownRefIdeal.defs _ _).mono (fun _ h c => ⟨?_, (h c).2⟩) (Cert.DownRefIdeal.Value.run (F := Ideal) m' ρ')
  rw [(h c).1]
  simp only [hagree c]
  exact (Cert.DownIdeal.Hand.final m c).symm

end Cert.Proof

end
-- ==== Proof.NmmValue.lean ====
/- The value of the forward products of normed rows: each row divided by its root mean square, times the gain, times the two weights. -/
module

public import proofs.«01_k».proof.Proof.Gen.NmmIdeal.Value
public import proofs.«01_k».proof.Proof.Gen.NmmRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.NmmIdeal.Hand

open Cert.NmmIdeal Cert.NmmIdeal.Gen

variable (m : (ℓ : Loc nD τ sig) → Buf (Elt Ideal) ℓ)

/-- A row divided by its root mean square, times the gain, at one entry. -/
def normedAt (x g : Fin 1024 → EReal) (k : Fin 1024) : EReal :=
  x k * Ideal.rsqrt (Ideal.div (∑ l, x l * x l) (Ideal.ofBits .f32 0x44800000#32) + Ideal.ofBits .f32 0x358637BD#32) * g k

/-- The first point of a row block normalises the rows into the scratch buffer. -/
theorem hidden_A (c : Dev nD) (t : Fin cfg0.N) (h0 : t.val % 4 = 0) (a k : Fin 1024) :
    (outsAt0 m c t.val t.isLt).2 (ix2 a k) = normedAt (fun l => (iblk m c 0 t : FVec Ideal S1024x1024 .f32) (ix2 a l)) (fun l => (iblk m c 1 t : FVec Ideal S1x1024 .f32) (ix2 0 l)) k := by
  rw [outsAt0_A m c t h0]
  frame_out
  open_payloads
  pointwise [normedAt]

/-- The later points keep it. -/
theorem hidden_B (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  try rfl

/-- Every point multiplies the scratch buffer with its block of the weights. -/
theorem out_at (c : Dev nD) (t : Fin cfg0.N) (a : Fin 1024) (b : Fin 1408) :
    (outsAt0 m c t.val t.isLt).1 (ix2 a b) = ∑ k : Fin 1024, (outsAt0 m c t.val t.isLt).2 (ix2 a k) * (iblk m c 2 t : FVec Ideal S1408x1024 .bf16) (ix2 b k) := by
  by_cases h0 : t.val % 4 = 0
  · rw [outsAt0_A m c t h0]
    frame_out
    open_payloads
    pointwise
  · rw [outsAt0_B m c t h0]
    frame_out
    generalize (outsAt0 m c (t.val - 1) _).2 = acc
    open_payloads
    unfold sout0_B_0
    pointwise [read_unread_whole]

/-- The block indices of the four windows at every grid point. -/
theorem idx : ∀ t : Fin cfg0.N, win0_0.index t = ![t.val / 4, 0] ∧ win0_1.index t = ![0, 0] ∧ win0_2.index t = ![t.val % 4, 0] ∧ win0_3.index t = ![t.val / 4, t.val % 4] :=
  (by decide +kernel : ∀ t : Fin grid0.N, _)

/-- The two weights, transposed, one above the other, as the region finds them. -/
theorem packed (c : Dev nD) : (V m c main_v3 : FVec Ideal S5632x1024 .bf16)
    = (truncf .bf16 (concatenate S5632x1024 0 [⟨S2816x1024, transpose S2816x1024 [1, 0] (m (c.tc.loc main_arg2) : FVec Ideal S1024x2816 .f32) transposes_S1024x2816_S2816x1024_1_0⟩,
      ⟨S2816x1024, transpose S2816x1024 [1, 0] (m (c.tc.loc main_arg3) : FVec Ideal S1024x2816 .f32) transposes_S1024x2816_S2816x1024_1_0⟩] concatenates_S2816x1024_S2816x1024_S5632x1024_d0 : FVec Ideal S5632x1024 .f32)
      bitsLt_bf16_f32 : FVec Ideal S5632x1024 .bf16) := by
  unfold V; after_results

/-- The gain as the region finds it. -/
theorem gain (c : Dev nD) : (V m c main_v4 : FVec Ideal S1x1024 .f32) = (shapeCast S1x1024 (m (c.tc.loc main_arg1) : FVec Ideal S1024 .f32) shapeCasts_S1024_S1x1024 : FVec Ideal S1x1024 .f32) := by
  unfold V; after_results; rfl

theorem gain_at (c : Dev nD) (k : Fin 1024) : (V m c main_v4 : FVec Ideal S1x1024 .f32) (ix2 0 k) = (m (c.tc.loc main_arg1) : FVec Ideal S1024 .f32) (ix1 k) := by
  rw [gain]
  pointwise

theorem weight_at (c : Dev nD) (j : Fin 5632) (k : Fin 1024) : (V m c main_v3 : FVec Ideal S5632x1024 .bf16) (ix2 j k)
    = if h : j.val < 2816 then (m (c.tc.loc main_arg2) : FVec Ideal S1024x2816 .f32) (ix2 k ⟨j.val, h⟩) else (m (c.tc.loc main_arg3) : FVec Ideal S1024x2816 .f32) (ix2 k ⟨j.val - 2816, by have := j.isLt; omega⟩) := by
  rw [packed]
  pointwise

/-- What the scratch buffer holds after every point of a row block. -/
theorem hidden (c : Dev nD) (n : ℕ) : ∀ (h : n < cfg0.N) (a k : Fin 1024) (hr : 1024 * (n / 4) + a.val < 8192), (outsAt0 m c n h).2 (ix2 a k)
    = normedAt (fun l => (m (c.tc.loc main_arg0) : FVec Ideal S8192x1024 .f32) (ix2 ⟨1024 * (n / 4) + a.val, hr⟩ l)) (fun l => (m (c.tc.loc main_arg1) : FVec Ideal S1024 .f32) (ix1 l)) k := by
  have first (t : Fin cfg0.N) (h0 : t.val % 4 = 0) (a k : Fin 1024) (hr : 1024 * (t.val / 4) + a.val < 8192) : (outsAt0 m c t.val t.isLt).2 (ix2 a k)
      = normedAt (fun l => (m (c.tc.loc main_arg0) : FVec Ideal S8192x1024 .f32) (ix2 ⟨1024 * (t.val / 4) + a.val, hr⟩ l)) (fun l => (m (c.tc.loc main_arg1) : FVec Ideal S1024 .f32) (ix1 l)) k := by
    refine (hidden_A m c t h0 a k).trans (congrArg₂ (fun x g => normedAt x g k) (funext fun l => ?_) (funext fun l => ?_))
    · blk_point [iblk, V, idx t]
    · refine Eq.trans ?_ (gain_at m c l)
      blk_simp [iblk, idx t]; refine congrArg (V m c main_v4) ?_; blk_ext [idx t]
  induction n with
  | zero => exact fun h a k hr => first ⟨0, h⟩ rfl a k hr
  | succ n ih =>
    intro h a k hr
    by_cases h0 : (n + 1) % 4 = 0
    · exact first ⟨n + 1, h⟩ h0 a k hr
    · have e : (n + 1) / 4 = n / 4 := by omega
      refine (congrFun (hidden_B m c ⟨n + 1, h⟩ h0) _).trans ((ih (by omega) a k (by omega)).trans ?_)
      simp only [e]

theorem ref_at (x0 : FVec Ideal S8192x1024 .f32) (x1 : FVec Ideal S1024 .f32) (x2 x3 : FVec Ideal S1024x2816 .f32) (i : Fin 8192) (j : Fin 5632) :
    Cert.NmmRefIdeal.Read.val_main_v16 (F := Ideal) x0 x1 x2 x3 (ix2 i j) = ∑ k : Fin 1024, normedAt (fun l => x0 (ix2 i l)) (fun l => x1 (ix1 l)) k
      * (if h : j.val < 2816 then x2 (ix2 k ⟨j.val, h⟩) else x3 (ix2 k ⟨j.val - 2816, by have := j.isLt; omega⟩)) := by
  open Cert.NmmRefIdeal.Read in
  pointwise [val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  split
  all_goals rfl

/-- The array the calls write is the reference's. -/
theorem final (c : Dev nD) : (dats m 0 c).arrAt 3 cfg0.N = Cert.NmmRefIdeal.Read.val_main_v16 (F := Ideal) (m (c.tc.loc main_arg0)) (m (c.tc.loc main_arg1)) (m (c.tc.loc main_arg2)) (m (c.tc.loc main_arg3)) := by
  refine (dats m 0 c).arrAt_eq_of_covers 3 _ (by decide +kernel) fun t hf y => ?_
  have ht : t.val < 32 := t.isLt
  have y0 : (y 0).val < 1024 := (y 0).isLt
  have y1 : (y 1).val < 1408 := (y 1).isLt
  have e : (win0_3.blk t).view.emb y = ix2 ⟨1024 * (t.val / 4) + (y 0).val, by omega⟩ ⟨1408 * (t.val % 4) + (y 1).val, by omega⟩ := by
    blk_ext [idx t]
  blk_simp
  rw [after0_3]
  refine Eq.trans ?_ (congrArg _ e).symm
  refine Eq.trans ?_ (ref_at _ _ _ _ _ _).symm
  refine (congrArg _ (eq_ix2 y)).trans ((out_at m c t (y 0) (y 1)).trans ?_)
  refine Finset.sum_congr rfl fun k _ => congrArg₂ (· * ·) (hidden m c t.val t.isLt (y 0) k _) (Eq.trans ?_ (weight_at m c _ k))
  blk_simp [iblk, idx t]; refine congrArg (V m c main_v3) ?_; blk_ext [idx t]

end Cert.NmmIdeal.Hand

end
-- ==== Proof.KvpValue.lean ====
/- The value of the forward product of normed rows whose weight lies by columns. -/
module

public import proofs.«01_k».proof.Proof.Gen.KvpIdeal.Value
public import proofs.«01_k».proof.Proof.Gen.KvpRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.KvpIdeal.Hand

open Cert.KvpIdeal Cert.KvpIdeal.Gen

variable (m : (ℓ : Loc nD τ sig) → Buf (Elt Ideal) ℓ)

/-- A row divided by its root mean square, times the gain, at one entry. -/
def normedAt (x g : Fin 1024 → EReal) (k : Fin 1024) : EReal :=
  x k * Ideal.rsqrt (Ideal.div (∑ l, x l * x l) (Ideal.ofBits .f32 0x44800000#32) + Ideal.ofBits .f32 0x358637BD#32) * g k

/-- The first point of a row block normalises the rows into the scratch buffer. -/
theorem hidden_A (c : Dev nD) (t : Fin cfg0.N) (h0 : t.val % 2 = 0) (a k : Fin 1024) :
    (outsAt0 m c t.val t.isLt).2 (ix2 a k) = normedAt (fun l => (iblk m c 0 t : FVec Ideal S1024x1024 .f32) (ix2 a l)) (fun l => (iblk m c 1 t : FVec Ideal S1x1024 .f32) (ix2 0 l)) k := by
  rw [outsAt0_A m c t h0]
  frame_out
  open_payloads
  pointwise [normedAt]

/-- The later points keep it. -/
theorem hidden_B (c : Dev nD) (t : Fin cfg0.N) (h0 : ¬ t.val % 2 = 0) :
    (outsAt0 m c t.val t.isLt).2 = (outsAt0 m c (t.val - 1) (Nat.lt_of_le_of_lt (Nat.sub_le _ _) t.isLt)).2 := by
  rw [outsAt0_B m c t h0]
  try rfl

/-- Every point multiplies the scratch buffer with its block of the weights. -/
theorem out_at (c : Dev nD) (t : Fin cfg0.N) (a : Fin 1024) (b : Fin 768) :
    (outsAt0 m c t.val t.isLt).1 (ix2 a b) = ∑ k : Fin 1024, (outsAt0 m c t.val t.isLt).2 (ix2 a k) * (iblk m c 2 t : FVec Ideal S1024x768 .bf16) (ix2 k b) := by
  by_cases h0 : t.val % 2 = 0
  · rw [outsAt0_A m c t h0]
    frame_out
    open_payloads
    pointwise
  · rw [outsAt0_B m c t h0]
    frame_out
    generalize (outsAt0 m c (t.val - 1) _).2 = acc
    open_payloads
    unfold sout0_B_0
    pointwise [read_unread_whole]

/-- The block indices of the four windows at every grid point. -/
theorem idx : ∀ t : Fin cfg0.N, win0_0.index t = ![t.val / 2, 0] ∧ win0_1.index t = ![0, 0] ∧ win0_2.index t = ![0, t.val % 2] ∧ win0_3.index t = ![t.val / 2, t.val % 2] :=
  (by decide +kernel : ∀ t : Fin grid0.N, _)

/-- The gain as the region finds it. -/
theorem gain (c : Dev nD) : (V m c main_v0 : FVec Ideal S1x1024 .f32) = (shapeCast S1x1024 (m (c.tc.loc main_arg1) : FVec Ideal S1024 .f32) shapeCasts_S1024_S1x1024 : FVec Ideal S1x1024 .f32) := by
  unfold V; after_results; rfl

theorem gain_at (c : Dev nD) (k : Fin 1024) : (V m c main_v0 : FVec Ideal S1x1024 .f32) (ix2 0 k) = (m (c.tc.loc main_arg1) : FVec Ideal S1024 .f32) (ix1 k) := by
  rw [gain]
  pointwise

/-- What the scratch buffer holds after every point of a row block. -/
theorem hidden (c : Dev nD) (n : ℕ) : ∀ (h : n < cfg0.N) (a k : Fin 1024) (hr : 1024 * (n / 2) + a.val < 8192), (outsAt0 m c n h).2 (ix2 a k)
    = normedAt (fun l => (m (c.tc.loc main_arg0) : FVec Ideal S8192x1024 .f32) (ix2 ⟨1024 * (n / 2) + a.val, hr⟩ l)) (fun l => (m (c.tc.loc main_arg1) : FVec Ideal S1024 .f32) (ix1 l)) k := by
  have first (t : Fin cfg0.N) (h0 : t.val % 2 = 0) (a k : Fin 1024) (hr : 1024 * (t.val / 2) + a.val < 8192) : (outsAt0 m c t.val t.isLt).2 (ix2 a k)
      = normedAt (fun l => (m (c.tc.loc main_arg0) : FVec Ideal S8192x1024 .f32) (ix2 ⟨1024 * (t.val / 2) + a.val, hr⟩ l)) (fun l => (m (c.tc.loc main_arg1) : FVec Ideal S1024 .f32) (ix1 l)) k := by
    refine (hidden_A m c t h0 a k).trans (congrArg₂ (fun x g => normedAt x g k) (funext fun l => ?_) (funext fun l => ?_))
    · blk_point [iblk, V, idx t]
    · refine Eq.trans ?_ (gain_at m c l)
      blk_simp [iblk, idx t]; refine congrArg (V m c main_v0) ?_; blk_ext [idx t]
  induction n with
  | zero => exact fun h a k hr => first ⟨0, h⟩ rfl a k hr
  | succ n ih =>
    intro h a k hr
    by_cases h0 : (n + 1) % 2 = 0
    · exact first ⟨n + 1, h⟩ h0 a k hr
    · have e : (n + 1) / 2 = n / 2 := by omega
      refine (congrFun (hidden_B m c ⟨n + 1, h⟩ h0) _).trans ((ih (by omega) a k (by omega)).trans ?_)
      simp only [e]

theorem ref_at (x0 : FVec Ideal S8192x1024 .f32) (x1 : FVec Ideal S1024 .f32) (x2 : FVec Ideal S1024x1536 .f32) (i : Fin 8192) (j : Fin 1536) :
    Cert.KvpRefIdeal.Read.val_main_v14 (F := Ideal) x0 x1 x2 (ix2 i j) = ∑ k : Fin 1024, normedAt (fun l => x0 (ix2 i l)) (fun l => x1 (ix1 l)) k * x2 (ix2 k j) := by
  open Cert.KvpRefIdeal.Read in
  pointwise [val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The weight as the region finds it. -/
theorem weight (c : Dev nD) : (V m c main_v1 : FVec Ideal S1024x1536 .bf16) = (truncf .bf16 (m (c.tc.loc main_arg2) : FVec Ideal S1024x1536 .f32) bitsLt_bf16_f32 : FVec Ideal S1024x1536 .bf16) := by
  unfold V; after_results

/-- The array the call writes is the reference's. -/
theorem final (c : Dev nD) : (dats m 0 c).arrAt 3 cfg0.N = Cert.KvpRefIdeal.Read.val_main_v14 (F := Ideal) (m (c.tc.loc main_arg0)) (m (c.tc.loc main_arg1)) (m (c.tc.loc main_arg2)) := by
  refine (dats m 0 c).arrAt_eq_of_covers 3 _ (by decide +kernel) fun t hf y => ?_
  have ht : t.val < 16 := t.isLt
  have y0 : (y 0).val < 1024 := (y 0).isLt
  have y1 : (y 1).val < 768 := (y 1).isLt
  have e : (win0_3.blk t).view.emb y = ix2 ⟨1024 * (t.val / 2) + (y 0).val, by omega⟩ ⟨768 * (t.val % 2) + (y 1).val, by omega⟩ := by
    blk_ext [idx t]
  blk_simp
  rw [after0_3]
  refine Eq.trans ?_ (congrArg _ e).symm
  refine Eq.trans ?_ (ref_at _ _ _ _ _).symm
  refine (congrArg _ (eq_ix2 y)).trans ((out_at m c t (y 0) (y 1)).trans ?_)
  refine Finset.sum_congr rfl fun k _ => congrArg₂ (· * ·) (hidden m c t.val t.isLt (y 0) k _) ?_
  refine Eq.trans ?_ (congrFun (weight m c) _)
  blk_simp [iblk, idx t]; refine congrArg (V m c main_v1) ?_; blk_ext [idx t]

end Cert.KvpIdeal.Hand

end
-- ==== Proof.SmmValue.lean ====
/- The value of the forward down projection: the gated hidden row times the weight, added to the residual row. -/
module

public import proofs.«01_k».proof.Proof.Gen.SmmIdeal.Value
public import proofs.«01_k».proof.Proof.Gen.SmmRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.SmmIdeal.Hand

open Cert.SmmIdeal Cert.SmmIdeal.Gen

/-- The gated hidden value at one entry. -/
def gatedUp (g u : EReal) : EReal := g * Ideal.div 1 (1 + Ideal.exp (-g)) * u

/-- A sum over 2816 terms, taken from the left in eleven runs of 256. -/
theorem eleven (F : ℕ → EReal) : ∑ k : Fin 256, F k.val + ∑ k : Fin 256, F (256 + k.val) + ∑ k : Fin 256, F (512 + k.val) + ∑ k : Fin 256, F (768 + k.val) + ∑ k : Fin 256, F (1024 + k.val) + ∑ k : Fin 256, F (1280 + k.val) + ∑ k : Fin 256, F (1536 + k.val) + ∑ k : Fin 256, F (1792 + k.val) + ∑ k : Fin 256, F (2048 + k.val) + ∑ k : Fin 256, F (2304 + k.val) + ∑ k : Fin 256, F (2560 + k.val)
      = ∑ k : Fin 2816, F k.val := by
  have step (n : ℕ) : ∑ k ∈ Finset.range (n + 256), F k = ∑ k ∈ Finset.range n, F k + ∑ k : Fin 256, F (n + k.val) := by
    rw [Finset.sum_range_add, Finset.sum_range (fun k => F (n + k))]
  rw [← Finset.sum_range, ← Finset.sum_range]
  exact ((step 2560).trans (congrArg (· + _) ((step 2304).trans (congrArg (· + _) ((step 2048).trans (congrArg (· + _) ((step 1792).trans (congrArg (· + _)
    ((step 1536).trans (congrArg (· + _) ((step 1280).trans (congrArg (· + _) ((step 1024).trans (congrArg (· + _) ((step 768).trans (congrArg (· + _)
    ((step 512).trans (congrArg (· + _) (step 256))))))))))))))))))).symm

set_option maxHeartbeats 1600000 in
/-- The body's result at an entry. -/
theorem point (x0 : FVec Ideal S256x5632 .bf16) (x1 : FVec Ideal S2816x1024 .bf16) (x2 : FVec Ideal S256x1024 .f32) (a : Fin 256) (b : Fin 1024) :
    out0_3 (F := Ideal) x0 x1 x2 (ix2 a b) = x2 (ix2 a b) + Ideal.ofBits .f32 0x3F000000#32
      * ∑ k : Fin 2816, gatedUp (x0 (ix2 a ⟨k.val, by have := k.isLt; omega⟩)) (x0 (ix2 a ⟨2816 + k.val, by have := k.isLt; omega⟩)) * x1 (ix2 k b) := by
  frame_out
  open_payloads
  pointwise [zero_sub]
  have e := eleven fun n => if h : n < 2816 then gatedUp (x0 (ix2 a ⟨n, by omega⟩)) (x0 (ix2 a ⟨2816 + n, by omega⟩)) * x1 (ix2 ⟨n, h⟩ b) else 0
  refine congrArg (fun z => x2 (ix2 a b) + Ideal.ofBits .f32 0x3F000000#32 * z) (Eq.trans ?_ (e.trans ?_))
  · refine congrArg₂ (· + ·) (congrArg₂ (· + ·) (congrArg₂ (· + ·) (congrArg₂ (· + ·) (congrArg₂ (· + ·) (congrArg₂ (· + ·) (congrArg₂ (· + ·) (congrArg₂ (· + ·)
      (congrArg₂ (· + ·) (congrArg₂ (· + ·) ?_ ?_) ?_) ?_) ?_) ?_) ?_) ?_) ?_) ?_) ?_
    all_goals
      refine Finset.sum_congr rfl fun k _ => Eq.trans ?_ (dif_pos (by have := k.isLt; omega)).symm
      first | rfl | exact congrArg (fun z => gatedUp _ (x0 (ix2 a z)) * _) (Fin.ext (by simp only []; omega))
  · exact Finset.sum_congr rfl fun k _ => dif_pos k.isLt

variable (m : (ℓ : Loc nD τ sig) → Buf (Elt Ideal) ℓ)

/-- The block indices of the four windows at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The gate and the up rows side by side, as the region finds them. -/
theorem packed (c : Dev nD) : (V m c main_v1 : FVec Ideal S8192x5632 .bf16)
    = (truncf .bf16 (concatenate S8192x5632 1 [⟨S8192x2816, m (c.tc.loc main_arg0)⟩, ⟨S8192x2816, m (c.tc.loc main_arg1)⟩] concatenates_S8192x2816_S8192x2816_S8192x5632_d1 : FVec Ideal S8192x5632 .f32)
      bitsLt_bf16_f32 : FVec Ideal S8192x5632 .bf16) := by
  unfold V; after_results

/-- The weight as the region finds it. -/
theorem weight (c : Dev nD) : (V m c main_v2 : FVec Ideal S2816x1024 .bf16) = (truncf .bf16 (m (c.tc.loc main_arg2) : FVec Ideal S2816x1024 .f32) bitsLt_bf16_f32 : FVec Ideal S2816x1024 .bf16) := by
  unfold V; after_results

theorem gate_at (c : Dev nD) (i : Fin 8192) (k : ℕ) (h : k < 5632) (hk : k < 2816) : (V m c main_v1 : FVec Ideal S8192x5632 .bf16) (ix2 i ⟨k, h⟩) = (m (c.tc.loc main_arg0) : FVec Ideal S8192x2816 .f32) (ix2 i ⟨k, hk⟩) := by
  rw [packed]
  pointwise
  rw [dif_pos hk]

theorem up_at (c : Dev nD) (i : Fin 8192) (k : Fin 2816) (h : 2816 + k.val < 5632) : (V m c main_v1 : FVec Ideal S8192x5632 .bf16) (ix2 i ⟨2816 + k.val, h⟩) = (m (c.tc.loc main_arg1) : FVec Ideal S8192x2816 .f32) (ix2 i k) := by
  rw [packed]
  pointwise
  blk_ext

theorem ref_at (x0 x1 : FVec Ideal S8192x2816 .f32) (x2 : FVec Ideal S2816x1024 .f32) (x3 : FVec Ideal S8192x1024 .f32) (i : Fin 8192) (j : Fin 1024) :
    Cert.SmmRefIdeal.Read.val_main_v5 (F := Ideal) x0 x1 x2 x3 (ix2 i j) = x3 (ix2 i j) + Ideal.ofBits .f32 0x3F000000#32 * ∑ k : Fin 2816, gatedUp (x0 (ix2 i k)) (x1 (ix2 i k)) * x2 (ix2 k j) := by
  open Cert.SmmRefIdeal.Read in
  pointwise [val_main_v5, val_main_v4, val_main_v3, val_main_cst, val_main_v2, val_main_v1, val_main_v0, val_main_call0_v5, val_main_call0_v4, val_main_call0_cst_0, val_main_call0_v3, val_main_call0_v2, val_main_call0_cst, val_main_call0_v1, val_main_call0_v0]
  rfl

/-- The array the calls write is the reference's. -/
theorem final (c : Dev nD) : (dats m 0 c).arrAt 3 cfg0.N = Cert.SmmRefIdeal.Read.val_main_v5 (F := Ideal) (m (c.tc.loc main_arg0)) (m (c.tc.loc main_arg1)) (m (c.tc.loc main_arg2)) (m (c.tc.loc main_arg3)) := by
  refine (dats m 0 c).arrAt_eq_of_covers 3 _ (by decide +kernel) fun t hf y => ?_
  have ht : t.val < 32 := t.isLt
  have e : (win0_3.blk t).view.emb y = ix2 ⟨256 * t.val + (y 0).val, by have := (y 0).isLt; have h : (y 0).val < 256 := (y 0).isLt; omega⟩ (y 1) := by
    blk_ext [idx t]
  blk_simp
  rw [after0_3]
  refine Eq.trans ?_ (congrArg _ e).symm
  refine Eq.trans ?_ (ref_at _ _ _ _ _ _).symm
  refine (congrArg _ (eq_ix2 y)).trans ((point _ _ _ (y 0) (y 1)).trans ?_)
  refine congrArg₂ (· + ·) ?_ (congrArg _ (Finset.sum_congr rfl fun k _ => ?_))
  · blk_point [iblk, V, idx t]
  · refine congrArg₂ (fun z w => z * w) (congrArg₂ gatedUp ?_ ?_) ?_
    · refine Eq.trans ?_ (gate_at m c _ k.val (by have := k.isLt; omega) k.isLt)
      blk_simp [iblk, idx t]; refine congrArg (V m c main_v1) ?_; blk_ext [idx t]
    · refine Eq.trans ?_ (up_at m c _ k (by have := k.isLt; omega))
      blk_simp [iblk, idx t]; refine congrArg (V m c main_v1) ?_; blk_ext [idx t]
    · refine Eq.trans ?_ (congrFun (weight m c) (ix2 k (y 1)))
      blk_simp [iblk, idx t]; refine congrArg (V m c main_v2) ?_; blk_ext [idx t]

end Cert.SmmIdeal.Hand

end
-- ==== Proof.MemfValue.lean ====
/- The value of the forward attention over the memory. -/
module

public import proofs.«01_k».proof.Proof.Gen.MemfIdeal.Value
public import proofs.«01_k».proof.Proof.Gen.MemfRefIdeal.Read
public import Idealize.ShloMosaic.Lib.Pipeline.ValueKit
public import Idealize.ShloMosaic.Lib.Pipeline.ReadBack
public import Idealize.ShloMosaic.Lib.Ring
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MemfIdeal.Hand

open Cert.MemfIdeal Cert.MemfIdeal.Gen

variable (m : (ℓ : Loc nD τ sig) → Buf (Elt Ideal) ℓ)

/-- The softmax of a row at one entry. -/
def share (z : Fin 256 → EReal) (j : Fin 256) : EReal :=
  Ideal.div (Ideal.exp (z j - Finset.univ.fold max (Ideal.ofBits .f32 0xFF800000#32) z)) (∑ k, Ideal.exp (z k - Finset.univ.fold max (Ideal.ofBits .f32 0xFF800000#32) z))

/-- Column `n`. -/
def lane (n : ℕ) : Fin 256 := ⟨n % 256, Nat.mod_lt _ (by decide)⟩

theorem lane_val (x : Fin 256) : lane x.val = x := Fin.ext (Nat.mod_eq_of_lt x.isLt)

/-- The product of two rows over the 64 columns of head `h`, times an eighth. -/
def headScore (q k : Fin 256 → EReal) (h : ℕ) : EReal := (∑ e : Fin 64, q (lane (64 * h + e.val)) * k (lane (64 * h + e.val))) * Ideal.ofBits .f32 0x3E000000#32

/-- The mask of head `h` holds in its columns. -/
theorem head_word : ∀ (h : Fin 4) (x : Fin 256), IntOp.andi (IntOp.cmpi .sge (BitVec.ofNat 32 x.val) (BitVec.ofNat 32 (64 * h.val)))
    (IntOp.cmpi .slt (BitVec.ofNat 32 x.val) (BitVec.ofNat 32 (64 * h.val + 64))) = if x.val / 64 = h.val then 1#1 else 0#1 := by decide +kernel

theorem head_select (h : ℕ) (lo hi : BitVec 32) (hh : h < 4) (hlo : lo = BitVec.ofNat 32 (64 * h)) (hhi : hi = BitVec.ofNat 32 (64 * h + 64)) (x : Fin 256) (X : EReal) :
    Scalar.select (IntOp.andi (IntOp.cmpi .sge (BitVec.ofNat 32 x.val) lo) (IntOp.cmpi .slt (BitVec.ofNat 32 x.val) hi)) X 0 = if x.val / 64 = h then X else 0 := by
  subst hlo hhi
  rw [head_word ⟨h, hh⟩ x]
  by_cases e : x.val / 64 = h <;> simp [e, Scalar.select]

/-- A sum over all columns of what a head's mask keeps is the sum over the head's columns. -/
theorem head_sum (h : ℕ) (lo hi : BitVec 32) (hh : h < 4) (hlo : lo = BitVec.ofNat 32 (64 * h)) (hhi : hi = BitVec.ofNat 32 (64 * h + 64)) (X : Fin 256 → EReal) :
    ∑ x : Fin 256, Scalar.select (IntOp.andi (IntOp.cmpi .sge (BitVec.ofNat 32 x.val) lo) (IntOp.cmpi .slt (BitVec.ofNat 32 x.val) hi)) (X x) 0
      = ∑ e : Fin 64, X (lane (64 * h + e.val)) := by
  simp only [head_select h lo hi hh hlo hhi]
  rw [← Finset.sum_filter]
  refine (Finset.sum_bij (fun e _ => lane (64 * h + e.val)) (fun e _ => ?_) (fun e _ f _ hef => ?_) (fun x hx => ?_) (fun _ _ => rfl)).symm
  · have := e.isLt
    simp only [Finset.mem_filter, Finset.mem_univ, true_and, lane]
    omega
  · have := e.isLt
    have := f.isLt
    have hv : (64 * h + e.val) % 256 = (64 * h + f.val) % 256 := congrArg Fin.val hef
    exact Fin.ext (by omega)
  · have hx := (Finset.mem_filter.mp hx).2
    have := x.isLt
    exact ⟨⟨x.val - 64 * h, by omega⟩, Finset.mem_univ _, Fin.ext (by simp only [lane]; omega)⟩

set_option maxHeartbeats 1600000 in
/-- The body's result at an entry: the softmax of the head's scores times the values. -/
theorem out_at (c : Dev nD) (t : Fin cfg0.N) (a : Fin 512) (b : Fin 256) :
    (outsAt0 m c t) (ix2 a b) = ∑ x : Fin 256, share (fun j => headScore (fun d => (iblk m c 0 t : FVec Ideal S512x256 .f32) (ix2 a d)) (fun d => (iblk m c 1 t : FVec Ideal S256x256 .bf16) (ix2 j d)) (b.val / 64)) x
      * (iblk m c 2 t : FVec Ideal S256x256 .bf16) (ix2 x b) := by
  generalize hW : ∑ x : Fin 256, share (fun j => headScore (fun d => (iblk m c 0 t : FVec Ideal S512x256 .f32) (ix2 a d)) (fun d => (iblk m c 1 t : FVec Ideal S256x256 .bf16) (ix2 j d)) (b.val / 64)) x
      * (iblk m c 2 t : FVec Ideal S256x256 .bf16) (ix2 x b) = W
  have pick (h : ℕ) : (if b.val / 64 = h then ∑ x : Fin 256, share (fun j => headScore (fun d => (iblk m c 0 t : FVec Ideal S512x256 .f32) (ix2 a d)) (fun d => (iblk m c 1 t : FVec Ideal S256x256 .bf16) (ix2 j d)) h) x
      * (iblk m c 2 t : FVec Ideal S256x256 .bf16) (ix2 x b) else 0) = if b.val / 64 = h then W else 0 := by
    split
    · rename_i e; rw [← hW, e]
    · rfl
  unfold outsAt0
  frame_out
  open_payloads
  pointwise
  simp only [head_sum 0 0#32 64#32 (by decide) rfl rfl, head_sum 1 64#32 128#32 (by decide) rfl rfl, head_sum 2 128#32 192#32 (by decide) rfl rfl, head_sum 3 192#32 256#32 (by decide) rfl rfl]
  simp only [head_select 0 0#32 64#32 (by decide) rfl rfl, head_select 1 64#32 128#32 (by decide) rfl rfl, head_select 2 128#32 192#32 (by decide) rfl rfl, head_select 3 192#32 256#32 (by decide) rfl rfl]
  have p0 := pick 0
  have p1 := pick 1
  have p2 := pick 2
  have p3 := pick 3
  simp only [share, headScore] at p0 p1 p2 p3
  rw [p0, p1, p2, p3]
  have hb := b.isLt
  have : b.val / 64 = 0 ∨ b.val / 64 = 1 ∨ b.val / 64 = 2 ∨ b.val / 64 = 3 := by omega
  rcases this with e | e | e | e <;> simp [e]

/-- The block indices of the windows at every grid point. -/
theorem idx : ∀ t : Fin cfg0.N, win0_0.index t = ![t.val, 6] ∧ win0_1.index t = ![0, 0] ∧ win0_2.index t = ![0, 1] ∧ win0_3.index t = ![t.val, 3] :=
  (by decide +kernel : ∀ t : Fin grid0.N, _)

/-- The memory's keys and values as the region finds them. -/
theorem memory (c : Dev nD) : (V m c main_v0 : FVec Ideal S256x2048 .bf16) = (truncf .bf16 (m (c.tc.loc main_arg1) : FVec Ideal S256x2048 .f32) bitsLt_bf16_f32 : FVec Ideal S256x2048 .bf16) := by
  unfold V; after_results

/-- The result's buffer starts as the argument the call writes into. -/
theorem into_eq (c : Dev nD) : V m c main_v1 = m (c.tc.loc main_arg2) := by
  unfold V; after_results; rfl

/-- The attention's output at column `d` of query `i`: the softmax of the scores of the column's head times the values. -/
def attended (x0 : FVec Ideal S8192x1792 .f32) (x1 : FVec Ideal S256x2048 .f32) (i : Fin 8192) (d : ℕ) : EReal :=
  ∑ x : Fin 256, share (fun n => headScore (fun d => x0 (ix2 i ⟨1536 + d.val, Nat.lt_of_lt_of_le (Nat.add_lt_add_left d.isLt 1536) (Nat.le_of_ble_eq_true rfl)⟩))
    (fun d => x1 (ix2 n ⟨d.val, Nat.lt_of_lt_of_le d.isLt (Nat.le_of_ble_eq_true rfl)⟩)) (d / 64)) x
    * x1 (ix2 x ⟨256 + (lane d).val, Nat.lt_of_lt_of_le (Nat.add_lt_add_left (lane d).isLt 256) (Nat.le_of_ble_eq_true rfl)⟩)

open Cert.MemfRefIdeal.Read in
theorem scores_ref (x0 : FVec Ideal S8192x1792 .f32) (x1 : FVec Ideal S256x2048 .f32) (h : Fin 4) (i : Fin 8192) (j : Fin 256) :
    val_main_v11 (F := Ideal) x0 x1 (ix4 0 h i j) = headScore (fun d => x0 (ix2 i ⟨1536 + d.val, by have := d.isLt; omega⟩)) (fun d => x1 (ix2 j ⟨d.val, by have := d.isLt; omega⟩)) h.val := by
  pointwise [val_main_v11, val_main_v10, val_main_cst, val_main_v9, val_main_v7, val_main_v6, val_main_v4, val_main_v3, val_main_v2, val_main_v1, val_main_v0]
  refine congrArg (· * _) (Finset.sum_congr rfl fun e _ => congrArg₂ (fun z w => x0 (ix2 i z) * x1 (ix2 j w)) (Fin.ext ?_) (Fin.ext ?_))
  all_goals
    have := e.isLt
    have := h.isLt
    simp only [lane]
    omega

theorem max_low (x : EReal) : max (Ideal.ofBits .f32 4286578688#32) x = x := by
  have e : Ideal.ofBits .f32 4286578688#32 = ⊥ := by simp [Ideal.ofBits, Ideal.ieee]
  rw [e]
  exact max_eq_right bot_le

open Cert.MemfRefIdeal.Read in
theorem fold_ref (x0 : FVec Ideal S8192x1792 .f32) (x1 : FVec Ideal S256x2048 .f32) (h : Fin 4) (i : Fin 8192) :
    val_main_v12 (F := Ideal) x0 x1 (ix3 0 h i) = Finset.univ.fold max (Ideal.ofBits .f32 0xFF800000#32) fun j => val_main_v11 (F := Ideal) x0 x1 (ix4 0 h i j) := by
  unfold val_main_v12
  generalize val_main_v11 (F := Ideal) x0 x1 = y
  pointwise [val_main_cst_0]

open Cert.MemfRefIdeal.Read in
theorem top_ref (x0 : FVec Ideal S8192x1792 .f32) (x1 : FVec Ideal S256x2048 .f32) (h : Fin 4) (i : Fin 8192) :
    val_main_v14 (F := Ideal) x0 x1 (ix3 0 h i) = Finset.univ.fold max (Ideal.ofBits .f32 0xFF800000#32) fun j => val_main_v11 (F := Ideal) x0 x1 (ix4 0 h i j) := by
  rw [val_main_v14_apply, fold_ref]
  pointwise [val_main_v13, val_main_cst_1]
  exact max_low _

open Cert.MemfRefIdeal.Read in
theorem exps_ref (x0 : FVec Ideal S8192x1792 .f32) (x1 : FVec Ideal S256x2048 .f32) (h : Fin 4) (i : Fin 8192) (j : Fin 256) :
    val_main_v18 (F := Ideal) x0 x1 (ix4 0 h i j) = Ideal.exp (val_main_v11 (F := Ideal) x0 x1 (ix4 0 h i j) - val_main_v14 (F := Ideal) x0 x1 (ix3 0 h i)) := by
  unfold val_main_v18 val_main_v17 val_main_v16 val_main_v15
  generalize val_main_v11 (F := Ideal) x0 x1 = y
  generalize val_main_v14 (F := Ideal) x0 x1 = z
  pointwise

open Cert.MemfRefIdeal.Read in
theorem quot_ref (x0 : FVec Ideal S8192x1792 .f32) (x1 : FVec Ideal S256x2048 .f32) (h : Fin 4) (i : Fin 8192) (j : Fin 256) :
    val_main_v22 (F := Ideal) x0 x1 (ix4 0 h i j) = Ideal.div (val_main_v18 (F := Ideal) x0 x1 (ix4 0 h i j)) (∑ k : Fin 256, val_main_v18 (F := Ideal) x0 x1 (ix4 0 h i k)) := by
  unfold val_main_v22 val_main_v21 val_main_v20 val_main_v19
  generalize val_main_v18 (F := Ideal) x0 x1 = y
  pointwise [val_main_cst_2]

open Cert.MemfRefIdeal.Read in
theorem share_ref (x0 : FVec Ideal S8192x1792 .f32) (x1 : FVec Ideal S256x2048 .f32) (h : Fin 4) (i : Fin 8192) (j : Fin 256) :
    val_main_v22 (F := Ideal) x0 x1 (ix4 0 h i j) = share (fun j => val_main_v11 (F := Ideal) x0 x1 (ix4 0 h i j)) j := by
  rw [quot_ref]
  simp only [exps_ref, top_ref]
  rw [share]

open Cert.MemfRefIdeal.Read in
/-- The reference's result at an entry. -/
theorem ref_at (x0 : FVec Ideal S8192x1792 .f32) (x1 : FVec Ideal S256x2048 .f32) (x2 : FVec Ideal S8192x1024 .bf16) (i : Fin 8192) (j : Fin 1024) :
    val_main_v29 (F := Ideal) x0 x1 x2 (ix2 i j) = if h : j.val < 768 then x2 (ix2 i j) else
      attended x0 x1 i (j.val - 768) := by
  unfold val_main_v29 val_main_v28 val_main_v26 val_main_v25 val_main_v24 val_main_v23
  have e := share_ref x0 x1
  generalize val_main_v22 (F := Ideal) x0 x1 = y at e
  pointwise [val_main_v27, val_main_v8, val_main_v5, val_main_v3, val_main_v2]
  split
  · rfl
  · rename_i h
    have := j.isLt
    refine Finset.sum_congr rfl fun x _ => (mul_comm _ _).trans (congrArg₂ (fun z w => z * x1 (ix2 x w)) ?_ (Fin.ext (by simp only [lane]; omega)))
    refine (e _ i x).trans (congrArg (share · x) (funext fun n => scores_ref x0 x1 _ i n))

/-- The body's result at an entry, of the arguments. -/
theorem out_is (c : Dev nD) (t : Fin cfg0.N) (a : Fin 512) (b : Fin 256) (ha : 512 * t.val + a.val < 8192) :
    (outsAt0 m c t) (ix2 a b) = attended (m (c.tc.loc main_arg0)) (m (c.tc.loc main_arg1)) ⟨512 * t.val + a.val, ha⟩ b.val := by
  refine (out_at m c t a b).trans (Finset.sum_congr rfl fun x _ => congrArg₂ (· * ·) (congrArg (share · x) (funext fun n => congrArg₂ (headScore · · _) (funext fun d => ?_) (funext fun d => ?_))) ?_)
  · blk_simp [iblk, idx t]
    entry_read
    pointwise
    blk_ext [idx t]
  · refine Eq.trans ?_ (congrFun (memory m c) (ix2 n ⟨d.val, Nat.lt_of_lt_of_le d.isLt (Nat.le_of_ble_eq_true rfl)⟩))
    blk_simp [iblk, idx t]; refine congrArg (V m c main_v0) ?_; blk_ext [idx t]
  · refine Eq.trans ?_ (congrArg (m (c.tc.loc main_arg1)) (congrArg (ix2 x) (Fin.ext (by simp only [lane_val]) : (⟨256 + b.val, Nat.lt_of_lt_of_le (Nat.add_lt_add_left b.isLt 256) (Nat.le_of_ble_eq_true rfl)⟩ : Fin 2048) = _)))
    refine Eq.trans ?_ (congrFun (memory m c) (ix2 x ⟨256 + b.val, Nat.lt_of_lt_of_le (Nat.add_lt_add_left b.isLt 256) (Nat.le_of_ble_eq_true rfl)⟩))
    blk_simp [iblk, idx t]; refine congrArg (V m c main_v0) ?_; blk_ext [idx t]

attribute [local irreducible] attended

/-- The array the calls write into is the reference's. -/
theorem final (c : Dev nD) : (dats m 0 c).arrAt 3 cfg0.N = Cert.MemfRefIdeal.Read.val_main_v29 (F := Ideal) (m (c.tc.loc main_arg0)) (m (c.tc.loc main_arg1)) (m (c.tc.loc main_arg2)) := by
  funext i
  have i1 : (i 1).val < 1024 := (i 1).isLt
  refine ((dats m 0 c).arrAt_apply_of_coversWhere 3 (fun i : S8192x1024.Idx => attended (m (c.tc.loc main_arg0)) (m (c.tc.loc main_arg1)) (i 0) ((i 1).val - 768))
    (P := fun i : S8192x1024.Idx => (i 1).val / 256 = 3) (fun β => β (1 : Fin 2) = 3) (by decide +kernel) (fun t hf y => ?_) (fun j => Iff.rfl) i).trans ?_
  · have ht : t.val < 16 := t.isLt
    have y0 : (y 0).val < 512 := (y 0).isLt
    have y1 : (y 1).val < 256 := (y 1).isLt
    blk_simp [idx t]
    rw [after0_3]
    have e := (congrArg (outsAt0 m c t) (eq_ix2 y)).trans (out_is m c t (y 0) (y 1) (by omega))
    refine e.trans (congrArg₂ (attended _ _) (Fin.ext (Eq.symm ?_)) (by omega))
    exact (congrArg Fin.val (congrFun (show (win0_3.blk t).view.emb y = ix2 ⟨512 * t.val + (y 0).val, by omega⟩ ⟨768 + (y 1).val, by omega⟩ by blk_ext [idx t]) 0)).trans rfl
  · refine Eq.trans ?_ ((congrArg _ (eq_ix2 i)).trans (ref_at _ _ _ (i 0) (i 1))).symm
    by_cases h : (i 1).val < 768
    · rw [dif_pos h, if_neg (by omega), A_eq]
      exact (congrFun (into_eq m c) i).trans (congrArg _ (eq_ix2 i))
    · rw [dif_neg h, if_pos (by omega)]

end Cert.MemfIdeal.Hand

end
-- ==== Proof.GmfValue.lean ====
/- The gated branch's forward call, entry by entry. -/
module

public import proofs.«01_k».proof.Defs
public import proofs.«01_k».proof.Proof.Gen.GmfIdeal.Frame
public import proofs.«01_k».proof.Proof.Gen.GmfRefIdeal.Read
public import proofs.«01_k».proof.On_gmf_written
public import proofs.«01_k».proof.Proof.Gelu
public import Idealize.ShloMosaic.Lib.Pipeline.ValueKit
public import Idealize.ShloMosaic.Lib.Pipeline.ReadBack
public import Idealize.ShloMosaic.Lib.Ring

@[expose] public section

set_option maxRecDepth 16384

noncomputable section
namespace Cert.GmfIdeal.Hand

open Cert.GmfIdeal Cert.GmfIdeal.Gen Cert.Tiles
open Idealize.ShloMosaic Idealize.ShloMosaic.TcCoe Idealize.SL Idealize.SL.Sem
open Idealize.ShloMosaic.Pipeline (Dat)
open Idealize.ShloMosaic.WordCmp

/-- The named constant. -/
theorem cube_named : (Named.named κ "gelu_a" 1027024659#32 : Ideal .f32) = ((cubeA : ℝ) : EReal) := by
  rw [show cubeA = 8943 / 200000 from rfl]
  exact IdealRules.named_const.ideal_named_scalar _ _ _ _ rfl

/-- The chunk mask of the body. -/
theorem mask_word {a b : ℕ} (ha : a < 128) (hb : b < 128) (r : EReal) :
    Scalar.select (IntOp.ori (IntOp.cmpi CmpIPredicate.slt (BitVec.ofNat 32 b) 64#32) (IntOp.cmpi CmpIPredicate.sge (BitVec.ofNat 32 a) 64#32)) r (0 : EReal)
      = if b < 64 ∨ 64 ≤ a then r else 0 := by
  rw [cmpi_slt_ofNat (a := b) (b := 64) (by omega) (by norm_num), cmpi_sge_ofNat (a := a) (b := 64) (by omega) (by norm_num), ori_ofBool]
  by_cases h : b < 64 ∨ 64 ≤ a
  · rw [if_pos h, show (decide (b < 64) || decide (64 ≤ a)) = true by simpa using h]
    rfl
  · rw [if_neg h, show (decide (b < 64) || decide (64 ≤ a)) = false by simpa using h]
    rfl

/-- The gelu of any extended real. -/
def smooth (x : EReal) : EReal :=
  Ideal.ofBits .f32 1056964608#32 * x * (1 + Ideal.tanh (Ideal.ofBits .f32 1061962282#32 * (x + ((cubeA : ℝ) : EReal) * x * x * x)))

/-- The gelu with its factors in the problem's order. -/
theorem smooth_eq (x : EReal) : x * (Ideal.ofBits .f32 1056964608#32 * (1 + Ideal.tanh (Ideal.ofBits .f32 1061962282#32 * (x + ((cubeA : ℝ) : EReal) * (x * x * x))))) = smooth x := by
  rw [smooth, ← mul_assoc (cubeA : EReal), ← mul_assoc (cubeA : EReal), ← mul_assoc x, mul_comm x (Ideal.ofBits _ _)]

/-- What a row's gated half is scaled by. -/
def level (r : ℕ → EReal) : EReal :=
  Ideal.rsqrt (Ideal.div (∑ k : Fin 768, smooth (r (768 + k.val)) * smooth (r (768 + k.val))) (Ideal.ofBits .f32 1145044992#32) + Ideal.ofBits .f32 897988541#32)

/-- The branch at row `i` and column `j`. -/
def branch (x : ℕ → ℕ → EReal) (g : ℕ → EReal) (w : ℕ → ℕ → ℕ → EReal) (bb : ℕ → ℕ → EReal) (i j : ℕ) : EReal :=
  smooth (x i j) * ((∑ k : Fin 128, if k.val < 64 ∨ 64 ≤ i % 128 then w (j / 128) (i % 128) k.val
    * (smooth (x (i / 128 * 128 + k.val) (768 + j)) * level (x (i / 128 * 128 + k.val)) * g j) else 0) + bb (i % 128) j)

/-- A chunk of the body is a chunk of the branch. -/
theorem branch_tile (x : ℕ → ℕ → EReal) (g : ℕ → EReal) (w : ℕ → ℕ → ℕ → EReal) (bb : ℕ → ℕ → EReal) (i j a γ : ℕ) (R : Fin 128 → ℕ) (hR : ∀ k, R k = i / 128 * 128 + k.val)
    (hγ : γ = j / 128) (ha : a = i % 128) :
    smooth (x i j) * ((∑ k : Fin 128, if k.val < 64 ∨ 64 ≤ a then w γ a k.val * (smooth (x (R k) (768 + j)) * level (x (R k)) * g j) else 0) + bb a j) = branch x g w bb i j := by
  subst hγ ha
  rw [branch]
  simp only [hR]

variable (m : (ℓ : Loc nD τ sig) → Buf (Elt Ideal) ℓ)

variable {x bb : ℕ → ℕ → EReal} {g : ℕ → EReal} {w : ℕ → ℕ → ℕ → EReal} {c : Dev nD} {t : Fin cfg0.N}
  (hx : ∀ a b, iblk m c 0 t (ix2 a b) = x a.val b.val) (hg : ∀ b, iblk m c 1 t (ix2 0 b) = g b.val)
  (hw : ∀ a b e, iblk m c 2 t (ix3 a b e) = w a.val b.val e.val) (hb : ∀ a b, iblk m c 3 t (ix2 a b) = bb a.val b.val)

theorem smooth_fold (x : EReal) : Ideal.ofBits .f32 1056964608#32 * x * (1 + Ideal.tanh (Ideal.ofBits .f32 1061962282#32 * (x + ((cubeA : ℝ) : EReal) * x * x * x))) = smooth x := rfl
theorem level_fold (r : ℕ → EReal) : Ideal.rsqrt (Ideal.div (∑ k : Fin 768, smooth (r (768 + k.val)) * smooth (r (768 + k.val))) (Ideal.ofBits .f32 1145044992#32) + Ideal.ofBits .f32 897988541#32) = level r := rfl

set_option maxHeartbeats 4000000 in
include hx hg hw hb in
/-- The block a point leaves. -/
theorem point (y : S256x768.Idx) : (out0_4 (iblk m c 0 t) (iblk m c 1 t) (iblk m c 2 t) (iblk m c 3 t) : FVec Ideal S256x768 .bf16) y = branch x g w bb (y 0).val (y 1).val := by
  unfold_out out0_4
  canon_tiles z q
  all_goals
    obtain ⟨z0, hz0⟩ : ∃ a : Fin 128, a = z 0 := ⟨z 0, rfl⟩
    obtain ⟨z1, hz1⟩ : ∃ a : Fin 128, a = z 1 := ⟨z 1, rfl⟩
    open_payloads
    pointwise
    simp only [← hz0, ← hz1] at q0 q1 z0_lt z1_lt ⊢
    simp only [hx, hg, hw, hb, cube_named, mask_word z0_lt (Fin.isLt _)]
    simp only [smooth_fold, level_fold]
    rw [q0, q1]
    exact branch_tile _ _ _ _ _ _ _ _ _ (fun k => by omega) (by first | omega | (simp; omega)) (by omega)

/-- The branch of a block's rows is the branch at the rows of the whole array. -/
theorem branch_from (x : ℕ → ℕ → EReal) (g : ℕ → EReal) (w : ℕ → ℕ → ℕ → EReal) (bb : ℕ → ℕ → EReal) (n i j : ℕ) :
    branch (fun a b => x (256 * n + a) b) g w bb i j = branch x g w bb (256 * n + i) j := by
  rw [branch, branch, show (256 * n + i) % 128 = i % 128 by omega]
  simp only [show ∀ k, (256 * n + i) / 128 * 128 + k = 256 * n + (i / 128 * 128 + k) by omega]

/-- A position's chunk as the reference's floor division writes it. -/
theorem chunk_word : ∀ n : Fin 128, Scalar.select
      (IntOp.andi (IntOp.cmpi CmpIPredicate.ne (if BitVec.ofNat 32 n.val = 0 then (0 : BitVec 32) else if (BitVec.ofNat 32 n.val).msb = true then -1 else 1)
          (if (64#32 : BitVec 32) = 0 then (0 : BitVec 32) else if BitVec.msb 64#32 = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32) (IntOp.divsi ArithUnit.host (BitVec.ofNat 32 n.val) 64#32)
    = BitVec.ofNat 32 (n.val / 64) := by
  decide +kernel

section Reference
open Cert.GmfRefIdeal.Read

variable {x0 : FVec Ideal S8192x1792 .f32} {x1 : FVec Ideal S768 .f32} {x2 : FVec Ideal S6x128x128 .f32} {x3 : FVec Ideal S6x128 .f32} {β : ℕ → ℕ → EReal}
  (h0 : ∀ a b, x0 (ix2 a b) = x a.val b.val) (h1 : ∀ b, x1 (ix1 b) = g b.val) (h2 : ∀ a b e, x2 (ix3 a b e) = w a.val b.val e.val) (h3 : ∀ a b, x3 (ix2 a b) = β a.val b.val)

include h0 in
/-- The gelu of the reference. -/
theorem ref_smooth (i : Fin 8192) (j : Fin 1536) : val_main_v14 (F := Ideal) x0 (ix2 i j) = smooth (x i.val j.val) := by
  pointwise [val_main_v14, val_main_v13, val_main_v12, val_main_cst_3, val_main_v11, val_main_v10, val_main_cst_2, val_main_v9, val_main_v8, val_main_v7, val_main_cst_1, val_main_v6, val_main_v5, val_main_v4, val_main_v3, val_main_v2, val_main_v1, val_main_cst, val_main_cst_0, val_main_v0]
  simp only [h0, cube_words]
  exact smooth_eq _

include h0 in
/-- The normed half of the reference, without the gain. -/
theorem ref_level (i : Fin 8192) (j : Fin 768) : val_main_v26 (F := Ideal) x0 (ix2 i j) = smooth (x i.val (768 + j.val)) * level (x i.val) := by
  have e (k : Fin 768) (h) : val_main_v14 (F := Ideal) x0 (ix2 i ⟨768 + k.val, h⟩) = smooth (x i.val (768 + k.val)) := ref_smooth h0 i _
  pointwise [val_main_v26, val_main_v16, val_main_v25, val_main_v24, val_main_v23, val_main_v22, val_main_cst_6, val_main_v21, val_main_v20, val_main_cst_5, val_main_v19, val_main_v18, val_main_cst_4, val_main_v17]
  simp only [e]
  rfl

include h2 in
/-- The masked weight of the reference. -/
theorem ref_mask (γ : Fin 6) (a b : Fin 128) : val_main_v40 (F := Ideal) x2 (ix3 γ a b) = if b.val < 64 ∨ 64 ≤ a.val then w γ.val a.val b.val else 0 := by
  pointwise [val_main_v40, val_main_call2_v1, val_main_call2_v2, val_main_call2_v0, val_main_cst_8, val_main_v39, val_main_v38, val_main_v36, val_main_v37, val_main_v33, val_main_v35, val_main_call0_v11, val_main_call0_v13, val_main_call0_v2, val_main_call1_v11, val_main_call1_v13, val_main_call1_v2, val_main_call0_v6, val_main_call0_v10, val_main_call0_v12, val_main_v32, val_main_call0_v1, val_main_call1_v6, val_main_call1_v10, val_main_call1_v12, val_main_v34, val_main_call1_v1, val_main_call0_v3, val_main_call0_v5, val_main_call0_v8, val_main_call0_v9, val_main_call0_c_0, val_main_v31, val_main_call0_v0, val_main_call1_v3, val_main_call1_v5, val_main_call1_v8, val_main_call1_v9, val_main_call1_c_0, val_main_call1_v0, val_main_call0_v4, val_main_call0_v7, val_main_call0_c, val_main_c, val_main_call1_v4, val_main_call1_v7, val_main_call1_c, val_main_c_7]
  have z : Ideal.ofBits .f32 0#32 = (0 : EReal) := by simp [Ideal.ofBits, Ideal.ieee]
  refine (congrArg₂ (fun p u => Scalar.select p (x2 (ix3 γ a b)) u) (((congrArg₂ (IntOp.cmpi CmpIPredicate.sle) (chunk_word b) (chunk_word a)).trans
    (cmpi_sle_ofNat (by omega) (by omega))) : _ = BitVec.ofBool (decide (b.val / 64 ≤ a.val / 64))) z).trans ?_
  rw [h2]
  by_cases h : b.val < 64 ∨ 64 ≤ a.val
  · rw [if_pos h, decide_eq_true (by omega)]
    rfl
  · rw [if_neg h, decide_eq_false (by omega)]
    simp [Scalar.select]

include h0 h1 h2 h3 in
/-- The reference's result on the columns the call writes. -/
theorem ref_at (i : Fin 8192) (j : Fin 1024) (hj : j.val < 768) : val_main_v52 (F := Ideal) x0 x1 x2 x3 (ix2 i j) = branch x g w (fun a j => β (j / 128) a) i.val j.val := by
  pointwise [val_main_v52, val_main_v51, val_main_v50, val_main_v15, val_main_v49, val_main_v48, val_main_v45, val_main_v47, val_main_v44, val_main_v46, val_main_v30, val_main_v43, val_main_v29, val_main_v42, val_main_v28, val_main_v41, val_main_v27]
  rw [dif_pos hj]
  refine congrArg₂ (· * ·) (ref_smooth h0 i _) (congrArg₂ (· + ·) (Finset.sum_congr rfl fun k _ => ?_) (h3 _ _))
  rw [ref_level h0, ref_mask h2, h1, mul_comm, ite_mul, zero_mul]
  dsimp only
  rw [show j.val / 128 * 128 + j.val % 128 = j.val by omega]

end Reference

/-- The block indices of the windows at every grid point. -/
theorem idx : ∀ t : Fin cfg0.N, win0_0.index t = ![t.val, 0] ∧ win0_1.index t = ![0, 0] ∧ win0_2.index t = ![0, 0, 0]
    ∧ win0_3.index t = ![0, 0] ∧ win0_4.index t = ![t.val, 0] ∧ t.val < 32 :=
  (by decide +kernel : ∀ t : Fin grid0.N, _)

theorem bound (t : Fin cfg0.N) : t.val < 32 := (idx t).2.2.2.2.2

section Final

variable {β : ℕ → ℕ → EReal}
  (h0 : ∀ (a : Fin 8192) (b : Fin 1792), m ((c : Thread nD τ).loc main_arg0) (ix2 a b) = x a.val b.val)
  (h1 : ∀ b : Fin 768, m ((c : Thread nD τ).loc main_arg1) (ix1 b) = g b.val)
  (h2 : ∀ (a : Fin 6) (b e : Fin 128), m ((c : Thread nD τ).loc main_arg2) (ix3 a b e) = w a.val b.val e.val)
  (h3 : ∀ (a : Fin 6) (b : Fin 128), m ((c : Thread nD τ).loc main_arg3) (ix2 a b) = β a.val b.val)

include h0 in
theorem blk0 (t : Fin cfg0.N) (a : Fin 256) (b : Fin 1792) : iblk m c 0 t (ix2 a b) = x (256 * t.val + a.val) b.val := by
  refine Eq.trans ?_ (h0 ⟨256 * t.val + a.val, by have := bound t; omega⟩ b)
  blk_point [iblk, V, idx t]

include h1 in
theorem blk1 (t : Fin cfg0.N) (b : Fin 768) : iblk m c 1 t (ix2 0 b) = g b.val := by
  have e : (V m c main_v3 : FVec Ideal S1x768 .f32) = shapeCast S1x768 (m ((c : Thread nD τ).loc main_arg1) : FVec Ideal S768 .f32) shapeCasts_S768_S1x768 := by
    unfold V
    after_results
    rfl
  have e' : (V m c main_v3 : FVec Ideal S1x768 .f32) (ix2 0 b) = m ((c : Thread nD τ).loc main_arg1) (ix1 b) := by
    rw [e]
    pointwise
  refine Eq.trans ?_ (e'.trans (h1 b))
  blk_simp [iblk, idx t]
  refine congrArg (V m c main_v3) ?_
  blk_ext [idx t]

include h2 in
theorem blk2 (t : Fin cfg0.N) (a : Fin 6) (b e : Fin 128) : iblk m c 2 t (ix3 a b e) = w a.val b.val e.val := by
  refine Eq.trans ?_ (h2 a b e)
  blk_point [iblk, V, idx t]

include h3 in
theorem blk3 (t : Fin cfg0.N) (a : Fin 128) (b : Fin 768) : iblk m c 3 t (ix2 a b) = β (b.val / 128) a.val := by
  have e : (V m c main_v2 : FVec Ideal S128x768 .f32) = shapeCast S128x768 (broadcastInDim S128x6x128 ![0, 1] bcast_S128x6_S128x6x128_0_1
      (transpose S128x6 [1, 0] (m ((c : Thread nD τ).loc main_arg3) : FVec Ideal S6x128 .f32) transposes_S6x128_S128x6_1_0)) shapeCasts_S128x6x128_S128x768 := by
    unfold V
    after_results
    rfl
  have e' : (V m c main_v2 : FVec Ideal S128x768 .f32) (ix2 a b) = m ((c : Thread nD τ).loc main_arg3) (ix2 ⟨b.val / 128, by omega⟩ a) := by
    rw [e]
    pointwise
  refine Eq.trans ?_ (e'.trans (h3 _ a))
  blk_simp [iblk, idx t]
  refine congrArg (V m c main_v2) ?_
  blk_ext [idx t]

include h0 h1 h2 h3 in
/-- The call's result on the columns it writes. -/
theorem final (i : Fin 8192) (j : Fin 1024) (hj : j.val < 768) : ((dats m 0 c).arrAt 4 (cfgs 0).N : S8192x1024.Idx → EReal) (ix2 i j)
    = branch x g w (fun a j => β (j / 128) a) i.val j.val := by
  refine ((dats m 0 c).arrAt_apply_of_coversWhere 4 (fun i : S8192x1024.Idx => branch x g w (fun a j => β (j / 128) a) (i 0).val (i 1).val)
    (P := fun i : S8192x1024.Idx => (i 1).val / 768 < 1) (fun β => β (1 : Fin 2) < 1) (by decide +kernel) (fun t hf y => ?_) (fun j => Iff.rfl) (ix2 i j)).trans (if_pos ?_)
  · blk_simp [idx t]
    rw [after0_4]
    refine (point m (t := t) (x := fun a b => x (256 * t.val + a) b) (bb := fun a j => β (j / 128) a) (blk0 m h0 _) (blk1 m h1 _) (blk2 m h2 _) (blk3 m h3 _) _).trans ?_
    rw [branch_from, Nat.mul_comm 256 t.val]
  · show j.val / 768 < 1
    omega

end Final

/-- A column the mask keeps. -/
theorem shown [Cert.On_gmf_written.Facts] {x0 : FVec Ideal S8192x1792 .f32} {x1 : FVec Ideal S768 .f32} {x2 : FVec Ideal S6x128x128 .f32} {x3 : FVec Ideal S6x128 .f32}
    (i : S8192x1024.Idx) (h : (Cert.On_gmf_written.fn (F := Ideal) x0 x1 x2 x3) i = 1#1) : (i 1).val < 768 := by
  replace h : IntOp.cmpi .slt (BitVec.ofNat 32 (i 1).val) 768#32 = 1#1 := h
  have := (i 1).isLt
  rw [cmpi_slt_ofNat (a := (i 1).val) (b := 768) (by change (i 1).val < 1024 at this; omega) (by norm_num)] at h
  by_contra hc
  rw [decide_eq_false hc] at h
  exact absurd h (by decide)

/-- Arrays as functions of natural numbers. -/
theorem nat1 {n : ℕ} (x : (⟨1, ![n]⟩ : Shape).Idx → EReal) : ∃ f : ℕ → EReal, ∀ a : Fin n, x (ix1 a) = f a.val :=
  ⟨fun a => if h : a < n then x (ix1 ⟨a, h⟩) else 0, fun a => by simp⟩
theorem nat2 {n k : ℕ} (x : (⟨2, ![n, k]⟩ : Shape).Idx → EReal) : ∃ f : ℕ → ℕ → EReal, ∀ (a : Fin n) (b : Fin k), x (ix2 a b) = f a.val b.val :=
  ⟨fun a b => if h : a < n ∧ b < k then x (ix2 ⟨a, h.1⟩ ⟨b, h.2⟩) else 0, fun a b => by simp⟩
theorem nat3 {n k l : ℕ} (x : (⟨3, ![n, k, l]⟩ : Shape).Idx → EReal) : ∃ f : ℕ → ℕ → ℕ → EReal, ∀ (a : Fin n) (b : Fin k) (e : Fin l), x (ix3 a b e) = f a.val b.val e.val :=
  ⟨fun a b e => if h : a < n ∧ b < k ∧ e < l then x (ix3 ⟨a, h.1⟩ ⟨b, h.2.1⟩ ⟨e, h.2.2⟩) else 0, fun a b e => by simp⟩

end Cert.GmfIdeal.Hand

end
-- ==== Proof.ForwardClaims.lean ====
/- The claims of the forward calls other than the attention walk. -/
module

public import proofs.«01_k».proof.Defs
public import proofs.«01_k».proof.Proof.Gen.Nmm.Frame
public import proofs.«01_k».proof.Proof.Gen.NmmIdeal.Value
public import proofs.«01_k».proof.Proof.Gen.NmmRefIdeal.Run
public import proofs.«01_k».proof.Proof.NmmValue
public import proofs.«01_k».proof.Proof.Gen.Kvp.Frame
public import proofs.«01_k».proof.Proof.Gen.KvpIdeal.Value
public import proofs.«01_k».proof.Proof.Gen.KvpRefIdeal.Run
public import proofs.«01_k».proof.Proof.KvpValue
public import proofs.«01_k».proof.Proof.Gen.Smm.Frame
public import proofs.«01_k».proof.Proof.Gen.SmmIdeal.Value
public import proofs.«01_k».proof.Proof.Gen.SmmRefIdeal.Run
public import proofs.«01_k».proof.Proof.SmmValue
public import proofs.«01_k».proof.Proof.Gen.Memf.Frame
public import proofs.«01_k».proof.Proof.Gen.MemfIdeal.Value
public import proofs.«01_k».proof.Proof.Gen.MemfRefIdeal.Run
public import proofs.«01_k».proof.Proof.MemfValue
public import proofs.«01_k».proof.Proof.Gen.Gmf.Frame
public import proofs.«01_k».proof.Proof.Gen.GmfIdeal.Frame
public import proofs.«01_k».proof.Proof.Gen.GmfIdeal.Value
public import proofs.«01_k».proof.Proof.Gen.GmfRefIdeal.Run
public import proofs.«01_k».proof.Proof.GmfValue
public import proofs.«01_k».proof.Proof.Gen.On_gmf_written
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem frame_Nmm : quiescent_Nmm := fun m ρ _ => Cert.Nmm.Gen.frame m ρ
theorem frame_NmmIdeal : quiescent_NmmIdeal := fun m ρ _ => Cert.NmmIdeal.Gen.frame m ρ
theorem frame_NmmRefIdeal : quiescent_NmmRefIdeal := fun m ρ _ =>
  (θ_run Cert.NmmRefIdeal.defs _ _).mono (fun r h => ⟨fun c => (h c).2, sem_eq_zero_of_no_sems (by decide) r.2⟩)
    (Cert.NmmRefIdeal.Value.run (F := Ideal) m ρ)

/-- The call multiplies the normed rows with the gate's and the up projection's weights. -/
theorem algebraic_Nmm : algebraic_NmmIdeal_NmmRefIdeal := by
  intro m ρ m' ρ' _ hagree
  refine ⟨_, Cert.NmmIdeal.Value.run_blocks (F := Ideal) m ρ, ?_⟩
  refine (θ_run Cert.NmmRefIdeal.defs _ _).mono (fun _ h c => ⟨(h c).1.trans ((Cert.NmmRefIdeal.Read.val_main_v16_eq _ _ _ _).trans ?_), (h c).2⟩) (Cert.NmmRefIdeal.Value.run (F := Ideal) m' ρ')
  refine Eq.trans ?_ (Cert.NmmIdeal.Hand.final m c).symm
  obtain ⟨a0, a1, a2, a3⟩ := hagree c
  rw [← a0, ← a1, ← a2, ← a3]

theorem frame_Kvp : quiescent_Kvp := fun m ρ _ => Cert.Kvp.Gen.frame m ρ
theorem frame_KvpIdeal : quiescent_KvpIdeal := fun m ρ _ => Cert.KvpIdeal.Gen.frame m ρ
theorem frame_KvpRefIdeal : quiescent_KvpRefIdeal := fun m ρ _ =>
  (θ_run Cert.KvpRefIdeal.defs _ _).mono (fun r h => ⟨fun c => (h c).2, sem_eq_zero_of_no_sems (by decide) r.2⟩)
    (Cert.KvpRefIdeal.Value.run (F := Ideal) m ρ)

/-- The call multiplies the normed rows with the weight. -/
theorem algebraic_Kvp : algebraic_KvpIdeal_KvpRefIdeal := by
  intro m ρ m' ρ' _ hagree
  refine ⟨_, Cert.KvpIdeal.Value.run_blocks (F := Ideal) m ρ, ?_⟩
  refine (θ_run Cert.KvpRefIdeal.defs _ _).mono (fun _ h c => ⟨(h c).1.trans ((Cert.KvpRefIdeal.Read.val_main_v14_eq _ _ _).trans ?_), (h c).2⟩) (Cert.KvpRefIdeal.Value.run (F := Ideal) m' ρ')
  refine Eq.trans ?_ (Cert.KvpIdeal.Hand.final m c).symm
  obtain ⟨a0, a1, a2⟩ := hagree c
  rw [← a0, ← a1, ← a2]

theorem frame_Smm : quiescent_Smm := fun m ρ _ => Cert.Smm.Gen.frame m ρ
theorem frame_SmmIdeal : quiescent_SmmIdeal := fun m ρ _ => Cert.SmmIdeal.Gen.frame m ρ
theorem frame_SmmRefIdeal : quiescent_SmmRefIdeal := fun m ρ _ =>
  (θ_run Cert.SmmRefIdeal.defs _ _).mono (fun r h => ⟨fun c => (h c).2, sem_eq_zero_of_no_sems (by decide) r.2⟩)
    (Cert.SmmRefIdeal.Value.run (F := Ideal) m ρ)

/-- The call adds half the down projection of the gated hidden rows to the residual rows. -/
theorem algebraic_Smm : algebraic_SmmIdeal_SmmRefIdeal := by
  intro m ρ m' ρ' _ hagree
  refine ⟨_, Cert.SmmIdeal.Value.run_blocks (F := Ideal) m ρ, ?_⟩
  refine (θ_run Cert.SmmRefIdeal.defs _ _).mono (fun _ h c => ⟨(h c).1.trans ((Cert.SmmRefIdeal.Read.val_main_v5_eq _ _ _ _).trans ?_), (h c).2⟩) (Cert.SmmRefIdeal.Value.run (F := Ideal) m' ρ')
  refine Eq.trans ?_ (Cert.SmmIdeal.Hand.final m c).symm
  obtain ⟨a0, a1, a2, a3⟩ := hagree c
  rw [← a0, ← a1, ← a2, ← a3]

theorem frame_Memf : quiescent_Memf := fun m ρ _ => Cert.Memf.Gen.frame m ρ
theorem frame_MemfIdeal : quiescent_MemfIdeal := fun m ρ _ => Cert.MemfIdeal.Gen.frame m ρ
theorem frame_MemfRefIdeal : quiescent_MemfRefIdeal := fun m ρ _ =>
  (θ_run Cert.MemfRefIdeal.defs _ _).mono (fun r h => ⟨fun c => (h c).2, sem_eq_zero_of_no_sems (by decide) r.2⟩)
    (Cert.MemfRefIdeal.Value.run (F := Ideal) m ρ)

/-- The call writes the forward attention over the memory into its last columns. -/
theorem algebraic_Memf : algebraic_MemfIdeal_MemfRefIdeal := by
  intro m ρ m' ρ' _ hagree
  refine ⟨_, Cert.MemfIdeal.Value.run_blocks (F := Ideal) m ρ, ?_⟩
  refine (θ_run Cert.MemfRefIdeal.defs _ _).mono (fun _ h c => ⟨(h c).1.trans ((Cert.MemfRefIdeal.Read.val_main_v29_eq _ _).trans ?_), (h c).2⟩) (Cert.MemfRefIdeal.Value.run (F := Ideal) m' ρ')
  refine Eq.trans ?_ (Cert.MemfIdeal.Hand.final m c).symm
  obtain ⟨a0, a1, a2⟩ := hagree c
  rw [← a0, ← a1, ← a2]

theorem frame_Gmf : quiescent_Gmf := fun m ρ _ => Cert.Gmf.Gen.frame m ρ
theorem frame_GmfIdeal : quiescent_GmfIdeal := fun m ρ _ => Cert.GmfIdeal.Gen.frame m ρ
theorem frame_GmfRefIdeal : quiescent_GmfRefIdeal := fun m ρ _ =>
  (θ_run Cert.GmfRefIdeal.defs _ _).mono (fun r h => ⟨fun c => (h c).2, sem_eq_zero_of_no_sems (by decide) r.2⟩)
    (Cert.GmfRefIdeal.Value.run (F := Ideal) m ρ)

/-- The idealised program differs in one constant of the gelu, named with its exact value. -/
theorem preserves_Gmf : preserves_Gmf_GmfIdeal :=
  IdealRules.named_const.statement Cert.GmfIdeal.κ "gelu_a" .f32 0x3D372713#32 ((8943 / 200000 : ℝ) : EReal) rfl

set_option maxHeartbeats 4000000 in
/-- The call computes the gated branch of the projected rows, at every value of its arguments. -/
theorem algebraic_Gmf : algebraic_GmfIdeal_GmfRefIdeal_on_gmf_written := by
  intro m ρ m' ρ' _ hagree
  refine ⟨fun c => (Cert.GmfIdeal.Gen.dats m 0 c).arrAt 4 Cert.GmfIdeal.cfg0.N,
    (θ_run Cert.GmfIdeal.defs _ _).mono (fun _ h c => ⟨fun i _ => congrFun (h c).1 i, (h c).2⟩) (Cert.GmfIdeal.Value.run_blocks m ρ), ?_⟩
  refine (θ_run Cert.GmfRefIdeal.defs _ _).mono (fun _ h c => ?_) (Cert.GmfRefIdeal.Value.run (F := Ideal) m' ρ')
  obtain ⟨a0, a1, a2, a3⟩ := hagree c
  obtain ⟨x, hx⟩ := Cert.GmfIdeal.Hand.nat2 (m ((c.tc : Thread Cert.GmfIdeal.nD Cert.GmfIdeal.τ).loc Cert.GmfIdeal.main_arg0))
  obtain ⟨g, hg⟩ := Cert.GmfIdeal.Hand.nat1 (m ((c.tc : Thread Cert.GmfIdeal.nD Cert.GmfIdeal.τ).loc Cert.GmfIdeal.main_arg1))
  obtain ⟨w, hw⟩ := Cert.GmfIdeal.Hand.nat3 (m ((c.tc : Thread Cert.GmfIdeal.nD Cert.GmfIdeal.τ).loc Cert.GmfIdeal.main_arg2))
  obtain ⟨b, hb⟩ := Cert.GmfIdeal.Hand.nat2 (m ((c.tc : Thread Cert.GmfIdeal.nD Cert.GmfIdeal.τ).loc Cert.GmfIdeal.main_arg3))
  refine ⟨fun i hi => (congrFun ((h c).1.trans (Cert.GmfRefIdeal.Read.val_main_v52_eq _ _)) i).trans ?_, (h c).2⟩
  have hi := Cert.GmfIdeal.Hand.shown i hi
  refine Eq.trans ?_ (((congrArg _ (eq_ix2 i)).trans (Cert.GmfIdeal.Hand.final m hx hg hw hb (i 0) (i 1) hi)).symm)
  refine (congrArg _ (eq_ix2 i)).trans (Eq.trans ?_ (Cert.GmfIdeal.Hand.ref_at hx hg hw hb (i 0) (i 1) hi))
  rw [← a0, ← a1, ← a2, ← a3]

end Cert.Proof

end
-- ==== Proof.DyValue.lean ====
/- The value of a product with a transposed weight: the gradient of the rows that were multiplied by it. -/
module

public import proofs.«01_k».proof.Proof.Gen.DyIdeal.Value
public import proofs.«01_k».proof.Proof.Gen.DyRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.DyIdeal.Hand

open Cert.DyIdeal Cert.DyIdeal.Gen

variable (m : (ℓ : Loc nD τ sig) → Buf (Elt Ideal) ℓ)

/-- The word of one is the real number one. -/
theorem one_word : Ideal.ofBits .f32 0x3F800000#32 = (1 : EReal) := by
  simp [Ideal.ofBits, Ideal.ieee, -EReal.coe_mul]; norm_num

/-- The product of two rows. -/
def rowProd (x y : Fin 1024 → EReal) : EReal := ∑ k, x k * y k

/-- One block of the result: the gradient's row block times the weight's rows. -/
theorem out_at (c : Dev nD) (t : Fin cfg0.N) (a b : Fin 1024) :
    outsAt0 m c t (ix2 a b) = rowProd (fun k => (iblk m c 0 t : FVec Ideal S1024x1024 .f32) (ix2 a k)) (fun k => (iblk m c 1 t : FVec Ideal S1024x1024 .bf16) (ix2 b k)) := by
  unfold outsAt0
  frame_out
  open_payloads
  pointwise [one_word, rowProd]

/-- The block indices of the three windows at every grid point. -/
theorem idx : ∀ t : Fin cfg0.N, win0_0.index t = ![t.val, 0] ∧ win0_1.index t = ![0, 0] ∧ win0_2.index t = ![t.val, 0] :=
  (by decide +kernel : ∀ t : Fin grid0.N, _)

/-- The weight as the region finds it: the argument's. -/
theorem weight (c : Dev nD) : (V m c main_v0 : FVec Ideal S1024x1024 .bf16) = (truncf .bf16 (m (c.tc.loc main_arg0) : FVec Ideal S1024x1024 .f32) bitsLt_bf16_f32 : FVec Ideal S1024x1024 .bf16) := by
  unfold V; after_results

/-- The reference at an entry. -/
theorem ref_at (x0 : FVec Ideal S1024x1024 .f32) (x1 : FVec Ideal S8192x1024 .f32) (i : Fin 8192) (j : Fin 1024) :
    Cert.DyRefIdeal.Read.val_main_v3 (F := Ideal) x0 x1 (ix2 i j) = ∑ k : Fin 1024, x1 (ix2 i k) * x0 (ix2 j k) := by
  open Cert.DyRefIdeal.Read in
  pointwise [val_main_v3, val_main_v2]

/-- The array the calls write is the reference's. -/
theorem final (c : Dev nD) : (dats m 0 c).arrAt 2 cfg0.N = Cert.DyRefIdeal.Read.val_main_v3 (F := Ideal) (m (c.tc.loc main_arg0)) (m (c.tc.loc main_arg1)) := by
  refine (dats m 0 c).arrAt_eq_of_covers 2 _ (by decide +kernel) fun t hf y => ?_
  have ht : t.val < 8 := t.isLt
  have y0 : (y 0).val < 1024 := (y 0).isLt
  have y1 : (y 1).val < 1024 := (y 1).isLt
  have e : (win0_2.blk t).view.emb y = ix2 ⟨1024 * t.val + (y 0).val, by omega⟩ ⟨(y 1).val, by omega⟩ := by
    blk_ext [idx t]
  blk_simp
  rw [after0_2]
  refine Eq.trans ?_ (congrArg _ e).symm
  refine Eq.trans ?_ (ref_at _ _ _ _).symm
  refine (congrArg _ (eq_ix2 y)).trans ((out_at m c t (y 0) (y 1)).trans ?_)
  refine Finset.sum_congr rfl fun k _ => congrArg₂ (· * ·) ?_ ?_
  · blk_point [iblk, V, idx t]
  · refine Eq.trans ?_ (congrFun (weight m c) _)
    blk_simp [iblk, idx t]; refine congrArg (V m c main_v0) ?_; blk_ext [idx t]

end Cert.DyIdeal.Hand

end
-- ==== Proof.DwValue.lean ====
/- The value of a product with transposed rows: the gradients of two weights, one above the other, summed over eight row blocks. -/
module

public import proofs.«01_k».proof.Proof.Gen.DwIdeal.Value
public import proofs.«01_k».proof.Proof.Gen.DwRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.DwIdeal.Hand

open Cert.DwIdeal Cert.DwIdeal.Gen

variable (m : (ℓ : Loc nD τ sig) → Buf (Elt Ideal) ℓ)

/-- The word of one is the real number one. -/
theorem one_word : Ideal.ofBits .f32 0x3F800000#32 = (1 : EReal) := by
  simp [Ideal.ofBits, Ideal.ieee, -EReal.coe_mul]; norm_num

/-- One row block's contribution to an entry. -/
def part (g : FVec Ideal S1024x1408 .bf16) (h : FVec Ideal S1024x1024 .bf16) (j : S1408x1024.Idx) : EReal :=
  ∑ k : Fin 1024, g (ix2 k (j 0)) * h (ix2 k (j 1))

/-- At the first point of a run the accumulator holds this block's contribution. -/
theorem acc_A (c : Dev nD) (t : Fin cfg0.N) (h0 : t.val % 8 = 0) (h1 : ¬ t.val % 8 = 7) (j : S1408x1024.Idx) :
    (outsAt0 m c t.val t.isLt).2 j = 0 + part (iblk m c 0 t) (iblk m c 1 t) j := by
  rw [outsAt0_A m c t h0 h1]
  frame_out
  open_payloads
  pointwise [part]

/-- At every later point of a run the accumulator gains this block's contribution. -/
theorem acc_step (c : Dev nD) (t : Fin cfg0.N) (h0 : ¬ t.val % 8 = 0) (j : S1408x1024.Idx) :
    (outsAt0 m c t.val t.isLt).2 j = (outsAt0 m c (t.val - 1) (Nat.lt_of_le_of_lt (Nat.sub_le _ _) t.isLt)).2 j + part (iblk m c 0 t) (iblk m c 1 t) j := by
  by_cases h1 : t.val % 8 = 7
  on_goal 1 => rw [outsAt0_C m c t h0 h1]
  on_goal 2 => rw [outsAt0_B m c t h0 h1]
  all_goals
    frame_out
    generalize (outsAt0 m c (t.val - 1) _).2 = acc
    open_payloads
    pointwise [part, read_unread_whole]

/-- At the last point of a run the block written back is what the accumulator then holds. -/
theorem out_last (c : Dev nD) (t : Fin cfg0.N) (h0 : ¬ t.val % 8 = 0) (h1 : t.val % 8 = 7) (j : S1408x1024.Idx) :
    (outsAt0 m c t.val t.isLt).1 j = (outsAt0 m c t.val t.isLt).2 j := by
  rw [outsAt0_C m c t h0 h1]
  frame_out
  generalize (outsAt0 m c (t.val - 1) _).2 = acc
  open_payloads
  pointwise [one_word]

/-- The block indices of the three windows at every grid point. -/
theorem idx : ∀ t : Fin cfg0.N, win0_0.index t = ![t.val % 8, t.val / 8] ∧ win0_1.index t = ![t.val % 8, 0] ∧ win0_2.index t = ![t.val / 8, 0] ∧ t.val / 8 < 4 :=
  (by decide +kernel : ∀ t : Fin grid0.N, _)

/-- The two gradients side by side as the region finds them. -/
theorem packed (c : Dev nD) : (V m c main_v1 : FVec Ideal S8192x5632 .bf16)
    = (truncf .bf16 (concatenate S8192x5632 1 [⟨S8192x2816, (m (c.tc.loc main_arg1) : FVec Ideal S8192x2816 .f32)⟩, ⟨S8192x2816, (m (c.tc.loc main_arg2) : FVec Ideal S8192x2816 .f32)⟩]
      concatenates_S8192x2816_S8192x2816_S8192x5632_d1 : FVec Ideal S8192x5632 .f32) bitsLt_bf16_f32 : FVec Ideal S8192x5632 .bf16) := by
  unfold V; after_results

theorem packed_at (c : Dev nD) (k : Fin 8192) (j : Fin 5632) : (V m c main_v1 : FVec Ideal S8192x5632 .bf16) (ix2 k j)
    = if h : j.val < 2816 then (m (c.tc.loc main_arg1) : FVec Ideal S8192x2816 .f32) (ix2 k ⟨j.val, h⟩) else (m (c.tc.loc main_arg2) : FVec Ideal S8192x2816 .f32) (ix2 k ⟨j.val - 2816, by have := j.isLt; omega⟩) := by
  rw [packed]
  pointwise

/-- The rows as the region finds them: the argument's. -/
theorem rows (c : Dev nD) : (V m c main_v2 : FVec Ideal S8192x1024 .bf16) = (truncf .bf16 (m (c.tc.loc main_arg0) : FVec Ideal S8192x1024 .f32) bitsLt_bf16_f32 : FVec Ideal S8192x1024 .bf16) := by
  unfold V; after_results

/-- The reference at an entry. -/
theorem ref_at (x0 : FVec Ideal S8192x1024 .f32) (x1 x2 : FVec Ideal S8192x2816 .f32) (i : Fin 5632) (j : Fin 1024) :
    Cert.DwRefIdeal.Read.val_main_v10 (F := Ideal) x0 x1 x2 (ix2 i j) = ∑ k : Fin 8192,
      (if h : i.val < 2816 then x1 (ix2 k ⟨i.val, h⟩) else x2 (ix2 k ⟨i.val - 2816, by have := i.isLt; omega⟩)) * x0 (ix2 k j) := by
  open Cert.DwRefIdeal.Read in
  pointwise [val_main_v10, val_main_v9, val_main_v8, val_main_v7, val_main_v6, val_main_v5, val_main_v4, val_main_v3]
  split
  all_goals rfl

/-- The array the calls write is the reference's. -/
theorem final (c : Dev nD) : (dats m 0 c).arrAt 2 cfg0.N = Cert.DwRefIdeal.Read.val_main_v10 (F := Ideal) (m (c.tc.loc main_arg0)) (m (c.tc.loc main_arg1)) (m (c.tc.loc main_arg2)) := by
  refine (dats m 0 c).arrAt_eq_of_covers 2 _ (by decide +kernel) fun t hf y => ?_
  have ht : t.val < 32 := t.isLt
  have y0 : (y 0).val < 1408 := (y 0).isLt
  have y1 : (y 1).val < 1024 := (y 1).isLt
  have e : (win0_2.blk t).view.emb y = ix2 ⟨1408 * (t.val / 8) + (y 0).val, by omega⟩ ⟨(y 1).val, by omega⟩ := by
    blk_ext [idx t]
  blk_simp
  rw [after0_2]
  refine Eq.trans ?_ (congrArg _ e).symm
  refine Eq.trans ?_ (ref_at _ _ _ _ _).symm
  refine (out_last m c t (by have := (flush0_2 t).mp hf; omega) ((flush0_2 t).mp hf) y).trans ?_
  rw [Pipeline.eq_sum_fin_of_reset_step_apply_of_flush (fun n h => (outsAt0 m c n h).2) 8 (fun _ => 0) _
    (fun t h j => by rw [acc_A m c t h (by omega)]) (fun t h j => by rw [acc_step m c t h])
    t ((flush0_2 t).mp hf) _, zero_add]
  simp only [part]
  refine Fin.sum_mul_add_congr fun s k hl => ?_
  have hs := idx ⟨_, Pipeline.run_point_lt_of_flush t ((flush0_2 t).mp hf) s⟩
  have hm : (8 * (t.val / 8) + s.val) % 8 = s.val := by omega
  have hd : (8 * (t.val / 8) + s.val) / 8 = t.val / 8 := by omega
  refine congrArg₂ (· * ·) (Eq.trans ?_ (packed_at m c ⟨s.val * 1024 + k.val, hl⟩ ⟨1408 * (t.val / 8) + (y 0).val, by omega⟩)) (Eq.trans ?_ (congrFun (rows m c) _))
  · blk_simp [iblk, hs]; refine congrArg (V m c main_v1) ?_; blk_ext [idx t, hs, hm, hd]
  · blk_simp [iblk, hs]; refine congrArg (V m c main_v2) ?_; blk_ext [idx t, hs, hm, hd]

end Cert.DwIdeal.Hand

end
-- ==== Proof.OutValue.lean ====
/- The value of the product with the output weight, added to the stream: each entry is the stream plus the sum over the contracted axis. -/
module

public import proofs.«01_k».proof.Proof.Gen.OutIdeal.Value
public import proofs.«01_k».proof.Proof.Gen.OutRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen

variable (m : (ℓ : Loc nD τ sig) → Buf (Elt Ideal) ℓ)

/-- The word of one is the real number one. -/
theorem one_word : Ideal.ofBits .f32 0x3F800000#32 = (1 : EReal) := by
  simp [Ideal.ofBits, Ideal.ieee, -EReal.coe_mul]; norm_num

/-- One block of the result: the stream's block plus the row block times the weight. -/
theorem out_at (x0 x1 : FVec Ideal S1024x1024 .bf16) (x2 : FVec Ideal S1024x1024 .f32) (j : S1024x1024.Idx) :
    out0_3 (F := Ideal) x0 x1 x2 j = x2 j + ∑ k : Fin 1024, x0 (ix2 (j 0) k) * x1 (ix2 k (j 1)) := by
  unfold out0_3
  canon_tiles z q
  open_payloads
  pointwise [one_word]
  all_goals blk_point

/-- The block indices of the four windows at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The rows as the region finds them: the argument's. -/
theorem rows (c : Dev nD) : (V m c main_v0 : FVec Ideal S8192x1024 .bf16) = (truncf .bf16 (m (c.tc.loc main_arg0) : FVec Ideal S8192x1024 .f32) bitsLt_bf16_f32 : FVec Ideal S8192x1024 .bf16) := by
  unfold V; after_results

/-- The weight as the region finds it: the argument's. -/
theorem weight (c : Dev nD) : (V m c main_v1 : FVec Ideal S1024x1024 .bf16) = (truncf .bf16 (m (c.tc.loc main_arg1) : FVec Ideal S1024x1024 .f32) bitsLt_bf16_f32 : FVec Ideal S1024x1024 .bf16) := by
  unfold V; after_results

/-- The reference at an entry. -/
theorem ref_at (x0 : FVec Ideal S8192x1024 .f32) (x1 : FVec Ideal S1024x1024 .f32) (x2 : FVec Ideal S8192x1024 .f32) (i : Fin 8192) (j : Fin 1024) :
    Cert.OutRefIdeal.Read.val_main_v1 (F := Ideal) x0 x1 x2 (ix2 i j) = x2 (ix2 i j) + ∑ k : Fin 1024, x0 (ix2 i k) * x1 (ix2 k j) := by
  open Cert.OutRefIdeal.Read in
  pointwise [val_main_v1, val_main_v0]

/-- The array the calls write is the reference's. -/
theorem final (c : Dev nD) : (dats m 0 c).arrAt 3 cfg0.N = Cert.OutRefIdeal.Read.val_main_v1 (F := Ideal) (m (c.tc.loc main_arg0)) (m (c.tc.loc main_arg1)) (m (c.tc.loc main_arg2)) := by
  refine (dats m 0 c).arrAt_eq_of_covers 3 _ (by decide +kernel) fun t hf y => ?_
  have ht : t.val < 8 := t.isLt
  have y0 : (y 0).val < 1024 := (y 0).isLt
  have y1 : (y 1).val < 1024 := (y 1).isLt
  have e : (win0_3.blk t).view.emb y = ix2 ⟨1024 * t.val + (y 0).val, by omega⟩ ⟨(y 1).val, by omega⟩ := by
    blk_ext [idx t]
  blk_simp
  rw [after0_3]
  refine Eq.trans ?_ (congrArg _ e).symm
  refine Eq.trans ?_ (ref_at _ _ _ _ _).symm
  refine (out_at _ _ _ y).trans ?_
  refine congrArg₂ (· + ·) ?_ (Finset.sum_congr rfl fun k _ => congrArg₂ (· * ·) ?_ ?_)
  · blk_point [iblk, V, idx t]
  · refine Eq.trans ?_ (congrFun (rows m c) _)
    blk_simp [iblk, idx t]; refine congrArg (V m c main_v0) ?_; blk_ext [idx t]
  · refine Eq.trans ?_ (congrFun (weight m c) _)
    blk_simp [iblk, idx t]; refine congrArg (V m c main_v1) ?_; blk_ext [idx t]

end Cert.OutIdeal.Hand

end
-- ==== Proof.KsumValue.lean ====
/- The value of the sum of two gradients stacked on a leading axis. -/
module

public import proofs.«01_k».proof.Proof.Gen.KsumIdeal.Value
public import proofs.«01_k».proof.Proof.Gen.KsumRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.KsumIdeal.Hand

open Cert.KsumIdeal Cert.KsumIdeal.Gen

variable (m : (ℓ : Loc nD τ sig) → Buf (Elt Ideal) ℓ)

/-- One block of the result: the sum of the two stacked blocks. -/
theorem out_at (x : FVec Ideal S2x512x1536 .f32) (j : S512x1536.Idx) :
    out0_1 (F := Ideal) x j = x (ix3 0 (j 0) (j 1)) + x (ix3 1 (j 0) (j 1)) := by
  unfold out0_1
  canon_tiles z q
  open_payloads
  pointwise
  all_goals blk_point

/-- The block indices of the two windows at every grid point. -/
theorem idx : ∀ t : Fin cfg0.N, win0_0.index t = ![0, t.val, 0] ∧ win0_1.index t = ![t.val, 0] :=
  (by decide +kernel : ∀ t : Fin grid0.N, _)

/-- The two gradients, stacked, as the region finds them. -/
theorem stacked (c : Dev nD) : (V m c main_v2 : FVec Ideal S2x8192x1536 .f32)
    = (concatenate S2x8192x1536 0 [⟨S1x8192x1536, broadcastInDim S1x8192x1536 ![1, 2] bcast_S8192x1536_S1x8192x1536_1_2 (m (c.tc.loc main_arg0) : FVec Ideal S8192x1536 .f32)⟩,
      ⟨S1x8192x1536, broadcastInDim S1x8192x1536 ![1, 2] bcast_S8192x1536_S1x8192x1536_1_2 (m (c.tc.loc main_arg1) : FVec Ideal S8192x1536 .f32)⟩] concatenates_S1x8192x1536_S1x8192x1536_S2x8192x1536_d0 : FVec Ideal S2x8192x1536 .f32) := by
  unfold V; after_results

/-- The first of the two. -/
theorem stacked_fst (c : Dev nD) (a : Fin 8192) (b : Fin 1536) : (V m c main_v2 : FVec Ideal S2x8192x1536 .f32) (ix3 0 a b) = (m (c.tc.loc main_arg0) : FVec Ideal S8192x1536 .f32) (ix2 a b) := by
  rw [stacked]
  pointwise

/-- The second of the two. -/
theorem stacked_snd (c : Dev nD) (a : Fin 8192) (b : Fin 1536) : (V m c main_v2 : FVec Ideal S2x8192x1536 .f32) (ix3 1 a b) = (m (c.tc.loc main_arg1) : FVec Ideal S8192x1536 .f32) (ix2 a b) := by
  rw [stacked]
  pointwise

/-- The reference at an entry. -/
theorem ref_at (x0 x1 : FVec Ideal S8192x1536 .f32) (i : Fin 8192) (j : Fin 1536) :
    Cert.KsumRefIdeal.Read.val_main_v1 (F := Ideal) x0 x1 (ix2 i j) = x0 (ix2 i j) + x1 (ix2 i j) := by
  open Cert.KsumRefIdeal.Read in
  pointwise [val_main_v1, val_main_v0]

/-- The array the calls write is the reference's. -/
theorem final (c : Dev nD) : (dats m 0 c).arrAt 1 cfg0.N = Cert.KsumRefIdeal.Read.val_main_v1 (F := Ideal) (m (c.tc.loc main_arg0)) (m (c.tc.loc main_arg1)) := by
  refine (dats m 0 c).arrAt_eq_of_covers 1 _ (by decide +kernel) fun t hf y => ?_
  have ht : t.val < 16 := t.isLt
  have y0 : (y 0).val < 512 := (y 0).isLt
  have y1 : (y 1).val < 1536 := (y 1).isLt
  have e : (win0_1.blk t).view.emb y = ix2 ⟨512 * t.val + (y 0).val, by omega⟩ ⟨(y 1).val, by omega⟩ := by
    blk_ext [idx t]
  blk_simp
  rw [after0_1]
  refine Eq.trans ?_ (congrArg _ e).symm
  refine Eq.trans ?_ (ref_at _ _ _ _).symm
  refine (out_at _ y).trans ?_
  refine congrArg₂ (· + ·) (Eq.trans ?_ (stacked_fst m c _ _)) (Eq.trans ?_ (stacked_snd m c _ _))
  all_goals (blk_simp [iblk, idx t]; refine congrArg (V m c main_v2) ?_; blk_ext [idx t])

end Cert.KsumIdeal.Hand

end
-- ==== Proof.AdamValue.lean ====
/- The value of the optimiser step: the sum of the eight parts, the two moments, and the change of the weight. -/
module

public import proofs.«01_k».proof.Proof.Gen.AdamIdeal.Value
public import proofs.«01_k».proof.Proof.Gen.AdamRefIdeal.Read
public import Idealize.ShloMosaic.Lib.Pipeline.ValueKit
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.AdamIdeal.Hand

open Cert.AdamIdeal Cert.AdamIdeal.Gen

variable (m : (ℓ : Loc nD τ sig) → Buf (Elt Ideal) ℓ)

/-- The gradient at one entry: the sum of its eight parts. -/
def gradAt (p : Fin 8 → EReal) : EReal := ∑ d, p d

/-- The first moment at one entry. -/
def firstAt (p : Fin 8 → EReal) (mo : EReal) : EReal := Ideal.ofBits .f32 0x3F666666#32 * mo + Ideal.ofBits .f32 0x3DCCCCCD#32 * gradAt p

/-- The second moment at one entry. -/
def secondAt (p : Fin 8 → EReal) (v : EReal) : EReal := Ideal.ofBits .f32 0x3F7FBE77#32 * v + Ideal.ofBits .f32 0x3A83126F#32 * (gradAt p * gradAt p)

/-- The change of the weight at one entry. -/
def deltaAt (w : EReal) (p : Fin 8 → EReal) (mo v : EReal) : EReal :=
  Ideal.ofBits .f32 0xBA83126F#32 * (Ideal.div (Ideal.div (firstAt p mo) (Ideal.ofBits .f32 0x3F26BD02#32))
    (Ideal.sqrt (Ideal.div (secondAt p v) (Ideal.ofBits .f32 0x3C231ACC#32)) + Ideal.ofBits .f32 0x322BCC77#32) + Ideal.ofBits .f32 0x3C23D70A#32 * w)

/-- The eight parts of a block at an entry. -/
def partsAt (x1 : FVec Ideal S8x352x1024 .bf16) (j : S352x1024.Idx) (d : Fin 8) : EReal := x1 (ix3 d (j 0) (j 1))

/-- The block of the gradient. -/
theorem grad_block (x0 x2 x3 : FVec Ideal S352x1024 .f32) (x1 : FVec Ideal S8x352x1024 .bf16) (j : S352x1024.Idx) :
    out0_4 (F := Ideal) x0 x1 x2 x3 j = gradAt (partsAt x1 j) := by
  unfold out0_4
  canon_tiles z q
  open_payloads
  pointwise [gradAt, partsAt, Fin.sum_univ_eight]
  all_goals blk_point

/-- The block of the first moment. -/
theorem first_block (x0 x2 x3 : FVec Ideal S352x1024 .f32) (x1 : FVec Ideal S8x352x1024 .bf16) (j : S352x1024.Idx) :
    out0_6 (F := Ideal) x0 x1 x2 x3 j = firstAt (partsAt x1 j) (x2 j) := by
  unfold out0_6
  canon_tiles z q
  open_payloads
  pointwise [firstAt, gradAt, partsAt, Fin.sum_univ_eight]
  all_goals blk_point

/-- The block of the second moment. -/
theorem second_block (x0 x2 x3 : FVec Ideal S352x1024 .f32) (x1 : FVec Ideal S8x352x1024 .bf16) (j : S352x1024.Idx) :
    out0_7 (F := Ideal) x0 x1 x2 x3 j = secondAt (partsAt x1 j) (x3 j) := by
  unfold out0_7
  canon_tiles z q
  open_payloads
  pointwise [secondAt, gradAt, partsAt, Fin.sum_univ_eight]
  all_goals blk_point

/-- The block of the weight's change. -/
theorem delta_block (x0 x2 x3 : FVec Ideal S352x1024 .f32) (x1 : FVec Ideal S8x352x1024 .bf16) (j : S352x1024.Idx) :
    out0_5 (F := Ideal) x0 x1 x2 x3 j = deltaAt (x0 j) (partsAt x1 j) (x2 j) (x3 j) := by
  unfold out0_5
  canon_tiles z q
  open_payloads
  pointwise [deltaAt, firstAt, secondAt, gradAt, partsAt, Fin.sum_univ_eight]
  all_goals blk_point

/-- The block indices of the eight windows at every grid point. -/
theorem idx : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The weight, the parts and the moments as the region finds them: the arguments', reshaped. -/
theorem weight (c : Dev nD) : (V m c main_v0 : FVec Ideal S1408x1024 .f32) = shapeCast S1408x1024 (m (c.tc.loc main_arg0) : FVec Ideal S4x352x1024 .f32) shapeCasts_S4x352x1024_S1408x1024 := by
  unfold V; after_results; rfl

theorem parts (c : Dev nD) : (V m c main_v1 : FVec Ideal S8x1408x1024 .bf16) = shapeCast S8x1408x1024 (m (c.tc.loc main_arg1) : FVec Ideal S8x4x352x1024 .bf16) shapeCasts_S8x4x352x1024_S8x1408x1024 := by
  unfold V; after_results; rfl

theorem first (c : Dev nD) : (V m c main_v2 : FVec Ideal S1408x1024 .f32) = shapeCast S1408x1024 (m (c.tc.loc main_arg2) : FVec Ideal S4x352x1024 .f32) shapeCasts_S4x352x1024_S1408x1024 := by
  unfold V; after_results; rfl

theorem second (c : Dev nD) : (V m c main_v3 : FVec Ideal S1408x1024 .f32) = shapeCast S1408x1024 (m (c.tc.loc main_arg3) : FVec Ideal S4x352x1024 .f32) shapeCasts_S4x352x1024_S1408x1024 := by
  unfold V; after_results; rfl

/-- A reshaped array at an entry of its row block. -/
theorem rows_at (x : FVec Ideal S4x352x1024 .f32) (h) (t : Fin 4) (a : Fin 352) (b : Fin 1024) (hr : 352 * t.val + a.val < 1408) :
    shapeCast S1408x1024 x h (ix2 ⟨352 * t.val + a.val, hr⟩ b) = x (ix3 t a b) := by
  pointwise

theorem parts_rows_at (x : FVec Ideal S8x4x352x1024 .bf16) (h) (d : Fin 8) (t : Fin 4) (a : Fin 352) (b : Fin 1024) (hr : 352 * t.val + a.val < 1408) :
    shapeCast S8x1408x1024 x h (ix3 d ⟨352 * t.val + a.val, hr⟩ b) = x (ix4 d t a b) := by
  pointwise

/-- The block of the weight at a grid point: the argument's rows. -/
theorem weight_block_at (c : Dev nD) (t : Fin cfg0.N) (ht : t.val < 4) (y : S352x1024.Idx) : (iblk m c 0 t : FVec Ideal S352x1024 .f32) y = (m (c.tc.loc main_arg0) : FVec Ideal S4x352x1024 .f32) (ix3 ⟨t.val, ht⟩ (y 0) (y 1)) := by
  have y0 : (y 0).val < 352 := (y 0).isLt
  refine Eq.trans ?_ ((congrFun (weight m c) _).trans (rows_at _ _ ⟨t.val, ht⟩ (y 0) (y 1) (by dsimp only; omega)))
  blk_simp [iblk, idx t]; refine congrArg (V m c main_v0) ?_; blk_ext [idx t]

/-- The block of the first moment at a grid point: the argument's rows. -/
theorem first_block_at (c : Dev nD) (t : Fin cfg0.N) (ht : t.val < 4) (y : S352x1024.Idx) : (iblk m c 2 t : FVec Ideal S352x1024 .f32) y = (m (c.tc.loc main_arg2) : FVec Ideal S4x352x1024 .f32) (ix3 ⟨t.val, ht⟩ (y 0) (y 1)) := by
  have y0 : (y 0).val < 352 := (y 0).isLt
  refine Eq.trans ?_ ((congrFun (first m c) _).trans (rows_at _ _ ⟨t.val, ht⟩ (y 0) (y 1) (by dsimp only; omega)))
  blk_simp [iblk, idx t]; refine congrArg (V m c main_v2) ?_; blk_ext [idx t]

/-- The block of the second moment at a grid point: the argument's rows. -/
theorem second_block_at (c : Dev nD) (t : Fin cfg0.N) (ht : t.val < 4) (y : S352x1024.Idx) : (iblk m c 3 t : FVec Ideal S352x1024 .f32) y = (m (c.tc.loc main_arg3) : FVec Ideal S4x352x1024 .f32) (ix3 ⟨t.val, ht⟩ (y 0) (y 1)) := by
  have y0 : (y 0).val < 352 := (y 0).isLt
  refine Eq.trans ?_ ((congrFun (second m c) _).trans (rows_at _ _ ⟨t.val, ht⟩ (y 0) (y 1) (by dsimp only; omega)))
  blk_simp [iblk, idx t]; refine congrArg (V m c main_v3) ?_; blk_ext [idx t]

/-- The block of the parts at a grid point: the argument's rows. -/
theorem parts_block_at (c : Dev nD) (t : Fin cfg0.N) (ht : t.val < 4) (y : S352x1024.Idx) : partsAt (iblk m c 1 t) y = fun d => (m (c.tc.loc main_arg1) : FVec Ideal S8x4x352x1024 .bf16) (ix4 d ⟨t.val, ht⟩ (y 0) (y 1)) := by
  have y0 : (y 0).val < 352 := (y 0).isLt
  funext d
  refine Eq.trans ?_ ((congrFun (parts m c) _).trans (parts_rows_at _ _ d ⟨t.val, ht⟩ (y 0) (y 1) (by dsimp only; omega)))
  unfold partsAt
  blk_simp [iblk, idx t]; refine congrArg (V m c main_v1) ?_; blk_ext [idx t]

/-- The reference's gradient at an entry. -/
theorem ref_grad (x1 : FVec Ideal S8x4x352x1024 .bf16) (t : Fin 4) (a : Fin 352) (b : Fin 1024) (hr : 352 * t.val + a.val < 1408) :
    Cert.AdamRefIdeal.Read.val_main_v26 (F := Ideal) x1 (ix2 ⟨352 * t.val + a.val, hr⟩ b) = gradAt (fun d => x1 (ix4 d t a b)) := by
  refine (rows_at _ _ t a b hr).trans ?_
  open Cert.AdamRefIdeal.Read in
  pointwise [val_main_v1, val_main_v0, val_main_cst, gradAt]

/-- The reference's first moment at an entry. -/
theorem ref_first (x1 : FVec Ideal S8x4x352x1024 .bf16) (x2 : FVec Ideal S4x352x1024 .f32) (t : Fin 4) (a : Fin 352) (b : Fin 1024) (hr : 352 * t.val + a.val < 1408) :
    Cert.AdamRefIdeal.Read.val_main_v28 (F := Ideal) x1 x2 (ix2 ⟨352 * t.val + a.val, hr⟩ b) = firstAt (fun d => x1 (ix4 d t a b)) (x2 (ix3 t a b)) := by
  refine (rows_at _ _ t a b hr).trans ?_
  open Cert.AdamRefIdeal.Read in
  pointwise [val_main_v6, val_main_v5, val_main_v4, val_main_cst_1, val_main_v3, val_main_v2, val_main_cst_0, val_main_v1, val_main_v0, val_main_cst, firstAt, gradAt]

/-- The reference's second moment at an entry. -/
theorem ref_second (x1 : FVec Ideal S8x4x352x1024 .bf16) (x3 : FVec Ideal S4x352x1024 .f32) (t : Fin 4) (a : Fin 352) (b : Fin 1024) (hr : 352 * t.val + a.val < 1408) :
    Cert.AdamRefIdeal.Read.val_main_v29 (F := Ideal) x1 x3 (ix2 ⟨352 * t.val + a.val, hr⟩ b) = secondAt (fun d => x1 (ix4 d t a b)) (x3 (ix3 t a b)) := by
  refine (rows_at _ _ t a b hr).trans ?_
  open Cert.AdamRefIdeal.Read in
  pointwise [val_main_v12, val_main_v11, val_main_v10, val_main_cst_3, val_main_v9, val_main_v8, val_main_v7, val_main_cst_2, val_main_v1, val_main_v0, val_main_cst, secondAt, gradAt]

/-- The reference's change of the weight at an entry. -/
theorem ref_delta (x0 : FVec Ideal S4x352x1024 .f32) (x1 : FVec Ideal S8x4x352x1024 .bf16) (x2 x3 : FVec Ideal S4x352x1024 .f32) (t : Fin 4) (a : Fin 352) (b : Fin 1024) (hr : 352 * t.val + a.val < 1408) :
    Cert.AdamRefIdeal.Read.val_main_v27 (F := Ideal) x0 x1 x2 x3 (ix2 ⟨352 * t.val + a.val, hr⟩ b) = deltaAt (x0 (ix3 t a b)) (fun d => x1 (ix4 d t a b)) (x2 (ix3 t a b)) (x3 (ix3 t a b)) := by
  refine (rows_at _ _ t a b hr).trans ?_
  open Cert.AdamRefIdeal.Read in
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4,
    val_main_v12, val_main_v11, val_main_v10, val_main_cst_3, val_main_v9, val_main_v8, val_main_v7, val_main_cst_2, val_main_v6, val_main_v5, val_main_v4, val_main_cst_1, val_main_v3, val_main_v2, val_main_cst_0, val_main_v1, val_main_v0, val_main_cst, deltaAt, firstAt, secondAt, gradAt]

/-- The array of grad the calls write is the reference's. -/
theorem final_grad (c : Dev nD) : (dats m 0 c).arrAt 4 cfg0.N = Cert.AdamRefIdeal.Read.val_main_v26 (F := Ideal) (m (c.tc.loc main_arg1)) := by
  refine (dats m 0 c).arrAt_eq_of_covers 4 _ (by decide +kernel) fun t hf y => ?_
  have ht : t.val < 4 := t.isLt
  have y0 : (y 0).val < 352 := (y 0).isLt
  have e : (win0_4.blk t).view.emb y = ix2 ⟨352 * t.val + (y 0).val, by omega⟩ ⟨(y 1).val, (y 1).isLt⟩ := by
    blk_ext [idx t]
  blk_simp
  rw [after0_4]
  refine Eq.trans ?_ (congrArg _ e).symm
  refine Eq.trans ?_ (ref_grad _ ⟨t.val, ht⟩ (y 0) (y 1) _).symm
  refine (grad_block _ _ _ _ y).trans ?_
  simp only [parts_block_at m c t ht y]

/-- The array of delta the calls write is the reference's. -/
theorem final_delta (c : Dev nD) : (dats m 0 c).arrAt 5 cfg0.N = Cert.AdamRefIdeal.Read.val_main_v27 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  have ht : t.val < 4 := t.isLt
  have y0 : (y 0).val < 352 := (y 0).isLt
  have e : (win0_5.blk t).view.emb y = ix2 ⟨352 * t.val + (y 0).val, by omega⟩ ⟨(y 1).val, (y 1).isLt⟩ := by
    blk_ext [idx t]
  blk_simp
  rw [after0_5]
  refine Eq.trans ?_ (congrArg _ e).symm
  refine Eq.trans ?_ (ref_delta _ _ _ _ ⟨t.val, ht⟩ (y 0) (y 1) _).symm
  refine (delta_block _ _ _ _ y).trans ?_
  simp only [parts_block_at m c t ht y, weight_block_at m c t ht y, first_block_at m c t ht y, second_block_at m c t ht y]

/-- The array of first the calls write is the reference's. -/
theorem final_first (c : Dev nD) : (dats m 0 c).arrAt 6 cfg0.N = Cert.AdamRefIdeal.Read.val_main_v28 (F := Ideal) (m (c.tc.loc main_arg1)) (m (c.tc.loc main_arg2)) := by
  refine (dats m 0 c).arrAt_eq_of_covers 6 _ (by decide +kernel) fun t hf y => ?_
  have ht : t.val < 4 := t.isLt
  have y0 : (y 0).val < 352 := (y 0).isLt
  have e : (win0_6.blk t).view.emb y = ix2 ⟨352 * t.val + (y 0).val, by omega⟩ ⟨(y 1).val, (y 1).isLt⟩ := by
    blk_ext [idx t]
  blk_simp
  rw [after0_6]
  refine Eq.trans ?_ (congrArg _ e).symm
  refine Eq.trans ?_ (ref_first _ _ ⟨t.val, ht⟩ (y 0) (y 1) _).symm
  refine (first_block _ _ _ _ y).trans ?_
  simp only [parts_block_at m c t ht y, first_block_at m c t ht y]

/-- The array of second the calls write is the reference's. -/
theorem final_second (c : Dev nD) : (dats m 0 c).arrAt 7 cfg0.N = Cert.AdamRefIdeal.Read.val_main_v29 (F := Ideal) (m (c.tc.loc main_arg1)) (m (c.tc.loc main_arg3)) := by
  refine (dats m 0 c).arrAt_eq_of_covers 7 _ (by decide +kernel) fun t hf y => ?_
  have ht : t.val < 4 := t.isLt
  have y0 : (y 0).val < 352 := (y 0).isLt
  have e : (win0_7.blk t).view.emb y = ix2 ⟨352 * t.val + (y 0).val, by omega⟩ ⟨(y 1).val, (y 1).isLt⟩ := by
    blk_ext [idx t]
  blk_simp
  rw [after0_7]
  refine Eq.trans ?_ (congrArg _ e).symm
  refine Eq.trans ?_ (ref_second _ _ ⟨t.val, ht⟩ (y 0) (y 1) _).symm
  refine (second_block _ _ _ _ y).trans ?_
  simp only [parts_block_at m c t ht y, second_block_at m c t ht y]

end Cert.AdamIdeal.Hand

end
-- ==== Proof.PlainClaims.lean ====
/- The claims of the plain products, of the sum and of the optimiser. -/
module

public import proofs.«01_k».proof.Defs
public import proofs.«01_k».proof.Proof.Gen.Dy.Frame
public import proofs.«01_k».proof.Proof.Gen.DyIdeal.Value
public import proofs.«01_k».proof.Proof.Gen.DyRefIdeal.Run
public import proofs.«01_k».proof.Proof.DyValue
public import proofs.«01_k».proof.Proof.Gen.Dw.Frame
public import proofs.«01_k».proof.Proof.Gen.DwIdeal.Value
public import proofs.«01_k».proof.Proof.Gen.DwRefIdeal.Run
public import proofs.«01_k».proof.Proof.DwValue
public import proofs.«01_k».proof.Proof.Gen.Out.Frame
public import proofs.«01_k».proof.Proof.Gen.OutIdeal.Value
public import proofs.«01_k».proof.Proof.Gen.OutRefIdeal.Run
public import proofs.«01_k».proof.Proof.OutValue
public import proofs.«01_k».proof.Proof.Gen.Ksum.Frame
public import proofs.«01_k».proof.Proof.Gen.KsumIdeal.Value
public import proofs.«01_k».proof.Proof.Gen.KsumRefIdeal.Run
public import proofs.«01_k».proof.Proof.KsumValue
public import proofs.«01_k».proof.Proof.Gen.Adam.Frame
public import proofs.«01_k».proof.Proof.Gen.AdamIdeal.Value
public import proofs.«01_k».proof.Proof.Gen.AdamRefIdeal.Run
public import proofs.«01_k».proof.Proof.AdamValue
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem frame_Dy : quiescent_Dy := fun m ρ _ => Cert.Dy.Gen.frame m ρ
theorem frame_DyIdeal : quiescent_DyIdeal := fun m ρ _ => Cert.DyIdeal.Gen.frame m ρ
theorem frame_DyRefIdeal : quiescent_DyRefIdeal := fun m ρ _ =>
  (θ_run Cert.DyRefIdeal.defs _ _).mono (fun r h => ⟨fun c => (h c).2, sem_eq_zero_of_no_sems (by decide) r.2⟩)
    (Cert.DyRefIdeal.Value.run (F := Ideal) m ρ)

/-- The call computes the gradient of the rows multiplied by a weight. -/
theorem algebraic_Dy : algebraic_DyIdeal_DyRefIdeal := by
  intro m ρ m' ρ' _ hagree
  refine ⟨_, Cert.DyIdeal.Value.run_blocks (F := Ideal) m ρ, ?_⟩
  refine (θ_run Cert.DyRefIdeal.defs _ _).mono (fun _ h c => ⟨(h c).1.trans ((Cert.DyRefIdeal.Read.val_main_v3_eq _ _).trans ?_), (h c).2⟩) (Cert.DyRefIdeal.Value.run (F := Ideal) m' ρ')
  refine Eq.trans ?_ (Cert.DyIdeal.Hand.final m c).symm
  obtain ⟨a0, a1⟩ := hagree c
  rw [← a0, ← a1]

theorem frame_Dw : quiescent_Dw := fun m ρ _ => Cert.Dw.Gen.frame m ρ
theorem frame_DwIdeal : quiescent_DwIdeal := fun m ρ _ => Cert.DwIdeal.Gen.frame m ρ
theorem frame_DwRefIdeal : quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)

/-- The call computes the gradients of the gate's and the up projection's weights. -/
theorem algebraic_Dw : algebraic_DwIdeal_DwRefIdeal := by
  intro m ρ m' ρ' _ hagree
  refine ⟨_, Cert.DwIdeal.Value.run_blocks (F := Ideal) m ρ, ?_⟩
  refine (θ_run Cert.DwRefIdeal.defs _ _).mono (fun _ h c => ⟨(h c).1.trans ((Cert.DwRefIdeal.Read.val_main_v10_eq _ _ _).trans ?_), (h c).2⟩) (Cert.DwRefIdeal.Value.run (F := Ideal) m' ρ')
  refine Eq.trans ?_ (Cert.DwIdeal.Hand.final m c).symm
  obtain ⟨a0, a1, a2⟩ := hagree c
  rw [← a0, ← a1, ← a2]

theorem frame_Out : quiescent_Out := fun m ρ _ => Cert.Out.Gen.frame m ρ
theorem frame_OutIdeal : quiescent_OutIdeal := fun m ρ _ => Cert.OutIdeal.Gen.frame m ρ
theorem frame_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The call adds the product with the output weight to the stream. -/
theorem algebraic_Out : algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨(h c).1.trans ((Cert.OutRefIdeal.Read.val_main_v1_eq _ _ _).trans ?_), (h c).2⟩) (Cert.OutRefIdeal.Value.run (F := Ideal) m' ρ')
  refine Eq.trans ?_ (Cert.OutIdeal.Hand.final m c).symm
  obtain ⟨a0, a1, a2⟩ := hagree c
  rw [← a0, ← a1, ← a2]

theorem frame_Ksum : quiescent_Ksum := fun m ρ _ => Cert.Ksum.Gen.frame m ρ
theorem frame_KsumIdeal : quiescent_KsumIdeal := fun m ρ _ => Cert.KsumIdeal.Gen.frame m ρ
theorem frame_KsumRefIdeal : quiescent_KsumRefIdeal := fun m ρ _ =>
  (θ_run Cert.KsumRefIdeal.defs _ _).mono (fun r h => ⟨fun c => (h c).2, sem_eq_zero_of_no_sems (by decide) r.2⟩)
    (Cert.KsumRefIdeal.Value.run (F := Ideal) m ρ)

/-- The call adds the two gradients. -/
theorem algebraic_Ksum : algebraic_KsumIdeal_KsumRefIdeal := by
  intro m ρ m' ρ' _ hagree
  refine ⟨_, Cert.KsumIdeal.Value.run_blocks (F := Ideal) m ρ, ?_⟩
  refine (θ_run Cert.KsumRefIdeal.defs _ _).mono (fun _ h c => ⟨(h c).1.trans ((Cert.KsumRefIdeal.Read.val_main_v1_eq _ _).trans ?_), (h c).2⟩) (Cert.KsumRefIdeal.Value.run (F := Ideal) m' ρ')
  refine Eq.trans ?_ (Cert.KsumIdeal.Hand.final m c).symm
  obtain ⟨a0, a1⟩ := hagree c
  rw [← a0, ← a1]

theorem frame_Adam : quiescent_Adam := fun m ρ _ => Cert.Adam.Gen.frame m ρ
theorem frame_AdamIdeal : quiescent_AdamIdeal := fun m ρ _ => Cert.AdamIdeal.Gen.frame m ρ
theorem frame_AdamRefIdeal : quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-- The call sums the parts of the gradient and takes the optimiser's step: the gradient, the change of the weight and both moments. -/
theorem algebraic_Adam : algebraic_AdamIdeal_AdamRefIdeal := by
  intro m ρ m' ρ' _ hagree
  refine ⟨_, _, _, _, Cert.AdamIdeal.Value.run_blocks (F := Ideal) m ρ, ?_⟩
  refine (θ_run Cert.AdamRefIdeal.defs _ _).mono (fun _ h c => ?_) (Cert.AdamRefIdeal.Value.run (F := Ideal) m' ρ')
  obtain ⟨a0, a1, a2, a3⟩ := hagree c
  refine ⟨((h c).1.trans ((Cert.AdamRefIdeal.Read.val_main_v26_eq _).trans ?_)).trans (Cert.AdamIdeal.Hand.final_grad m c).symm,
    ((h c).2.1.trans ((Cert.AdamRefIdeal.Read.val_main_v27_eq _ _ _ _).trans ?_)).trans (Cert.AdamIdeal.Hand.final_delta m c).symm,
    ((h c).2.2.1.trans ((Cert.AdamRefIdeal.Read.val_main_v28_eq _ _).trans ?_)).trans (Cert.AdamIdeal.Hand.final_first m c).symm,
    ((h c).2.2.2.1.trans ((Cert.AdamRefIdeal.Read.val_main_v29_eq _ _).trans ?_)).trans (Cert.AdamIdeal.Hand.final_second m c).symm, (h c).2.2.2.2⟩
  · rw [← a1]
  · rw [← a0, ← a1, ← a2, ← a3]
  · rw [← a1, ← a2]
  · rw [← a1, ← a3]

end Cert.Proof

end
-- ==== Proof.lean ====
module

public import proofs.«01_k».proof.Defs
public import proofs.«01_k».proof.Proof.StickClaims
public import proofs.«01_k».proof.Proof.WalkClaims
public import proofs.«01_k».proof.Proof.NormsClaims
public import proofs.«01_k».proof.Proof.OtherClaims
public import proofs.«01_k».proof.Proof.ForwardClaims
public import proofs.«01_k».proof.Proof.PlainClaims

@[expose] public section

set_option maxRecDepth 16384

noncomputable section

namespace Cert.Proof

theorem claim : Cert.Claim := ⟨
  Cert.Down.Gen.facts, Cert.DownIdeal.Gen.facts, Cert.DownRefIdeal.Gen.facts,
  Cert.Stick.Gen.facts, Cert.StickIdeal.Gen.facts, Cert.StickRefIdeal.Gen.facts,
  Cert.Walk.Gen.facts, Cert.WalkIdeal.Gen.facts, Cert.WalkRefIdeal.Gen.facts,
  Cert.Gate.Gen.facts, Cert.GateIdeal.Gen.facts, Cert.GateRefIdeal.Gen.facts,
  Cert.Norm.Gen.facts, Cert.NormIdeal.Gen.facts, Cert.NormRefIdeal.Gen.facts,
  Cert.Mix.Gen.facts, Cert.MixIdeal.Gen.facts, Cert.MixRefIdeal.Gen.facts,
  Cert.Mixb.Gen.facts, Cert.MixbIdeal.Gen.facts, Cert.MixbRefIdeal.Gen.facts,
  Cert.Mnorm.Gen.facts, Cert.MnormIdeal.Gen.facts, Cert.MnormRefIdeal.Gen.facts,
  Cert.Loss.Gen.facts, Cert.LossIdeal.Gen.facts, Cert.LossRefIdeal.Gen.facts,
  Cert.Memo.Gen.facts, Cert.MemoIdeal.Gen.facts, Cert.MemoRefIdeal.Gen.facts,
  Cert.Memb.Gen.facts, Cert.MembIdeal.Gen.facts, Cert.MembRefIdeal.Gen.facts,
  Cert.Gmlp.Gen.facts, Cert.GmlpIdeal.Gen.facts, Cert.GmlpRefIdeal.Gen.facts,
  Cert.Nmm.Gen.facts, Cert.NmmIdeal.Gen.facts, Cert.NmmRefIdeal.Gen.facts,
  Cert.Kvp.Gen.facts, Cert.KvpIdeal.Gen.facts, Cert.KvpRefIdeal.Gen.facts,
  Cert.Smm.Gen.facts, Cert.SmmIdeal.Gen.facts, Cert.SmmRefIdeal.Gen.facts,
  Cert.Memf.Gen.facts, Cert.MemfIdeal.Gen.facts, Cert.MemfRefIdeal.Gen.facts,
  Cert.Gmf.Gen.facts, Cert.GmfIdeal.Gen.facts, Cert.GmfRefIdeal.Gen.facts,
  Cert.Dy.Gen.facts, Cert.DyIdeal.Gen.facts, Cert.DyRefIdeal.Gen.facts,
  Cert.Dw.Gen.facts, Cert.DwIdeal.Gen.facts, Cert.DwRefIdeal.Gen.facts,
  Cert.Out.Gen.facts, Cert.OutIdeal.Gen.facts, Cert.OutRefIdeal.Gen.facts,
  Cert.Ksum.Gen.facts, Cert.KsumIdeal.Gen.facts, Cert.KsumRefIdeal.Gen.facts,
  Cert.Adam.Gen.facts, Cert.AdamIdeal.Gen.facts, Cert.AdamRefIdeal.Gen.facts,
  Cert.Pre_stick_finite.Gen.facts, Cert.Pre_walk_finite.Gen.facts, Cert.Pre_gate_finite.Gen.facts, Cert.Pre_norm_finite.Gen.facts, Cert.Pre_mix_finite.Gen.facts, Cert.Pre_mixb_finite.Gen.facts, Cert.Pre_mnorm_finite.Gen.facts, Cert.Pre_loss_finite.Gen.facts, Cert.Pre_memo_finite.Gen.facts, Cert.Pre_memb_finite.Gen.facts, Cert.Pre_gmlp_finite.Gen.facts,
  Cert.On_stick_written.Gen.facts, Cert.On_walk_written.Gen.facts, Cert.On_gmlp_written.Gen.facts, Cert.On_gmf_written.Gen.facts,
  frame_Down, frame_DownIdeal, frame_DownRefIdeal,
  frame_Stick, frame_StickIdeal, frame_StickIdeal_finite, frame_StickRefIdeal, frame_StickRefIdeal_finite,
  frame_Walk, frame_WalkIdeal, frame_WalkIdeal_finite, frame_WalkRefIdeal, frame_WalkRefIdeal_finite,
  frame_Gate, frame_GateIdeal, fun m ρ _ => frame_GateIdeal m ρ trivial, frame_GateRefIdeal, fun m ρ _ => frame_GateRefIdeal m ρ trivial,
  frame_Norm, frame_NormIdeal, fun m ρ _ => frame_NormIdeal m ρ trivial, frame_NormRefIdeal, fun m ρ _ => frame_NormRefIdeal m ρ trivial,
  frame_Mix, frame_MixIdeal, fun m ρ _ => frame_MixIdeal m ρ trivial, frame_MixRefIdeal, fun m ρ _ => frame_MixRefIdeal m ρ trivial,
  frame_Mixb, frame_MixbIdeal, fun m ρ _ => frame_MixbIdeal m ρ trivial, frame_MixbRefIdeal, fun m ρ _ => frame_MixbRefIdeal m ρ trivial,
  frame_Mnorm, frame_MnormIdeal, fun m ρ _ => frame_MnormIdeal m ρ trivial, frame_MnormRefIdeal, fun m ρ _ => frame_MnormRefIdeal m ρ trivial,
  frame_Loss, frame_LossIdeal, fun m ρ _ => frame_LossIdeal m ρ trivial, frame_LossRefIdeal, fun m ρ _ => frame_LossRefIdeal m ρ trivial,
  frame_Memo, frame_MemoIdeal, fun m ρ _ => frame_MemoIdeal m ρ trivial, frame_MemoRefIdeal, fun m ρ _ => frame_MemoRefIdeal m ρ trivial,
  frame_Memb, frame_MembIdeal, fun m ρ _ => frame_MembIdeal m ρ trivial, frame_MembRefIdeal, fun m ρ _ => frame_MembRefIdeal m ρ trivial,
  frame_Gmlp, frame_GmlpIdeal, fun m ρ _ => frame_GmlpIdeal m ρ trivial, frame_GmlpRefIdeal, fun m ρ _ => frame_GmlpRefIdeal m ρ trivial,
  frame_Nmm, frame_NmmIdeal, frame_NmmRefIdeal,
  frame_Kvp, frame_KvpIdeal, frame_KvpRefIdeal,
  frame_Smm, frame_SmmIdeal, frame_SmmRefIdeal,
  frame_Memf, frame_MemfIdeal, frame_MemfRefIdeal,
  frame_Gmf, frame_GmfIdeal, frame_GmfRefIdeal,
  frame_Dy, frame_DyIdeal, frame_DyRefIdeal,
  frame_Dw, frame_DwIdeal, frame_DwRefIdeal,
  frame_Out, frame_OutIdeal, frame_OutRefIdeal,
  frame_Ksum, frame_KsumIdeal, frame_KsumRefIdeal,
  frame_Adam, frame_AdamIdeal, frame_AdamRefIdeal,
  (trivial : preserves_Down_DownIdeal), algebraic_Down,
  preserves_Stick, algebraic_Stick,
  preserves_Walk, algebraic_Walk,
  (trivial : preserves_Gate_GateIdeal), algebraic_Gate,
  (trivial : preserves_Norm_NormIdeal), algebraic_Norm,
  (trivial : preserves_Mix_MixIdeal), algebraic_Mix,
  (trivial : preserves_Mixb_MixbIdeal), algebraic_Mixb,
  (trivial : preserves_Mnorm_MnormIdeal), algebraic_Mnorm,
  (trivial : preserves_Loss_LossIdeal), algebraic_Loss,
  (trivial : preserves_Memo_MemoIdeal), algebraic_Memo,
  (trivial : preserves_Memb_MembIdeal), algebraic_Memb,
  preserves_Gmlp, algebraic_Gmlp,
  (trivial : preserves_Nmm_NmmIdeal), algebraic_Nmm,
  (trivial : preserves_Kvp_KvpIdeal), algebraic_Kvp,
  (trivial : preserves_Smm_SmmIdeal), algebraic_Smm,
  (trivial : preserves_Memf_MemfIdeal), algebraic_Memf,
  preserves_Gmf, algebraic_Gmf,
  (trivial : preserves_Dy_DyIdeal), algebraic_Dy,
  (trivial : preserves_Dw_DwIdeal), algebraic_Dw,
  (trivial : preserves_Out_OutIdeal), algebraic_Out,
  (trivial : preserves_Ksum_KsumIdeal), algebraic_Ksum,
  (trivial : preserves_Adam_AdamIdeal), algebraic_Adam⟩

end Cert.Proof

end
